-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)) (v5 : (c : Dev Cert.KernelIdeal.nD) → Buf (Elt Ideal) ((c.tc : Thread Cert.KernelIdeal.nD Cert.KernelIdeal.τ).loc Cert.KernelIdeal.main_v3_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_v3_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_v37) = v2 c
          ∧ r.2.mem ((c.tc : Thread Cert.ReferenceIdeal.nD Cert.ReferenceIdeal.τ).loc Cert.ReferenceIdeal.main_v39) = v3 c
          ∧ r.2.mem ((c.tc : Thread Cert.ReferenceIdeal.nD Cert.ReferenceIdeal.τ).loc Cert.ReferenceIdeal.main_v27) = v4 c
          ∧ r.2.mem ((c.tc : Thread Cert.ReferenceIdeal.nD Cert.ReferenceIdeal.τ).loc Cert.ReferenceIdeal.main_v31) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v23_0)) (v1 : (c : Dev Cert.Kernel2Ideal.nD) → Buf (Elt Ideal) ((c.tc : Thread Cert.Kernel2Ideal.nD Cert.Kernel2Ideal.τ).loc Cert.Kernel2Ideal.main_v23_1)) (v2 : (c : Dev Cert.Kernel2Ideal.nD) → Buf (Elt Ideal) ((c.tc : Thread Cert.Kernel2Ideal.nD Cert.Kernel2Ideal.τ).loc Cert.Kernel2Ideal.main_v23_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v23_0) = v0 c
          ∧ r.2.mem ((c.tc : Thread Cert.Kernel2Ideal.nD Cert.Kernel2Ideal.τ).loc Cert.Kernel2Ideal.main_v23_1) = v1 c
          ∧ r.2.mem ((c.tc : Thread Cert.Kernel2Ideal.nD Cert.Kernel2Ideal.τ).loc Cert.Kernel2Ideal.main_v23_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v52) = v0 c
          ∧ r.2.mem ((c.tc : Thread Cert.Reference2Ideal.nD Cert.Reference2Ideal.τ).loc Cert.Reference2Ideal.main_v55) = v1 c
          ∧ r.2.mem ((c.tc : Thread Cert.Reference2Ideal.nD Cert.Reference2Ideal.τ).loc Cert.Reference2Ideal.main_v56) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v1_0)) (v1 : (c : Dev Cert.Kernel10Ideal.nD) → Buf (Elt Ideal) ((c.tc : Thread Cert.Kernel10Ideal.nD Cert.Kernel10Ideal.τ).loc Cert.Kernel10Ideal.main_v1_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1_0) = v0 c
          ∧ r.2.mem ((c.tc : Thread Cert.Kernel10Ideal.nD Cert.Kernel10Ideal.τ).loc Cert.Kernel10Ideal.main_v1_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v40) = v0 c
          ∧ r.2.mem ((c.tc : Thread Cert.Reference10Ideal.nD Cert.Reference10Ideal.τ).loc Cert.Reference10Ideal.main_v41) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v5_0)) (v1 : (c : Dev Cert.Kernel11Ideal.nD) → Buf (Elt Ideal) ((c.tc : Thread Cert.Kernel11Ideal.nD Cert.Kernel11Ideal.τ).loc Cert.Kernel11Ideal.main_v5_1)) (v2 : (c : Dev Cert.Kernel11Ideal.nD) → Buf (Elt Ideal) ((c.tc : Thread Cert.Kernel11Ideal.nD Cert.Kernel11Ideal.τ).loc Cert.Kernel11Ideal.main_v5_2)) (v3 : (c : Dev Cert.Kernel11Ideal.nD) → Buf (Elt Ideal) ((c.tc : Thread Cert.Kernel11Ideal.nD Cert.Kernel11Ideal.τ).loc Cert.Kernel11Ideal.main_v5_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v5_0) = v0 c
          ∧ r.2.mem ((c.tc : Thread Cert.Kernel11Ideal.nD Cert.Kernel11Ideal.τ).loc Cert.Kernel11Ideal.main_v5_1) = v1 c
          ∧ r.2.mem ((c.tc : Thread Cert.Kernel11Ideal.nD Cert.Kernel11Ideal.τ).loc Cert.Kernel11Ideal.main_v5_2) = v2 c
          ∧ r.2.mem ((c.tc : Thread Cert.Kernel11Ideal.nD Cert.Kernel11Ideal.τ).loc Cert.Kernel11Ideal.main_v5_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v21) = v0 c
          ∧ r.2.mem ((c.tc : Thread Cert.Reference11Ideal.nD Cert.Reference11Ideal.τ).loc Cert.Reference11Ideal.main_v22) = v1 c
          ∧ r.2.mem ((c.tc : Thread Cert.Reference11Ideal.nD Cert.Reference11Ideal.τ).loc Cert.Reference11Ideal.main_v25) = v2 c
          ∧ r.2.mem ((c.tc : Thread Cert.Reference11Ideal.nD Cert.Reference11Ideal.τ).loc Cert.Reference11Ideal.main_v28) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_v27) = v1 c
          ∧ r.2.mem ((c.tc : Thread Cert.Reference12Ideal.nD Cert.Reference12Ideal.τ).loc Cert.Reference12Ideal.main_v8) = v2 c
          ∧ r.2.mem ((c.tc : Thread Cert.Reference12Ideal.nD Cert.Reference12Ideal.τ).loc Cert.Reference12Ideal.main_v14) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_v27) = v1 c
          ∧ r.2.mem ((c.tc : Thread Cert.Reference13Ideal.nD Cert.Reference13Ideal.τ).loc Cert.Reference13Ideal.main_v8) = v2 c
          ∧ r.2.mem ((c.tc : Thread Cert.Reference13Ideal.nD Cert.Reference13Ideal.τ).loc Cert.Reference13Ideal.main_v14) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_v27) = v1 c
          ∧ r.2.mem ((c.tc : Thread Cert.Reference14Ideal.nD Cert.Reference14Ideal.τ).loc Cert.Reference14Ideal.main_v8) = v2 c
          ∧ r.2.mem ((c.tc : Thread Cert.Reference14Ideal.nD Cert.Reference14Ideal.τ).loc Cert.Reference14Ideal.main_v14) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_v27) = v1 c
          ∧ r.2.mem ((c.tc : Thread Cert.Reference15Ideal.nD Cert.Reference15Ideal.τ).loc Cert.Reference15Ideal.main_v8) = v2 c
          ∧ r.2.mem ((c.tc : Thread Cert.Reference15Ideal.nD Cert.Reference15Ideal.τ).loc Cert.Reference15Ideal.main_v14) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_v27) = v1 c
          ∧ r.2.mem ((c.tc : Thread Cert.Reference16Ideal.nD Cert.Reference16Ideal.τ).loc Cert.Reference16Ideal.main_v8) = v2 c
          ∧ r.2.mem ((c.tc : Thread Cert.Reference16Ideal.nD Cert.Reference16Ideal.τ).loc Cert.Reference16Ideal.main_v14) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_v27) = v1 c
          ∧ r.2.mem ((c.tc : Thread Cert.Reference17Ideal.nD Cert.Reference17Ideal.τ).loc Cert.Reference17Ideal.main_v8) = v2 c
          ∧ r.2.mem ((c.tc : Thread Cert.Reference17Ideal.nD Cert.Reference17Ideal.τ).loc Cert.Reference17Ideal.main_v14) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_v27) = v1 c
          ∧ r.2.mem ((c.tc : Thread Cert.Reference18Ideal.nD Cert.Reference18Ideal.τ).loc Cert.Reference18Ideal.main_v8) = v2 c
          ∧ r.2.mem ((c.tc : Thread Cert.Reference18Ideal.nD Cert.Reference18Ideal.τ).loc Cert.Reference18Ideal.main_v14) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v23) = v0 c
          ∧ r.2.mem ((c.tc : Thread Cert.Reference19Ideal.nD Cert.Reference19Ideal.τ).loc Cert.Reference19Ideal.main_v4) = v1 c
          ∧ r.2.mem ((c.tc : Thread Cert.Reference19Ideal.nD Cert.Reference19Ideal.τ).loc Cert.Reference19Ideal.main_v10) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v1_0)) (v1 : (c : Dev Cert.Kernel20Ideal.nD) → Buf (Elt Ideal) ((c.tc : Thread Cert.Kernel20Ideal.nD Cert.Kernel20Ideal.τ).loc Cert.Kernel20Ideal.main_v1_1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v1_0) = v0 c
          ∧ r.2.mem ((c.tc : Thread Cert.Kernel20Ideal.nD Cert.Kernel20Ideal.τ).loc Cert.Kernel20Ideal.main_v1_1) = v1 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v14) = v0 c
          ∧ r.2.mem ((c.tc : Thread Cert.Reference20Ideal.nD Cert.Reference20Ideal.τ).loc Cert.Reference20Ideal.main_v15) = v1 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)) →
    ∃ (v0 : (c : Dev Cert.Kernel21Ideal.nD) → Buf (Elt Ideal) ((c.tc : Thread Cert.Kernel21Ideal.nD Cert.Kernel21Ideal.τ).loc Cert.Kernel21Ideal.main_v1_0)) (v1 : (c : Dev Cert.Kernel21Ideal.nD) → Buf (Elt Ideal) ((c.tc : Thread Cert.Kernel21Ideal.nD Cert.Kernel21Ideal.τ).loc Cert.Kernel21Ideal.main_v1_1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v1_0) = v0 c
          ∧ r.2.mem ((c.tc : Thread Cert.Kernel21Ideal.nD Cert.Kernel21Ideal.τ).loc Cert.Kernel21Ideal.main_v1_1) = v1 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v40) = v0 c
          ∧ r.2.mem ((c.tc : Thread Cert.Reference21Ideal.nD Cert.Reference21Ideal.τ).loc Cert.Reference21Ideal.main_v41) = v1 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v1_0)) (v1 : (c : Dev Cert.Kernel22Ideal.nD) → Buf (Elt Ideal) ((c.tc : Thread Cert.Kernel22Ideal.nD Cert.Kernel22Ideal.τ).loc Cert.Kernel22Ideal.main_v1_1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v1_0) = v0 c
          ∧ r.2.mem ((c.tc : Thread Cert.Kernel22Ideal.nD Cert.Kernel22Ideal.τ).loc Cert.Kernel22Ideal.main_v1_1) = v1 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v14) = v0 c
          ∧ r.2.mem ((c.tc : Thread Cert.Reference22Ideal.nD Cert.Reference22Ideal.τ).loc Cert.Reference22Ideal.main_v15) = v1 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v1_0)) (v1 : (c : Dev Cert.Kernel23Ideal.nD) → Buf (Elt Ideal) ((c.tc : Thread Cert.Kernel23Ideal.nD Cert.Kernel23Ideal.τ).loc Cert.Kernel23Ideal.main_v1_1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v1_0) = v0 c
          ∧ r.2.mem ((c.tc : Thread Cert.Kernel23Ideal.nD Cert.Kernel23Ideal.τ).loc Cert.Kernel23Ideal.main_v1_1) = v1 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v14) = v0 c
          ∧ r.2.mem ((c.tc : Thread Cert.Reference23Ideal.nD Cert.Reference23Ideal.τ).loc Cert.Reference23Ideal.main_v15) = v1 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
-- ==== Pre_finite.lean ====
abbrev S16384x768 : Shape := ⟨2, ![16384, 768]⟩
abbrev S6x16384x64 : Shape := ⟨3, ![6, 16384, 64]⟩
abbrev S6x256 : Shape := ⟨2, ![6, 256]⟩
abbrev S256x6x128x128 : Shape := ⟨4, ![256, 6, 128, 128]⟩
abbrev S_ : Shape := ⟨0, ![]⟩

class Facts : Prop where
  bcast_S_S16384x768 : S_.BroadcastsInDim S16384x768 (![] : Fin 0 → Fin S16384x768.rank)
  reducesTo_S16384x768_S_d0_1 : S16384x768.ReducesTo [0, 1] S_
  h_S_ : 0 < S_.numel
  bitsLt_bf16_f32 : FTy.bits .bf16 < FTy.bits .f32
  bcast_S_S6x16384x64 : S_.BroadcastsInDim S6x16384x64 (![] : Fin 0 → Fin S6x16384x64.rank)
  reducesTo_S6x16384x64_S_d0_1_2 : S6x16384x64.ReducesTo [0, 1, 2] S_
  bcast_S_S6x256 : S_.BroadcastsInDim S6x256 (![] : Fin 0 → Fin S6x256.rank)
  reducesTo_S6x256_S_d0_1 : S6x256.ReducesTo [0, 1] S_
  bcast_S_S256x6x128x128 : S_.BroadcastsInDim S256x6x128x128 (![] : Fin 0 → Fin S256x6x128x128.rank)
  reducesTo_S256x6x128x128_S_d0_1_2_3 : S256x6x128x128.ReducesTo [0, 1, 2, 3] S_

variable [Facts]

def fn_part2 {F : FTy → Type} [FloatOps F] (main_arg7 : FVec F S256x6x128x128 .bf16) (main_v33 : IVec S_ 1) (main_v34 : FVec F S6x256 .f32) : IVec S_ 1 :=
  let main_cst_11 : FVec F S_ .f32 := constant S_ .f32 0x7F7FFFFF#32
  let main_v35 : FVec F S6x256 .f32 := broadcastInDim S6x256 ![] bcast_S_S6x256 main_cst_11
  let main_v36 : IVec S6x256 1 := cmpf .ole main_v34 main_v35
  let main_c_12 : IVec S_ 1 := constantI S_ 1 1#1
  let main_v37 : IVec S_ 1 := (fun x v => Host.reduce IntOp.andi x v reducesTo_S6x256_S_d0_1 h_S_) main_v36 main_c_12
  let main_v38 : IVec S_ 1 := andi main_v33 main_v37
  let main_v39 : FVec F S256x6x128x128 .f32 := (extf .f32 · bitsLt_bf16_f32) main_arg7
  let main_v40 : FVec F S256x6x128x128 .f32 := Host.absf main_v39
  let main_cst_13 : FVec F S_ .f32 := constant S_ .f32 0x7F7FFFFF#32
  let main_v41 : FVec F S256x6x128x128 .f32 := broadcastInDim S256x6x128x128 ![] bcast_S_S256x6x128x128 main_cst_13
  let main_v42 : IVec S256x6x128x128 1 := cmpf .ole main_v40 main_v41
  let main_c_14 : IVec S_ 1 := constantI S_ 1 1#1
  let main_v43 : IVec S_ 1 := (fun x v => Host.reduce IntOp.andi x v reducesTo_S256x6x128x128_S_d0_1_2_3 h_S_) main_v42 main_c_14
  let main_v44 : IVec S_ 1 := andi main_v38 main_v43
  main_v44

def fn_part1 {F : FTy → Type} [FloatOps F] (main_arg4 : FVec F S16384x768 .bf16) (main_arg5 : FVec F S6x16384x64 .bf16) (main_arg6 : FVec F S6x256 .f32) (main_arg7 : FVec F S256x6x128x128 .bf16) (main_v15 : IVec S_ 1) (main_v16 : FVec F S16384x768 .f32) : IVec S_ 1 :=
  let main_v17 : FVec F S16384x768 .f32 := Host.absf main_v16
  let main_cst_5 : FVec F S_ .f32 := constant S_ .f32 0x7F7FFFFF#32
  let main_v18 : FVec F S16384x768 .f32 := broadcastInDim S16384x768 ![] bcast_S_S16384x768 main_cst_5
  let main_v19 : IVec S16384x768 1 := cmpf .ole main_v17 main_v18
  let main_c_6 : IVec S_ 1 := constantI S_ 1 1#1
  let main_v20 : IVec S_ 1 := (fun x v => Host.reduce IntOp.andi x v reducesTo_S16384x768_S_d0_1 h_S_) main_v19 main_c_6
  let main_v21 : IVec S_ 1 := andi main_v15 main_v20
  let main_v22 : FVec F S16384x768 .f32 := (extf .f32 · bitsLt_bf16_f32) main_arg4
  let main_v23 : FVec F S16384x768 .f32 := Host.absf main_v22
  let main_cst_7 : FVec F S_ .f32 := constant S_ .f32 0x7F7FFFFF#32
  let main_v24 : FVec F S16384x768 .f32 := broadcastInDim S16384x768 ![] bcast_S_S16384x768 main_cst_7
  let main_v25 : IVec S16384x768 1 := cmpf .ole main_v23 main_v24
  let main_c_8 : IVec S_ 1 := constantI S_ 1 1#1
  let main_v26 : IVec S_ 1 := (fun x v => Host.reduce IntOp.andi x v reducesTo_S16384x768_S_d0_1 h_S_) main_v25 main_c_8
  let main_v27 : IVec S_ 1 := andi main_v21 main_v26
  let main_v28 : FVec F S6x16384x64 .f32 := (extf .f32 · bitsLt_bf16_f32) main_arg5
  let main_v29 : FVec F S6x16384x64 .f32 := Host.absf main_v28
  let main_cst_9 : FVec F S_ .f32 := constant S_ .f32 0x7F7FFFFF#32
  let main_v30 : FVec F S6x16384x64 .f32 := broadcastInDim S6x16384x64 ![] bcast_S_S6x16384x64 main_cst_9
  let main_v31 : IVec S6x16384x64 1 := cmpf .ole main_v29 main_v30
  let main_c_10 : IVec S_ 1 := constantI S_ 1 1#1
  let main_v32 : IVec S_ 1 := (fun x v => Host.reduce IntOp.andi x v reducesTo_S6x16384x64_S_d0_1_2 h_S_) main_v31 main_c_10
  let main_v33 : IVec S_ 1 := andi main_v27 main_v32
  let main_v34 : FVec F S6x256 .f32 := Host.absf main_arg6
  fn_part2 (F := F) main_arg7 main_v33 main_v34

def fn {F : FTy → Type} [FloatOps F] (main_arg0 : FVec F S16384x768 .f32) (main_arg1 : FVec F S16384x768 .f32) (main_arg2 : FVec F S16384x768 .bf16) (main_arg3 : FVec F S16384x768 .bf16) (main_arg4 : FVec F S16384x768 .bf16) (main_arg5 : FVec F S6x16384x64 .bf16) (main_arg6 : FVec F S6x256 .f32) (main_arg7 : FVec F S256x6x128x128 .bf16) : IVec S_ 1 :=
  let main_v0 : FVec F S16384x768 .f32 := Host.absf main_arg0
  let main_cst : FVec F S_ .f32 := constant S_ .f32 0x7F7FFFFF#32
  let main_v1 : FVec F S16384x768 .f32 := broadcastInDim S16384x768 ![] bcast_S_S16384x768 main_cst
  let main_v2 : IVec S16384x768 1 := cmpf .ole main_v0 main_v1
  let main_c : IVec S_ 1 := constantI S_ 1 1#1
  let main_v3 : IVec S_ 1 := (fun x v => Host.reduce IntOp.andi x v reducesTo_S16384x768_S_d0_1 h_S_) main_v2 main_c
  let main_c_0 : IVec S_ 1 := constantI S_ 1 1#1
  let main_v4 : IVec S_ 1 := andi main_c_0 main_v3
  let main_v5 : FVec F S16384x768 .f32 := Host.absf main_arg1
  let main_cst_1 : FVec F S_ .f32 := constant S_ .f32 0x7F7FFFFF#32
  let main_v6 : FVec F S16384x768 .f32 := broadcastInDim S16384x768 ![] bcast_S_S16384x768 main_cst_1
  let main_v7 : IVec S16384x768 1 := cmpf .ole main_v5 main_v6
  let main_c_2 : IVec S_ 1 := constantI S_ 1 1#1
  let main_v8 : IVec S_ 1 := (fun x v => Host.reduce IntOp.andi x v reducesTo_S16384x768_S_d0_1 h_S_) main_v7 main_c_2
  let main_v9 : IVec S_ 1 := andi main_v4 main_v8
  let main_v10 : FVec F S16384x768 .f32 := (extf .f32 · bitsLt_bf16_f32) main_arg2
  let main_v11 : FVec F S16384x768 .f32 := Host.absf main_v10
  let main_cst_3 : FVec F S_ .f32 := constant S_ .f32 0x7F7FFFFF#32
  let main_v12 : FVec F S16384x768 .f32 := broadcastInDim S16384x768 ![] bcast_S_S16384x768 main_cst_3
  let main_v13 : IVec S16384x768 1 := cmpf .ole main_v11 main_v12
  let main_c_4 : IVec S_ 1 := constantI S_ 1 1#1
  let main_v14 : IVec S_ 1 := (fun x v => Host.reduce IntOp.andi x v reducesTo_S16384x768_S_d0_1 h_S_) main_v13 main_c_4
  let main_v15 : IVec S_ 1 := andi main_v9 main_v14
  let main_v16 : FVec F S16384x768 .f32 := (extf .f32 · bitsLt_bf16_f32) main_arg3
  fn_part1 (F := F) main_arg4 main_arg5 main_arg6 main_arg7 main_v15 main_v16
-- ==== Pre_finite2.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024 : S_.BroadcastsInDim S1024 (![] : Fin 0 → Fin S1024.rank)
  reducesTo_S1024_S_d0 : S1024.ReducesTo [0] S_
  bitsLt_bf16_f32 : FTy.bits .bf16 < FTy.bits .f32
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .bf16) (main_v14 : IVec S_ 1) (main_v16 : FVec F S1024x5632 .f32) : IVec S_ 1 :=
  let main_cst_5 : FVec F S_ .f32 := constant S_ .f32 0x7F7FFFFF#32
  let main_v17 : FVec F S1024x5632 .f32 := broadcastInDim S1024x5632 ![] bcast_S_S1024x5632 main_cst_5
  let main_v18 : IVec S1024x5632 1 := cmpf .ole main_v16 main_v17
  let main_c_6 : IVec S_ 1 := constantI S_ 1 1#1
  let main_v19 : IVec S_ 1 := (fun x v => Host.reduce IntOp.andi x v reducesTo_S1024x5632_S_d0_1 h_S_) main_v18 main_c_6
  let main_v20 : IVec S_ 1 := andi main_v14 main_v19
  let main_v21 : FVec F S2816x1024 .f32 := (extf .f32 · bitsLt_bf16_f32) main_arg4
  let main_v22 : FVec F S2816x1024 .f32 := Host.absf main_v21
  let main_cst_7 : FVec F S_ .f32 := constant S_ .f32 0x7F7FFFFF#32
  let main_v23 : FVec F S2816x1024 .f32 := broadcastInDim S2816x1024 ![] bcast_S_S2816x1024 main_cst_7
  let main_v24 : IVec S2816x1024 1 := cmpf .ole main_v22 main_v23
  let main_c_8 : IVec S_ 1 := constantI S_ 1 1#1
  let main_v25 : IVec S_ 1 := (fun x v => Host.reduce IntOp.andi x v reducesTo_S2816x1024_S_d0_1 h_S_) main_v24 main_c_8
  let main_v26 : IVec S_ 1 := andi main_v20 main_v25
  main_v26

def fn {F : FTy → Type} [FloatOps F] (main_arg0 : FVec F S16384x1024 .f32) (main_arg1 : FVec F S16384x1024 .f32) (main_arg2 : FVec F S1024 .f32) (main_arg3 : FVec F S1024x5632 .bf16) (main_arg4 : FVec F S2816x1024 .bf16) : IVec S_ 1 :=
  let main_v0 : FVec F S16384x1024 .f32 := Host.absf main_arg0
  let main_cst : FVec F S_ .f32 := constant S_ .f32 0x7F7FFFFF#32
  let main_v1 : FVec F S16384x1024 .f32 := broadcastInDim S16384x1024 ![] bcast_S_S16384x1024 main_cst
  let main_v2 : IVec S16384x1024 1 := cmpf .ole main_v0 main_v1
  let main_c : IVec S_ 1 := constantI S_ 1 1#1
  let main_v3 : IVec S_ 1 := (fun x v => Host.reduce IntOp.andi x v reducesTo_S16384x1024_S_d0_1 h_S_) main_v2 main_c
  let main_c_0 : IVec S_ 1 := constantI S_ 1 1#1
  let main_v4 : IVec S_ 1 := andi main_c_0 main_v3
  let main_v5 : FVec F S16384x1024 .f32 := Host.absf main_arg1
  let main_cst_1 : FVec F S_ .f32 := constant S_ .f32 0x7F7FFFFF#32
  let main_v6 : FVec F S16384x1024 .f32 := broadcastInDim S16384x1024 ![] bcast_S_S16384x1024 main_cst_1
  let main_v7 : IVec S16384x1024 1 := cmpf .ole main_v5 main_v6
  let main_c_2 : IVec S_ 1 := constantI S_ 1 1#1
  let main_v8 : IVec S_ 1 := (fun x v => Host.reduce IntOp.andi x v reducesTo_S16384x1024_S_d0_1 h_S_) main_v7 main_c_2
  let main_v9 : IVec S_ 1 := andi main_v4 main_v8
  let main_v10 : FVec F S1024 .f32 := Host.absf main_arg2
  let main_cst_3 : FVec F S_ .f32 := constant S_ .f32 0x7F7FFFFF#32
  let main_v11 : FVec F S1024 .f32 := broadcastInDim S1024 ![] bcast_S_S1024 main_cst_3
  let main_v12 : IVec S1024 1 := cmpf .ole main_v10 main_v11
  let main_c_4 : IVec S_ 1 := constantI S_ 1 1#1
  let main_v13 : IVec S_ 1 := (fun x v => Host.reduce IntOp.andi x v reducesTo_S1024_S_d0 h_S_) main_v12 main_c_4
  let main_v14 : IVec S_ 1 := andi main_v9 main_v13
  let main_v15 : FVec F S1024x5632 .f32 := (extf .f32 · bitsLt_bf16_f32) main_arg3
  let main_v16 : FVec F S1024x5632 .f32 := Host.absf main_v15
  fn_part1 (F := F) main_arg4 main_v14 main_v16
-- ==== Kernel.lean ====
abbrev S16384x768 : Shape := ⟨2, ![16384, 768]⟩
abbrev S6x16384x64 : Shape := ⟨3, ![6, 16384, 64]⟩
abbrev S6x256 : Shape := ⟨2, ![6, 256]⟩
abbrev S256x6x128x128 : Shape := ⟨4, ![256, 6, 128, 128]⟩
abbrev S6x256x1x1 : Shape := ⟨4, ![6, 256, 1, 1]⟩
abbrev S6x256x8x128 : Shape := ⟨4, ![6, 256, 8, 128]⟩
abbrev S6x2048x128 : Shape := ⟨3, ![6, 2048, 128]⟩
abbrev S256x768 : Shape := ⟨2, ![256, 768]⟩
abbrev S6x256x64 : Shape := ⟨3, ![6, 256, 64]⟩
abbrev S6x32x128 : Shape := ⟨3, ![6, 32, 128]⟩
abbrev S4x6x128x128 : Shape := ⟨4, ![4, 6, 128, 128]⟩
abbrev S6x128x128 : Shape := ⟨3, ![6, 128, 128]⟩
abbrev S1x128x128 : Shape := ⟨3, ![1, 128, 128]⟩
abbrev S128x128 : Shape := ⟨2, ![128, 128]⟩
abbrev S1x1x128x128 : Shape := ⟨4, ![1, 1, 128, 128]⟩
abbrev S64x128 : Shape := ⟨2, ![64, 128]⟩
abbrev S1x64x64 : Shape := ⟨3, ![1, 64, 64]⟩
abbrev S64x64 : Shape := ⟨2, ![64, 64]⟩
abbrev S1 : Shape := ⟨1, ![1]⟩
abbrev S1x1x1 : Shape := ⟨3, ![1, 1, 1]⟩
abbrev S8x128 : Shape := ⟨2, ![8, 128]⟩
abbrev S1x8x128 : Shape := ⟨3, ![1, 8, 128]⟩
abbrev S1x1x128 : Shape := ⟨3, ![1, 1, 128]⟩
abbrev S1x128 : Shape := ⟨2, ![1, 128]⟩

abbrev nBuf : Space → Nat
  | .hbm => 17
  | .vmem => 29
  | .smem => 0
  | _ => 0

abbrev bufTy : (tb : Table) → Fin (tcTables nBuf tb) → BufTy
  | .hbm, ⟨0, _⟩ => ⟨S16384x768, .f32⟩
  | .hbm, ⟨1, _⟩ => ⟨S16384x768, .f32⟩
  | .hbm, ⟨2, _⟩ => ⟨S16384x768, .bf16⟩
  | .hbm, ⟨3, _⟩ => ⟨S16384x768, .bf16⟩
  | .hbm, ⟨4, _⟩ => ⟨S16384x768, .bf16⟩
  | .hbm, ⟨5, _⟩ => ⟨S6x16384x64, .bf16⟩
  | .hbm, ⟨6, _⟩ => ⟨S6x256, .f32⟩
  | .hbm, ⟨7, _⟩ => ⟨S256x6x128x128, .bf16⟩
  | .hbm, ⟨8, _⟩ => ⟨S6x256x1x1, .f32⟩
  | .hbm, ⟨9, _⟩ => ⟨S6x256x8x128, .f32⟩
  | .hbm, ⟨10, _⟩ => ⟨S6x2048x128, .f32⟩
  | .hbm, ⟨11, _⟩ => ⟨S16384x768, .f32⟩
  | .hbm, ⟨12, _⟩ => ⟨S16384x768, .f32⟩
  | .hbm, ⟨13, _⟩ => ⟨S16384x768, .f32⟩
  | .hbm, ⟨14, _⟩ => ⟨S16384x768, .f32⟩
  | .hbm, ⟨15, _⟩ => ⟨S6x16384x64, .f32⟩
  | .hbm, ⟨16, _⟩ => ⟨S6x2048x128, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .bf16⟩
  | .local _ .vmem, ⟨5, _⟩ => ⟨S256x768, .bf16⟩
  | .local _ .vmem, ⟨6, _⟩ => ⟨S256x768, .bf16⟩
  | .local _ .vmem, ⟨7, _⟩ => ⟨S256x768, .bf16⟩
  | .local _ .vmem, ⟨8, _⟩ => ⟨S256x768, .bf16⟩
  | .local _ .vmem, ⟨9, _⟩ => ⟨S256x768, .bf16⟩
  | .local _ .vmem, ⟨10, _⟩ => ⟨S6x256x64, .bf16⟩
  | .local _ .vmem, ⟨11, _⟩ => ⟨S6x256x64, .bf16⟩
  | .local _ .vmem, ⟨12, _⟩ => ⟨S6x32x128, .f32⟩
  | .local _ .vmem, ⟨13, _⟩ => ⟨S6x32x128, .f32⟩
  | .local _ .vmem, ⟨14, _⟩ => ⟨S4x6x128x128, .bf16⟩
  | .local _ .vmem, ⟨15, _⟩ => ⟨S4x6x128x128, .bf16⟩
  | .local _ .vmem, ⟨16, _⟩ => ⟨S256x768, .f32⟩
  | .local _ .vmem, ⟨17, _⟩ => ⟨S256x768, .f32⟩
  | .local _ .vmem, ⟨18, _⟩ => ⟨S256x768, .f32⟩
  | .local _ .vmem, ⟨19, _⟩ => ⟨S256x768, .f32⟩
  | .local _ .vmem, ⟨20, _⟩ => ⟨S256x768, .f32⟩
  | .local _ .vmem, ⟨21, _⟩ => ⟨S256x768, .f32⟩
  | .local _ .vmem, ⟨22, _⟩ => ⟨S256x768, .f32⟩
  | .local _ .vmem, ⟨23, _⟩ => ⟨S256x768, .f32⟩
  | .local _ .vmem, ⟨24, _⟩ => ⟨S6x256x64, .f32⟩
  | .local _ .vmem, ⟨25, _⟩ => ⟨S6x256x64, .f32⟩
  | .local _ .vmem, ⟨26, _⟩ => ⟨S6x32x128, .f32⟩
  | .local _ .vmem, ⟨27, _⟩ => ⟨S6x32x128, .f32⟩
  | .local _ .vmem, ⟨28, _⟩ => ⟨S6x128x128, .f32⟩
  | _, _ => ⟨S16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v3_4 : Ref sig .tc := ⟨.hbm, 15, rfl⟩
abbrev main_v3_5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_5 (i : grid0.Coords) : Fin 3 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  ![c0_i32.toNat, v0.toNat, c0_i32_0.toNat]

def cc0_transform_6 (i : grid0.Coords) : Fin 3 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  ![c0_i32.toNat, v0.toNat, c0_i32_0.toNat]

def cc0_transform_7 (i : grid0.Coords) : Fin 4 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_8 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_12 (i : grid0.Coords) : Fin 3 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  ![c0_i32.toNat, v0.toNat, c0_i32_0.toNat]

def cc0_transform_13 (i : grid0.Coords) : Fin 3 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  ![c0_i32.toNat, v0.toNat, c0_i32_0.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S6x256x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S6x32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x6x128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S6x256x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S6x32x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S16384x768 : Shape := ⟨2, ![16384, 768]⟩
abbrev S6x16384x64 : Shape := ⟨3, ![6, 16384, 64]⟩
abbrev S6x256 : Shape := ⟨2, ![6, 256]⟩
abbrev S256x6x128x128 : Shape := ⟨4, ![256, 6, 128, 128]⟩
abbrev S256x64x6x128 : Shape := ⟨4, ![256, 64, 6, 128]⟩
abbrev S256x6x64x128 : Shape := ⟨4, ![256, 6, 64, 128]⟩
abbrev S6x256x64x64 : Shape := ⟨4, ![6, 256, 64, 64]⟩
abbrev S256x6x64x64 : Shape := ⟨4, ![256, 6, 64, 64]⟩
abbrev S256x6 : Shape := ⟨2, ![256, 6]⟩
abbrev S_ : Shape := ⟨0, ![]⟩
abbrev S6x128x128 : Shape := ⟨3, ![6, 128, 128]⟩
abbrev S1x6x128x128 : Shape := ⟨4, ![1, 6, 128, 128]⟩
abbrev S1x6x64x128 : Shape := ⟨4, ![1, 6, 64, 128]⟩
abbrev S6x64x128 : Shape := ⟨3, ![6, 64, 128]⟩
abbrev S1x6x64x64 : Shape := ⟨4, ![1, 6, 64, 64]⟩
abbrev S6x64x64 : Shape := ⟨3, ![6, 64, 64]⟩
abbrev S1x6 : Shape := ⟨2, ![1, 6]⟩
abbrev S6 : Shape := ⟨1, ![6]⟩
abbrev S6x1x1 : Shape := ⟨3, ![6, 1, 1]⟩
abbrev S6x128x64 : Shape := ⟨3, ![6, 128, 64]⟩
abbrev S6x256x1x1 : Shape := ⟨4, ![6, 256, 1, 1]⟩
abbrev S6x256x8x128 : Shape := ⟨4, ![6, 256, 8, 128]⟩
abbrev S6x2048x128 : Shape := ⟨3, ![6, 2048, 128]⟩

abbrev nBuf : Space → Nat
  | .hbm => 180
  | .vmem => 0
  | .smem => 0
  | _ => 0

abbrev hbmTy0_0 (i : Nat) : BufTy := match i % 128 with
  | 0 => ⟨S16384x768, .f32⟩
  | 1 => ⟨S16384x768, .f32⟩
  | 2 => ⟨S16384x768, .bf16⟩
  | 3 => ⟨S16384x768, .bf16⟩
  | 4 => ⟨S16384x768, .bf16⟩
  | 5 => ⟨S6x16384x64, .bf16⟩
  | 6 => ⟨S6x256, .f32⟩
  | 7 => ⟨S256x6x128x128, .bf16⟩
  | 8 => ⟨S256x64x6x128, .f32⟩
  | 9 => ⟨S256x6x64x128, .f32⟩
  | 10 => ⟨S16384x768, .f32⟩
  | 11 => ⟨S256x64x6x128, .f32⟩
  | 12 => ⟨S256x6x64x128, .f32⟩
  | 13 => ⟨S6x16384x64, .f32⟩
  | 14 => ⟨S6x256x64x64, .f32⟩
  | 15 => ⟨S256x6x64x64, .f32⟩
  | 16 => ⟨S16384x768, .f32⟩
  | 17 => ⟨S256x64x6x128, .f32⟩
  | 18 => ⟨S256x6x64x128, .f32⟩
  | 19 => ⟨S16384x768, .f32⟩
  | 20 => ⟨S256x64x6x128, .f32⟩
  | 21 => ⟨S256x6x64x128, .f32⟩
  | 22 => ⟨S256x6, .f32⟩
  | 23 => ⟨S_, .f32⟩
  | 24 => ⟨S6x128x128, .f32⟩
  | 25 => ⟨S256x6x128x128, .f32⟩
  | 26 => ⟨S256x64x6x128, .f32⟩
  | 27 => ⟨S256x6x64x128, .f32⟩
  | 28 => ⟨S_, .f32⟩
  | 29 => ⟨S256x6x64x128, .f32⟩
  | 30 => ⟨S_, .f32⟩
  | 31 => ⟨S256x6x64x128, .f32⟩
  | 32 => ⟨S_, .f32⟩
  | 33 => ⟨S256x6x64x64, .f32⟩
  | 34 => ⟨S_, .f32⟩
  | 35 => ⟨S256x6x64x128, .f32⟩
  | 36 => ⟨S_, .f32⟩
  | 37 => ⟨S256x6x64x128, .f32⟩
  | 38 => ⟨S_, .f32⟩
  | 39 => ⟨S256x6, .f32⟩
  | 40 => ⟨S_, .i32⟩
  | 41 => ⟨S256x6x128x128, .f32⟩
  | 42 => ⟨S256x6x64x128, .f32⟩
  | 43 => ⟨S256x6x64x128, .f32⟩
  | 44 => ⟨S256x6x64x128, .f32⟩
  | 45 => ⟨S256x6x64x64, .f32⟩
  | 46 => ⟨S256x6x64x128, .f32⟩
  | 47 => ⟨S256x6x64x128, .f32⟩
  | 48 => ⟨S256x6, .f32⟩
  | 49 => ⟨S_, .i32⟩
  | 50 => ⟨S6x128x128, .f32⟩
  | 51 => ⟨S256x6x64x128, .f32⟩
  | 52 => ⟨S256x6x64x128, .f32⟩
  | 53 => ⟨S256x6x64x64, .f32⟩
  | 54 => ⟨S256x6x64x128, .f32⟩
  | 55 => ⟨S256x6x64x128, .f32⟩
  | 56 => ⟨S256x6, .f32⟩
  | 57 => ⟨S_, .i32⟩
  | 58 => ⟨S_, .i1⟩
  | 59 => ⟨S_, .i32⟩
  | 60 => ⟨S_, .i32⟩
  | 61 => ⟨S_, .i32⟩
  | 62 => ⟨S_, .i32⟩
  | 63 => ⟨S_, .i32⟩
  | 64 => ⟨S_, .i32⟩
  | 65 => ⟨S_, .i32⟩
  | 66 => ⟨S1x6x128x128, .f32⟩
  | 67 => ⟨S6x128x128, .f32⟩
  | 68 => ⟨S_, .i32⟩
  | 69 => ⟨S_, .i32⟩
  | 70 => ⟨S_, .i32⟩
  | 71 => ⟨S1x6x64x128, .f32⟩
  | 72 => ⟨S6x64x128, .f32⟩
  | 73 => ⟨S_, .i32⟩
  | 74 => ⟨S_, .i32⟩
  | 75 => ⟨S_, .i32⟩
  | 76 => ⟨S1x6x64x128, .f32⟩
  | 77 => ⟨S6x64x128, .f32⟩
  | 78 => ⟨S_, .i32⟩
  | 79 => ⟨S_, .i32⟩
  | 80 => ⟨S_, .i32⟩
  | 81 => ⟨S1x6x64x128, .f32⟩
  | 82 => ⟨S6x64x128, .f32⟩
  | 83 => ⟨S_, .i32⟩
  | 84 => ⟨S_, .i32⟩
  | 85 => ⟨S_, .i32⟩
  | 86 => ⟨S1x6x64x64, .f32⟩
  | 87 => ⟨S6x64x64, .f32⟩
  | 88 => ⟨S_, .i32⟩
  | 89 => ⟨S_, .i32⟩
  | 90 => ⟨S_, .i32⟩
  | 91 => ⟨S1x6x64x128, .f32⟩
  | 92 => ⟨S6x64x128, .f32⟩
  | 93 => ⟨S_, .i32⟩
  | 94 => ⟨S_, .i32⟩
  | 95 => ⟨S_, .i32⟩
  | 96 => ⟨S1x6x64x128, .f32⟩
  | 97 => ⟨S6x64x128, .f32⟩
  | 98 => ⟨S_, .i32⟩
  | 99 => ⟨S1x6, .f32⟩
  | 100 => ⟨S6, .f32⟩
  | 101 => ⟨S6x64x128, .f32⟩
  | 102 => ⟨S6x64x128, .f32⟩
  | 103 => ⟨S6x64x128, .f32⟩
  | 104 => ⟨S6x64x128, .f32⟩
  | 105 => ⟨S6x64x128, .f32⟩
  | 106 => ⟨S6x1x1, .f32⟩
  | 107 => ⟨S6x128x128, .f32⟩
  | 108 => ⟨S6x128x128, .f32⟩
  | 109 => ⟨S6x128x128, .f32⟩
  | 110 => ⟨S6x128x128, .f32⟩
  | 111 => ⟨S6x128x64, .f32⟩
  | 112 => ⟨S6x64x128, .f32⟩
  | 113 => ⟨S6x128x64, .f32⟩
  | 114 => ⟨S6x64x128, .f32⟩
  | 115 => ⟨S6x128x128, .f32⟩
  | 116 => ⟨S_, .f32⟩
  | 117 => ⟨S6, .f32⟩
  | 118 => ⟨S6x1x1, .f32⟩
  | 119 => ⟨S6x128x128, .f32⟩
  | 120 => ⟨S6x128x128, .f32⟩
  | 121 => ⟨S_, .f32⟩
  | 122 => ⟨S6, .f32⟩
  | 123 => ⟨S6x128x64, .f32⟩
  | 124 => ⟨S6x64x128, .f32⟩
  | 125 => ⟨S6x64x128, .f32⟩
  | 126 => ⟨S6x64x64, .f32⟩
  | 127 => ⟨S6x128x128, .f32⟩
  | _ => ⟨S16384x768, .f32⟩

abbrev hbmTy0_1 (i : Nat) : BufTy := match i % 128 with
  | 0 => ⟨S6x128x128, .f32⟩
  | 1 => ⟨S6x128x128, .f32⟩
  | 2 => ⟨S6x64x128, .f32⟩
  | 3 => ⟨S6x64x128, .f32⟩
  | 4 => ⟨S6x128x128, .f32⟩
  | 5 => ⟨S6x128x128, .f32⟩
  | 6 => ⟨S6x128x128, .f32⟩
  | 7 => ⟨S6x64x128, .f32⟩
  | 8 => ⟨S1x6x64x128, .f32⟩
  | 9 => ⟨S_, .i32⟩
  | 10 => ⟨S_, .i32⟩
  | 11 => ⟨S_, .i32⟩
  | 12 => ⟨S256x6x64x128, .f32⟩
  | 13 => ⟨S1x6x64x128, .f32⟩
  | 14 => ⟨S_, .i32⟩
  | 15 => ⟨S_, .i32⟩
  | 16 => ⟨S_, .i32⟩
  | 17 => ⟨S256x6x64x128, .f32⟩
  | 18 => ⟨S1x6x64x64, .f32⟩
  | 19 => ⟨S_, .i32⟩
  | 20 => ⟨S_, .i32⟩
  | 21 => ⟨S_, .i32⟩
  | 22 => ⟨S256x6x64x64, .f32⟩
  | 23 => ⟨S1x6x64x128, .f32⟩
  | 24 => ⟨S_, .i32⟩
  | 25 => ⟨S_, .i32⟩
  | 26 => ⟨S_, .i32⟩
  | 27 => ⟨S256x6x64x128, .f32⟩
  | 28 => ⟨S1x6x64x128, .f32⟩
  | 29 => ⟨S_, .i32⟩
  | 30 => ⟨S_, .i32⟩
  | 31 => ⟨S_, .i32⟩
  | 32 => ⟨S256x6x64x128, .f32⟩
  | 33 => ⟨S1x6, .f32⟩
  | 34 => ⟨S_, .i32⟩
  | 35 => ⟨S256x6, .f32⟩
  | 36 => ⟨S_, .i32⟩
  | 37 => ⟨S_, .i32⟩
  | 38 => ⟨S6x256x64x64, .f32⟩
  | 39 => ⟨S6x16384x64, .f32⟩
  | 40 => ⟨S6x256, .f32⟩
  | 41 => ⟨S6x256x1x1, .f32⟩
  | 42 => ⟨S6x256x8x128, .f32⟩
  | 43 => ⟨S6x2048x128, .f32⟩
  | 44 => ⟨S256x64x6x128, .f32⟩
  | 45 => ⟨S16384x768, .f32⟩
  | 46 => ⟨S256x64x6x128, .f32⟩
  | 47 => ⟨S16384x768, .f32⟩
  | 48 => ⟨S256x64x6x128, .f32⟩
  | 49 => ⟨S16384x768, .f32⟩
  | 50 => ⟨S256x64x6x128, .f32⟩
  | 51 => ⟨S16384x768, .f32⟩
  | _ => ⟨S16384x768, .f32⟩

abbrev hbmTy (i : Nat) : BufTy := match i / 128 with
  | 0 => hbmTy0_0 i
  | 1 => hbmTy0_1 i
  | _ => ⟨S16384x768, .f32⟩

abbrev bufTy : (tb : Table) → Fin (tcTables nBuf tb) → BufTy
  | .hbm, ⟨i, _⟩ => hbmTy i
  | _, _ => ⟨S16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_c : Ref sig .tc := ⟨.hbm, 40, rfl⟩
abbrev main_v25_0 : Ref sig .tc := ⟨.hbm, 41, rfl⟩
abbrev main_v25_1 : Ref sig .tc := ⟨.hbm, 42, rfl⟩
abbrev main_v25_2 : Ref sig .tc := ⟨.hbm, 43, rfl⟩
abbrev main_v25_3 : Ref sig .tc := ⟨.hbm, 44, rfl⟩
abbrev main_v25_4 : Ref sig .tc := ⟨.hbm, 45, rfl⟩
abbrev main_v25_5 : Ref sig .tc := ⟨.hbm, 46, rfl⟩
abbrev main_v25_6 : Ref sig .tc := ⟨.hbm, 47, rfl⟩
abbrev main_v25_7 : Ref sig .tc := ⟨.hbm, 48, rfl⟩
abbrev main_v25_8 : Ref sig .tc := ⟨.hbm, 49, rfl⟩
abbrev main_v25_9 : Ref sig .tc := ⟨.hbm, 50, rfl⟩
abbrev main_v25_10 : Ref sig .tc := ⟨.hbm, 51, rfl⟩
abbrev main_v25_11 : Ref sig .tc := ⟨.hbm, 52, rfl⟩
abbrev main_v25_12 : Ref sig .tc := ⟨.hbm, 53, rfl⟩
abbrev main_v25_13 : Ref sig .tc := ⟨.hbm, 54, rfl⟩
abbrev main_v25_14 : Ref sig .tc := ⟨.hbm, 55, rfl⟩
abbrev main_v25_15 : Ref sig .tc := ⟨.hbm, 56, rfl⟩
abbrev main_while0c_c_21 : Ref sig .tc := ⟨.hbm, 57, rfl⟩
abbrev main_while0c_v40 : Ref sig .tc := ⟨.hbm, 58, rfl⟩
abbrev main_while0b_c_21 : Ref sig .tc := ⟨.hbm, 59, rfl⟩
abbrev main_while0b_v40 : Ref sig .tc := ⟨.hbm, 60, rfl⟩
abbrev main_while0b_c_22 : Ref sig .tc := ⟨.hbm, 61, rfl⟩
abbrev main_while0b_v41 : Ref sig .tc := ⟨.hbm, 62, rfl⟩
abbrev main_while0b_call0_c : Ref sig .tc := ⟨.hbm, 63, rfl⟩
abbrev main_while0b_call0_c_0 : Ref sig .tc := ⟨.hbm, 64, rfl⟩
abbrev main_while0b_call0_c_1 : Ref sig .tc := ⟨.hbm, 65, rfl⟩
abbrev main_while0b_call0_v0 : Ref sig .tc := ⟨.hbm, 66, rfl⟩
abbrev main_while0b_v42 : Ref sig .tc := ⟨.hbm, 67, rfl⟩
abbrev main_while0b_call1_c : Ref sig .tc := ⟨.hbm, 68, rfl⟩
abbrev main_while0b_call1_c_0 : Ref sig .tc := ⟨.hbm, 69, rfl⟩
abbrev main_while0b_call1_c_1 : Ref sig .tc := ⟨.hbm, 70, rfl⟩
abbrev main_while0b_call1_v0 : Ref sig .tc := ⟨.hbm, 71, rfl⟩
abbrev main_while0b_v43 : Ref sig .tc := ⟨.hbm, 72, rfl⟩
abbrev main_while0b_call2_c : Ref sig .tc := ⟨.hbm, 73, rfl⟩
abbrev main_while0b_call2_c_0 : Ref sig .tc := ⟨.hbm, 74, rfl⟩
abbrev main_while0b_call2_c_1 : Ref sig .tc := ⟨.hbm, 75, rfl⟩
abbrev main_while0b_call2_v0 : Ref sig .tc := ⟨.hbm, 76, rfl⟩
abbrev main_while0b_v44 : Ref sig .tc := ⟨.hbm, 77, rfl⟩
abbrev main_while0b_call3_c : Ref sig .tc := ⟨.hbm, 78, rfl⟩
abbrev main_while0b_call3_c_0 : Ref sig .tc := ⟨.hbm, 79, rfl⟩
abbrev main_while0b_call3_c_1 : Ref sig .tc := ⟨.hbm, 80, rfl⟩
abbrev main_while0b_call3_v0 : Ref sig .tc := ⟨.hbm, 81, rfl⟩
abbrev main_while0b_v45 : Ref sig .tc := ⟨.hbm, 82, rfl⟩
abbrev main_while0b_call4_c : Ref sig .tc := ⟨.hbm, 83, rfl⟩
abbrev main_while0b_call4_c_0 : Ref sig .tc := ⟨.hbm, 84, rfl⟩
abbrev main_while0b_call4_c_1 : Ref sig .tc := ⟨.hbm, 85, rfl⟩
abbrev main_while0b_call4_v0 : Ref sig .tc := ⟨.hbm, 86, rfl⟩
abbrev main_while0b_v46 : Ref sig .tc := ⟨.hbm, 87, rfl⟩
abbrev main_while0b_call5_c : Ref sig .tc := ⟨.hbm, 88, rfl⟩
abbrev main_while0b_call5_c_0 : Ref sig .tc := ⟨.hbm, 89, rfl⟩
abbrev main_while0b_call5_c_1 : Ref sig .tc := ⟨.hbm, 90, rfl⟩
abbrev main_while0b_call5_v0 : Ref sig .tc := ⟨.hbm, 91, rfl⟩
abbrev main_while0b_v47 : Ref sig .tc := ⟨.hbm, 92, rfl⟩
abbrev main_while0b_call6_c : Ref sig .tc := ⟨.hbm, 93, rfl⟩
abbrev main_while0b_call6_c_0 : Ref sig .tc := ⟨.hbm, 94, rfl⟩
abbrev main_while0b_call6_c_1 : Ref sig .tc := ⟨.hbm, 95, rfl⟩
abbrev main_while0b_call6_v0 : Ref sig .tc := ⟨.hbm, 96, rfl⟩
abbrev main_while0b_v48 : Ref sig .tc := ⟨.hbm, 97, rfl⟩
abbrev main_while0b_call7_c : Ref sig .tc := ⟨.hbm, 98, rfl⟩
abbrev main_while0b_call7_v0 : Ref sig .tc := ⟨.hbm, 99, rfl⟩
abbrev main_while0b_v49 : Ref sig .tc := ⟨.hbm, 100, rfl⟩
abbrev main_while0b_v50 : Ref sig .tc := ⟨.hbm, 101, rfl⟩
abbrev main_while0b_v51 : Ref sig .tc := ⟨.hbm, 102, rfl⟩
abbrev main_while0b_v52 : Ref sig .tc := ⟨.hbm, 103, rfl⟩
abbrev main_while0b_v53 : Ref sig .tc := ⟨.hbm, 104, rfl⟩
abbrev main_while0b_v54 : Ref sig .tc := ⟨.hbm, 105, rfl⟩
abbrev main_while0b_v55 : Ref sig .tc := ⟨.hbm, 106, rfl⟩
abbrev main_while0b_v56 : Ref sig .tc := ⟨.hbm, 107, rfl⟩
abbrev main_while0b_v57 : Ref sig .tc := ⟨.hbm, 108, rfl⟩
abbrev main_while0b_v58 : Ref sig .tc := ⟨.hbm, 109, rfl⟩
abbrev main_while0b_v59 : Ref sig .tc := ⟨.hbm, 110, rfl⟩
abbrev main_while0b_v60 : Ref sig .tc := ⟨.hbm, 111, rfl⟩
abbrev main_while0b_v61 : Ref sig .tc := ⟨.hbm, 112, rfl⟩
abbrev main_while0b_v62 : Ref sig .tc := ⟨.hbm, 113, rfl⟩
abbrev main_while0b_v63 : Ref sig .tc := ⟨.hbm, 114, rfl⟩
abbrev main_while0b_v64 : Ref sig .tc := ⟨.hbm, 115, rfl⟩
abbrev main_while0b_cst_23 : Ref sig .tc := ⟨.hbm, 116, rfl⟩
abbrev main_while0b_v65 : Ref sig .tc := ⟨.hbm, 117, rfl⟩
abbrev main_while0b_v66 : Ref sig .tc := ⟨.hbm, 118, rfl⟩
abbrev main_while0b_v67 : Ref sig .tc := ⟨.hbm, 119, rfl⟩
abbrev main_while0b_v68 : Ref sig .tc := ⟨.hbm, 120, rfl⟩
abbrev main_while0b_cst_24 : Ref sig .tc := ⟨.hbm, 121, rfl⟩
abbrev main_while0b_v69 : Ref sig .tc := ⟨.hbm, 122, rfl⟩
abbrev main_while0b_v70 : Ref sig .tc := ⟨.hbm, 123, rfl⟩
abbrev main_while0b_v71 : Ref sig .tc := ⟨.hbm, 124, rfl⟩
abbrev main_while0b_v72 : Ref sig .tc := ⟨.hbm, 125, rfl⟩
abbrev main_while0b_v73 : Ref sig .tc := ⟨.hbm, 126, rfl⟩
abbrev main_while0b_v74 : Ref sig .tc := ⟨.hbm, 127, rfl⟩
abbrev main_while0b_v75 : Ref sig .tc := ⟨.hbm, 128, rfl⟩
abbrev main_while0b_v76 : Ref sig .tc := ⟨.hbm, 129, rfl⟩
abbrev main_while0b_v77 : Ref sig .tc := ⟨.hbm, 130, rfl⟩
abbrev main_while0b_v78 : Ref sig .tc := ⟨.hbm, 131, rfl⟩
abbrev main_while0b_v79 : Ref sig .tc := ⟨.hbm, 132, rfl⟩
abbrev main_while0b_v80 : Ref sig .tc := ⟨.hbm, 133, rfl⟩
abbrev main_while0b_v81 : Ref sig .tc := ⟨.hbm, 134, rfl⟩
abbrev main_while0b_v82 : Ref sig .tc := ⟨.hbm, 135, rfl⟩
abbrev main_while0b_call8_v0 : Ref sig .tc := ⟨.hbm, 136, rfl⟩
abbrev main_while0b_call8_c : Ref sig .tc := ⟨.hbm, 137, rfl⟩
abbrev main_while0b_call8_c_0 : Ref sig .tc := ⟨.hbm, 138, rfl⟩
abbrev main_while0b_call8_c_1 : Ref sig .tc := ⟨.hbm, 139, rfl⟩
abbrev main_while0b_v83 : Ref sig .tc := ⟨.hbm, 140, rfl⟩
abbrev main_while0b_call9_v0 : Ref sig .tc := ⟨.hbm, 141, rfl⟩
abbrev main_while0b_call9_c : Ref sig .tc := ⟨.hbm, 142, rfl⟩
abbrev main_while0b_call9_c_0 : Ref sig .tc := ⟨.hbm, 143, rfl⟩
abbrev main_while0b_call9_c_1 : Ref sig .tc := ⟨.hbm, 144, rfl⟩
abbrev main_while0b_v84 : Ref sig .tc := ⟨.hbm, 145, rfl⟩
abbrev main_while0b_call10_v0 : Ref sig .tc := ⟨.hbm, 146, rfl⟩
abbrev main_while0b_call10_c : Ref sig .tc := ⟨.hbm, 147, rfl⟩
abbrev main_while0b_call10_c_0 : Ref sig .tc := ⟨.hbm, 148, rfl⟩
abbrev main_while0b_call10_c_1 : Ref sig .tc := ⟨.hbm, 149, rfl⟩
abbrev main_while0b_v85 : Ref sig .tc := ⟨.hbm, 150, rfl⟩
abbrev main_while0b_call11_v0 : Ref sig .tc := ⟨.hbm, 151, rfl⟩
abbrev main_while0b_call11_c : Ref sig .tc := ⟨.hbm, 152, rfl⟩
abbrev main_while0b_call11_c_0 : Ref sig .tc := ⟨.hbm, 153, rfl⟩
abbrev main_while0b_call11_c_1 : Ref sig .tc := ⟨.hbm, 154, rfl⟩
abbrev main_while0b_v86 : Ref sig .tc := ⟨.hbm, 155, rfl⟩
abbrev main_while0b_call12_v0 : Ref sig .tc := ⟨.hbm, 156, rfl⟩
abbrev main_while0b_call12_c : Ref sig .tc := ⟨.hbm, 157, rfl⟩
abbrev main_while0b_call12_c_0 : Ref sig .tc := ⟨.hbm, 158, rfl⟩
abbrev main_while0b_call12_c_1 : Ref sig .tc := ⟨.hbm, 159, rfl⟩
abbrev main_while0b_v87 : Ref sig .tc := ⟨.hbm, 160, rfl⟩
abbrev main_while0b_call13_v0 : Ref sig .tc := ⟨.hbm, 161, rfl⟩
abbrev main_while0b_call13_c : Ref sig .tc := ⟨.hbm, 162, rfl⟩
abbrev main_while0b_v88 : Ref sig .tc := ⟨.hbm, 163, rfl⟩
abbrev main_while0b_c_25 : Ref sig .tc := ⟨.hbm, 164, rfl⟩
abbrev main_while0b_v89 : Ref sig .tc := ⟨.hbm, 165, rfl⟩
abbrev main_v26 : Ref sig .tc := ⟨.hbm, 166, rfl⟩
abbrev main_v27 : Ref sig .tc := ⟨.hbm, 167, rfl⟩
abbrev main_v28 : Ref sig .tc := ⟨.hbm, 168, rfl⟩
abbrev main_v29 : Ref sig .tc := ⟨.hbm, 169, rfl⟩
abbrev main_v30 : Ref sig .tc := ⟨.hbm, 170, rfl⟩
abbrev main_v31 : Ref sig .tc := ⟨.hbm, 171, rfl⟩
abbrev main_v32 : Ref sig .tc := ⟨.hbm, 172, rfl⟩
abbrev main_v33 : Ref sig .tc := ⟨.hbm, 173, rfl⟩
abbrev main_v34 : Ref sig .tc := ⟨.hbm, 174, rfl⟩
abbrev main_v35 : Ref sig .tc := ⟨.hbm, 175, rfl⟩
abbrev main_v36 : Ref sig .tc := ⟨.hbm, 176, rfl⟩
abbrev main_v37 : Ref sig .tc := ⟨.hbm, 177, rfl⟩
abbrev main_v38 : Ref sig .tc := ⟨.hbm, 178, rfl⟩
abbrev main_v39 : Ref sig .tc := ⟨.hbm, 179, rfl⟩

abbrev nD : Nat := 1
abbrev τ : Topo := Topo.v7x

variable {F : FTy → Type} [FloatOps F]

abbrev main_while0_count : Scf.Loop 32 := ⟨0#32, 256#32, 1#32⟩
-- ==== Kernel2.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2x4x704 : Shape := ⟨4, ![16384, 2, 4, 704]⟩
abbrev S2x4x16384x704 : Shape := ⟨4, ![2, 4, 16384, 704]⟩
abbrev S1024x8x704 : Shape := ⟨3, ![1024, 8, 704]⟩
abbrev S8x1024x704 : Shape := ⟨3, ![8, 1024, 704]⟩
abbrev S8x1x1024x704 : Shape := ⟨4, ![8, 1, 1024, 704]⟩
abbrev S8x1x352x1024 : Shape := ⟨4, ![8, 1, 352, 1024]⟩
abbrev S512x1024 : Shape := ⟨2, ![512, 1024]⟩
abbrev S2x1x512x704 : Shape := ⟨4, ![2, 1, 512, 704]⟩
abbrev S1x1x1024x704 : Shape := ⟨4, ![1, 1, 1024, 704]⟩
abbrev S2x1x352x1024 : Shape := ⟨4, ![2, 1, 352, 1024]⟩
abbrev S2x352x1024 : Shape := ⟨3, ![2, 352, 1024]⟩
abbrev S704x1024 : Shape := ⟨2, ![704, 1024]⟩
abbrev S256x1024 : Shape := ⟨2, ![256, 1024]⟩
abbrev S256x704 : Shape := ⟨2, ![256, 704]⟩
abbrev S1x1x256x704 : Shape := ⟨4, ![1, 1, 256, 704]⟩
abbrev S1024x704 : Shape := ⟨2, ![1024, 704]⟩
abbrev S512 : Shape := ⟨1, ![512]⟩
abbrev S512x1 : Shape := ⟨2, ![512, 1]⟩

abbrev nBuf : Space → Nat
  | .hbm => 34
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1024x5632, .bf16⟩
  | .hbm, ⟨4, _⟩ => ⟨S2816x1024, .bf16⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S1024x5632, .f32⟩
  | .hbm, ⟨22, _⟩ => ⟨S16384x5632, .f32⟩
  | .hbm, ⟨23, _⟩ => ⟨S16384x2x4x704, .f32⟩
  | .hbm, ⟨24, _⟩ => ⟨S2x4x16384x704, .f32⟩
  | .hbm, ⟨25, _⟩ => ⟨S1024x8x704, .bf16⟩
  | .hbm, ⟨26, _⟩ => ⟨S8x1024x704, .bf16⟩
  | .hbm, ⟨27, _⟩ => ⟨S8x1x1024x704, .bf16⟩
  | .hbm, ⟨28, _⟩ => ⟨S8x1x352x1024, .bf16⟩
  | .hbm, ⟨29, _⟩ => ⟨S2x4x16384x704, .bf16⟩
  | .hbm, ⟨30, _⟩ => ⟨S1x1024, .f32⟩
  | .hbm, ⟨31, _⟩ => ⟨S16384x1024, .f32⟩
  | .hbm, ⟨32, _⟩ => ⟨S2x4x16384x704, .bf16⟩
  | .hbm, ⟨33, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S2x1x512x704, .bf16⟩
  | .local _ .vmem, ⟨6, _⟩ => ⟨S2x1x512x704, .bf16⟩
  | .local _ .vmem, ⟨7, _⟩ => ⟨S1x1x1024x704, .bf16⟩
  | .local _ .vmem, ⟨8, _⟩ => ⟨S1x1x1024x704, .bf16⟩
  | .local _ .vmem, ⟨9, _⟩ => ⟨S1x1x1024x704, .bf16⟩
  | .local _ .vmem, ⟨10, _⟩ => ⟨S1x1x1024x704, .bf16⟩
  | .local _ .vmem, ⟨11, _⟩ => ⟨S2x1x352x1024, .bf16⟩
  | .local _ .vmem, ⟨12, _⟩ => ⟨S2x1x352x1024, .bf16⟩
  | .local _ .vmem, ⟨13, _⟩ => ⟨S512x1024, .f32⟩
  | .local _ .vmem, ⟨14, _⟩ => ⟨S512x1024, .f32⟩
  | .local _ .vmem, ⟨15, _⟩ => ⟨S2x1x512x704, .bf16⟩
  | .local _ .vmem, ⟨16, _⟩ => ⟨S2x1x512x704, .bf16⟩
  | .local _ .vmem, ⟨17, _⟩ => ⟨S1x1024, .f32⟩
  | .local _ .vmem, ⟨18, _⟩ => ⟨S512x1024, .bf16⟩
  | .local _ .vmem, ⟨19, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23_0 : Ref sig .tc := ⟨.hbm, 31, rfl⟩
abbrev main_v23_1 : Ref sig .tc := ⟨.hbm, 32, rfl⟩
abbrev main_v23_2 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨2, ![32, 4], ![false, false]⟩

def k0_cond3 (i : grid0.Coords) : BitVec 1 :=
  let arg1 : BitVec 32 := BitVec.ofNat 32 (i 1).val
  let c3_i32 : BitVec 32 := 3#32
  let v101 : BitVec 1 := Scalar.cmpi .eq arg1 c3_i32
  let v102 : BitVec 32 := Scalar.extui v101
  let c0_i32_80 : BitVec 32 := 0#32
  let v103 : BitVec 1 := Scalar.cmpi .ne v102 c0_i32_80
  v103

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2x1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2x1x352x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2x1x512x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== Reference2Ideal.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2816 : Shape := ⟨2, ![16384, 2816]⟩
abbrev S16384x2x4x704 : Shape := ⟨4, ![16384, 2, 4, 704]⟩
abbrev S2x4x16384x704 : Shape := ⟨4, ![2, 4, 16384, 704]⟩

abbrev nBuf : Space → Nat
  | .hbm => 88
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1024x5632, .bf16⟩
  | .hbm, ⟨4, _⟩ => ⟨S2816x1024, .bf16⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S1024x5632, .f32⟩
  | .hbm, ⟨26, _⟩ => ⟨S16384x5632, .f32⟩
  | .hbm, ⟨27, _⟩ => ⟨S16384x2816, .f32⟩
  | .hbm, ⟨28, _⟩ => ⟨S16384x2816, .f32⟩
  | .hbm, ⟨29, _⟩ => ⟨S16384x2816, .f32⟩
  | .hbm, ⟨30, _⟩ => ⟨S_, .f32⟩
  | .hbm, ⟨31, _⟩ => ⟨S16384x2816, .f32⟩
  | .hbm, ⟨32, _⟩ => ⟨S16384x2816, .f32⟩
  | .hbm, ⟨33, _⟩ => ⟨S_, .f32⟩
  | .hbm, ⟨34, _⟩ => ⟨S16384x2816, .f32⟩
  | .hbm, ⟨35, _⟩ => ⟨S16384x2816, .f32⟩
  | .hbm, ⟨36, _⟩ => ⟨S_, .f32⟩
  | .hbm, ⟨37, _⟩ => ⟨S16384x2816, .f32⟩
  | .hbm, ⟨38, _⟩ => ⟨S16384x2816, .f32⟩
  | .hbm, ⟨39, _⟩ => ⟨S16384x2816, .f32⟩
  | .hbm, ⟨40, _⟩ => ⟨S16384x2816, .f32⟩
  | .hbm, ⟨41, _⟩ => ⟨S16384x2816, .f32⟩
  | .hbm, ⟨42, _⟩ => ⟨S16384x2816, .f32⟩
  | .hbm, ⟨43, _⟩ => ⟨S2816x1024, .f32⟩
  | .hbm, ⟨44, _⟩ => ⟨S16384x1024, .f32⟩
  | .hbm, ⟨45, _⟩ => ⟨S16384x2816, .f32⟩
  | .hbm, ⟨46, _⟩ => ⟨S16384x2816, .f32⟩
  | .hbm, ⟨47, _⟩ => ⟨S16384x2816, .f32⟩
  | .hbm, ⟨48, _⟩ => ⟨S_, .f32⟩
  | .hbm, ⟨49, _⟩ => ⟨S16384x5632, .f32⟩
  | .hbm, ⟨50, _⟩ => ⟨S16384x2816, .f32⟩
  | .hbm, ⟨51, _⟩ => ⟨S16384x2816, .f32⟩
  | .hbm, ⟨52, _⟩ => ⟨S16384x2816, .f32⟩
  | .hbm, ⟨53, _⟩ => ⟨S16384x2816, .f32⟩
  | .hbm, ⟨54, _⟩ => ⟨S_, .f32⟩
  | .hbm, ⟨55, _⟩ => ⟨S16384x5632, .f32⟩
  | .hbm, ⟨56, _⟩ => ⟨S16384x5632, .f32⟩
  | .hbm, ⟨57, _⟩ => ⟨S16384x1024, .f32⟩
  | .hbm, ⟨58, _⟩ => ⟨S16384x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S16384x1024, .f32⟩
  | .hbm, ⟨63, _⟩ => ⟨S16384x1024, .f32⟩
  | .hbm, ⟨64, _⟩ => ⟨S_, .f32⟩
  | .hbm, ⟨65, _⟩ => ⟨S1024, .f32⟩
  | .hbm, ⟨66, _⟩ => ⟨S16384x1024, .f32⟩
  | .hbm, ⟨67, _⟩ => ⟨S_, .f32⟩
  | .hbm, ⟨68, _⟩ => ⟨S16384, .f32⟩
  | .hbm, ⟨69, _⟩ => ⟨S16384x1, .f32⟩
  | .hbm, ⟨70, _⟩ => ⟨S16384x1024, .f32⟩
  | .hbm, ⟨71, _⟩ => ⟨S16384x1024, .f32⟩
  | .hbm, ⟨72, _⟩ => ⟨S16384x1, .f32⟩
  | .hbm, ⟨73, _⟩ => ⟨S_, .f32⟩
  | .hbm, ⟨74, _⟩ => ⟨S16384x1, .f32⟩
  | .hbm, ⟨75, _⟩ => ⟨S16384x1, .f32⟩
  | .hbm, ⟨76, _⟩ => ⟨S_, .f32⟩
  | .hbm, ⟨77, _⟩ => ⟨S16384, .f32⟩
  | .hbm, ⟨78, _⟩ => ⟨S16384x1024, .f32⟩
  | .hbm, ⟨79, _⟩ => ⟨S16384x1024, .f32⟩
  | .hbm, ⟨80, _⟩ => ⟨S16384x1024, .f32⟩
  | .hbm, ⟨81, _⟩ => ⟨S16384x1024, .f32⟩
  | .hbm, ⟨82, _⟩ => ⟨S16384x1024, .f32⟩
  | .hbm, ⟨83, _⟩ => ⟨S16384x1024, .f32⟩
  | .hbm, ⟨84, _⟩ => ⟨S16384x2x4x704, .f32⟩
  | .hbm, ⟨85, _⟩ => ⟨S2x4x16384x704, .f32⟩
  | .hbm, ⟨86, _⟩ => ⟨S2x4x16384x704, .bf16⟩
  | .hbm, ⟨87, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v19_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v19_1 : Ref sig .tc := ⟨.hbm, 39, rfl⟩
abbrev main_v19_0 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_3 : Ref sig .tc := ⟨.hbm, 48, rfl⟩
abbrev main_v27 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v28 : Ref sig .tc := ⟨.hbm, 53, rfl⟩
abbrev main_cst_4 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_5 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_6 : Ref sig .tc := ⟨.hbm, 64, rfl⟩
abbrev main_v37 : Ref sig .tc := ⟨.hbm, 65, rfl⟩
abbrev main_v38 : Ref sig .tc := ⟨.hbm, 66, rfl⟩
abbrev main_cst_7 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_8 : Ref sig .tc := ⟨.hbm, 73, rfl⟩
abbrev main_v44 : Ref sig .tc := ⟨.hbm, 74, rfl⟩
abbrev main_v45 : Ref sig .tc := ⟨.hbm, 75, rfl⟩
abbrev main_cst_9 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩

abbrev nD : Nat := 1
abbrev τ : Topo := Topo.v7x

variable {F : FTy → Type} [FloatOps F]
-- ==== Kernel3.lean ====
abbrev S16384x1024 : Shape := ⟨2, ![16384, 1024]⟩
abbrev S16384x5632 : Shape := ⟨2, ![16384, 5632]⟩
abbrev S16384x8x704 : Shape := ⟨3, ![16384, 8, 704]⟩
abbrev S8x16384x704 : Shape := ⟨3, ![8, 16384, 704]⟩
abbrev S8x1x1024x704 : Shape := ⟨4, ![8, 1, 1024, 704]⟩
abbrev S2048x1024 : Shape := ⟨2, ![2048, 1024]⟩
abbrev S1x2048x704 : Shape := ⟨3, ![1, 2048, 704]⟩
abbrev S1x1x1024x704 : Shape := ⟨4, ![1, 1, 1024, 704]⟩
abbrev S1024x704 : Shape := ⟨2, ![1024, 704]⟩
abbrev S2048x704 : Shape := ⟨2, ![2048, 704]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S16384x5632, .bf16⟩
  | .hbm, ⟨2, _⟩ => ⟨S16384x8x704, .bf16⟩
  | .hbm, ⟨3, _⟩ => ⟨S8x16384x704, .bf16⟩
  | .hbm, ⟨4, _⟩ => ⟨S8x1x1024x704, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x704, .bf16⟩
  | .local _ .vmem, ⟨3, _⟩ => ⟨S1x2048x704, .bf16⟩
  | .local _ .vmem, ⟨4, _⟩ => ⟨S1x1x1024x704, .bf16⟩
  | .local _ .vmem, ⟨5, _⟩ => ⟨S1x1x1024x704, .bf16⟩
  | .local _ .vmem, ⟨6, _⟩ => ⟨S1024x704, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, arg0.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S16384x1024 : Shape := ⟨2, ![16384, 1024]⟩
abbrev S16384x5632 : Shape := ⟨2, ![16384, 5632]⟩
abbrev S_ : Shape := ⟨0, ![]⟩
abbrev S1024x5632 : Shape := ⟨2, ![1024, 5632]⟩
abbrev S5632x1024 : Shape := ⟨2, ![5632, 1024]⟩
abbrev S1024x8x704 : Shape := ⟨3, ![1024, 8, 704]⟩
abbrev S8x1024x704 : Shape := ⟨3, ![8, 1024, 704]⟩
abbrev S8x1x1024x704 : Shape := ⟨4, ![8, 1, 1024, 704]⟩

abbrev nBuf : Space → Nat
  | .hbm => 13
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x5632, .bf16⟩
  | .hbm, ⟨2, _⟩ => ⟨S_, .f32⟩
  | .hbm, ⟨3, _⟩ => ⟨S1024x5632, .f32⟩
  | .hbm, ⟨4, _⟩ => ⟨S16384x1024, .f32⟩
  | .hbm, ⟨5, _⟩ => ⟨S16384x5632, .f32⟩
  | .hbm, ⟨6, _⟩ => ⟨S16384x5632, .f32⟩
  | .hbm, ⟨7, _⟩ => ⟨S5632x1024, .f32⟩
  | .hbm, ⟨8, _⟩ => ⟨S1024x5632, .f32⟩
  | .hbm, ⟨9, _⟩ => ⟨S1024x8x704, .f32⟩
  | .hbm, ⟨10, _⟩ => ⟨S8x1024x704, .f32⟩
  | .hbm, ⟨11, _⟩ => ⟨S8x1x1024x704, .f32⟩
  | .hbm, ⟨12, _⟩ => ⟨S8x1x1024x704, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel4.lean ====
abbrev S16384x2816 : Shape := ⟨2, ![16384, 2816]⟩
abbrev S16384x1024 : Shape := ⟨2, ![16384, 1024]⟩
abbrev S16384x4x704 : Shape := ⟨3, ![16384, 4, 704]⟩
abbrev S4x16384x704 : Shape := ⟨3, ![4, 16384, 704]⟩
abbrev S2816x1024 : Shape := ⟨2, ![2816, 1024]⟩
abbrev S1x2048x704 : Shape := ⟨3, ![1, 2048, 704]⟩
abbrev S2048x1024 : Shape := ⟨2, ![2048, 1024]⟩
abbrev S704x1024 : Shape := ⟨2, ![704, 1024]⟩
abbrev S2048x704 : Shape := ⟨2, ![2048, 704]⟩

abbrev nBuf : Space → Nat
  | .hbm => 5
  | .vmem => 7
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .f32⟩
  | .hbm, ⟨2, _⟩ => ⟨S16384x4x704, .bf16⟩
  | .hbm, ⟨3, _⟩ => ⟨S4x16384x704, .bf16⟩
  | .hbm, ⟨4, _⟩ => ⟨S2816x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .f32⟩
  | .local _ .vmem, ⟨3, _⟩ => ⟨S2048x1024, .f32⟩
  | .local _ .vmem, ⟨4, _⟩ => ⟨S704x1024, .bf16⟩
  | .local _ .vmem, ⟨5, _⟩ => ⟨S704x1024, .bf16⟩
  | .local _ .vmem, ⟨6, _⟩ => ⟨S704x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S16384x2816 : Shape := ⟨2, ![16384, 2816]⟩
abbrev S16384x1024 : Shape := ⟨2, ![16384, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .f32⟩
  | .hbm, ⟨2, _⟩ => ⟨S_, .f32⟩
  | .hbm, ⟨3, _⟩ => ⟨S2816x1024, .f32⟩
  | .hbm, ⟨4, _⟩ => ⟨S16384x2816, .f32⟩
  | .hbm, ⟨5, _⟩ => ⟨S16384x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S16384x1024 : Shape := ⟨2, ![16384, 1024]⟩
abbrev S16384x3456 : Shape := ⟨2, ![16384, 3456]⟩
abbrev S1024x3456 : Shape := ⟨2, ![1024, 3456]⟩
abbrev S2048x1024 : Shape := ⟨2, ![2048, 1024]⟩
abbrev S2048x1152 : Shape := ⟨2, ![2048, 1152]⟩
abbrev S1024x1152 : Shape := ⟨2, ![1024, 1152]⟩

abbrev nBuf : Space → Nat
  | .hbm => 3
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S16384x3456, .bf16⟩
  | .hbm, ⟨2, _⟩ => ⟨S1024x3456, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1152, .bf16⟩
  | .local _ .vmem, ⟨3, _⟩ => ⟨S2048x1152, .bf16⟩
  | .local _ .vmem, ⟨4, _⟩ => ⟨S1024x1152, .bf16⟩
  | .local _ .vmem, ⟨5, _⟩ => ⟨S1024x1152, .bf16⟩
  | .local _ .vmem, ⟨6, _⟩ => ⟨S1024x1152, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S16384x1024 : Shape := ⟨2, ![16384, 1024]⟩
abbrev S16384x3456 : Shape := ⟨2, ![16384, 3456]⟩
abbrev S_ : Shape := ⟨0, ![]⟩
abbrev S1024x3456 : Shape := ⟨2, ![1024, 3456]⟩
abbrev S3456x1024 : Shape := ⟨2, ![3456, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x3456, .bf16⟩
  | .hbm, ⟨2, _⟩ => ⟨S_, .f32⟩
  | .hbm, ⟨3, _⟩ => ⟨S1024x3456, .f32⟩
  | .hbm, ⟨4, _⟩ => ⟨S16384x1024, .f32⟩
  | .hbm, ⟨5, _⟩ => ⟨S16384x3456, .f32⟩
  | .hbm, ⟨6, _⟩ => ⟨S16384x3456, .f32⟩
  | .hbm, ⟨7, _⟩ => ⟨S3456x1024, .f32⟩
  | .hbm, ⟨8, _⟩ => ⟨S1024x3456, .f32⟩
  | .hbm, ⟨9, _⟩ => ⟨S1024x3456, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S16384x1024 : Shape := ⟨2, ![16384, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference6Ideal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S16384x1024 : Shape := ⟨2, ![16384, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference7Ideal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S16384x1024 : Shape := ⟨2, ![16384, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x1024, .bf16⟩
  | .hbm, ⟨2, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S16384x1024 : Shape := ⟨2, ![16384, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .bf16⟩
  | .hbm, ⟨2, _⟩ => ⟨S_, .f32⟩
  | .hbm, ⟨3, _⟩ => ⟨S16384x1024, .f32⟩
  | .hbm, ⟨4, _⟩ => ⟨S1024x1024, .f32⟩
  | .hbm, ⟨5, _⟩ => ⟨S16384x1024, .f32⟩
  | .hbm, ⟨6, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S16384x1024 : Shape := ⟨2, ![16384, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x1024, .bf16⟩
  | .hbm, ⟨3, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference9Ideal.lean ====
abbrev S16384x1024 : Shape := ⟨2, ![16384, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x1024, .bf16⟩
  | .hbm, ⟨3, _⟩ => ⟨S16384x1024, .f32⟩
  | .hbm, ⟨4, _⟩ => ⟨S1024x1024, .f32⟩
  | .hbm, ⟨5, _⟩ => ⟨S16384x1024, .f32⟩
  | .hbm, ⟨6, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S16384x3456 : Shape := ⟨2, ![16384, 3456]⟩
abbrev S1024x3456 : Shape := ⟨2, ![1024, 3456]⟩
abbrev S16384x1024 : Shape := ⟨2, ![16384, 1024]⟩
abbrev S1024 : Shape := ⟨1, ![1024]⟩
abbrev S1x1024 : Shape := ⟨2, ![1, 1024]⟩
abbrev S512x3456 : Shape := ⟨2, ![512, 3456]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 11
  | .smem => 0
  | _ => 0

abbrev bufTy : (tb : Table) → Fin (tcTables nBuf tb) → BufTy
  | .hbm, ⟨0, _⟩ => ⟨S16384x3456, .bf16⟩
  | .hbm, ⟨1, _⟩ => ⟨S1024x3456, .bf16⟩
  | .hbm, ⟨2, _⟩ => ⟨S16384x1024, .f32⟩
  | .hbm, ⟨3, _⟩ => ⟨S1024, .f32⟩
  | .hbm, ⟨4, _⟩ => ⟨S16384x1024, .f32⟩
  | .hbm, ⟨5, _⟩ => ⟨S1x1024, .f32⟩
  | .hbm, ⟨6, _⟩ => ⟨S16384x1024, .f32⟩
  | .hbm, ⟨7, _⟩ => ⟨S1x1024, .f32⟩
  | .local _ .vmem, ⟨0, _⟩ => ⟨S512x3456, .bf16⟩
  | .local _ .vmem, ⟨1, _⟩ => ⟨S512x3456, .bf16⟩
  | .local _ .vmem, ⟨2, _⟩ => ⟨S1024x3456, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S16384x3456, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3456 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3456 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference10Ideal.lean ====
abbrev S16384x3456 : Shape := ⟨2, ![16384, 3456]⟩
abbrev S1024x3456 : Shape := ⟨2, ![1024, 3456]⟩
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S16384x3456, .bf16⟩
  | .hbm, ⟨1, _⟩ => ⟨S1024x3456, .bf16⟩
  | .hbm, ⟨2, _⟩ => ⟨S16384x1024, .f32⟩
  | .hbm, ⟨3, _⟩ => ⟨S1024, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S1024x3456, .f32⟩
  | .hbm, ⟨26, _⟩ => ⟨S16384x3456, .f32⟩
  | .hbm, ⟨27, _⟩ => ⟨S16384x3456, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S1024, .f32⟩
  | .hbm, ⟨37, _⟩ => ⟨S16384x1024, .f32⟩
  | .hbm, ⟨38, _⟩ => ⟨S_, .f32⟩
  | .hbm, ⟨39, _⟩ => ⟨S16384, .f32⟩
  | .hbm, ⟨40, _⟩ => ⟨S16384x1, .f32⟩
  | .hbm, ⟨41, _⟩ => ⟨S16384x1024, .f32⟩
  | .hbm, ⟨42, _⟩ => ⟨S16384x1024, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S_, .f32⟩
  | .hbm, ⟨48, _⟩ => ⟨S16384, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S1x1024, .f32⟩
  | _, _ => ⟨S16384x3456, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel11.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S1024x8x704 : Shape := ⟨3, ![1024, 8, 704]⟩
abbrev S8x1024x704 : Shape := ⟨3, ![8, 1024, 704]⟩
abbrev S8x1x1024x704 : Shape := ⟨4, ![8, 1, 1024, 704]⟩
abbrev S8x1x352x1024 : Shape := ⟨4, ![8, 1, 352, 1024]⟩
abbrev S1x1024 : Shape := ⟨2, ![1, 1024]⟩
abbrev S2x4x16384x704 : Shape := ⟨4, ![2, 4, 16384, 704]⟩
abbrev S4x16384x704 : Shape := ⟨3, ![4, 16384, 704]⟩
abbrev S1024x1024 : Shape := ⟨2, ![1024, 1024]⟩
abbrev S1x1x1024x704 : Shape := ⟨4, ![1, 1, 1024, 704]⟩
abbrev S2x1x352x1024 : Shape := ⟨4, ![2, 1, 352, 1024]⟩
abbrev S2x1x1024x704 : Shape := ⟨4, ![2, 1, 1024, 704]⟩
abbrev S1x1024x704 : Shape := ⟨3, ![1, 1024, 704]⟩
abbrev S1024x1 : Shape := ⟨2, ![1024, 1]⟩
abbrev S2x352x1024 : Shape := ⟨3, ![2, 352, 1024]⟩
abbrev S704x1024 : Shape := ⟨2, ![704, 1024]⟩
abbrev S256x1024 : Shape := ⟨2, ![256, 1024]⟩
abbrev S1024x704 : Shape := ⟨2, ![1024, 704]⟩
abbrev S256x704 : Shape := ⟨2, ![256, 704]⟩
abbrev S1x1x256x704 : Shape := ⟨4, ![1, 1, 256, 704]⟩
abbrev S1x256x704 : Shape := ⟨3, ![1, 256, 704]⟩

abbrev nBuf : Space → Nat
  | .hbm => 13
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .bf16⟩
  | .hbm, ⟨3, _⟩ => ⟨S2816x1024, .bf16⟩
  | .hbm, ⟨4, _⟩ => ⟨S1024x8x704, .bf16⟩
  | .hbm, ⟨5, _⟩ => ⟨S8x1024x704, .bf16⟩
  | .hbm, ⟨6, _⟩ => ⟨S8x1x1024x704, .bf16⟩
  | .hbm, ⟨7, _⟩ => ⟨S8x1x352x1024, .bf16⟩
  | .hbm, ⟨8, _⟩ => ⟨S1x1024, .f32⟩
  | .hbm, ⟨9, _⟩ => ⟨S16384x1024, .f32⟩
  | .hbm, ⟨10, _⟩ => ⟨S16384x1024, .bf16⟩
  | .hbm, ⟨11, _⟩ => ⟨S2x4x16384x704, .bf16⟩
  | .hbm, ⟨12, _⟩ => ⟨S4x16384x704, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024x704, .bf16⟩
  | .local _ .vmem, ⟨4, _⟩ => ⟨S1x1x1024x704, .bf16⟩
  | .local _ .vmem, ⟨5, _⟩ => ⟨S1x1x1024x704, .bf16⟩
  | .local _ .vmem, ⟨6, _⟩ => ⟨S1x1x1024x704, .bf16⟩
  | .local _ .vmem, ⟨7, _⟩ => ⟨S2x1x352x1024, .bf16⟩
  | .local _ .vmem, ⟨8, _⟩ => ⟨S2x1x352x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S2x1x1024x704, .bf16⟩
  | .local _ .vmem, ⟨14, _⟩ => ⟨S2x1x1024x704, .bf16⟩
  | .local _ .vmem, ⟨15, _⟩ => ⟨S1x1024x704, .bf16⟩
  | .local _ .vmem, ⟨16, _⟩ => ⟨S1x1024x704, .bf16⟩
  | .local _ .vmem, ⟨17, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v154 : BitVec 1 := Scalar.cmpi .eq arg1 c3_i32
  let v155 : BitVec 32 := Scalar.extui v154
  let c0_i32_131 : BitVec 32 := 0#32
  let v156 : BitVec 1 := Scalar.cmpi .ne v155 c0_i32_131
  v156

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2x1x352x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2x1x1024x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference11Ideal.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2816 : Shape := ⟨2, ![16384, 2816]⟩
abbrev S16384x2x4x704 : Shape := ⟨4, ![16384, 2, 4, 704]⟩
abbrev S2x4x16384x704 : Shape := ⟨4, ![2, 4, 16384, 704]⟩
abbrev S16384x4x704 : Shape := ⟨3, ![16384, 4, 704]⟩
abbrev S4x16384x704 : Shape := ⟨3, ![4, 16384, 704]⟩

abbrev nBuf : Space → Nat
  | .hbm => 44
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .bf16⟩
  | .hbm, ⟨3, _⟩ => ⟨S2816x1024, .bf16⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S1024x5632, .f32⟩
  | .hbm, ⟨21, _⟩ => ⟨S16384x5632, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S_, .f32⟩
  | .hbm, ⟨26, _⟩ => ⟨S16384x2816, .f32⟩
  | .hbm, ⟨27, _⟩ => ⟨S16384x2816, .f32⟩
  | .hbm, ⟨28, _⟩ => ⟨S_, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S2816x1024, .f32⟩
  | .hbm, ⟨35, _⟩ => ⟨S16384x1024, .f32⟩
  | .hbm, ⟨36, _⟩ => ⟨S16384x1024, .f32⟩
  | .hbm, ⟨37, _⟩ => ⟨S16384x1024, .bf16⟩
  | .hbm, ⟨38, _⟩ => ⟨S16384x2x4x704, .f32⟩
  | .hbm, ⟨39, _⟩ => ⟨S2x4x16384x704, .f32⟩
  | .hbm, ⟨40, _⟩ => ⟨S2x4x16384x704, .bf16⟩
  | .hbm, ⟨41, _⟩ => ⟨S16384x4x704, .f32⟩
  | .hbm, ⟨42, _⟩ => ⟨S4x16384x704, .f32⟩
  | .hbm, ⟨43, _⟩ => ⟨S4x16384x704, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== Kernel12.lean ====
abbrev S512x1024 : Shape := ⟨2, ![512, 1024]⟩
abbrev S7x512x1024 : Shape := ⟨3, ![7, 512, 1024]⟩
abbrev S256x1024 : Shape := ⟨2, ![256, 1024]⟩
abbrev S7x256x1024 : Shape := ⟨3, ![7, 256, 1024]⟩
abbrev S1x256x1024 : Shape := ⟨3, ![1, 256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S512x1024, .f32⟩
  | .hbm, ⟨1, _⟩ => ⟨S512x1024, .bf16⟩
  | .hbm, ⟨2, _⟩ => ⟨S7x512x1024, .bf16⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S7x256x1024, .bf16⟩
  | .local _ .vmem, ⟨5, _⟩ => ⟨S7x256x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S7x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference12Ideal.lean ====
abbrev S512x1024 : Shape := ⟨2, ![512, 1024]⟩
abbrev S7x512x1024 : Shape := ⟨3, ![7, 512, 1024]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .bf16⟩
  | .hbm, ⟨2, _⟩ => ⟨S7x512x1024, .bf16⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S7x512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S_, .f32⟩
  | .hbm, ⟨11, _⟩ => ⟨S512x1024, .f32⟩
  | .hbm, ⟨12, _⟩ => ⟨S512x1024, .f32⟩
  | .hbm, ⟨13, _⟩ => ⟨S_, .f32⟩
  | .hbm, ⟨14, _⟩ => ⟨S512x1024, .f32⟩
  | .hbm, ⟨15, _⟩ => ⟨S512x1024, .f32⟩
  | .hbm, ⟨16, _⟩ => ⟨S512x1024, .f32⟩
  | .hbm, ⟨17, _⟩ => ⟨S_, .f32⟩
  | .hbm, ⟨18, _⟩ => ⟨S512x1024, .f32⟩
  | .hbm, ⟨19, _⟩ => ⟨S512x1024, .f32⟩
  | .hbm, ⟨20, _⟩ => ⟨S512x1024, .f32⟩
  | .hbm, ⟨21, _⟩ => ⟨S_, .f32⟩
  | .hbm, ⟨22, _⟩ => ⟨S512x1024, .f32⟩
  | .hbm, ⟨23, _⟩ => ⟨S512x1024, .f32⟩
  | .hbm, ⟨24, _⟩ => ⟨S512x1024, .f32⟩
  | .hbm, ⟨25, _⟩ => ⟨S_, .f32⟩
  | .hbm, ⟨26, _⟩ => ⟨S512x1024, .f32⟩
  | .hbm, ⟨27, _⟩ => ⟨S512x1024, .f32⟩
  | .hbm, ⟨28, _⟩ => ⟨S_, .f32⟩
  | .hbm, ⟨29, _⟩ => ⟨S512x1024, .f32⟩
  | .hbm, ⟨30, _⟩ => ⟨S512x1024, .f32⟩
  | .hbm, ⟨31, _⟩ => ⟨S512x1024, .f32⟩
  | .hbm, ⟨32, _⟩ => ⟨S_, .f32⟩
  | .hbm, ⟨33, _⟩ => ⟨S512x1024, .f32⟩
  | .hbm, ⟨34, _⟩ => ⟨S512x1024, .f32⟩
  | .hbm, ⟨35, _⟩ => ⟨S512x1024, .f32⟩
  | .hbm, ⟨36, _⟩ => ⟨S_, .f32⟩
  | .hbm, ⟨37, _⟩ => ⟨S512x1024, .f32⟩
  | .hbm, ⟨38, _⟩ => ⟨S512x1024, .f32⟩
  | .hbm, ⟨39, _⟩ => ⟨S512x1024, .f32⟩
  | .hbm, ⟨40, _⟩ => ⟨S_, .f32⟩
  | .hbm, ⟨41, _⟩ => ⟨S512x1024, .f32⟩
  | .hbm, ⟨42, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== Kernel13.lean ====
abbrev S4096x704 : Shape := ⟨2, ![4096, 704]⟩
abbrev S7x4096x704 : Shape := ⟨3, ![7, 4096, 704]⟩
abbrev S256x704 : Shape := ⟨2, ![256, 704]⟩
abbrev S7x256x704 : Shape := ⟨3, ![7, 256, 704]⟩
abbrev S1x256x704 : Shape := ⟨3, ![1, 256, 704]⟩

abbrev nBuf : Space → Nat
  | .hbm => 9
  | .vmem => 18
  | .smem => 0
  | _ => 0

abbrev bufTy : (tb : Table) → Fin (tcTables nBuf tb) → BufTy
  | .hbm, ⟨0, _⟩ => ⟨S4096x704, .f32⟩
  | .hbm, ⟨1, _⟩ => ⟨S4096x704, .bf16⟩
  | .hbm, ⟨2, _⟩ => ⟨S7x4096x704, .bf16⟩
  | .hbm, ⟨3, _⟩ => ⟨S4096x704, .f32⟩
  | .hbm, ⟨4, _⟩ => ⟨S4096x704, .f32⟩
  | .hbm, ⟨5, _⟩ => ⟨S4096x704, .f32⟩
  | .hbm, ⟨6, _⟩ => ⟨S4096x704, .f32⟩
  | .hbm, ⟨7, _⟩ => ⟨S4096x704, .f32⟩
  | .hbm, ⟨8, _⟩ => ⟨S4096x704, .f32⟩
  | .local _ .vmem, ⟨0, _⟩ => ⟨S256x704, .f32⟩
  | .local _ .vmem, ⟨1, _⟩ => ⟨S256x704, .f32⟩
  | .local _ .vmem, ⟨2, _⟩ => ⟨S256x704, .bf16⟩
  | .local _ .vmem, ⟨3, _⟩ => ⟨S256x704, .bf16⟩
  | .local _ .vmem, ⟨4, _⟩ => ⟨S7x256x704, .bf16⟩
  | .local _ .vmem, ⟨5, _⟩ => ⟨S7x256x704, .bf16⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | .local _ .vmem, ⟨14, _⟩ => ⟨S256x704, .f32⟩
  | .local _ .vmem, ⟨15, _⟩ => ⟨S256x704, .f32⟩
  | .local _ .vmem, ⟨16, _⟩ => ⟨S256x704, .f32⟩
  | .local _ .vmem, ⟨17, _⟩ => ⟨S256x704, .f32⟩
  | _, _ => ⟨S4096x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S7x256x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference13Ideal.lean ====
abbrev S4096x704 : Shape := ⟨2, ![4096, 704]⟩
abbrev S7x4096x704 : Shape := ⟨3, ![7, 4096, 704]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S4096x704, .f32⟩
  | .hbm, ⟨1, _⟩ => ⟨S4096x704, .bf16⟩
  | .hbm, ⟨2, _⟩ => ⟨S7x4096x704, .bf16⟩
  | .hbm, ⟨3, _⟩ => ⟨S4096x704, .f32⟩
  | .hbm, ⟨4, _⟩ => ⟨S4096x704, .f32⟩
  | .hbm, ⟨5, _⟩ => ⟨S4096x704, .f32⟩
  | .hbm, ⟨6, _⟩ => ⟨S7x4096x704, .f32⟩
  | .hbm, ⟨7, _⟩ => ⟨S_, .f32⟩
  | .hbm, ⟨8, _⟩ => ⟨S4096x704, .f32⟩
  | .hbm, ⟨9, _⟩ => ⟨S4096x704, .f32⟩
  | .hbm, ⟨10, _⟩ => ⟨S_, .f32⟩
  | .hbm, ⟨11, _⟩ => ⟨S4096x704, .f32⟩
  | .hbm, ⟨12, _⟩ => ⟨S4096x704, .f32⟩
  | .hbm, ⟨13, _⟩ => ⟨S_, .f32⟩
  | .hbm, ⟨14, _⟩ => ⟨S4096x704, .f32⟩
  | .hbm, ⟨15, _⟩ => ⟨S4096x704, .f32⟩
  | .hbm, ⟨16, _⟩ => ⟨S4096x704, .f32⟩
  | .hbm, ⟨17, _⟩ => ⟨S_, .f32⟩
  | .hbm, ⟨18, _⟩ => ⟨S4096x704, .f32⟩
  | .hbm, ⟨19, _⟩ => ⟨S4096x704, .f32⟩
  | .hbm, ⟨20, _⟩ => ⟨S4096x704, .f32⟩
  | .hbm, ⟨21, _⟩ => ⟨S_, .f32⟩
  | .hbm, ⟨22, _⟩ => ⟨S4096x704, .f32⟩
  | .hbm, ⟨23, _⟩ => ⟨S4096x704, .f32⟩
  | .hbm, ⟨24, _⟩ => ⟨S4096x704, .f32⟩
  | .hbm, ⟨25, _⟩ => ⟨S_, .f32⟩
  | .hbm, ⟨26, _⟩ => ⟨S4096x704, .f32⟩
  | .hbm, ⟨27, _⟩ => ⟨S4096x704, .f32⟩
  | .hbm, ⟨28, _⟩ => ⟨S_, .f32⟩
  | .hbm, ⟨29, _⟩ => ⟨S4096x704, .f32⟩
  | .hbm, ⟨30, _⟩ => ⟨S4096x704, .f32⟩
  | .hbm, ⟨31, _⟩ => ⟨S4096x704, .f32⟩
  | .hbm, ⟨32, _⟩ => ⟨S_, .f32⟩
  | .hbm, ⟨33, _⟩ => ⟨S4096x704, .f32⟩
  | .hbm, ⟨34, _⟩ => ⟨S4096x704, .f32⟩
  | .hbm, ⟨35, _⟩ => ⟨S4096x704, .f32⟩
  | .hbm, ⟨36, _⟩ => ⟨S_, .f32⟩
  | .hbm, ⟨37, _⟩ => ⟨S4096x704, .f32⟩
  | .hbm, ⟨38, _⟩ => ⟨S4096x704, .f32⟩
  | .hbm, ⟨39, _⟩ => ⟨S4096x704, .f32⟩
  | .hbm, ⟨40, _⟩ => ⟨S_, .f32⟩
  | .hbm, ⟨41, _⟩ => ⟨S4096x704, .f32⟩
  | .hbm, ⟨42, _⟩ => ⟨S4096x704, .f32⟩
  | _, _ => ⟨S4096x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== Kernel14.lean ====
abbrev S1408x1024 : Shape := ⟨2, ![1408, 1024]⟩
abbrev S7x1408x1024 : Shape := ⟨3, ![7, 1408, 1024]⟩
abbrev S176x1024 : Shape := ⟨2, ![176, 1024]⟩
abbrev S7x176x1024 : Shape := ⟨3, ![7, 176, 1024]⟩
abbrev S1x176x1024 : Shape := ⟨3, ![1, 176, 1024]⟩

abbrev nBuf : Space → Nat
  | .hbm => 9
  | .vmem => 18
  | .smem => 0
  | _ => 0

abbrev bufTy : (tb : Table) → Fin (tcTables nBuf tb) → BufTy
  | .hbm, ⟨0, _⟩ => ⟨S1408x1024, .f32⟩
  | .hbm, ⟨1, _⟩ => ⟨S1408x1024, .bf16⟩
  | .hbm, ⟨2, _⟩ => ⟨S7x1408x1024, .bf16⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .bf16⟩
  | .local _ .vmem, ⟨3, _⟩ => ⟨S176x1024, .bf16⟩
  | .local _ .vmem, ⟨4, _⟩ => ⟨S7x176x1024, .bf16⟩
  | .local _ .vmem, ⟨5, _⟩ => ⟨S7x176x1024, .bf16⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S7x176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference14Ideal.lean ====
abbrev S1408x1024 : Shape := ⟨2, ![1408, 1024]⟩
abbrev S7x1408x1024 : Shape := ⟨3, ![7, 1408, 1024]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S1408x1024, .f32⟩
  | .hbm, ⟨1, _⟩ => ⟨S1408x1024, .bf16⟩
  | .hbm, ⟨2, _⟩ => ⟨S7x1408x1024, .bf16⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S7x1408x1024, .f32⟩
  | .hbm, ⟨7, _⟩ => ⟨S_, .f32⟩
  | .hbm, ⟨8, _⟩ => ⟨S1408x1024, .f32⟩
  | .hbm, ⟨9, _⟩ => ⟨S1408x1024, .f32⟩
  | .hbm, ⟨10, _⟩ => ⟨S_, .f32⟩
  | .hbm, ⟨11, _⟩ => ⟨S1408x1024, .f32⟩
  | .hbm, ⟨12, _⟩ => ⟨S1408x1024, .f32⟩
  | .hbm, ⟨13, _⟩ => ⟨S_, .f32⟩
  | .hbm, ⟨14, _⟩ => ⟨S1408x1024, .f32⟩
  | .hbm, ⟨15, _⟩ => ⟨S1408x1024, .f32⟩
  | .hbm, ⟨16, _⟩ => ⟨S1408x1024, .f32⟩
  | .hbm, ⟨17, _⟩ => ⟨S_, .f32⟩
  | .hbm, ⟨18, _⟩ => ⟨S1408x1024, .f32⟩
  | .hbm, ⟨19, _⟩ => ⟨S1408x1024, .f32⟩
  | .hbm, ⟨20, _⟩ => ⟨S1408x1024, .f32⟩
  | .hbm, ⟨21, _⟩ => ⟨S_, .f32⟩
  | .hbm, ⟨22, _⟩ => ⟨S1408x1024, .f32⟩
  | .hbm, ⟨23, _⟩ => ⟨S1408x1024, .f32⟩
  | .hbm, ⟨24, _⟩ => ⟨S1408x1024, .f32⟩
  | .hbm, ⟨25, _⟩ => ⟨S_, .f32⟩
  | .hbm, ⟨26, _⟩ => ⟨S1408x1024, .f32⟩
  | .hbm, ⟨27, _⟩ => ⟨S1408x1024, .f32⟩
  | .hbm, ⟨28, _⟩ => ⟨S_, .f32⟩
  | .hbm, ⟨29, _⟩ => ⟨S1408x1024, .f32⟩
  | .hbm, ⟨30, _⟩ => ⟨S1408x1024, .f32⟩
  | .hbm, ⟨31, _⟩ => ⟨S1408x1024, .f32⟩
  | .hbm, ⟨32, _⟩ => ⟨S_, .f32⟩
  | .hbm, ⟨33, _⟩ => ⟨S1408x1024, .f32⟩
  | .hbm, ⟨34, _⟩ => ⟨S1408x1024, .f32⟩
  | .hbm, ⟨35, _⟩ => ⟨S1408x1024, .f32⟩
  | .hbm, ⟨36, _⟩ => ⟨S_, .f32⟩
  | .hbm, ⟨37, _⟩ => ⟨S1408x1024, .f32⟩
  | .hbm, ⟨38, _⟩ => ⟨S1408x1024, .f32⟩
  | .hbm, ⟨39, _⟩ => ⟨S1408x1024, .f32⟩
  | .hbm, ⟨40, _⟩ => ⟨S_, .f32⟩
  | .hbm, ⟨41, _⟩ => ⟨S1408x1024, .f32⟩
  | .hbm, ⟨42, _⟩ => ⟨S1408x1024, .f32⟩
  | _, _ => ⟨S1408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== Kernel15.lean ====
abbrev S256x1024 : Shape := ⟨2, ![256, 1024]⟩
abbrev S7x256x1024 : Shape := ⟨3, ![7, 256, 1024]⟩
abbrev S1x256x1024 : Shape := ⟨3, ![1, 256, 1024]⟩

abbrev nBuf : Space → Nat
  | .hbm => 9
  | .vmem => 9
  | .smem => 0
  | _ => 0

abbrev bufTy : (tb : Table) → Fin (tcTables nBuf tb) → BufTy
  | .hbm, ⟨0, _⟩ => ⟨S256x1024, .f32⟩
  | .hbm, ⟨1, _⟩ => ⟨S256x1024, .bf16⟩
  | .hbm, ⟨2, _⟩ => ⟨S7x256x1024, .bf16⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S256x1024, .f32⟩
  | .local _ .vmem, ⟨1, _⟩ => ⟨S256x1024, .bf16⟩
  | .local _ .vmem, ⟨2, _⟩ => ⟨S7x256x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S7x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference15Ideal.lean ====
abbrev S256x1024 : Shape := ⟨2, ![256, 1024]⟩
abbrev S7x256x1024 : Shape := ⟨3, ![7, 256, 1024]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .bf16⟩
  | .hbm, ⟨2, _⟩ => ⟨S7x256x1024, .bf16⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S7x256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S_, .f32⟩
  | .hbm, ⟨11, _⟩ => ⟨S256x1024, .f32⟩
  | .hbm, ⟨12, _⟩ => ⟨S256x1024, .f32⟩
  | .hbm, ⟨13, _⟩ => ⟨S_, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S_, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S_, .f32⟩
  | .hbm, ⟨22, _⟩ => ⟨S256x1024, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S256x1024, .f32⟩
  | .hbm, ⟨27, _⟩ => ⟨S256x1024, .f32⟩
  | .hbm, ⟨28, _⟩ => ⟨S_, .f32⟩
  | .hbm, ⟨29, _⟩ => ⟨S256x1024, .f32⟩
  | .hbm, ⟨30, _⟩ => ⟨S256x1024, .f32⟩
  | .hbm, ⟨31, _⟩ => ⟨S256x1024, .f32⟩
  | .hbm, ⟨32, _⟩ => ⟨S_, .f32⟩
  | .hbm, ⟨33, _⟩ => ⟨S256x1024, .f32⟩
  | .hbm, ⟨34, _⟩ => ⟨S256x1024, .f32⟩
  | .hbm, ⟨35, _⟩ => ⟨S256x1024, .f32⟩
  | .hbm, ⟨36, _⟩ => ⟨S_, .f32⟩
  | .hbm, ⟨37, _⟩ => ⟨S256x1024, .f32⟩
  | .hbm, ⟨38, _⟩ => ⟨S256x1024, .f32⟩
  | .hbm, ⟨39, _⟩ => ⟨S256x1024, .f32⟩
  | .hbm, ⟨40, _⟩ => ⟨S_, .f32⟩
  | .hbm, ⟨41, _⟩ => ⟨S256x1024, .f32⟩
  | .hbm, ⟨42, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== Kernel16.lean ====
abbrev S128x256 : Shape := ⟨2, ![128, 256]⟩
abbrev S7x128x256 : Shape := ⟨3, ![7, 128, 256]⟩
abbrev S1x128x256 : Shape := ⟨3, ![1, 128, 256]⟩

abbrev nBuf : Space → Nat
  | .hbm => 9
  | .vmem => 9
  | .smem => 0
  | _ => 0

abbrev bufTy : (tb : Table) → Fin (tcTables nBuf tb) → BufTy
  | .hbm, ⟨0, _⟩ => ⟨S128x256, .f32⟩
  | .hbm, ⟨1, _⟩ => ⟨S128x256, .bf16⟩
  | .hbm, ⟨2, _⟩ => ⟨S7x128x256, .bf16⟩
  | .hbm, ⟨3, _⟩ => ⟨S128x256, .f32⟩
  | .hbm, ⟨4, _⟩ => ⟨S128x256, .f32⟩
  | .hbm, ⟨5, _⟩ => ⟨S128x256, .f32⟩
  | .hbm, ⟨6, _⟩ => ⟨S128x256, .f32⟩
  | .hbm, ⟨7, _⟩ => ⟨S128x256, .f32⟩
  | .hbm, ⟨8, _⟩ => ⟨S128x256, .f32⟩
  | .local _ .vmem, ⟨0, _⟩ => ⟨S128x256, .f32⟩
  | .local _ .vmem, ⟨1, _⟩ => ⟨S128x256, .bf16⟩
  | .local _ .vmem, ⟨2, _⟩ => ⟨S7x128x256, .bf16⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | _, _ => ⟨S128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S7x128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference16Ideal.lean ====
abbrev S128x256 : Shape := ⟨2, ![128, 256]⟩
abbrev S7x128x256 : Shape := ⟨3, ![7, 128, 256]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S128x256, .f32⟩
  | .hbm, ⟨1, _⟩ => ⟨S128x256, .bf16⟩
  | .hbm, ⟨2, _⟩ => ⟨S7x128x256, .bf16⟩
  | .hbm, ⟨3, _⟩ => ⟨S128x256, .f32⟩
  | .hbm, ⟨4, _⟩ => ⟨S128x256, .f32⟩
  | .hbm, ⟨5, _⟩ => ⟨S128x256, .f32⟩
  | .hbm, ⟨6, _⟩ => ⟨S7x128x256, .f32⟩
  | .hbm, ⟨7, _⟩ => ⟨S_, .f32⟩
  | .hbm, ⟨8, _⟩ => ⟨S128x256, .f32⟩
  | .hbm, ⟨9, _⟩ => ⟨S128x256, .f32⟩
  | .hbm, ⟨10, _⟩ => ⟨S_, .f32⟩
  | .hbm, ⟨11, _⟩ => ⟨S128x256, .f32⟩
  | .hbm, ⟨12, _⟩ => ⟨S128x256, .f32⟩
  | .hbm, ⟨13, _⟩ => ⟨S_, .f32⟩
  | .hbm, ⟨14, _⟩ => ⟨S128x256, .f32⟩
  | .hbm, ⟨15, _⟩ => ⟨S128x256, .f32⟩
  | .hbm, ⟨16, _⟩ => ⟨S128x256, .f32⟩
  | .hbm, ⟨17, _⟩ => ⟨S_, .f32⟩
  | .hbm, ⟨18, _⟩ => ⟨S128x256, .f32⟩
  | .hbm, ⟨19, _⟩ => ⟨S128x256, .f32⟩
  | .hbm, ⟨20, _⟩ => ⟨S128x256, .f32⟩
  | .hbm, ⟨21, _⟩ => ⟨S_, .f32⟩
  | .hbm, ⟨22, _⟩ => ⟨S128x256, .f32⟩
  | .hbm, ⟨23, _⟩ => ⟨S128x256, .f32⟩
  | .hbm, ⟨24, _⟩ => ⟨S128x256, .f32⟩
  | .hbm, ⟨25, _⟩ => ⟨S_, .f32⟩
  | .hbm, ⟨26, _⟩ => ⟨S128x256, .f32⟩
  | .hbm, ⟨27, _⟩ => ⟨S128x256, .f32⟩
  | .hbm, ⟨28, _⟩ => ⟨S_, .f32⟩
  | .hbm, ⟨29, _⟩ => ⟨S128x256, .f32⟩
  | .hbm, ⟨30, _⟩ => ⟨S128x256, .f32⟩
  | .hbm, ⟨31, _⟩ => ⟨S128x256, .f32⟩
  | .hbm, ⟨32, _⟩ => ⟨S_, .f32⟩
  | .hbm, ⟨33, _⟩ => ⟨S128x256, .f32⟩
  | .hbm, ⟨34, _⟩ => ⟨S128x256, .f32⟩
  | .hbm, ⟨35, _⟩ => ⟨S128x256, .f32⟩
  | .hbm, ⟨36, _⟩ => ⟨S_, .f32⟩
  | .hbm, ⟨37, _⟩ => ⟨S128x256, .f32⟩
  | .hbm, ⟨38, _⟩ => ⟨S128x256, .f32⟩
  | .hbm, ⟨39, _⟩ => ⟨S128x256, .f32⟩
  | .hbm, ⟨40, _⟩ => ⟨S_, .f32⟩
  | .hbm, ⟨41, _⟩ => ⟨S128x256, .f32⟩
  | .hbm, ⟨42, _⟩ => ⟨S128x256, .f32⟩
  | _, _ => ⟨S128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== Kernel17.lean ====
abbrev S512x512 : Shape := ⟨2, ![512, 512]⟩
abbrev S7x512x512 : Shape := ⟨3, ![7, 512, 512]⟩
abbrev S256x512 : Shape := ⟨2, ![256, 512]⟩
abbrev S7x256x512 : Shape := ⟨3, ![7, 256, 512]⟩
abbrev S1x256x512 : Shape := ⟨3, ![1, 256, 512]⟩

abbrev nBuf : Space → Nat
  | .hbm => 9
  | .vmem => 18
  | .smem => 0
  | _ => 0

abbrev bufTy : (tb : Table) → Fin (tcTables nBuf tb) → BufTy
  | .hbm, ⟨0, _⟩ => ⟨S512x512, .f32⟩
  | .hbm, ⟨1, _⟩ => ⟨S512x512, .bf16⟩
  | .hbm, ⟨2, _⟩ => ⟨S7x512x512, .bf16⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S512x512, .f32⟩
  | .hbm, ⟨8, _⟩ => ⟨S512x512, .f32⟩
  | .local _ .vmem, ⟨0, _⟩ => ⟨S256x512, .f32⟩
  | .local _ .vmem, ⟨1, _⟩ => ⟨S256x512, .f32⟩
  | .local _ .vmem, ⟨2, _⟩ => ⟨S256x512, .bf16⟩
  | .local _ .vmem, ⟨3, _⟩ => ⟨S256x512, .bf16⟩
  | .local _ .vmem, ⟨4, _⟩ => ⟨S7x256x512, .bf16⟩
  | .local _ .vmem, ⟨5, _⟩ => ⟨S7x256x512, .bf16⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S7x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference17Ideal.lean ====
abbrev S512x512 : Shape := ⟨2, ![512, 512]⟩
abbrev S7x512x512 : Shape := ⟨3, ![7, 512, 512]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512x512, .bf16⟩
  | .hbm, ⟨2, _⟩ => ⟨S7x512x512, .bf16⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S7x512x512, .f32⟩
  | .hbm, ⟨7, _⟩ => ⟨S_, .f32⟩
  | .hbm, ⟨8, _⟩ => ⟨S512x512, .f32⟩
  | .hbm, ⟨9, _⟩ => ⟨S512x512, .f32⟩
  | .hbm, ⟨10, _⟩ => ⟨S_, .f32⟩
  | .hbm, ⟨11, _⟩ => ⟨S512x512, .f32⟩
  | .hbm, ⟨12, _⟩ => ⟨S512x512, .f32⟩
  | .hbm, ⟨13, _⟩ => ⟨S_, .f32⟩
  | .hbm, ⟨14, _⟩ => ⟨S512x512, .f32⟩
  | .hbm, ⟨15, _⟩ => ⟨S512x512, .f32⟩
  | .hbm, ⟨16, _⟩ => ⟨S512x512, .f32⟩
  | .hbm, ⟨17, _⟩ => ⟨S_, .f32⟩
  | .hbm, ⟨18, _⟩ => ⟨S512x512, .f32⟩
  | .hbm, ⟨19, _⟩ => ⟨S512x512, .f32⟩
  | .hbm, ⟨20, _⟩ => ⟨S512x512, .f32⟩
  | .hbm, ⟨21, _⟩ => ⟨S_, .f32⟩
  | .hbm, ⟨22, _⟩ => ⟨S512x512, .f32⟩
  | .hbm, ⟨23, _⟩ => ⟨S512x512, .f32⟩
  | .hbm, ⟨24, _⟩ => ⟨S512x512, .f32⟩
  | .hbm, ⟨25, _⟩ => ⟨S_, .f32⟩
  | .hbm, ⟨26, _⟩ => ⟨S512x512, .f32⟩
  | .hbm, ⟨27, _⟩ => ⟨S512x512, .f32⟩
  | .hbm, ⟨28, _⟩ => ⟨S_, .f32⟩
  | .hbm, ⟨29, _⟩ => ⟨S512x512, .f32⟩
  | .hbm, ⟨30, _⟩ => ⟨S512x512, .f32⟩
  | .hbm, ⟨31, _⟩ => ⟨S512x512, .f32⟩
  | .hbm, ⟨32, _⟩ => ⟨S_, .f32⟩
  | .hbm, ⟨33, _⟩ => ⟨S512x512, .f32⟩
  | .hbm, ⟨34, _⟩ => ⟨S512x512, .f32⟩
  | .hbm, ⟨35, _⟩ => ⟨S512x512, .f32⟩
  | .hbm, ⟨36, _⟩ => ⟨S_, .f32⟩
  | .hbm, ⟨37, _⟩ => ⟨S512x512, .f32⟩
  | .hbm, ⟨38, _⟩ => ⟨S512x512, .f32⟩
  | .hbm, ⟨39, _⟩ => ⟨S512x512, .f32⟩
  | .hbm, ⟨40, _⟩ => ⟨S_, .f32⟩
  | .hbm, ⟨41, _⟩ => ⟨S512x512, .f32⟩
  | .hbm, ⟨42, _⟩ => ⟨S512x512, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== Kernel18.lean ====
abbrev S256x3456 : Shape := ⟨2, ![256, 3456]⟩
abbrev S7x256x3456 : Shape := ⟨3, ![7, 256, 3456]⟩
abbrev S1x256x3456 : Shape := ⟨3, ![1, 256, 3456]⟩

abbrev nBuf : Space → Nat
  | .hbm => 9
  | .vmem => 9
  | .smem => 0
  | _ => 0

abbrev bufTy : (tb : Table) → Fin (tcTables nBuf tb) → BufTy
  | .hbm, ⟨0, _⟩ => ⟨S256x3456, .f32⟩
  | .hbm, ⟨1, _⟩ => ⟨S256x3456, .bf16⟩
  | .hbm, ⟨2, _⟩ => ⟨S7x256x3456, .bf16⟩
  | .hbm, ⟨3, _⟩ => ⟨S256x3456, .f32⟩
  | .hbm, ⟨4, _⟩ => ⟨S256x3456, .f32⟩
  | .hbm, ⟨5, _⟩ => ⟨S256x3456, .f32⟩
  | .hbm, ⟨6, _⟩ => ⟨S256x3456, .f32⟩
  | .hbm, ⟨7, _⟩ => ⟨S256x3456, .f32⟩
  | .hbm, ⟨8, _⟩ => ⟨S256x3456, .f32⟩
  | .local _ .vmem, ⟨0, _⟩ => ⟨S256x3456, .f32⟩
  | .local _ .vmem, ⟨1, _⟩ => ⟨S256x3456, .bf16⟩
  | .local _ .vmem, ⟨2, _⟩ => ⟨S7x256x3456, .bf16⟩
  | .local _ .vmem, ⟨3, _⟩ => ⟨S256x3456, .f32⟩
  | .local _ .vmem, ⟨4, _⟩ => ⟨S256x3456, .f32⟩
  | .local _ .vmem, ⟨5, _⟩ => ⟨S256x3456, .f32⟩
  | .local _ .vmem, ⟨6, _⟩ => ⟨S256x3456, .f32⟩
  | .local _ .vmem, ⟨7, _⟩ => ⟨S256x3456, .f32⟩
  | .local _ .vmem, ⟨8, _⟩ => ⟨S256x3456, .f32⟩
  | _, _ => ⟨S256x3456, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x3456 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x3456 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S7x256x3456 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x3456 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x3456 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x3456 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x3456 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x3456 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x3456 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference18Ideal.lean ====
abbrev S256x3456 : Shape := ⟨2, ![256, 3456]⟩
abbrev S7x256x3456 : Shape := ⟨3, ![7, 256, 3456]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S256x3456, .f32⟩
  | .hbm, ⟨1, _⟩ => ⟨S256x3456, .bf16⟩
  | .hbm, ⟨2, _⟩ => ⟨S7x256x3456, .bf16⟩
  | .hbm, ⟨3, _⟩ => ⟨S256x3456, .f32⟩
  | .hbm, ⟨4, _⟩ => ⟨S256x3456, .f32⟩
  | .hbm, ⟨5, _⟩ => ⟨S256x3456, .f32⟩
  | .hbm, ⟨6, _⟩ => ⟨S7x256x3456, .f32⟩
  | .hbm, ⟨7, _⟩ => ⟨S_, .f32⟩
  | .hbm, ⟨8, _⟩ => ⟨S256x3456, .f32⟩
  | .hbm, ⟨9, _⟩ => ⟨S256x3456, .f32⟩
  | .hbm, ⟨10, _⟩ => ⟨S_, .f32⟩
  | .hbm, ⟨11, _⟩ => ⟨S256x3456, .f32⟩
  | .hbm, ⟨12, _⟩ => ⟨S256x3456, .f32⟩
  | .hbm, ⟨13, _⟩ => ⟨S_, .f32⟩
  | .hbm, ⟨14, _⟩ => ⟨S256x3456, .f32⟩
  | .hbm, ⟨15, _⟩ => ⟨S256x3456, .f32⟩
  | .hbm, ⟨16, _⟩ => ⟨S256x3456, .f32⟩
  | .hbm, ⟨17, _⟩ => ⟨S_, .f32⟩
  | .hbm, ⟨18, _⟩ => ⟨S256x3456, .f32⟩
  | .hbm, ⟨19, _⟩ => ⟨S256x3456, .f32⟩
  | .hbm, ⟨20, _⟩ => ⟨S256x3456, .f32⟩
  | .hbm, ⟨21, _⟩ => ⟨S_, .f32⟩
  | .hbm, ⟨22, _⟩ => ⟨S256x3456, .f32⟩
  | .hbm, ⟨23, _⟩ => ⟨S256x3456, .f32⟩
  | .hbm, ⟨24, _⟩ => ⟨S256x3456, .f32⟩
  | .hbm, ⟨25, _⟩ => ⟨S_, .f32⟩
  | .hbm, ⟨26, _⟩ => ⟨S256x3456, .f32⟩
  | .hbm, ⟨27, _⟩ => ⟨S256x3456, .f32⟩
  | .hbm, ⟨28, _⟩ => ⟨S_, .f32⟩
  | .hbm, ⟨29, _⟩ => ⟨S256x3456, .f32⟩
  | .hbm, ⟨30, _⟩ => ⟨S256x3456, .f32⟩
  | .hbm, ⟨31, _⟩ => ⟨S256x3456, .f32⟩
  | .hbm, ⟨32, _⟩ => ⟨S_, .f32⟩
  | .hbm, ⟨33, _⟩ => ⟨S256x3456, .f32⟩
  | .hbm, ⟨34, _⟩ => ⟨S256x3456, .f32⟩
  | .hbm, ⟨35, _⟩ => ⟨S256x3456, .f32⟩
  | .hbm, ⟨36, _⟩ => ⟨S_, .f32⟩
  | .hbm, ⟨37, _⟩ => ⟨S256x3456, .f32⟩
  | .hbm, ⟨38, _⟩ => ⟨S256x3456, .f32⟩
  | .hbm, ⟨39, _⟩ => ⟨S256x3456, .f32⟩
  | .hbm, ⟨40, _⟩ => ⟨S_, .f32⟩
  | .hbm, ⟨41, _⟩ => ⟨S256x3456, .f32⟩
  | .hbm, ⟨42, _⟩ => ⟨S256x3456, .f32⟩
  | _, _ => ⟨S256x3456, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== Kernel19.lean ====
abbrev S24x1024 : Shape := ⟨2, ![24, 1024]⟩
abbrev S8x1024 : Shape := ⟨2, ![8, 1024]⟩

abbrev nBuf : Space → Nat
  | .hbm => 7
  | .vmem => 14
  | .smem => 0
  | _ => 0

abbrev bufTy : (tb : Table) → Fin (tcTables nBuf tb) → BufTy
  | .hbm, ⟨0, _⟩ => ⟨S24x1024, .f32⟩
  | .hbm, ⟨1, _⟩ => ⟨S24x1024, .f32⟩
  | .hbm, ⟨2, _⟩ => ⟨S24x1024, .f32⟩
  | .hbm, ⟨3, _⟩ => ⟨S24x1024, .f32⟩
  | .hbm, ⟨4, _⟩ => ⟨S24x1024, .f32⟩
  | .hbm, ⟨5, _⟩ => ⟨S24x1024, .f32⟩
  | .hbm, ⟨6, _⟩ => ⟨S24x1024, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S8x1024, .f32⟩
  | .local _ .vmem, ⟨9, _⟩ => ⟨S8x1024, .f32⟩
  | .local _ .vmem, ⟨10, _⟩ => ⟨S8x1024, .f32⟩
  | .local _ .vmem, ⟨11, _⟩ => ⟨S8x1024, .f32⟩
  | .local _ .vmem, ⟨12, _⟩ => ⟨S8x1024, .f32⟩
  | .local _ .vmem, ⟨13, _⟩ => ⟨S8x1024, .f32⟩
  | _, _ => ⟨S24x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference19Ideal.lean ====
abbrev S24x1024 : Shape := ⟨2, ![24, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S24x1024, .f32⟩
  | .hbm, ⟨1, _⟩ => ⟨S24x1024, .f32⟩
  | .hbm, ⟨2, _⟩ => ⟨S24x1024, .f32⟩
  | .hbm, ⟨3, _⟩ => ⟨S24x1024, .f32⟩
  | .hbm, ⟨4, _⟩ => ⟨S_, .f32⟩
  | .hbm, ⟨5, _⟩ => ⟨S24x1024, .f32⟩
  | .hbm, ⟨6, _⟩ => ⟨S24x1024, .f32⟩
  | .hbm, ⟨7, _⟩ => ⟨S_, .f32⟩
  | .hbm, ⟨8, _⟩ => ⟨S24x1024, .f32⟩
  | .hbm, ⟨9, _⟩ => ⟨S24x1024, .f32⟩
  | .hbm, ⟨10, _⟩ => ⟨S24x1024, .f32⟩
  | .hbm, ⟨11, _⟩ => ⟨S_, .f32⟩
  | .hbm, ⟨12, _⟩ => ⟨S24x1024, .f32⟩
  | .hbm, ⟨13, _⟩ => ⟨S24x1024, .f32⟩
  | .hbm, ⟨14, _⟩ => ⟨S24x1024, .f32⟩
  | .hbm, ⟨15, _⟩ => ⟨S_, .f32⟩
  | .hbm, ⟨16, _⟩ => ⟨S24x1024, .f32⟩
  | .hbm, ⟨17, _⟩ => ⟨S24x1024, .f32⟩
  | .hbm, ⟨18, _⟩ => ⟨S24x1024, .f32⟩
  | .hbm, ⟨19, _⟩ => ⟨S_, .f32⟩
  | .hbm, ⟨20, _⟩ => ⟨S24x1024, .f32⟩
  | .hbm, ⟨21, _⟩ => ⟨S24x1024, .f32⟩
  | .hbm, ⟨22, _⟩ => ⟨S_, .f32⟩
  | .hbm, ⟨23, _⟩ => ⟨S24x1024, .f32⟩
  | .hbm, ⟨24, _⟩ => ⟨S24x1024, .f32⟩
  | .hbm, ⟨25, _⟩ => ⟨S24x1024, .f32⟩
  | .hbm, ⟨26, _⟩ => ⟨S_, .f32⟩
  | .hbm, ⟨27, _⟩ => ⟨S24x1024, .f32⟩
  | .hbm, ⟨28, _⟩ => ⟨S24x1024, .f32⟩
  | .hbm, ⟨29, _⟩ => ⟨S24x1024, .f32⟩
  | .hbm, ⟨30, _⟩ => ⟨S_, .f32⟩
  | .hbm, ⟨31, _⟩ => ⟨S24x1024, .f32⟩
  | .hbm, ⟨32, _⟩ => ⟨S24x1024, .f32⟩
  | .hbm, ⟨33, _⟩ => ⟨S24x1024, .f32⟩
  | .hbm, ⟨34, _⟩ => ⟨S_, .f32⟩
  | .hbm, ⟨35, _⟩ => ⟨S24x1024, .f32⟩
  | .hbm, ⟨36, _⟩ => ⟨S24x1024, .f32⟩
  | _, _ => ⟨S24x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel20.lean ====
abbrev S16384x1024 : Shape := ⟨2, ![16384, 1024]⟩
abbrev S1024 : Shape := ⟨1, ![1024]⟩
abbrev S1024x1024 : Shape := ⟨2, ![1024, 1024]⟩
abbrev S1x1024 : Shape := ⟨2, ![1, 1024]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1024, .bf16⟩
  | .hbm, ⟨3, _⟩ => ⟨S1x1024, .f32⟩
  | .hbm, ⟨4, _⟩ => ⟨S16384x1024, .f32⟩
  | .hbm, ⟨5, _⟩ => ⟨S16384x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference20Ideal.lean ====
abbrev S16384x1024 : Shape := ⟨2, ![16384, 1024]⟩
abbrev S1024 : Shape := ⟨1, ![1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 22
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1024, .bf16⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S1024x1024, .f32⟩
  | .hbm, ⟨20, _⟩ => ⟨S16384x1024, .f32⟩
  | .hbm, ⟨21, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel21.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 11
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S1024, .f32⟩
  | .hbm, ⟨4, _⟩ => ⟨S16384x1024, .f32⟩
  | .hbm, ⟨5, _⟩ => ⟨S1x1024, .f32⟩
  | .hbm, ⟨6, _⟩ => ⟨S16384x1024, .f32⟩
  | .hbm, ⟨7, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference21Ideal.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S1024, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S1024x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S1024, .f32⟩
  | .hbm, ⟨37, _⟩ => ⟨S16384x1024, .f32⟩
  | .hbm, ⟨38, _⟩ => ⟨S_, .f32⟩
  | .hbm, ⟨39, _⟩ => ⟨S16384, .f32⟩
  | .hbm, ⟨40, _⟩ => ⟨S16384x1, .f32⟩
  | .hbm, ⟨41, _⟩ => ⟨S16384x1024, .f32⟩
  | .hbm, ⟨42, _⟩ => ⟨S16384x1024, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S_, .f32⟩
  | .hbm, ⟨48, _⟩ => ⟨S16384, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S1x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel22.lean ====
abbrev S16384x1024 : Shape := ⟨2, ![16384, 1024]⟩
abbrev S1024 : Shape := ⟨1, ![1024]⟩
abbrev S1024x256 : Shape := ⟨2, ![1024, 256]⟩
abbrev S1x1024 : Shape := ⟨2, ![1, 1024]⟩
abbrev S16384x256 : Shape := ⟨2, ![16384, 256]⟩
abbrev S1024x1024 : Shape := ⟨2, ![1024, 1024]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x256, .bf16⟩
  | .hbm, ⟨3, _⟩ => ⟨S1x1024, .f32⟩
  | .hbm, ⟨4, _⟩ => ⟨S16384x256, .f32⟩
  | .hbm, ⟨5, _⟩ => ⟨S16384x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x256, .bf16⟩
  | .local _ .vmem, ⟨4, _⟩ => ⟨S1024x256, .f32⟩
  | .local _ .vmem, ⟨5, _⟩ => ⟨S1024x256, .f32⟩
  | .local _ .vmem, ⟨6, _⟩ => ⟨S1024x1024, .bf16⟩
  | .local _ .vmem, ⟨7, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference22Ideal.lean ====
abbrev S16384x1024 : Shape := ⟨2, ![16384, 1024]⟩
abbrev S1024 : Shape := ⟨1, ![1024]⟩
abbrev S1024x256 : Shape := ⟨2, ![1024, 256]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x256 : Shape := ⟨2, ![16384, 256]⟩

abbrev nBuf : Space → Nat
  | .hbm => 22
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x256, .bf16⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S1024x256, .f32⟩
  | .hbm, ⟨20, _⟩ => ⟨S16384x256, .f32⟩
  | .hbm, ⟨21, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel23.lean ====
abbrev S16384x1024 : Shape := ⟨2, ![16384, 1024]⟩
abbrev S1024 : Shape := ⟨1, ![1024]⟩
abbrev S1024x3456 : Shape := ⟨2, ![1024, 3456]⟩
abbrev S1x1024 : Shape := ⟨2, ![1, 1024]⟩
abbrev S16384x3456 : Shape := ⟨2, ![16384, 3456]⟩
abbrev S1024x1024 : Shape := ⟨2, ![1024, 1024]⟩
abbrev S1024x1152 : Shape := ⟨2, ![1024, 1152]⟩
abbrev S1024x1 : Shape := ⟨2, ![1024, 1]⟩

abbrev nBuf : Space → Nat
  | .hbm => 6
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3456, .bf16⟩
  | .hbm, ⟨3, _⟩ => ⟨S1x1024, .f32⟩
  | .hbm, ⟨4, _⟩ => ⟨S16384x3456, .f32⟩
  | .hbm, ⟨5, _⟩ => ⟨S16384x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1152, .bf16⟩
  | .local _ .vmem, ⟨4, _⟩ => ⟨S1024x1152, .bf16⟩
  | .local _ .vmem, ⟨5, _⟩ => ⟨S1024x1152, .f32⟩
  | .local _ .vmem, ⟨6, _⟩ => ⟨S1024x1152, .f32⟩
  | .local _ .vmem, ⟨7, _⟩ => ⟨S1024x1024, .bf16⟩
  | .local _ .vmem, ⟨8, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference23Ideal.lean ====
abbrev S16384x1024 : Shape := ⟨2, ![16384, 1024]⟩
abbrev S1024 : Shape := ⟨1, ![1024]⟩
abbrev S1024x3456 : Shape := ⟨2, ![1024, 3456]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3456 : Shape := ⟨2, ![16384, 3456]⟩

abbrev nBuf : Space → Nat
  | .hbm => 22
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3456, .bf16⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S1024x3456, .f32⟩
  | .hbm, ⟨20, _⟩ => ⟨S16384x3456, .f32⟩
  | .hbm, ⟨21, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.Bwd.Math.lean ====
/-
  The backward chunk recurrence of the gated delta rule, in extended reals.

  One chunk of one head has 64 tokens and a 128 × 128 state. `Tile` holds what the recurrence reads of it; the
  functions below are the cotangents of the chunk, given the cotangent `D` of the state that LEAVES the chunk.
-/
module

public import Idealize.ShloMosaic.PureOps.Ideal.Laws

@[expose] public section
noncomputable section

namespace Scan

/-- What one chunk of one head holds: the cotangent `dO` of the output, the forward quantities, and the state `s` that
    entered the chunk. The decay `gl` is kept per column (every column holds the same number). -/
structure Tile where
  dO : Fin 64 → Fin 128 → EReal
  u : Fin 64 → Fin 128 → EReal
  w : Fin 64 → Fin 128 → EReal
  qg : Fin 64 → Fin 128 → EReal
  kg : Fin 64 → Fin 128 → EReal
  a : Fin 64 → Fin 64 → EReal
  gl : Fin 128 → EReal
  s : Fin 128 → Fin 128 → EReal

/-- A 128 × 128 state, or the cotangent of one. -/
abbrev St := Fin 128 → Fin 128 → EReal

namespace Tile
variable (X : Tile) (D : St)

/-- The cotangent of the corrected values (and of `u`). -/
def dv (r : Fin 64) (j : Fin 128) : EReal := (∑ k, X.a k r * X.dO k j) + ∑ i, X.kg r i * D i j
/-- The corrected values, recomputed from the state that entered the chunk. -/
def vn (r : Fin 64) (j : Fin 128) : EReal := X.u r j - ∑ i, X.w r i * X.s i j
/-- The cotangent of `w`, negated as a whole. -/
def dw (r : Fin 64) (i : Fin 128) : EReal := 0 - ∑ j, X.dv D r j * X.s i j
def dqg (r : Fin 64) (i : Fin 128) : EReal := ∑ j, X.dO r j * X.s i j
def dkg (r : Fin 64) (i : Fin 128) : EReal := ∑ j, X.vn r j * D i j
def da (r k : Fin 64) : EReal := ∑ j, X.dO r j * X.vn k j
def dgl : EReal := ∑ i, ∑ j, X.s i j * D i j
/-- The cotangent of the state that ENTERED the chunk. -/
def next : St := fun i j =>
  D i j * X.gl j + (∑ r, X.qg r i * X.dO r j) - ∑ r, X.w r i * X.dv D r j

end Tile

/-- The state's cotangent after the last `k` chunks of a sequence of tiles read backwards: `X k` is the `k`-th from the end. -/
def back (X : ℕ → Tile) (D : St) : ℕ → St
  | 0 => D
  | k + 1 => (X k).next (back X D k)

theorem back_add (X : ℕ → Tile) (D : St) (p k : ℕ) : back X D (p + k) = back (fun n => X (p + n)) (back X D p) k := by
  induction k with
  | zero => rfl
  | succ k ih => show (X (p + k)).next (back X D (p + k)) = _; rw [ih]; rfl

theorem back_congr {X Y : ℕ → Tile} {D : St} (k : ℕ) (h : ∀ n < k, X n = Y n) : back X D k = back Y D k := by
  induction k with
  | zero => rfl
  | succ k ih =>
    show (X k).next _ = (Y k).next _
    rw [ih fun n hn => h n (by omega), h k (by omega)]

end Scan
-- ==== Proof.Bwd.RefMath.lean ====
/-
  The backward chunk recurrence as the gradient of the forward step writes it: every product with the cotangent on the
  left, and a minus sign carried inside the sums. And arrays of 256 chunks that a loop reads and fills one chunk at a time.
-/
module

public import proofs.«01_k».proof.Proof.Bwd.Math
public import Idealize.ShloMosaic.Lib.DynamicIndex
public import Idealize.ShloMosaic.Lib.WordCmp
public import Idealize.ShloMosaic.Lib.Pointwise

@[expose] public section
noncomputable section

namespace Scan
open Idealize.ShloMosaic

namespace Tile
variable (X : Tile) (D : St)

/-- The cotangent of the corrected values. -/
def rdv (r : Fin 64) (j : Fin 128) : EReal := (∑ i, D i j * X.kg r i) + ∑ k, X.dO k j * X.a k r
def rdw (r : Fin 64) (i : Fin 128) : EReal := ∑ j, (-(X.rdv D r j)) * X.s i j
def rdkg (r : Fin 64) (i : Fin 128) : EReal := ∑ j, D i j * X.vn r j
/-- The cotangent of the state that entered the chunk. -/
def rnext : St := fun i j =>
  D i j * X.gl j + (∑ r, X.dO r j * X.qg r i) + ∑ r, (-(X.rdv D r j)) * X.w r i

theorem eq_of {X Y : Tile} (h1 : X.dO = Y.dO) (h2 : X.u = Y.u) (h3 : X.w = Y.w) (h4 : X.qg = Y.qg) (h5 : X.kg = Y.kg)
    (h6 : X.a = Y.a) (h7 : X.gl = Y.gl) (h8 : X.s = Y.s) : X = Y := by
  cases X; cases Y; simp_all

end Tile

/-- The state's cotangent after the last `k` chunks, by the gradient's own step. -/
def rback (X : ℕ → Tile) (D : St) : ℕ → St
  | 0 => D
  | k + 1 => (X k).rnext (rback X D k)

/-! ## One chunk of an array of 256 -/

/-- The chunk that is read `k`-th of the 256: the last one first. -/
def rchk (k : ℕ) : Fin 256 := ⟨255 - k, by omega⟩

variable {α : Type} {a b c : ℕ}

/-- Chunk `n` of a four-dimensional array, read out of it. -/
theorem dynamicSlice_chunk4 (x : (⟨4, ![256, a, b, c]⟩ : Shape).Idx → α) (start : Fin 4 → Int) (n : Fin 256)
    (h : (⟨4, ![256, a, b, c]⟩ : Shape).Slices (fun _ => 0) ⟨4, ![1, a, b, c]⟩)
    (hs : ∀ p, start p = ((![n.val, 0, 0, 0] : Fin 4 → ℕ) p : Int)) :
    Host.dynamicSlice (⟨4, ![1, a, b, c]⟩ : Shape) x start h =
      fun y : (⟨4, ![1, a, b, c]⟩ : Shape).Idx => x (ix4 n (y 1) (y 2) (y 3)) := by
  have hf : (⟨4, ![256, a, b, c]⟩ : Shape).Slices (![n.val, 0, 0, 0] : Fin 4 → ℕ) ⟨4, ![1, a, b, c]⟩ := by
    refine ⟨rfl, fun p => ?_⟩
    fin_cases p <;> simp <;> omega
  rw [Host.dynamicSlice_eq_extractStridedSlice _ x start _ h hf hs]
  funext y
  have hy : (y 0).val = 0 := by have := (y 0).isLt; simp [Shape.size] at this; omega
  unfold extractStridedSlice
  congr 1
  funext p
  apply Fin.ext
  fin_cases p <;> simp [ix4, hy]

/-- Chunk `n` of a two-dimensional array, read out of it. -/
theorem dynamicSlice_chunk2 (x : (⟨2, ![256, a]⟩ : Shape).Idx → α) (start : Fin 2 → Int) (n : Fin 256)
    (h : (⟨2, ![256, a]⟩ : Shape).Slices (fun _ => 0) ⟨2, ![1, a]⟩)
    (hs : ∀ p, start p = ((![n.val, 0] : Fin 2 → ℕ) p : Int)) :
    Host.dynamicSlice (⟨2, ![1, a]⟩ : Shape) x start h = fun y : (⟨2, ![1, a]⟩ : Shape).Idx => x (ix2 n (y 1)) := by
  have hf : (⟨2, ![256, a]⟩ : Shape).Slices (![n.val, 0] : Fin 2 → ℕ) ⟨2, ![1, a]⟩ := by
    refine ⟨rfl, fun p => ?_⟩
    fin_cases p <;> simp <;> omega
  rw [Host.dynamicSlice_eq_extractStridedSlice _ x start _ h hf hs]
  funext y
  have hy : (y 0).val = 0 := by have := (y 0).isLt; simp [Shape.size] at this; omega
  unfold extractStridedSlice
  congr 1
  funext p
  apply Fin.ext
  fin_cases p <;> simp [ix2, hy]

/-- Writing chunk `n` of a four-dimensional array: the new chunk at `n`, the old array elsewhere. -/
theorem dynamicUpdateSlice_chunk4 (x : (⟨4, ![256, a, b, c]⟩ : Shape).Idx → α) (u : (⟨4, ![1, a, b, c]⟩ : Shape).Idx → α)
    (start : Fin 4 → Int) (n : Fin 256)
    (h : (⟨4, ![256, a, b, c]⟩ : Shape).Slices (fun _ => 0) ⟨4, ![1, a, b, c]⟩)
    (hs : ∀ p, start p = ((![n.val, 0, 0, 0] : Fin 4 → ℕ) p : Int)) (q : Fin 256) (y1 : Fin a) (y2 : Fin b) (y3 : Fin c) :
    Host.dynamicUpdateSlice x u start h (ix4 q y1 y2 y3) = if q = n then u (ix4 0 y1 y2 y3) else x (ix4 q y1 y2 y3) := by
  have hf : (⟨4, ![256, a, b, c]⟩ : Shape).Slices (![n.val, 0, 0, 0] : Fin 4 → ℕ) ⟨4, ![1, a, b, c]⟩ := by
    refine ⟨rfl, fun p => ?_⟩
    fin_cases p <;> simp <;> omega
  rw [WordCmp.dynamicUpdateSlice_eq_update x u start h _ hf hs]
  unfold updateSlice
  by_cases hq : q = n
  · subst hq
    rw [if_pos rfl, dif_pos]
    · congr 1
      funext p
      apply Fin.ext
      fin_cases p <;> simp [ix4]
    · intro p
      fin_cases p <;> simp [ix4]
  · rw [if_neg hq, dif_neg]
    intro hall
    have h0 : n.val ≤ q.val ∧ q.val < n.val + 1 := hall 0
    exact hq (Fin.ext (by omega))

/-- Writing row `n` of a two-dimensional array. -/
theorem dynamicUpdateSlice_chunk2 (x : (⟨2, ![256, a]⟩ : Shape).Idx → α) (u : (⟨2, ![1, a]⟩ : Shape).Idx → α)
    (start : Fin 2 → Int) (n : Fin 256)
    (h : (⟨2, ![256, a]⟩ : Shape).Slices (fun _ => 0) ⟨2, ![1, a]⟩)
    (hs : ∀ p, start p = ((![n.val, 0] : Fin 2 → ℕ) p : Int)) (q : Fin 256) (y1 : Fin a) :
    Host.dynamicUpdateSlice x u start h (ix2 q y1) = if q = n then u (ix2 0 y1) else x (ix2 q y1) := by
  have hf : (⟨2, ![256, a]⟩ : Shape).Slices (![n.val, 0] : Fin 2 → ℕ) ⟨2, ![1, a]⟩ := by
    refine ⟨rfl, fun p => ?_⟩
    fin_cases p <;> simp <;> omega
  rw [WordCmp.dynamicUpdateSlice_eq_update x u start h _ hf hs]
  unfold updateSlice
  by_cases hq : q = n
  · subst hq
    rw [if_pos rfl, dif_pos]
    · congr 1
      funext p
      apply Fin.ext
      fin_cases p <;> simp [ix2]
    · intro p
      fin_cases p <;> simp [ix2]
  · rw [if_neg hq, dif_neg]
    intro hall
    have h0 : n.val ≤ q.val ∧ q.val < n.val + 1 := hall 0
    exact hq (Fin.ext (by omega))

/-- A sequence of values in which step `k` sets the cell of chunk `255 - k` only: after the 256 steps the cell of chunk `n`
    holds what step `255 - n` set. -/
theorem filled (B : ℕ → Fin 256 → α) (U : ℕ → α) (h : ∀ k < 256, ∀ q, B (k + 1) q = if q = rchk k then U k else B k q)
    (q : Fin 256) : B 256 q = U (255 - q.val) := by
  have key : ∀ k ≤ 256, 255 - q.val < k → B k q = U (255 - q.val) := by
    intro k
    induction k with
    | zero => intro _ h0; omega
    | succ k ih =>
      intro hk hlt
      rw [h k (by omega)]
      by_cases hq : q = rchk k
      · rw [if_pos hq]; congr 1
        have : q.val = 255 - k := by rw [hq]; rfl
        omega
      · rw [if_neg hq]
        refine ih (by omega) ?_
        rcases Nat.lt_or_ge (255 - q.val) k with hlt' | hge
        · exact hlt'
        · exact absurd (Fin.ext (by show q.val = 255 - k; omega)) hq
  exact key 256 le_rfl (by omega)

end Scan
-- ==== Proof.Bwd.Equal.lean ====
/-
  Where every element is a real number, the two forms of the backward recurrence agree.
-/
module

public import proofs.«01_k».proof.Proof.Bwd.RefMath

@[expose] public section
noncomputable section

namespace Scan

/-- An extended real that is a real number. -/
def IsReal (x : EReal) : Prop := ∃ r : ℝ, x = r

namespace IsReal

theorem zero : IsReal 0 := ⟨0, rfl⟩
theorem add {x y : EReal} : IsReal x → IsReal y → IsReal (x + y) := by
  rintro ⟨r, rfl⟩ ⟨s, rfl⟩; exact ⟨r + s, by norm_cast⟩
theorem mul {x y : EReal} : IsReal x → IsReal y → IsReal (x * y) := by
  rintro ⟨r, rfl⟩ ⟨s, rfl⟩; exact ⟨r * s, by norm_cast⟩
theorem neg {x : EReal} : IsReal x → IsReal (-x) := by
  rintro ⟨r, rfl⟩; exact ⟨-r, by norm_cast⟩
theorem sub {x y : EReal} (hx : IsReal x) (hy : IsReal y) : IsReal (x - y) := by
  rw [sub_eq_add_neg]; exact hx.add hy.neg

theorem sum {n : ℕ} {f : Fin n → EReal} (h : ∀ i, IsReal (f i)) : IsReal (∑ i, f i) :=
  Finset.sum_induction f IsReal (fun _ _ => add) zero fun i _ => h i

theorem neg_add {x y : EReal} : IsReal x → IsReal y → -(x + y) = -x + -y := by
  rintro ⟨r, rfl⟩ ⟨s, rfl⟩
  norm_cast
  rw [_root_.neg_add]

/-- A minus sign passes into a sum of real numbers. -/
theorem sum_neg {ι : Type} {f : ι → EReal} (h : ∀ i, IsReal (f i)) (S : Finset ι) : ∑ i ∈ S, -(f i) = -∑ i ∈ S, f i := by
  classical
  induction S using Finset.induction_on with
  | empty => simp
  | insert a S ha ih =>
    rw [Finset.sum_insert ha, Finset.sum_insert ha, ih, neg_add (h a)]
    exact Finset.sum_induction f IsReal (fun _ _ => add) zero fun i _ => h i

end IsReal

/-- Every element of the chunk is a real number. -/
structure Tile.Real (X : Tile) : Prop where
  dO : ∀ r j, IsReal (X.dO r j)
  u : ∀ r j, IsReal (X.u r j)
  w : ∀ r j, IsReal (X.w r j)
  qg : ∀ r j, IsReal (X.qg r j)
  kg : ∀ r j, IsReal (X.kg r j)
  a : ∀ r j, IsReal (X.a r j)
  gl : ∀ j, IsReal (X.gl j)
  s : ∀ i j, IsReal (X.s i j)

namespace Tile
variable (X : Tile) (D : St)

theorem rdv_eq : X.rdv D = X.dv D := by
  funext r j
  unfold rdv dv
  rw [add_comm]
  congr 1 <;> exact Finset.sum_congr rfl fun _ _ => mul_comm _ _

theorem rdkg_eq : X.rdkg D = X.dkg D := by
  funext r i
  exact Finset.sum_congr rfl fun _ _ => mul_comm _ _

variable {X D} (hX : X.Real) (hD : ∀ i j, IsReal (D i j))
include hX hD

theorem Real.dv (r : Fin 64) (j : Fin 128) : IsReal (X.dv D r j) :=
  (IsReal.sum fun _ => (hX.a _ _).mul (hX.dO _ _)).add (IsReal.sum fun _ => (hX.kg _ _).mul (hD _ _))

theorem Real.next (i j : Fin 128) : IsReal (X.next D i j) :=
  (((hD _ _).mul (hX.gl _)).add (IsReal.sum fun _ => (hX.qg _ _).mul (hX.dO _ _))).sub
    (IsReal.sum fun _ => (hX.w _ _).mul (Real.dv hX hD _ _))

theorem rdw_eq : X.rdw D = X.dw D := by
  funext r i
  unfold rdw dw
  rw [rdv_eq, zero_sub, ← IsReal.sum_neg fun j => (Real.dv hX hD r j).mul (hX.s i j)]
  exact Finset.sum_congr rfl fun j _ => EReal.neg_mul _ _

theorem rnext_eq : X.rnext D = X.next D := by
  funext i j
  unfold rnext next
  rw [rdv_eq, sub_eq_add_neg, ← IsReal.sum_neg fun r => (hX.w r i).mul (Real.dv hX hD r j)]
  congr 1
  · congr 1
    exact Finset.sum_congr rfl fun r _ => mul_comm _ _
  · exact Finset.sum_congr rfl fun r _ => by rw [EReal.neg_mul, mul_comm]

end Tile

/-- The state's cotangent stays real, and the two recurrences give the same one. -/
theorem rback_eq {X : ℕ → Tile} (hX : ∀ k, (X k).Real) (k : ℕ) :
    rback X (fun _ _ => 0) k = back X (fun _ _ => 0) k ∧ ∀ i j, IsReal (back X (fun _ _ => 0) k i j) := by
  induction k with
  | zero => exact ⟨rfl, fun _ _ => IsReal.zero⟩
  | succ k ih =>
    refine ⟨?_, fun i j => Tile.Real.next (hX k) ih.2 i j⟩
    show (X k).rnext _ = (X k).next _
    rw [ih.1, Tile.rnext_eq (hX k) ih.2]

end Scan
-- ==== Proof.Bwd.Finite.lean ====
/-
  What the precondition says: every element of every argument is a real number.
-/
module

public import proofs.«01_k».proof.Proof.Gen.Pre_finite
public import proofs.«01_k».proof.Proof.Bwd.Equal
public import Idealize.ShloMosaic.Lib.ReduceAll
public import Idealize.ShloMosaic.Lib.StableHlo.Predicate

@[expose] public section
noncomputable section

namespace Cert.Pre_finite.Decode
open Cert.Pre_finite Idealize.ShloMosaic
open _root_.Scan (IsReal)

/-- The bound that the predicate compares with is a real number. -/
theorem bound_real : IsReal (Ideal.ofBits .f32 0x7F7FFFFF#32) := by
  unfold Ideal.ofBits Ideal.ieee
  exact ⟨_, by simp; rfl⟩

theorem isReal_of_abs_le {x : EReal} (h : BitVec.ofBool (decide (max x (-x) ≤ Ideal.ofBits .f32 0x7F7FFFFF#32)) = 1#1) :
    IsReal x := by
  have hle := of_decide_eq_true ((StableHlo.Predicate.ofBool_eq_one_iff _).mp h)
  obtain ⟨r, hr⟩ := bound_real
  rw [hr] at hle
  have h1 : x ≤ r := le_trans (le_max_left _ _) hle
  have h2 : -x ≤ r := le_trans (le_max_right _ _) hle
  induction x using EReal.rec with
  | bot => simp at h2
  | top => simp at h1
  | coe x => exact ⟨x, rfl⟩

theorem and_one {x y : BitVec 1} (h : x &&& y = 1#1) : x = 1#1 ∧ y = 1#1 := by
  revert x y; decide

theorem one_index : Subsingleton S_.Idx := ⟨fun i j => funext fun a => a.elim0⟩

/-- The comparison of a whole array with the bound, all ones: each element is a real number. -/
theorem real_of_all {s : Shape} {axes : List (Fin s.rank)} (x : s.Idx → EReal) (init : S_.Idx → BitVec 1)
    (hr : s.ReducesTo axes S_) (hu : 0 < S_.numel) (hb : S_.BroadcastsInDim s (![] : Fin 0 → Fin s.rank)) (j : S_.Idx)
    (e : Host.reduce IntOp.andi (cmpf (F := Ideal) (φ := .f32) .ole (Host.absf (F := Ideal) (φ := .f32) x)
      (broadcastInDim s ![] hb (constant (F := Ideal) S_ .f32 0x7F7FFFFF#32))) init hr hu j = 1#1) (i : s.Idx) : IsReal (x i) := by
  have := one_index
  have hi := Host.reduce_andi_all _ init hr hu j e i
  exact isReal_of_abs_le hi

theorem args_real (a0 a1 : FVec Ideal S16384x768 .f32) (a2 a3 a4 : FVec Ideal S16384x768 .bf16)
    (a5 : FVec Ideal S6x16384x64 .bf16) (a6 : FVec Ideal S6x256 .f32) (a7 : FVec Ideal S256x6x128x128 .bf16)
    (h : Cert.Pre_finite.fn (F := Ideal) a0 a1 a2 a3 a4 a5 a6 a7 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ (∀ i, IsReal (a6 i)) ∧ ∀ i, IsReal (a7 i) := by
  have h := congrFun h (Shape.Idx.first Cert.Pre_finite.Gen.h_S_)
  dsimp only [fn, fn_part1, fn_part2, andi, IntOp.andi] at h
  obtain ⟨h, h7⟩ := and_one h
  obtain ⟨h, h6⟩ := and_one h
  obtain ⟨h, h5⟩ := and_one h
  obtain ⟨h, h4⟩ := and_one h
  obtain ⟨h, h3⟩ := and_one h
  obtain ⟨h, h2⟩ := and_one h
  obtain ⟨h, h1⟩ := and_one h
  obtain ⟨-, h0⟩ := and_one h
  exact ⟨real_of_all a0 _ _ _ _ _ h0, real_of_all a1 _ _ _ _ _ h1, real_of_all a2 _ _ _ _ _ h2, real_of_all a3 _ _ _ _ _ h3,
    real_of_all a4 _ _ _ _ _ h4, real_of_all a5 _ _ _ _ _ h5, real_of_all a6 _ _ _ _ _ h6, real_of_all a7 _ _ _ _ _ h7⟩

end Cert.Pre_finite.Decode
-- ==== Proof.Ffn.Point.lean ====
/-
  What one grid point of the backward feed-forward call computes: two halves of 256 tokens, each with 704 columns of
  the gate and up parts.
-/
module

public import proofs.«01_k».proof.Proof.Gen.Kernel2Ideal.Value
public import Idealize.ShloMosaic.Lib.Pointwise
public import Idealize.ShloMosaic.Lib.Pipeline.ValueKit

@[expose] public section
set_option maxRecDepth 16384
noncomputable section

namespace Cert.Kernel2Ideal.Ffn
open Cert.Kernel2Ideal Cert.Kernel2Ideal.Gen Cert.Kernel2Ideal.Value Idealize.ShloMosaic Idealize.ShloMosaic.TcCoe Idealize.ShloMosaic.StableHlo Idealize.SL.Sem

/-! ## Halves of a block -/

theorem half_emb (o : ℕ) (inb : ∀ a, (![o, 0] : Fin 2 → ℕ) a + S256x1024.size a ≤ S512x1024.size a) (r : Fin 256) (k : Fin 1024)
    (h : o + r.val < 512) :
    (Rect.unit (s := S512x1024) ![o, 0] S256x1024.size inb).emb (ix2 r k) = ix2 (⟨o + r.val, h⟩ : Fin 512) k := by
  funext a
  apply Fin.ext
  match a with
  | ⟨0, _⟩ => show o + 1 * r.val = o + r.val; rw [one_mul]
  | ⟨1, _⟩ => show 0 + 1 * k.val = k.val; omega

theorem canon_hit {e : EltTy} (o : ℕ) (inb : ∀ a, (![o, 0] : Fin 2 → ℕ) a + S256x1024.size a ≤ S512x1024.size a)
    (w : S256x1024.Idx → Elt Ideal e) (L : List (View.Piece (Elt Ideal) S512x1024 e)) (r : Fin 256) (k : Fin 1024) (h : o + r.val < 512) :
    View.canon ((⟨Rect.unit (s := S512x1024) ![o, 0] S256x1024.size inb, w⟩ : View.Piece (Elt Ideal) S512x1024 e) :: L) (ix2 (⟨o + r.val, h⟩ : Fin 512) k) = w (ix2 r k) := by
  exact (congrArg _ (half_emb o inb r k h).symm).trans (View.canon_cons_emb (Rect.unit (s := S512x1024) ![o, 0] S256x1024.size inb) w L (ix2 r k))

theorem canon_miss {e : EltTy} (o : ℕ) (inb : ∀ a, (![o, 0] : Fin 2 → ℕ) a + S256x1024.size a ≤ S512x1024.size a)
    (w : S256x1024.Idx → Elt Ideal e) (L : List (View.Piece (Elt Ideal) S512x1024 e)) (p : Fin 512) (k : Fin 1024) (h : p.val < o ∨ o + 256 ≤ p.val) :
    View.canon ((⟨Rect.unit (s := S512x1024) ![o, 0] S256x1024.size inb, w⟩ : View.Piece (Elt Ideal) S512x1024 e) :: L) (ix2 p k) = View.canon L (ix2 p k) := by
  refine View.canon_cons_of_not_mem _ L fun hm => ?_
  have h0 : o ≤ p.val ∧ p.val < o + 256 := (Rect.mem_set_unit (inb := inb)).mp hm 0
  omega

theorem ld_half {e : EltTy} (o : ℕ) (inb : ∀ a, (![o, 0] : Fin 2 → ℕ) a + S256x1024.size a ≤ S512x1024.size a) (X : S512x1024.Idx → Elt Ideal e)
    (r : Fin 256) (k : Fin 1024) (h : o + r.val < 512) :
    View.ld X (Rect.unit (s := S512x1024) ![o, 0] S256x1024.size inb) (ix2 r k) = X (ix2 (⟨o + r.val, h⟩ : Fin 512) k) :=
  congrArg X (half_emb o inb r k h)

theorem tile_emb (n o : ℕ) (inb : ∀ a, (![n, 0, o, 0] : Fin 4 → ℕ) a + S1x1x256x704.size a ≤ S2x1x512x704.size a) (r : Fin 256) (f : Fin 704)
    (hn : n < 2) (h : o + r.val < 512) :
    (Rect.unit (s := S2x1x512x704) ![n, 0, o, 0] S1x1x256x704.size inb).emb (ix4 (0 : Fin 1) (0 : Fin 1) r f)
      = ix4 (⟨n, hn⟩ : Fin 2) (0 : Fin 1) (⟨o + r.val, h⟩ : Fin 512) f := by
  funext a
  apply Fin.ext
  match a with
  | ⟨0, _⟩ => show n + 1 * 0 = n; rfl
  | ⟨1, _⟩ => rfl
  | ⟨2, _⟩ => show o + 1 * r.val = o + r.val; rw [one_mul]
  | ⟨3, _⟩ => show 0 + 1 * f.val = f.val; omega

theorem ld_tile {e : EltTy} (n o : ℕ) (inb : ∀ a, (![n, 0, o, 0] : Fin 4 → ℕ) a + S1x1x256x704.size a ≤ S2x1x512x704.size a)
    (X : S2x1x512x704.Idx → Elt Ideal e) (r : Fin 256) (f : Fin 704) (hn : n < 2) (h : o + r.val < 512) :
    View.ld X (Rect.unit (s := S2x1x512x704) ![n, 0, o, 0] S1x1x256x704.size inb) (ix4 (0 : Fin 1) (0 : Fin 1) r f)
      = X (ix4 (⟨n, hn⟩ : Fin 2) (0 : Fin 1) (⟨o + r.val, h⟩ : Fin 512) f) :=
  congrArg X (tile_emb n o inb r f hn h)

/-! ## The payloads -/

/-- The gradient of the activation: a row of the output's gradient times a row of the down weight. -/
def dAct (d : Fin 1024 → EReal) (wd : Vec Ideal S2x1x352x1024 .bf16) (f : Fin 704) : EReal :=
  ∑ k : Fin 1024, d k * wd (ix4 (⟨f.val / 352, by omega⟩ : Fin 2) (0 : Fin 1) (⟨f.val % 352, by omega⟩ : Fin 352) k)

/-- The logistic function. -/
def sg (g : EReal) : EReal := Ideal.div 1 (1 + Ideal.exp (0 - g))

/-- The gradient of the gate's argument. -/
def dGate (a g u : EReal) : EReal := a * u * (sg g * (1 + g * (1 - sg g)))

/-- The gradient of the up part. -/
def dUp (a g : EReal) : EReal := a * (g * sg g)

/-- What one block of 704 columns adds to the gradient of a token's normalized input. -/
def gain (d : Fin 1024 → EReal) (g u : Fin 704 → EReal) (wg wu : Vec Ideal S1x1x1024x704 .bf16) (wd : Vec Ideal S2x1x352x1024 .bf16) (k : Fin 1024) : EReal :=
  (∑ f : Fin 704, dGate (dAct d wd f) (g f) (u f) * wg (ix4 (0 : Fin 1) (0 : Fin 1) k f))
    + ∑ f : Fin 704, dUp (dAct d wd f) (g f) * wu (ix4 (0 : Fin 1) (0 : Fin 1) k f)

theorem low_apply (wd : Vec Ideal S2x1x352x1024 .bf16) (v11 : Vec Ideal S256x1024 .bf16) (v15 v18 : Vec Ideal S1x1x256x704 .bf16)
    (v46 : Vec Ideal S256x1024 .f32) (wg wu : Vec Ideal S1x1x1024x704 .bf16) (r : Fin 256) (k : Fin 1024) :
    k0_pay20 (F := Ideal) (k0_pay10 wd v11) (k0_pay12 v15) (k0_pay13 v15) (k0_pay14 v15) (k0_pay15 wd v11 v18) v46 wg wu (ix2 r k)
      = v46 (ix2 r k) + gain (fun k => v11 (ix2 r k)) (fun f => v15 (ix4 (0 : Fin 1) (0 : Fin 1) r f)) (fun f => v18 (ix4 (0 : Fin 1) (0 : Fin 1) r f)) wg wu wd k := by
  unfold k0_pay20 k0_pay16 k0_pay17 k0_pay15 k0_pay14 k0_pay13 k0_pay12 k0_pay10 k0_pay9 gain dGate dUp dAct sg
  pointwise []

theorem high_apply (wd : Vec Ideal S2x1x352x1024 .bf16) (v13 : Vec Ideal S256x1024 .bf16) (v58 v61 : Vec Ideal S1x1x256x704 .bf16)
    (v89 : Vec Ideal S256x1024 .f32) (wg wu : Vec Ideal S1x1x1024x704 .bf16) (r : Fin 256) (k : Fin 1024) :
    k0_pay1 (F := Ideal) (k0_pay24 (k0_pay11 wd v13) v58) v89 (k0_pay27 (k0_pay11 wd v13) v58 v61 wg) wu (ix2 r k)
      = v89 (ix2 r k) + gain (fun k => v13 (ix2 r k)) (fun f => v58 (ix4 (0 : Fin 1) (0 : Fin 1) r f)) (fun f => v61 (ix4 (0 : Fin 1) (0 : Fin 1) r f)) wg wu wd k := by
  unfold k0_pay1 k0_pay24 k0_pay27 k0_pay23 k0_pay22 k0_pay21 k0_pay11 k0_pay9 gain dGate dUp dAct sg
  pointwise []

theorem zero_apply (y : S512x1024.Idx) : k0_pay7 (F := Ideal) y = 0 := by
  rw [eq_ix2 y]
  unfold k0_pay7
  pointwise []

theorem copy_apply (x0 : Vec Ideal S512x1024 .f32) (y : S512x1024.Idx) : k0_pay6 (F := Ideal) x0 y = x0 y := by
  rw [eq_ix2 y]
  unfold k0_pay6
  pointwise []

theorem zero_row_apply (y : S1x1024.Idx) : k0_pay8 (F := Ideal) y = 0 := by
  rw [eq_ix2 y]
  unfold k0_pay8
  pointwise []

theorem gate_low_apply (wd : Vec Ideal S2x1x352x1024 .bf16) (v11 : Vec Ideal S256x1024 .bf16) (v15 v18 : Vec Ideal S1x1x256x704 .bf16) (r : Fin 256) (f : Fin 704) :
    k0_pay18 (F := Ideal) (k0_pay12 v15) (k0_pay13 v15) (k0_pay15 wd v11 v18) (ix4 (0 : Fin 1) (0 : Fin 1) r f)
      = dGate (dAct (fun k => v11 (ix2 r k)) wd f) (v15 (ix4 (0 : Fin 1) (0 : Fin 1) r f)) (v18 (ix4 (0 : Fin 1) (0 : Fin 1) r f)) := by
  unfold k0_pay18 k0_pay16 k0_pay15 k0_pay13 k0_pay12 k0_pay10 k0_pay9 dGate dAct sg
  pointwise []

theorem up_low_apply (wd : Vec Ideal S2x1x352x1024 .bf16) (v11 : Vec Ideal S256x1024 .bf16) (v15 : Vec Ideal S1x1x256x704 .bf16) (r : Fin 256) (f : Fin 704) :
    k0_pay19 (F := Ideal) (k0_pay10 wd v11) (k0_pay14 v15) (ix4 (0 : Fin 1) (0 : Fin 1) r f)
      = dUp (dAct (fun k => v11 (ix2 r k)) wd f) (v15 (ix4 (0 : Fin 1) (0 : Fin 1) r f)) := by
  unfold k0_pay19 k0_pay17 k0_pay14 k0_pay13 k0_pay12 k0_pay10 k0_pay9 dUp dAct sg
  pointwise []

theorem gate_high_apply (wd : Vec Ideal S2x1x352x1024 .bf16) (v13 : Vec Ideal S256x1024 .bf16) (v58 v61 : Vec Ideal S1x1x256x704 .bf16) (r : Fin 256) (f : Fin 704) :
    k0_pay25 (F := Ideal) (k0_pay11 wd v13) v58 v61 (ix4 (0 : Fin 1) (0 : Fin 1) r f)
      = dGate (dAct (fun k => v13 (ix2 r k)) wd f) (v58 (ix4 (0 : Fin 1) (0 : Fin 1) r f)) (v61 (ix4 (0 : Fin 1) (0 : Fin 1) r f)) := by
  unfold k0_pay25 k0_pay23 k0_pay22 k0_pay21 k0_pay11 k0_pay9 dGate dAct sg
  pointwise []

theorem up_high_apply (wd : Vec Ideal S2x1x352x1024 .bf16) (v13 : Vec Ideal S256x1024 .bf16) (v58 : Vec Ideal S1x1x256x704 .bf16) (r : Fin 256) (f : Fin 704) :
    k0_pay26 (F := Ideal) (k0_pay11 wd v13) v58 (ix4 (0 : Fin 1) (0 : Fin 1) r f)
      = dUp (dAct (fun k => v13 (ix2 r k)) wd f) (v58 (ix4 (0 : Fin 1) (0 : Fin 1) r f)) := by
  unfold k0_pay26 k0_pay24 k0_pay22 k0_pay21 k0_pay11 k0_pay9 dUp dAct sg
  pointwise []

/-! ## Both halves together -/

/-- A token of a block is in the first or in the second half. -/
theorem half_cases (p : Fin 512) : (∃ r : Fin 256, p = ⟨0 + r.val, by omega⟩) ∨ ∃ r : Fin 256, p = ⟨256 + r.val, by omega⟩ := by
  by_cases h : p.val < 256
  · exact .inl ⟨⟨p.val, h⟩, Fin.ext (by simp)⟩
  · exact .inr ⟨⟨p.val - 256, by omega⟩, Fin.ext (by simp; omega)⟩

/-- The running gradient after a grid point, where `d` is the output's gradient and `a` the running gradient before. -/
theorem acc_canon (d a : Fin 512 → Fin 1024 → EReal) (gu : Vec Ideal S2x1x512x704 .bf16) (wd : Vec Ideal S2x1x352x1024 .bf16) (wg wu : Vec Ideal S1x1x1024x704 .bf16)
    (v11 v13 : Vec Ideal S256x1024 .bf16) (v46 v89 : Vec Ideal S256x1024 .f32) (L : List (View.Piece (Elt Ideal) S512x1024 .f32))
    (h11 : ∀ r k, v11 (ix2 r k) = d ⟨0 + r.val, by omega⟩ k) (h13 : ∀ r k, v13 (ix2 r k) = d ⟨256 + r.val, by omega⟩ k)
    (h46 : ∀ r k, v46 (ix2 r k) = a ⟨0 + r.val, by omega⟩ k) (h89 : ∀ r k, v89 (ix2 r k) = a ⟨256 + r.val, by omega⟩ k)
    (p : Fin 512) (k : Fin 1024) :
    View.canon ((⟨Rect.unit (s := S512x1024) ![256, 0] S256x1024.size inb_S512x1024_S256x1024_256_0,
        k0_pay1 (F := Ideal) (k0_pay24 (k0_pay11 wd v13) (View.ld gu (Rect.unit (s := S2x1x512x704) ![0, 0, 256, 0] S1x1x256x704.size inb_S2x1x512x704_S1x1x256x704_0_0_256_0))) v89
          (k0_pay27 (k0_pay11 wd v13) (View.ld gu (Rect.unit (s := S2x1x512x704) ![0, 0, 256, 0] S1x1x256x704.size inb_S2x1x512x704_S1x1x256x704_0_0_256_0))
            (View.ld gu (Rect.unit (s := S2x1x512x704) ![1, 0, 256, 0] S1x1x256x704.size inb_S2x1x512x704_S1x1x256x704_1_0_256_0)) wg) wu⟩ : View.Piece (Elt Ideal) S512x1024 .f32)
      :: (⟨Rect.unit (s := S512x1024) ![0, 0] S256x1024.size inb_S512x1024_S256x1024_0_0,
        k0_pay20 (F := Ideal) (k0_pay10 wd v11) (k0_pay12 (View.ld gu (Rect.unit (s := S2x1x512x704) ![0, 0, 0, 0] S1x1x256x704.size inb_S2x1x512x704_S1x1x256x704_0_0_0_0)))
          (k0_pay13 (View.ld gu (Rect.unit (s := S2x1x512x704) ![0, 0, 0, 0] S1x1x256x704.size inb_S2x1x512x704_S1x1x256x704_0_0_0_0)))
          (k0_pay14 (View.ld gu (Rect.unit (s := S2x1x512x704) ![0, 0, 0, 0] S1x1x256x704.size inb_S2x1x512x704_S1x1x256x704_0_0_0_0)))
          (k0_pay15 wd v11 (View.ld gu (Rect.unit (s := S2x1x512x704) ![1, 0, 0, 0] S1x1x256x704.size inb_S2x1x512x704_S1x1x256x704_1_0_0_0))) v46 wg wu⟩ : View.Piece (Elt Ideal) S512x1024 .f32) :: L) (ix2 p k)
      = a p k + gain (d p) (fun f => gu (ix4 (0 : Fin 2) (0 : Fin 1) p f)) (fun f => gu (ix4 (1 : Fin 2) (0 : Fin 1) p f)) wg wu wd k := by
  rcases half_cases p with ⟨r, rfl⟩ | ⟨r, rfl⟩
  · rw [canon_miss _ _ _ _ _ _ (.inl (by show 0 + r.val < 256; omega)), canon_hit, low_apply, h46]
    simp only [h11]
    refine congrArg (_ + ·) (congrArg₂ (fun g u => gain _ g u wg wu wd k) ?_ ?_)
    · funext f; exact ld_tile 0 0 _ gu r f (by omega) (by omega)
    · funext f; exact ld_tile 1 0 _ gu r f (by omega) (by omega)
  · rw [canon_hit, high_apply, h89]
    simp only [h13]
    refine congrArg (_ + ·) (congrArg₂ (fun g u => gain _ g u wg wu wd k) ?_ ?_)
    · funext f; exact ld_tile 0 256 _ gu r f (by omega) (by omega)
    · funext f; exact ld_tile 1 256 _ gu r f (by omega) (by omega)

theorem tile_hit (n o : ℕ) (inb : ∀ a, (![n, 0, o, 0] : Fin 4 → ℕ) a + S1x1x256x704.size a ≤ S2x1x512x704.size a)
    (w : S1x1x256x704.Idx → Elt Ideal .bf16) (L : List (View.Piece (Elt Ideal) S2x1x512x704 .bf16)) (r : Fin 256) (f : Fin 704) (hn : n < 2) (h : o + r.val < 512) :
    View.canon ((⟨Rect.unit (s := S2x1x512x704) ![n, 0, o, 0] S1x1x256x704.size inb, w⟩ : View.Piece (Elt Ideal) S2x1x512x704 .bf16) :: L)
      (ix4 (⟨n, hn⟩ : Fin 2) (0 : Fin 1) (⟨o + r.val, h⟩ : Fin 512) f) = w (ix4 (0 : Fin 1) (0 : Fin 1) r f) := by
  exact (congrArg (View.canon _) (tile_emb n o inb r f hn h).symm).trans
    (View.canon_cons_emb (Rect.unit (s := S2x1x512x704) ![n, 0, o, 0] S1x1x256x704.size inb) w L (ix4 (0 : Fin 1) (0 : Fin 1) r f))

theorem tile_miss (n o : ℕ) (inb : ∀ a, (![n, 0, o, 0] : Fin 4 → ℕ) a + S1x1x256x704.size a ≤ S2x1x512x704.size a)
    (w : S1x1x256x704.Idx → Elt Ideal .bf16) (L : List (View.Piece (Elt Ideal) S2x1x512x704 .bf16)) (i : Fin 2) (p : Fin 512) (f : Fin 704)
    (h : i.val ≠ n ∨ p.val < o ∨ o + 256 ≤ p.val) :
    View.canon ((⟨Rect.unit (s := S2x1x512x704) ![n, 0, o, 0] S1x1x256x704.size inb, w⟩ : View.Piece (Elt Ideal) S2x1x512x704 .bf16) :: L)
      (ix4 i (0 : Fin 1) p f) = View.canon L (ix4 i (0 : Fin 1) p f) := by
  refine View.canon_cons_of_not_mem _ L fun hm => ?_
  have h0 : n ≤ i.val ∧ i.val < n + 1 := (Rect.mem_set_unit (inb := inb)).mp hm 0
  have h2 : o ≤ p.val ∧ p.val < o + 256 := (Rect.mem_set_unit (inb := inb)).mp hm 2
  omega

/-- The gradient of the gate and up parts that a grid point writes. -/
theorem dgu_canon (d : Fin 512 → Fin 1024 → EReal) (gu : Vec Ideal S2x1x512x704 .bf16) (wd : Vec Ideal S2x1x352x1024 .bf16)
    (v11 v13 : Vec Ideal S256x1024 .bf16)
    (h11 : ∀ r k, v11 (ix2 r k) = d ⟨0 + r.val, by omega⟩ k) (h13 : ∀ r k, v13 (ix2 r k) = d ⟨256 + r.val, by omega⟩ k)
    (i : Fin 2) (p : Fin 512) (f : Fin 704) :
    View.canon [(⟨Rect.unit (s := S2x1x512x704) ![1, 0, 256, 0] S1x1x256x704.size inb_S2x1x512x704_S1x1x256x704_1_0_256_0,
        k0_pay26 (F := Ideal) (k0_pay11 wd v13) (View.ld gu (Rect.unit (s := S2x1x512x704) ![0, 0, 256, 0] S1x1x256x704.size inb_S2x1x512x704_S1x1x256x704_0_0_256_0))⟩ : View.Piece (Elt Ideal) S2x1x512x704 .bf16),
      ⟨Rect.unit (s := S2x1x512x704) ![0, 0, 256, 0] S1x1x256x704.size inb_S2x1x512x704_S1x1x256x704_0_0_256_0,
        k0_pay25 (F := Ideal) (k0_pay11 wd v13) (View.ld gu (Rect.unit (s := S2x1x512x704) ![0, 0, 256, 0] S1x1x256x704.size inb_S2x1x512x704_S1x1x256x704_0_0_256_0))
          (View.ld gu (Rect.unit (s := S2x1x512x704) ![1, 0, 256, 0] S1x1x256x704.size inb_S2x1x512x704_S1x1x256x704_1_0_256_0))⟩,
      ⟨Rect.unit (s := S2x1x512x704) ![1, 0, 0, 0] S1x1x256x704.size inb_S2x1x512x704_S1x1x256x704_1_0_0_0,
        k0_pay19 (F := Ideal) (k0_pay10 wd v11) (k0_pay14 (View.ld gu (Rect.unit (s := S2x1x512x704) ![0, 0, 0, 0] S1x1x256x704.size inb_S2x1x512x704_S1x1x256x704_0_0_0_0)))⟩,
      ⟨Rect.unit (s := S2x1x512x704) ![0, 0, 0, 0] S1x1x256x704.size inb_S2x1x512x704_S1x1x256x704_0_0_0_0,
        k0_pay18 (F := Ideal) (k0_pay12 (View.ld gu (Rect.unit (s := S2x1x512x704) ![0, 0, 0, 0] S1x1x256x704.size inb_S2x1x512x704_S1x1x256x704_0_0_0_0)))
          (k0_pay13 (View.ld gu (Rect.unit (s := S2x1x512x704) ![0, 0, 0, 0] S1x1x256x704.size inb_S2x1x512x704_S1x1x256x704_0_0_0_0)))
          (k0_pay15 wd v11 (View.ld gu (Rect.unit (s := S2x1x512x704) ![1, 0, 0, 0] S1x1x256x704.size inb_S2x1x512x704_S1x1x256x704_1_0_0_0)))⟩] (ix4 i (0 : Fin 1) p f)
      = if i = 0 then dGate (dAct (d p) wd f) (gu (ix4 (0 : Fin 2) (0 : Fin 1) p f)) (gu (ix4 (1 : Fin 2) (0 : Fin 1) p f))
        else dUp (dAct (d p) wd f) (gu (ix4 (0 : Fin 2) (0 : Fin 1) p f)) := by
  obtain rfl | rfl : i = 0 ∨ i = 1 := by omega
  · rw [if_pos rfl, tile_miss _ _ _ _ _ _ _ _ (.inl (by decide))]
    rcases half_cases p with ⟨r, rfl⟩ | ⟨r, rfl⟩
    · rw [tile_miss _ _ _ _ _ _ _ _ (.inr (.inl (by show 0 + r.val < 256; omega))), tile_miss _ _ _ _ _ _ _ _ (.inl (by decide))]
      refine (tile_hit 0 0 _ _ _ r f (by omega) (by omega)).trans ((gate_low_apply _ _ _ _ r f).trans ?_)
      simp only [h11]
      exact congrArg₂ (dGate _) (ld_tile 0 0 _ gu r f (by omega) (by omega)) (ld_tile 1 0 _ gu r f (by omega) (by omega))
    · refine (tile_hit 0 256 _ _ _ r f (by omega) (by omega)).trans ((gate_high_apply _ _ _ _ r f).trans ?_)
      simp only [h13]
      exact congrArg₂ (dGate _) (ld_tile 0 256 _ gu r f (by omega) (by omega)) (ld_tile 1 256 _ gu r f (by omega) (by omega))
  · rw [if_neg (by decide)]
    rcases half_cases p with ⟨r, rfl⟩ | ⟨r, rfl⟩
    · rw [tile_miss _ _ _ _ _ _ _ _ (.inr (.inl (by show 0 + r.val < 256; omega))), tile_miss _ _ _ _ _ _ _ _ (.inl (by decide))]
      refine (tile_hit 1 0 _ _ _ r f (by omega) (by omega)).trans ((up_low_apply _ _ _ r f).trans ?_)
      simp only [h11]
      exact congrArg (dUp _) (ld_tile 0 0 _ gu r f (by omega) (by omega))
    · refine (tile_hit 1 256 _ _ _ r f (by omega) (by omega)).trans ((up_high_apply _ _ _ r f).trans ?_)
      simp only [h13]
      exact congrArg (dUp _) (ld_tile 0 256 _ gu r f (by omega) (by omega))

end Cert.Kernel2Ideal.Ffn
-- ==== Proof.Ffn.Read.lean ====
/-
  What the blocks of the backward feed-forward call hold, in terms of its arguments.
-/
module

public import proofs.«01_k».proof.Proof.Gen.Kernel2Ideal.Value
public import Idealize.ShloMosaic.Lib.Pointwise
public import Idealize.ShloMosaic.Lib.Pipeline.ValueKit

@[expose] public section
set_option maxRecDepth 16384
noncomputable section

namespace Cert.Kernel2Ideal.Ffn
open Cert.Kernel2Ideal Cert.Kernel2Ideal.Gen Cert.Kernel2Ideal.Value Idealize.ShloMosaic Idealize.ShloMosaic.TcCoe Idealize.ShloMosaic.StableHlo Idealize.SL.Sem

variable (m : (ℓ : Loc nD τ sig) → Buf (Elt Ideal) ℓ) (c : Dev nD)

/-- Token `p` of block `n`. -/
def tok (n : Fin 32) (p : Fin 512) : Fin 16384 := ⟨n.val * 512 + p.val, by omega⟩

/-- Column `f` of part `n`. -/
def col (n : Fin 8) (f : Fin 704) : Fin 5632 := ⟨n.val * 704 + f.val, by omega⟩

/-- Gate parts are the first four, up parts the last four. -/
def part (i : Fin 2) (j : Fin 4) : Fin 8 := ⟨4 * i.val + j.val, by omega⟩

/-- Row `f` of part `j` of the down weight. -/
def down (j : Fin 4) (f : Fin 704) : Fin 2816 := ⟨j.val * 704 + f.val, by omega⟩

/-- The reciprocal root mean square of a row. -/
def rms (x : Fin 1024 → EReal) : EReal :=
  Ideal.rsqrt (Ideal.div (∑ k : Fin 1024, x k * x k) (Ideal.ofBits FTy.f32 1149239296#32) + Ideal.ofBits FTy.f32 897988541#32)

theorem index_row (t : Fin cfg0.N) : win0_0.index t = ![t.val / 4, 0] ∧ win0_1.index t = ![t.val / 4, 0] ∧ win0_2.index t = ![0, 0]
    ∧ win0_3.index t = ![0, t.val % 4, t.val / 4, 0] ∧ win0_4.index t = ![t.val % 4, 0, 0, 0] ∧ win0_5.index t = ![t.val % 4 + 4, 0, 0, 0]
    ∧ win0_6.index t = ![t.val % 4, 0, 0, 0] ∧ win0_7.index t = ![t.val / 4, 0] ∧ win0_8.index t = ![0, t.val % 4, t.val / 4, 0] ∧ win0_9.index t = ![0, 0] :=
  (by decide +kernel : ∀ t : Fin grid0.N, win0_0.index t = ![t.val / 4, 0] ∧ win0_1.index t = ![t.val / 4, 0] ∧ win0_2.index t = ![0, 0]
    ∧ win0_3.index t = ![0, t.val % 4, t.val / 4, 0] ∧ win0_4.index t = ![t.val % 4, 0, 0, 0] ∧ win0_5.index t = ![t.val % 4 + 4, 0, 0, 0]
    ∧ win0_6.index t = ![t.val % 4, 0, 0, 0] ∧ win0_7.index t = ![t.val / 4, 0] ∧ win0_8.index t = ![0, t.val % 4, t.val / 4, 0] ∧ win0_9.index t = ![0, 0]) t

theorem weights_apply (n : Fin 8) (k : Fin 1024) (f : Fin 704) :
    (V m c main_v19 : Vec Ideal S8x1x1024x704 .bf16) (ix4 n (0 : Fin 1) k f) = m ((c : Thread nD τ).loc main_arg3) (ix2 k (col n f)) := by
  unfold V
  unfold_abbrev_sides
  after_results
  show broadcastInDim S8x1x1024x704 ![0, 2, 3] bcast_S8x1024x704_S8x1x1024x704_0_2_3
    (transpose S8x1024x704 [1, 0, 2] (shapeCast S1024x8x704 (m ((c : Thread nD τ).loc main_arg3) : Vec Ideal S1024x5632 .bf16)
    shapeCasts_S1024x5632_S1024x8x704) transposes_S1024x8x704_S8x1024x704_1_0_2) (ix4 n (0 : Fin 1) k f) = _
  unfold col
  pointwise []

theorem down_apply (n : Fin 8) (r : Fin 352) (k : Fin 1024) :
    (V m c main_v20 : Vec Ideal S8x1x352x1024 .bf16) (ix4 n (0 : Fin 1) r k) = m ((c : Thread nD τ).loc main_arg4) (ix2 ⟨n.val * 352 + r.val, by omega⟩ k) := by
  unfold V
  unfold_abbrev_sides
  after_results
  show shapeCast S8x1x352x1024 (m ((c : Thread nD τ).loc main_arg4) : Vec Ideal S2816x1024 .bf16)
    shapeCasts_S2816x1024_S8x1x352x1024 (ix4 n (0 : Fin 1) r k) = _
  exact shapeCast_apply (s := S2816x1024) (t := S8x1x352x1024) _ _ _ _ (by
    rw [Shape.rowMajor_val_four, Shape.rowMajor_val_two]
    show (n.val * 352 + r.val) * 1024 + k.val = ((n.val * 1 + 0) * 352 + r.val) * 1024 + k.val
    omega)

theorem scale_apply (k : Fin 1024) :
    (V m c main_v22 : Vec Ideal S1x1024 .f32) (ix2 (0 : Fin 1) k) = m ((c : Thread nD τ).loc main_arg2) (ix1 k) := by
  unfold V
  unfold_abbrev_sides
  after_results
  show shapeCast S1x1024 (m ((c : Thread nD τ).loc main_arg2) : Vec Ideal S1024 .f32)
    shapeCasts_S1024_S1x1024 (ix2 (0 : Fin 1) k) = _
  pointwise []

/-- Column `q` of the normalized tokens times the weight. -/
def proj (x : Vec Ideal S16384x1024 .f32) (ln : Vec Ideal S1024 .f32) (w : Vec Ideal S1024x5632 .bf16) (s : Fin 16384) (q : Fin 5632) : EReal :=
  ∑ k : Fin 1024, x (ix2 s k) * rms (fun i => x (ix2 s i)) * ln (ix1 k) * w (ix2 k q)

theorem saved_apply (i : Fin 2) (j : Fin 4) (s : Fin 16384) (f : Fin 704) :
    (V m c main_v21 : Vec Ideal S2x4x16384x704 .bf16) (ix4 i j s f)
      = proj (m ((c : Thread nD τ).loc main_arg1)) (m ((c : Thread nD τ).loc main_arg2)) (m ((c : Thread nD τ).loc main_arg3)) s (col (part i j) f) := by
  unfold V
  unfold_abbrev_sides
  after_results
  show truncf FTy.bf16
      (transpose S2x4x16384x704 [1, 2, 0, 3]
            (shapeCast S16384x2x4x704
              (Host.dotGeneral dot_S16384x1024_S1024x5632_S16384x5632_1_0_0_1_n_n none
                (mulf
                  (mulf (m (c, Proc.tc.devRef main_arg1) : Vec Ideal S16384x1024 .f32)
                    (broadcastInDim S16384x1024 ![0, 1] bcast_S16384x1_S16384x1024_0_1
                      (Host.rsqrt
                        (addf
                          (Host.divf
                            (broadcastInDim S16384x1 ![0] bcast_S16384_S16384x1_0
                              (Host.reduceAdd (mulf (m (c, Proc.tc.devRef main_arg1)) (m (c, Proc.tc.devRef main_arg1)))
                                (constant S_ FTy.f32 0#32) reducesTo_S16384x1024_S16384_d1 h_S_))
                            (broadcastInDim S16384x1 ![] bcast_S_S16384x1 (constant S_ FTy.f32 1149239296#32)))
                          (broadcastInDim S16384x1 ![] bcast_S_S16384x1 (constant S_ FTy.f32 897988541#32))))))
                  (broadcastInDim S16384x1024 ![0, 1] bcast_S1x1024_S16384x1024_0_1
                    (broadcastInDim S1x1024 ![1] bcast_S1024_S1x1024_1 (m (c, Proc.tc.devRef main_arg2)))))
                (extf (F := Ideal) FTy.f32 (m (c, Proc.tc.devRef main_arg3) : Vec Ideal S1024x5632 .bf16) bitsLt_bf16_f32))
              shapeCasts_S16384x5632_S16384x2x4x704)
        transposes_S16384x2x4x704_S2x4x16384x704_1_2_0_3)
      bitsLt_bf16_f32 (ix4 i j s f) = _
  unfold proj rms col part
  pointwise []
  refine Finset.sum_congr rfl fun x _ => congrArg₂ (fun u v : EReal => u * v) rfl (congrArg (fun q => m (c, Proc.tc.devRef main_arg3) (ix2 x q)) (Fin.ext ?_))
  show i.val * 2816 + j.val * 704 + f.val = (4 * i.val + j.val) * 704 + f.val
  omega

/-! ## The blocks -/

theorem hN (t : Fin cfg0.N) : t.val < 128 := lt_of_lt_of_eq t.isLt (show cfg0.N = 128 from N_0)

/-- The block of tokens of a grid point. -/
def bi (t : Fin cfg0.N) : Fin 32 := ⟨t.val / 4, by have := hN t; omega⟩

/-- The block of columns of a grid point. -/
def bj (t : Fin cfg0.N) : Fin 4 := ⟨t.val % 4, by omega⟩

theorem iblk0 (t : Fin cfg0.N) (p : Fin 512) (k : Fin 1024) :
    (iblk m c 0 t : Vec Ideal S512x1024 .f32) (ix2 p k) = m ((c : Thread nD τ).loc main_arg0) (ix2 (tok (bi t) p) k) := by
  have hi := (index_row t).1
  unfold iblk
  rw [View.read_apply]
  show V m c main_arg0 _ = _
  rw [V_main_arg0]
  congr 1
  funext a
  apply Fin.ext
  match a with
  | ⟨0, _⟩ => show win0_0.index t 0 * 512 + 1 * p.val = t.val / 4 * 512 + p.val; rw [hi]; simp
  | ⟨1, _⟩ => show win0_0.index t 1 * 1024 + 1 * k.val = k.val; rw [hi]; simp

theorem iblk1 (t : Fin cfg0.N) (p : Fin 512) (k : Fin 1024) :
    (iblk m c 1 t : Vec Ideal S512x1024 .f32) (ix2 p k) = m ((c : Thread nD τ).loc main_arg1) (ix2 (tok (bi t) p) k) := by
  have hi := (index_row t).2.1
  unfold iblk
  rw [View.read_apply]
  show V m c main_arg1 _ = _
  rw [V_main_arg1]
  congr 1
  funext a
  apply Fin.ext
  match a with
  | ⟨0, _⟩ => show win0_1.index t 0 * 512 + 1 * p.val = t.val / 4 * 512 + p.val; rw [hi]; simp
  | ⟨1, _⟩ => show win0_1.index t 1 * 1024 + 1 * k.val = k.val; rw [hi]; simp

theorem iblk2 (t : Fin cfg0.N) (k : Fin 1024) :
    (iblk m c 2 t : Vec Ideal S1x1024 .f32) (ix2 (0 : Fin 1) k) = m ((c : Thread nD τ).loc main_arg2) (ix1 k) := by
  have hi := (index_row t).2.2.1
  have e : ((cfg0.win 2).blk t).view.emb (ix2 (0 : Fin 1) k) = ix2 (0 : Fin 1) k := by
    funext a
    apply Fin.ext
    match a with
    | ⟨0, _⟩ => show win0_2.index t 0 * 1 + 1 * 0 = 0; rw [hi]; simp
    | ⟨1, _⟩ => show win0_2.index t 1 * 1024 + 1 * k.val = k.val; rw [hi]; simp
  unfold iblk
  rw [View.read_apply]
  show V m c main_v22 _ = _
  rw [e, scale_apply]

theorem iblk3 (t : Fin cfg0.N) (i : Fin 2) (p : Fin 512) (f : Fin 704) :
    (iblk m c 3 t : Vec Ideal S2x1x512x704 .bf16) (ix4 i (0 : Fin 1) p f)
      = proj (m ((c : Thread nD τ).loc main_arg1)) (m ((c : Thread nD τ).loc main_arg2)) (m ((c : Thread nD τ).loc main_arg3)) (tok (bi t) p) (col (part i (bj t)) f) := by
  have hi := (index_row t).2.2.2.1
  have e : ((cfg0.win 3).blk t).view.emb (ix4 i (0 : Fin 1) p f) = ix4 i (bj t) (tok (bi t) p) f := by
    funext a
    apply Fin.ext
    match a with
    | ⟨0, _⟩ => show win0_3.index t 0 * 2 + 1 * i.val = i.val; rw [hi]; simp
    | ⟨1, _⟩ => show win0_3.index t 1 * 1 + 1 * 0 = t.val % 4; rw [hi]; simp
    | ⟨2, _⟩ => show win0_3.index t 2 * 512 + 1 * p.val = t.val / 4 * 512 + p.val; rw [hi]; simp
    | ⟨3, _⟩ => show win0_3.index t 3 * 704 + 1 * f.val = f.val; rw [hi]; simp
  unfold iblk
  rw [View.read_apply]
  show V m c main_v21 _ = _
  rw [e, saved_apply]

theorem iblk4 (t : Fin cfg0.N) (k : Fin 1024) (f : Fin 704) :
    (iblk m c 4 t : Vec Ideal S1x1x1024x704 .bf16) (ix4 (0 : Fin 1) (0 : Fin 1) k f) = m ((c : Thread nD τ).loc main_arg3) (ix2 k (col (part 0 (bj t)) f)) := by
  have hi := (index_row t).2.2.2.2.1
  have e : ((cfg0.win 4).blk t).view.emb (ix4 (0 : Fin 1) (0 : Fin 1) k f) = ix4 (part 0 (bj t)) (0 : Fin 1) k f := by
    funext a
    apply Fin.ext
    match a with
    | ⟨0, _⟩ => show win0_4.index t 0 * 1 + 1 * 0 = 4 * 0 + t.val % 4; rw [hi]; simp
    | ⟨1, _⟩ => show win0_4.index t 1 * 1 + 1 * 0 = 0; rw [hi]; simp
    | ⟨2, _⟩ => show win0_4.index t 2 * 1024 + 1 * k.val = k.val; rw [hi]; simp
    | ⟨3, _⟩ => show win0_4.index t 3 * 704 + 1 * f.val = f.val; rw [hi]; simp
  unfold iblk
  rw [View.read_apply]
  show V m c main_v19 _ = _
  rw [e, weights_apply]

theorem iblk5 (t : Fin cfg0.N) (k : Fin 1024) (f : Fin 704) :
    (iblk m c 5 t : Vec Ideal S1x1x1024x704 .bf16) (ix4 (0 : Fin 1) (0 : Fin 1) k f) = m ((c : Thread nD τ).loc main_arg3) (ix2 k (col (part 1 (bj t)) f)) := by
  have hi := (index_row t).2.2.2.2.2.1
  have e : ((cfg0.win 5).blk t).view.emb (ix4 (0 : Fin 1) (0 : Fin 1) k f) = ix4 (part 1 (bj t)) (0 : Fin 1) k f := by
    funext a
    apply Fin.ext
    match a with
    | ⟨0, _⟩ => show win0_5.index t 0 * 1 + 1 * 0 = 4 * 1 + t.val % 4; rw [hi]; simp; omega
    | ⟨1, _⟩ => show win0_5.index t 1 * 1 + 1 * 0 = 0; rw [hi]; simp
    | ⟨2, _⟩ => show win0_5.index t 2 * 1024 + 1 * k.val = k.val; rw [hi]; simp
    | ⟨3, _⟩ => show win0_5.index t 3 * 704 + 1 * f.val = f.val; rw [hi]; simp
  unfold iblk
  rw [View.read_apply]
  show V m c main_v19 _ = _
  rw [e, weights_apply]

theorem iblk6 (t : Fin cfg0.N) (f : Fin 704) (k : Fin 1024) :
    (iblk m c 6 t : Vec Ideal S2x1x352x1024 .bf16) (ix4 (⟨f.val / 352, by omega⟩ : Fin 2) (0 : Fin 1) (⟨f.val % 352, by omega⟩ : Fin 352) k)
      = m ((c : Thread nD τ).loc main_arg4) (ix2 (down (bj t) f) k) := by
  have hi := (index_row t).2.2.2.2.2.2.1
  have e : ((cfg0.win 6).blk t).view.emb (ix4 (⟨f.val / 352, by omega⟩ : Fin 2) (0 : Fin 1) (⟨f.val % 352, by omega⟩ : Fin 352) k)
      = ix4 (⟨t.val % 4 * 2 + f.val / 352, by omega⟩ : Fin 8) (0 : Fin 1) (⟨f.val % 352, by omega⟩ : Fin 352) k := by
    funext a
    apply Fin.ext
    match a with
    | ⟨0, _⟩ => show win0_6.index t 0 * 2 + 1 * (f.val / 352) = t.val % 4 * 2 + f.val / 352; rw [hi]; simp
    | ⟨1, _⟩ => show win0_6.index t 1 * 1 + 1 * 0 = 0; rw [hi]; simp
    | ⟨2, _⟩ => show win0_6.index t 2 * 352 + 1 * (f.val % 352) = f.val % 352; rw [hi]; simp
    | ⟨3, _⟩ => show win0_6.index t 3 * 1024 + 1 * k.val = k.val; rw [hi]; simp
  unfold iblk
  rw [View.read_apply]
  show V m c main_v20 _ = _
  rw [e, down_apply]
  refine congrArg _ (congrArg (fun u => ix2 u k) (Fin.ext ?_))
  show (t.val % 4 * 2 + f.val / 352) * 352 + f.val % 352 = t.val % 4 * 704 + f.val
  omega

end Cert.Kernel2Ideal.Ffn
-- ==== Proof.Ffn.Sum.lean ====
/-
  What the scratch buffers and the written blocks of the backward feed-forward call hold after each grid point.
-/
module

public import proofs.«01_k».proof.Proof.Ffn.Point
public import proofs.«01_k».proof.Proof.Ffn.Read

@[expose] public section
set_option maxRecDepth 16384
noncomputable section

namespace Cert.Kernel2Ideal.Ffn
open Cert.Kernel2Ideal Cert.Kernel2Ideal.Gen Cert.Kernel2Ideal.Value Idealize.ShloMosaic Idealize.ShloMosaic.TcCoe Idealize.ShloMosaic.StableHlo Idealize.SL.Sem

/-! ## The gradients, token by token and column by column -/

section
variable (dy x : Vec Ideal S16384x1024 .f32) (ln : Vec Ideal S1024 .f32) (w : Vec Ideal S1024x5632 .bf16) (wd : Vec Ideal S2816x1024 .bf16)

/-- The gradient of the activation. -/
def actGrad (s : Fin 16384) (q : Fin 2816) : EReal := ∑ k : Fin 1024, dy (ix2 s k) * wd (ix2 q k)

/-- The gradient of the gate part (`i = 0`) or of the up part (`i = 1`) in column `f` of block `j`. -/
def guGrad (i : Fin 2) (s : Fin 16384) (j : Fin 4) (f : Fin 704) : EReal :=
  if i = 0 then dGate (actGrad dy wd s (down j f)) (proj x ln w s (col (part 0 j) f)) (proj x ln w s (col (part 1 j) f))
  else dUp (actGrad dy wd s (down j f)) (proj x ln w s (col (part 0 j) f))

/-- What column block `j` adds to the gradient of a normalized token. -/
def normPart (s : Fin 16384) (k : Fin 1024) (j : Fin 4) : EReal :=
  (∑ f : Fin 704, guGrad dy x ln w wd 0 s j f * w (ix2 k (col (part 0 j) f))) + ∑ f : Fin 704, guGrad dy x ln w wd 1 s j f * w (ix2 k (col (part 1 j) f))

/-- The gradient of a normalized token. -/
def normGrad (s : Fin 16384) (k : Fin 1024) : EReal := ∑ j : Fin 4, normPart dy x ln w wd s k j

end

variable (m : (ℓ : Loc nD τ sig) → Buf (Elt Ideal) ℓ) (c : Dev nD)

abbrev aDy : Vec Ideal S16384x1024 .f32 := m ((c : Thread nD τ).loc main_arg0)
abbrev aX : Vec Ideal S16384x1024 .f32 := m ((c : Thread nD τ).loc main_arg1)
abbrev aLn : Vec Ideal S1024 .f32 := m ((c : Thread nD τ).loc main_arg2)
abbrev aW : Vec Ideal S1024x5632 .bf16 := m ((c : Thread nD τ).loc main_arg3)
abbrev aWd : Vec Ideal S2816x1024 .bf16 := m ((c : Thread nD τ).loc main_arg4)

theorem dAct_eq (t : Fin cfg0.N) (p : Fin 512) (f : Fin 704) :
    dAct (fun k => aDy m c (ix2 (tok (bi t) p) k)) (iblk m c 6 t) f = actGrad (aDy m c) (aWd m c) (tok (bi t) p) (down (bj t) f) := by
  unfold dAct actGrad
  exact Finset.sum_congr rfl fun k _ => congrArg (fun v : EReal => aDy m c (ix2 (tok (bi t) p) k) * v) (iblk6 m c t f k)

theorem gain_eq (t : Fin cfg0.N) (p : Fin 512) (k : Fin 1024) :
    gain (fun k => aDy m c (ix2 (tok (bi t) p) k)) (fun f => (iblk m c 3 t : Vec Ideal S2x1x512x704 .bf16) (ix4 (0 : Fin 2) (0 : Fin 1) p f))
      (fun f => (iblk m c 3 t : Vec Ideal S2x1x512x704 .bf16) (ix4 (1 : Fin 2) (0 : Fin 1) p f)) (iblk m c 4 t) (iblk m c 5 t) (iblk m c 6 t) k
      = normPart (aDy m c) (aX m c) (aLn m c) (aW m c) (aWd m c) (tok (bi t) p) k (bj t) := by
  unfold gain normPart guGrad
  refine congrArg₂ (fun u v : EReal => u + v) (Finset.sum_congr rfl fun f _ => ?_) (Finset.sum_congr rfl fun f _ => ?_)
  · beta_reduce
    rw [dAct_eq, iblk3, iblk3, if_pos rfl]
    exact congrArg (fun v : EReal => _ * v) (iblk4 m c t k f)
  · beta_reduce
    rw [dAct_eq, iblk3, if_neg (by decide)]
    exact congrArg (fun v : EReal => _ * v) (iblk5 m c t k f)

theorem bi_pred (t : Fin cfg0.N) (h : ¬t.val % 4 = 0) (h' : t.val - 1 < cfg0.N) : bi ⟨t.val - 1, h'⟩ = bi t :=
  Fin.ext (by show (t.val - 1) / 4 = t.val / 4; omega)

/-- The copy of the gradient's block is the same at all four points of a block of tokens. -/
theorem copied (n : ℕ) (h : n < cfg0.N) (p : Fin 512) (k : Fin 1024) :
    (outsAt0 m c n h).2.2.2.1 (ix2 p k) = aDy m c (ix2 (tok (bi ⟨n, h⟩) p) k) := by
  induction n using Nat.strong_induction_on with
  | _ n ih =>
    have hn := hN ⟨n, h⟩
    change n < 128 at hn
    by_cases h0 : n % 4 = 0
    · by_cases h1 : n % 128 = 0
      · refine (congrArg (fun o => o.2.2.2.1 (ix2 p k)) (outsAt0_A m c ⟨n, h⟩ h0 h1 (by show ¬n % 4 = 3; omega))).trans ?_
        frame_out
        rw [copy_apply]
        exact iblk0 m c _ p k
      · refine (congrArg (fun o => o.2.2.2.1 (ix2 p k)) (outsAt0_D m c ⟨n, h⟩ h0 h1 (by show ¬n % 4 = 3; omega))).trans ?_
        frame_out
        rw [copy_apply]
        exact iblk0 m c _ p k
    · have e := (ih (n - 1) (by omega) (by omega)).trans (congrArg (fun b => aDy m c (ix2 (tok b p) k)) (bi_pred ⟨n, h⟩ h0 (by show n - 1 < cfg0.N; omega)))
      by_cases h2 : n % 4 = 3
      · refine (congrArg (fun o => o.2.2.2.1 (ix2 p k)) (outsAt0_C m c ⟨n, h⟩ h0 (by show ¬n % 128 = 0; omega) h2)).trans ?_
        frame_out
        exact e
      · refine (congrArg (fun o => o.2.2.2.1 (ix2 p k)) (outsAt0_B m c ⟨n, h⟩ h0 (by show ¬n % 128 = 0; omega) h2)).trans ?_
        frame_out
        exact e

/-- A half read from a buffer that one store has filled. -/
theorem read_full {e : EltTy} {κ : _} {sp : _} (v : View sig κ sp S512x1024 e) (o : ℕ) (inb : ∀ a, (![o, 0] : Fin 2 → ℕ) a + S256x1024.size a ≤ S512x1024.size a)
    (inb' : ∀ a, (![0, 0] : Fin 2 → ℕ) a + S512x1024.size a ≤ S512x1024.size a)
    (w : S512x1024.Idx → Elt Ideal e) (L : List (View.Piece (Elt Ideal) S512x1024 e)) (r : Fin 256) (k : Fin 1024) (h : o + r.val < 512) :
    v.readCov ((⟨Rect.unit (s := S512x1024) ![0, 0] S512x1024.size inb', w⟩ : View.Piece (Elt Ideal) S512x1024 e) :: L)
      (Rect.unit (s := S512x1024) ![o, 0] S256x1024.size inb).toLoadRect (ix2 r k) = w (ix2 (⟨o + r.val, h⟩ : Fin 512) k) := by
  rw [View.readCov_eq_canon']
  show View.canon _ ((Rect.unit (s := S512x1024) ![o, 0] S256x1024.size inb).emb (ix2 r k)) = _
  rw [half_emb o inb r k h]
  exact congrFun (View.canon_cons_unit_zero (S := S512x1024) (by decide) inb' w L) _

/-- The second half read from a buffer that one store has filled and another has changed in its first half. -/
theorem read_high {e : EltTy} {κ : _} {sp : _} (v : View sig κ sp S512x1024 e) (inb : ∀ a, (![256, 0] : Fin 2 → ℕ) a + S256x1024.size a ≤ S512x1024.size a)
    (inb₀ : ∀ a, (![0, 0] : Fin 2 → ℕ) a + S256x1024.size a ≤ S512x1024.size a) (inb' : ∀ a, (![0, 0] : Fin 2 → ℕ) a + S512x1024.size a ≤ S512x1024.size a)
    (u : S256x1024.Idx → Elt Ideal e) (w : S512x1024.Idx → Elt Ideal e) (L : List (View.Piece (Elt Ideal) S512x1024 e)) (r : Fin 256) (k : Fin 1024) :
    v.readCov ((⟨Rect.unit (s := S512x1024) ![0, 0] S256x1024.size inb₀, u⟩ : View.Piece (Elt Ideal) S512x1024 e)
      :: (⟨Rect.unit (s := S512x1024) ![0, 0] S512x1024.size inb', w⟩ : View.Piece (Elt Ideal) S512x1024 e) :: L)
      (Rect.unit (s := S512x1024) ![256, 0] S256x1024.size inb).toLoadRect (ix2 r k) = w (ix2 (⟨256 + r.val, by omega⟩ : Fin 512) k) := by
  rw [View.readCov_eq_canon']
  show View.canon _ ((Rect.unit (s := S512x1024) ![256, 0] S256x1024.size inb).emb (ix2 r k)) = _
  rw [half_emb 256 inb r k (by omega), canon_miss 0 _ _ _ _ _ (.inr (by show 0 + 256 ≤ 256 + r.val; omega))]
  exact congrFun (View.canon_cons_unit_zero (S := S512x1024) (by decide) inb' w L) _

section
variable (t : Fin cfg0.N) (p : Fin 512) (k : Fin 1024)

theorem add_C (h0 : ¬t.val % 4 = 0) (h2 : t.val % 4 = 3) :
    (outsAt0 m c t.val t.isLt).2.2.2.2 (ix2 p k) = (outsAt0 m c (t.val - 1) (Nat.lt_of_le_of_lt (Nat.sub_le _ _) t.isLt)).2.2.2.2 (ix2 p k)
      + normPart (aDy m c) (aX m c) (aLn m c) (aW m c) (aWd m c) (tok (bi t) p) k (bj t) := by
  rw [outsAt0_C m c t h0 (by omega) h2]
  frame_out
  refine (acc_canon (fun p k => aDy m c (ix2 (tok (bi t) p) k)) (fun p k => (outsAt0 m c (t.val - 1) (Nat.lt_of_le_of_lt (Nat.sub_le _ _) t.isLt)).2.2.2.2 (ix2 p k))
    _ _ _ _ _ _ _ _ _ ?_ ?_ ?_ ?_ p k).trans (congrArg (fun v : EReal => _ + v) (gain_eq m c t p k))
  · exact fun r k => (ld_half 0 _ _ r k (by omega)).trans ((congrFun ((Memref.isWhole_whole cc0_scratch0).read_unread _) _).trans
      ((copied m c _ _ _ _).trans (congrArg (fun b => aDy m c (ix2 (tok b _) k)) (bi_pred t h0 _))))
  · exact fun r k => (ld_half 256 _ _ r k (by omega)).trans ((congrFun ((Memref.isWhole_whole cc0_scratch0).read_unread _) _).trans
      ((copied m c _ _ _ _).trans (congrArg (fun b => aDy m c (ix2 (tok b _) k)) (bi_pred t h0 _))))
  · exact fun r k => (ld_half 0 _ _ r k (by omega)).trans (congrFun ((Memref.isWhole_whole cc0_scratch1).read_unread _) _)
  · exact fun r k => (ld_half 256 _ _ r k (by omega)).trans (congrFun ((Memref.isWhole_whole cc0_scratch1).read_unread _) _)

theorem add_B (h0 : ¬t.val % 4 = 0) (h2 : ¬t.val % 4 = 3) :
    (outsAt0 m c t.val t.isLt).2.2.2.2 (ix2 p k) = (outsAt0 m c (t.val - 1) (Nat.lt_of_le_of_lt (Nat.sub_le _ _) t.isLt)).2.2.2.2 (ix2 p k)
      + normPart (aDy m c) (aX m c) (aLn m c) (aW m c) (aWd m c) (tok (bi t) p) k (bj t) := by
  rw [outsAt0_B m c t h0 (by omega) h2]
  frame_out
  refine (acc_canon (fun p k => aDy m c (ix2 (tok (bi t) p) k)) (fun p k => (outsAt0 m c (t.val - 1) (Nat.lt_of_le_of_lt (Nat.sub_le _ _) t.isLt)).2.2.2.2 (ix2 p k))
    _ _ _ _ _ _ _ _ _ ?_ ?_ ?_ ?_ p k).trans (congrArg (fun v : EReal => _ + v) (gain_eq m c t p k))
  · exact fun r k => (ld_half 0 _ _ r k (by omega)).trans ((congrFun ((Memref.isWhole_whole cc0_scratch0).read_unread _) _).trans
      ((copied m c _ _ _ _).trans (congrArg (fun b => aDy m c (ix2 (tok b _) k)) (bi_pred t h0 _))))
  · exact fun r k => (ld_half 256 _ _ r k (by omega)).trans ((congrFun ((Memref.isWhole_whole cc0_scratch0).read_unread _) _).trans
      ((copied m c _ _ _ _).trans (congrArg (fun b => aDy m c (ix2 (tok b _) k)) (bi_pred t h0 _))))
  · exact fun r k => (ld_half 0 _ _ r k (by omega)).trans (congrFun ((Memref.isWhole_whole cc0_scratch1).read_unread _) _)
  · exact fun r k => (ld_half 256 _ _ r k (by omega)).trans (congrFun ((Memref.isWhole_whole cc0_scratch1).read_unread _) _)

theorem add_D (h0 : t.val % 4 = 0) (h1 : ¬t.val % 128 = 0) :
    (outsAt0 m c t.val t.isLt).2.2.2.2 (ix2 p k) = 0
      + normPart (aDy m c) (aX m c) (aLn m c) (aW m c) (aWd m c) (tok (bi t) p) k (bj t) := by
  rw [outsAt0_D m c t h0 h1 (by omega)]
  frame_out
  refine (acc_canon (fun p k => aDy m c (ix2 (tok (bi t) p) k)) (fun p k => 0)
    _ _ _ _ _ _ _ _ _ ?_ ?_ ?_ ?_ p k).trans (congrArg (fun v : EReal => _ + v) (gain_eq m c t p k))
  · exact fun r k => (read_full _ 0 _ _ _ _ r k (by omega)).trans ((copy_apply _ _).trans (iblk0 m c t _ k))
  · exact fun r k => (read_full _ 256 _ _ _ _ r k (by omega)).trans ((copy_apply _ _).trans (iblk0 m c t _ k))
  · exact fun r k => (read_full _ 0 _ _ _ _ r k (by omega)).trans (zero_apply _)
  · exact fun r k => (read_high _ _ _ _ _ _ _ r k).trans (zero_apply _)

theorem add_A (h0 : t.val % 4 = 0) (h1 : t.val % 128 = 0) :
    (outsAt0 m c t.val t.isLt).2.2.2.2 (ix2 p k) = 0
      + normPart (aDy m c) (aX m c) (aLn m c) (aW m c) (aWd m c) (tok (bi t) p) k (bj t) := by
  rw [outsAt0_A m c t h0 h1 (by omega)]
  frame_out
  refine (acc_canon (fun p k => aDy m c (ix2 (tok (bi t) p) k)) (fun p k => 0)
    _ _ _ _ _ _ _ _ _ ?_ ?_ ?_ ?_ p k).trans (congrArg (fun v : EReal => _ + v) (gain_eq m c t p k))
  · exact fun r k => (read_full _ 0 _ _ _ _ r k (by omega)).trans ((copy_apply _ _).trans (iblk0 m c t _ k))
  · exact fun r k => (read_full _ 256 _ _ _ _ r k (by omega)).trans ((copy_apply _ _).trans (iblk0 m c t _ k))
  · exact fun r k => (read_full _ 0 _ _ _ _ r k (by omega)).trans (zero_apply _)
  · exact fun r k => (read_high _ _ _ _ _ _ _ r k).trans (zero_apply _)

end

/-- The running gradient after the last point of a block of tokens. -/
theorem running (t : Fin cfg0.N) (ht : t.val % 4 = 4 - 1) (y : S512x1024.Idx) :
    (outsAt0 m c t.val t.isLt).2.2.2.2 y = normGrad (aDy m c) (aX m c) (aLn m c) (aW m c) (aWd m c) (tok (bi t) (y 0)) (y 1) := by
  refine (Pipeline.eq_sum_fin_of_reset_step_apply_of_flush (fun n h => (outsAt0 m c n h).2.2.2.2) 4 (fun _ => 0)
    (fun t y => normPart (aDy m c) (aX m c) (aLn m c) (aW m c) (aWd m c) (tok (bi t) (y 0)) (y 1) (bj t))
    (fun t h y => ?_) (fun t h y => ?_) t ht y).trans ?_
  · rw [eq_ix2 y]
    by_cases h1 : t.val % 128 = 0
    · exact add_A m c t _ _ h h1
    · exact add_D m c t _ _ h h1
  · rw [eq_ix2 y]
    by_cases h2 : t.val % 4 = 3
    · exact add_C m c t _ _ h h2
    · exact add_B m c t _ _ h h2
  · rw [zero_add]
    unfold normGrad
    refine Finset.sum_congr rfl fun s _ => ?_
    refine congrArg₂ (fun b j => normPart (aDy m c) (aX m c) (aLn m c) (aW m c) (aWd m c) (tok b (y 0)) (y 1) j) (Fin.ext ?_) (Fin.ext ?_)
    · show (4 * (t.val / 4) + s.val) / 4 = t.val / 4
      omega
    · show (4 * (t.val / 4) + s.val) % 4 = s.val
      omega

/-- The whole buffer read back after stores that fill it. -/
theorem read_whole {e : EltTy} {κ : _} {sp : _} (v : View sig κ sp S512x1024 e) (inb : ∀ a, (![0, 0] : Fin 2 → ℕ) a + S512x1024.size a ≤ S512x1024.size a)
    (L : List (View.Piece (Elt Ideal) S512x1024 e)) :
    v.readCov L (Rect.unit (s := S512x1024) ![0, 0] S512x1024.size inb).toLoadRect = View.canon L := by
  rw [View.readCov_eq_canon']
  funext j
  refine congrArg (View.canon L) (funext fun a => Fin.ext ?_)
  match a with
  | ⟨0, _⟩ => show 0 + 1 * (j 0).val = (j 0).val; omega
  | ⟨1, _⟩ => show 0 + 1 * (j 1).val = (j 1).val; omega

theorem out_x (t : Fin cfg0.N) (ht : t.val % 4 = 3) :
    (outsAt0 m c t.val t.isLt).1 = k0_pay4 (F := Ideal) (iblk m c 1 t) (iblk m c 2 t) (outsAt0 m c t.val t.isLt).2.2.2.2 (iblk m c 0 t) := by
  rw [outsAt0_C m c t (by omega) (by omega) ht]
  frame_out
  refine congrArg (fun a => k0_pay4 (F := Ideal) (iblk m c 1 t) (iblk m c 2 t) a (iblk m c 0 t)) ?_
  exact read_whole _ _ _

theorem out_ln_last (t : Fin cfg0.N) (ht : t.val % 4 = 3) :
    (outsAt0 m c t.val t.isLt).2.2.1 = k0_pay5 (F := Ideal) (iblk m c 1 t) (outsAt0 m c t.val t.isLt).2.2.2.2
      (outsAt0 m c (t.val - 1) (Nat.lt_of_le_of_lt (Nat.sub_le _ _) t.isLt)).2.2.1 := by
  rw [outsAt0_C m c t (by omega) (by omega) ht]
  frame_out
  exact congrArg (fun a => k0_pay5 (F := Ideal) (iblk m c 1 t) a (outsAt0 m c (t.val - 1) (Nat.lt_of_le_of_lt (Nat.sub_le _ _) t.isLt)).2.2.1) (read_whole _ _ _)

theorem out_ln_keep (t : Fin cfg0.N) (ht : ¬t.val % 4 = 3) (h1 : ¬t.val % 128 = 0) :
    (outsAt0 m c t.val t.isLt).2.2.1 = (outsAt0 m c (t.val - 1) (Nat.lt_of_le_of_lt (Nat.sub_le _ _) t.isLt)).2.2.1 := by
  by_cases h0 : t.val % 4 = 0
  · rw [outsAt0_D m c t h0 h1 ht]
    rfl
  · rw [outsAt0_B m c t h0 h1 ht]
    rfl

theorem out_ln_first (t : Fin cfg0.N) (h1 : t.val % 128 = 0) (y : S1x1024.Idx) :
    (outsAt0 m c t.val t.isLt).2.2.1 y = 0 := by
  rw [outsAt0_A m c t (by omega) h1 (by omega)]
  frame_out
  exact zero_row_apply y

end Cert.Kernel2Ideal.Ffn
-- ==== Proof.Ffn.Arrays.lean ====
/-
  The arrays that the backward feed-forward call leaves.
-/
module

public import proofs.«01_k».proof.Proof.Ffn.Sum

@[expose] public section
set_option maxRecDepth 16384
noncomputable section

namespace Cert.Kernel2Ideal.Ffn
open Cert.Kernel2Ideal Cert.Kernel2Ideal.Gen Cert.Kernel2Ideal.Value Idealize.ShloMosaic Idealize.ShloMosaic.TcCoe Idealize.ShloMosaic.StableHlo Idealize.SL.Sem

/-! ## The arrays, in terms of the arguments -/

/-- The gradient of a row that is divided by its root mean square and scaled: `e` is the gradient of the result. -/
def rmsBack (xr ln e : Fin 1024 → EReal) (k : Fin 1024) : EReal :=
  rms xr * (e k * ln k - xr k * rms xr * Ideal.div (∑ i : Fin 1024, e i * ln i * (xr i * rms xr)) (Ideal.ofBits FTy.f32 1149239296#32))

section
variable (dy x : Vec Ideal S16384x1024 .f32) (ln : Vec Ideal S1024 .f32) (w : Vec Ideal S1024x5632 .bf16) (wd : Vec Ideal S2816x1024 .bf16)

/-- The gradient of the tokens. -/
def kX : Vec Ideal S16384x1024 .f32 := fun i =>
  dy (ix2 (i 0) (i 1)) + rmsBack (fun k => x (ix2 (i 0) k)) (fun k => ln (ix1 k)) (normGrad dy x ln w wd (i 0)) (i 1)

/-- The gradient of the gate and up parts. -/
def kGu : Vec Ideal S2x4x16384x704 .bf16 := fun i => guGrad dy x ln w wd (i 0) (i 2) (i 1) (i 3)

/-- The gradient of the scale. -/
def kLn : Vec Ideal S1x1024 .f32 := fun i =>
  ∑ s : Fin 16384, normGrad dy x ln w wd s (i 1) * (x (ix2 s (i 1)) * rms (fun k => x (ix2 s k)))

end

theorem pay4_apply (x1 : Vec Ideal S512x1024 .f32) (x2 : Vec Ideal S1x1024 .f32) (a x0 : Vec Ideal S512x1024 .f32) (r : Fin 512) (k : Fin 1024) :
    k0_pay4 (F := Ideal) x1 x2 a x0 (ix2 r k)
      = x0 (ix2 r k) + rmsBack (fun i => x1 (ix2 r i)) (fun i => x2 (ix2 (0 : Fin 1) i)) (fun i => a (ix2 r i)) k := by
  unfold k0_pay4 k0_pay3 k0_pay2 rmsBack rms
  pointwise []

theorem pay5_apply (x1 a : Vec Ideal S512x1024 .f32) (u : Vec Ideal S1x1024 .f32) (k : Fin 1024) :
    k0_pay5 (F := Ideal) x1 a u (ix2 (0 : Fin 1) k)
      = u (ix2 (0 : Fin 1) k) + ∑ p : Fin 512, a (ix2 p k) * (x1 (ix2 p k) * rms (fun i => x1 (ix2 p i))) := by
  unfold k0_pay5 k0_pay3 k0_pay2 rms
  pointwise []

variable (m : (ℓ : Loc nD τ sig) → Buf (Elt Ideal) ℓ) (c : Dev nD)

theorem gu_eq (t : Fin cfg0.N) (i : Fin 2) (p : Fin 512) (f : Fin 704) :
    (if i = 0 then dGate (dAct (fun k => aDy m c (ix2 (tok (bi t) p) k)) (iblk m c 6 t) f) ((iblk m c 3 t : Vec Ideal S2x1x512x704 .bf16) (ix4 (0 : Fin 2) (0 : Fin 1) p f))
        ((iblk m c 3 t : Vec Ideal S2x1x512x704 .bf16) (ix4 (1 : Fin 2) (0 : Fin 1) p f))
      else dUp (dAct (fun k => aDy m c (ix2 (tok (bi t) p) k)) (iblk m c 6 t) f) ((iblk m c 3 t : Vec Ideal S2x1x512x704 .bf16) (ix4 (0 : Fin 2) (0 : Fin 1) p f)))
      = guGrad (aDy m c) (aX m c) (aLn m c) (aW m c) (aWd m c) i (tok (bi t) p) (bj t) f := by
  rw [dAct_eq, iblk3, iblk3]
  rfl

/-- What every grid point writes of the gate and up parts' gradients. -/
theorem out_gu (t : Fin cfg0.N) (i : Fin 2) (p : Fin 512) (f : Fin 704) :
    (outsAt0 m c t.val t.isLt).2.1 (ix4 i (0 : Fin 1) p f) = guGrad (aDy m c) (aX m c) (aLn m c) (aW m c) (aWd m c) i (tok (bi t) p) (bj t) f := by
  have hn := hN t
  by_cases h0 : t.val % 4 = 0
  · by_cases h1 : t.val % 128 = 0
    · rw [outsAt0_A m c t h0 h1 (by omega)]
      frame_out
      refine (dgu_canon (fun p k => aDy m c (ix2 (tok (bi t) p) k)) _ _ _ _ ?_ ?_ i p f).trans (gu_eq m c t i p f)
      · exact fun r k => (read_full _ 0 _ _ _ _ r k (by omega)).trans ((copy_apply _ _).trans (iblk0 m c t _ k))
      · exact fun r k => (read_full _ 256 _ _ _ _ r k (by omega)).trans ((copy_apply _ _).trans (iblk0 m c t _ k))
    · rw [outsAt0_D m c t h0 h1 (by omega)]
      frame_out
      refine (dgu_canon (fun p k => aDy m c (ix2 (tok (bi t) p) k)) _ _ _ _ ?_ ?_ i p f).trans (gu_eq m c t i p f)
      · exact fun r k => (read_full _ 0 _ _ _ _ r k (by omega)).trans ((copy_apply _ _).trans (iblk0 m c t _ k))
      · exact fun r k => (read_full _ 256 _ _ _ _ r k (by omega)).trans ((copy_apply _ _).trans (iblk0 m c t _ k))
  · by_cases h2 : t.val % 4 = 3
    · rw [outsAt0_C m c t h0 (by omega) h2]
      frame_out
      refine (dgu_canon (fun p k => aDy m c (ix2 (tok (bi t) p) k)) _ _ _ _ ?_ ?_ i p f).trans (gu_eq m c t i p f)
      · exact fun r k => (ld_half 0 _ _ r k (by omega)).trans ((congrFun ((Memref.isWhole_whole cc0_scratch0).read_unread _) _).trans
          ((copied m c _ _ _ _).trans (congrArg (fun b => aDy m c (ix2 (tok b _) k)) (bi_pred t h0 _))))
      · exact fun r k => (ld_half 256 _ _ r k (by omega)).trans ((congrFun ((Memref.isWhole_whole cc0_scratch0).read_unread _) _).trans
          ((copied m c _ _ _ _).trans (congrArg (fun b => aDy m c (ix2 (tok b _) k)) (bi_pred t h0 _))))
    · rw [outsAt0_B m c t h0 (by omega) h2]
      frame_out
      refine (dgu_canon (fun p k => aDy m c (ix2 (tok (bi t) p) k)) _ _ _ _ ?_ ?_ i p f).trans (gu_eq m c t i p f)
      · exact fun r k => (ld_half 0 _ _ r k (by omega)).trans ((congrFun ((Memref.isWhole_whole cc0_scratch0).read_unread _) _).trans
          ((copied m c _ _ _ _).trans (congrArg (fun b => aDy m c (ix2 (tok b _) k)) (bi_pred t h0 _))))
      · exact fun r k => (ld_half 256 _ _ r k (by omega)).trans ((congrFun ((Memref.isWhole_whole cc0_scratch0).read_unread _) _).trans
          ((copied m c _ _ _ _).trans (congrArg (fun b => aDy m c (ix2 (tok b _) k)) (bi_pred t h0 _))))

/-- The gradient of the tokens at the last point of a block. -/
theorem out_x_apply (t : Fin cfg0.N) (ht : t.val % 4 = 3) (p : Fin 512) (k : Fin 1024) :
    (outsAt0 m c t.val t.isLt).1 (ix2 p k) = kX (aDy m c) (aX m c) (aLn m c) (aW m c) (aWd m c) (ix2 (tok (bi t) p) k) := by
  rw [out_x m c t ht, pay4_apply, iblk0 m c t p k]
  unfold kX
  refine congrArg (fun v : EReal => aDy m c (ix2 (tok (bi t) p) k) + v) ?_
  have e1 : (fun i => (iblk m c 1 t : Vec Ideal S512x1024 .f32) (ix2 p i)) = fun i => aX m c (ix2 (tok (bi t) p) i) := funext fun i => iblk1 m c t p i
  have e2 : (fun i => (iblk m c 2 t : Vec Ideal S1x1024 .f32) (ix2 (0 : Fin 1) i)) = fun i => aLn m c (ix1 i) := funext fun i => iblk2 m c t i
  have e3 : (fun i => (outsAt0 m c t.val t.isLt).2.2.2.2 (ix2 p i)) = normGrad (aDy m c) (aX m c) (aLn m c) (aW m c) (aWd m c) (tok (bi t) p) :=
    funext fun i => running m c t ht (ix2 p i)
  rw [e1, e2, e3]
  rfl

/-- What the last point of a block of tokens adds to the gradient of the scale. -/
def lnPart (b : Fin 32) (k : Fin 1024) : EReal :=
  ∑ p : Fin 512, normGrad (aDy m c) (aX m c) (aLn m c) (aW m c) (aWd m c) (tok b p) k * (aX m c (ix2 (tok b p) k) * rms (fun i => aX m c (ix2 (tok b p) i)))

theorem out_ln_step (t : Fin cfg0.N) (h1 : ¬t.val % 128 = 0) (y : S1x1024.Idx) :
    (outsAt0 m c t.val t.isLt).2.2.1 y = (outsAt0 m c (t.val - 1) (Nat.lt_of_le_of_lt (Nat.sub_le _ _) t.isLt)).2.2.1 y
      + if t.val % 4 = 3 then lnPart m c (bi t) (y 1) else 0 := by
  by_cases ht : t.val % 4 = 3
  · rw [if_pos ht, out_ln_last m c t ht]
    obtain ⟨k, rfl⟩ : ∃ k : Fin 1024, y = ix2 (0 : Fin 1) k := ⟨y 1, (eq_ix2 y).trans (congrArg (fun u => ix2 u (y 1)) (Subsingleton.elim (α := Fin 1) _ _))⟩
    rw [pay5_apply]
    refine congrArg (fun v : EReal => _ + v) (Finset.sum_congr rfl fun p _ => ?_)
    have e1 : (fun i => (iblk m c 1 t : Vec Ideal S512x1024 .f32) (ix2 p i)) = fun i => aX m c (ix2 (tok (bi t) p) i) := funext fun i => iblk1 m c t p i
    rw [e1, running m c t ht (ix2 p k), iblk1 m c t p k]
    rfl
  · rw [if_neg ht, out_ln_keep m c t ht h1, add_zero]

theorem final_x : (dats m 0 c).arrAt 7 cfg0.N = kX (aDy m c) (aX m c) (aLn m c) (aW m c) (aWd m c) := by
  refine (dats m 0 c).arrAt_eq_of_covers 7 _ (by decide +kernel) fun t hf y => ?_
  have ht : t.val % 4 = 3 := (flush0_7 t).mp hf
  have hi := (index_row t).2.2.2.2.2.2.2.1
  obtain ⟨p, q, rfl⟩ : ∃ (p : Fin 512) (q : Fin 1024), y = ix2 p q := ⟨y 0, y 1, eq_ix2 y⟩
  have e : ((cfg0.win 7).blk t).view.emb (ix2 p q) = ix2 (tok (bi t) p) q := by
    funext a
    apply Fin.ext
    match a with
    | ⟨0, _⟩ => show win0_7.index t 0 * 512 + 1 * p.val = t.val / 4 * 512 + p.val; rw [hi]; simp
    | ⟨1, _⟩ => show win0_7.index t 1 * 1024 + 1 * q.val = q.val; rw [hi]; simp
  blk_simp
  rw [after0_7, e]
  exact out_x_apply m c t ht p q

theorem final_gu : (dats m 0 c).arrAt 8 cfg0.N = kGu (aDy m c) (aX m c) (aLn m c) (aW m c) (aWd m c) := by
  refine (dats m 0 c).arrAt_eq_of_covers 8 _ (by decide +kernel) fun t hf y => ?_
  have hi := (index_row t).2.2.2.2.2.2.2.2.1
  obtain ⟨i, p, f, rfl⟩ : ∃ (i : Fin 2) (p : Fin 512) (f : Fin 704), y = ix4 i (0 : Fin 1) p f :=
    ⟨y 0, y 2, y 3, (eq_ix4 y).trans (congrArg (fun u => ix4 (y 0) u (y 2) (y 3)) (Subsingleton.elim (α := Fin 1) _ _))⟩
  have e : ((cfg0.win 8).blk t).view.emb (ix4 i (0 : Fin 1) p f) = ix4 i (bj t) (tok (bi t) p) f := by
    funext a
    apply Fin.ext
    match a with
    | ⟨0, _⟩ => show win0_8.index t 0 * 2 + 1 * i.val = i.val; rw [hi]; simp
    | ⟨1, _⟩ => show win0_8.index t 1 * 1 + 1 * 0 = t.val % 4; rw [hi]; simp
    | ⟨2, _⟩ => show win0_8.index t 2 * 512 + 1 * p.val = t.val / 4 * 512 + p.val; rw [hi]; simp
    | ⟨3, _⟩ => show win0_8.index t 3 * 704 + 1 * f.val = f.val; rw [hi]; simp
  blk_simp
  rw [after0_8, e]
  exact out_gu m c t i p f

theorem final_ln : (dats m 0 c).arrAt 9 cfg0.N = kLn (aDy m c) (aX m c) (aLn m c) (aW m c) (aWd m c) := by
  refine (dats m 0 c).arrAt_eq_of_covers 9 _ (by decide +kernel) fun t hf y => ?_
  have ht : t.val % 128 = 128 - 1 := (flush0_9 t).mp hf
  have hi := (index_row t).2.2.2.2.2.2.2.2.2
  obtain ⟨k, rfl⟩ : ∃ k : Fin 1024, y = ix2 (0 : Fin 1) k := ⟨y 1, (eq_ix2 y).trans (congrArg (fun u => ix2 u (y 1)) (Subsingleton.elim (α := Fin 1) _ _))⟩
  have e : ((cfg0.win 9).blk t).view.emb (ix2 (0 : Fin 1) k) = ix2 (0 : Fin 1) k := by
    funext a
    apply Fin.ext
    match a with
    | ⟨0, _⟩ => show win0_9.index t 0 * 1 + 1 * 0 = 0; rw [hi]; simp
    | ⟨1, _⟩ => show win0_9.index t 1 * 1024 + 1 * k.val = k.val; rw [hi]; simp
  blk_simp
  rw [after0_9, e]
  refine (Pipeline.eq_sum_fin_of_reset_step_apply_of_flush (fun n h => (outsAt0 m c n h).2.2.1) 128 (fun _ => 0)
    (fun t y => if t.val % 4 = 3 then lnPart m c (bi t) (y 1) else 0) (fun t h y => ?_) (fun t h y => out_ln_step m c t h y) t ht (ix2 (0 : Fin 1) k)).trans ?_
  · rw [if_neg (by omega), add_zero]
    exact out_ln_first m c t h y
  rw [zero_add]
  have h4 : ∑ b : Fin 32, ∑ j : Fin 4, (if j.val = 3 then lnPart m c b k else 0) = ∑ s : Fin 128, if (s.val % 4) = 3 then lnPart m c ⟨s.val / 4, by omega⟩ k else 0 := by
    refine Fin.sum_mul_add_congr fun b j hl => ?_
    have hb : (⟨(b.val * 4 + j.val) / 4, by omega⟩ : Fin 32) = b := Fin.ext (by show (b.val * 4 + j.val) / 4 = b.val; omega)
    by_cases hj : j.val = 3
    · rw [if_pos hj, if_pos (by show (b.val * 4 + j.val) % 4 = 3; omega)]
      exact congrArg (fun b => lnPart m c b k) hb.symm
    · rw [if_neg hj, if_neg (by show ¬(b.val * 4 + j.val) % 4 = 3; omega)]
  refine Eq.trans (Finset.sum_congr rfl fun s _ => ?_) (h4.symm.trans ?_)
  · have hq : t.val / 128 = 0 := by have := hN t; omega
    have hs : 128 * (t.val / 128) + s.val = s.val := by omega
    refine if_congr (by show (128 * (t.val / 128) + s.val) % 4 = 3 ↔ _; rw [hs]) (congrArg (fun b => lnPart m c b k) (Fin.ext ?_)) rfl
    show (128 * (t.val / 128) + s.val) / 4 = s.val / 4
    rw [hs]
  · have h3 : ∀ b : Fin 32, ∑ j : Fin 4, (if j.val = 3 then lnPart m c b k else 0) = lnPart m c b k := fun b => by
      rw [Fin.sum_univ_four, if_neg (by decide), if_neg (by decide), if_neg (by decide), if_pos (by decide), zero_add, zero_add, zero_add]
    rw [Finset.sum_congr rfl fun b _ => h3 b]
    unfold lnPart kLn
    exact Fin.sum_mul_add_congr fun b p hl => rfl

end Cert.Kernel2Ideal.Ffn
-- ==== Proof.Ffn.Ref.lean ====
/-
  The reference of the backward feed-forward call, read element by element.
-/
module

public import proofs.«01_k».proof.Proof.Gen.Reference2Ideal.Run
public import Idealize.ShloMosaic.Lib.Pointwise

@[expose] public section
set_option maxRecDepth 16384
noncomputable section

namespace Cert.Reference2Ideal.Ffn
open Cert.Reference2Ideal Cert.Reference2Ideal.Gen Cert.Reference2Ideal.Value Idealize.ShloMosaic Idealize.ShloMosaic.TcCoe Idealize.ShloMosaic.StableHlo Idealize.SL.Sem

variable (a0 a1 : FVec Ideal S16384x1024 .f32) (a2 : FVec Ideal S1024 .f32) (a3 : FVec Ideal S1024x5632 .bf16) (a4 : FVec Ideal S2816x1024 .bf16)

/-- The mean square of each token, and the small number. -/
def rMean : FVec Ideal S16384x1 .f32 :=
  addf (Host.divf (broadcastInDim S16384x1 ![0] bcast_S16384_S16384x1_0 (Host.reduceAdd (mulf a1 a1) (constant S_ .f32 0x00000000#32) reducesTo_S16384x1024_S16384_d1 h_S_))
    (broadcastInDim S16384x1 ![] bcast_S_S16384x1 (constant S_ .f32 0x44800000#32))) (broadcastInDim S16384x1 ![] bcast_S_S16384x1 (constant S_ .f32 0x358637BD#32))

def rRoot : FVec Ideal S16384x1 .f32 := Host.rsqrt (rMean a1)

def rScale : FVec Ideal S16384x1024 .f32 :=
  broadcastInDim S16384x1024 ![0, 1] bcast_S1x1024_S16384x1024_0_1 (broadcastInDim S1x1024 ![1] bcast_S1024_S1x1024_1 a2)

def rUnit : FVec Ideal S16384x1024 .f32 := mulf a1 (broadcastInDim S16384x1024 ![0, 1] bcast_S16384x1_S16384x1024_0_1 (rRoot a1))

def rProj : FVec Ideal S16384x5632 .f32 :=
  Host.dotGeneral dot_S16384x1024_S1024x5632_S16384x5632_1_0_0_1_n_n none (mulf (rUnit a1) (rScale a2)) (extf .f32 a3 bitsLt_bf16_f32)

def rG : FVec Ideal S16384x2816 .f32 := extractStridedSlice S16384x2816 ![0, 0] (rProj a1 a2 a3) slices_S16384x5632_S16384x2816_0_0
def rU : FVec Ideal S16384x2816 .f32 := extractStridedSlice S16384x2816 ![0, 2816] (rProj a1 a2 a3) slices_S16384x5632_S16384x2816_0_2816
def rOne : FVec Ideal S16384x2816 .f32 := broadcastInDim S16384x2816 ![] bcast_S_S16384x2816 (constant S_ .f32 0x3F800000#32)
def rSig : FVec Ideal S16384x2816 .f32 := Host.divf rOne (addf rOne (Host.exp (Host.negf (rG a1 a2 a3))))
def rAct : FVec Ideal S16384x2816 .f32 := Host.dotGeneral dot_S16384x1024_S2816x1024_S16384x2816_1_1_0_0_n_n none a0 (extf .f32 a4 bitsLt_bf16_f32)
def rUp : FVec Ideal S16384x2816 .f32 := mulf (mulf (rG a1 a2 a3) (rSig a1 a2 a3)) (rAct a0 a4)
def rGate : FVec Ideal S16384x2816 .f32 :=
  addf (mulf (mulf (rAct a0 a4) (rU a1 a2 a3)) (rSig a1 a2 a3))
    (mulf (mulf (rG a1 a2 a3) (mulf (rAct a0 a4) (rU a1 a2 a3))) (mulf (rSig a1 a2 a3) (subf rOne (rSig a1 a2 a3))))

/-- The gradient of the gate and up parts, side by side. -/
def rBoth : FVec Ideal S16384x5632 .f32 :=
  addf (pad S16384x5632 ![0, 2816] ![0, 0] ![0, 0] (rUp a0 a1 a2 a3 a4) (constant S_ .f32 0x00000000#32) pads_S16384x2816_S16384x5632_000_281600 h_S_)
    (pad S16384x5632 ![0, 0] ![0, 2816] ![0, 0] (rGate a0 a1 a2 a3 a4) (constant S_ .f32 0x00000000#32) pads_S16384x2816_S16384x5632_000_028160 h_S_)

/-- The gradient of the normalized tokens. -/
def rNorm : FVec Ideal S16384x1024 .f32 :=
  Host.dotGeneral dot_S16384x5632_S1024x5632_S16384x1024_1_1_0_0_n_n none (rBoth a0 a1 a2 a3 a4) (extf .f32 a3 bitsLt_bf16_f32)

def rScaled : FVec Ideal S16384x1024 .f32 := mulf (rNorm a0 a1 a2 a3 a4) (rScale a2)

/-- What the factor's own derivative contributes, per token. -/
def rCoef : FVec Ideal S16384 .f32 :=
  Host.reduceAdd (Host.divf (mulf (shapeCast S16384x1 (Host.reduceAdd (mulf a1 (rScaled a0 a1 a2 a3 a4)) (constant S_ .f32 0x00000000#32) reducesTo_S16384x1024_S16384_d1 h_S_) shapeCasts_S16384_S16384x1)
    (mulf (broadcastInDim S16384x1 ![] bcast_S_S16384x1 (constant S_ .f32 0xBF000000#32)) (Host.divf (rRoot a1) (rMean a1))))
    (broadcastInDim S16384x1 ![] bcast_S_S16384x1 (constant S_ .f32 0x44800000#32))) (constant S_ .f32 0x00000000#32) reducesTo_S16384x1_S16384_d1 h_S_

def rX : FVec Ideal S16384x1024 .f32 :=
  addf a0 (addf (addf (mulf (rScaled a0 a1 a2 a3 a4) (broadcastInDim S16384x1024 ![0, 1] bcast_S16384x1_S16384x1024_0_1 (rRoot a1)))
    (mulf a1 (broadcastInDim S16384x1024 ![0] bcast_S16384_S16384x1024_0 (rCoef a0 a1 a2 a3 a4))))
    (mulf (broadcastInDim S16384x1024 ![0] bcast_S16384_S16384x1024_0 (rCoef a0 a1 a2 a3 a4)) a1))

def rGu : FVec Ideal S2x4x16384x704 .bf16 :=
  truncf .bf16 (transpose S2x4x16384x704 [1, 2, 0, 3] (shapeCast S16384x2x4x704 (rBoth a0 a1 a2 a3 a4) shapeCasts_S16384x5632_S16384x2x4x704)
    transposes_S16384x2x4x704_S2x4x16384x704_1_2_0_3) bitsLt_bf16_f32

def rLn : FVec Ideal S1x1024 .f32 :=
  shapeCast S1x1024 (Host.reduceAdd (shapeCast S1x1024 (Host.reduceAdd (mulf (rUnit a1) (rNorm a0 a1 a2 a3 a4)) (constant S_ .f32 0x00000000#32) reducesTo_S16384x1024_S1024_d0 h_S_)
    shapeCasts_S1024_S1x1024) (constant S_ .f32 0x00000000#32) reducesTo_S1x1024_S1024_d0 h_S_) shapeCasts_S1024_S1x1024

theorem rMean_apply (s : Fin 16384) (z : Fin 1) : rMean a1 (ix2 s z)
    = Ideal.div (∑ i : Fin 1024, a1 (ix2 s i) * a1 (ix2 s i)) (Ideal.ofBits FTy.f32 1149239296#32) + Ideal.ofBits FTy.f32 897988541#32 := by
  unfold rMean
  pointwise []

theorem rRoot_apply (s : Fin 16384) (z : Fin 1) : rRoot a1 (ix2 s z) = Ideal.rsqrt (rMean a1 (ix2 s z)) := by
  unfold rRoot
  pointwise []

theorem rProj_apply (s : Fin 16384) (q : Fin 5632) : rProj a1 a2 a3 (ix2 s q)
    = ∑ k : Fin 1024, a1 (ix2 s k) * rRoot a1 (ix2 s (0 : Fin 1)) * a2 (ix1 k) * a3 (ix2 k q) := by
  unfold rProj rUnit rScale
  pointwise []

theorem rSig_apply (s : Fin 16384) (q : Fin 2816) : rSig a1 a2 a3 (ix2 s q) = Ideal.div 1 (1 + Ideal.exp (-rProj a1 a2 a3 (ix2 s ⟨q.val, by omega⟩))) := by
  unfold rSig rOne rG
  pointwise []

theorem rAct_apply (s : Fin 16384) (q : Fin 2816) : rAct a0 a4 (ix2 s q) = ∑ k : Fin 1024, a0 (ix2 s k) * a4 (ix2 q k) := by
  unfold rAct
  pointwise []

theorem rUp_apply (s : Fin 16384) (q : Fin 2816) : rUp a0 a1 a2 a3 a4 (ix2 s q)
    = rProj a1 a2 a3 (ix2 s ⟨q.val, by omega⟩) * rSig a1 a2 a3 (ix2 s q) * rAct a0 a4 (ix2 s q) := by
  unfold rUp rG
  pointwise []

theorem rGate_apply (s : Fin 16384) (q : Fin 2816) : rGate a0 a1 a2 a3 a4 (ix2 s q)
    = rAct a0 a4 (ix2 s q) * rProj a1 a2 a3 (ix2 s ⟨2816 + q.val, by omega⟩) * rSig a1 a2 a3 (ix2 s q)
      + rProj a1 a2 a3 (ix2 s ⟨q.val, by omega⟩) * (rAct a0 a4 (ix2 s q) * rProj a1 a2 a3 (ix2 s ⟨2816 + q.val, by omega⟩)) * (rSig a1 a2 a3 (ix2 s q) * (1 - rSig a1 a2 a3 (ix2 s q))) := by
  unfold rGate rG rU rOne
  pointwise []

theorem rBoth_low (s : Fin 16384) (q : Fin 2816) : rBoth a0 a1 a2 a3 a4 (ix2 s ⟨q.val, by omega⟩) = rGate a0 a1 a2 a3 a4 (ix2 s q) := by
  unfold rBoth
  pointwise []
  rw [dif_neg (fun h => h.1), zero_add]

theorem rBoth_high (s : Fin 16384) (q : Fin 2816) : rBoth a0 a1 a2 a3 a4 (ix2 s ⟨2816 + q.val, by omega⟩) = rUp a0 a1 a2 a3 a4 (ix2 s q) := by
  unfold rBoth
  pointwise []

theorem rNorm_apply (s : Fin 16384) (k : Fin 1024) : rNorm a0 a1 a2 a3 a4 (ix2 s k) = ∑ q : Fin 5632, rBoth a0 a1 a2 a3 a4 (ix2 s q) * a3 (ix2 k q) := by
  unfold rNorm
  pointwise []

theorem rScaled_apply (s : Fin 16384) (k : Fin 1024) : rScaled a0 a1 a2 a3 a4 (ix2 s k) = rNorm a0 a1 a2 a3 a4 (ix2 s k) * a2 (ix1 k) := by
  unfold rScaled rScale
  pointwise []

theorem rCoef_apply (s : Fin 16384) : rCoef a0 a1 a2 a3 a4 (ix1 s)
    = Ideal.div ((∑ k : Fin 1024, a1 (ix2 s k) * rScaled a0 a1 a2 a3 a4 (ix2 s k)) * (Ideal.ofBits FTy.f32 3204448256#32 * Ideal.div (rRoot a1 (ix2 s (0 : Fin 1))) (rMean a1 (ix2 s (0 : Fin 1)))))
        (Ideal.ofBits FTy.f32 1149239296#32) := by
  unfold rCoef
  pointwise []
  exact Fin.sum_univ_one _

theorem rX_apply (s : Fin 16384) (k : Fin 1024) : rX a0 a1 a2 a3 a4 (ix2 s k)
    = a0 (ix2 s k) + (rScaled a0 a1 a2 a3 a4 (ix2 s k) * rRoot a1 (ix2 s (0 : Fin 1)) + a1 (ix2 s k) * rCoef a0 a1 a2 a3 a4 (ix1 s) + rCoef a0 a1 a2 a3 a4 (ix1 s) * a1 (ix2 s k)) := by
  unfold rX
  pointwise []

theorem rGu_apply (i : Fin 2) (j : Fin 4) (s : Fin 16384) (f : Fin 704) : rGu a0 a1 a2 a3 a4 (ix4 i j s f)
    = rBoth a0 a1 a2 a3 a4 (ix2 s ⟨i.val * 2816 + j.val * 704 + f.val, by omega⟩) := by
  unfold rGu
  pointwise []

theorem rLn_apply (z : Fin 1) (k : Fin 1024) : rLn a0 a1 a2 a3 a4 (ix2 z k)
    = ∑ s : Fin 16384, a1 (ix2 s k) * rRoot a1 (ix2 s (0 : Fin 1)) * rNorm a0 a1 a2 a3 a4 (ix2 s k) := by
  unfold rLn rUnit
  pointwise []
  exact Fin.sum_univ_one _

variable (m : (ℓ : Loc nD τ sig) → Buf (Elt Ideal) ℓ) (c : Dev nD)

theorem res_x : res_main_v52 m c = rX (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) := rfl

theorem res_gu : res_main_v55 m c = rGu (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) := rfl

theorem res_ln : res_main_v56 m c = rLn (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) := rfl

end Cert.Reference2Ideal.Ffn
-- ==== Proof.Norm.Math.lean ====
/-
  The algebra, on real numbers, of two backward steps: through a division by the root mean square, and through a gated
  activation. Each is written in two ways, which are equal where everything is a real number.
-/
module

public import proofs.«01_k».proof.Proof.Bwd.Equal
public import Idealize.ShloMosaic.PureOps.Ideal.Laws

@[expose] public section
noncomputable section

namespace Norm
open Idealize.ShloMosaic
open _root_.Scan (IsReal)

theorem width : Ideal.ofBits FTy.f32 1149239296#32 = ((1024 : ℝ) : EReal) := by
  unfold Ideal.ofBits Ideal.ieee
  simp
  rw [← EReal.coe_mul]
  norm_num

theorem minus_half : Ideal.ofBits FTy.f32 3204448256#32 = ((-(1 / 2) : ℝ) : EReal) := by
  unfold Ideal.ofBits Ideal.ieee
  simp
  rw [← EReal.coe_mul]
  norm_num

theorem small : ∃ ε : ℝ, 0 < ε ∧ Ideal.ofBits FTy.f32 897988541#32 = (ε : EReal) := by
  unfold Ideal.ofBits Ideal.ieee
  refine ⟨_, ?_, by simp; rfl⟩
  norm_num

theorem coe_sum {n : ℕ} (f : Fin n → ℝ) : ∑ i, (f i : EReal) = ((∑ i, f i : ℝ) : EReal) := by
  induction n with
  | zero => simp
  | succ n ih => rw [Fin.sum_univ_succ, Fin.sum_univ_succ, ih, EReal.coe_add]

theorem div_real (x : ℝ) {y : ℝ} (h : y ≠ 0) : Ideal.div (x : EReal) (y : EReal) = ((x / y : ℝ) : EReal) := by
  rw [Ideal.div_coe h, ← EReal.coe_mul]
  congr 1
  ring

/-- The mean square of a row of reals, plus a small positive number, is a positive real. -/
theorem mean_square {n : ℕ} (x : Fin n → ℝ) : ∃ a : ℝ, 0 < a ∧
    Ideal.div (∑ i, (x i : EReal) * (x i : EReal)) (Ideal.ofBits FTy.f32 1149239296#32) + Ideal.ofBits FTy.f32 897988541#32 = (a : EReal) := by
  obtain ⟨ε, hε, e⟩ := small
  refine ⟨(∑ i, x i * x i) / 1024 + ε, ?_, ?_⟩
  · have : 0 ≤ ∑ i, x i * x i := Finset.sum_nonneg fun i _ => mul_self_nonneg _
    positivity
  · rw [e, width, Finset.sum_congr rfl fun i _ => (EReal.coe_mul (x i) (x i)).symm, coe_sum, div_real _ (by norm_num), EReal.coe_add]

/-- Its reciprocal root is a positive real, and its square is the reciprocal. -/
theorem rsqrt_real {a : ℝ} (h : 0 < a) : ∃ r : ℝ, r * r = 1 / a ∧ Ideal.rsqrt (a : EReal) = (r : EReal) := by
  refine ⟨(Real.sqrt a)⁻¹, ?_, ?_⟩
  · rw [← mul_inv, Real.mul_self_sqrt h.le, one_div]
  · rw [Ideal.rsqrt_coe, if_neg (not_lt.mpr h.le), if_neg h.ne']

/-- The reciprocal root mean square of a row of reals is a real. -/
theorem rms_real {n : ℕ} {x : Fin n → EReal} (hx : ∀ i, IsReal (x i)) :
    IsReal (Ideal.rsqrt (Ideal.div (∑ i, x i * x i) (Ideal.ofBits FTy.f32 1149239296#32) + Ideal.ofBits FTy.f32 897988541#32)) := by
  choose x' hx' using hx
  obtain rfl : x = fun i => (x' i : EReal) := funext hx'
  obtain ⟨a, ha, e⟩ := mean_square x'
  obtain ⟨r, -, hr⟩ := rsqrt_real ha
  exact ⟨r, by rw [e, hr]⟩

/-- The gradient through the division by the root mean square: one form differentiates the factor, the other projects
    the gradient. -/
theorem rms_back {n : ℕ} {x e : Fin n → EReal} (hx : ∀ i, IsReal (x i)) (he : ∀ i, IsReal (e i)) (k : Fin n) (a r c : EReal)
    (ha : a = Ideal.div (∑ i, x i * x i) (Ideal.ofBits FTy.f32 1149239296#32) + Ideal.ofBits FTy.f32 897988541#32)
    (hr : r = Ideal.rsqrt a)
    (hc : c = Ideal.div ((∑ i, x i * e i) * (Ideal.ofBits FTy.f32 3204448256#32 * Ideal.div r a)) (Ideal.ofBits FTy.f32 1149239296#32)) :
    e k * r + x k * c + c * x k = r * (e k - x k * r * Ideal.div (∑ i, e i * (x i * r)) (Ideal.ofBits FTy.f32 1149239296#32)) := by
  choose x' hx' using hx
  choose e' he' using he
  obtain rfl : x = fun i => (x' i : EReal) := funext hx'
  obtain rfl : e = fun i => (e' i : EReal) := funext he'
  obtain ⟨a', ha', ea⟩ := mean_square x'
  obtain ⟨r', hr', er⟩ := rsqrt_real ha'
  beta_reduce at *
  rw [ea] at ha
  subst ha
  rw [er] at hr
  subst hr
  rw [minus_half, width, div_real _ ha'.ne'] at hc
  rw [width]
  simp only [← EReal.coe_mul, coe_sum, div_real _ (by norm_num : (1024 : ℝ) ≠ 0)] at hc ⊢
  subst hc
  simp only [← EReal.coe_mul, ← EReal.coe_add, ← EReal.coe_sub]
  congr 1
  have h1 : r' / a' = r' * (r' * r') := by rw [hr']; ring
  have h2 : ∑ i, e' i * (x' i * r') = (∑ i, x' i * e' i) * r' := by
    rw [Finset.sum_mul]
    exact Finset.sum_congr rfl fun i _ => by ring
  rw [h1, h2]
  ring

/-- The logistic function of a real is a real. -/
theorem logistic_real {g : EReal} (hg : IsReal g) : IsReal (Ideal.div 1 (1 + Ideal.exp (-g))) := by
  obtain ⟨g', rfl⟩ := hg
  refine ⟨1 / (1 + Real.exp (-g')), ?_⟩
  have h : (1 + Real.exp (-g')) ≠ 0 := by positivity
  rw [← EReal.coe_neg, Ideal.exp_coe, ← EReal.coe_one, ← EReal.coe_add, div_real _ h]

/-- The gradient of the gate: the two terms of the product rule, or their common factor taken out. -/
theorem gate_back {a g u s : EReal} (ha : IsReal a) (hg : IsReal g) (hu : IsReal u) (hs : IsReal s) :
    a * u * s + g * (a * u) * (s * (1 - s)) = a * u * (s * (1 + g * (1 - s))) := by
  obtain ⟨a, rfl⟩ := ha
  obtain ⟨g, rfl⟩ := hg
  obtain ⟨u, rfl⟩ := hu
  obtain ⟨s, rfl⟩ := hs
  simp only [← EReal.coe_one, ← EReal.coe_mul, ← EReal.coe_add, ← EReal.coe_sub]
  congr 1
  ring

end Norm
-- ==== Proof.Ffn.Equal.lean ====
/-
  The kernel's results of the backward feed-forward call and the reference's are the same arrays.
-/
module

public import proofs.«01_k».proof.Proof.Ffn.Arrays
public import proofs.«01_k».proof.Proof.Ffn.Ref
public import proofs.«01_k».proof.Proof.Norm.Math

@[expose] public section
set_option maxRecDepth 16384
noncomputable section

namespace Cert.Kernel2Ideal.Ffn
open Cert.Kernel2Ideal Idealize.ShloMosaic Cert.Reference2Ideal.Ffn
open _root_.Scan (IsReal)

variable (dy x : Vec Ideal S16384x1024 .f32) (ln : Vec Ideal S1024 .f32) (w : Vec Ideal S1024x5632 .bf16) (wd : Vec Ideal S2816x1024 .bf16)

theorem root_eq (s : Fin 16384) : rRoot x (ix2 s (0 : Fin 1)) = rms (fun k => x (ix2 s k)) := by
  rw [rRoot_apply, rMean_apply]
  rfl

theorem proj_eq (s : Fin 16384) (q : Fin 5632) : rProj x ln w (ix2 s q) = proj x ln w s q := by
  rw [rProj_apply, root_eq]
  rfl

theorem sig_eq (s : Fin 16384) (q : Fin 2816) : rSig x ln w (ix2 s q) = sg (proj x ln w s ⟨q.val, by omega⟩) := by
  rw [rSig_apply, proj_eq, ← zero_sub]
  rfl

theorem act_eq (s : Fin 16384) (q : Fin 2816) : rAct dy wd (ix2 s q) = actGrad dy wd s q := by
  rw [rAct_apply]
  rfl

theorem low_col (j : Fin 4) (f : Fin 704) : col (part 0 j) f = ⟨(down j f).val, by omega⟩ :=
  Fin.ext (by show (4 * 0 + j.val) * 704 + f.val = j.val * 704 + f.val; omega)

theorem high_col (j : Fin 4) (f : Fin 704) : col (part 1 j) f = ⟨2816 + (down j f).val, by omega⟩ :=
  Fin.ext (by show (4 * 1 + j.val) * 704 + f.val = 2816 + (j.val * 704 + f.val); omega)

section
variable (hdy : ∀ i, IsReal (dy i)) (hx : ∀ i, IsReal (x i)) (hln : ∀ i, IsReal (ln i)) (hw : ∀ i, IsReal (w i)) (hwd : ∀ i, IsReal (wd i))

theorem rms_isReal (s : Fin 16384) (hx : ∀ i, IsReal (x i)) : IsReal (rms fun k => x (ix2 s k)) :=
  Norm.rms_real fun i => hx (ix2 s i)

include hx hln hw in
theorem proj_isReal (s : Fin 16384) (q : Fin 5632) : IsReal (proj x ln w s q) :=
  IsReal.sum fun k => (((hx _).mul (rms_isReal x s hx)).mul (hln _)).mul (hw _)

include hdy hwd in
theorem act_isReal (s : Fin 16384) (q : Fin 2816) : IsReal (actGrad dy wd s q) :=
  IsReal.sum fun k => (hdy _).mul (hwd _)

theorem sg_isReal {g : EReal} (h : IsReal g) : IsReal (sg g) := by
  unfold sg
  rw [zero_sub]
  exact Norm.logistic_real h

include hdy hx hln hw hwd in
theorem guGrad_isReal (i : Fin 2) (s : Fin 16384) (j : Fin 4) (f : Fin 704) : IsReal (guGrad dy x ln w wd i s j f) := by
  have ha := act_isReal dy wd hdy hwd s (down j f)
  have hg := proj_isReal x ln w hx hln hw s (col (part 0 j) f)
  have hu := proj_isReal x ln w hx hln hw s (col (part 1 j) f)
  have h1 : IsReal (1 : EReal) := ⟨1, rfl⟩
  unfold guGrad
  split
  · exact (ha.mul hu).mul ((sg_isReal hg).mul (h1.add (hg.mul (h1.sub (sg_isReal hg)))))
  · exact ha.mul (hg.mul (sg_isReal hg))

include hdy hx hln hw hwd in
theorem normGrad_isReal (s : Fin 16384) (k : Fin 1024) : IsReal (normGrad dy x ln w wd s k) :=
  IsReal.sum fun j => (IsReal.sum fun f => (guGrad_isReal dy x ln w wd hdy hx hln hw hwd 0 s j f).mul (hw _)).add
    (IsReal.sum fun f => (guGrad_isReal dy x ln w wd hdy hx hln hw hwd 1 s j f).mul (hw _))

include hdy hx hln hw hwd in
/-- The gradient of the gate and up parts, column by column. -/
theorem both_eq (i : Fin 2) (j : Fin 4) (s : Fin 16384) (f : Fin 704) : rBoth dy x ln w wd (ix2 s (col (part i j) f)) = guGrad dy x ln w wd i s j f := by
  have hi : i = 0 ∨ i = 1 := by omega
  rcases hi with rfl | rfl
  · rw [low_col, rBoth_low, rGate_apply, proj_eq, proj_eq, sig_eq, act_eq]
    unfold guGrad dGate
    rw [if_pos rfl, low_col, high_col]
    exact Norm.gate_back (act_isReal dy wd hdy hwd _ _) (proj_isReal x ln w hx hln hw _ _) (proj_isReal x ln w hx hln hw _ _)
      (sg_isReal (proj_isReal x ln w hx hln hw _ _))
  · rw [high_col, rBoth_high, rUp_apply, proj_eq, sig_eq, act_eq]
    unfold guGrad dUp
    rw [if_neg (by decide), low_col]
    exact mul_comm _ _

include hdy hx hln hw hwd in
/-- The gradient of the normalized tokens. -/
theorem norm_eq (s : Fin 16384) (k : Fin 1024) : rNorm dy x ln w wd (ix2 s k) = normGrad dy x ln w wd s k := by
  rw [rNorm_apply]
  unfold normGrad normPart
  rw [Finset.sum_add_distrib, ← Fin.sum_univ_two (fun i : Fin 2 => ∑ j : Fin 4, ∑ f : Fin 704, guGrad dy x ln w wd i s j f * w (ix2 k (col (part i j) f)))]
  have e : ∀ (i : Fin 2) (j : Fin 4) (f : Fin 704), guGrad dy x ln w wd i s j f * w (ix2 k (col (part i j) f))
      = (fun q : Fin 5632 => rBoth dy x ln w wd (ix2 s q) * w (ix2 k q)) (col (part i j) f) := fun i j f => by
    beta_reduce
    rw [both_eq dy x ln w wd hdy hx hln hw hwd]
  simp only [e]
  refine Eq.symm ((Fin.sum_mul_add_congr (L := 8) (f := fun n : Fin 8 => ∑ f : Fin 704, (fun q : Fin 5632 => rBoth dy x ln w wd (ix2 s q) * w (ix2 k q)) (col n f)) fun i j hl => ?_).trans
    (Fin.sum_mul_add_congr fun n f hl => rfl))
  have : part i j = ⟨i.val * 4 + j.val, hl⟩ := Fin.ext (by show 4 * i.val + j.val = i.val * 4 + j.val; omega)
  rw [this]

include hdy hx hln hw hwd in
theorem ref_x_eq : rX dy x ln w wd = kX dy x ln w wd := by
  funext i
  obtain ⟨s, k, rfl⟩ : ∃ (s : Fin 16384) (k : Fin 1024), i = ix2 s k := ⟨i 0, i 1, eq_ix2 i⟩
  rw [rX_apply]
  refine congrArg (fun u : EReal => dy (ix2 s k) + u) ?_
  have hc := rCoef_apply dy x ln w wd s
  simp only [rScaled_apply, norm_eq dy x ln w wd hdy hx hln hw hwd] at hc ⊢
  rw [root_eq]
  exact Norm.rms_back (x := fun i => x (ix2 s i)) (e := fun i => normGrad dy x ln w wd s i * ln (ix1 i)) (fun i => hx _)
    (fun i => (normGrad_isReal dy x ln w wd hdy hx hln hw hwd s i).mul (hln _)) k _ _ _ (rMean_apply x s 0) ((root_eq x s).symm.trans (rRoot_apply x s 0))
    (hc.trans (by rw [root_eq]))

include hdy hx hln hw hwd in
theorem ref_gu_eq : rGu dy x ln w wd = kGu dy x ln w wd := by
  funext i
  obtain ⟨a, j, s, f, rfl⟩ : ∃ (a : Fin 2) (j : Fin 4) (s : Fin 16384) (f : Fin 704), i = ix4 a j s f := ⟨i 0, i 1, i 2, i 3, eq_ix4 i⟩
  rw [rGu_apply]
  refine Eq.trans ?_ (both_eq dy x ln w wd hdy hx hln hw hwd a j s f)
  refine congrArg (fun q : Fin 5632 => rBoth dy x ln w wd (ix2 s q)) (Fin.ext ?_)
  show a.val * 2816 + j.val * 704 + f.val = (4 * a.val + j.val) * 704 + f.val
  omega

include hdy hx hln hw hwd in
theorem ref_ln_eq : rLn dy x ln w wd = kLn dy x ln w wd := by
  funext i
  obtain ⟨z, k, rfl⟩ : ∃ (z : Fin 1) (k : Fin 1024), i = ix2 z k := ⟨i 0, i 1, eq_ix2 i⟩
  rw [rLn_apply]
  refine Finset.sum_congr rfl fun s _ => ?_
  rw [norm_eq dy x ln w wd hdy hx hln hw hwd, root_eq]
  exact mul_comm _ _
end

end Cert.Kernel2Ideal.Ffn
-- ==== Proof.Ffn.Claim.lean ====
/-
  The claims of the backward feed-forward call.
-/
module

public import proofs.«01_k».proof.Defs
public import proofs.«01_k».proof.Proof.Gen.Pre_finite2
public import proofs.«01_k».proof.Proof.Bwd.Finite
public import proofs.«01_k».proof.Proof.Ffn.Equal
public import Idealize.ShloMosaic.Lib.Quiescent

@[expose] public section
set_option maxRecDepth 16384
noncomputable section

namespace Cert.Pre_finite2.Decode
open Cert.Pre_finite2 Idealize.ShloMosaic Cert.Pre_finite.Decode
open _root_.Scan (IsReal)

/-- What the precondition says: every element of every argument is a real number. -/
theorem args_real (a0 a1 : FVec Ideal S16384x1024 .f32) (a2 : FVec Ideal S1024 .f32) (a3 : FVec Ideal S1024x5632 .bf16) (a4 : FVec Ideal S2816x1024 .bf16)
    (h : Cert.Pre_finite2.fn (F := Ideal) a0 a1 a2 a3 a4 = fun _ => 1#1) :
    (∀ i, IsReal (a0 i)) ∧ (∀ i, IsReal (a1 i)) ∧ (∀ i, IsReal (a2 i)) ∧ (∀ i, IsReal (a3 i)) ∧ ∀ i, IsReal (a4 i) := by
  have h := congrFun h (Shape.Idx.first Cert.Pre_finite2.Gen.h_S_)
  dsimp only [fn, fn_part1, andi, IntOp.andi] at h
  obtain ⟨h, h4⟩ := and_one h
  obtain ⟨h, h3⟩ := and_one h
  obtain ⟨h, h2⟩ := and_one h
  obtain ⟨h, h1⟩ := and_one h
  obtain ⟨-, h0⟩ := and_one h
  exact ⟨real_of_all a0 _ _ _ _ _ h0, real_of_all a1 _ _ _ _ _ h1, real_of_all a2 _ _ _ _ _ h2, real_of_all a3 _ _ _ _ _ h3, real_of_all a4 _ _ _ _ _ h4⟩

end Cert.Pre_finite2.Decode

namespace Cert.Kernel2Ideal.Ffn
open Cert.Kernel2Ideal Idealize.ShloMosaic Idealize.ShloMosaic.TcCoe Idealize.SL Idealize.SL.Sem

theorem reference_frame : Cert.quiescent_Reference2Ideal (hReference2Ideal := Cert.Reference2Ideal.Gen.facts) := fun m g _ =>
  (θ_run _ _ _).mono (fun _ h => ⟨fun c => (h c).2.2.2, sem_eq_zero_of_no_sems (by decide) _⟩) (Cert.Reference2Ideal.Value.run m g)

theorem algebraic : Cert.algebraic_Kernel2Ideal_Reference2Ideal_pre_finite2 (hKernel2Ideal := Cert.Kernel2Ideal.Gen.facts)
    (hReference2Ideal := Cert.Reference2Ideal.Gen.facts) (hPre_finite2 := Cert.Pre_finite2.Gen.facts) := by
  intro m g m' g' hpre hargs
  refine ⟨fun c => kX (aDy m c) (aX m c) (aLn m c) (aW m c) (aWd m c), fun c => kGu (aDy m c) (aX m c) (aLn m c) (aW m c) (aWd m c),
    fun c => kLn (aDy m c) (aX m c) (aLn m c) (aW m c) (aWd m c), ?_, ?_⟩
  · exact (θ_run _ _ _).mono (fun r h c => ⟨(h c).1.trans (final_x m c), (h c).2.1.trans (final_gu m c), (h c).2.2.1.trans (final_ln m c), (h c).2.2.2⟩)
      (Cert.Kernel2Ideal.Value.run_blocks m g)
  · refine (θ_run _ _ _).mono (fun r h c => ?_) (Cert.Reference2Ideal.Value.run m' g')
    obtain ⟨e0, e1, e2, e3, e4⟩ := hargs c
    obtain ⟨h0, h1, h2, h3, h4⟩ := Cert.Pre_finite2.Decode.args_real _ _ _ _ _ (hpre c)
    refine ⟨((h c).1.trans (Cert.Reference2Ideal.Ffn.res_x _ _)).trans ?_, ((h c).2.1.trans (Cert.Reference2Ideal.Ffn.res_gu _ _)).trans ?_,
      ((h c).2.2.1.trans (Cert.Reference2Ideal.Ffn.res_ln _ _)).trans ?_, (h c).2.2.2⟩
    · rw [e0, e1, e2, e3, e4]
      exact ref_x_eq _ _ _ _ _ h0 h1 h2 h3 h4
    · rw [e0, e1, e2, e3, e4]
      exact ref_gu_eq _ _ _ _ _ h0 h1 h2 h3 h4
    · rw [e0, e1, e2, e3, e4]
      exact ref_ln_eq _ _ _ _ _ h0 h1 h2 h3 h4

end Cert.Kernel2Ideal.Ffn
-- ==== Proof.Dw.GateUp.lean ====
/-
  The weight gradient of the gate and up projections: the kernel adds up 2048 tokens a grid point, and after the eighth point
  of a part of 704 columns it has the sum over all tokens.
-/
module

public import proofs.«01_k».proof.Proof.Gen.Kernel3Ideal.Value
public import Idealize.ShloMosaic.Lib.Pointwise
public import Idealize.ShloMosaic.Lib.Pipeline.ValueKit

@[expose] public section
set_option maxRecDepth 16384
noncomputable section

namespace Cert.Kernel3Ideal.GateUp
open Cert.Kernel3Ideal Cert.Kernel3Ideal.Gen Cert.Kernel3Ideal.Value Idealize.ShloMosaic Idealize.ShloMosaic.TcCoe Idealize.ShloMosaic.StableHlo Idealize.SL.Sem

variable (m : (ℓ : Loc nD τ sig) → Buf (Elt Ideal) ℓ) (c : Dev nD)

/-- What one grid point adds. -/
def part (x0 : Vec Ideal S2048x1024 .bf16) (x1 : Vec Ideal S1x2048x704 .bf16) (y : S1024x704.Idx) : EReal :=
  ∑ r : Fin 2048, x0 (ix2 r (y 0)) * x1 (ix3 0 r (y 1))

theorem zero_apply (y : S1024x704.Idx) : k0_pay1 (F := Ideal) y = 0 := by
  rw [eq_ix2 y]
  generalize y 0 = p
  generalize y 1 = q
  unfold k0_pay1
  pointwise []

theorem add_apply (xs : Vec Ideal S1024x704 .f32) (x0 : Vec Ideal S2048x1024 .bf16) (x1 : Vec Ideal S1x2048x704 .bf16) (y : S1024x704.Idx) :
    k0_pay2 (F := Ideal) xs x0 x1 y = xs y + part x0 x1 y := by
  rw [eq_ix2 y]
  generalize y 0 = p
  generalize y 1 = q
  unfold k0_pay2 part
  pointwise []

theorem out_apply (xs : Vec Ideal S1024x704 .f32) (p : Fin 1024) (q : Fin 704) : k0_pay3 (F := Ideal) xs (ix4 0 0 p q) = xs (ix2 p q) := by
  unfold k0_pay3
  pointwise []

/-- The running sum after the last point of a block. -/
theorem running (t : Fin cfg0.N) (ht : t.val % 8 = 8 - 1) (y : S1024x704.Idx) :
    (outsAt0 m c t.val t.isLt).2 y = 0 + ∑ s : Fin 8, part (iblk m c 0 ⟨8 * (t.val / 8) + s.val, Pipeline.run_point_lt_of_flush t ht s⟩)
      (iblk m c 1 ⟨8 * (t.val / 8) + s.val, Pipeline.run_point_lt_of_flush t ht s⟩) y :=
  Pipeline.eq_sum_fin_of_reset_step_apply_of_flush (fun n h => (outsAt0 m c n h).2) 8 (fun _ => 0)
    (fun t => part (iblk m c 0 t) (iblk m c 1 t))
    (fun t h y => by rw [outsAt0_A m c t h (by omega)]; frame_out; rw [add_apply, zero_apply])
    (fun t h y => by
      by_cases h1 : t.val % 8 = 7
      · rw [outsAt0_C m c t h h1]; frame_out; rw [add_apply]; exact congrArg (· + _) (congrFun ((Memref.isWhole_whole cc0_scratch0).read_unread _) y)
      · rw [outsAt0_B m c t h h1]; frame_out; rw [add_apply]; exact congrArg (· + _) (congrFun ((Memref.isWhole_whole cc0_scratch0).read_unread _) y)) t ht y

theorem out_last (t : Fin cfg0.N) (ht : t.val % 8 = 7) (p : Fin 1024) (q : Fin 704) :
    (outsAt0 m c t.val t.isLt).1 (ix4 0 0 p q) = (outsAt0 m c t.val t.isLt).2 (ix2 p q) := by
  rw [outsAt0_C m c t (by omega) ht]
  frame_out
  rw [out_apply]

/-- The tiles of the gradient of the two projections, cut by the host. -/
theorem tiles_apply (n : Fin 8) (r : Fin 16384) (p : Fin 704) :
    (V m c main_v1 : Vec Ideal S8x16384x704 .bf16) (ix3 n r p) = m ((c : Thread nD τ).loc main_arg1) (ix2 r ⟨n.val * 704 + p.val, by omega⟩) := by
  unfold V
  unfold_abbrev_sides
  after_results
  show transpose S8x16384x704 [1, 0, 2] (shapeCast S16384x8x704 (m ((c : Thread nD τ).loc main_arg1) : Vec Ideal S16384x5632 .bf16)
    shapeCasts_S16384x5632_S16384x8x704) transposes_S16384x8x704_S8x16384x704_1_0_2 (ix3 n r p) = _
  pointwise []

theorem index_row (t : Fin cfg0.N) : win0_0.index t = ![t.val % 8, 0] ∧ win0_1.index t = ![t.val / 8, t.val % 8, 0] ∧ win0_2.index t = ![t.val / 8, 0, 0, 0] :=
  (by decide +kernel : ∀ t : Fin grid0.N, win0_0.index t = ![t.val % 8, 0] ∧ win0_1.index t = ![t.val / 8, t.val % 8, 0] ∧ win0_2.index t = ![t.val / 8, 0, 0, 0]) t

theorem iblk0 (t : Fin cfg0.N) (r : Fin 2048) (p : Fin 1024) (h : t.val % 8 * 2048 + r.val < 16384) :
    (iblk m c 0 t : Vec Ideal S2048x1024 .bf16) (ix2 r p) = m ((c : Thread nD τ).loc main_arg0) (ix2 ⟨t.val % 8 * 2048 + r.val, h⟩ p) := by
  have hi := (index_row t).1
  unfold iblk
  rw [View.read_apply]
  show V m c main_arg0 _ = _
  rw [V_main_arg0]
  congr 1
  funext a
  apply Fin.ext
  match a with
  | ⟨0, _⟩ => show win0_0.index t 0 * 2048 + 1 * r.val = t.val % 8 * 2048 + r.val; rw [hi]; simp
  | ⟨1, _⟩ => show win0_0.index t 1 * 1024 + 1 * p.val = p.val; rw [hi]; simp

theorem iblk1 (t : Fin cfg0.N) (r : Fin 2048) (q : Fin 704) (h : t.val % 8 * 2048 + r.val < 16384) (hp : t.val / 8 * 704 + q.val < 5632) :
    (iblk m c 1 t : Vec Ideal S1x2048x704 .bf16) (ix3 0 r q) = m ((c : Thread nD τ).loc main_arg1) (ix2 ⟨t.val % 8 * 2048 + r.val, h⟩ ⟨t.val / 8 * 704 + q.val, hp⟩) := by
  have hi := (index_row t).2.1
  have ht : t.val < 64 := lt_of_lt_of_eq t.isLt (show cfg0.N = 64 from N_0)
  have e : ((cfg0.win 1).blk t).view.emb (ix3 (0 : Fin 1) r q) = ix3 (⟨t.val / 8, by omega⟩ : Fin 8) ⟨t.val % 8 * 2048 + r.val, h⟩ q := by
    funext a
    apply Fin.ext
    match a with
    | ⟨0, _⟩ => show win0_1.index t 0 * 1 + 1 * 0 = t.val / 8; rw [hi]; simp
    | ⟨1, _⟩ => show win0_1.index t 1 * 2048 + 1 * r.val = t.val % 8 * 2048 + r.val; rw [hi]; simp
    | ⟨2, _⟩ => show win0_1.index t 2 * 704 + 1 * q.val = q.val; rw [hi]; simp
  unfold iblk
  rw [View.read_apply]
  show V m c main_v1 _ = _
  rw [e, tiles_apply]

/-- Column `q` of part `n`. -/
def col (n : Fin 8) (q : Fin 704) : Fin 5632 := ⟨n.val * 704 + q.val, by omega⟩

/-- The gradient of the weight of the two products, in parts of 704 columns: the sum over all tokens. -/
def rDw (a : Vec Ideal S16384x1024 .bf16) (b : Vec Ideal S16384x5632 .bf16) : Vec Ideal S8x1x1024x704 .bf16 :=
  fun i => ∑ s : Fin 16384, a (ix2 s (i 2)) * b (ix2 s (col (i 0) (i 3)))

theorem final : (dats m 0 c).arrAt 2 cfg0.N = rDw (m ((c : Thread nD τ).loc main_arg0)) (m ((c : Thread nD τ).loc main_arg1)) := by
  refine (dats m 0 c).arrAt_eq_of_covers 2 _ (by decide +kernel) fun t hf y => ?_
  have ht : t.val % 8 = 7 := (flush0_2 t).mp hf
  have hN : t.val < 64 := lt_of_lt_of_eq t.isLt (show cfg0.N = 64 from N_0)
  have hi := (index_row t).2.2
  obtain ⟨p, q, rfl⟩ : ∃ (p : Fin 1024) (q : Fin 704), y = ix4 (0 : Fin 1) (0 : Fin 1) p q :=
    ⟨y 2, y 3, (eq_ix4 y).trans (congrArg₂ (fun u v => ix4 u v (y 2) (y 3)) (Subsingleton.elim (α := Fin 1) _ _) (Subsingleton.elim (α := Fin 1) _ _))⟩
  have e : ((cfg0.win 2).blk t).view.emb (ix4 (0 : Fin 1) (0 : Fin 1) p q) = ix4 (⟨t.val / 8, by omega⟩ : Fin 8) (0 : Fin 1) p q := by
    funext a
    apply Fin.ext
    match a with
    | ⟨0, _⟩ => show win0_2.index t 0 * 1 + 1 * 0 = t.val / 8; rw [hi]; simp
    | ⟨1, _⟩ => show win0_2.index t 1 * 1 + 1 * 0 = 0; rw [hi]; simp
    | ⟨2, _⟩ => show win0_2.index t 2 * 1024 + 1 * p.val = p.val; rw [hi]; simp
    | ⟨3, _⟩ => show win0_2.index t 3 * 704 + 1 * q.val = q.val; rw [hi]; simp
  blk_simp
  rw [after0_2, out_last m c t ht, running m c t ht, zero_add, e]
  unfold part rDw
  refine Fin.sum_mul_add_congr fun s k hl => ?_
  have hd : (8 * (t.val / 8) + s.val) / 8 = t.val / 8 := by omega
  have hm : (8 * (t.val / 8) + s.val) % 8 = s.val := by omega
  refine congrArg₂ (· * ·) ((iblk0 m c _ k p (by show (8 * (t.val / 8) + s.val) % 8 * 2048 + k.val < _; omega)).trans ?_)
    ((iblk1 m c _ k q (by show (8 * (t.val / 8) + s.val) % 8 * 2048 + k.val < _; omega)
    (by show (8 * (t.val / 8) + s.val) / 8 * 704 + q.val < _; omega)).trans ?_)
  · simp only [hm]; rfl
  · simp only [hd, hm]; rfl

end Cert.Kernel3Ideal.GateUp
-- ==== Proof.Dw.GateUpClaim.lean ====
/-
  The weight gradient of the gate and up projections: the reference's product is the same sum with the factors in the other order, so the kernel
  and the reference end with equal results.
-/
module

public import proofs.«01_k».proof.Defs
public import proofs.«01_k».proof.Proof.Gen.Reference3Ideal.Run
public import proofs.«01_k».proof.Proof.Dw.GateUp
public import Idealize.ShloMosaic.Lib.Quiescent

@[expose] public section
noncomputable section

namespace Cert.Kernel3Ideal.GateUp
open Idealize.ShloMosaic Idealize.ShloMosaic.TcCoe Idealize.ShloMosaic.StableHlo Idealize.SL.Sem

theorem reference_frame : Cert.quiescent_Reference3Ideal (hReference3Ideal := Cert.Reference3Ideal.Gen.facts) := fun m g _ =>
  (θ_run _ _ _).mono (fun _ h => ⟨fun c => (h c).2, sem_eq_zero_of_no_sems (by decide) _⟩) (Cert.Reference3Ideal.Value.run m g)

open Cert.Reference3Ideal Cert.Reference3Ideal.Gen in
theorem reference_value (a : FVec Ideal S16384x1024 .bf16) (b : FVec Ideal S16384x5632 .bf16) :
    (truncf .bf16 (broadcastInDim S8x1x1024x704 ![0, 2, 3] bcast_S8x1024x704_S8x1x1024x704_0_2_3 (transpose S8x1024x704 [1, 0, 2]
      (shapeCast S1024x8x704 (transpose S1024x5632 [1, 0] (Host.dotGeneral dot_S16384x5632_S16384x1024_S5632x1024_0_0_1_1_n_n none
        (extf .f32 b bitsLt_bf16_f32) (extf .f32 a bitsLt_bf16_f32)) transposes_S5632x1024_S1024x5632_1_0)
        shapeCasts_S1024x5632_S1024x8x704) transposes_S1024x8x704_S8x1024x704_1_0_2)) bitsLt_bf16_f32 : FVec Ideal S8x1x1024x704 .bf16) = (rDw a b : Vec Ideal S8x1x1024x704 .bf16) := by
  funext y
  rw [eq_ix4 y]
  generalize y 0 = n
  generalize y 1 = z
  generalize y 2 = p
  generalize y 3 = q
  unfold rDw col
  pointwise []
  exact Finset.sum_congr rfl fun s _ => mul_comm _ _

theorem algebraic : Cert.algebraic_Kernel3Ideal_Reference3Ideal (hKernel3Ideal := Cert.Kernel3Ideal.Gen.facts)
    (hReference3Ideal := Cert.Reference3Ideal.Gen.facts) := by
  intro m g m' g' _ hargs
  refine ⟨fun c => rDw (m ((c.tc : Thread Cert.Kernel3Ideal.nD Cert.Kernel3Ideal.τ).loc Cert.Kernel3Ideal.main_arg0))
    (m ((c.tc : Thread Cert.Kernel3Ideal.nD Cert.Kernel3Ideal.τ).loc Cert.Kernel3Ideal.main_arg1)), ?_, ?_⟩
  · exact (θ_run _ _ _).mono (fun r h c => ⟨(h c).1.trans (final m c), (h c).2⟩) (Cert.Kernel3Ideal.Value.run_blocks m g)
  · refine (θ_run _ _ _).mono (fun r h c => ⟨((h c).1.trans (reference_value _ _)).trans ?_, (h c).2⟩) (Cert.Reference3Ideal.Value.run m' g')
    obtain ⟨e0, e1⟩ := hargs c
    rw [e0, e1]

end Cert.Kernel3Ideal.GateUp
-- ==== Proof.Dw.Down.lean ====
/-
  The weight gradient of the down projection: the kernel adds up 2048 tokens a grid point, and after the eighth point of a
  block of 704 rows it has the sum over all tokens.
-/
module

public import proofs.«01_k».proof.Proof.Gen.Kernel4Ideal.Value
public import Idealize.ShloMosaic.Lib.Pointwise
public import Idealize.ShloMosaic.Lib.Pipeline.ValueKit

@[expose] public section
set_option maxRecDepth 16384
noncomputable section

namespace Cert.Kernel4Ideal.Down
open Cert.Kernel4Ideal Cert.Kernel4Ideal.Gen Cert.Kernel4Ideal.Value Idealize.ShloMosaic Idealize.ShloMosaic.TcCoe Idealize.ShloMosaic.StableHlo Idealize.SL.Sem

variable (m : (ℓ : Loc nD τ sig) → Buf (Elt Ideal) ℓ) (c : Dev nD)

/-- What one grid point adds. -/
def part (x0 : Vec Ideal S1x2048x704 .bf16) (x1 : Vec Ideal S2048x1024 .f32) (y : S704x1024.Idx) : EReal :=
  ∑ r : Fin 2048, x0 (ix3 0 r (y 0)) * x1 (ix2 r (y 1))

theorem zero_apply (y : S704x1024.Idx) : k0_pay1 (F := Ideal) y = 0 := by
  rw [eq_ix2 y]
  generalize y 0 = p
  generalize y 1 = q
  unfold k0_pay1
  pointwise []

theorem add_apply (xs : Vec Ideal S704x1024 .f32) (x0 : Vec Ideal S1x2048x704 .bf16) (x1 : Vec Ideal S2048x1024 .f32) (y : S704x1024.Idx) :
    k0_pay2 (F := Ideal) xs x0 x1 y = xs y + part x0 x1 y := by
  rw [eq_ix2 y]
  generalize y 0 = p
  generalize y 1 = q
  unfold k0_pay2 part
  pointwise []

theorem out_apply (xs : Vec Ideal S704x1024 .f32) (y : S704x1024.Idx) : k0_pay3 (F := Ideal) xs y = xs y := rfl

/-- The running sum after the last point of a block. -/
theorem running (t : Fin cfg0.N) (ht : t.val % 8 = 8 - 1) (y : S704x1024.Idx) :
    (outsAt0 m c t.val t.isLt).2 y = 0 + ∑ s : Fin 8, part (iblk m c 0 ⟨8 * (t.val / 8) + s.val, Pipeline.run_point_lt_of_flush t ht s⟩)
      (iblk m c 1 ⟨8 * (t.val / 8) + s.val, Pipeline.run_point_lt_of_flush t ht s⟩) y :=
  Pipeline.eq_sum_fin_of_reset_step_apply_of_flush (fun n h => (outsAt0 m c n h).2) 8 (fun _ => 0)
    (fun t => part (iblk m c 0 t) (iblk m c 1 t))
    (fun t h y => by rw [outsAt0_A m c t h (by omega)]; frame_out; rw [add_apply, zero_apply])
    (fun t h y => by
      by_cases h1 : t.val % 8 = 7
      · rw [outsAt0_C m c t h h1]; frame_out; rw [add_apply]; exact congrArg (· + _) (congrFun ((Memref.isWhole_whole cc0_scratch0).read_unread _) y)
      · rw [outsAt0_B m c t h h1]; frame_out; rw [add_apply]; exact congrArg (· + _) (congrFun ((Memref.isWhole_whole cc0_scratch0).read_unread _) y)) t ht y

theorem out_last (t : Fin cfg0.N) (ht : t.val % 8 = 7) : (outsAt0 m c t.val t.isLt).1 = (outsAt0 m c t.val t.isLt).2 := by
  rw [outsAt0_C m c t (by omega) ht]
  frame_out
  rfl

/-- The tiles of the activation, cut by the host. -/
theorem tiles_apply (n : Fin 4) (r : Fin 16384) (p : Fin 704) :
    (V m c main_v1 : Vec Ideal S4x16384x704 .bf16) (ix3 n r p) = m ((c : Thread nD τ).loc main_arg0) (ix2 r ⟨n.val * 704 + p.val, by omega⟩) := by
  unfold V
  unfold_abbrev_sides
  after_results
  show transpose S4x16384x704 [1, 0, 2] (shapeCast S16384x4x704 (m ((c : Thread nD τ).loc main_arg0) : Vec Ideal S16384x2816 .bf16)
    shapeCasts_S16384x2816_S16384x4x704) transposes_S16384x4x704_S4x16384x704_1_0_2 (ix3 n r p) = _
  pointwise []

theorem index_row (t : Fin cfg0.N) : win0_0.index t = ![t.val / 8, t.val % 8, 0] ∧ win0_1.index t = ![t.val % 8, 0] ∧ win0_2.index t = ![t.val / 8, 0] :=
  (by decide +kernel : ∀ t : Fin grid0.N, win0_0.index t = ![t.val / 8, t.val % 8, 0] ∧ win0_1.index t = ![t.val % 8, 0] ∧ win0_2.index t = ![t.val / 8, 0]) t

theorem iblk0 (t : Fin cfg0.N) (r : Fin 2048) (p : Fin 704) (h : t.val % 8 * 2048 + r.val < 16384) (hp : t.val / 8 * 704 + p.val < 2816) :
    (iblk m c 0 t : Vec Ideal S1x2048x704 .bf16) (ix3 0 r p) = m ((c : Thread nD τ).loc main_arg0) (ix2 ⟨t.val % 8 * 2048 + r.val, h⟩ ⟨t.val / 8 * 704 + p.val, hp⟩) := by
  have hi := (index_row t).1
  have ht : t.val < 32 := lt_of_lt_of_eq t.isLt (show cfg0.N = 32 from N_0)
  have e : ((cfg0.win 0).blk t).view.emb (ix3 (0 : Fin 1) r p) = ix3 (⟨t.val / 8, by omega⟩ : Fin 4) ⟨t.val % 8 * 2048 + r.val, h⟩ p := by
    funext a
    apply Fin.ext
    match a with
    | ⟨0, _⟩ => show win0_0.index t 0 * 1 + 1 * 0 = t.val / 8; rw [hi]; simp
    | ⟨1, _⟩ => show win0_0.index t 1 * 2048 + 1 * r.val = t.val % 8 * 2048 + r.val; rw [hi]; simp
    | ⟨2, _⟩ => show win0_0.index t 2 * 704 + 1 * p.val = p.val; rw [hi]; simp
  unfold iblk
  rw [View.read_apply]
  show V m c main_v1 _ = _
  rw [e, tiles_apply]

theorem iblk1 (t : Fin cfg0.N) (r : Fin 2048) (q : Fin 1024) (h : t.val % 8 * 2048 + r.val < 16384) :
    (iblk m c 1 t : Vec Ideal S2048x1024 .f32) (ix2 r q) = m ((c : Thread nD τ).loc main_arg1) (ix2 ⟨t.val % 8 * 2048 + r.val, h⟩ q) := by
  have hi := (index_row t).2.1
  unfold iblk
  rw [View.read_apply]
  show V m c main_arg1 _ = _
  rw [V_main_arg1]
  congr 1
  funext a
  apply Fin.ext
  match a with
  | ⟨0, _⟩ => show win0_1.index t 0 * 2048 + 1 * r.val = t.val % 8 * 2048 + r.val; rw [hi]; simp
  | ⟨1, _⟩ => show win0_1.index t 1 * 1024 + 1 * q.val = q.val; rw [hi]; simp

/-- The gradient of the weight of a product: the sum over all tokens. -/
def rDw (a : Vec Ideal S16384x2816 .bf16) (b : Vec Ideal S16384x1024 .f32) : Vec Ideal S2816x1024 .bf16 :=
  fun i => ∑ s : Fin 16384, a (ix2 s (i 0)) * b (ix2 s (i 1))

theorem final : (dats m 0 c).arrAt 2 cfg0.N = rDw (m ((c : Thread nD τ).loc main_arg0)) (m ((c : Thread nD τ).loc main_arg1)) := by
  refine (dats m 0 c).arrAt_eq_of_covers 2 _ (by decide +kernel) fun t hf y => ?_
  have ht : t.val % 8 = 7 := (flush0_2 t).mp hf
  have hN : t.val < 32 := lt_of_lt_of_eq t.isLt (show cfg0.N = 32 from N_0)
  have hi := (index_row t).2.2
  obtain ⟨p, q, rfl⟩ : ∃ (p : Fin 704) (q : Fin 1024), y = ix2 p q := ⟨y 0, y 1, eq_ix2 y⟩
  have e : ((cfg0.win 2).blk t).view.emb (ix2 p q) = ix2 (⟨t.val / 8 * 704 + p.val, by omega⟩ : Fin 2816) q := by
    funext a
    apply Fin.ext
    match a with
    | ⟨0, _⟩ => show win0_2.index t 0 * 704 + 1 * p.val = t.val / 8 * 704 + p.val; rw [hi]; simp
    | ⟨1, _⟩ => show win0_2.index t 1 * 1024 + 1 * q.val = q.val; rw [hi]; simp
  blk_simp
  rw [after0_2, out_last m c t ht, running m c t ht, zero_add, e]
  unfold part rDw
  refine Fin.sum_mul_add_congr fun s k hl => ?_
  have hd : (8 * (t.val / 8) + s.val) / 8 = t.val / 8 := by omega
  have hm : (8 * (t.val / 8) + s.val) % 8 = s.val := by omega
  refine congrArg₂ (· * ·) ((iblk0 m c _ k p (by show (8 * (t.val / 8) + s.val) % 8 * 2048 + k.val < _; omega)
    (by show (8 * (t.val / 8) + s.val) / 8 * 704 + p.val < _; omega)).trans ?_) ((iblk1 m c _ k q
    (by show (8 * (t.val / 8) + s.val) % 8 * 2048 + k.val < _; omega)).trans ?_)
  · simp only [hd, hm]; rfl
  · simp only [hm]; rfl

end Cert.Kernel4Ideal.Down
-- ==== Proof.Dw.DownClaim.lean ====
/-
  The weight gradient of the down projection: the reference's product is the same sum with the factors in the other order, so the kernel
  and the reference end with equal results.
-/
module

public import proofs.«01_k».proof.Defs
public import proofs.«01_k».proof.Proof.Gen.Reference4Ideal.Run
public import proofs.«01_k».proof.Proof.Dw.Down
public import Idealize.ShloMosaic.Lib.Quiescent

@[expose] public section
noncomputable section

namespace Cert.Kernel4Ideal.Down
open Idealize.ShloMosaic Idealize.ShloMosaic.TcCoe Idealize.ShloMosaic.StableHlo Idealize.SL.Sem

theorem reference_frame : Cert.quiescent_Reference4Ideal (hReference4Ideal := Cert.Reference4Ideal.Gen.facts) := fun m g _ =>
  (θ_run _ _ _).mono (fun _ h => ⟨fun c => (h c).2, sem_eq_zero_of_no_sems (by decide) _⟩) (Cert.Reference4Ideal.Value.run m g)

open Cert.Reference4Ideal Cert.Reference4Ideal.Gen in
theorem reference_value (a : FVec Ideal S16384x2816 .bf16) (b : FVec Ideal S16384x1024 .f32) :
    (truncf .bf16 (transpose S2816x1024 [1, 0] (Host.dotGeneral dot_S16384x1024_S16384x2816_S1024x2816_0_0_1_1_n_n none b (extf .f32 a bitsLt_bf16_f32))
      transposes_S1024x2816_S2816x1024_1_0) bitsLt_bf16_f32 : FVec Ideal S2816x1024 .bf16) = (rDw a b : Vec Ideal S2816x1024 .bf16) := by
  funext y
  rw [eq_ix2 y]
  generalize y 0 = p
  generalize y 1 = q
  unfold rDw
  pointwise []
  exact Finset.sum_congr rfl fun s _ => mul_comm _ _

theorem algebraic : Cert.algebraic_Kernel4Ideal_Reference4Ideal (hKernel4Ideal := Cert.Kernel4Ideal.Gen.facts)
    (hReference4Ideal := Cert.Reference4Ideal.Gen.facts) := by
  intro m g m' g' _ hargs
  refine ⟨fun c => rDw (m ((c.tc : Thread Cert.Kernel4Ideal.nD Cert.Kernel4Ideal.τ).loc Cert.Kernel4Ideal.main_arg0))
    (m ((c.tc : Thread Cert.Kernel4Ideal.nD Cert.Kernel4Ideal.τ).loc Cert.Kernel4Ideal.main_arg1)), ?_, ?_⟩
  · exact (θ_run _ _ _).mono (fun r h c => ⟨(h c).1.trans (final m c), (h c).2⟩) (Cert.Kernel4Ideal.Value.run_blocks m g)
  · refine (θ_run _ _ _).mono (fun r h c => ⟨((h c).1.trans (reference_value _ _)).trans ?_, (h c).2⟩) (Cert.Reference4Ideal.Value.run m' g')
    obtain ⟨e0, e1⟩ := hargs c
    rw [e0, e1]

end Cert.Kernel4Ideal.Down
-- ==== Proof.Dw.InProj.lean ====
/-
  The weight gradient of the recurrent layers' input projection: the sum over all tokens of a normalized input times the
  gradient of a projected column, 2048 tokens a grid point and 1152 columns a block.
-/
module

public import proofs.«01_k».proof.Defs
public import proofs.«01_k».proof.Proof.Gen.Kernel5Ideal.Value
public import proofs.«01_k».proof.Proof.Gen.Reference5Ideal.Run
public import Idealize.ShloMosaic.Lib.Pointwise
public import Idealize.ShloMosaic.Lib.Pipeline.ValueKit
public import Idealize.ShloMosaic.Lib.Quiescent

@[expose] public section
set_option maxRecDepth 16384
noncomputable section

namespace Cert.Kernel5Ideal.InProj
open Cert.Kernel5Ideal Cert.Kernel5Ideal.Gen Cert.Kernel5Ideal.Value Idealize.ShloMosaic Idealize.ShloMosaic.TcCoe Idealize.ShloMosaic.StableHlo Idealize.SL.Sem

variable (m : (ℓ : Loc nD τ sig) → Buf (Elt Ideal) ℓ) (c : Dev nD)

/-- What one grid point adds. -/
def part (x0 : Vec Ideal S2048x1024 .bf16) (x1 : Vec Ideal S2048x1152 .bf16) (y : S1024x1152.Idx) : EReal :=
  ∑ r : Fin 2048, x0 (ix2 r (y 0)) * x1 (ix2 r (y 1))

theorem zero_apply (y : S1024x1152.Idx) : k0_pay1 (F := Ideal) y = 0 := by
  rw [eq_ix2 y]
  unfold k0_pay1
  pointwise []

theorem add_apply (xs : Vec Ideal S1024x1152 .f32) (x0 : Vec Ideal S2048x1024 .bf16) (x1 : Vec Ideal S2048x1152 .bf16) (y : S1024x1152.Idx) :
    k0_pay2 (F := Ideal) xs x0 x1 y = xs y + part x0 x1 y := by
  rw [eq_ix2 y]
  generalize y 0 = p
  generalize y 1 = q
  unfold k0_pay2 part
  pointwise []

/-- The running sum after the last point of a block. -/
theorem running (t : Fin cfg0.N) (ht : t.val % 8 = 8 - 1) (y : S1024x1152.Idx) :
    (outsAt0 m c t.val t.isLt).2 y = 0 + ∑ s : Fin 8, part (iblk m c 0 ⟨8 * (t.val / 8) + s.val, Pipeline.run_point_lt_of_flush t ht s⟩)
      (iblk m c 1 ⟨8 * (t.val / 8) + s.val, Pipeline.run_point_lt_of_flush t ht s⟩) y :=
  Pipeline.eq_sum_fin_of_reset_step_apply_of_flush (fun n h => (outsAt0 m c n h).2) 8 (fun _ => 0)
    (fun t => part (iblk m c 0 t) (iblk m c 1 t))
    (fun t h y => by rw [outsAt0_A m c t h (by omega)]; frame_out; rw [add_apply, zero_apply])
    (fun t h y => by
      by_cases h1 : t.val % 8 = 7
      · rw [outsAt0_C m c t h h1]; frame_out; rw [add_apply]; exact congrArg (· + _) (congrFun ((Memref.isWhole_whole cc0_scratch0).read_unread _) y)
      · rw [outsAt0_B m c t h h1]; frame_out; rw [add_apply]; exact congrArg (· + _) (congrFun ((Memref.isWhole_whole cc0_scratch0).read_unread _) y)) t ht y

theorem out_last (t : Fin cfg0.N) (ht : t.val % 8 = 7) : (outsAt0 m c t.val t.isLt).1 = (outsAt0 m c t.val t.isLt).2 := by
  rw [outsAt0_C m c t (by omega) ht]
  frame_out
  rfl

theorem index_row (t : Fin cfg0.N) : win0_0.index t = ![t.val % 8, 0] ∧ win0_1.index t = ![t.val % 8, t.val / 8] ∧ win0_2.index t = ![0, t.val / 8] :=
  (by decide +kernel : ∀ t : Fin grid0.N, win0_0.index t = ![t.val % 8, 0] ∧ win0_1.index t = ![t.val % 8, t.val / 8] ∧ win0_2.index t = ![0, t.val / 8]) t

theorem iblk0 (t : Fin cfg0.N) (r : Fin 2048) (p : Fin 1024) (h : t.val % 8 * 2048 + r.val < 16384) :
    (iblk m c 0 t : Vec Ideal S2048x1024 .bf16) (ix2 r p) = m ((c : Thread nD τ).loc main_arg0) (ix2 ⟨t.val % 8 * 2048 + r.val, h⟩ p) := by
  have hi := (index_row t).1
  unfold iblk
  rw [View.read_apply]
  show V m c main_arg0 _ = _
  rw [V_main_arg0]
  congr 1
  funext a
  apply Fin.ext
  match a with
  | ⟨0, _⟩ => show win0_0.index t 0 * 2048 + 1 * r.val = t.val % 8 * 2048 + r.val; rw [hi]; simp
  | ⟨1, _⟩ => show win0_0.index t 1 * 1024 + 1 * p.val = p.val; rw [hi]; simp

theorem iblk1 (t : Fin cfg0.N) (r : Fin 2048) (q : Fin 1152) (h : t.val % 8 * 2048 + r.val < 16384) (hq : t.val / 8 * 1152 + q.val < 3456) :
    (iblk m c 1 t : Vec Ideal S2048x1152 .bf16) (ix2 r q) = m ((c : Thread nD τ).loc main_arg1) (ix2 ⟨t.val % 8 * 2048 + r.val, h⟩ ⟨t.val / 8 * 1152 + q.val, hq⟩) := by
  have hi := (index_row t).2.1
  unfold iblk
  rw [View.read_apply]
  show V m c main_arg1 _ = _
  rw [V_main_arg1]
  congr 1
  funext a
  apply Fin.ext
  match a with
  | ⟨0, _⟩ => show win0_1.index t 0 * 2048 + 1 * r.val = t.val % 8 * 2048 + r.val; rw [hi]; simp
  | ⟨1, _⟩ => show win0_1.index t 1 * 1152 + 1 * q.val = t.val / 8 * 1152 + q.val; rw [hi]; simp

/-- The gradient of the weight of a product: the sum over all tokens. -/
def rDw (a : Vec Ideal S16384x1024 .bf16) (b : Vec Ideal S16384x3456 .bf16) : Vec Ideal S1024x3456 .bf16 :=
  fun i => ∑ s : Fin 16384, a (ix2 s (i 0)) * b (ix2 s (i 1))

theorem final : (dats m 0 c).arrAt 2 cfg0.N = rDw (m ((c : Thread nD τ).loc main_arg0)) (m ((c : Thread nD τ).loc main_arg1)) := by
  refine (dats m 0 c).arrAt_eq_of_covers 2 _ (by decide +kernel) fun t hf y => ?_
  have ht : t.val % 8 = 7 := (flush0_2 t).mp hf
  have hN : t.val < 24 := lt_of_lt_of_eq t.isLt (show cfg0.N = 24 from N_0)
  have hi := (index_row t).2.2
  obtain ⟨p, q, rfl⟩ : ∃ (p : Fin 1024) (q : Fin 1152), y = ix2 p q := ⟨y 0, y 1, eq_ix2 y⟩
  have e : ((cfg0.win 2).blk t).view.emb (ix2 p q) = ix2 p (⟨t.val / 8 * 1152 + q.val, by omega⟩ : Fin 3456) := by
    funext a
    apply Fin.ext
    match a with
    | ⟨0, _⟩ => show win0_2.index t 0 * 1024 + 1 * p.val = p.val; rw [hi]; simp
    | ⟨1, _⟩ => show win0_2.index t 1 * 1152 + 1 * q.val = t.val / 8 * 1152 + q.val; rw [hi]; simp
  blk_simp
  rw [after0_2, out_last m c t ht, running m c t ht, zero_add, e]
  unfold part rDw
  refine Fin.sum_mul_add_congr fun s k hl => ?_
  have hd : (8 * (t.val / 8) + s.val) / 8 = t.val / 8 := by omega
  have hm : (8 * (t.val / 8) + s.val) % 8 = s.val := by omega
  refine congrArg₂ (· * ·) ((iblk0 m c _ k p (by show (8 * (t.val / 8) + s.val) % 8 * 2048 + k.val < _; omega)).trans ?_)
    ((iblk1 m c _ k q (by show (8 * (t.val / 8) + s.val) % 8 * 2048 + k.val < _; omega)
      (by show (8 * (t.val / 8) + s.val) / 8 * 1152 + q.val < _; omega)).trans ?_)
  · simp only [hm]; rfl
  · simp only [hd, hm]; rfl

theorem reference_frame : Cert.quiescent_Reference5Ideal (hReference5Ideal := Cert.Reference5Ideal.Gen.facts) := fun m g _ =>
  (θ_run _ _ _).mono (fun _ h => ⟨fun c => (h c).2, sem_eq_zero_of_no_sems (by decide) _⟩) (Cert.Reference5Ideal.Value.run m g)

open Cert.Reference5Ideal Cert.Reference5Ideal.Gen in
theorem reference_value (a : FVec Ideal S16384x1024 .bf16) (b : FVec Ideal S16384x3456 .bf16) :
    (truncf .bf16 (transpose S1024x3456 [1, 0] (Host.dotGeneral dot_S16384x3456_S16384x1024_S3456x1024_0_0_1_1_n_n none (extf .f32 b Cert.Reference5Ideal.Gen.bitsLt_bf16_f32) (extf .f32 a Cert.Reference5Ideal.Gen.bitsLt_bf16_f32))
      transposes_S3456x1024_S1024x3456_1_0) Cert.Reference5Ideal.Gen.bitsLt_bf16_f32 : FVec Ideal S1024x3456 .bf16) = (rDw a b : Vec Ideal S1024x3456 .bf16) := by
  funext y; rw [eq_ix2 y]; generalize y 0 = p; generalize y 1 = q; unfold rDw; pointwise []
  exact Finset.sum_congr rfl fun s _ => mul_comm _ _

theorem algebraic : Cert.algebraic_Kernel5Ideal_Reference5Ideal (hKernel5Ideal := Cert.Kernel5Ideal.Gen.facts) (hReference5Ideal := Cert.Reference5Ideal.Gen.facts) := by
  intro m g m' g' _ hargs
  refine ⟨fun c => rDw (m ((c.tc : Thread Cert.Kernel5Ideal.nD Cert.Kernel5Ideal.τ).loc Cert.Kernel5Ideal.main_arg0))
    (m ((c.tc : Thread Cert.Kernel5Ideal.nD Cert.Kernel5Ideal.τ).loc Cert.Kernel5Ideal.main_arg1)), ?_, ?_⟩
  · exact (θ_run _ _ _).mono (fun r h c => ⟨(h c).1.trans (final m c), (h c).2⟩) (Cert.Kernel5Ideal.Value.run_blocks m g)
  · refine (θ_run _ _ _).mono (fun r h c => ⟨((h c).1.trans (reference_value _ _)).trans ?_, (h c).2⟩) (Cert.Reference5Ideal.Value.run m' g')
    obtain ⟨e0, e1⟩ := hargs c
    rw [e0, e1]

end Cert.Kernel5Ideal.InProj
-- ==== Proof.Dw.OutProj.lean ====
/-
  The weight gradient of the output projection: the sum over all tokens, 2048 tokens a grid point, one block of all columns.
-/
module

public import proofs.«01_k».proof.Defs
public import proofs.«01_k».proof.Proof.Gen.Kernel6Ideal.Value
public import proofs.«01_k».proof.Proof.Gen.Reference6Ideal.Run
public import Idealize.ShloMosaic.Lib.Pointwise
public import Idealize.ShloMosaic.Lib.Pipeline.ValueKit
public import Idealize.ShloMosaic.Lib.Quiescent

@[expose] public section
set_option maxRecDepth 16384
noncomputable section

namespace Cert.Kernel6Ideal.OutProj
open Cert.Kernel6Ideal Cert.Kernel6Ideal.Gen Cert.Kernel6Ideal.Value Idealize.ShloMosaic Idealize.ShloMosaic.TcCoe Idealize.ShloMosaic.StableHlo Idealize.SL.Sem

variable (m : (ℓ : Loc nD τ sig) → Buf (Elt Ideal) ℓ) (c : Dev nD)

/-- What one grid point adds. -/
def part (x0 : Vec Ideal S2048x1024 .bf16) (x1 : Vec Ideal S2048x1024 .f32) (y : S1024x1024.Idx) : EReal :=
  ∑ r : Fin 2048, x0 (ix2 r (y 0)) * x1 (ix2 r (y 1))

theorem zero_apply (y : S1024x1024.Idx) : k0_pay1 (F := Ideal) y = 0 := by
  rw [eq_ix2 y]
  unfold k0_pay1
  pointwise []

theorem add_apply (xs : Vec Ideal S1024x1024 .f32) (x0 : Vec Ideal S2048x1024 .bf16) (x1 : Vec Ideal S2048x1024 .f32) (y : S1024x1024.Idx) :
    k0_pay2 (F := Ideal) xs x0 x1 y = xs y + part x0 x1 y := by
  rw [eq_ix2 y]
  generalize y 0 = p
  generalize y 1 = q
  unfold k0_pay2 part
  pointwise []

/-- The running sum after the last point of a block. -/
theorem running (t : Fin cfg0.N) (ht : t.val % 8 = 8 - 1) (y : S1024x1024.Idx) :
    (outsAt0 m c t.val t.isLt).2 y = 0 + ∑ s : Fin 8, part (iblk m c 0 ⟨8 * (t.val / 8) + s.val, Pipeline.run_point_lt_of_flush t ht s⟩)
      (iblk m c 1 ⟨8 * (t.val / 8) + s.val, Pipeline.run_point_lt_of_flush t ht s⟩) y :=
  Pipeline.eq_sum_fin_of_reset_step_apply_of_flush (fun n h => (outsAt0 m c n h).2) 8 (fun _ => 0)
    (fun t => part (iblk m c 0 t) (iblk m c 1 t))
    (fun t h y => by rw [outsAt0_A m c t h (by omega)]; frame_out; rw [add_apply, zero_apply])
    (fun t h y => by
      by_cases h1 : t.val % 8 = 7
      · rw [outsAt0_C m c t h h1]; frame_out; rw [add_apply]; exact congrArg (· + _) (congrFun ((Memref.isWhole_whole cc0_scratch0).read_unread _) y)
      · rw [outsAt0_B m c t h h1]; frame_out; rw [add_apply]; exact congrArg (· + _) (congrFun ((Memref.isWhole_whole cc0_scratch0).read_unread _) y)) t ht y

theorem out_last (t : Fin cfg0.N) (ht : t.val % 8 = 7) : (outsAt0 m c t.val t.isLt).1 = (outsAt0 m c t.val t.isLt).2 := by
  rw [outsAt0_C m c t (by omega) ht]
  frame_out
  rfl

theorem index_row (t : Fin cfg0.N) : win0_0.index t = ![t.val % 8, 0] ∧ win0_1.index t = ![t.val % 8, t.val / 8] ∧ win0_2.index t = ![0, t.val / 8] :=
  (by decide +kernel : ∀ t : Fin grid0.N, win0_0.index t = ![t.val % 8, 0] ∧ win0_1.index t = ![t.val % 8, t.val / 8] ∧ win0_2.index t = ![0, t.val / 8]) t

theorem iblk0 (t : Fin cfg0.N) (r : Fin 2048) (p : Fin 1024) (h : t.val % 8 * 2048 + r.val < 16384) :
    (iblk m c 0 t : Vec Ideal S2048x1024 .bf16) (ix2 r p) = m ((c : Thread nD τ).loc main_arg0) (ix2 ⟨t.val % 8 * 2048 + r.val, h⟩ p) := by
  have hi := (index_row t).1
  unfold iblk
  rw [View.read_apply]
  show V m c main_arg0 _ = _
  rw [V_main_arg0]
  congr 1
  funext a
  apply Fin.ext
  match a with
  | ⟨0, _⟩ => show win0_0.index t 0 * 2048 + 1 * r.val = t.val % 8 * 2048 + r.val; rw [hi]; simp
  | ⟨1, _⟩ => show win0_0.index t 1 * 1024 + 1 * p.val = p.val; rw [hi]; simp

theorem iblk1 (t : Fin cfg0.N) (r : Fin 2048) (q : Fin 1024) (h : t.val % 8 * 2048 + r.val < 16384) (hq : t.val / 8 * 1024 + q.val < 1024) :
    (iblk m c 1 t : Vec Ideal S2048x1024 .f32) (ix2 r q) = m ((c : Thread nD τ).loc main_arg1) (ix2 ⟨t.val % 8 * 2048 + r.val, h⟩ ⟨t.val / 8 * 1024 + q.val, hq⟩) := by
  have hi := (index_row t).2.1
  unfold iblk
  rw [View.read_apply]
  show V m c main_arg1 _ = _
  rw [V_main_arg1]
  congr 1
  funext a
  apply Fin.ext
  match a with
  | ⟨0, _⟩ => show win0_1.index t 0 * 2048 + 1 * r.val = t.val % 8 * 2048 + r.val; rw [hi]; simp
  | ⟨1, _⟩ => show win0_1.index t 1 * 1024 + 1 * q.val = t.val / 8 * 1024 + q.val; rw [hi]; simp

/-- The gradient of the weight of a product: the sum over all tokens. -/
def rDw (a : Vec Ideal S16384x1024 .bf16) (b : Vec Ideal S16384x1024 .f32) : Vec Ideal S1024x1024 .bf16 :=
  fun i => ∑ s : Fin 16384, a (ix2 s (i 0)) * b (ix2 s (i 1))

theorem final : (dats m 0 c).arrAt 2 cfg0.N = rDw (m ((c : Thread nD τ).loc main_arg0)) (m ((c : Thread nD τ).loc main_arg1)) := by
  refine (dats m 0 c).arrAt_eq_of_covers 2 _ (by decide +kernel) fun t hf y => ?_
  have ht : t.val % 8 = 7 := (flush0_2 t).mp hf
  have hN : t.val < 8 := lt_of_lt_of_eq t.isLt (show cfg0.N = 8 from N_0)
  have hi := (index_row t).2.2
  obtain ⟨p, q, rfl⟩ : ∃ (p : Fin 1024) (q : Fin 1024), y = ix2 p q := ⟨y 0, y 1, eq_ix2 y⟩
  have e : ((cfg0.win 2).blk t).view.emb (ix2 p q) = ix2 p (⟨t.val / 8 * 1024 + q.val, by omega⟩ : Fin 1024) := by
    funext a
    apply Fin.ext
    match a with
    | ⟨0, _⟩ => show win0_2.index t 0 * 1024 + 1 * p.val = p.val; rw [hi]; simp
    | ⟨1, _⟩ => show win0_2.index t 1 * 1024 + 1 * q.val = t.val / 8 * 1024 + q.val; rw [hi]; simp
  blk_simp
  rw [after0_2, out_last m c t ht, running m c t ht, zero_add, e]
  unfold part rDw
  refine Fin.sum_mul_add_congr fun s k hl => ?_
  have hd : (8 * (t.val / 8) + s.val) / 8 = t.val / 8 := by omega
  have hm : (8 * (t.val / 8) + s.val) % 8 = s.val := by omega
  refine congrArg₂ (· * ·) ((iblk0 m c _ k p (by show (8 * (t.val / 8) + s.val) % 8 * 2048 + k.val < _; omega)).trans ?_)
    ((iblk1 m c _ k q (by show (8 * (t.val / 8) + s.val) % 8 * 2048 + k.val < _; omega)
      (by show (8 * (t.val / 8) + s.val) / 8 * 1024 + q.val < _; omega)).trans ?_)
  · simp only [hm]; rfl
  · simp only [hd, hm]; rfl

theorem reference_frame : Cert.quiescent_Reference6Ideal (hReference6Ideal := Cert.Reference6Ideal.Gen.facts) := fun m g _ =>
  (θ_run _ _ _).mono (fun _ h => ⟨fun c => (h c).2, sem_eq_zero_of_no_sems (by decide) _⟩) (Cert.Reference6Ideal.Value.run m g)

open Cert.Reference6Ideal Cert.Reference6Ideal.Gen in
theorem reference_value (a : FVec Ideal S16384x1024 .bf16) (b : FVec Ideal S16384x1024 .f32) :
    (truncf .bf16 (transpose S1024x1024 [1, 0] (Host.dotGeneral dot_S16384x1024_S16384x1024_S1024x1024_0_0_1_1_n_n none b (extf .f32 a Cert.Reference6Ideal.Gen.bitsLt_bf16_f32))
      transposes_S1024x1024_S1024x1024_1_0) Cert.Reference6Ideal.Gen.bitsLt_bf16_f32 : FVec Ideal S1024x1024 .bf16) = (rDw a b : Vec Ideal S1024x1024 .bf16) := by
  funext y; rw [eq_ix2 y]; generalize y 0 = p; generalize y 1 = q; unfold rDw; pointwise []
  exact Finset.sum_congr rfl fun s _ => mul_comm _ _

theorem algebraic : Cert.algebraic_Kernel6Ideal_Reference6Ideal (hKernel6Ideal := Cert.Kernel6Ideal.Gen.facts) (hReference6Ideal := Cert.Reference6Ideal.Gen.facts) := by
  intro m g m' g' _ hargs
  refine ⟨fun c => rDw (m ((c.tc : Thread Cert.Kernel6Ideal.nD Cert.Kernel6Ideal.τ).loc Cert.Kernel6Ideal.main_arg0))
    (m ((c.tc : Thread Cert.Kernel6Ideal.nD Cert.Kernel6Ideal.τ).loc Cert.Kernel6Ideal.main_arg1)), ?_, ?_⟩
  · exact (θ_run _ _ _).mono (fun r h c => ⟨(h c).1.trans (final m c), (h c).2⟩) (Cert.Kernel6Ideal.Value.run_blocks m g)
  · refine (θ_run _ _ _).mono (fun r h c => ⟨((h c).1.trans (reference_value _ _)).trans ?_, (h c).2⟩) (Cert.Reference6Ideal.Value.run m' g')
    obtain ⟨e0, e1⟩ := hargs c
    rw [e0, e1]

end Cert.Kernel6Ideal.OutProj
-- ==== Proof.Dw.QueryProj.lean ====
/-
  The weight gradient of the attention layers' query projection: the sum over all tokens, 2048 tokens a grid point, one block
  of all columns.
-/
module

public import proofs.«01_k».proof.Defs
public import proofs.«01_k».proof.Proof.Gen.Kernel7Ideal.Value
public import proofs.«01_k».proof.Proof.Gen.Reference7Ideal.Run
public import Idealize.ShloMosaic.Lib.Pointwise
public import Idealize.ShloMosaic.Lib.Pipeline.ValueKit
public import Idealize.ShloMosaic.Lib.Quiescent

@[expose] public section
set_option maxRecDepth 16384
noncomputable section

namespace Cert.Kernel7Ideal.QueryProj
open Cert.Kernel7Ideal Cert.Kernel7Ideal.Gen Cert.Kernel7Ideal.Value Idealize.ShloMosaic Idealize.ShloMosaic.TcCoe Idealize.ShloMosaic.StableHlo Idealize.SL.Sem

variable (m : (ℓ : Loc nD τ sig) → Buf (Elt Ideal) ℓ) (c : Dev nD)

/-- What one grid point adds. -/
def part (x0 : Vec Ideal S2048x1024 .bf16) (x1 : Vec Ideal S2048x1024 .bf16) (y : S1024x1024.Idx) : EReal :=
  ∑ r : Fin 2048, x0 (ix2 r (y 0)) * x1 (ix2 r (y 1))

theorem zero_apply (y : S1024x1024.Idx) : k0_pay1 (F := Ideal) y = 0 := by
  rw [eq_ix2 y]
  unfold k0_pay1
  pointwise []

theorem add_apply (xs : Vec Ideal S1024x1024 .f32) (x0 : Vec Ideal S2048x1024 .bf16) (x1 : Vec Ideal S2048x1024 .bf16) (y : S1024x1024.Idx) :
    k0_pay2 (F := Ideal) xs x0 x1 y = xs y + part x0 x1 y := by
  rw [eq_ix2 y]
  generalize y 0 = p
  generalize y 1 = q
  unfold k0_pay2 part
  pointwise []

/-- The running sum after the last point of a block. -/
theorem running (t : Fin cfg0.N) (ht : t.val % 8 = 8 - 1) (y : S1024x1024.Idx) :
    (outsAt0 m c t.val t.isLt).2 y = 0 + ∑ s : Fin 8, part (iblk m c 0 ⟨8 * (t.val / 8) + s.val, Pipeline.run_point_lt_of_flush t ht s⟩)
      (iblk m c 1 ⟨8 * (t.val / 8) + s.val, Pipeline.run_point_lt_of_flush t ht s⟩) y :=
  Pipeline.eq_sum_fin_of_reset_step_apply_of_flush (fun n h => (outsAt0 m c n h).2) 8 (fun _ => 0)
    (fun t => part (iblk m c 0 t) (iblk m c 1 t))
    (fun t h y => by rw [outsAt0_A m c t h (by omega)]; frame_out; rw [add_apply, zero_apply])
    (fun t h y => by
      by_cases h1 : t.val % 8 = 7
      · rw [outsAt0_C m c t h h1]; frame_out; rw [add_apply]; exact congrArg (· + _) (congrFun ((Memref.isWhole_whole cc0_scratch0).read_unread _) y)
      · rw [outsAt0_B m c t h h1]; frame_out; rw [add_apply]; exact congrArg (· + _) (congrFun ((Memref.isWhole_whole cc0_scratch0).read_unread _) y)) t ht y

theorem out_last (t : Fin cfg0.N) (ht : t.val % 8 = 7) : (outsAt0 m c t.val t.isLt).1 = (outsAt0 m c t.val t.isLt).2 := by
  rw [outsAt0_C m c t (by omega) ht]
  frame_out
  rfl

theorem index_row (t : Fin cfg0.N) : win0_0.index t = ![t.val % 8, 0] ∧ win0_1.index t = ![t.val % 8, t.val / 8] ∧ win0_2.index t = ![0, t.val / 8] :=
  (by decide +kernel : ∀ t : Fin grid0.N, win0_0.index t = ![t.val % 8, 0] ∧ win0_1.index t = ![t.val % 8, t.val / 8] ∧ win0_2.index t = ![0, t.val / 8]) t

theorem iblk0 (t : Fin cfg0.N) (r : Fin 2048) (p : Fin 1024) (h : t.val % 8 * 2048 + r.val < 16384) :
    (iblk m c 0 t : Vec Ideal S2048x1024 .bf16) (ix2 r p) = m ((c : Thread nD τ).loc main_arg0) (ix2 ⟨t.val % 8 * 2048 + r.val, h⟩ p) := by
  have hi := (index_row t).1
  unfold iblk
  rw [View.read_apply]
  show V m c main_arg0 _ = _
  rw [V_main_arg0]
  congr 1
  funext a
  apply Fin.ext
  match a with
  | ⟨0, _⟩ => show win0_0.index t 0 * 2048 + 1 * r.val = t.val % 8 * 2048 + r.val; rw [hi]; simp
  | ⟨1, _⟩ => show win0_0.index t 1 * 1024 + 1 * p.val = p.val; rw [hi]; simp

theorem iblk1 (t : Fin cfg0.N) (r : Fin 2048) (q : Fin 1024) (h : t.val % 8 * 2048 + r.val < 16384) (hq : t.val / 8 * 1024 + q.val < 1024) :
    (iblk m c 1 t : Vec Ideal S2048x1024 .bf16) (ix2 r q) = m ((c : Thread nD τ).loc main_arg1) (ix2 ⟨t.val % 8 * 2048 + r.val, h⟩ ⟨t.val / 8 * 1024 + q.val, hq⟩) := by
  have hi := (index_row t).2.1
  unfold iblk
  rw [View.read_apply]
  show V m c main_arg1 _ = _
  rw [V_main_arg1]
  congr 1
  funext a
  apply Fin.ext
  match a with
  | ⟨0, _⟩ => show win0_1.index t 0 * 2048 + 1 * r.val = t.val % 8 * 2048 + r.val; rw [hi]; simp
  | ⟨1, _⟩ => show win0_1.index t 1 * 1024 + 1 * q.val = t.val / 8 * 1024 + q.val; rw [hi]; simp

/-- The gradient of the weight of a product: the sum over all tokens. -/
def rDw (a : Vec Ideal S16384x1024 .bf16) (b : Vec Ideal S16384x1024 .bf16) : Vec Ideal S1024x1024 .bf16 :=
  fun i => ∑ s : Fin 16384, a (ix2 s (i 0)) * b (ix2 s (i 1))

theorem final : (dats m 0 c).arrAt 2 cfg0.N = rDw (m ((c : Thread nD τ).loc main_arg0)) (m ((c : Thread nD τ).loc main_arg1)) := by
  refine (dats m 0 c).arrAt_eq_of_covers 2 _ (by decide +kernel) fun t hf y => ?_
  have ht : t.val % 8 = 7 := (flush0_2 t).mp hf
  have hN : t.val < 8 := lt_of_lt_of_eq t.isLt (show cfg0.N = 8 from N_0)
  have hi := (index_row t).2.2
  obtain ⟨p, q, rfl⟩ : ∃ (p : Fin 1024) (q : Fin 1024), y = ix2 p q := ⟨y 0, y 1, eq_ix2 y⟩
  have e : ((cfg0.win 2).blk t).view.emb (ix2 p q) = ix2 p (⟨t.val / 8 * 1024 + q.val, by omega⟩ : Fin 1024) := by
    funext a
    apply Fin.ext
    match a with
    | ⟨0, _⟩ => show win0_2.index t 0 * 1024 + 1 * p.val = p.val; rw [hi]; simp
    | ⟨1, _⟩ => show win0_2.index t 1 * 1024 + 1 * q.val = t.val / 8 * 1024 + q.val; rw [hi]; simp
  blk_simp
  rw [after0_2, out_last m c t ht, running m c t ht, zero_add, e]
  unfold part rDw
  refine Fin.sum_mul_add_congr fun s k hl => ?_
  have hd : (8 * (t.val / 8) + s.val) / 8 = t.val / 8 := by omega
  have hm : (8 * (t.val / 8) + s.val) % 8 = s.val := by omega
  refine congrArg₂ (· * ·) ((iblk0 m c _ k p (by show (8 * (t.val / 8) + s.val) % 8 * 2048 + k.val < _; omega)).trans ?_)
    ((iblk1 m c _ k q (by show (8 * (t.val / 8) + s.val) % 8 * 2048 + k.val < _; omega)
      (by show (8 * (t.val / 8) + s.val) / 8 * 1024 + q.val < _; omega)).trans ?_)
  · simp only [hm]; rfl
  · simp only [hd, hm]; rfl

theorem reference_frame : Cert.quiescent_Reference7Ideal (hReference7Ideal := Cert.Reference7Ideal.Gen.facts) := fun m g _ =>
  (θ_run _ _ _).mono (fun _ h => ⟨fun c => (h c).2, sem_eq_zero_of_no_sems (by decide) _⟩) (Cert.Reference7Ideal.Value.run m g)

open Cert.Reference7Ideal Cert.Reference7Ideal.Gen in
theorem reference_value (a : FVec Ideal S16384x1024 .bf16) (b : FVec Ideal S16384x1024 .bf16) :
    (truncf .bf16 (transpose S1024x1024 [1, 0] (Host.dotGeneral dot_S16384x1024_S16384x1024_S1024x1024_0_0_1_1_n_n none (extf .f32 b Cert.Reference7Ideal.Gen.bitsLt_bf16_f32) (extf .f32 a Cert.Reference7Ideal.Gen.bitsLt_bf16_f32))
      transposes_S1024x1024_S1024x1024_1_0) Cert.Reference7Ideal.Gen.bitsLt_bf16_f32 : FVec Ideal S1024x1024 .bf16) = (rDw a b : Vec Ideal S1024x1024 .bf16) := by
  funext y; rw [eq_ix2 y]; generalize y 0 = p; generalize y 1 = q; unfold rDw; pointwise []
  exact Finset.sum_congr rfl fun s _ => mul_comm _ _

theorem algebraic : Cert.algebraic_Kernel7Ideal_Reference7Ideal (hKernel7Ideal := Cert.Kernel7Ideal.Gen.facts) (hReference7Ideal := Cert.Reference7Ideal.Gen.facts) := by
  intro m g m' g' _ hargs
  refine ⟨fun c => rDw (m ((c.tc : Thread Cert.Kernel7Ideal.nD Cert.Kernel7Ideal.τ).loc Cert.Kernel7Ideal.main_arg0))
    (m ((c.tc : Thread Cert.Kernel7Ideal.nD Cert.Kernel7Ideal.τ).loc Cert.Kernel7Ideal.main_arg1)), ?_, ?_⟩
  · exact (θ_run _ _ _).mono (fun r h c => ⟨(h c).1.trans (final m c), (h c).2⟩) (Cert.Kernel7Ideal.Value.run_blocks m g)
  · refine (θ_run _ _ _).mono (fun r h c => ⟨((h c).1.trans (reference_value _ _)).trans ?_, (h c).2⟩) (Cert.Reference7Ideal.Value.run m' g')
    obtain ⟨e0, e1⟩ := hargs c
    rw [e0, e1]

end Cert.Kernel7Ideal.QueryProj
-- ==== Proof.Res.Back.lean ====
/-
  The backward of the output projection: each block of 1024 tokens is the gradient's rows times the transposed weight.
-/
module

public import proofs.«01_k».proof.Defs
public import proofs.«01_k».proof.Proof.Gen.Kernel8Ideal.Value
public import proofs.«01_k».proof.Proof.Gen.Reference8Ideal.Run
public import Idealize.ShloMosaic.Lib.Pointwise
public import Idealize.ShloMosaic.Lib.Pipeline.ValueKit
public import Idealize.ShloMosaic.Lib.Quiescent

@[expose] public section
set_option maxRecDepth 16384
noncomputable section

namespace Cert.Kernel8Ideal.Back
open Cert.Kernel8Ideal Cert.Kernel8Ideal.Gen Cert.Kernel8Ideal.Value Idealize.ShloMosaic Idealize.ShloMosaic.TcCoe Idealize.ShloMosaic.StableHlo Idealize.SL.Sem

variable (m : (ℓ : Loc nD τ sig) → Buf (Elt Ideal) ℓ) (c : Dev nD)

theorem block_apply (x0 : Vec Ideal S1024x1024 .f32) (x1 : Vec Ideal S1024x1024 .bf16) (p q : Fin 1024) :
    out0_2 x0 x1 (ix2 p q) = ∑ k : Fin 1024, x0 (ix2 p k) * x1 (ix2 q k) := by
  unfold out0_2
  frame_out
  unfold k0_pay1
  pointwise []

theorem index_row (t : Fin cfg0.N) : win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0]) t

theorem iblk0 (t : Fin cfg0.N) (p k : Fin 1024) (h : t.val * 1024 + p.val < 16384) :
    (iblk m c 0 t : Vec Ideal S1024x1024 .f32) (ix2 p k) = m ((c : Thread nD τ).loc main_arg0) (ix2 ⟨t.val * 1024 + p.val, h⟩ k) := by
  have hi := (index_row t).1
  unfold iblk
  rw [View.read_apply]
  show V m c main_arg0 _ = _
  rw [V_main_arg0]
  congr 1
  funext a
  apply Fin.ext
  match a with
  | ⟨0, _⟩ => show win0_0.index t 0 * 1024 + 1 * p.val = t.val * 1024 + p.val; rw [hi]; simp
  | ⟨1, _⟩ => show win0_0.index t 1 * 1024 + 1 * k.val = k.val; rw [hi]; simp

theorem iblk1 (t : Fin cfg0.N) (q k : Fin 1024) :
    (iblk m c 1 t : Vec Ideal S1024x1024 .bf16) (ix2 q k) = m ((c : Thread nD τ).loc main_arg1) (ix2 q k) := by
  have hi := (index_row t).2.1
  unfold iblk
  rw [View.read_apply]
  show V m c main_arg1 _ = _
  rw [V_main_arg1]
  congr 1
  funext a
  apply Fin.ext
  match a with
  | ⟨0, _⟩ => show win0_1.index t 0 * 1024 + 1 * q.val = q.val; rw [hi]; simp
  | ⟨1, _⟩ => show win0_1.index t 1 * 1024 + 1 * k.val = k.val; rw [hi]; simp

/-- The gradient before the projection: the gradient after it times the transposed weight. -/
def rBack (a : Vec Ideal S16384x1024 .f32) (w : Vec Ideal S1024x1024 .bf16) : Vec Ideal S16384x1024 .f32 :=
  fun i => ∑ k : Fin 1024, a (ix2 (i 0) k) * w (ix2 (i 1) k)

theorem final : (dats m 0 c).arrAt 2 cfg0.N = rBack (m ((c : Thread nD τ).loc main_arg0)) (m ((c : Thread nD τ).loc main_arg1)) := by
  refine (dats m 0 c).arrAt_eq_of_covers 2 _ (by decide +kernel) fun t hf y => ?_
  have hN : t.val < 16 := lt_of_lt_of_eq t.isLt (show cfg0.N = 16 from N_0)
  have hi := (index_row t).2.2
  obtain ⟨p, q, rfl⟩ : ∃ (p : Fin 1024) (q : Fin 1024), y = ix2 p q := ⟨y 0, y 1, eq_ix2 y⟩
  have e : ((cfg0.win 2).blk t).view.emb (ix2 p q) = ix2 (⟨t.val * 1024 + p.val, by omega⟩ : Fin 16384) q := by
    funext a
    apply Fin.ext
    match a with
    | ⟨0, _⟩ => show win0_2.index t 0 * 1024 + 1 * p.val = t.val * 1024 + p.val; rw [hi]; simp
    | ⟨1, _⟩ => show win0_2.index t 1 * 1024 + 1 * q.val = q.val; rw [hi]; simp
  blk_simp
  rw [after0_2, e]
  refine (block_apply _ _ p q).trans ?_
  unfold rBack
  exact Finset.sum_congr rfl fun k _ => congrArg₂ (fun u v : EReal => u * v) (iblk0 m c t p k _) (iblk1 m c t q k)

theorem reference_frame : Cert.quiescent_Reference8Ideal (hReference8Ideal := Cert.Reference8Ideal.Gen.facts) := fun m g _ =>
  (θ_run _ _ _).mono (fun _ h => ⟨fun c => (h c).2, sem_eq_zero_of_no_sems (by decide) _⟩) (Cert.Reference8Ideal.Value.run m g)

open Cert.Reference8Ideal Cert.Reference8Ideal.Gen in
theorem reference_value (a : FVec Ideal S16384x1024 .f32) (w : FVec Ideal S1024x1024 .bf16) :
    (Host.dotGeneral dot_S16384x1024_S1024x1024_S16384x1024_1_1_0_0_n_n none a (extf .f32 w Cert.Reference8Ideal.Gen.bitsLt_bf16_f32) : FVec Ideal S16384x1024 .f32)
      = (rBack a w : Vec Ideal S16384x1024 .f32) := by
  funext y; rw [eq_ix2 y]; generalize y 0 = p; generalize y 1 = q; unfold rBack; pointwise []

theorem algebraic : Cert.algebraic_Kernel8Ideal_Reference8Ideal (hKernel8Ideal := Cert.Kernel8Ideal.Gen.facts) (hReference8Ideal := Cert.Reference8Ideal.Gen.facts) := by
  intro m g m' g' _ hargs
  refine ⟨fun c => rBack (m ((c.tc : Thread Cert.Kernel8Ideal.nD Cert.Kernel8Ideal.τ).loc Cert.Kernel8Ideal.main_arg0))
    (m ((c.tc : Thread Cert.Kernel8Ideal.nD Cert.Kernel8Ideal.τ).loc Cert.Kernel8Ideal.main_arg1)), ?_, ?_⟩
  · exact (θ_run _ _ _).mono (fun r h c => ⟨(h c).1.trans (final m c), (h c).2⟩) (Cert.Kernel8Ideal.Value.run_blocks m g)
  · refine (θ_run _ _ _).mono (fun r h c => ⟨((h c).1.trans (reference_value _ _)).trans ?_, (h c).2⟩) (Cert.Reference8Ideal.Value.run m' g')
    obtain ⟨e0, e1⟩ := hargs c
    rw [e0, e1]

end Cert.Kernel8Ideal.Back
-- ==== Proof.Res.Forward.lean ====
/-
  The output projection added to the residual: each block of 1024 tokens is the residual's rows plus the rows of the heads'
  outputs times the weight.
-/
module

public import proofs.«01_k».proof.Defs
public import proofs.«01_k».proof.Proof.Gen.Kernel9Ideal.Value
public import proofs.«01_k».proof.Proof.Gen.Reference9Ideal.Run
public import Idealize.ShloMosaic.Lib.Pointwise
public import Idealize.ShloMosaic.Lib.Pipeline.ValueKit
public import Idealize.ShloMosaic.Lib.Quiescent

@[expose] public section
set_option maxRecDepth 16384
noncomputable section

namespace Cert.Kernel9Ideal.Forward
open Cert.Kernel9Ideal Cert.Kernel9Ideal.Gen Cert.Kernel9Ideal.Value Idealize.ShloMosaic Idealize.ShloMosaic.TcCoe Idealize.ShloMosaic.StableHlo Idealize.SL.Sem

variable (m : (ℓ : Loc nD τ sig) → Buf (Elt Ideal) ℓ) (c : Dev nD)

theorem block_apply (x0 : Vec Ideal S1024x1024 .f32) (x1 x2 : Vec Ideal S1024x1024 .bf16) (p q : Fin 1024) :
    out0_3 x0 x1 x2 (ix2 p q) = x0 (ix2 p q) + ∑ k : Fin 1024, x1 (ix2 p k) * x2 (ix2 k q) := by
  unfold out0_3
  frame_out
  unfold k0_pay1
  pointwise []

theorem index_row (t : Fin cfg0.N) : win0_0.index t = ![t.val, 0] ∧ win0_1.index t = ![t.val, 0] ∧ win0_2.index t = ![0, 0] ∧ win0_3.index t = ![t.val, 0] :=
  (by decide +kernel : ∀ t : Fin grid0.N, win0_0.index t = ![t.val, 0] ∧ win0_1.index t = ![t.val, 0] ∧ win0_2.index t = ![0, 0] ∧ win0_3.index t = ![t.val, 0]) t

theorem iblk0 (t : Fin cfg0.N) (p k : Fin 1024) (h : t.val * 1024 + p.val < 16384) :
    (iblk m c 0 t : Vec Ideal S1024x1024 .f32) (ix2 p k) = m ((c : Thread nD τ).loc main_arg0) (ix2 ⟨t.val * 1024 + p.val, h⟩ k) := by
  have hi := (index_row t).1
  unfold iblk
  rw [View.read_apply]
  show V m c main_arg0 _ = _
  rw [V_main_arg0]
  congr 1
  funext a
  apply Fin.ext
  match a with
  | ⟨0, _⟩ => show win0_0.index t 0 * 1024 + 1 * p.val = t.val * 1024 + p.val; rw [hi]; simp
  | ⟨1, _⟩ => show win0_0.index t 1 * 1024 + 1 * k.val = k.val; rw [hi]; simp

theorem iblk1 (t : Fin cfg0.N) (p k : Fin 1024) (h : t.val * 1024 + p.val < 16384) :
    (iblk m c 1 t : Vec Ideal S1024x1024 .bf16) (ix2 p k) = m ((c : Thread nD τ).loc main_arg1) (ix2 ⟨t.val * 1024 + p.val, h⟩ k) := by
  have hi := (index_row t).2.1
  unfold iblk
  rw [View.read_apply]
  show V m c main_arg1 _ = _
  rw [V_main_arg1]
  congr 1
  funext a
  apply Fin.ext
  match a with
  | ⟨0, _⟩ => show win0_1.index t 0 * 1024 + 1 * p.val = t.val * 1024 + p.val; rw [hi]; simp
  | ⟨1, _⟩ => show win0_1.index t 1 * 1024 + 1 * k.val = k.val; rw [hi]; simp

theorem iblk2 (t : Fin cfg0.N) (q k : Fin 1024) :
    (iblk m c 2 t : Vec Ideal S1024x1024 .bf16) (ix2 q k) = m ((c : Thread nD τ).loc main_arg2) (ix2 q k) := by
  have hi := (index_row t).2.2.1
  unfold iblk
  rw [View.read_apply]
  show V m c main_arg2 _ = _
  rw [V_main_arg2]
  congr 1
  funext a
  apply Fin.ext
  match a with
  | ⟨0, _⟩ => show win0_2.index t 0 * 1024 + 1 * q.val = q.val; rw [hi]; simp
  | ⟨1, _⟩ => show win0_2.index t 1 * 1024 + 1 * k.val = k.val; rw [hi]; simp

/-- The residual plus the product with the weight. -/
def rForward (x : Vec Ideal S16384x1024 .f32) (a : Vec Ideal S16384x1024 .bf16) (w : Vec Ideal S1024x1024 .bf16) : Vec Ideal S16384x1024 .f32 :=
  fun i => x i + ∑ k : Fin 1024, a (ix2 (i 0) k) * w (ix2 k (i 1))

theorem final : (dats m 0 c).arrAt 3 cfg0.N = rForward (m ((c : Thread nD τ).loc main_arg0)) (m ((c : Thread nD τ).loc main_arg1)) (m ((c : Thread nD τ).loc main_arg2)) := by
  refine (dats m 0 c).arrAt_eq_of_covers 3 _ (by decide +kernel) fun t hf y => ?_
  have hN : t.val < 16 := lt_of_lt_of_eq t.isLt (show cfg0.N = 16 from N_0)
  have hi := (index_row t).2.2.2
  obtain ⟨p, q, rfl⟩ : ∃ (p : Fin 1024) (q : Fin 1024), y = ix2 p q := ⟨y 0, y 1, eq_ix2 y⟩
  have e : ((cfg0.win 3).blk t).view.emb (ix2 p q) = ix2 (⟨t.val * 1024 + p.val, by omega⟩ : Fin 16384) q := by
    funext a
    apply Fin.ext
    match a with
    | ⟨0, _⟩ => show win0_3.index t 0 * 1024 + 1 * p.val = t.val * 1024 + p.val; rw [hi]; simp
    | ⟨1, _⟩ => show win0_3.index t 1 * 1024 + 1 * q.val = q.val; rw [hi]; simp
  blk_simp
  rw [after0_3, e]
  refine (block_apply _ _ _ p q).trans ?_
  unfold rForward
  refine congrArg₂ (fun u v : EReal => u + v) (iblk0 m c t p q _) ?_
  exact Finset.sum_congr rfl fun k _ => congrArg₂ (fun u v : EReal => u * v) (iblk1 m c t p k _) (iblk2 m c t k q)

theorem reference_frame : Cert.quiescent_Reference9Ideal (hReference9Ideal := Cert.Reference9Ideal.Gen.facts) := fun m g _ =>
  (θ_run _ _ _).mono (fun _ h => ⟨fun c => (h c).2, sem_eq_zero_of_no_sems (by decide) _⟩) (Cert.Reference9Ideal.Value.run m g)

open Cert.Reference9Ideal Cert.Reference9Ideal.Gen in
theorem reference_value (x : FVec Ideal S16384x1024 .f32) (a : FVec Ideal S16384x1024 .bf16) (w : FVec Ideal S1024x1024 .bf16) :
    (addf x (Host.dotGeneral dot_S16384x1024_S1024x1024_S16384x1024_1_0_0_1_n_n none (extf .f32 a Cert.Reference9Ideal.Gen.bitsLt_bf16_f32)
        (extf .f32 w Cert.Reference9Ideal.Gen.bitsLt_bf16_f32)) : FVec Ideal S16384x1024 .f32)
      = (rForward x a w : Vec Ideal S16384x1024 .f32) := by
  funext y; rw [eq_ix2 y]; generalize y 0 = p; generalize y 1 = q; unfold rForward; pointwise []

theorem algebraic : Cert.algebraic_Kernel9Ideal_Reference9Ideal (hKernel9Ideal := Cert.Kernel9Ideal.Gen.facts) (hReference9Ideal := Cert.Reference9Ideal.Gen.facts) := by
  intro m g m' g' _ hargs
  refine ⟨fun c => rForward (m ((c.tc : Thread Cert.Kernel9Ideal.nD Cert.Kernel9Ideal.τ).loc Cert.Kernel9Ideal.main_arg0))
    (m ((c.tc : Thread Cert.Kernel9Ideal.nD Cert.Kernel9Ideal.τ).loc Cert.Kernel9Ideal.main_arg1))
    (m ((c.tc : Thread Cert.Kernel9Ideal.nD Cert.Kernel9Ideal.τ).loc Cert.Kernel9Ideal.main_arg2)), ?_, ?_⟩
  · exact (θ_run _ _ _).mono (fun r h c => ⟨(h c).1.trans (final m c), (h c).2⟩) (Cert.Kernel9Ideal.Value.run_blocks m g)
  · refine (θ_run _ _ _).mono (fun r h c => ⟨((h c).1.trans (reference_value _ _ _)).trans ?_, (h c).2⟩) (Cert.Reference9Ideal.Value.run m' g')
    obtain ⟨e0, e1, e2⟩ := hargs c
    rw [e0, e1, e2]

end Cert.Kernel9Ideal.Forward
-- ==== Proof.Norm.Back.lean ====
/-
  The backward of the input projection: the gradient of the projected columns times the transposed weight, and back
  through the norm. What the kernel's 32 blocks of 512 tokens leave.
-/
module

public import proofs.«01_k».proof.Proof.Gen.Kernel10Ideal.Value
public import Idealize.ShloMosaic.Lib.Pointwise
public import Idealize.ShloMosaic.Lib.Pipeline.ValueKit

@[expose] public section
set_option maxRecDepth 16384
noncomputable section

namespace Cert.Kernel10Ideal.Norm
open Cert.Kernel10Ideal Cert.Kernel10Ideal.Gen Cert.Kernel10Ideal.Value Idealize.ShloMosaic Idealize.ShloMosaic.TcCoe Idealize.ShloMosaic.StableHlo Idealize.SL.Sem

/-- Token `p` of block `n`. -/
def tok (n : Fin 32) (p : Fin 512) : Fin 16384 := ⟨n.val * 512 + p.val, by omega⟩

/-- The reciprocal root mean square of a row. -/
def rms (x : Fin 1024 → EReal) : EReal :=
  Ideal.rsqrt (Ideal.div (∑ k : Fin 1024, x k * x k) (Ideal.ofBits FTy.f32 1149239296#32) + Ideal.ofBits FTy.f32 897988541#32)

/-- The gradient of a row that is divided by its root mean square and scaled: `e` is the gradient of the result. -/
def rmsBack (xr ln e : Fin 1024 → EReal) (k : Fin 1024) : EReal :=
  rms xr * (e k * ln k - xr k * rms xr * Ideal.div (∑ i : Fin 1024, e i * ln i * (xr i * rms xr)) (Ideal.ofBits FTy.f32 1149239296#32))

section
variable (d : Vec Ideal S16384x3456 .bf16) (w : Vec Ideal S1024x3456 .bf16) (x : Vec Ideal S16384x1024 .f32) (ln : Vec Ideal S1024 .f32)
  (dIn : Vec Ideal S16384x1024 .f32)

/-- The gradient of the normalized tokens. -/
def normGrad (s : Fin 16384) (k : Fin 1024) : EReal := ∑ q : Fin 3456, d (ix2 s q) * w (ix2 k q)

/-- The gradient of the tokens. -/
def kX : Vec Ideal S16384x1024 .f32 := fun i =>
  rmsBack (fun k => x (ix2 (i 0) k)) (fun k => ln (ix1 k)) (normGrad d w (i 0)) (i 1) + dIn (ix2 (i 0) (i 1))

/-- What one block of tokens adds to the gradient of the scale. -/
def lnPart (b : Fin 32) (k : Fin 1024) : EReal :=
  ∑ p : Fin 512, normGrad d w (tok b p) k * (x (ix2 (tok b p) k) * rms (fun i => x (ix2 (tok b p) i)))

/-- The gradient of the scale. -/
def kLn : Vec Ideal S1x1024 .f32 := fun i =>
  ∑ s : Fin 16384, normGrad d w s (i 1) * (x (ix2 s (i 1)) * rms (fun k => x (ix2 s k)))

end

/-! ## One grid point -/

/-- The gradient of the normalized tokens, for the tokens of a block. -/
def part (x0 : Vec Ideal S512x3456 .bf16) (x1 : Vec Ideal S1024x3456 .bf16) (p : Fin 512) (k : Fin 1024) : EReal :=
  ∑ q : Fin 3456, x0 (ix2 p q) * x1 (ix2 k q)

theorem x_apply (x0 : Vec Ideal S512x3456 .bf16) (x1 : Vec Ideal S1024x3456 .bf16) (x2 : Vec Ideal S512x1024 .f32) (x3 : Vec Ideal S1x1024 .f32) (x4 : Vec Ideal S512x1024 .f32)
    (p : Fin 512) (k : Fin 1024) : k0_pay7 (F := Ideal) x0 x1 x2 x3 x4 (ix2 p k)
      = rmsBack (fun i => x2 (ix2 p i)) (fun i => x3 (ix2 (0 : Fin 1) i)) (part x0 x1 p) k + x4 (ix2 p k) := by
  unfold k0_pay7 k0_pay5 k0_pay4 k0_pay3 rmsBack rms part
  pointwise []

theorem ln_apply (x0 : Vec Ideal S512x3456 .bf16) (x1 : Vec Ideal S1024x3456 .bf16) (x2 : Vec Ideal S512x1024 .f32) (u : Vec Ideal S1x1024 .f32) (k : Fin 1024) :
    k0_pay2 (F := Ideal) (k0_pay6 x0 x1 x2) u (ix2 (0 : Fin 1) k) = u (ix2 (0 : Fin 1) k)
      + ∑ p : Fin 512, part x0 x1 p k * (x2 (ix2 p k) * rms (fun i => x2 (ix2 p i))) := by
  unfold k0_pay2 k0_pay6 k0_pay5 k0_pay4 k0_pay3 rms part
  pointwise []

theorem zero_apply (y : S1x1024.Idx) : k0_pay1 (F := Ideal) y = 0 := by
  rw [eq_ix2 y]
  unfold k0_pay1
  pointwise []

variable (m : (ℓ : Loc nD τ sig) → Buf (Elt Ideal) ℓ) (c : Dev nD)

abbrev aD : Vec Ideal S16384x3456 .bf16 := m ((c : Thread nD τ).loc main_arg0)
abbrev aW : Vec Ideal S1024x3456 .bf16 := m ((c : Thread nD τ).loc main_arg1)
abbrev aX : Vec Ideal S16384x1024 .f32 := m ((c : Thread nD τ).loc main_arg2)
abbrev aLn : Vec Ideal S1024 .f32 := m ((c : Thread nD τ).loc main_arg3)
abbrev aIn : Vec Ideal S16384x1024 .f32 := m ((c : Thread nD τ).loc main_arg4)

theorem index_row (t : Fin cfg0.N) : win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0]) t

theorem hN (t : Fin cfg0.N) : t.val < 32 := lt_of_lt_of_eq t.isLt (show cfg0.N = 32 from N_0)

/-- The block of tokens of a grid point. -/
def bi (t : Fin cfg0.N) : Fin 32 := ⟨t.val, hN t⟩

theorem scale_apply (k : Fin 1024) :
    (V m c main_v0 : Vec Ideal S1x1024 .f32) (ix2 (0 : Fin 1) k) = aLn m c (ix1 k) := by
  unfold V
  unfold_abbrev_sides
  after_results
  show shapeCast S1x1024 (m ((c : Thread nD τ).loc main_arg3) : Vec Ideal S1024 .f32)
    shapeCasts_S1024_S1x1024 (ix2 (0 : Fin 1) k) = _
  pointwise []

theorem iblk0 (t : Fin cfg0.N) (p : Fin 512) (q : Fin 3456) :
    (iblk m c 0 t : Vec Ideal S512x3456 .bf16) (ix2 p q) = aD m c (ix2 (tok (bi t) p) q) := by
  have hi := (index_row t).1
  unfold iblk
  rw [View.read_apply]
  show V m c main_arg0 _ = _
  rw [V_main_arg0]
  congr 1
  funext a
  apply Fin.ext
  match a with
  | ⟨0, _⟩ => show win0_0.index t 0 * 512 + 1 * p.val = t.val * 512 + p.val; rw [hi]; simp
  | ⟨1, _⟩ => show win0_0.index t 1 * 3456 + 1 * q.val = q.val; rw [hi]; simp

theorem iblk1 (t : Fin cfg0.N) (k : Fin 1024) (q : Fin 3456) :
    (iblk m c 1 t : Vec Ideal S1024x3456 .bf16) (ix2 k q) = aW m c (ix2 k q) := by
  have hi := (index_row t).2.1
  unfold iblk
  rw [View.read_apply]
  show V m c main_arg1 _ = _
  rw [V_main_arg1]
  congr 1
  funext a
  apply Fin.ext
  match a with
  | ⟨0, _⟩ => show win0_1.index t 0 * 1024 + 1 * k.val = k.val; rw [hi]; simp
  | ⟨1, _⟩ => show win0_1.index t 1 * 3456 + 1 * q.val = q.val; rw [hi]; simp

theorem iblk2 (t : Fin cfg0.N) (p : Fin 512) (k : Fin 1024) :
    (iblk m c 2 t : Vec Ideal S512x1024 .f32) (ix2 p k) = aX m c (ix2 (tok (bi t) p) k) := by
  have hi := (index_row t).2.2.1
  unfold iblk
  rw [View.read_apply]
  show V m c main_arg2 _ = _
  rw [V_main_arg2]
  congr 1
  funext a
  apply Fin.ext
  match a with
  | ⟨0, _⟩ => show win0_2.index t 0 * 512 + 1 * p.val = t.val * 512 + p.val; rw [hi]; simp
  | ⟨1, _⟩ => show win0_2.index t 1 * 1024 + 1 * k.val = k.val; rw [hi]; simp

theorem iblk3 (t : Fin cfg0.N) (k : Fin 1024) :
    (iblk m c 3 t : Vec Ideal S1x1024 .f32) (ix2 (0 : Fin 1) k) = aLn m c (ix1 k) := by
  have hi := (index_row t).2.2.2.1
  have e : ((cfg0.win 3).blk t).view.emb (ix2 (0 : Fin 1) k) = ix2 (0 : Fin 1) k := by
    funext a
    apply Fin.ext
    match a with
    | ⟨0, _⟩ => show win0_3.index t 0 * 1 + 1 * 0 = 0; rw [hi]; simp
    | ⟨1, _⟩ => show win0_3.index t 1 * 1024 + 1 * k.val = k.val; rw [hi]; simp
  unfold iblk
  rw [View.read_apply]
  show V m c main_v0 _ = _
  rw [e, scale_apply]

theorem iblk4 (t : Fin cfg0.N) (p : Fin 512) (k : Fin 1024) :
    (iblk m c 4 t : Vec Ideal S512x1024 .f32) (ix2 p k) = aIn m c (ix2 (tok (bi t) p) k) := by
  have hi := (index_row t).2.2.2.2.1
  unfold iblk
  rw [View.read_apply]
  show V m c main_arg4 _ = _
  rw [V_main_arg4]
  congr 1
  funext a
  apply Fin.ext
  match a with
  | ⟨0, _⟩ => show win0_4.index t 0 * 512 + 1 * p.val = t.val * 512 + p.val; rw [hi]; simp
  | ⟨1, _⟩ => show win0_4.index t 1 * 1024 + 1 * k.val = k.val; rw [hi]; simp

theorem grad_eq (t : Fin cfg0.N) (p : Fin 512) (k : Fin 1024) :
    part (iblk m c 0 t) (iblk m c 1 t) p k = normGrad (aD m c) (aW m c) (tok (bi t) p) k :=
  Finset.sum_congr rfl fun q _ => congrArg₂ (fun u v : EReal => u * v) (iblk0 m c t p q) (iblk1 m c t k q)

theorem row_eq (t : Fin cfg0.N) (p : Fin 512) :
    (fun i => (iblk m c 2 t : Vec Ideal S512x1024 .f32) (ix2 p i)) = fun i => aX m c (ix2 (tok (bi t) p) i) := funext fun i => iblk2 m c t p i

theorem point_x (t : Fin cfg0.N) (p : Fin 512) (k : Fin 1024) :
    k0_pay7 (F := Ideal) (iblk m c 0 t) (iblk m c 1 t) (iblk m c 2 t) (iblk m c 3 t) (iblk m c 4 t) (ix2 p k)
      = kX (aD m c) (aW m c) (aX m c) (aLn m c) (aIn m c) (ix2 (tok (bi t) p) k) := by
  rw [x_apply, row_eq m c t p, iblk4 m c t p k]
  have e3 : (fun i => (iblk m c 3 t : Vec Ideal S1x1024 .f32) (ix2 (0 : Fin 1) i)) = fun i => aLn m c (ix1 i) := funext fun i => iblk3 m c t i
  have eg : part (iblk m c 0 t) (iblk m c 1 t) p = normGrad (aD m c) (aW m c) (tok (bi t) p) := funext fun i => grad_eq m c t p i
  rw [e3, eg]
  rfl

theorem point_ln (t : Fin cfg0.N) (u : Vec Ideal S1x1024 .f32) (k : Fin 1024) :
    k0_pay2 (F := Ideal) (k0_pay6 (iblk m c 0 t) (iblk m c 1 t) (iblk m c 2 t)) u (ix2 (0 : Fin 1) k)
      = u (ix2 (0 : Fin 1) k) + lnPart (aD m c) (aW m c) (aX m c) (bi t) k := by
  rw [ln_apply]
  refine congrArg (fun v : EReal => _ + v) (Finset.sum_congr rfl fun p _ => ?_)
  rw [grad_eq m c t p k, row_eq m c t p, iblk2 m c t p k]

theorem out_x (t : Fin cfg0.N) (p : Fin 512) (k : Fin 1024) :
    (outsAt0 m c t.val t.isLt).1 (ix2 p k) = kX (aD m c) (aW m c) (aX m c) (aLn m c) (aIn m c) (ix2 (tok (bi t) p) k) := by
  by_cases h0 : t.val % 32 = 0
  · rw [outsAt0_A m c t h0]
    frame_out
    exact point_x m c t p k
  · rw [outsAt0_B m c t h0]
    frame_out
    exact point_x m c t p k

theorem row_zero (y : S1x1024.Idx) : ∃ k : Fin 1024, y = ix2 (0 : Fin 1) k :=
  ⟨y 1, (eq_ix2 y).trans (congrArg (fun u => ix2 u (y 1)) (Subsingleton.elim (α := Fin 1) _ _))⟩

theorem out_ln_first (t : Fin cfg0.N) (h0 : t.val % 32 = 0) (y : S1x1024.Idx) :
    (outsAt0 m c t.val t.isLt).2 y = 0 + lnPart (aD m c) (aW m c) (aX m c) (bi t) (y 1) := by
  obtain ⟨k, rfl⟩ := row_zero y
  rw [outsAt0_A m c t h0]
  frame_out
  refine (point_ln m c t _ k).trans ?_
  refine congrArg (fun u : EReal => u + _) ?_
  first
    | exact zero_apply _
    | rw [zero_apply]

theorem out_ln_step (t : Fin cfg0.N) (h0 : ¬t.val % 32 = 0) (y : S1x1024.Idx) :
    (outsAt0 m c t.val t.isLt).2 y = (outsAt0 m c (t.val - 1) (Nat.lt_of_le_of_lt (Nat.sub_le _ _) t.isLt)).2 y
      + lnPart (aD m c) (aW m c) (aX m c) (bi t) (y 1) := by
  obtain ⟨k, rfl⟩ := row_zero y
  rw [outsAt0_B m c t h0]
  frame_out
  exact point_ln m c t _ k

/-! ## The arrays -/

theorem final_x : (dats m 0 c).arrAt 5 cfg0.N = kX (aD m c) (aW m c) (aX m c) (aLn m c) (aIn m c) := by
  refine (dats m 0 c).arrAt_eq_of_covers 5 _ (by decide +kernel) fun t hf y => ?_
  have hi := (index_row t).2.2.2.2.2.1
  obtain ⟨p, q, rfl⟩ : ∃ (p : Fin 512) (q : Fin 1024), y = ix2 p q := ⟨y 0, y 1, eq_ix2 y⟩
  have e : ((cfg0.win 5).blk t).view.emb (ix2 p q) = ix2 (tok (bi t) p) q := by
    funext a
    apply Fin.ext
    match a with
    | ⟨0, _⟩ => show win0_5.index t 0 * 512 + 1 * p.val = t.val * 512 + p.val; rw [hi]; simp
    | ⟨1, _⟩ => show win0_5.index t 1 * 1024 + 1 * q.val = q.val; rw [hi]; simp
  blk_simp
  rw [after0_5, e]
  exact out_x m c t p q

theorem final_ln : (dats m 0 c).arrAt 6 cfg0.N = kLn (aD m c) (aW m c) (aX m c) := by
  refine (dats m 0 c).arrAt_eq_of_covers 6 _ (by decide +kernel) fun t hf y => ?_
  have ht : t.val % 32 = 32 - 1 := (flush0_6 t).mp hf
  have hi := (index_row t).2.2.2.2.2.2
  obtain ⟨k, rfl⟩ := row_zero y
  have e : ((cfg0.win 6).blk t).view.emb (ix2 (0 : Fin 1) k) = ix2 (0 : Fin 1) k := by
    funext a
    apply Fin.ext
    match a with
    | ⟨0, _⟩ => show win0_6.index t 0 * 1 + 1 * 0 = 0; rw [hi]; simp
    | ⟨1, _⟩ => show win0_6.index t 1 * 1024 + 1 * k.val = k.val; rw [hi]; simp
  blk_simp
  rw [after0_6, e]
  refine (Pipeline.eq_sum_fin_of_reset_step_apply_of_flush (fun n h => (outsAt0 m c n h).2) 32 (fun _ => 0)
    (fun t y => lnPart (aD m c) (aW m c) (aX m c) (bi t) (y 1)) (fun t h y => out_ln_first m c t h y) (fun t h y => out_ln_step m c t h y) t ht (ix2 (0 : Fin 1) k)).trans ?_
  rw [zero_add]
  have hq : t.val / 32 = 0 := by have := hN t; omega
  refine Eq.trans (b := ∑ b : Fin 32, lnPart (aD m c) (aW m c) (aX m c) b k) (Finset.sum_congr rfl fun s _ => ?_) ?_
  · refine congrArg (fun b => lnPart (aD m c) (aW m c) (aX m c) b k) (Fin.ext ?_)
    show 32 * (t.val / 32) + s.val = s.val
    omega
  · unfold lnPart kLn
    exact Fin.sum_mul_add_congr fun b p hl => rfl

end Cert.Kernel10Ideal.Norm
-- ==== Proof.Norm.BackRef.lean ====
/-
  The reference of the backward of the input projection, read element by element.
-/
module

public import proofs.«01_k».proof.Proof.Gen.Reference10Ideal.Run
public import Idealize.ShloMosaic.Lib.Pointwise

@[expose] public section
set_option maxRecDepth 16384
noncomputable section

namespace Cert.Reference10Ideal.Norm
open Cert.Reference10Ideal Cert.Reference10Ideal.Gen Cert.Reference10Ideal.Value Idealize.ShloMosaic Idealize.ShloMosaic.TcCoe Idealize.ShloMosaic.StableHlo Idealize.SL.Sem

variable (a0 : FVec Ideal S16384x3456 .bf16) (a1 : FVec Ideal S1024x3456 .bf16) (a2 : FVec Ideal S16384x1024 .f32) (a3 : FVec Ideal S1024 .f32) (a4 : FVec Ideal S16384x1024 .f32)

/-- The mean square of each token, and the small number. -/
def rMean : FVec Ideal S16384x1 .f32 :=
  addf (Host.divf (broadcastInDim S16384x1 ![0] bcast_S16384_S16384x1_0 (Host.reduceAdd (mulf a2 a2) (constant S_ .f32 0x00000000#32) reducesTo_S16384x1024_S16384_d1 h_S_))
    (broadcastInDim S16384x1 ![] bcast_S_S16384x1 (constant S_ .f32 0x44800000#32))) (broadcastInDim S16384x1 ![] bcast_S_S16384x1 (constant S_ .f32 0x358637BD#32))

def rRoot : FVec Ideal S16384x1 .f32 := Host.rsqrt (rMean a2)

/-- The gradient of the normalized tokens. -/
def rNorm : FVec Ideal S16384x1024 .f32 :=
  Host.dotGeneral dot_S16384x3456_S1024x3456_S16384x1024_1_1_0_0_n_n none (extf .f32 a0 bitsLt_bf16_f32) (extf .f32 a1 bitsLt_bf16_f32)

def rScaled : FVec Ideal S16384x1024 .f32 :=
  mulf (rNorm a0 a1) (broadcastInDim S16384x1024 ![0, 1] bcast_S1x1024_S16384x1024_0_1 (broadcastInDim S1x1024 ![1] bcast_S1024_S1x1024_1 a3))

/-- What the factor's own derivative contributes, per token. -/
def rCoef : FVec Ideal S16384 .f32 :=
  Host.reduceAdd (Host.divf (mulf (shapeCast S16384x1 (Host.reduceAdd (mulf a2 (rScaled a0 a1 a3)) (constant S_ .f32 0x00000000#32) reducesTo_S16384x1024_S16384_d1 h_S_) shapeCasts_S16384_S16384x1)
    (mulf (broadcastInDim S16384x1 ![] bcast_S_S16384x1 (constant S_ .f32 0xBF000000#32)) (Host.divf (rRoot a2) (rMean a2))))
    (broadcastInDim S16384x1 ![] bcast_S_S16384x1 (constant S_ .f32 0x44800000#32))) (constant S_ .f32 0x00000000#32) reducesTo_S16384x1_S16384_d1 h_S_

def rX : FVec Ideal S16384x1024 .f32 :=
  addf (addf (addf (mulf (rScaled a0 a1 a3) (broadcastInDim S16384x1024 ![0, 1] bcast_S16384x1_S16384x1024_0_1 (rRoot a2)))
    (mulf a2 (broadcastInDim S16384x1024 ![0] bcast_S16384_S16384x1024_0 (rCoef a0 a1 a2 a3))))
    (mulf (broadcastInDim S16384x1024 ![0] bcast_S16384_S16384x1024_0 (rCoef a0 a1 a2 a3)) a2)) a4

def rLn : FVec Ideal S1x1024 .f32 :=
  shapeCast S1x1024 (Host.reduceAdd (shapeCast S1x1024 (Host.reduceAdd (mulf (mulf a2 (broadcastInDim S16384x1024 ![0, 1] bcast_S16384x1_S16384x1024_0_1 (rRoot a2))) (rNorm a0 a1))
    (constant S_ .f32 0x00000000#32) reducesTo_S16384x1024_S1024_d0 h_S_) shapeCasts_S1024_S1x1024) (constant S_ .f32 0x00000000#32) reducesTo_S1x1024_S1024_d0 h_S_) shapeCasts_S1024_S1x1024

theorem rMean_apply (s : Fin 16384) (z : Fin 1) : rMean a2 (ix2 s z)
    = Ideal.div (∑ i : Fin 1024, a2 (ix2 s i) * a2 (ix2 s i)) (Ideal.ofBits FTy.f32 1149239296#32) + Ideal.ofBits FTy.f32 897988541#32 := by
  unfold rMean
  pointwise []

theorem rRoot_apply (s : Fin 16384) (z : Fin 1) : rRoot a2 (ix2 s z) = Ideal.rsqrt (rMean a2 (ix2 s z)) := by
  unfold rRoot
  pointwise []

theorem rNorm_apply (s : Fin 16384) (k : Fin 1024) : rNorm a0 a1 (ix2 s k) = ∑ q : Fin 3456, a0 (ix2 s q) * a1 (ix2 k q) := by
  unfold rNorm
  pointwise []

theorem rScaled_apply (s : Fin 16384) (k : Fin 1024) : rScaled a0 a1 a3 (ix2 s k) = rNorm a0 a1 (ix2 s k) * a3 (ix1 k) := by
  unfold rScaled
  pointwise []

theorem rCoef_apply (s : Fin 16384) : rCoef a0 a1 a2 a3 (ix1 s)
    = Ideal.div ((∑ k : Fin 1024, a2 (ix2 s k) * rScaled a0 a1 a3 (ix2 s k)) * (Ideal.ofBits FTy.f32 3204448256#32 * Ideal.div (rRoot a2 (ix2 s (0 : Fin 1))) (rMean a2 (ix2 s (0 : Fin 1)))))
        (Ideal.ofBits FTy.f32 1149239296#32) := by
  unfold rCoef
  pointwise []
  exact Fin.sum_univ_one _

theorem rX_apply (s : Fin 16384) (k : Fin 1024) : rX a0 a1 a2 a3 a4 (ix2 s k)
    = rScaled a0 a1 a3 (ix2 s k) * rRoot a2 (ix2 s (0 : Fin 1)) + a2 (ix2 s k) * rCoef a0 a1 a2 a3 (ix1 s) + rCoef a0 a1 a2 a3 (ix1 s) * a2 (ix2 s k) + a4 (ix2 s k) := by
  unfold rX
  pointwise []

theorem rLn_apply (z : Fin 1) (k : Fin 1024) : rLn a0 a1 a2 (ix2 z k)
    = ∑ s : Fin 16384, a2 (ix2 s k) * rRoot a2 (ix2 s (0 : Fin 1)) * rNorm a0 a1 (ix2 s k) := by
  unfold rLn
  pointwise []
  exact Fin.sum_univ_one _

theorem res_x (m : (ℓ : Loc nD τ sig) → Buf (Elt Ideal) ℓ) (c : Dev nD) : res_main_v40 m c
    = rX (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := rfl

end Cert.Reference10Ideal.Norm
-- ==== Proof.Norm.Whole.lean ====
/-
  The backward step through a division by the root mean square, without any condition on the numbers: where a row has
  an infinity, its reciprocal root mean square is zero and so is the gradient in both forms.
-/
module

public import proofs.«01_k».proof.Proof.Norm.Math

@[expose] public section
noncomputable section

namespace Norm
open Idealize.ShloMosaic
open _root_.Scan (IsReal)

theorem mul_add_of_real {r : ℝ} (h : 0 ≤ r) (a b : EReal) : (r : EReal) * (a + b) = r * a + r * b :=
  EReal.left_distrib_of_nonneg_of_ne_top (EReal.coe_nonneg.mpr h) (EReal.coe_ne_top r) a b

theorem mul_sum_of_real {r : ℝ} (h : 0 ≤ r) {n : ℕ} (f : Fin n → EReal) : (r : EReal) * ∑ i, f i = ∑ i, (r : EReal) * f i := by
  induction n with
  | zero => simp
  | succ n ih => rw [Fin.sum_univ_succ, Fin.sum_univ_succ, mul_add_of_real h, ih]

theorem add_self (y : EReal) : y + y = ((2 : ℝ) : EReal) * y := by
  induction y with
  | bot => rw [EReal.coe_mul_bot_of_pos (by norm_num)]; rfl
  | top => rw [EReal.coe_mul_top_of_pos (by norm_num)]; rfl
  | coe y => rw [← EReal.coe_add, ← EReal.coe_mul]; congr 1; ring

theorem square_nonneg (y : EReal) : 0 ≤ y * y := by
  induction y with
  | bot => exact le_top
  | top => exact le_top
  | coe y => rw [← EReal.coe_mul]; exact EReal.coe_nonneg.mpr (mul_self_nonneg y)

theorem neg_eq (y : EReal) : -y = ((-1 : ℝ) : EReal) * y := by
  rw [EReal.coe_neg, EReal.coe_one, EReal.neg_mul, one_mul]

/-- A row with an infinity has the mean square +∞. -/
theorem mean_square_top {n : ℕ} {x : Fin n → EReal} {j : Fin n} (hj : ¬IsReal (x j)) :
    Ideal.div (∑ i, x i * x i) (Ideal.ofBits FTy.f32 1149239296#32) + Ideal.ofBits FTy.f32 897988541#32 = ⊤ := by
  obtain ⟨ε, hε, e⟩ := small
  have hsq : x j * x j = ⊤ := by
    rcases hx : x j with _ | _ | r
    · rfl
    · rfl
    · exact absurd ⟨r, hx⟩ hj
  have hsum : ∑ i, x i * x i = ⊤ :=
    top_le_iff.mp (hsq ▸ Finset.single_le_sum (f := fun i => x i * x i) (fun i _ => square_nonneg (x i)) (Finset.mem_univ j))
  rw [hsum, width, e, Ideal.div_coe (by norm_num), EReal.top_mul_coe_of_pos (by norm_num), EReal.top_add_coe]

theorem rms_back_whole {n : ℕ} {x e : Fin n → EReal} (k : Fin n) (a r c : EReal)
    (ha : a = Ideal.div (∑ i, x i * x i) (Ideal.ofBits FTy.f32 1149239296#32) + Ideal.ofBits FTy.f32 897988541#32)
    (hr : r = Ideal.rsqrt a)
    (hc : c = Ideal.div ((∑ i, x i * e i) * (Ideal.ofBits FTy.f32 3204448256#32 * Ideal.div r a)) (Ideal.ofBits FTy.f32 1149239296#32)) :
    e k * r + x k * c + c * x k = r * (e k - x k * r * Ideal.div (∑ i, e i * (x i * r)) (Ideal.ofBits FTy.f32 1149239296#32)) := by
  by_cases hx : ∀ i, IsReal (x i)
  · choose x' hx' using hx
    obtain rfl : x = fun i => (x' i : EReal) := funext hx'
    obtain ⟨a', ha', ea⟩ := mean_square x'
    obtain ⟨r', hr', er⟩ := rsqrt_real ha'
    have hr0 : 0 ≤ r' := by
      have h := er
      rw [Ideal.rsqrt_coe, if_neg (not_lt.mpr ha'.le), if_neg ha'.ne'] at h
      rw [← EReal.coe_injective h]
      positivity
    beta_reduce at *
    rw [ea] at ha
    subst ha
    rw [er] at hr
    subst hr
    have hs : ∑ i, e i * ((x' i : EReal) * (r' : EReal)) = (r' : EReal) * ∑ i, (x' i : EReal) * e i := by
      rw [mul_sum_of_real hr0]
      exact Finset.sum_congr rfl fun i _ => by rw [mul_comm (x' i : EReal), mul_comm, mul_assoc]
    rw [hs]
    generalize ∑ i, (x' i : EReal) * e i = S at hc ⊢
    have h1 : r' / a' = r' * (r' * r') := by rw [hr']; ring
    rw [minus_half, width, div_real _ ha'.ne', h1, ← EReal.coe_mul, Ideal.div_coe (by norm_num)] at hc
    rw [width, Ideal.div_coe (by norm_num), sub_eq_add_neg, mul_add_of_real hr0, add_assoc, mul_comm c, add_self, mul_comm (e k)]
    congr 1
    subst hc
    rw [neg_eq]
    calc ((2 : ℝ) : EReal) * (x' k * (S * ((-(1 / 2) * (r' * (r' * r')) : ℝ) : EReal) * ((1 / 1024 : ℝ) : EReal)))
        = ((2 * x' k * (-(1 / 2) * (r' * (r' * r'))) * (1 / 1024) : ℝ) : EReal) * S := by
          simp only [EReal.coe_mul]; ac_rfl
      _ = ((r' * (x' k * r' * r' * (1 / 1024) * -1) : ℝ) : EReal) * S := by congr 2; ring
      _ = _ := by simp only [EReal.coe_mul]; ac_rfl
  · obtain ⟨j, hj⟩ := not_forall.mp hx
    rw [mean_square_top hj] at ha
    subst ha
    have h0 : r = 0 := hr
    subst h0
    have hc0 : c = 0 := by
      have hz : Ideal.div 0 ⊤ = 0 := by unfold Ideal.div; simp
      rw [hc, hz, mul_zero, mul_zero, width, Ideal.div_coe (by norm_num), zero_mul]
    rw [hc0]
    simp

end Norm
-- ==== Proof.Norm.Claim.lean ====
/-
  The claims of the backward of the input projection.
-/
module

public import proofs.«01_k».proof.Defs
public import proofs.«01_k».proof.Proof.Norm.Back
public import proofs.«01_k».proof.Proof.Norm.BackRef
public import proofs.«01_k».proof.Proof.Norm.Whole
public import Idealize.ShloMosaic.Lib.Quiescent

@[expose] public section
set_option maxRecDepth 16384
noncomputable section

namespace Cert.Kernel10Ideal.Norm
open Cert.Kernel10Ideal Idealize.ShloMosaic Idealize.ShloMosaic.TcCoe Idealize.SL Idealize.SL.Sem
open Cert.Reference10Ideal.Norm

section
variable (d : Vec Ideal S16384x3456 .bf16) (w : Vec Ideal S1024x3456 .bf16) (x : Vec Ideal S16384x1024 .f32) (ln : Vec Ideal S1024 .f32)
  (dIn : Vec Ideal S16384x1024 .f32)

theorem root_eq (s : Fin 16384) : rRoot x (ix2 s (0 : Fin 1)) = rms (fun k => x (ix2 s k)) := by
  rw [rRoot_apply, rMean_apply]
  rfl

theorem norm_eq (s : Fin 16384) (k : Fin 1024) : rNorm d w (ix2 s k) = normGrad d w s k := rNorm_apply d w s k

theorem ref_x_eq : rX d w x ln dIn = kX d w x ln dIn := by
  funext i
  obtain ⟨s, k, rfl⟩ : ∃ (s : Fin 16384) (k : Fin 1024), i = ix2 s k := ⟨i 0, i 1, eq_ix2 i⟩
  rw [rX_apply]
  refine congrArg (fun u : EReal => u + dIn (ix2 s k)) ?_
  have hc := rCoef_apply d w x ln s
  simp only [rScaled_apply, norm_eq d w] at hc ⊢
  rw [root_eq]
  exact _root_.Norm.rms_back_whole (x := fun i => x (ix2 s i)) (e := fun i => normGrad d w s i * ln (ix1 i)) k _ _ _
    (rMean_apply x s 0) ((root_eq x s).symm.trans (rRoot_apply x s 0)) (hc.trans (by rw [root_eq]))

theorem ref_ln_eq : rLn d w x = kLn d w x := by
  funext i
  obtain ⟨z, k, rfl⟩ : ∃ (z : Fin 1) (k : Fin 1024), i = ix2 z k := ⟨i 0, i 1, eq_ix2 i⟩
  rw [rLn_apply]
  refine Finset.sum_congr rfl fun s _ => ?_
  rw [norm_eq, root_eq]
  exact mul_comm _ _

end

theorem reference_frame : Cert.quiescent_Reference10Ideal (hReference10Ideal := Cert.Reference10Ideal.Gen.facts) := fun m g _ =>
  (θ_run _ _ _).mono (fun _ h => ⟨fun c => (h c).2.2, sem_eq_zero_of_no_sems (by decide) _⟩) (Cert.Reference10Ideal.Value.run m g)

theorem algebraic : Cert.algebraic_Kernel10Ideal_Reference10Ideal (hKernel10Ideal := Cert.Kernel10Ideal.Gen.facts)
    (hReference10Ideal := Cert.Reference10Ideal.Gen.facts) := by
  intro m g m' g' _ hargs
  refine ⟨fun c => kX (aD m c) (aW m c) (aX m c) (aLn m c) (aIn m c), fun c => kLn (aD m c) (aW m c) (aX m c), ?_, ?_⟩
  · exact (θ_run _ _ _).mono (fun r h c => ⟨(h c).1.trans (final_x m c), (h c).2.1.trans (final_ln m c), (h c).2.2⟩)
      (Cert.Kernel10Ideal.Value.run_blocks m g)
  · refine (θ_run _ _ _).mono (fun r h c => ?_) (Cert.Reference10Ideal.Value.run m' g')
    obtain ⟨e0, e1, e2, e3, e4⟩ := hargs c
    refine ⟨((h c).1.trans (Cert.Reference10Ideal.Norm.res_x _ _)).trans ?_, Eq.trans (h c).2.1 ?_, (h c).2.2⟩
    · rw [e0, e1, e2, e3, e4]
      exact ref_x_eq _ _ _ _ _
    · rw [e0, e1, e2]
      exact ref_ln_eq _ _ _

end Cert.Kernel10Ideal.Norm
-- ==== Proof.Fwd.Kit.lean ====
/- The forward feed-forward call up to its pipeline: what the arrays hold when the grid starts, the two
   branch conditions of the body as arithmetic of the point, the staging buffers, and the points at which an
   output window is left alone. -/
module

public import proofs.«01_k».proof.Proof.Gen.Kernel11Ideal.Launch
public import proofs.«01_k».proof.Proof.Gen.Kernel11Ideal.Skeleton
public import proofs.«01_k».proof.Proof.Gen.Kernel11Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel11Ideal.Fwd

open Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The buffers of core `c` when the grid starts: after the host operations before it. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program is the host operations and then the grid. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes an argument. -/
theorem V_args (c : Dev nD) : V m c main_arg0 = m ((c : Thread nD τ).loc main_arg0)
    ∧ V m c main_arg1 = m ((c : Thread nD τ).loc main_arg1)
    ∧ V m c main_arg2 = m ((c : Thread nD τ).loc main_arg2)
    ∧ V m c main_arg3 = m ((c : Thread nD τ).loc main_arg3) := by
  refine ⟨?_, ?_, ?_, ?_⟩ <;>
  · refine StableHlo.after_of_forall_not_mem (b := Proc.devRef .tc _) _ _ (List.forall_iff_forall_mem.mp ?_)
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes,
      StableHlo.binaryIndexed_writes, Finset.mem_singleton]
    repeat' apply And.intro
    all_goals exact StableHlo.devRef_ne_of_ne (by decide)

/-- The block of window `w` at point `t`, as the grid finds its array. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- The first branch is taken at the first column tile: it normalizes the rows and clears the accumulator. -/
abbrev isFirst (i : grid0.Coords) : Prop := k0_cond1 i = 1#1
/-- The second branch is taken at the last column tile: it writes the residual sum. -/
abbrev isLast (i : grid0.Coords) : Prop := k0_cond2 i = 1#1

theorem isFirst_iff (t : Fin cfg0.N) : isFirst (grid0.coords t) ↔ t.val % 4 = 0 := by
  have ht : t.val < 64 := Nat.lt_of_lt_of_eq t.isLt N_0
  have e0 : (grid0.coords t 0).val = t.val / 4 % 16 := Pipeline.Grid.coords_val t 0 (by decide) rfl
  have e1 : (grid0.coords t 1).val = t.val / 1 % 4 := Pipeline.Grid.coords_val t 1 (by decide) rfl
  simp only [isFirst, k0_cond1, e0, e1]
  word_cmp

theorem isLast_iff (t : Fin cfg0.N) : isLast (grid0.coords t) ↔ t.val % 4 = 3 := by
  have ht : t.val < 64 := Nat.lt_of_lt_of_eq t.isLt N_0
  have e0 : (grid0.coords t 0).val = t.val / 4 % 16 := Pipeline.Grid.coords_val t 0 (by decide) rfl
  have e1 : (grid0.coords t 1).val = t.val / 1 % 4 := Pipeline.Grid.coords_val t 1 (by decide) rfl
  simp only [isLast, k0_cond2, e0, e1]
  word_cmp

/-- The residual sum's window is left alone except at the last column tile. -/
theorem idle5 (t : Fin cfg0.N) : cfg0.idle 5 (grid0.coords t) = !decide (t.val % 4 = 3) := by
  rw [show cfg0.idle 5 (grid0.coords t) = !(k0_cond2 (grid0.coords t) == 1#1) from rfl]
  exact congrArg (!·) (decide_eq_decide.mpr (isLast_iff t))

/-- The normalized rows' window is left alone except at the first column tile. -/
theorem idle6 (t : Fin cfg0.N) : cfg0.idle 6 (grid0.coords t) = !decide (t.val % 4 = 0) := by
  rw [show cfg0.idle 6 (grid0.coords t) = !(k0_cond1 (grid0.coords t) == 1#1) from rfl]
  exact congrArg (!·) (decide_eq_decide.mpr (isFirst_iff t))

/-- One staging buffer of each output window: what a buffer ends up with is stated through it. -/
abbrev VO5 : View sig .tc .vmem S1024x1024 .f32 := (Memref.whole cc0_stg5_0 : Memref sig .tc .vmem S1024x1024 .f32).view
abbrev VO6 : View sig .tc .vmem S1024x1024 .bf16 := (Memref.whole cc0_stg6_0 : Memref sig .tc .vmem S1024x1024 .bf16).view
abbrev VO7 : View sig .tc .vmem S2x1x1024x704 .bf16 := (Memref.whole cc0_stg7_0 : Memref sig .tc .vmem S2x1x1024x704 .bf16).view
abbrev VO8 : View sig .tc .vmem S1x1024x704 .bf16 := (Memref.whole cc0_stg8_0 : Memref sig .tc .vmem S1x1024x704 .bf16).view

/-- Each window's staging buffer at point `t`, and that it is a whole buffer. -/
abbrev ms0 (t : Fin cfg0.N) : Memref sig .tc .vmem S1024x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x1024x704 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x1024x704 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S2x1x352x1024 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1024x1024 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S2x1x1024x704 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x1024x704 .bf16 := win0_8.stage (cfg0.slots t 8)
abbrev hs8 (t : Fin cfg0.N) : (ms8 t).IsWhole := hstage0_8 ((cfg0.slots t 8).cast nbuf0_8)
/-- The accumulator the body carries from one column tile to the next. -/
abbrev msA : Memref sig .tc .vmem S1024x1024 .f32 := Memref.whole cc0_scratch0

/-- What the grid keeps besides its windows: the accumulator at some contents, and the generator register. -/
theorem PhiA_eq (c : Dev nD) :
    (Pipeline.ΦA spec0 c : sProp 𝕄)
      = iprop(iprop((∃ d, owns (c : Thread nD τ) msA fullShare d)) ∗ (∃ r, prngReg c r)) := by
  unfold Pipeline.ΦA; rw [scopedRest0_eq]; simp only [msA, owns_whole]; rfl

end Cert.Kernel11Ideal.Fwd

end
-- ==== Proof.Fwd.Run.lean ====
/- The body of the forward feed-forward call, run once on any staging buffers in each of its three cases: the
   first column tile, the last one, and those between. Each run finds what the stores leave in every buffer. -/
module

public import proofs.«01_k».proof.Proof.Fwd.Kit

@[expose] public section

set_option maxRecDepth 16384

noncomputable section

namespace Cert.Kernel11Ideal.Fwd

open Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The five input buffers at their blocks. -/
abbrev inputs (c : Dev nD) (arg2 : Memref sig .tc .vmem S1024x1024 .f32) (arg3 : Memref sig .tc .vmem S1x1024 .f32)
    (arg4 arg5 : Memref sig .tc .vmem S1x1x1024x704 .bf16) (arg6 : Memref sig .tc .vmem S2x1x352x1024 .bf16)
    (x0 : Vec F S1024x1024 .f32) (x1 : Vec F S1x1024 .f32) (x2 x3 : Vec F S1x1x1024x704 .bf16)
    (x4 : Vec F S2x1x352x1024 .bf16) : sProp 𝕄 :=
  iprop(owns (c : Thread nD τ) arg2 fullShare x0 ∗ owns (c : Thread nD τ) arg3 fullShare x1
    ∗ owns (c : Thread nD τ) arg4 fullShare x2 ∗ owns (c : Thread nD τ) arg5 fullShare x3
    ∗ owns (c : Thread nD τ) arg6 fullShare x4)

/-- A buffer with the pieces `L` written over something. -/
abbrev written {S : Shape} {e : EltTy} (c : Dev nD) (a : Memref sig .tc .vmem S e)
    (L : List (View.Piece (Elt F) S e)) : sProp 𝕄 :=
  iprop(∃ f, a.view.loc (c : Thread nD τ) ↦[a.view.set]{fullShare} a.view.writes (Elt F) f L)

/-- A buffer at anything. -/
abbrev anything {S : Shape} {e : EltTy} (c : Dev nD) (a : Memref sig .tc .vmem S e) : sProp 𝕄 :=
  iprop(∃ d : Vec F S e, owns (c : Thread nD τ) a fullShare d)

variable (c : Dev nD) (i : grid0.Coords)
  (arg2 : Memref sig .tc .vmem S1024x1024 .f32) (harg2 : arg2.IsWhole)
  (arg3 : Memref sig .tc .vmem S1x1024 .f32) (harg3 : arg3.IsWhole)
  (arg4 : Memref sig .tc .vmem S1x1x1024x704 .bf16) (harg4 : arg4.IsWhole)
  (arg5 : Memref sig .tc .vmem S1x1x1024x704 .bf16) (harg5 : arg5.IsWhole)
  (arg6 : Memref sig .tc .vmem S2x1x352x1024 .bf16) (harg6 : arg6.IsWhole)
  (arg7 : Memref sig .tc .vmem S1024x1024 .f32) (harg7 : arg7.IsWhole)
  (arg8 : Memref sig .tc .vmem S1024x1024 .bf16) (harg8 : arg8.IsWhole)
  (arg9 : Memref sig .tc .vmem S2x1x1024x704 .bf16) (harg9 : arg9.IsWhole)
  (arg10 : Memref sig .tc .vmem S1x1024x704 .bf16) (harg10 : arg10.IsWhole)
  (arg11 : Memref sig .tc .vmem S1024x1024 .f32) (harg11 : arg11.IsWhole)
  (x0 : Vec F S1024x1024 .f32) (x1 : Vec F S1x1024 .f32) (x2 x3 : Vec F S1x1x1024x704 .bf16)
  (x4 : Vec F S2x1x352x1024 .bf16)

set_option maxHeartbeats 1000000 in
/-- At the first column tile: the residual sum's buffer is untouched, the others are stored into. -/
def runA (hfirst : isFirst i) (hlast : ¬isLast i)  :
    Σ' (L6 : List (View.Piece (Elt F) S1024x1024 .bf16)), Σ' (L7 : List (View.Piece (Elt F) S2x1x1024x704 .bf16)), Σ' (L8 : List (View.Piece (Elt F) S1x1024x704 .bf16)), { LA : List (View.Piece (Elt F) S1024x1024 .f32) //
      ∀ (x5 : Vec F S1024x1024 .f32) (E : Set ℕ) (K : PUnit → sProp 𝕄),
        iprop(inputs c arg2 arg3 arg4 arg5 arg6 x0 x1 x2 x3 x4 ∗ owns (c : Thread nD τ) arg7 fullShare x5 ∗ anything c arg8 ∗ anything c arg9 ∗ anything c arg10 ∗ anything c arg11
            ∗ (iprop(inputs c arg2 arg3 arg4 arg5 arg6 x0 x1 x2 x3 x4 ∗ owns (c : Thread nD τ) arg7 fullShare x5 ∗ written c arg8 L6 ∗ written c arg9 L7 ∗ written c arg10 L8 ∗ written c arg11 LA) -∗ K ⟨⟩))
          ⊢ wp frame (wpE (defs₀ (F := F)) Variants.none c none) E
              (cc0_ffn_fwd i arg2 harg2 arg3 harg3 arg4 harg4 arg5 harg5 arg6 harg6 arg7 harg7 arg8 harg8 arg9 harg9 arg10 harg10 arg11 harg11) K } := by
  refine ⟨?_, ?_, ?_, ?_, fun x5 E K => ?run⟩
  case run =>
    simp only [cc0_ffn_fwd_eq_skeleton]; unfold cc0_ffn_fwd_skel
    simp only [k0_part1_eq_skeleton, k0_part2_eq_skeleton, k0_part3_eq_skeleton, k0_part4_eq_skeleton, k0_part5_eq_skeleton]
    unfold inputs anything written owns
    iintro ⟨⟨⟨%f0, %hf0, H0⟩, ⟨%f1, %hf1, H1⟩, ⟨%f2, %hf2, H2⟩, ⟨%f3, %hf3, H3⟩, ⟨%f4, %hf4, H4⟩⟩, ⟨%f5, %hf5, H5⟩, ⟨%d6, %f6, -, H6⟩, ⟨%d7, %f7, -, H7⟩, ⟨%d8, %f8, -, H8⟩, ⟨%dA, %fA, -, HA⟩, Hk⟩
    obtain rfl := harg2.eq_unread hf0; obtain rfl := harg3.eq_unread hf1; obtain rfl := harg4.eq_unread hf2
    obtain rfl := harg5.eq_unread hf3; obtain rfl := harg6.eq_unread hf4
    obtain rfl := harg7.eq_unread hf5
    sl_exec (disch := first | sl_exact hfirst | sl_exact hlast)
    sl_step
    iapply Hk
    isplitl [H0 H1 H2 H3 H4]
    · isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    iexists _; iexact HA

set_option maxHeartbeats 1000000 in
/-- At the tile between the first and the last: the residual sum's and the normalized rows' buffers keep what they hold. -/
def runB (hfirst : ¬isFirst i) (hlast : ¬isLast i) (h : Vec F S1024x1024 .bf16) (acc : Vec F S1024x1024 .f32) :
    Σ' (L7 : List (View.Piece (Elt F) S2x1x1024x704 .bf16)), Σ' (L8 : List (View.Piece (Elt F) S1x1024x704 .bf16)), { LA : List (View.Piece (Elt F) S1024x1024 .f32) //
      ∀ (x5 : Vec F S1024x1024 .f32) (E : Set ℕ) (K : PUnit → sProp 𝕄),
        iprop(inputs c arg2 arg3 arg4 arg5 arg6 x0 x1 x2 x3 x4 ∗ owns (c : Thread nD τ) arg7 fullShare x5 ∗ owns (c : Thread nD τ) arg8 fullShare h ∗ anything c arg9 ∗ anything c arg10 ∗ owns (c : Thread nD τ) arg11 fullShare acc
            ∗ (iprop(inputs c arg2 arg3 arg4 arg5 arg6 x0 x1 x2 x3 x4 ∗ owns (c : Thread nD τ) arg7 fullShare x5 ∗ owns (c : Thread nD τ) arg8 fullShare h ∗ written c arg9 L7 ∗ written c arg10 L8 ∗ written c arg11 LA) -∗ K ⟨⟩))
          ⊢ wp frame (wpE (defs₀ (F := F)) Variants.none c none) E
              (cc0_ffn_fwd i arg2 harg2 arg3 harg3 arg4 harg4 arg5 harg5 arg6 harg6 arg7 harg7 arg8 harg8 arg9 harg9 arg10 harg10 arg11 harg11) K } := by
  refine ⟨?_, ?_, ?_, fun x5 E K => ?run⟩
  case run =>
    simp only [cc0_ffn_fwd_eq_skeleton]; unfold cc0_ffn_fwd_skel
    simp only [k0_part1_eq_skeleton, k0_part2_eq_skeleton, k0_part3_eq_skeleton, k0_part4_eq_skeleton, k0_part5_eq_skeleton]
    unfold inputs anything written owns
    iintro ⟨⟨⟨%f0, %hf0, H0⟩, ⟨%f1, %hf1, H1⟩, ⟨%f2, %hf2, H2⟩, ⟨%f3, %hf3, H3⟩, ⟨%f4, %hf4, H4⟩⟩, ⟨%f5, %hf5, H5⟩, ⟨%f6, %hf6, H6⟩, ⟨%d7, %f7, -, H7⟩, ⟨%d8, %f8, -, H8⟩, ⟨%fA, %hfA, HA⟩, Hk⟩
    obtain rfl := harg2.eq_unread hf0; obtain rfl := harg3.eq_unread hf1; obtain rfl := harg4.eq_unread hf2
    obtain rfl := harg5.eq_unread hf3; obtain rfl := harg6.eq_unread hf4
    obtain rfl := harg7.eq_unread hf5; obtain rfl := harg8.eq_unread hf6; obtain rfl := harg11.eq_unread hfA
    sl_exec (disch := first | sl_exact hfirst | sl_exact hlast)
    sl_step
    iapply Hk
    isplitl [H0 H1 H2 H3 H4]
    · isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    iexists _; iexact HA

set_option maxHeartbeats 1000000 in
/-- At the last column tile: the normalized rows' buffer keeps what it holds. -/
def runC (hfirst : ¬isFirst i) (hlast : isLast i) (h : Vec F S1024x1024 .bf16) (acc : Vec F S1024x1024 .f32) :
    Σ' (L5 : List (View.Piece (Elt F) S1024x1024 .f32)), Σ' (L7 : List (View.Piece (Elt F) S2x1x1024x704 .bf16)), Σ' (L8 : List (View.Piece (Elt F) S1x1024x704 .bf16)), { LA : List (View.Piece (Elt F) S1024x1024 .f32) //
      ∀ (E : Set ℕ) (K : PUnit → sProp 𝕄),
        iprop(inputs c arg2 arg3 arg4 arg5 arg6 x0 x1 x2 x3 x4 ∗ anything c arg7 ∗ owns (c : Thread nD τ) arg8 fullShare h ∗ anything c arg9 ∗ anything c arg10 ∗ owns (c : Thread nD τ) arg11 fullShare acc
            ∗ (iprop(inputs c arg2 arg3 arg4 arg5 arg6 x0 x1 x2 x3 x4 ∗ written c arg7 L5 ∗ owns (c : Thread nD τ) arg8 fullShare h ∗ written c arg9 L7 ∗ written c arg10 L8 ∗ written c arg11 LA) -∗ K ⟨⟩))
          ⊢ wp frame (wpE (defs₀ (F := F)) Variants.none c none) E
              (cc0_ffn_fwd i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0_ffn_fwd_eq_skeleton]; unfold cc0_ffn_fwd_skel
    simp only [k0_part1_eq_skeleton, k0_part2_eq_skeleton, k0_part3_eq_skeleton, k0_part4_eq_skeleton, k0_part5_eq_skeleton]
    unfold inputs anything written owns
    iintro ⟨⟨⟨%f0, %hf0, H0⟩, ⟨%f1, %hf1, H1⟩, ⟨%f2, %hf2, H2⟩, ⟨%f3, %hf3, H3⟩, ⟨%f4, %hf4, H4⟩⟩, ⟨%d5, %f5, -, H5⟩, ⟨%f6, %hf6, H6⟩, ⟨%d7, %f7, -, H7⟩, ⟨%d8, %f8, -, H8⟩, ⟨%fA, %hfA, HA⟩, Hk⟩
    obtain rfl := harg2.eq_unread hf0; obtain rfl := harg3.eq_unread hf1; obtain rfl := harg4.eq_unread hf2
    obtain rfl := harg5.eq_unread hf3; obtain rfl := harg6.eq_unread hf4
    obtain rfl := harg8.eq_unread hf6; obtain rfl := harg11.eq_unread hfA
    sl_exec (disch := first | sl_exact hfirst | sl_exact hlast)
    sl_step
    iapply Hk
    isplitl [H0 H1 H2 H3 H4]
    · isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      iexists _; isplitr; · ipureintro; exact harg6.read_unread _
      iexact H4
    isplitl [H5]; · iexists _; iexact H5
    isplitl [H6]
    · iexists _; isplitr; · ipureintro; exact harg8.read_unread _
      iexact H6
    isplitl [H7]; · iexists _; iexact H7
    isplitl [H8]; · iexists _; iexact H8
    iexists _; iexact HA

end Cert.Kernel11Ideal.Fwd

end
-- ==== Proof.Fwd.Left.lean ====
/- What the forward feed-forward call's buffers hold after each point, and the frame: every run ends, leaves the
   arguments as they were and every array at what the pipeline computes from those contents. The normalized
   rows are stored at the first column tile only and stay in their buffer until the last one writes them back. -/
module

public import proofs.«01_k».proof.Proof.Fwd.Run

@[expose] public section

set_option maxRecDepth 16384

noncomputable section

namespace Cert.Kernel11Ideal.Fwd

open Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## Each case's stores cover the buffers they go to -/

/-- A buffer whose pieces cover it holds them, read through any buffer of its shape. -/
theorem owns_of_written {S : Shape} {e : EltTy} (c : Dev nD) (a : Memref sig .tc .vmem S e) (v : View sig .tc .vmem S e)
    (L : List (View.Piece (Elt F) S e)) (hcov : ∀ y : S.Idx, ∃ pc ∈ L, y ∈ pc.1.set) :
    written c a L ⊢ owns (c : Thread nD τ) a fullShare (v.read (Elt F) (v.writes (Elt F) v.junk L)) := by
  unfold written owns
  iintro ⟨%f, H⟩
  iexists _; isplitr
  swap; · iexact H
  ipureintro; exact View.read_writes_of_cover _ _ _ _ _ hcov

/-- The first-tile run at point `t`. -/
abbrev atA (c : Dev nD) (t : Fin cfg0.N) (h0 : t.val % 4 = 0) :=
  runA c (grid0.coords t) (ms0 t) (hs0 t) (ms1 t) (hs1 t) (ms2 t) (hs2 t) (ms3 t) (hs3 t) (ms4 t) (hs4 t) (ms5 t) (hs5 t)
    (ms6 t) (hs6 t) (ms7 t) (hs7 t) (ms8 t) (hs8 t) msA (Memref.isWhole_whole _)
    (iblk m c 0 t) (iblk m c 1 t) (iblk m c 2 t) (iblk m c 3 t) (iblk m c 4 t)
    ((isFirst_iff t).mpr h0) (fun h => absurd ((isLast_iff t).mp h) (by omega))

/-- The middle-tile run at point `t`, over the normalized rows `h` and the accumulator `acc` it finds. -/
abbrev atB (c : Dev nD) (t : Fin cfg0.N) (h0 : ¬t.val % 4 = 0) (h3 : ¬t.val % 4 = 3)
    (h : Vec F S1024x1024 .bf16) (acc : Vec F S1024x1024 .f32) :=
  runB c (grid0.coords t) (ms0 t) (hs0 t) (ms1 t) (hs1 t) (ms2 t) (hs2 t) (ms3 t) (hs3 t) (ms4 t) (hs4 t) (ms5 t) (hs5 t)
    (ms6 t) (hs6 t) (ms7 t) (hs7 t) (ms8 t) (hs8 t) msA (Memref.isWhole_whole _)
    (iblk m c 0 t) (iblk m c 1 t) (iblk m c 2 t) (iblk m c 3 t) (iblk m c 4 t)
    (fun h => h0 ((isFirst_iff t).mp h)) (fun h => h3 ((isLast_iff t).mp h)) h acc

/-- The last-tile run at point `t`. -/
abbrev atC (c : Dev nD) (t : Fin cfg0.N) (h3 : t.val % 4 = 3)
    (h : Vec F S1024x1024 .bf16) (acc : Vec F S1024x1024 .f32) :=
  runC c (grid0.coords t) (ms0 t) (hs0 t) (ms1 t) (hs1 t) (ms2 t) (hs2 t) (ms3 t) (hs3 t) (ms4 t) (hs4 t) (ms5 t) (hs5 t)
    (ms6 t) (hs6 t) (ms7 t) (hs7 t) (ms8 t) (hs8 t) msA (Memref.isWhole_whole _)
    (iblk m c 0 t) (iblk m c 1 t) (iblk m c 2 t) (iblk m c 3 t) (iblk m c 4 t)
    (fun h => absurd ((isFirst_iff t).mp h) (by omega)) ((isLast_iff t).mpr h3) h acc

section
variable (c : Dev nD) (t : Fin cfg0.N) (h : Vec F S1024x1024 .bf16) (acc : Vec F S1024x1024 .f32)

theorem coverA (h0 : t.val % 4 = 0) :
    (∀ y : S1024x1024.Idx, ∃ pc ∈ (atA m c t h0).1, y ∈ pc.1.set)
    ∧ (∀ y : S2x1x1024x704.Idx, ∃ pc ∈ (atA m c t h0).2.1, y ∈ pc.1.set)
    ∧ (∀ y : S1x1024x704.Idx, ∃ pc ∈ (atA m c t h0).2.2.1, y ∈ pc.1.set)
    ∧ (∀ y : S1024x1024.Idx, ∃ pc ∈ (atA m c t h0).2.2.2.1, y ∈ pc.1.set) :=
  ⟨View.cover_of_tiledL _ S1024x1024.size (by sl_kernel_rfl), View.cover_of_tiledL _ S1x1x256x704.size (by sl_kernel_rfl),
    View.cover_of_tiledL _ S1x256x704.size (by sl_kernel_rfl), View.cover_of_wholeMem _ (by sl_whole_mem)⟩

theorem coverB (h0 : ¬t.val % 4 = 0) (h3 : ¬t.val % 4 = 3) :
    (∀ y : S2x1x1024x704.Idx, ∃ pc ∈ (atB m c t h0 h3 h acc).1, y ∈ pc.1.set)
    ∧ (∀ y : S1x1024x704.Idx, ∃ pc ∈ (atB m c t h0 h3 h acc).2.1, y ∈ pc.1.set)
    ∧ (∀ y : S1024x1024.Idx, ∃ pc ∈ (atB m c t h0 h3 h acc).2.2.1, y ∈ pc.1.set) :=
  ⟨View.cover_of_tiledL _ S1x1x256x704.size (by sl_kernel_rfl), View.cover_of_tiledL _ S1x256x704.size (by sl_kernel_rfl),
    View.cover_of_tiledL _ S256x1024.size (by sl_kernel_rfl)⟩

theorem coverC (h3 : t.val % 4 = 3) :
    (∀ y : S1024x1024.Idx, ∃ pc ∈ (atC m c t h3 h acc).1, y ∈ pc.1.set)
    ∧ (∀ y : S2x1x1024x704.Idx, ∃ pc ∈ (atC m c t h3 h acc).2.1, y ∈ pc.1.set)
    ∧ (∀ y : S1x1024x704.Idx, ∃ pc ∈ (atC m c t h3 h acc).2.2.1, y ∈ pc.1.set)
    ∧ (∀ y : S1024x1024.Idx, ∃ pc ∈ (atC m c t h3 h acc).2.2.2.1, y ∈ pc.1.set) :=
  ⟨View.cover_of_tiledL _ S1024x1024.size (by sl_kernel_rfl), View.cover_of_tiledL _ S1x1x256x704.size (by sl_kernel_rfl),
    View.cover_of_tiledL _ S1x256x704.size (by sl_kernel_rfl), View.cover_of_tiledL _ S256x1024.size (by sl_kernel_rfl)⟩

end

/-! ## What the buffers hold after each point -/

/-- What a point leaves: the residual sum's block, the normalized rows, the two projections' tiles, the gated
    product's tile and the accumulator. -/
structure Left (F : FTy → Type) [FloatOps F] where
  out : Vec F S1024x1024 .f32
  h : Vec F S1024x1024 .bf16
  gu : Vec F S2x1x1024x704 .bf16
  act : Vec F S1x1024x704 .bf16
  acc : Vec F S1024x1024 .f32

/-- Pieces written over a buffer of window 5, 6, 7 or 8, read back. -/
abbrev read5 (L : List (View.Piece (Elt F) S1024x1024 .f32)) := VO5.read (Elt F) (VO5.writes (Elt F) VO5.junk L)
abbrev read6 (L : List (View.Piece (Elt F) S1024x1024 .bf16)) := VO6.read (Elt F) (VO6.writes (Elt F) VO6.junk L)
abbrev read7 (L : List (View.Piece (Elt F) S2x1x1024x704 .bf16)) := VO7.read (Elt F) (VO7.writes (Elt F) VO7.junk L)
abbrev read8 (L : List (View.Piece (Elt F) S1x1024x704 .bf16)) := VO8.read (Elt F) (VO8.writes (Elt F) VO8.junk L)
/-- Pieces written over the accumulator, read back. -/
abbrev readA (L : List (View.Piece (Elt F) S1024x1024 .f32)) := msA.view.read (Elt F) (msA.view.writes (Elt F) msA.view.junk L)

/-- What the body leaves at point `t` when it finds `b`. -/
def leaveAt (c : Dev nD) (t : Fin cfg0.N) (b : Left F) : Left F :=
  if h0 : t.val % 4 = 0 then
    { out := b.out, h := read6 (atA m c t h0).1, gu := read7 (atA m c t h0).2.1, act := read8 (atA m c t h0).2.2.1,
      acc := readA (atA m c t h0).2.2.2.1 }
  else if h3 : t.val % 4 = 3 then
    { out := read5 (atC m c t h3 b.h b.acc).1, h := b.h, gu := read7 (atC m c t h3 b.h b.acc).2.1,
      act := read8 (atC m c t h3 b.h b.acc).2.2.1, acc := readA (atC m c t h3 b.h b.acc).2.2.2.1 }
  else
    { out := b.out, h := b.h, gu := read7 (atB m c t h0 h3 b.h b.acc).1, act := read8 (atB m c t h0 h3 b.h b.acc).2.1,
      acc := readA (atB m c t h0 h3 b.h b.acc).2.2.1 }

theorem leaveAt_A (c : Dev nD) (t : Fin cfg0.N) (b : Left F) (h0 : t.val % 4 = 0) : leaveAt m c t b =
    { out := b.out, h := read6 (atA m c t h0).1, gu := read7 (atA m c t h0).2.1, act := read8 (atA m c t h0).2.2.1,
      acc := readA (atA m c t h0).2.2.2.1 } := dif_pos h0

theorem leaveAt_B (c : Dev nD) (t : Fin cfg0.N) (b : Left F) (h0 : ¬t.val % 4 = 0) (h3 : ¬t.val % 4 = 3) : leaveAt m c t b =
    { out := b.out, h := b.h, gu := read7 (atB m c t h0 h3 b.h b.acc).1, act := read8 (atB m c t h0 h3 b.h b.acc).2.1,
      acc := readA (atB m c t h0 h3 b.h b.acc).2.2.1 } := (dif_neg h0).trans (dif_neg h3)

theorem leaveAt_C (c : Dev nD) (t : Fin cfg0.N) (b : Left F) (h3 : t.val % 4 = 3) : leaveAt m c t b =
    { out := read5 (atC m c t h3 b.h b.acc).1, h := b.h, gu := read7 (atC m c t h3 b.h b.acc).2.1,
      act := read8 (atC m c t h3 b.h b.acc).2.2.1, acc := readA (atC m c t h3 b.h b.acc).2.2.2.1 } :=
  (dif_neg (by omega)).trans (dif_pos h3)

/-- After a tile that is not the first the normalized rows are what they were. -/
theorem leaveAt_h (c : Dev nD) (t : Fin cfg0.N) (b : Left F) (h0 : ¬t.val % 4 = 0) : (leaveAt m c t b).h = b.h := by
  by_cases h3 : t.val % 4 = 3
  · rw [leaveAt_C m c t b h3]
  · rw [leaveAt_B m c t b h0 h3]

/-- Before the first point: buffers nothing was written to. -/
def unwritten : Left F where
  out := read5 []
  h := read6 []
  gu := read7 []
  act := read8 []
  acc := readA []

/-- What the buffers hold before point `n`, -/
def leftBefore (c : Dev nD) : (n : ℕ) → n ≤ cfg0.N → Left F
  | 0, _ => unwritten
  | n + 1, hn => leaveAt m c ⟨n, hn⟩ (leftBefore c n (Nat.le_of_lt hn))

/-- and after point `t`. -/
def left (c : Dev nD) (t : Fin cfg0.N) : Left F := leaveAt m c t (leftBefore m c t.val (Nat.le_of_lt t.isLt))

theorem leftBefore_succ (c : Dev nD) (n : ℕ) (hn : n < cfg0.N) : leftBefore m c (n + 1) hn = left m c ⟨n, hn⟩ := rfl

/-! ## The body at a point -/

set_option maxHeartbeats 4000000 in
/-- The body at point `t`: if past the first column tile the normalized rows' buffer and the accumulator hold what the
    point before left, it leaves every buffer at what `leaveAt` says, and the residual sum's buffer alone
    except at the last tile. -/
theorem body (c : Dev nD) (t : Fin cfg0.N) (b : Left F) (x5 : Vec F S1024x1024 .f32) (x6 : Vec F S1024x1024 .bf16)
    (a : Vec F S1024x1024 .f32) (hb : ¬t.val % 4 = 0 → x6 = b.h ∧ a = b.acc) (K : PUnit → sProp 𝕄) :
    iprop(inputs c (ms0 t) (ms1 t) (ms2 t) (ms3 t) (ms4 t) (iblk m c 0 t) (iblk m c 1 t) (iblk m c 2 t) (iblk m c 3 t) (iblk m c 4 t) ∗ owns (c : Thread nD τ) (ms5 t) fullShare x5 ∗ owns (c : Thread nD τ) (ms6 t) fullShare x6
        ∗ anything c (ms7 t) ∗ anything c (ms8 t) ∗ owns (c : Thread nD τ) msA fullShare a
        ∗ (iprop(inputs c (ms0 t) (ms1 t) (ms2 t) (ms3 t) (ms4 t) (iblk m c 0 t) (iblk m c 1 t) (iblk m c 2 t) (iblk m c 3 t) (iblk m c 4 t) ∗ owns (c : Thread nD τ) (ms5 t) fullShare (if t.val % 4 = 3 then (leaveAt m c t b).out else x5)
            ∗ owns (c : Thread nD τ) (ms6 t) fullShare (leaveAt m c t b).h
            ∗ owns (c : Thread nD τ) (ms7 t) fullShare (leaveAt m c t b).gu
            ∗ owns (c : Thread nD τ) (ms8 t) fullShare (leaveAt m c t b).act
            ∗ owns (c : Thread nD τ) msA fullShare (leaveAt m c t b).acc) -∗ K ⟨⟩))
      ⊢ wp frame (wpE (defs₀ (F := F)) Variants.none c none) Set.univ (bodyAt0 t) K := by
  unfold bodyAt0
  by_cases h0 : t.val % 4 = 0
  · have h3 : ¬t.val % 4 = 3 := by omega
    rw [leaveAt_A m c t b h0, if_neg h3]; dsimp only
    obtain ⟨k6, k7, k8, kA⟩ := coverA m c t h0
    iintro ⟨HI, H5, H6, H7, H8, HA, Hk⟩
    iapply ((atA m c t h0).2.2.2.2 x5 Set.univ _)
    isplitl [HI]; · iexact HI
    isplitl [H5]; · iexact H5
    isplitl [H6]; · iexists _; iexact H6
    isplitl [H7]; · iexact H7
    isplitl [H8]; · iexact H8
    isplitl [HA]; · iexists _; iexact HA
    iintro ⟨HI, H5, H6, H7, H8, HA⟩
    iapply Hk
    isplitl [HI]; · iexact HI
    isplitl [H5]; · iexact H5
    isplitl [H6]; · iapply (owns_of_written c (ms6 t) VO6 _ k6); iexact H6
    isplitl [H7]; · iapply (owns_of_written c (ms7 t) VO7 _ k7); iexact H7
    isplitl [H8]; · iapply (owns_of_written c (ms8 t) VO8 _ k8); iexact H8
    iapply (owns_of_written c msA msA.view _ kA); iexact HA
  · obtain ⟨rfl, rfl⟩ := hb h0
    by_cases h3 : t.val % 4 = 3
    · rw [leaveAt_C m c t b h3, if_pos h3]; dsimp only
      obtain ⟨k5, k7, k8, kA⟩ := coverC m c t b.h b.acc h3
      iintro ⟨HI, H5, H6, H7, H8, HA, Hk⟩
      iapply ((atC m c t h3 b.h b.acc).2.2.2.2 Set.univ _)
      isplitl [HI]; · iexact HI
      isplitl [H5]; · iexists _; iexact H5
      isplitl [H6]; · iexact H6
      isplitl [H7]; · iexact H7
      isplitl [H8]; · iexact H8
      isplitl [HA]; · iexact HA
      iintro ⟨HI, H5, H6, H7, H8, HA⟩
      iapply Hk
      isplitl [HI]; · iexact HI
      isplitl [H5]; · iapply (owns_of_written c (ms5 t) VO5 _ k5); iexact H5
      isplitl [H6]; · iexact H6
      isplitl [H7]; · iapply (owns_of_written c (ms7 t) VO7 _ k7); iexact H7
      isplitl [H8]; · iapply (owns_of_written c (ms8 t) VO8 _ k8); iexact H8
      iapply (owns_of_written c msA msA.view _ kA); iexact HA
    · rw [leaveAt_B m c t b h0 h3, if_neg h3]; dsimp only
      obtain ⟨k7, k8, kA⟩ := coverB m c t b.h b.acc h0 h3
      iintro ⟨HI, H5, H6, H7, H8, HA, Hk⟩
      iapply ((atB m c t h0 h3 b.h b.acc).2.2.2 x5 Set.univ _)
      isplitl [HI]; · iexact HI
      isplitl [H5]; · iexact H5
      isplitl [H6]; · iexact H6
      isplitl [H7]; · iexact H7
      isplitl [H8]; · iexact H8
      isplitl [HA]; · iexact HA
      iintro ⟨HI, H5, H6, H7, H8, HA⟩
      iapply Hk
      isplitl [HI]; · iexact HI
      isplitl [H5]; · iexact H5
      isplitl [H6]; · iexact H6
      isplitl [H7]; · iapply (owns_of_written c (ms7 t) VO7 _ k7); iexact H7
      isplitl [H8]; · iapply (owns_of_written c (ms8 t) VO8 _ k8); iexact H8
      iapply (owns_of_written c msA msA.view _ kA); iexact HA

end Cert.Kernel11Ideal.Fwd

end
-- ==== Proof.Fwd.Frame.lean ====
/- The frame of the forward feed-forward call: from the contents its buffers hold after each point, every run ends
   with the arguments as they were and every array at what the pipeline writes back. -/
module

public import proofs.«01_k».proof.Proof.Fwd.Left

@[expose] public section

set_option maxRecDepth 16384

noncomputable section

namespace Cert.Kernel11Ideal.Fwd

open Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What is kept between points besides the windows: before the first point anything, afterwards the accumulator at
    what the point before left. -/
def PhiS (c : Dev nD) : (n : ℕ) → n ≤ cfg0.N → sProp 𝕄
  | 0, _ => Pipeline.ΦA spec0 c
  | n + 1, hn => iprop(iprop(owns (c : Thread nD τ) msA fullShare (leftBefore m c (n + 1) hn).acc) ∗ (∃ r, prngReg c r))

theorem PhiS_pos (c : Dev nD) (n : ℕ) (h : n ≤ cfg0.N) (hz : n ≠ 0) : PhiS m c n h =
    iprop(iprop(owns (c : Thread nD τ) msA fullShare (leftBefore m c n h).acc) ∗ (∃ r, prngReg c r)) := by
  cases n with
  | zero => exact absurd rfl hz
  | succ n => rfl

/-- The contents the pipeline is proved with: an input's buffer keeps its block, an output's holds what `left` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (left m c t).out
    | ⟨6, _⟩ => (left m c t).h
    | ⟨7, _⟩ => (left m c t).gu
    | ⟨8, _⟩ => (left m c t).act
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

/-- An input's buffer holds its block at every point. -/
theorem before_input (c : Dev nD) (t : Fin cfg0.N) :
    (∀ d, (dats m 0 c).before 0 t d = iblk m c 0 t) ∧ (∀ d, (dats m 0 c).before 1 t d = iblk m c 1 t)
    ∧ (∀ d, (dats m 0 c).before 2 t d = iblk m c 2 t) ∧ (∀ d, (dats m 0 c).before 3 t d = iblk m c 3 t)
    ∧ (∀ d, (dats m 0 c).before 4 t d = iblk m c 4 t) :=
  ⟨fun d => (dats m 0 c).before_in_eq_fetched 0 rfl (fun _ => rfl) (fun _ _ _ => rfl) (fun _ => rfl) t d,
    fun d => (dats m 0 c).before_in_eq_fetched 1 rfl (fun _ => rfl) (fun _ _ _ => rfl) (fun _ => rfl) t d,
    fun d => (dats m 0 c).before_in_eq_fetched 2 rfl (fun _ => rfl) (fun _ _ _ => rfl) (fun _ => rfl) t d,
    fun d => (dats m 0 c).before_in_eq_fetched 3 rfl (fun _ => rfl) (fun _ _ _ => rfl) (fun _ => rfl) t d,
    fun d => (dats m 0 c).before_in_eq_fetched 4 rfl (fun _ => rfl) (fun _ _ _ => rfl) (fun _ => rfl) t d⟩

/-- Past the first column tile the normalized rows' buffer holds the rows the first one stored: the points between
    leave it alone and none of them writes it back. -/
theorem before_rows (c : Dev nD) : ∀ (n : ℕ) (hn : n < cfg0.N), ¬n % 4 = 0 → ∀ d,
    (dats m 0 c).before 6 ⟨n, hn⟩ d = (leftBefore m c n (Nat.le_of_lt hn)).h := by
  intro n
  induction n with
  | zero => intro _ h; exact absurd (Nat.zero_mod _) h
  | succ n ih =>
    intro hn h0 d
    have hn' : n < cfg0.N := Nat.lt_of_succ_lt hn
    have hfl : (cfg0.win 6).flush ⟨n, hn'⟩ = false := Bool.eq_false_iff.mpr fun h => by
      have := (flush0_6 _).mp h; dsimp only at this; omega
    have hpos := (dats m 0 c).before_of_pos 6 ⟨n + 1, hn⟩ (Nat.succ_ne_zero n) ((cfg0.win 6).fetch_out rfl _) d
    rw [show (⟨(⟨n + 1, hn⟩ : Fin cfg0.N).val - 1, Nat.lt_of_le_of_lt (Nat.sub_le _ _) hn⟩ : Fin cfg0.N) = ⟨n, hn'⟩ from rfl,
      hfl, if_neg Bool.false_ne_true] at hpos
    rw [hpos, leftBefore_succ]
    have hi := idle6 ⟨n, hn'⟩
    by_cases h : n % 4 = 0
    · rw [show (!decide ((⟨n, hn'⟩ : Fin cfg0.N).val % 4 = 0)) = false from by simp [h]] at hi
      unfold Dat.left; rw [hi]
      show (cfg0.win 6).fill _ d ((cfg0.win 6).cut _ ((dats m 0 c).after 6 ⟨n, hn'⟩)) = _
      exact (Pipeline.fill_of_clip_none _ _ (fun _ => rfl) _ ((dats m 0 c).after 6 ⟨n, hn'⟩) _).trans (Window.fill_cut _ _ _)
    · rw [show (!decide ((⟨n, hn'⟩ : Fin cfg0.N).val % 4 = 0)) = true from by simp [h]] at hi
      unfold Dat.left; rw [hi]
      exact (ih hn' h d).trans (leaveAt_h m c ⟨n, hn'⟩ _ h).symm

/-! ## The body obligation -/

/-- What the residual sum's buffer may be left at. -/
theorem leaves_out (c : Dev nD) (t : Fin cfg0.N) (d) :
    owns (c : Thread nD τ) (ms5 t) fullShare (if t.val % 4 = 3 then (left m c t).out else (dats m 0 c).before 5 t d)
      ⊢ (dats m 0 c).leavesExact 5 t := by
  have hi := idle5 t
  by_cases h : t.val % 4 = 3
  · rw [if_pos h]
    rw [show (!decide (t.val % 4 = 3)) = false from by simp [h]] at hi
    unfold Dat.leavesExact; rw [hi]
    exact Idealize.SL.BI.Entails.refl _
  · rw [if_neg h]
    rw [show (!decide (t.val % 4 = 3)) = true from by simp [h]] at hi
    rw [Dat.leavesExact_idle (dats m 0 c) 5 t hi (Bool.eq_false_iff.mpr fun hf => h ((flush0_5 t).mp hf))]
    iintro H; iexists _; iexact H

/-- What the normalized rows' buffer may be left at. -/
theorem leaves_rows (c : Dev nD) (t : Fin cfg0.N) :
    owns (c : Thread nD τ) (ms6 t) fullShare (left m c t).h ⊢ (dats m 0 c).leavesExact 6 t := by
  have hi := idle6 t
  by_cases h : t.val % 4 = 0
  · rw [show (!decide (t.val % 4 = 0)) = false from by simp [h]] at hi
    unfold Dat.leavesExact; rw [hi]
    exact Idealize.SL.BI.Entails.refl _
  · rw [show (!decide (t.val % 4 = 0)) = true from by simp [h]] at hi
    by_cases hf : (cfg0.win 6).flush t = true
    · unfold Dat.leavesExact; rw [hi, hf]
      exact Idealize.SL.BI.Entails.refl _
    · rw [Dat.leavesExact_idle (dats m 0 c) 6 t hi (Bool.eq_false_iff.mpr hf)]
      rw [show (left m c t).h = (dats m 0 c).before 6 t (leftBefore m c t.val (Nat.le_of_lt t.isLt)).h from
        (leaveAt_h m c t _ h).trans (before_rows m c t.val t.isLt h _).symm]
      iintro H; iexists _; iexact H

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t ∗ (dats m 0 c).leavesExact 7 t ∗ (dats m 0 c).leavesExact 8 t)

/-- What the body finds the accumulator and the register at: after the first point the accumulator holds what the
    point before left. -/
theorem Phi_found (c : Dev nD) (t : Fin cfg0.N) : (dats m 0 c).Φ t.castSucc ⊢
    iprop(∃ a, ⌜¬t.val % 4 = 0 → a = (leftBefore m c t.val (Nat.le_of_lt t.isLt)).acc⌝
      ∗ owns (c : Thread nD τ) msA fullShare a ∗ (∃ r, prngReg c r)) := by
  rw [show (dats m 0 c).Φ t.castSucc = PhiS m c t.val (Nat.le_of_lt t.isLt) from by
    dsimp only [dats]; exact Pipeline.Dat.Φ_castSucc (PhiS m c) t]
  by_cases hz : t.val = 0
  · rw [show PhiS m c t.val (Nat.le_of_lt t.isLt) = Pipeline.ΦA spec0 c from by
      obtain ⟨n, hn⟩ := t; subst hz; rfl, PhiA_eq]
    iintro ⟨⟨%a, HA⟩, Hg⟩
    iexists a; isplitr
    · ipureintro; intro h; omega
    isplitl [HA]; · iexact HA
    iexact Hg
  · rw [PhiS_pos m c _ _ hz]
    iintro ⟨HA, Hg⟩
    iexists _; isplitr
    · ipureintro; intro _; rfl
    isplitl [HA]; · iexact HA
    iexact Hg

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  obtain ⟨b0, b1, b2, b3, b4⟩ := before_input m c t
  simp only [b0, b1, b2, b3, b4]
  rw [show (dats m 0 c).owesAt () t.succ = (dats m 0 c).owesAt () t.castSucc from rfl]
  rw [show (dats m 0 c).Φ t.succ = iprop(iprop(owns (c : Thread nD τ) msA fullShare (left m c t).acc) ∗ (∃ r, prngReg c r)) from rfl]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  ihave HP := (Phi_found m c t) $$ HP
  icases HP with ⟨%a, %ha, HA, Hg⟩
  iapply (body m c t (leftBefore m c t.val (Nat.le_of_lt t.isLt)) ((dats m 0 c).before 5 t d5) ((dats m 0 c).before 6 t d6) a
    (fun h => ⟨before_rows m c t.val t.isLt h d6, ha h⟩) _)
  isplitl [H0 H1 H2 H3 H4]
  · isplitl [H0]; · iexact H0
    isplitl [H1]; · iexact H1
    isplitl [H2]; · iexact H2
    isplitl [H3]; · iexact H3
    iexact H4
  isplitl [H5]; · iexact H5
  isplitl [H6]; · iexact H6
  isplitl [H7]; · iexists _; iexact H7
  isplitl [H8]; · iexists _; iexact H8
  isplitl [HA]; · iexact HA
  iintro ⟨⟨H0, H1, H2, H3, H4⟩, H5, H6, H7, H8, HA⟩
  isplitl [HA Hg]
  · isplitl [HA]; · iexact HA
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iapply (leaves_out m c t d5); iexact H5
  isplitl [H6]; · iapply (leaves_rows m c t); iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := Idealize.SL.BI.Entails.refl _

/-- After the last point the accumulator's contents are forgotten. -/
theorem hout (c : Dev nD) : (dats m 0 c).Φ (Fin.last cfg0.N) ⊢ Pipeline.ΦA spec0 c := by
  rw [show (dats m 0 c).Φ (Fin.last cfg0.N) = PhiS m c cfg0.N (Nat.le_refl _) from rfl,
    PhiS_pos m c _ _ (by have : cfg0.N = 64 := N_0; omega), PhiA_eq]
  iintro ⟨HA, Hg⟩
  isplitl [HA]
  · iexists _; iexact HA
  iexact Hg

/-! ## The run and the frame -/

set_option backward.isDefEq.respectTransparency.types false in
/-- Every run ends with the arrays at what the pipeline writes back and every semaphore at zero. -/
theorem run_quiescent : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The four results are the pipeline's arrays, the arguments are unchanged and every semaphore is at zero. -/
theorem run : θ_run defs (onTc (τ := τ) (main (F := F))) ⟨m, fun _ => 0, ρ⟩ (fun r => (∀ c : Dev nD,
      r.2.mem ((c : Thread nD τ).loc main_v5_0) = (dats m 0 c).arrAt 5 cfg0.N
      ∧ r.2.mem ((c : Thread nD τ).loc main_v5_1) = (dats m 0 c).arrAt 6 cfg0.N
      ∧ r.2.mem ((c : Thread nD τ).loc main_v5_2) = (dats m 0 c).arrAt 7 cfg0.N
      ∧ r.2.mem ((c : Thread nD τ).loc main_v5_3) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono (fun _ h => ⟨fun c => ⟨(h.1 c).1 5, (h.1 c).1 6, (h.1 c).1 7, (h.1 c).1 8,
      ((h.1 c).1 0).trans (((dats m 0 c).arrAt_in 0 rfl _).trans ((A_eq m c 0).trans (V_args m c).1)),
      ((h.1 c).2 main_arg1 (Pipeline.mem_restRefs_of main_arg1 (by decide) (by decide))).trans (V_args m c).2.1,
      ((h.1 c).2 main_arg2 (Pipeline.mem_restRefs_of main_arg2 (by decide) (by decide))).trans (V_args m c).2.2.1,
      ((h.1 c).2 main_arg3 (Pipeline.mem_restRefs_of main_arg3 (by decide) (by decide))).trans (V_args m c).2.2.2⟩, h.2⟩)
    (run_quiescent m ρ)

/-- The frame: every run ends, the arguments unchanged, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).2.2.2.2, h.2⟩) (run m ρ)

end Cert.Kernel11Ideal.Fwd

end
-- ==== Proof.Fwd.Read.lean ====
/-
  What the blocks of the forward feed-forward call hold, in terms of its arguments.
-/
module

public import proofs.«01_k».proof.Proof.Fwd.Kit
public import Idealize.ShloMosaic.Lib.Pointwise
public import Idealize.ShloMosaic.Lib.Pipeline.ValueKit

@[expose] public section
set_option maxRecDepth 16384
noncomputable section

namespace Cert.Kernel11Ideal.Fwd
open Cert.Kernel11Ideal Cert.Kernel11Ideal.Gen Idealize.ShloMosaic Idealize.ShloMosaic.TcCoe Idealize.ShloMosaic.StableHlo Idealize.SL.Sem

variable (m : (ℓ : Loc nD τ sig) → Buf (Elt Ideal) ℓ) (c : Dev nD)

/-- The tokens, their scale and the two weights. -/
abbrev aX : Vec Ideal S16384x1024 .f32 := m ((c : Thread nD τ).loc main_arg0)
abbrev aLn : Vec Ideal S1024 .f32 := m ((c : Thread nD τ).loc main_arg1)
abbrev aW : Vec Ideal S1024x5632 .bf16 := m ((c : Thread nD τ).loc main_arg2)
abbrev aWd : Vec Ideal S2816x1024 .bf16 := m ((c : Thread nD τ).loc main_arg3)

/-- Token `p` of block `n`. -/
def tok (n : Fin 16) (p : Fin 1024) : Fin 16384 := ⟨n.val * 1024 + p.val, by omega⟩

/-- Column `f` of part `n`. -/
def col (n : Fin 8) (f : Fin 704) : Fin 5632 := ⟨n.val * 704 + f.val, by omega⟩

/-- Gate parts are the first four, up parts the last four. -/
def part (i : Fin 2) (j : Fin 4) : Fin 8 := ⟨4 * i.val + j.val, by omega⟩

/-- Row `f` of part `j` of the down weight. -/
def down (j : Fin 4) (f : Fin 704) : Fin 2816 := ⟨j.val * 704 + f.val, by omega⟩

theorem index_row (t : Fin cfg0.N) : win0_0.index t = ![t.val / 4, 0] ∧ win0_1.index t = ![0, 0]
    ∧ win0_2.index t = ![t.val % 4, 0, 0, 0] ∧ win0_3.index t = ![t.val % 4 + 4, 0, 0, 0] ∧ win0_4.index t = ![t.val % 4, 0, 0, 0]
    ∧ win0_5.index t = ![t.val / 4, 0] ∧ win0_6.index t = ![t.val / 4, 0] ∧ win0_7.index t = ![0, t.val % 4, t.val / 4, 0]
    ∧ win0_8.index t = ![t.val % 4, t.val / 4, 0] :=
  (by decide +kernel : ∀ t : Fin grid0.N, win0_0.index t = ![t.val / 4, 0] ∧ win0_1.index t = ![0, 0]
    ∧ win0_2.index t = ![t.val % 4, 0, 0, 0] ∧ win0_3.index t = ![t.val % 4 + 4, 0, 0, 0] ∧ win0_4.index t = ![t.val % 4, 0, 0, 0]
    ∧ win0_5.index t = ![t.val / 4, 0] ∧ win0_6.index t = ![t.val / 4, 0] ∧ win0_7.index t = ![0, t.val % 4, t.val / 4, 0]
    ∧ win0_8.index t = ![t.val % 4, t.val / 4, 0]) t

theorem weights_apply (n : Fin 8) (k : Fin 1024) (f : Fin 704) :
    (V m c main_v2 : Vec Ideal S8x1x1024x704 .bf16) (ix4 n (0 : Fin 1) k f) = aW m c (ix2 k (col n f)) := by
  unfold V
  unfold_abbrev_sides
  after_results
  show broadcastInDim S8x1x1024x704 ![0, 2, 3] bcast_S8x1024x704_S8x1x1024x704_0_2_3
    (transpose S8x1024x704 [1, 0, 2] (shapeCast S1024x8x704 (m ((c : Thread nD τ).loc main_arg2) : Vec Ideal S1024x5632 .bf16)
    shapeCasts_S1024x5632_S1024x8x704) transposes_S1024x8x704_S8x1024x704_1_0_2) (ix4 n (0 : Fin 1) k f) = _
  unfold col
  pointwise []

theorem down_apply (n : Fin 8) (r : Fin 352) (k : Fin 1024) :
    (V m c main_v3 : Vec Ideal S8x1x352x1024 .bf16) (ix4 n (0 : Fin 1) r k) = aWd m c (ix2 ⟨n.val * 352 + r.val, by omega⟩ k) := by
  unfold V
  unfold_abbrev_sides
  after_results
  show shapeCast S8x1x352x1024 (m ((c : Thread nD τ).loc main_arg3) : Vec Ideal S2816x1024 .bf16)
    shapeCasts_S2816x1024_S8x1x352x1024 (ix4 n (0 : Fin 1) r k) = _
  exact shapeCast_apply (s := S2816x1024) (t := S8x1x352x1024) _ _ _ _ (by
    rw [Shape.rowMajor_val_four, Shape.rowMajor_val_two]
    show (n.val * 352 + r.val) * 1024 + k.val = ((n.val * 1 + 0) * 352 + r.val) * 1024 + k.val
    omega)

theorem scale_apply (k : Fin 1024) :
    (V m c main_v4 : Vec Ideal S1x1024 .f32) (ix2 (0 : Fin 1) k) = aLn m c (ix1 k) := by
  unfold V
  unfold_abbrev_sides
  after_results
  show shapeCast S1x1024 (m ((c : Thread nD τ).loc main_arg1) : Vec Ideal S1024 .f32)
    shapeCasts_S1024_S1x1024 (ix2 (0 : Fin 1) k) = _
  pointwise []

/-! ## The blocks -/

theorem hN (t : Fin cfg0.N) : t.val < 64 := lt_of_lt_of_eq t.isLt (show cfg0.N = 64 from N_0)

/-- The block of tokens of a grid point. -/
def bi (t : Fin cfg0.N) : Fin 16 := ⟨t.val / 4, by have := hN t; omega⟩

/-- The block of columns of a grid point. -/
def bj (t : Fin cfg0.N) : Fin 4 := ⟨t.val % 4, by omega⟩

theorem iblk0 (t : Fin cfg0.N) (p : Fin 1024) (k : Fin 1024) :
    (iblk m c 0 t : Vec Ideal S1024x1024 .f32) (ix2 p k) = aX m c (ix2 (tok (bi t) p) k) := by
  have hi := (index_row t).1
  unfold iblk
  rw [View.read_apply]
  show V m c main_arg0 _ = _
  rw [(V_args m c).1]
  congr 1
  funext a
  apply Fin.ext
  match a with
  | ⟨0, _⟩ => show win0_0.index t 0 * 1024 + 1 * p.val = t.val / 4 * 1024 + p.val; rw [hi]; simp
  | ⟨1, _⟩ => show win0_0.index t 1 * 1024 + 1 * k.val = k.val; rw [hi]; simp

theorem iblk1 (t : Fin cfg0.N) (k : Fin 1024) :
    (iblk m c 1 t : Vec Ideal S1x1024 .f32) (ix2 (0 : Fin 1) k) = aLn m c (ix1 k) := by
  have hi := (index_row t).2.1
  have e : ((cfg0.win 1).blk t).view.emb (ix2 (0 : Fin 1) k) = ix2 (0 : Fin 1) k := by
    funext a
    apply Fin.ext
    match a with
    | ⟨0, _⟩ => show win0_1.index t 0 * 1 + 1 * 0 = 0; rw [hi]; simp
    | ⟨1, _⟩ => show win0_1.index t 1 * 1024 + 1 * k.val = k.val; rw [hi]; simp
  unfold iblk
  rw [View.read_apply]
  show V m c main_v4 _ = _
  rw [e, scale_apply]

theorem iblk2 (t : Fin cfg0.N) (k : Fin 1024) (f : Fin 704) :
    (iblk m c 2 t : Vec Ideal S1x1x1024x704 .bf16) (ix4 (0 : Fin 1) (0 : Fin 1) k f) = aW m c (ix2 k (col (part 0 (bj t)) f)) := by
  have hi := (index_row t).2.2.1
  have e : ((cfg0.win 2).blk t).view.emb (ix4 (0 : Fin 1) (0 : Fin 1) k f) = ix4 (part 0 (bj t)) (0 : Fin 1) k f := by
    funext a
    apply Fin.ext
    match a with
    | ⟨0, _⟩ => show win0_2.index t 0 * 1 + 1 * 0 = 4 * 0 + t.val % 4; rw [hi]; simp
    | ⟨1, _⟩ => show win0_2.index t 1 * 1 + 1 * 0 = 0; rw [hi]; simp
    | ⟨2, _⟩ => show win0_2.index t 2 * 1024 + 1 * k.val = k.val; rw [hi]; simp
    | ⟨3, _⟩ => show win0_2.index t 3 * 704 + 1 * f.val = f.val; rw [hi]; simp
  unfold iblk
  rw [View.read_apply]
  show V m c main_v2 _ = _
  rw [e, weights_apply]

theorem iblk3 (t : Fin cfg0.N) (k : Fin 1024) (f : Fin 704) :
    (iblk m c 3 t : Vec Ideal S1x1x1024x704 .bf16) (ix4 (0 : Fin 1) (0 : Fin 1) k f) = aW m c (ix2 k (col (part 1 (bj t)) f)) := by
  have hi := (index_row t).2.2.2.1
  have e : ((cfg0.win 3).blk t).view.emb (ix4 (0 : Fin 1) (0 : Fin 1) k f) = ix4 (part 1 (bj t)) (0 : Fin 1) k f := by
    funext a
    apply Fin.ext
    match a with
    | ⟨0, _⟩ => show win0_3.index t 0 * 1 + 1 * 0 = 4 * 1 + t.val % 4; rw [hi]; simp; omega
    | ⟨1, _⟩ => show win0_3.index t 1 * 1 + 1 * 0 = 0; rw [hi]; simp
    | ⟨2, _⟩ => show win0_3.index t 2 * 1024 + 1 * k.val = k.val; rw [hi]; simp
    | ⟨3, _⟩ => show win0_3.index t 3 * 704 + 1 * f.val = f.val; rw [hi]; simp
  unfold iblk
  rw [View.read_apply]
  show V m c main_v2 _ = _
  rw [e, weights_apply]

theorem iblk4 (t : Fin cfg0.N) (f : Fin 704) (k : Fin 1024) :
    (iblk m c 4 t : Vec Ideal S2x1x352x1024 .bf16) (ix4 (⟨f.val / 352, by omega⟩ : Fin 2) (0 : Fin 1) (⟨f.val % 352, by omega⟩ : Fin 352) k)
      = aWd m c (ix2 (down (bj t) f) k) := by
  have hi := (index_row t).2.2.2.2.1
  have e : ((cfg0.win 4).blk t).view.emb (ix4 (⟨f.val / 352, by omega⟩ : Fin 2) (0 : Fin 1) (⟨f.val % 352, by omega⟩ : Fin 352) k)
      = ix4 (⟨t.val % 4 * 2 + f.val / 352, by omega⟩ : Fin 8) (0 : Fin 1) (⟨f.val % 352, by omega⟩ : Fin 352) k := by
    funext a
    apply Fin.ext
    match a with
    | ⟨0, _⟩ => show win0_4.index t 0 * 2 + 1 * (f.val / 352) = t.val % 4 * 2 + f.val / 352; rw [hi]; simp
    | ⟨1, _⟩ => show win0_4.index t 1 * 1 + 1 * 0 = 0; rw [hi]; simp
    | ⟨2, _⟩ => show win0_4.index t 2 * 352 + 1 * (f.val % 352) = f.val % 352; rw [hi]; simp
    | ⟨3, _⟩ => show win0_4.index t 3 * 1024 + 1 * k.val = k.val; rw [hi]; simp
  unfold iblk
  rw [View.read_apply]
  show V m c main_v3 _ = _
  rw [e, down_apply]
  refine congrArg _ (congrArg (fun u => ix2 u k) (Fin.ext ?_))
  show (t.val % 4 * 2 + f.val / 352) * 352 + f.val % 352 = t.val % 4 * 704 + f.val
  omega

end Cert.Kernel11Ideal.Fwd
-- ==== Proof.Fwd.Point.lean ====
/-
  What one grid point of the forward feed-forward call computes: four quarters of 256 tokens, each with 704 columns of
  the gate and up parts.
-/
module

public import proofs.«01_k».proof.Proof.Fwd.Read

@[expose] public section
set_option maxRecDepth 16384
noncomputable section

namespace Cert.Kernel11Ideal.Fwd
open Cert.Kernel11Ideal Cert.Kernel11Ideal.Gen Idealize.ShloMosaic Idealize.ShloMosaic.TcCoe Idealize.ShloMosaic.StableHlo Idealize.SL.Sem

/-! ## Quarters of a block -/

/-- A token of a block is in one of the four quarters. -/
theorem quarter_cases (p : Fin 1024) : (∃ r : Fin 256, p = ⟨0 + r.val, by omega⟩) ∨ (∃ r : Fin 256, p = ⟨256 + r.val, by omega⟩)
    ∨ (∃ r : Fin 256, p = ⟨512 + r.val, by omega⟩) ∨ ∃ r : Fin 256, p = ⟨768 + r.val, by omega⟩ := by
  by_cases h : p.val < 256
  · exact .inl ⟨⟨p.val, h⟩, Fin.ext (by simp)⟩
  by_cases h : p.val < 512
  · exact .inr (.inl ⟨⟨p.val - 256, by omega⟩, Fin.ext (by simp; omega)⟩)
  by_cases h : p.val < 768
  · exact .inr (.inr (.inl ⟨⟨p.val - 512, by omega⟩, Fin.ext (by simp; omega)⟩))
  · exact .inr (.inr (.inr ⟨⟨p.val - 768, by omega⟩, Fin.ext (by simp; omega)⟩))

theorem quarter_emb (o : ℕ) (inb : ∀ a, (![o, 0] : Fin 2 → ℕ) a + S256x1024.size a ≤ S1024x1024.size a) (r : Fin 256) (k : Fin 1024)
    (h : o + r.val < 1024) :
    (Rect.unit (s := S1024x1024) ![o, 0] S256x1024.size inb).emb (ix2 r k) = ix2 (⟨o + r.val, h⟩ : Fin 1024) k := by
  funext a
  apply Fin.ext
  match a with
  | ⟨0, _⟩ => show o + 1 * r.val = o + r.val; rw [one_mul]
  | ⟨1, _⟩ => show 0 + 1 * k.val = k.val; omega

theorem canon_hit {e : EltTy} (o : ℕ) (inb : ∀ a, (![o, 0] : Fin 2 → ℕ) a + S256x1024.size a ≤ S1024x1024.size a)
    (w : S256x1024.Idx → Elt Ideal e) (L : List (View.Piece (Elt Ideal) S1024x1024 e)) (r : Fin 256) (k : Fin 1024) (h : o + r.val < 1024) :
    View.canon ((⟨Rect.unit (s := S1024x1024) ![o, 0] S256x1024.size inb, w⟩ : View.Piece (Elt Ideal) S1024x1024 e) :: L) (ix2 (⟨o + r.val, h⟩ : Fin 1024) k) = w (ix2 r k) := by
  exact (congrArg _ (quarter_emb o inb r k h).symm).trans (View.canon_cons_emb (Rect.unit (s := S1024x1024) ![o, 0] S256x1024.size inb) w L (ix2 r k))

theorem canon_miss {e : EltTy} (o : ℕ) (inb : ∀ a, (![o, 0] : Fin 2 → ℕ) a + S256x1024.size a ≤ S1024x1024.size a)
    (w : S256x1024.Idx → Elt Ideal e) (L : List (View.Piece (Elt Ideal) S1024x1024 e)) (p : Fin 1024) (k : Fin 1024) (h : p.val < o ∨ o + 256 ≤ p.val) :
    View.canon ((⟨Rect.unit (s := S1024x1024) ![o, 0] S256x1024.size inb, w⟩ : View.Piece (Elt Ideal) S1024x1024 e) :: L) (ix2 p k) = View.canon L (ix2 p k) := by
  refine View.canon_cons_of_not_mem _ L fun hm => ?_
  have h0 : o ≤ p.val ∧ p.val < o + 256 := (Rect.mem_set_unit (inb := inb)).mp hm 0
  omega

theorem ld_quarter {e : EltTy} (o : ℕ) (inb : ∀ a, (![o, 0] : Fin 2 → ℕ) a + S256x1024.size a ≤ S1024x1024.size a) (X : S1024x1024.Idx → Elt Ideal e)
    (r : Fin 256) (k : Fin 1024) (h : o + r.val < 1024) :
    View.ld X (Rect.unit (s := S1024x1024) ![o, 0] S256x1024.size inb) (ix2 r k) = X (ix2 (⟨o + r.val, h⟩ : Fin 1024) k) :=
  congrArg X (quarter_emb o inb r k h)

/-- A quarter read from a list of pieces. -/
theorem read_quarter {e : EltTy} {κ : _} {sp : _} (v : View sig κ sp S1024x1024 e) (o : ℕ) (inb : ∀ a, (![o, 0] : Fin 2 → ℕ) a + S256x1024.size a ≤ S1024x1024.size a)
    (L : List (View.Piece (Elt Ideal) S1024x1024 e)) (r : Fin 256) (k : Fin 1024) (h : o + r.val < 1024) :
    v.readCov L (Rect.unit (s := S1024x1024) ![o, 0] S256x1024.size inb).toLoadRect (ix2 r k) = View.canon L (ix2 (⟨o + r.val, h⟩ : Fin 1024) k) := by
  rw [View.readCov_eq_canon']
  exact congrArg (View.canon L) (quarter_emb o inb r k h)

/-- A whole block read from a list of pieces. -/
theorem read_whole {e : EltTy} {κ : _} {sp : _} (v : View sig κ sp S1024x1024 e) (inb : ∀ a, (![0, 0] : Fin 2 → ℕ) a + S1024x1024.size a ≤ S1024x1024.size a)
    (L : List (View.Piece (Elt Ideal) S1024x1024 e)) (p k : Fin 1024) :
    v.readCov L (Rect.unit (s := S1024x1024) ![0, 0] S1024x1024.size inb).toLoadRect (ix2 p k) = View.canon L (ix2 p k) := by
  rw [View.readCov_eq_canon']
  refine congrArg (View.canon L) ?_
  funext a
  apply Fin.ext
  match a with
  | ⟨0, _⟩ => show 0 + 1 * p.val = p.val; omega
  | ⟨1, _⟩ => show 0 + 1 * k.val = k.val; omega

/-- Four quarters that are each a part of one block are that block. -/
theorem canon_quarters {e : EltTy} (G : Fin 1024 → Fin 1024 → Elt Ideal e) (w0 w1 w2 w3 : S256x1024.Idx → Elt Ideal e)
    (L : List (View.Piece (Elt Ideal) S1024x1024 e))
    (h0 : ∀ (r : Fin 256) k, w0 (ix2 r k) = G ⟨0 + r.val, by omega⟩ k) (h1 : ∀ (r : Fin 256) k, w1 (ix2 r k) = G ⟨256 + r.val, by omega⟩ k)
    (h2 : ∀ (r : Fin 256) k, w2 (ix2 r k) = G ⟨512 + r.val, by omega⟩ k) (h3 : ∀ (r : Fin 256) k, w3 (ix2 r k) = G ⟨768 + r.val, by omega⟩ k)
    (p k : Fin 1024) :
    View.canon ((⟨Rect.unit (s := S1024x1024) ![768, 0] S256x1024.size inb_S1024x1024_S256x1024_768_0, w3⟩ : View.Piece (Elt Ideal) S1024x1024 e)
      :: (⟨Rect.unit (s := S1024x1024) ![512, 0] S256x1024.size inb_S1024x1024_S256x1024_512_0, w2⟩ : View.Piece (Elt Ideal) S1024x1024 e)
      :: (⟨Rect.unit (s := S1024x1024) ![256, 0] S256x1024.size inb_S1024x1024_S256x1024_256_0, w1⟩ : View.Piece (Elt Ideal) S1024x1024 e)
      :: (⟨Rect.unit (s := S1024x1024) ![0, 0] S256x1024.size inb_S1024x1024_S256x1024_0_0, w0⟩ : View.Piece (Elt Ideal) S1024x1024 e) :: L) (ix2 p k) = G p k := by
  rcases quarter_cases p with ⟨r, rfl⟩ | ⟨r, rfl⟩ | ⟨r, rfl⟩ | ⟨r, rfl⟩
  · rw [canon_miss _ _ _ _ _ _ (.inl (by show 0 + r.val < 768; omega)), canon_miss _ _ _ _ _ _ (.inl (by show 0 + r.val < 512; omega)),
      canon_miss _ _ _ _ _ _ (.inl (by show 0 + r.val < 256; omega)), canon_hit, h0]
  · rw [canon_miss _ _ _ _ _ _ (.inl (by show 256 + r.val < 768; omega)), canon_miss _ _ _ _ _ _ (.inl (by show 256 + r.val < 512; omega)), canon_hit, h1]
  · rw [canon_miss _ _ _ _ _ _ (.inl (by show 512 + r.val < 768; omega)), canon_hit, h2]
  · rw [canon_hit, h3]

/-! ## Quarters of the projections' tiles -/

theorem tile_emb (n o : ℕ) (inb : ∀ a, (![n, 0, o, 0] : Fin 4 → ℕ) a + S1x1x256x704.size a ≤ S2x1x1024x704.size a) (r : Fin 256) (f : Fin 704)
    (hn : n < 2) (h : o + r.val < 1024) :
    (Rect.unit (s := S2x1x1024x704) ![n, 0, o, 0] S1x1x256x704.size inb).emb (ix4 (0 : Fin 1) (0 : Fin 1) r f)
      = ix4 (⟨n, hn⟩ : Fin 2) (0 : Fin 1) (⟨o + r.val, h⟩ : Fin 1024) f := by
  funext a
  apply Fin.ext
  match a with
  | ⟨0, _⟩ => show n + 1 * 0 = n; rfl
  | ⟨1, _⟩ => rfl
  | ⟨2, _⟩ => show o + 1 * r.val = o + r.val; rw [one_mul]
  | ⟨3, _⟩ => show 0 + 1 * f.val = f.val; omega

theorem tile_hit (n o : ℕ) (inb : ∀ a, (![n, 0, o, 0] : Fin 4 → ℕ) a + S1x1x256x704.size a ≤ S2x1x1024x704.size a)
    (w : S1x1x256x704.Idx → Elt Ideal .bf16) (L : List (View.Piece (Elt Ideal) S2x1x1024x704 .bf16)) (r : Fin 256) (f : Fin 704) (hn : n < 2) (h : o + r.val < 1024) :
    View.canon ((⟨Rect.unit (s := S2x1x1024x704) ![n, 0, o, 0] S1x1x256x704.size inb, w⟩ : View.Piece (Elt Ideal) S2x1x1024x704 .bf16) :: L)
      (ix4 (⟨n, hn⟩ : Fin 2) (0 : Fin 1) (⟨o + r.val, h⟩ : Fin 1024) f) = w (ix4 (0 : Fin 1) (0 : Fin 1) r f) := by
  exact (congrArg (View.canon _) (tile_emb n o inb r f hn h).symm).trans
    (View.canon_cons_emb (Rect.unit (s := S2x1x1024x704) ![n, 0, o, 0] S1x1x256x704.size inb) w L (ix4 (0 : Fin 1) (0 : Fin 1) r f))

theorem tile_miss (n o : ℕ) (inb : ∀ a, (![n, 0, o, 0] : Fin 4 → ℕ) a + S1x1x256x704.size a ≤ S2x1x1024x704.size a)
    (w : S1x1x256x704.Idx → Elt Ideal .bf16) (L : List (View.Piece (Elt Ideal) S2x1x1024x704 .bf16)) (i : Fin 2) (p : Fin 1024) (f : Fin 704)
    (h : i.val ≠ n ∨ p.val < o ∨ o + 256 ≤ p.val) :
    View.canon ((⟨Rect.unit (s := S2x1x1024x704) ![n, 0, o, 0] S1x1x256x704.size inb, w⟩ : View.Piece (Elt Ideal) S2x1x1024x704 .bf16) :: L)
      (ix4 i (0 : Fin 1) p f) = View.canon L (ix4 i (0 : Fin 1) p f) := by
  refine View.canon_cons_of_not_mem _ L fun hm => ?_
  have h0 : n ≤ i.val ∧ i.val < n + 1 := (Rect.mem_set_unit (inb := inb)).mp hm 0
  have h2 : o ≤ p.val ∧ p.val < o + 256 := (Rect.mem_set_unit (inb := inb)).mp hm 2
  omega

/-- A piece of the projections' tiles: part `n`, from row `o` on. -/
abbrev tile (n o : ℕ) (inb : ∀ a, (![n, 0, o, 0] : Fin 4 → ℕ) a + S1x1x256x704.size a ≤ S2x1x1024x704.size a)
    (w : S1x1x256x704.Idx → Elt Ideal .bf16) : View.Piece (Elt Ideal) S2x1x1024x704 .bf16 :=
  ⟨Rect.unit (s := S2x1x1024x704) ![n, 0, o, 0] S1x1x256x704.size inb, w⟩

/-- Eight quarters, of the gate and of the up part, that are each a part of one block are that block. -/
theorem canon_tiles (G : Fin 2 → Fin 1024 → Fin 704 → EReal) (w0 w1 w2 w3 u0 u1 u2 u3 : S1x1x256x704.Idx → Elt Ideal .bf16)
    (h0 : ∀ (r : Fin 256) k, w0 (ix4 (0 : Fin 1) (0 : Fin 1) r k) = G 0 ⟨0 + r.val, by omega⟩ k) (g0 : ∀ (r : Fin 256) k, u0 (ix4 (0 : Fin 1) (0 : Fin 1) r k) = G 1 ⟨0 + r.val, by omega⟩ k)
    (h1 : ∀ (r : Fin 256) k, w1 (ix4 (0 : Fin 1) (0 : Fin 1) r k) = G 0 ⟨256 + r.val, by omega⟩ k) (g1 : ∀ (r : Fin 256) k, u1 (ix4 (0 : Fin 1) (0 : Fin 1) r k) = G 1 ⟨256 + r.val, by omega⟩ k)
    (h2 : ∀ (r : Fin 256) k, w2 (ix4 (0 : Fin 1) (0 : Fin 1) r k) = G 0 ⟨512 + r.val, by omega⟩ k) (g2 : ∀ (r : Fin 256) k, u2 (ix4 (0 : Fin 1) (0 : Fin 1) r k) = G 1 ⟨512 + r.val, by omega⟩ k)
    (h3 : ∀ (r : Fin 256) k, w3 (ix4 (0 : Fin 1) (0 : Fin 1) r k) = G 0 ⟨768 + r.val, by omega⟩ k) (g3 : ∀ (r : Fin 256) k, u3 (ix4 (0 : Fin 1) (0 : Fin 1) r k) = G 1 ⟨768 + r.val, by omega⟩ k)
    (i : Fin 2) (p : Fin 1024) (f : Fin 704) :
    View.canon [tile 1 768 inb_S2x1x1024x704_S1x1x256x704_1_0_768_0 u3, tile 0 768 inb_S2x1x1024x704_S1x1x256x704_0_0_768_0 w3,
      tile 1 512 inb_S2x1x1024x704_S1x1x256x704_1_0_512_0 u2, tile 0 512 inb_S2x1x1024x704_S1x1x256x704_0_0_512_0 w2,
      tile 1 256 inb_S2x1x1024x704_S1x1x256x704_1_0_256_0 u1, tile 0 256 inb_S2x1x1024x704_S1x1x256x704_0_0_256_0 w1,
      tile 1 0 inb_S2x1x1024x704_S1x1x256x704_1_0_0_0 u0, tile 0 0 inb_S2x1x1024x704_S1x1x256x704_0_0_0_0 w0] (ix4 i (0 : Fin 1) p f) = G i p f := by
  obtain rfl | rfl : i = 0 ∨ i = 1 := by omega
  · rcases quarter_cases p with ⟨r, rfl⟩ | ⟨r, rfl⟩ | ⟨r, rfl⟩ | ⟨r, rfl⟩
    · rw [tile_miss _ _ _ _ _ _ _ _ (.inl (by decide)), tile_miss _ _ _ _ _ _ _ _ (.inr (.inl (by show 0 + r.val < 768; omega))),
        tile_miss _ _ _ _ _ _ _ _ (.inl (by decide)), tile_miss _ _ _ _ _ _ _ _ (.inr (.inl (by show 0 + r.val < 512; omega))),
        tile_miss _ _ _ _ _ _ _ _ (.inl (by decide)), tile_miss _ _ _ _ _ _ _ _ (.inr (.inl (by show 0 + r.val < 256; omega))),
        tile_miss _ _ _ _ _ _ _ _ (.inl (by decide))]
      exact (tile_hit 0 0 _ _ _ r f (by omega) (by omega)).trans (h0 r f)
    · rw [tile_miss _ _ _ _ _ _ _ _ (.inl (by decide)), tile_miss _ _ _ _ _ _ _ _ (.inr (.inl (by show 256 + r.val < 768; omega))),
        tile_miss _ _ _ _ _ _ _ _ (.inl (by decide)), tile_miss _ _ _ _ _ _ _ _ (.inr (.inl (by show 256 + r.val < 512; omega))),
        tile_miss _ _ _ _ _ _ _ _ (.inl (by decide))]
      exact (tile_hit 0 256 _ _ _ r f (by omega) (by omega)).trans (h1 r f)
    · rw [tile_miss _ _ _ _ _ _ _ _ (.inl (by decide)), tile_miss _ _ _ _ _ _ _ _ (.inr (.inl (by show 512 + r.val < 768; omega))),
        tile_miss _ _ _ _ _ _ _ _ (.inl (by decide))]
      exact (tile_hit 0 512 _ _ _ r f (by omega) (by omega)).trans (h2 r f)
    · rw [tile_miss _ _ _ _ _ _ _ _ (.inl (by decide))]
      exact (tile_hit 0 768 _ _ _ r f (by omega) (by omega)).trans (h3 r f)
  · rcases quarter_cases p with ⟨r, rfl⟩ | ⟨r, rfl⟩ | ⟨r, rfl⟩ | ⟨r, rfl⟩
    · rw [tile_miss _ _ _ _ _ _ _ _ (.inr (.inl (by show 0 + r.val < 768; omega))), tile_miss _ _ _ _ _ _ _ _ (.inl (by decide)),
        tile_miss _ _ _ _ _ _ _ _ (.inr (.inl (by show 0 + r.val < 512; omega))), tile_miss _ _ _ _ _ _ _ _ (.inl (by decide)),
        tile_miss _ _ _ _ _ _ _ _ (.inr (.inl (by show 0 + r.val < 256; omega))), tile_miss _ _ _ _ _ _ _ _ (.inl (by decide))]
      exact (tile_hit 1 0 _ _ _ r f (by omega) (by omega)).trans (g0 r f)
    · rw [tile_miss _ _ _ _ _ _ _ _ (.inr (.inl (by show 256 + r.val < 768; omega))), tile_miss _ _ _ _ _ _ _ _ (.inl (by decide)),
        tile_miss _ _ _ _ _ _ _ _ (.inr (.inl (by show 256 + r.val < 512; omega))), tile_miss _ _ _ _ _ _ _ _ (.inl (by decide))]
      exact (tile_hit 1 256 _ _ _ r f (by omega) (by omega)).trans (g1 r f)
    · rw [tile_miss _ _ _ _ _ _ _ _ (.inr (.inl (by show 512 + r.val < 768; omega))), tile_miss _ _ _ _ _ _ _ _ (.inl (by decide))]
      exact (tile_hit 1 512 _ _ _ r f (by omega) (by omega)).trans (g2 r f)
    · exact (tile_hit 1 768 _ _ _ r f (by omega) (by omega)).trans (g3 r f)

/-! ## Quarters of the gated product's tile -/

theorem act_emb (o : ℕ) (inb : ∀ a, (![0, o, 0] : Fin 3 → ℕ) a + S1x256x704.size a ≤ S1x1024x704.size a) (r : Fin 256) (f : Fin 704)
    (h : o + r.val < 1024) :
    (Rect.unit (s := S1x1024x704) ![0, o, 0] S1x256x704.size inb).emb (ix3 (0 : Fin 1) r f) = ix3 (0 : Fin 1) (⟨o + r.val, h⟩ : Fin 1024) f := by
  funext a
  apply Fin.ext
  match a with
  | ⟨0, _⟩ => rfl
  | ⟨1, _⟩ => show o + 1 * r.val = o + r.val; rw [one_mul]
  | ⟨2, _⟩ => show 0 + 1 * f.val = f.val; omega

theorem act_hit (o : ℕ) (inb : ∀ a, (![0, o, 0] : Fin 3 → ℕ) a + S1x256x704.size a ≤ S1x1024x704.size a)
    (w : S1x256x704.Idx → Elt Ideal .bf16) (L : List (View.Piece (Elt Ideal) S1x1024x704 .bf16)) (r : Fin 256) (f : Fin 704) (h : o + r.val < 1024) :
    View.canon ((⟨Rect.unit (s := S1x1024x704) ![0, o, 0] S1x256x704.size inb, w⟩ : View.Piece (Elt Ideal) S1x1024x704 .bf16) :: L)
      (ix3 (0 : Fin 1) (⟨o + r.val, h⟩ : Fin 1024) f) = w (ix3 (0 : Fin 1) r f) := by
  exact (congrArg (View.canon _) (act_emb o inb r f h).symm).trans
    (View.canon_cons_emb (Rect.unit (s := S1x1024x704) ![0, o, 0] S1x256x704.size inb) w L (ix3 (0 : Fin 1) r f))

theorem act_miss (o : ℕ) (inb : ∀ a, (![0, o, 0] : Fin 3 → ℕ) a + S1x256x704.size a ≤ S1x1024x704.size a)
    (w : S1x256x704.Idx → Elt Ideal .bf16) (L : List (View.Piece (Elt Ideal) S1x1024x704 .bf16)) (p : Fin 1024) (f : Fin 704)
    (h : p.val < o ∨ o + 256 ≤ p.val) :
    View.canon ((⟨Rect.unit (s := S1x1024x704) ![0, o, 0] S1x256x704.size inb, w⟩ : View.Piece (Elt Ideal) S1x1024x704 .bf16) :: L)
      (ix3 (0 : Fin 1) p f) = View.canon L (ix3 (0 : Fin 1) p f) := by
  refine View.canon_cons_of_not_mem _ L fun hm => ?_
  have h2 : o ≤ p.val ∧ p.val < o + 256 := (Rect.mem_set_unit (inb := inb)).mp hm 1
  omega

/-- Four quarters that are each a part of one block are that block. -/
theorem canon_acts (G : Fin 1024 → Fin 704 → EReal) (w0 w1 w2 w3 : S1x256x704.Idx → Elt Ideal .bf16)
    (h0 : ∀ (r : Fin 256) k, w0 (ix3 (0 : Fin 1) r k) = G ⟨0 + r.val, by omega⟩ k) (h1 : ∀ (r : Fin 256) k, w1 (ix3 (0 : Fin 1) r k) = G ⟨256 + r.val, by omega⟩ k)
    (h2 : ∀ (r : Fin 256) k, w2 (ix3 (0 : Fin 1) r k) = G ⟨512 + r.val, by omega⟩ k) (h3 : ∀ (r : Fin 256) k, w3 (ix3 (0 : Fin 1) r k) = G ⟨768 + r.val, by omega⟩ k)
    (p : Fin 1024) (f : Fin 704) :
    View.canon [(⟨Rect.unit (s := S1x1024x704) ![0, 768, 0] S1x256x704.size inb_S1x1024x704_S1x256x704_0_768_0, w3⟩ : View.Piece (Elt Ideal) S1x1024x704 .bf16),
      ⟨Rect.unit (s := S1x1024x704) ![0, 512, 0] S1x256x704.size inb_S1x1024x704_S1x256x704_0_512_0, w2⟩,
      ⟨Rect.unit (s := S1x1024x704) ![0, 256, 0] S1x256x704.size inb_S1x1024x704_S1x256x704_0_256_0, w1⟩,
      ⟨Rect.unit (s := S1x1024x704) ![0, 0, 0] S1x256x704.size inb_S1x1024x704_S1x256x704_0_0_0, w0⟩] (ix3 (0 : Fin 1) p f) = G p f := by
  rcases quarter_cases p with ⟨r, rfl⟩ | ⟨r, rfl⟩ | ⟨r, rfl⟩ | ⟨r, rfl⟩
  · rw [act_miss _ _ _ _ _ _ (.inl (by show 0 + r.val < 768; omega)), act_miss _ _ _ _ _ _ (.inl (by show 0 + r.val < 512; omega)),
      act_miss _ _ _ _ _ _ (.inl (by show 0 + r.val < 256; omega)), act_hit, h0]
  · rw [act_miss _ _ _ _ _ _ (.inl (by show 256 + r.val < 768; omega)), act_miss _ _ _ _ _ _ (.inl (by show 256 + r.val < 512; omega)), act_hit, h1]
  · rw [act_miss _ _ _ _ _ _ (.inl (by show 512 + r.val < 768; omega)), act_hit, h2]
  · rw [act_hit, h3]

/-! ## The payloads -/

/-- The reciprocal root mean square of a row. -/
def rms (x : Fin 1024 → EReal) : EReal :=
  Ideal.rsqrt (Ideal.div (∑ k : Fin 1024, x k * x k) (Ideal.ofBits FTy.f32 1149239296#32) + Ideal.ofBits FTy.f32 897988541#32)

/-- A row divided by its root mean square and scaled. -/
def norm (x ln : Fin 1024 → EReal) (k : Fin 1024) : EReal := x k * rms x * ln k

/-- The logistic function. -/
def sg (g : EReal) : EReal := Ideal.div 1 (1 + Ideal.exp (0 - g))

/-- The gated product. -/
def gate (g u : EReal) : EReal := g * sg g * u

/-- A row of a tile's projection. -/
def prj (h : Fin 1024 → EReal) (w : Vec Ideal S1x1x1024x704 .bf16) (f : Fin 704) : EReal :=
  ∑ k : Fin 1024, h k * w (ix4 (0 : Fin 1) (0 : Fin 1) k f)

/-- A row of the gated product, times the block of the down weight. -/
def gain (a : Fin 704 → EReal) (wd : Vec Ideal S2x1x352x1024 .bf16) (k : Fin 1024) : EReal :=
  ∑ f : Fin 704, a f * wd (ix4 (⟨f.val / 352, by omega⟩ : Fin 2) (0 : Fin 1) (⟨f.val % 352, by omega⟩ : Fin 352) k)

theorem norm_apply (x : Vec Ideal S1024x1024 .f32) (ln : Vec Ideal S1x1024 .f32) (p k : Fin 1024) :
    k0_pay3 (F := Ideal) x ln (ix2 p k) = norm (fun i => x (ix2 p i)) (fun i => ln (ix2 (0 : Fin 1) i)) k := by
  unfold k0_pay3 norm rms
  pointwise []

theorem zero_apply (y : S1024x1024.Idx) : k0_pay4 (F := Ideal) y = 0 := by
  rw [eq_ix2 y]
  unfold k0_pay4
  pointwise []

theorem sum_apply (x a : Vec Ideal S1024x1024 .f32) (y : S1024x1024.Idx) : k0_pay2 (F := Ideal) x a y = x y + a y := by
  rw [eq_ix2 y]
  unfold k0_pay2
  pointwise []

section
variable (H : Vec Ideal S256x1024 .bf16) (wg wu : Vec Ideal S1x1x1024x704 .bf16) (wd : Vec Ideal S2x1x352x1024 .bf16) (a : Vec Ideal S256x1024 .f32)
  (h : Fin 1024 → EReal) (r : Fin 256)
  (e : ∀ k, H (ix2 r k) = h k)
include e

theorem gate_first (f : Fin 704) : k0_pay11 (F := Ideal) (k0_pay6 H wg) (ix4 (0 : Fin 1) (0 : Fin 1) r f) = prj h wg f := by
  obtain rfl : h = fun k => H (ix2 r k) := funext fun k => (e k).symm
  unfold k0_pay11 k0_pay6 prj
  pointwise []

theorem up_first (f : Fin 704) : k0_pay12 (F := Ideal) (k0_pay7 H wu) (ix4 (0 : Fin 1) (0 : Fin 1) r f) = prj h wu f := by
  obtain rfl : h = fun k => H (ix2 r k) := funext fun k => (e k).symm
  unfold k0_pay12 k0_pay7 prj
  pointwise []

theorem act_first (f : Fin 704) : k0_pay14 (F := Ideal) (k0_pay6 H wg) (k0_pay7 H wu) (ix3 (0 : Fin 1) r f) = gate (prj h wg f) (prj h wu f) := by
  obtain rfl : h = fun k => H (ix2 r k) := funext fun k => (e k).symm
  unfold k0_pay14 k0_pay6 k0_pay7 k0_pay13 gate sg prj
  pointwise []

theorem acc_first (k : Fin 1024) : k0_pay15 (F := Ideal) (k0_pay5 wd) (k0_pay6 H wg) (k0_pay7 H wu) a (ix2 r k)
    = a (ix2 r k) + gain (fun f => gate (prj h wg f) (prj h wu f)) wd k := by
  obtain rfl : h = fun k => H (ix2 r k) := funext fun k => (e k).symm
  unfold k0_pay15 k0_pay5 k0_pay6 k0_pay7 k0_pay13 gain gate sg prj
  pointwise []

theorem gate_second (f : Fin 704) : k0_pay19 (F := Ideal) (k0_pay8 H wg) (ix4 (0 : Fin 1) (0 : Fin 1) r f) = prj h wg f := by
  obtain rfl : h = fun k => H (ix2 r k) := funext fun k => (e k).symm
  unfold k0_pay19 k0_pay8 prj
  pointwise []

theorem up_second (f : Fin 704) : k0_pay20 (F := Ideal) (k0_pay10 (k0_pay9 H) wu) (ix4 (0 : Fin 1) (0 : Fin 1) r f) = prj h wu f := by
  obtain rfl : h = fun k => H (ix2 r k) := funext fun k => (e k).symm
  unfold k0_pay20 k0_pay10 k0_pay9 prj
  pointwise []

theorem act_second (f : Fin 704) : k0_pay22 (F := Ideal) (k0_pay8 H wg) (k0_pay10 (k0_pay9 H) wu) (ix3 (0 : Fin 1) r f) = gate (prj h wg f) (prj h wu f) := by
  obtain rfl : h = fun k => H (ix2 r k) := funext fun k => (e k).symm
  unfold k0_pay22 k0_pay8 k0_pay10 k0_pay9 k0_pay21 gate sg prj
  pointwise []

theorem acc_second (k : Fin 1024) : k0_pay24 (F := Ideal) a (k0_pay23 (k0_pay5 wd) (k0_pay8 H wg) (k0_pay10 (k0_pay9 H) wu)) (ix2 r k)
    = a (ix2 r k) + gain (fun f => gate (prj h wg f) (prj h wu f)) wd k := by
  obtain rfl : h = fun k => H (ix2 r k) := funext fun k => (e k).symm
  unfold k0_pay24 k0_pay23 k0_pay5 k0_pay8 k0_pay10 k0_pay9 k0_pay21 gain gate sg prj
  pointwise []

theorem gate_third (f : Fin 704) : k0_pay27 (F := Ideal) (k0_pay17 (k0_pay16 H) wg) (ix4 (0 : Fin 1) (0 : Fin 1) r f) = prj h wg f := by
  obtain rfl : h = fun k => H (ix2 r k) := funext fun k => (e k).symm
  unfold k0_pay27 k0_pay17 k0_pay16 prj
  pointwise []

theorem up_third (f : Fin 704) : k0_pay28 (F := Ideal) (k0_pay18 H wu) (ix4 (0 : Fin 1) (0 : Fin 1) r f) = prj h wu f := by
  obtain rfl : h = fun k => H (ix2 r k) := funext fun k => (e k).symm
  unfold k0_pay28 k0_pay18 prj
  pointwise []

theorem act_third (f : Fin 704) : k0_pay31 (F := Ideal) (k0_pay18 H wu) (k0_pay29 (k0_pay17 (k0_pay16 H) wg)) (ix3 (0 : Fin 1) r f) = gate (prj h wg f) (prj h wu f) := by
  obtain rfl : h = fun k => H (ix2 r k) := funext fun k => (e k).symm
  unfold k0_pay31 k0_pay18 k0_pay29 k0_pay17 k0_pay16 k0_pay30 gate sg prj
  pointwise []

theorem acc_third (k : Fin 1024) : k0_pay32 (F := Ideal) (k0_pay5 wd) (k0_pay18 H wu) (k0_pay29 (k0_pay17 (k0_pay16 H) wg)) a (ix2 r k)
    = a (ix2 r k) + gain (fun f => gate (prj h wg f) (prj h wu f)) wd k := by
  obtain rfl : h = fun k => H (ix2 r k) := funext fun k => (e k).symm
  unfold k0_pay32 k0_pay5 k0_pay18 k0_pay29 k0_pay17 k0_pay16 k0_pay30 gain gate sg prj
  pointwise []

theorem gate_fourth (f : Fin 704) : k0_pay33 (F := Ideal) (k0_pay25 H wg) (ix4 (0 : Fin 1) (0 : Fin 1) r f) = prj h wg f := by
  obtain rfl : h = fun k => H (ix2 r k) := funext fun k => (e k).symm
  unfold k0_pay33 k0_pay25 prj
  pointwise []

theorem up_fourth (f : Fin 704) : k0_pay34 (F := Ideal) (k0_pay26 H wu) (ix4 (0 : Fin 1) (0 : Fin 1) r f) = prj h wu f := by
  obtain rfl : h = fun k => H (ix2 r k) := funext fun k => (e k).symm
  unfold k0_pay34 k0_pay26 prj
  pointwise []

theorem act_fourth (f : Fin 704) : k0_pay36 (F := Ideal) (k0_pay25 H wg) (k0_pay26 H wu) (ix3 (0 : Fin 1) r f) = gate (prj h wg f) (prj h wu f) := by
  obtain rfl : h = fun k => H (ix2 r k) := funext fun k => (e k).symm
  unfold k0_pay36 k0_pay25 k0_pay26 k0_pay35 gate sg prj
  pointwise []

theorem acc_fourth (k : Fin 1024) : k0_pay1 (F := Ideal) (k0_pay5 wd) (k0_pay35 (k0_pay25 H wg) (k0_pay26 H wu)) a (ix2 r k)
    = a (ix2 r k) + gain (fun f => gate (prj h wg f) (prj h wu f)) wd k := by
  obtain rfl : h = fun k => H (ix2 r k) := funext fun k => (e k).symm
  unfold k0_pay1 k0_pay5 k0_pay35 k0_pay25 k0_pay26 gain gate sg prj
  pointwise []

end

end Cert.Kernel11Ideal.Fwd
-- ==== Proof.Fwd.Sum.lean ====
/-
  What the buffers of the forward feed-forward call hold after each grid point.
-/
module

public import proofs.«01_k».proof.Proof.Fwd.Frame
public import proofs.«01_k».proof.Proof.Fwd.Point

@[expose] public section
set_option maxRecDepth 16384
noncomputable section

namespace Cert.Kernel11Ideal.Fwd
open Cert.Kernel11Ideal Cert.Kernel11Ideal.Gen Idealize.ShloMosaic Idealize.ShloMosaic.TcCoe Idealize.ShloMosaic.StableHlo Idealize.SL.Sem

/-! ## The four quarters together -/

section
variable (h : Fin 1024 → Fin 1024 → EReal) (H0 H1 H2 H3 : Vec Ideal S256x1024 .bf16) (wg wu : Vec Ideal S1x1x1024x704 .bf16)
    (e0 : ∀ (r : Fin 256) k, H0 (ix2 r k) = h ⟨0 + r.val, by omega⟩ k)
    (e1 : ∀ (r : Fin 256) k, H1 (ix2 r k) = h ⟨256 + r.val, by omega⟩ k)
    (e2 : ∀ (r : Fin 256) k, H2 (ix2 r k) = h ⟨512 + r.val, by omega⟩ k)
    (e3 : ∀ (r : Fin 256) k, H3 (ix2 r k) = h ⟨768 + r.val, by omega⟩ k)
include e0 e1 e2 e3

/-- The projections that a grid point writes, where `h` are the normalized rows. -/
theorem gu_canon (i : Fin 2) (p : Fin 1024) (f : Fin 704) :
    View.canon [tile 1 768 inb_S2x1x1024x704_S1x1x256x704_1_0_768_0 (k0_pay34 (F := Ideal) (k0_pay26 H3 wu)), tile 0 768 inb_S2x1x1024x704_S1x1x256x704_0_0_768_0 (k0_pay33 (F := Ideal) (k0_pay25 H3 wg)),
      tile 1 512 inb_S2x1x1024x704_S1x1x256x704_1_0_512_0 (k0_pay28 (F := Ideal) (k0_pay18 H2 wu)), tile 0 512 inb_S2x1x1024x704_S1x1x256x704_0_0_512_0 (k0_pay27 (F := Ideal) (k0_pay17 (k0_pay16 H2) wg)),
      tile 1 256 inb_S2x1x1024x704_S1x1x256x704_1_0_256_0 (k0_pay20 (F := Ideal) (k0_pay10 (k0_pay9 H1) wu)), tile 0 256 inb_S2x1x1024x704_S1x1x256x704_0_0_256_0 (k0_pay19 (F := Ideal) (k0_pay8 H1 wg)),
      tile 1 0 inb_S2x1x1024x704_S1x1x256x704_1_0_0_0 (k0_pay12 (F := Ideal) (k0_pay7 H0 wu)), tile 0 0 inb_S2x1x1024x704_S1x1x256x704_0_0_0_0 (k0_pay11 (F := Ideal) (k0_pay6 H0 wg))] (ix4 i (0 : Fin 1) p f)
      = prj (h p) (if i = 0 then wg else wu) f :=
  canon_tiles (fun i p f => prj (h p) (if i = 0 then wg else wu) f) _ _ _ _ _ _ _ _
    (fun r f => gate_first H0 wg _ r (e0 r) f) (fun r f => up_first H0 wu _ r (e0 r) f)
    (fun r f => gate_second H1 wg _ r (e1 r) f) (fun r f => up_second H1 wu _ r (e1 r) f)
    (fun r f => gate_third H2 wg _ r (e2 r) f) (fun r f => up_third H2 wu _ r (e2 r) f)
    (fun r f => gate_fourth H3 wg _ r (e3 r) f) (fun r f => up_fourth H3 wu _ r (e3 r) f) i p f

/-- The gated product that a grid point writes. -/
theorem act_canon (p : Fin 1024) (f : Fin 704) :
    View.canon [(⟨Rect.unit (s := S1x1024x704) ![0, 768, 0] S1x256x704.size inb_S1x1024x704_S1x256x704_0_768_0, k0_pay36 (F := Ideal) (k0_pay25 H3 wg) (k0_pay26 H3 wu)⟩ : View.Piece (Elt Ideal) S1x1024x704 .bf16),
      ⟨Rect.unit (s := S1x1024x704) ![0, 512, 0] S1x256x704.size inb_S1x1024x704_S1x256x704_0_512_0, k0_pay31 (F := Ideal) (k0_pay18 H2 wu) (k0_pay29 (k0_pay17 (k0_pay16 H2) wg))⟩,
      ⟨Rect.unit (s := S1x1024x704) ![0, 256, 0] S1x256x704.size inb_S1x1024x704_S1x256x704_0_256_0, k0_pay22 (F := Ideal) (k0_pay8 H1 wg) (k0_pay10 (k0_pay9 H1) wu)⟩,
      ⟨Rect.unit (s := S1x1024x704) ![0, 0, 0] S1x256x704.size inb_S1x1024x704_S1x256x704_0_0_0, k0_pay14 (F := Ideal) (k0_pay6 H0 wg) (k0_pay7 H0 wu)⟩] (ix3 (0 : Fin 1) p f)
      = gate (prj (h p) wg f) (prj (h p) wu f) :=
  canon_acts (fun p f => gate (prj (h p) wg f) (prj (h p) wu f)) _ _ _ _
    (fun r f => act_first H0 wg wu _ r (e0 r) f) (fun r f => act_second H1 wg wu _ r (e1 r) f)
    (fun r f => act_third H2 wg wu _ r (e2 r) f) (fun r f => act_fourth H3 wg wu _ r (e3 r) f) p f

/-- The accumulator after a grid point, where `a` is what it held before. -/
theorem acc_canon (wd : Vec Ideal S2x1x352x1024 .bf16) (a : Fin 1024 → Fin 1024 → EReal) (a0 a1 a2 a3 : Vec Ideal S256x1024 .f32)
    (b0 : ∀ (r : Fin 256) k, a0 (ix2 r k) = a ⟨0 + r.val, by omega⟩ k)
    (b1 : ∀ (r : Fin 256) k, a1 (ix2 r k) = a ⟨256 + r.val, by omega⟩ k)
    (b2 : ∀ (r : Fin 256) k, a2 (ix2 r k) = a ⟨512 + r.val, by omega⟩ k)
    (b3 : ∀ (r : Fin 256) k, a3 (ix2 r k) = a ⟨768 + r.val, by omega⟩ k)
    (L : List (View.Piece (Elt Ideal) S1024x1024 .f32)) (p k : Fin 1024) :
    View.canon ((⟨Rect.unit (s := S1024x1024) ![768, 0] S256x1024.size inb_S1024x1024_S256x1024_768_0, k0_pay1 (F := Ideal) (k0_pay5 wd) (k0_pay35 (k0_pay25 H3 wg) (k0_pay26 H3 wu)) a3⟩ : View.Piece (Elt Ideal) S1024x1024 .f32)
      :: (⟨Rect.unit (s := S1024x1024) ![512, 0] S256x1024.size inb_S1024x1024_S256x1024_512_0, k0_pay32 (F := Ideal) (k0_pay5 wd) (k0_pay18 H2 wu) (k0_pay29 (k0_pay17 (k0_pay16 H2) wg)) a2⟩ : View.Piece (Elt Ideal) S1024x1024 .f32)
      :: (⟨Rect.unit (s := S1024x1024) ![256, 0] S256x1024.size inb_S1024x1024_S256x1024_256_0, k0_pay24 (F := Ideal) a1 (k0_pay23 (k0_pay5 wd) (k0_pay8 H1 wg) (k0_pay10 (k0_pay9 H1) wu))⟩ : View.Piece (Elt Ideal) S1024x1024 .f32)
      :: (⟨Rect.unit (s := S1024x1024) ![0, 0] S256x1024.size inb_S1024x1024_S256x1024_0_0, k0_pay15 (F := Ideal) (k0_pay5 wd) (k0_pay6 H0 wg) (k0_pay7 H0 wu) a0⟩ : View.Piece (Elt Ideal) S1024x1024 .f32) :: L) (ix2 p k)
      = a p k + gain (fun f => gate (prj (h p) wg f) (prj (h p) wu f)) wd k :=
  canon_quarters (fun p k => a p k + gain (fun f => gate (prj (h p) wg f) (prj (h p) wu f)) wd k) _ _ _ _ L
    (fun r k => (acc_first H0 wg wu wd a0 _ r (e0 r) k).trans (congrArg (fun v : EReal => v + _) (b0 r k)))
    (fun r k => (acc_second H1 wg wu wd a1 _ r (e1 r) k).trans (congrArg (fun v : EReal => v + _) (b1 r k)))
    (fun r k => (acc_third H2 wg wu wd a2 _ r (e2 r) k).trans (congrArg (fun v : EReal => v + _) (b2 r k)))
    (fun r k => (acc_fourth H3 wg wu wd a3 _ r (e3 r) k).trans (congrArg (fun v : EReal => v + _) (b3 r k))) p k

end

/-- The second, third and fourth quarter, read where only quarters above them were changed since the block was filled. -/
theorem read_filled {e : EltTy} {κ : _} {sp : _} (v : View sig κ sp S1024x1024 e) (o : ℕ) (inb : ∀ a, (![o, 0] : Fin 2 → ℕ) a + S256x1024.size a ≤ S1024x1024.size a)
    (inb' : ∀ a, (![0, 0] : Fin 2 → ℕ) a + S1024x1024.size a ≤ S1024x1024.size a)
    (w : S1024x1024.Idx → Elt Ideal e) (r : Fin 256) (k : Fin 1024) (h : o + r.val < 1024) :
    v.readCov [(⟨Rect.unit (s := S1024x1024) ![0, 0] S1024x1024.size inb', w⟩ : View.Piece (Elt Ideal) S1024x1024 e)]
      (Rect.unit (s := S1024x1024) ![o, 0] S256x1024.size inb).toLoadRect (ix2 r k) = w (ix2 (⟨o + r.val, h⟩ : Fin 1024) k) :=
  (read_quarter v o inb _ r k h).trans (congrFun (View.canon_cons_unit_zero (S := S1024x1024) (by decide) inb' w []) _)

variable (m : (ℓ : Loc nD τ sig) → Buf (Elt Ideal) ℓ) (c : Dev nD) (t : Fin cfg0.N) (b : Left Ideal)

/-- The normalized rows of a block of tokens. -/
abbrev rows (n : Fin 16) (p : Fin 1024) : Fin 1024 → EReal := norm (fun i => aX m c (ix2 (tok n p) i)) (fun i => aLn m c (ix1 i))

theorem pay_h (p k : Fin 1024) : k0_pay3 (F := Ideal) (iblk m c 0 t) (iblk m c 1 t) (ix2 p k) = rows m c (bi t) p k :=
  (norm_apply _ _ p k).trans (congrArg₂ (fun x ln => norm x ln k) (funext fun i => iblk0 m c t p i) (funext fun i => iblk1 m c t i))

theorem leave_h (h0 : t.val % 4 = 0) (p k : Fin 1024) : (leaveAt m c t b).h (ix2 p k) = rows m c (bi t) p k := by
  rw [leaveAt_A m c t b h0]
  dsimp only [read6, atA, runA]
  frame_out
  exact pay_h m c t p k

/-- At any point but the first of a block the normalized rows are found, not made. -/
theorem leave_gu (hb : ¬t.val % 4 = 0 → ∀ p k, b.h (ix2 p k) = rows m c (bi t) p k) (i : Fin 2) (p : Fin 1024) (f : Fin 704) :
    (leaveAt m c t b).gu (ix4 i (0 : Fin 1) p f) = prj (rows m c (bi t) p) (if i = 0 then iblk m c 2 t else iblk m c 3 t) f := by
  by_cases h0 : t.val % 4 = 0
  · rw [leaveAt_A m c t b h0]
    dsimp only [read7, atA, runA]
    frame_out
    refine gu_canon (rows m c (bi t)) _ _ _ _ _ _ ?_ ?_ ?_ ?_ i p f
    all_goals exact fun r k => (read_filled _ _ _ _ _ r k _).trans (pay_h m c t _ k)
  · by_cases h3 : t.val % 4 = 3
    · rw [leaveAt_C m c t b h3]
      dsimp only [read7, atC, runC]
      frame_out
      refine gu_canon (rows m c (bi t)) _ _ _ _ _ _ ?_ ?_ ?_ ?_ i p f
      all_goals exact fun r k => (ld_quarter _ _ _ r k _).trans (hb h0 _ k)
    · rw [leaveAt_B m c t b h0 h3]
      dsimp only [read7, atB, runB]
      frame_out
      refine gu_canon (rows m c (bi t)) _ _ _ _ _ _ ?_ ?_ ?_ ?_ i p f
      all_goals exact fun r k => (ld_quarter _ _ _ r k _).trans (hb h0 _ k)

theorem leave_act (hb : ¬t.val % 4 = 0 → ∀ p k, b.h (ix2 p k) = rows m c (bi t) p k) (p : Fin 1024) (f : Fin 704) :
    (leaveAt m c t b).act (ix3 (0 : Fin 1) p f) = gate (prj (rows m c (bi t) p) (iblk m c 2 t) f) (prj (rows m c (bi t) p) (iblk m c 3 t) f) := by
  by_cases h0 : t.val % 4 = 0
  · rw [leaveAt_A m c t b h0]
    dsimp only [read8, atA, runA]
    frame_out
    refine act_canon (rows m c (bi t)) _ _ _ _ _ _ ?_ ?_ ?_ ?_ p f
    all_goals exact fun r k => (read_filled _ _ _ _ _ r k _).trans (pay_h m c t _ k)
  · by_cases h3 : t.val % 4 = 3
    · rw [leaveAt_C m c t b h3]
      dsimp only [read8, atC, runC]
      frame_out
      refine act_canon (rows m c (bi t)) _ _ _ _ _ _ ?_ ?_ ?_ ?_ p f
      all_goals exact fun r k => (ld_quarter _ _ _ r k _).trans (hb h0 _ k)
    · rw [leaveAt_B m c t b h0 h3]
      dsimp only [read8, atB, runB]
      frame_out
      refine act_canon (rows m c (bi t)) _ _ _ _ _ _ ?_ ?_ ?_ ?_ p f
      all_goals exact fun r k => (ld_quarter _ _ _ r k _).trans (hb h0 _ k)

/-- What a grid point adds to the accumulator. -/
def added (p k : Fin 1024) : EReal :=
  gain (fun f => gate (prj (rows m c (bi t) p) (iblk m c 2 t) f) (prj (rows m c (bi t) p) (iblk m c 3 t) f)) (iblk m c 4 t) k

theorem leave_acc_first (h0 : t.val % 4 = 0) (p k : Fin 1024) : (leaveAt m c t b).acc (ix2 p k) = 0 + added m c t p k := by
  rw [leaveAt_A m c t b h0]
  dsimp only [readA, atA, runA]
  frame_out
  refine acc_canon (rows m c (bi t)) _ _ _ _ _ _ ?_ ?_ ?_ ?_ _ (fun _ _ => 0) _ _ _ _ ?_ ?_ ?_ ?_ _ p k
  iterate 4 exact fun r k => (read_filled _ _ _ _ _ r k _).trans (pay_h m c t _ k)
  · exact fun r k => (read_filled _ _ _ _ _ r k (by omega)).trans (zero_apply _)
  · intro r k
    refine (read_quarter _ _ _ _ r k (by omega)).trans ?_
    rw [canon_miss _ _ _ _ _ _ (.inr (by show 0 + 256 ≤ 256 + r.val; omega))]
    exact (congrFun (View.canon_cons_unit_zero (S := S1024x1024) (by decide) _ _ []) _).trans (zero_apply _)
  · intro r k
    refine (read_quarter _ _ _ _ r k (by omega)).trans ?_
    rw [canon_miss _ _ _ _ _ _ (.inr (by show 256 + 256 ≤ 512 + r.val; omega)), canon_miss _ _ _ _ _ _ (.inr (by show 0 + 256 ≤ 512 + r.val; omega))]
    exact (congrFun (View.canon_cons_unit_zero (S := S1024x1024) (by decide) _ _ []) _).trans (zero_apply _)
  · intro r k
    refine (read_quarter _ _ _ _ r k (by omega)).trans ?_
    rw [canon_miss _ _ _ _ _ _ (.inr (by show 512 + 256 ≤ 768 + r.val; omega)), canon_miss _ _ _ _ _ _ (.inr (by show 256 + 256 ≤ 768 + r.val; omega)),
      canon_miss _ _ _ _ _ _ (.inr (by show 0 + 256 ≤ 768 + r.val; omega))]
    exact (congrFun (View.canon_cons_unit_zero (S := S1024x1024) (by decide) _ _ []) _).trans (zero_apply _)

/-- A quarter of the accumulator as a point finds it. -/
theorem found (o : ℕ) (inb : ∀ a, (![o, 0] : Fin 2 → ℕ) a + S256x1024.size a ≤ S1024x1024.size a) (r : Fin 256) (k : Fin 1024) (h : o + r.val < 1024) :
    View.ld (View.read (Elt Ideal) msA.view ((Memref.isWhole_whole cc0_scratch0).unread b.acc)) (Rect.unit (s := S1024x1024) ![o, 0] S256x1024.size inb) (ix2 r k)
      = b.acc (ix2 (⟨o + r.val, h⟩ : Fin 1024) k) :=
  (ld_quarter o inb _ r k h).trans (congrFun ((Memref.isWhole_whole cc0_scratch0).read_unread _) _)

theorem leave_acc (h0 : ¬t.val % 4 = 0) (hb : ∀ p k, b.h (ix2 p k) = rows m c (bi t) p k) (p k : Fin 1024) :
    (leaveAt m c t b).acc (ix2 p k) = b.acc (ix2 p k) + added m c t p k := by
  by_cases h3 : t.val % 4 = 3
  · rw [leaveAt_C m c t b h3]
    dsimp only [readA, atC, runC]
    frame_out
    refine acc_canon (rows m c (bi t)) _ _ _ _ _ _ ?_ ?_ ?_ ?_ _ (fun p k => b.acc (ix2 p k)) _ _ _ _ ?_ ?_ ?_ ?_ _ p k
    iterate 4 exact fun r k => (ld_quarter _ _ _ r k _).trans (hb _ k)
    all_goals exact fun r k => found b _ _ r k _
  · rw [leaveAt_B m c t b h0 h3]
    dsimp only [readA, atB, runB]
    frame_out
    refine acc_canon (rows m c (bi t)) _ _ _ _ _ _ ?_ ?_ ?_ ?_ _ (fun p k => b.acc (ix2 p k)) _ _ _ _ ?_ ?_ ?_ ?_ _ p k
    iterate 4 exact fun r k => (ld_quarter _ _ _ r k _).trans (hb _ k)
    all_goals exact fun r k => found b _ _ r k _

/-- The last point of a block writes the tokens plus the accumulator. -/
theorem leave_out (h3 : t.val % 4 = 3) (p k : Fin 1024) :
    (leaveAt m c t b).out (ix2 p k) = aX m c (ix2 (tok (bi t) p) k) + (leaveAt m c t b).acc (ix2 p k) := by
  rw [leaveAt_C m c t b h3]
  dsimp only [read5, readA, atC, runC]
  frame_out
  refine (sum_apply _ _ _).trans ?_
  rw [iblk0 m c t p k]
  exact congrArg (fun v : EReal => aX m c (ix2 (tok (bi t) p) k) + v) (read_whole _ _ _ p k)

end Cert.Kernel11Ideal.Fwd
-- ==== Proof.Fwd.Arrays.lean ====
/-
  The arrays that the forward feed-forward call leaves.
-/
module

public import proofs.«01_k».proof.Proof.Fwd.Sum

@[expose] public section
set_option maxRecDepth 16384
noncomputable section

namespace Cert.Kernel11Ideal.Fwd
open Cert.Kernel11Ideal Cert.Kernel11Ideal.Gen Idealize.ShloMosaic Idealize.ShloMosaic.TcCoe Idealize.ShloMosaic.StableHlo Idealize.SL.Sem

/-! ## The arrays, in terms of the arguments -/

section
variable (x : Vec Ideal S16384x1024 .f32) (ln : Vec Ideal S1024 .f32) (w : Vec Ideal S1024x5632 .bf16) (wd : Vec Ideal S2816x1024 .bf16)

/-- A normalized token. -/
def hid (s : Fin 16384) : Fin 1024 → EReal := norm (fun i => x (ix2 s i)) (fun i => ln (ix1 i))

/-- Column `q` of the normalized tokens times the weight. -/
def proj (s : Fin 16384) (q : Fin 5632) : EReal := ∑ k : Fin 1024, hid x ln s k * w (ix2 k q)

/-- The gated product in column `f` of block `j`. -/
def gated (s : Fin 16384) (j : Fin 4) (f : Fin 704) : EReal := gate (proj x ln w s (col (part 0 j) f)) (proj x ln w s (col (part 1 j) f))

/-- What column block `j` adds to a token. -/
def downPart (s : Fin 16384) (k : Fin 1024) (j : Fin 4) : EReal := ∑ f : Fin 704, gated x ln w s j f * wd (ix2 (down j f) k)

/-- The tokens after the call. -/
def kOut : Vec Ideal S16384x1024 .f32 := fun i => x (ix2 (i 0) (i 1)) + ∑ j : Fin 4, downPart x ln w wd (i 0) (i 1) j

/-- The normalized tokens. -/
def kH : Vec Ideal S16384x1024 .bf16 := fun i => hid x ln (i 0) (i 1)

/-- The gate and up parts. -/
def kGu : Vec Ideal S2x4x16384x704 .bf16 := fun i => proj x ln w (i 2) (col (part (i 0) (i 1)) (i 3))

/-- The gated product. -/
def kAct : Vec Ideal S4x16384x704 .bf16 := fun i => gated x ln w (i 1) (i 0) (i 2)

end

variable (m : (ℓ : Loc nD τ sig) → Buf (Elt Ideal) ℓ) (c : Dev nD)

/-! ## The buffers, in terms of the arguments -/

theorem prj_eq (t : Fin cfg0.N) (i : Fin 2) (p : Fin 1024) (f : Fin 704) :
    prj (rows m c (bi t) p) (if i = 0 then iblk m c 2 t else iblk m c 3 t) f = proj (aX m c) (aLn m c) (aW m c) (tok (bi t) p) (col (part i (bj t)) f) := by
  unfold prj proj
  refine Finset.sum_congr rfl fun k _ => ?_
  obtain rfl | rfl : i = 0 ∨ i = 1 := by omega
  · exact congrArg (fun v : EReal => hid (aX m c) (aLn m c) (tok (bi t) p) k * v) (iblk2 m c t k f)
  · exact congrArg (fun v : EReal => hid (aX m c) (aLn m c) (tok (bi t) p) k * v) (iblk3 m c t k f)

theorem gated_eq (t : Fin cfg0.N) (p : Fin 1024) (f : Fin 704) :
    gate (prj (rows m c (bi t) p) (iblk m c 2 t) f) (prj (rows m c (bi t) p) (iblk m c 3 t) f)
      = gated (aX m c) (aLn m c) (aW m c) (tok (bi t) p) (bj t) f :=
  congrArg₂ gate (prj_eq m c t 0 p f) (prj_eq m c t 1 p f)

theorem added_eq (t : Fin cfg0.N) (p k : Fin 1024) :
    added m c t p k = downPart (aX m c) (aLn m c) (aW m c) (aWd m c) (tok (bi t) p) k (bj t) := by
  unfold added gain downPart
  exact Finset.sum_congr rfl fun f _ => congrArg₂ (fun u v : EReal => u * v) (gated_eq m c t p f) (iblk4 m c t f k)

/-- Before any point but the first the buffers hold what the point before left. -/
theorem before_eq (t : Fin cfg0.N) (h : t.val ≠ 0) :
    leftBefore m c t.val (Nat.le_of_lt t.isLt) = left m c ⟨t.val - 1, Nat.lt_of_le_of_lt (Nat.sub_le _ _) t.isLt⟩ := by
  obtain ⟨n, hn⟩ := t
  cases n with
  | zero => exact absurd rfl h
  | succ n => rfl

/-- Past the first column tile a point works on the block of tokens of the point before. -/
theorem bi_pred (t : Fin cfg0.N) (h : ¬t.val % 4 = 0) (hp) : bi ⟨t.val - 1, hp⟩ = bi t :=
  Fin.ext (by show (t.val - 1) / 4 = t.val / 4; omega)

theorem left_h (n : ℕ) : ∀ (hn : n < cfg0.N) (p k : Fin 1024), (left m c ⟨n, hn⟩).h (ix2 p k) = rows m c (bi ⟨n, hn⟩) p k := by
  induction n with
  | zero => exact fun hn p k => leave_h m c ⟨0, hn⟩ _ rfl p k
  | succ n ih =>
    intro hn p k
    by_cases h0 : (n + 1) % 4 = 0
    · exact leave_h m c ⟨n + 1, hn⟩ _ h0 p k
    · refine (congrFun (leaveAt_h m c ⟨n + 1, hn⟩ _ h0) _).trans ((ih (Nat.lt_of_succ_lt hn) p k).trans ?_)
      exact congrArg (fun b => rows m c b p k) (bi_pred ⟨n + 1, hn⟩ h0 (Nat.lt_of_succ_lt hn))

theorem found_h (t : Fin cfg0.N) (h0 : ¬t.val % 4 = 0) (p k : Fin 1024) :
    (leftBefore m c t.val (Nat.le_of_lt t.isLt)).h (ix2 p k) = rows m c (bi t) p k := by
  rw [before_eq m c t (fun h => h0 (by rw [h])), left_h]
  exact congrArg (fun b => rows m c b p k) (bi_pred t h0 _)

/-- The accumulator after the last point of a block of tokens. -/
theorem running (t : Fin cfg0.N) (ht : t.val % 4 = 4 - 1) (y : S1024x1024.Idx) :
    (left m c t).acc y = ∑ j : Fin 4, downPart (aX m c) (aLn m c) (aW m c) (aWd m c) (tok (bi t) (y 0)) (y 1) j := by
  refine (Pipeline.eq_sum_fin_of_reset_step_apply_of_flush (fun n h => (left m c ⟨n, h⟩).acc) 4 (fun _ => 0)
    (fun t y => downPart (aX m c) (aLn m c) (aW m c) (aWd m c) (tok (bi t) (y 0)) (y 1) (bj t))
    (fun t h y => ?_) (fun t h y => ?_) t ht y).trans ?_
  · obtain ⟨p, k, rfl⟩ : ∃ p k : Fin 1024, y = ix2 p k := ⟨y 0, y 1, eq_ix2 y⟩
    exact (leave_acc_first m c t _ h p k).trans (congrArg (fun v : EReal => 0 + v) (added_eq m c t p k))
  · obtain ⟨p, k, rfl⟩ : ∃ p k : Fin 1024, y = ix2 p k := ⟨y 0, y 1, eq_ix2 y⟩
    refine (leave_acc m c t _ h (found_h m c t h) p k).trans ?_
    rw [before_eq m c t (fun e => h (by rw [e])), added_eq m c t p k]
    rfl
  · rw [zero_add]
    have hn := hN t
    refine Finset.sum_congr rfl fun s _ => ?_
    refine congrArg₂ (fun b j => downPart (aX m c) (aLn m c) (aW m c) (aWd m c) (tok b (y 0)) (y 1) j) (Fin.ext ?_) (Fin.ext ?_)
    · show (4 * (t.val / 4) + s.val) / 4 = t.val / 4; omega
    · show (4 * (t.val / 4) + s.val) % 4 = s.val; omega

/-! ## The arrays -/

theorem final_out : (dats m 0 c).arrAt 5 cfg0.N = kOut (aX m c) (aLn m c) (aW m c) (aWd m c) := by
  refine (dats m 0 c).arrAt_eq_of_covers 5 _ (by decide +kernel) fun t hf y => ?_
  have ht : t.val % 4 = 3 := (flush0_5 t).mp hf
  have hi := (index_row t).2.2.2.2.2.1
  obtain ⟨p, q, rfl⟩ : ∃ (p : Fin 1024) (q : Fin 1024), y = ix2 p q := ⟨y 0, y 1, eq_ix2 y⟩
  have e : ((cfg0.win 5).blk t).view.emb (ix2 p q) = ix2 (tok (bi t) p) q := by
    funext a
    apply Fin.ext
    match a with
    | ⟨0, _⟩ => show win0_5.index t 0 * 1024 + 1 * p.val = t.val / 4 * 1024 + p.val; rw [hi]; simp
    | ⟨1, _⟩ => show win0_5.index t 1 * 1024 + 1 * q.val = q.val; rw [hi]; simp
  blk_simp
  rw [e]
  exact (leave_out m c t _ ht p q).trans (congrArg (fun v : EReal => aX m c (ix2 (tok (bi t) p) q) + v) (running m c t ht (ix2 p q)))

theorem final_h : (dats m 0 c).arrAt 6 cfg0.N = kH (aX m c) (aLn m c) := by
  refine (dats m 0 c).arrAt_eq_of_covers 6 _ (by decide +kernel) fun t hf y => ?_
  have hi := (index_row t).2.2.2.2.2.2.1
  obtain ⟨p, q, rfl⟩ : ∃ (p : Fin 1024) (q : Fin 1024), y = ix2 p q := ⟨y 0, y 1, eq_ix2 y⟩
  have e : ((cfg0.win 6).blk t).view.emb (ix2 p q) = ix2 (tok (bi t) p) q := by
    funext a
    apply Fin.ext
    match a with
    | ⟨0, _⟩ => show win0_6.index t 0 * 1024 + 1 * p.val = t.val / 4 * 1024 + p.val; rw [hi]; simp
    | ⟨1, _⟩ => show win0_6.index t 1 * 1024 + 1 * q.val = q.val; rw [hi]; simp
  blk_simp
  rw [e]
  exact left_h m c t.val t.isLt p q

theorem final_gu : (dats m 0 c).arrAt 7 cfg0.N = kGu (aX m c) (aLn m c) (aW m c) := by
  refine (dats m 0 c).arrAt_eq_of_covers 7 _ (by decide +kernel) fun t hf y => ?_
  have hi := (index_row t).2.2.2.2.2.2.2.1
  obtain ⟨i, p, f, rfl⟩ : ∃ (i : Fin 2) (p : Fin 1024) (f : Fin 704), y = ix4 i (0 : Fin 1) p f :=
    ⟨y 0, y 2, y 3, (eq_ix4 y).trans (congrArg (fun u => ix4 (y 0) u (y 2) (y 3)) (Subsingleton.elim (α := Fin 1) _ _))⟩
  have e : ((cfg0.win 7).blk t).view.emb (ix4 i (0 : Fin 1) p f) = ix4 i (bj t) (tok (bi t) p) f := by
    funext a
    apply Fin.ext
    match a with
    | ⟨0, _⟩ => show win0_7.index t 0 * 2 + 1 * i.val = i.val; rw [hi]; simp
    | ⟨1, _⟩ => show win0_7.index t 1 * 1 + 1 * 0 = t.val % 4; rw [hi]; simp
    | ⟨2, _⟩ => show win0_7.index t 2 * 1024 + 1 * p.val = t.val / 4 * 1024 + p.val; rw [hi]; simp
    | ⟨3, _⟩ => show win0_7.index t 3 * 704 + 1 * f.val = f.val; rw [hi]; simp
  blk_simp
  rw [e]
  exact (leave_gu m c t _ (found_h m c t) i p f).trans (prj_eq m c t i p f)

theorem final_act : (dats m 0 c).arrAt 8 cfg0.N = kAct (aX m c) (aLn m c) (aW m c) := by
  refine (dats m 0 c).arrAt_eq_of_covers 8 _ (by decide +kernel) fun t hf y => ?_
  have hi := (index_row t).2.2.2.2.2.2.2.2
  obtain ⟨p, f, rfl⟩ : ∃ (p : Fin 1024) (f : Fin 704), y = ix3 (0 : Fin 1) p f :=
    ⟨y 1, y 2, (eq_ix3 y).trans (congrArg (fun u => ix3 u (y 1) (y 2)) (Subsingleton.elim (α := Fin 1) _ _))⟩
  have e : ((cfg0.win 8).blk t).view.emb (ix3 (0 : Fin 1) p f) = ix3 (bj t) (tok (bi t) p) f := by
    funext a
    apply Fin.ext
    match a with
    | ⟨0, _⟩ => show win0_8.index t 0 * 1 + 1 * 0 = t.val % 4; rw [hi]; simp
    | ⟨1, _⟩ => show win0_8.index t 1 * 1024 + 1 * p.val = t.val / 4 * 1024 + p.val; rw [hi]; simp
    | ⟨2, _⟩ => show win0_8.index t 2 * 704 + 1 * f.val = f.val; rw [hi]; simp
  blk_simp
  rw [e]
  exact (leave_act m c t _ (found_h m c t) p f).trans (gated_eq m c t p f)

end Cert.Kernel11Ideal.Fwd
-- ==== Proof.Fwd.Ref.lean ====
/-
  The reference of the forward feed-forward call, read element by element.
-/
module

public import proofs.«01_k».proof.Proof.Gen.Reference11Ideal.Run
public import Idealize.ShloMosaic.Lib.Pointwise

@[expose] public section
set_option maxRecDepth 16384
noncomputable section

namespace Cert.Reference11Ideal.Fwd
open Cert.Reference11Ideal Cert.Reference11Ideal.Gen Cert.Reference11Ideal.Value Idealize.ShloMosaic Idealize.ShloMosaic.TcCoe Idealize.ShloMosaic.StableHlo Idealize.SL.Sem

variable (a0 : FVec Ideal S16384x1024 .f32) (a1 : FVec Ideal S1024 .f32) (a2 : FVec Ideal S1024x5632 .bf16) (a3 : FVec Ideal S2816x1024 .bf16)

/-- The mean square of each token, and the small number. -/
def rMean : FVec Ideal S16384x1 .f32 :=
  addf (Host.divf (broadcastInDim S16384x1 ![0] bcast_S16384_S16384x1_0 (Host.reduceAdd (mulf a0 a0) (constant S_ .f32 0x00000000#32) reducesTo_S16384x1024_S16384_d1 h_S_))
    (broadcastInDim S16384x1 ![] bcast_S_S16384x1 (constant S_ .f32 0x44800000#32))) (broadcastInDim S16384x1 ![] bcast_S_S16384x1 (constant S_ .f32 0x358637BD#32))

/-- The normalized tokens. -/
def rNorm : FVec Ideal S16384x1024 .f32 :=
  mulf (mulf a0 (broadcastInDim S16384x1024 ![0, 1] bcast_S16384x1_S16384x1024_0_1 (Host.rsqrt (rMean a0))))
    (broadcastInDim S16384x1024 ![0, 1] bcast_S1x1024_S16384x1024_0_1 (broadcastInDim S1x1024 ![1] bcast_S1024_S1x1024_1 a1))

/-- The gate and up parts, side by side. -/
def rProj : FVec Ideal S16384x5632 .f32 :=
  Host.dotGeneral dot_S16384x1024_S1024x5632_S16384x5632_1_0_0_1_n_n none (rNorm a0 a1) (extf .f32 a2 bitsLt_bf16_f32)

def rG : FVec Ideal S16384x2816 .f32 := extractStridedSlice S16384x2816 ![0, 0] (rProj a0 a1 a2) slices_S16384x5632_S16384x2816_0_0
def rU : FVec Ideal S16384x2816 .f32 := extractStridedSlice S16384x2816 ![0, 2816] (rProj a0 a1 a2) slices_S16384x5632_S16384x2816_0_2816
def rOne : FVec Ideal S16384x2816 .f32 := broadcastInDim S16384x2816 ![] bcast_S_S16384x2816 (constant S_ .f32 0x3F800000#32)

/-- The gated product. -/
def rGated : FVec Ideal S16384x2816 .f32 :=
  mulf (mulf (rG a0 a1 a2) (Host.divf rOne (addf rOne (Host.exp (Host.negf (rG a0 a1 a2)))))) (rU a0 a1 a2)

def rOut : FVec Ideal S16384x1024 .f32 :=
  addf a0 (Host.dotGeneral dot_S16384x2816_S2816x1024_S16384x1024_1_0_0_1_n_n none (rGated a0 a1 a2) (extf .f32 a3 bitsLt_bf16_f32))

def rH : FVec Ideal S16384x1024 .bf16 := truncf .bf16 (rNorm a0 a1) bitsLt_bf16_f32

def rGu : FVec Ideal S2x4x16384x704 .bf16 :=
  truncf .bf16 (transpose S2x4x16384x704 [1, 2, 0, 3] (shapeCast S16384x2x4x704 (rProj a0 a1 a2) shapeCasts_S16384x5632_S16384x2x4x704)
    transposes_S16384x2x4x704_S2x4x16384x704_1_2_0_3) bitsLt_bf16_f32

def rAct : FVec Ideal S4x16384x704 .bf16 :=
  truncf .bf16 (transpose S4x16384x704 [1, 0, 2] (shapeCast S16384x4x704 (rGated a0 a1 a2) shapeCasts_S16384x2816_S16384x4x704)
    transposes_S16384x4x704_S4x16384x704_1_0_2) bitsLt_bf16_f32

theorem rMean_apply (s : Fin 16384) (z : Fin 1) : rMean a0 (ix2 s z)
    = Ideal.div (∑ i : Fin 1024, a0 (ix2 s i) * a0 (ix2 s i)) (Ideal.ofBits FTy.f32 1149239296#32) + Ideal.ofBits FTy.f32 897988541#32 := by
  unfold rMean
  pointwise []

theorem rNorm_apply (s : Fin 16384) (k : Fin 1024) : rNorm a0 a1 (ix2 s k)
    = a0 (ix2 s k) * Ideal.rsqrt (rMean a0 (ix2 s (0 : Fin 1))) * a1 (ix1 k) := by
  unfold rNorm
  pointwise []

theorem rProj_apply (s : Fin 16384) (q : Fin 5632) : rProj a0 a1 a2 (ix2 s q) = ∑ k : Fin 1024, rNorm a0 a1 (ix2 s k) * a2 (ix2 k q) := by
  unfold rProj
  pointwise []

theorem rGated_apply (s : Fin 16384) (q : Fin 2816) : rGated a0 a1 a2 (ix2 s q)
    = rProj a0 a1 a2 (ix2 s ⟨q.val, by omega⟩) * Ideal.div 1 (1 + Ideal.exp (-rProj a0 a1 a2 (ix2 s ⟨q.val, by omega⟩)))
      * rProj a0 a1 a2 (ix2 s ⟨2816 + q.val, by omega⟩) := by
  unfold rGated rOne rG rU
  pointwise []

theorem rOut_apply (s : Fin 16384) (k : Fin 1024) : rOut a0 a1 a2 a3 (ix2 s k)
    = a0 (ix2 s k) + ∑ q : Fin 2816, rGated a0 a1 a2 (ix2 s q) * a3 (ix2 q k) := by
  unfold rOut
  pointwise []

theorem rH_apply (s : Fin 16384) (k : Fin 1024) : rH a0 a1 (ix2 s k) = rNorm a0 a1 (ix2 s k) := by
  unfold rH
  pointwise []

theorem rGu_apply (i : Fin 2) (j : Fin 4) (s : Fin 16384) (f : Fin 704) : rGu a0 a1 a2 (ix4 i j s f)
    = rProj a0 a1 a2 (ix2 s ⟨i.val * 2816 + j.val * 704 + f.val, by omega⟩) := by
  unfold rGu
  pointwise []

theorem rAct_apply (j : Fin 4) (s : Fin 16384) (f : Fin 704) : rAct a0 a1 a2 (ix3 j s f)
    = rGated a0 a1 a2 (ix2 s ⟨j.val * 704 + f.val, by omega⟩) := by
  unfold rAct
  pointwise []

end Cert.Reference11Ideal.Fwd
-- ==== Proof.Fwd.Claim.lean ====
/-
  The claims of the forward feed-forward call.
-/
module

public import proofs.«01_k».proof.Defs
public import proofs.«01_k».proof.Proof.Gen.Kernel11
public import proofs.«01_k».proof.Proof.Fwd.Arrays
public import proofs.«01_k».proof.Proof.Fwd.Ref
public import Idealize.ShloMosaic.Lib.Quiescent

@[expose] public section
set_option maxRecDepth 16384
noncomputable section

namespace Cert.Kernel11Ideal.Fwd
open Cert.Kernel11Ideal Idealize.ShloMosaic Idealize.ShloMosaic.TcCoe Idealize.SL Idealize.SL.Sem
open Cert.Reference11Ideal.Fwd

section
variable (x : Vec Ideal S16384x1024 .f32) (ln : Vec Ideal S1024 .f32) (w : Vec Ideal S1024x5632 .bf16) (wd : Vec Ideal S2816x1024 .bf16)

theorem ref_norm (s : Fin 16384) (k : Fin 1024) : rNorm x ln (ix2 s k) = hid x ln s k := by
  rw [rNorm_apply, rMean_apply]
  rfl

theorem ref_proj (s : Fin 16384) (q : Fin 5632) : rProj x ln w (ix2 s q) = proj x ln w s q := by
  rw [rProj_apply]
  unfold proj
  exact Finset.sum_congr rfl fun k _ => congrArg (fun v : EReal => v * w (ix2 k q)) (ref_norm x ln s k)

theorem ref_gated (s : Fin 16384) (j : Fin 4) (f : Fin 704) : rGated x ln w (ix2 s (down j f)) = gated x ln w s j f := by
  rw [rGated_apply, ref_proj, ref_proj]
  unfold gated gate sg
  have e0 : (⟨(down j f).val, by omega⟩ : Fin 5632) = col (part 0 j) f := Fin.ext (by show j.val * 704 + f.val = (4 * 0 + j.val) * 704 + f.val; omega)
  have e1 : (⟨2816 + (down j f).val, by omega⟩ : Fin 5632) = col (part 1 j) f := Fin.ext (by show 2816 + (j.val * 704 + f.val) = (4 * 1 + j.val) * 704 + f.val; omega)
  rw [e0, e1, zero_sub]

theorem ref_out_eq : rOut x ln w wd = kOut x ln w wd := by
  funext y
  obtain ⟨s, k, rfl⟩ : ∃ (s : Fin 16384) (k : Fin 1024), y = ix2 s k := ⟨y 0, y 1, eq_ix2 y⟩
  rw [rOut_apply]
  unfold kOut
  refine congrArg (fun v : EReal => x (ix2 s k) + v) (Eq.symm ?_)
  refine Fin.sum_mul_add_congr fun j f hl => ?_
  exact congrArg (fun v : EReal => v * wd (ix2 (down j f) k)) (ref_gated x ln w s j f).symm

theorem ref_h_eq : rH x ln = kH x ln := by
  funext y
  obtain ⟨s, k, rfl⟩ : ∃ (s : Fin 16384) (k : Fin 1024), y = ix2 s k := ⟨y 0, y 1, eq_ix2 y⟩
  exact (rH_apply x ln s k).trans (ref_norm x ln s k)

theorem ref_gu_eq : rGu x ln w = kGu x ln w := by
  funext y
  obtain ⟨i, j, s, f, rfl⟩ : ∃ (i : Fin 2) (j : Fin 4) (s : Fin 16384) (f : Fin 704), y = ix4 i j s f := ⟨y 0, y 1, y 2, y 3, eq_ix4 y⟩
  refine (rGu_apply x ln w i j s f).trans ((ref_proj x ln w s _).trans (congrArg (proj x ln w s) (Fin.ext ?_)))
  show i.val * 2816 + j.val * 704 + f.val = (4 * i.val + j.val) * 704 + f.val
  omega

theorem ref_act_eq : rAct x ln w = kAct x ln w := by
  funext y
  obtain ⟨j, s, f, rfl⟩ : ∃ (j : Fin 4) (s : Fin 16384) (f : Fin 704), y = ix3 j s f := ⟨y 0, y 1, y 2, eq_ix3 y⟩
  exact (rAct_apply x ln w j s f).trans (ref_gated x ln w s j f)

end

/-- The kernel and the ideal kernel have the same bodies. -/
theorem bodies : Cert.Kernel11.defs₀ (F := Bits) = defs₀ (F := Bits) := by
  refine congrArg Defs.onTc (funext fun l => funext fun a => ?_)
  match l, a with
  | 0, (t, s) => rfl

/-- The kernel and the ideal kernel have the same pipeline around them. -/
theorem calls : Cert.Kernel11.defs (F := Bits) = defs (F := Bits) := congrArg (Pipeline.defs pcfgs) bodies

/-- The kernel's frame, by the run above. -/
theorem frame_kernel : Cert.quiescent_Kernel11 (hKernel11 := Cert.Kernel11.Gen.facts) := fun m g _ => by
  rw [calls]
  exact frame (F := Bits) m g

theorem frame_ideal : Cert.quiescent_Kernel11Ideal (hKernel11Ideal := Cert.Kernel11Ideal.Gen.facts) := fun m g _ => frame m g

theorem reference_frame : Cert.quiescent_Reference11Ideal (hReference11Ideal := Cert.Reference11Ideal.Gen.facts) := fun m g _ =>
  (θ_run _ _ _).mono (fun _ h => ⟨fun c => (h c).2.2.2.2, sem_eq_zero_of_no_sems (by decide) _⟩) (Cert.Reference11Ideal.Value.run m g)

theorem algebraic : Cert.algebraic_Kernel11Ideal_Reference11Ideal (hKernel11Ideal := Cert.Kernel11Ideal.Gen.facts)
    (hReference11Ideal := Cert.Reference11Ideal.Gen.facts) := by
  intro m g m' g' hpre hargs
  refine ⟨fun c => kOut (aX m c) (aLn m c) (aW m c) (aWd m c), fun c => kH (aX m c) (aLn m c), fun c => kGu (aX m c) (aLn m c) (aW m c),
    fun c => kAct (aX m c) (aLn m c) (aW m c), ?_, ?_⟩
  · exact (θ_run _ _ _).mono (fun r h c => ⟨(h.1 c).1.trans (final_out m c), (h.1 c).2.1.trans (final_h m c), (h.1 c).2.2.1.trans (final_gu m c),
      (h.1 c).2.2.2.1.trans (final_act m c), (h.1 c).2.2.2.2⟩) (run m g)
  · refine (θ_run _ _ _).mono (fun r h c => ?_) (Cert.Reference11Ideal.Value.run m' g')
    obtain ⟨e0, e1, e2, e3⟩ := hargs c
    refine ⟨(h c).1.trans ?_, (h c).2.1.trans ?_, (h c).2.2.1.trans ?_, (h c).2.2.2.1.trans ?_, (h c).2.2.2.2⟩
    · rw [e0, e1, e2, e3]
      exact ref_out_eq _ _ _ _
    · rw [e0, e1]
      exact ref_h_eq _ _
    · rw [e0, e1, e2]
      exact ref_gu_eq _ _ _
    · rw [e0, e1, e2]
      exact ref_act_eq _ _ _

end Cert.Kernel11Ideal.Fwd
-- ==== Proof.Adam.Step.lean ====
/-
  One step of the optimiser for one entry of a weight, and for a whole array of entries.
-/
module

public import Idealize.ShloMosaic.Lib.Pointwise
public import Idealize.ShloMosaic.Lib.Pipeline.ValueKit

@[expose] public section
noncomputable section

namespace Adam
open Idealize.ShloMosaic

/-- The first moment after the step, of the gradient `g`. -/
def mom (g m : EReal) : EReal := Ideal.ofBits FTy.f32 0x3F666666#32 * m + Ideal.ofBits FTy.f32 0x3DCCCCCD#32 * g

/-- The second moment after the step. -/
def var (g v : EReal) : EReal := Ideal.ofBits FTy.f32 0x3F7FBE77#32 * v + Ideal.ofBits FTy.f32 0x3A83126F#32 * (g * g)

/-- What is added to the weight `w`. -/
def change (w g m v : EReal) : EReal :=
  Ideal.ofBits FTy.f32 0xBA83126F#32 * (Ideal.div (Ideal.div (mom g m) (Ideal.ofBits FTy.f32 0x3F26BD02#32))
    (Ideal.sqrt (Ideal.div (var g v) (Ideal.ofBits FTy.f32 0x3C231ACC#32)) + Ideal.ofBits FTy.f32 0x322BCC77#32) + Ideal.ofBits FTy.f32 0x3C23D70A#32 * w)

section
variable {R C : ℕ}

/-- The gradient summed over the devices: one device's own part and the seven others'. -/
def grads (own : Vec Ideal ⟨2, ![R, C]⟩ .bf16) (slots : Vec Ideal ⟨3, ![7, R, C]⟩ .bf16) : Vec Ideal ⟨2, ![R, C]⟩ .f32 :=
  fun i => own i + ∑ k : Fin 7, slots (ix3 k (i 0) (i 1))

def moms (g m : Vec Ideal ⟨2, ![R, C]⟩ .f32) : Vec Ideal ⟨2, ![R, C]⟩ .f32 := fun i => mom (g i) (m i)

def vars (g v : Vec Ideal ⟨2, ![R, C]⟩ .f32) : Vec Ideal ⟨2, ![R, C]⟩ .f32 := fun i => var (g i) (v i)

def changes (w g m v : Vec Ideal ⟨2, ![R, C]⟩ .f32) : Vec Ideal ⟨2, ![R, C]⟩ .f32 := fun i => change (w i) (g i) (m i) (v i)

/-- Row `p` of the block `n` of `T` rows, all columns of it: where an index lies whose coordinates are so offset. -/
theorem at_row {T n p q : ℕ} {ix : Fin 2 → ℕ} (e : (⟨2, ![R, C]⟩ : Shape).Idx) (hp : n * T + p < R) (hq : q < C) (hi : ix = ![n, 0])
    (h0 : (e 0).val = ix 0 * T + 1 * p) (h1 : (e 1).val = ix 1 * C + 1 * q) : e = ix2 ⟨n * T + p, hp⟩ ⟨q, hq⟩ := by
  subst hi
  funext a
  apply Fin.ext
  match a with
  | ⟨0, _⟩ => exact h0.trans (by simp)
  | ⟨1, _⟩ => exact h1.trans (by simp)

theorem at_slot {T n k p q : ℕ} {ix : Fin 3 → ℕ} (e : (⟨3, ![7, R, C]⟩ : Shape).Idx) (hk : k < 7) (hp : n * T + p < R) (hq : q < C)
    (hi : ix = ![0, n, 0]) (h0 : (e 0).val = ix 0 * 7 + 1 * k) (h1 : (e 1).val = ix 1 * T + 1 * p) (h2 : (e 2).val = ix 2 * C + 1 * q) :
    e = ix3 ⟨k, hk⟩ ⟨n * T + p, hp⟩ ⟨q, hq⟩ := by
  subst hi
  funext a
  apply Fin.ext
  match a with
  | ⟨0, _⟩ => exact h0.trans (by simp)
  | ⟨1, _⟩ => exact h1.trans (by simp)
  | ⟨2, _⟩ => exact h2.trans (by simp)

end

/-- Seven parts added one by one to the eighth. -/
theorem sum_seven (a : EReal) (f : Fin 7 → EReal) : a + f 0 + f 1 + f 2 + f 3 + f 4 + f 5 + f 6 = a + ∑ k : Fin 7, f k := by
  rw [Fin.sum_univ_seven]
  simp only [add_assoc]

end Adam
-- ==== Proof.Adam.Ref.lean ====
/-
  The reference's step of the optimiser, for arrays of any number of rows and columns.
-/
module

public import proofs.«01_k».proof.Proof.Adam.Step
public import Idealize.ShloMosaic.Lib.Pipeline.ValueKit

@[expose] public section
noncomputable section

namespace Adam
open Idealize.ShloMosaic Idealize.ShloMosaic.TcCoe Idealize.ShloMosaic.StableHlo

abbrev Mat (R C : ℕ) : Shape := ⟨2, ![R, C]⟩
abbrev Single : Shape := ⟨0, ![]⟩

variable {R C : ℕ}

theorem ref_grads (own : FVec Ideal (Mat R C) .bf16) (slots : FVec Ideal ⟨3, ![7, R, C]⟩ .bf16) (h1 h2)
    (hr : (⟨3, ![7, R, C]⟩ : Shape).ReducesTo [0] (Mat R C)) (h0 : 0 < Single.numel) :
    (addf (extf .f32 own h1) (Host.reduceAdd (extf .f32 slots h2) (constant Single .f32 0x00000000#32) hr h0) : FVec Ideal (Mat R C) .f32)
      = (grads own slots : Vec Ideal (Mat R C) .f32) := by
  funext y; rw [eq_ix2 y]; generalize y 0 = p; generalize y 1 = q; unfold grads; pointwise []

theorem ref_moms (g m : FVec Ideal (Mat R C) .f32) (hb : Single.BroadcastsInDim (Mat R C) (![] : Fin 0 → Fin (Mat R C).rank)) :
    (addf (mulf (broadcastInDim (Mat R C) ![] hb (constant Single .f32 0x3F666666#32)) m)
      (mulf (broadcastInDim (Mat R C) ![] hb (constant Single .f32 0x3DCCCCCD#32)) g) : FVec Ideal (Mat R C) .f32)
      = (moms g m : Vec Ideal (Mat R C) .f32) := rfl

theorem ref_vars (g v : FVec Ideal (Mat R C) .f32) (hb : Single.BroadcastsInDim (Mat R C) (![] : Fin 0 → Fin (Mat R C).rank)) :
    (addf (mulf (broadcastInDim (Mat R C) ![] hb (constant Single .f32 0x3F7FBE77#32)) v)
      (mulf (broadcastInDim (Mat R C) ![] hb (constant Single .f32 0x3A83126F#32)) (mulf g g)) : FVec Ideal (Mat R C) .f32)
      = (vars g v : Vec Ideal (Mat R C) .f32) := rfl

theorem ref_changes (w g m v : FVec Ideal (Mat R C) .f32) (hb : Single.BroadcastsInDim (Mat R C) (![] : Fin 0 → Fin (Mat R C).rank)) :
    (mulf (broadcastInDim (Mat R C) ![] hb (constant Single .f32 0xBA83126F#32))
      (addf (Host.divf (Host.divf (addf (mulf (broadcastInDim (Mat R C) ![] hb (constant Single .f32 0x3F666666#32)) m)
          (mulf (broadcastInDim (Mat R C) ![] hb (constant Single .f32 0x3DCCCCCD#32)) g)) (broadcastInDim (Mat R C) ![] hb (constant Single .f32 0x3F26BD02#32)))
        (addf (Host.sqrt (Host.divf (addf (mulf (broadcastInDim (Mat R C) ![] hb (constant Single .f32 0x3F7FBE77#32)) v)
            (mulf (broadcastInDim (Mat R C) ![] hb (constant Single .f32 0x3A83126F#32)) (mulf g g))) (broadcastInDim (Mat R C) ![] hb (constant Single .f32 0x3C231ACC#32))))
          (broadcastInDim (Mat R C) ![] hb (constant Single .f32 0x322BCC77#32))))
        (mulf (broadcastInDim (Mat R C) ![] hb (constant Single .f32 0x3C23D70A#32)) w)) : FVec Ideal (Mat R C) .f32)
      = (changes w g m v : Vec Ideal (Mat R C) .f32) := rfl

end Adam
-- ==== Proof.Adam.Out.lean ====
/-
  The optimiser's step on the output projection's weights.
-/
module

public import proofs.«01_k».proof.Defs
public import proofs.«01_k».proof.Proof.Gen.Kernel12Ideal.Value
public import proofs.«01_k».proof.Proof.Gen.Reference12Ideal.Run
public import proofs.«01_k».proof.Proof.Adam.Ref
public import Idealize.ShloMosaic.Lib.Pointwise
public import Idealize.ShloMosaic.Lib.Pipeline.ValueKit
public import Idealize.ShloMosaic.Lib.Quiescent

@[expose] public section
set_option maxRecDepth 16384
noncomputable section

namespace Cert.Kernel12Ideal.Out
open Cert.Kernel12Ideal Cert.Kernel12Ideal.Gen Cert.Kernel12Ideal.Value Idealize.ShloMosaic Idealize.ShloMosaic.TcCoe Idealize.ShloMosaic.StableHlo Idealize.SL.Sem
open _root_.Adam

section
variable (x0 x3 x4 : Vec Ideal S256x1024 .f32) (x1 : Vec Ideal S256x1024 .bf16) (x2 : Vec Ideal S7x256x1024 .bf16) (p : Fin 256) (q : Fin 1024)

theorem block_grad : out0_5 x0 x1 x2 x3 x4 (ix2 p q) = grads x1 x2 (ix2 p q) := by
  unfold out0_5
  frame_out
  unfold k0_pay4
  pointwise []
  exact sum_seven _ fun k => x2 (ix3 k p q)

theorem sum_eq : k0_pay5 x0 x1 x2 x3 x4 (ix2 p q) = grads x1 x2 (ix2 p q) := by
  unfold k0_pay5
  frame_out
  unfold k0_pay4
  pointwise []
  exact sum_seven _ fun k => x2 (ix3 k p q)

theorem block_mom : out0_7 x0 x1 x2 x3 x4 (ix2 p q) = mom (grads x1 x2 (ix2 p q)) (x3 (ix2 p q)) := by
  rw [← sum_eq x0 x3 x4]
  unfold out0_7
  frame_out
  generalize k0_pay5 x0 x1 x2 x3 x4 = g
  unfold k0_pay1 mom
  pointwise []

theorem block_var : out0_8 x0 x1 x2 x3 x4 (ix2 p q) = var (grads x1 x2 (ix2 p q)) (x4 (ix2 p q)) := by
  rw [← sum_eq x0 x3 x4]
  unfold out0_8
  frame_out
  generalize k0_pay5 x0 x1 x2 x3 x4 = g
  unfold k0_pay2 var
  pointwise []

theorem block_change : out0_6 x0 x1 x2 x3 x4 (ix2 p q)
    = change (x0 (ix2 p q)) (grads x1 x2 (ix2 p q)) (x3 (ix2 p q)) (x4 (ix2 p q)) := by
  rw [← sum_eq x0 x3 x4]
  unfold out0_6
  frame_out
  generalize k0_pay5 x0 x1 x2 x3 x4 = g
  unfold k0_pay3 k0_pay1 k0_pay2 change mom var
  pointwise []

end

variable (m : (ℓ : Loc nD τ sig) → Buf (Elt Ideal) ℓ) (c : Dev nD)

/-- Every window is at the grid point's block of 256 rows. -/
theorem index_row (t : Fin cfg0.N) : win0_0.index t = ![t.val, 0] ∧ win0_1.index t = ![t.val, 0] ∧ win0_2.index t = ![0, t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, win0_0.index t = ![t.val, 0] ∧ win0_1.index t = ![t.val, 0] ∧ win0_2.index t = ![0, t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0]) t

theorem in_rows (t : Fin cfg0.N) (p : Fin 256) : t.val * 256 + p.val < 512 := by
  have := lt_of_lt_of_eq t.isLt (show cfg0.N = 2 from N_0)
  omega

abbrev aW : Vec Ideal S512x1024 .f32 := m ((c.tc : Thread nD τ).loc main_arg0)
abbrev aOwn : Vec Ideal S512x1024 .bf16 := m ((c.tc : Thread nD τ).loc main_arg1)
abbrev aSlots : Vec Ideal S7x512x1024 .bf16 := m ((c.tc : Thread nD τ).loc main_arg2)
abbrev aM : Vec Ideal S512x1024 .f32 := m ((c.tc : Thread nD τ).loc main_arg3)
abbrev aV : Vec Ideal S512x1024 .f32 := m ((c.tc : Thread nD τ).loc main_arg4)

section
variable (t : Fin cfg0.N) (p : Fin 256) (q : Fin 1024)

theorem iblk0 : (iblk m c 0 t : Vec Ideal S256x1024 .f32) (ix2 p q) = aW m c (ix2 ⟨t.val * 256 + p.val, in_rows t p⟩ q) := by
  unfold iblk
  rw [View.read_apply]
  show V m c main_arg0 _ = _
  rw [V_main_arg0]
  exact congrArg (aW m c) (at_row _ (in_rows t p) q.isLt (index_row t).1 rfl rfl)

theorem iblk1 : (iblk m c 1 t : Vec Ideal S256x1024 .bf16) (ix2 p q) = aOwn m c (ix2 ⟨t.val * 256 + p.val, in_rows t p⟩ q) := by
  unfold iblk
  rw [View.read_apply]
  show V m c main_arg1 _ = _
  rw [V_main_arg1]
  exact congrArg (aOwn m c) (at_row _ (in_rows t p) q.isLt (index_row t).2.1 rfl rfl)

theorem iblk2 (k : Fin 7) : (iblk m c 2 t : Vec Ideal S7x256x1024 .bf16) (ix3 k p q) = aSlots m c (ix3 k ⟨t.val * 256 + p.val, in_rows t p⟩ q) := by
  unfold iblk
  rw [View.read_apply]
  show V m c main_arg2 _ = _
  rw [V_main_arg2]
  exact congrArg (aSlots m c) (at_slot _ k.isLt (in_rows t p) q.isLt (index_row t).2.2.1 rfl rfl rfl)

theorem iblk3 : (iblk m c 3 t : Vec Ideal S256x1024 .f32) (ix2 p q) = aM m c (ix2 ⟨t.val * 256 + p.val, in_rows t p⟩ q) := by
  unfold iblk
  rw [View.read_apply]
  show V m c main_arg3 _ = _
  rw [V_main_arg3]
  exact congrArg (aM m c) (at_row _ (in_rows t p) q.isLt (index_row t).2.2.2.1 rfl rfl)

theorem iblk4 : (iblk m c 4 t : Vec Ideal S256x1024 .f32) (ix2 p q) = aV m c (ix2 ⟨t.val * 256 + p.val, in_rows t p⟩ q) := by
  unfold iblk
  rw [View.read_apply]
  show V m c main_arg4 _ = _
  rw [V_main_arg4]
  exact congrArg (aV m c) (at_row _ (in_rows t p) q.isLt (index_row t).2.2.2.2.1 rfl rfl)

theorem sum_iblk : (grads (iblk m c 1 t : Vec Ideal S256x1024 .bf16) (iblk m c 2 t : Vec Ideal S7x256x1024 .bf16) : Vec Ideal S256x1024 .f32) (ix2 p q)
    = grads (aOwn m c) (aSlots m c) (ix2 ⟨t.val * 256 + p.val, in_rows t p⟩ q) :=
  congrArg₂ (fun u v : EReal => u + v) (iblk1 m c t p q) (Finset.sum_congr rfl fun k _ => iblk2 m c t p q k)

end

theorem final_grad : (dats m 0 c).arrAt 5 cfg0.N = grads (aOwn m c) (aSlots m c) := by
  refine (dats m 0 c).arrAt_eq_of_covers 5 _ (by decide +kernel) fun t hf y => ?_
  obtain ⟨p, q, rfl⟩ : ∃ (p : Fin 256) (q : Fin 1024), y = ix2 p q := ⟨y 0, y 1, eq_ix2 y⟩
  have e : ((cfg0.win 5).blk t).view.emb (ix2 p q) = ix2 (⟨t.val * 256 + p.val, in_rows t p⟩ : Fin 512) q :=
    at_row _ (in_rows t p) q.isLt (index_row t).2.2.2.2.2.1 rfl rfl
  blk_simp
  rw [after0_5, e]
  refine (block_grad _ _ _ _ _ p q).trans ?_
  exact sum_iblk m c t p q

theorem final_change : (dats m 0 c).arrAt 6 cfg0.N = changes (aW m c) (grads (aOwn m c) (aSlots m c)) (aM m c) (aV m c) := by
  refine (dats m 0 c).arrAt_eq_of_covers 6 _ (by decide +kernel) fun t hf y => ?_
  obtain ⟨p, q, rfl⟩ : ∃ (p : Fin 256) (q : Fin 1024), y = ix2 p q := ⟨y 0, y 1, eq_ix2 y⟩
  have e : ((cfg0.win 6).blk t).view.emb (ix2 p q) = ix2 (⟨t.val * 256 + p.val, in_rows t p⟩ : Fin 512) q :=
    at_row _ (in_rows t p) q.isLt (index_row t).2.2.2.2.2.2.1 rfl rfl
  blk_simp
  rw [after0_6, e]
  refine (block_change _ _ _ _ _ p q).trans ?_
  rw [sum_iblk m c t p q, iblk0 m c t p q, iblk3 m c t p q, iblk4 m c t p q]
  rfl

theorem final_mom : (dats m 0 c).arrAt 7 cfg0.N = moms (grads (aOwn m c) (aSlots m c)) (aM m c) := by
  refine (dats m 0 c).arrAt_eq_of_covers 7 _ (by decide +kernel) fun t hf y => ?_
  obtain ⟨p, q, rfl⟩ : ∃ (p : Fin 256) (q : Fin 1024), y = ix2 p q := ⟨y 0, y 1, eq_ix2 y⟩
  have e : ((cfg0.win 7).blk t).view.emb (ix2 p q) = ix2 (⟨t.val * 256 + p.val, in_rows t p⟩ : Fin 512) q :=
    at_row _ (in_rows t p) q.isLt (index_row t).2.2.2.2.2.2.2.1 rfl rfl
  blk_simp
  rw [after0_7, e]
  refine (block_mom _ _ _ _ _ p q).trans ?_
  rw [sum_iblk m c t p q, iblk3 m c t p q]
  rfl

theorem final_var : (dats m 0 c).arrAt 8 cfg0.N = vars (grads (aOwn m c) (aSlots m c)) (aV m c) := by
  refine (dats m 0 c).arrAt_eq_of_covers 8 _ (by decide +kernel) fun t hf y => ?_
  obtain ⟨p, q, rfl⟩ : ∃ (p : Fin 256) (q : Fin 1024), y = ix2 p q := ⟨y 0, y 1, eq_ix2 y⟩
  have e : ((cfg0.win 8).blk t).view.emb (ix2 p q) = ix2 (⟨t.val * 256 + p.val, in_rows t p⟩ : Fin 512) q :=
    at_row _ (in_rows t p) q.isLt (index_row t).2.2.2.2.2.2.2.2 rfl rfl
  blk_simp
  rw [after0_8, e]
  refine (block_var _ _ _ _ _ p q).trans ?_
  rw [sum_iblk m c t p q, iblk4 m c t p q]
  rfl

theorem reference_frame : Cert.quiescent_Reference12Ideal (hReference12Ideal := Cert.Reference12Ideal.Gen.facts) := fun m g _ =>
  (θ_run _ _ _).mono (fun _ h => ⟨fun c => (h c).2.2.2.2, sem_eq_zero_of_no_sems (by decide) _⟩) (Cert.Reference12Ideal.Value.run m g)

theorem algebraic : Cert.algebraic_Kernel12Ideal_Reference12Ideal (hKernel12Ideal := Cert.Kernel12Ideal.Gen.facts) (hReference12Ideal := Cert.Reference12Ideal.Gen.facts) := by
  intro m g m' g' _ hargs
  refine ⟨fun c => grads (aOwn m c) (aSlots m c), fun c => changes (aW m c) (grads (aOwn m c) (aSlots m c)) (aM m c) (aV m c),
    fun c => moms (grads (aOwn m c) (aSlots m c)) (aM m c), fun c => vars (grads (aOwn m c) (aSlots m c)) (aV m c), ?_, ?_⟩
  · exact (θ_run _ _ _).mono (fun r h c => ⟨(h c).1.trans (final_grad m c), (h c).2.1.trans (final_change m c), (h c).2.2.1.trans (final_mom m c),
      (h c).2.2.2.1.trans (final_var m c), (h c).2.2.2.2⟩) (Cert.Kernel12Ideal.Value.run_blocks m g)
  · refine (θ_run _ _ _).mono (fun r h c => ?_) (Cert.Reference12Ideal.Value.run m' g')
    obtain ⟨e0, e1, e2, e3, e4⟩ := hargs c
    refine ⟨((h c).1.trans (ref_grads _ _ _ _ _ _)).trans ?_, ((h c).2.1.trans (ref_changes _ _ _ _ _)).trans ?_,
      ((h c).2.2.1.trans (ref_moms _ _ _)).trans ?_, ((h c).2.2.2.1.trans (ref_vars _ _ _)).trans ?_, (h c).2.2.2.2⟩
    · rw [e1, e2]
    · refine (congrArg (fun g => changes _ g _ _) (ref_grads _ _ _ _ _ _)).trans ?_
      rw [e0, e1, e2, e3, e4]
    · refine (congrArg (fun g => moms g _) (ref_grads _ _ _ _ _ _)).trans ?_
      rw [e1, e2, e3]
    · refine (congrArg (fun g => vars g _) (ref_grads _ _ _ _ _ _)).trans ?_
      rw [e1, e2, e4]

end Cert.Kernel12Ideal.Out
-- ==== Proof.Adam.GateUp.lean ====
/-
  The optimiser's step on the gate and up parts's weights.
-/
module

public import proofs.«01_k».proof.Defs
public import proofs.«01_k».proof.Proof.Gen.Kernel13Ideal.Value
public import proofs.«01_k».proof.Proof.Gen.Reference13Ideal.Run
public import proofs.«01_k».proof.Proof.Adam.Ref
public import Idealize.ShloMosaic.Lib.Pointwise
public import Idealize.ShloMosaic.Lib.Pipeline.ValueKit
public import Idealize.ShloMosaic.Lib.Quiescent

@[expose] public section
set_option maxRecDepth 16384
noncomputable section

namespace Cert.Kernel13Ideal.GateUp
open Cert.Kernel13Ideal Cert.Kernel13Ideal.Gen Cert.Kernel13Ideal.Value Idealize.ShloMosaic Idealize.ShloMosaic.TcCoe Idealize.ShloMosaic.StableHlo Idealize.SL.Sem
open _root_.Adam

section
variable (x0 x3 x4 : Vec Ideal S256x704 .f32) (x1 : Vec Ideal S256x704 .bf16) (x2 : Vec Ideal S7x256x704 .bf16) (p : Fin 256) (q : Fin 704)

theorem block_grad : out0_5 x0 x1 x2 x3 x4 (ix2 p q) = grads x1 x2 (ix2 p q) := by
  unfold out0_5
  frame_out
  unfold k0_pay4
  pointwise []
  exact sum_seven _ fun k => x2 (ix3 k p q)

theorem sum_eq : k0_pay5 x0 x1 x2 x3 x4 (ix2 p q) = grads x1 x2 (ix2 p q) := by
  unfold k0_pay5
  frame_out
  unfold k0_pay4
  pointwise []
  exact sum_seven _ fun k => x2 (ix3 k p q)

theorem block_mom : out0_7 x0 x1 x2 x3 x4 (ix2 p q) = mom (grads x1 x2 (ix2 p q)) (x3 (ix2 p q)) := by
  rw [← sum_eq x0 x3 x4]
  unfold out0_7
  frame_out
  generalize k0_pay5 x0 x1 x2 x3 x4 = g
  unfold k0_pay1 mom
  pointwise []

theorem block_var : out0_8 x0 x1 x2 x3 x4 (ix2 p q) = var (grads x1 x2 (ix2 p q)) (x4 (ix2 p q)) := by
  rw [← sum_eq x0 x3 x4]
  unfold out0_8
  frame_out
  generalize k0_pay5 x0 x1 x2 x3 x4 = g
  unfold k0_pay2 var
  pointwise []

theorem block_change : out0_6 x0 x1 x2 x3 x4 (ix2 p q)
    = change (x0 (ix2 p q)) (grads x1 x2 (ix2 p q)) (x3 (ix2 p q)) (x4 (ix2 p q)) := by
  rw [← sum_eq x0 x3 x4]
  unfold out0_6
  frame_out
  generalize k0_pay5 x0 x1 x2 x3 x4 = g
  unfold k0_pay3 k0_pay1 k0_pay2 change mom var
  pointwise []

end

variable (m : (ℓ : Loc nD τ sig) → Buf (Elt Ideal) ℓ) (c : Dev nD)

/-- Every window is at the grid point's block of 256 rows. -/
theorem index_row (t : Fin cfg0.N) : win0_0.index t = ![t.val, 0] ∧ win0_1.index t = ![t.val, 0] ∧ win0_2.index t = ![0, t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, win0_0.index t = ![t.val, 0] ∧ win0_1.index t = ![t.val, 0] ∧ win0_2.index t = ![0, t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0]) t

theorem in_rows (t : Fin cfg0.N) (p : Fin 256) : t.val * 256 + p.val < 4096 := by
  have := lt_of_lt_of_eq t.isLt (show cfg0.N = 16 from N_0)
  omega

abbrev aW : Vec Ideal S4096x704 .f32 := m ((c.tc : Thread nD τ).loc main_arg0)
abbrev aOwn : Vec Ideal S4096x704 .bf16 := m ((c.tc : Thread nD τ).loc main_arg1)
abbrev aSlots : Vec Ideal S7x4096x704 .bf16 := m ((c.tc : Thread nD τ).loc main_arg2)
abbrev aM : Vec Ideal S4096x704 .f32 := m ((c.tc : Thread nD τ).loc main_arg3)
abbrev aV : Vec Ideal S4096x704 .f32 := m ((c.tc : Thread nD τ).loc main_arg4)

section
variable (t : Fin cfg0.N) (p : Fin 256) (q : Fin 704)

theorem iblk0 : (iblk m c 0 t : Vec Ideal S256x704 .f32) (ix2 p q) = aW m c (ix2 ⟨t.val * 256 + p.val, in_rows t p⟩ q) := by
  unfold iblk
  rw [View.read_apply]
  show V m c main_arg0 _ = _
  rw [V_main_arg0]
  exact congrArg (aW m c) (at_row _ (in_rows t p) q.isLt (index_row t).1 rfl rfl)

theorem iblk1 : (iblk m c 1 t : Vec Ideal S256x704 .bf16) (ix2 p q) = aOwn m c (ix2 ⟨t.val * 256 + p.val, in_rows t p⟩ q) := by
  unfold iblk
  rw [View.read_apply]
  show V m c main_arg1 _ = _
  rw [V_main_arg1]
  exact congrArg (aOwn m c) (at_row _ (in_rows t p) q.isLt (index_row t).2.1 rfl rfl)

theorem iblk2 (k : Fin 7) : (iblk m c 2 t : Vec Ideal S7x256x704 .bf16) (ix3 k p q) = aSlots m c (ix3 k ⟨t.val * 256 + p.val, in_rows t p⟩ q) := by
  unfold iblk
  rw [View.read_apply]
  show V m c main_arg2 _ = _
  rw [V_main_arg2]
  exact congrArg (aSlots m c) (at_slot _ k.isLt (in_rows t p) q.isLt (index_row t).2.2.1 rfl rfl rfl)

theorem iblk3 : (iblk m c 3 t : Vec Ideal S256x704 .f32) (ix2 p q) = aM m c (ix2 ⟨t.val * 256 + p.val, in_rows t p⟩ q) := by
  unfold iblk
  rw [View.read_apply]
  show V m c main_arg3 _ = _
  rw [V_main_arg3]
  exact congrArg (aM m c) (at_row _ (in_rows t p) q.isLt (index_row t).2.2.2.1 rfl rfl)

theorem iblk4 : (iblk m c 4 t : Vec Ideal S256x704 .f32) (ix2 p q) = aV m c (ix2 ⟨t.val * 256 + p.val, in_rows t p⟩ q) := by
  unfold iblk
  rw [View.read_apply]
  show V m c main_arg4 _ = _
  rw [V_main_arg4]
  exact congrArg (aV m c) (at_row _ (in_rows t p) q.isLt (index_row t).2.2.2.2.1 rfl rfl)

theorem sum_iblk : (grads (iblk m c 1 t : Vec Ideal S256x704 .bf16) (iblk m c 2 t : Vec Ideal S7x256x704 .bf16) : Vec Ideal S256x704 .f32) (ix2 p q)
    = grads (aOwn m c) (aSlots m c) (ix2 ⟨t.val * 256 + p.val, in_rows t p⟩ q) :=
  congrArg₂ (fun u v : EReal => u + v) (iblk1 m c t p q) (Finset.sum_congr rfl fun k _ => iblk2 m c t p q k)

end

theorem final_grad : (dats m 0 c).arrAt 5 cfg0.N = grads (aOwn m c) (aSlots m c) := by
  refine (dats m 0 c).arrAt_eq_of_covers 5 _ (by decide +kernel) fun t hf y => ?_
  obtain ⟨p, q, rfl⟩ : ∃ (p : Fin 256) (q : Fin 704), y = ix2 p q := ⟨y 0, y 1, eq_ix2 y⟩
  have e : ((cfg0.win 5).blk t).view.emb (ix2 p q) = ix2 (⟨t.val * 256 + p.val, in_rows t p⟩ : Fin 4096) q :=
    at_row _ (in_rows t p) q.isLt (index_row t).2.2.2.2.2.1 rfl rfl
  blk_simp
  rw [after0_5, e]
  refine (block_grad _ _ _ _ _ p q).trans ?_
  exact sum_iblk m c t p q

theorem final_change : (dats m 0 c).arrAt 6 cfg0.N = changes (aW m c) (grads (aOwn m c) (aSlots m c)) (aM m c) (aV m c) := by
  refine (dats m 0 c).arrAt_eq_of_covers 6 _ (by decide +kernel) fun t hf y => ?_
  obtain ⟨p, q, rfl⟩ : ∃ (p : Fin 256) (q : Fin 704), y = ix2 p q := ⟨y 0, y 1, eq_ix2 y⟩
  have e : ((cfg0.win 6).blk t).view.emb (ix2 p q) = ix2 (⟨t.val * 256 + p.val, in_rows t p⟩ : Fin 4096) q :=
    at_row _ (in_rows t p) q.isLt (index_row t).2.2.2.2.2.2.1 rfl rfl
  blk_simp
  rw [after0_6, e]
  refine (block_change _ _ _ _ _ p q).trans ?_
  rw [sum_iblk m c t p q, iblk0 m c t p q, iblk3 m c t p q, iblk4 m c t p q]
  rfl

theorem final_mom : (dats m 0 c).arrAt 7 cfg0.N = moms (grads (aOwn m c) (aSlots m c)) (aM m c) := by
  refine (dats m 0 c).arrAt_eq_of_covers 7 _ (by decide +kernel) fun t hf y => ?_
  obtain ⟨p, q, rfl⟩ : ∃ (p : Fin 256) (q : Fin 704), y = ix2 p q := ⟨y 0, y 1, eq_ix2 y⟩
  have e : ((cfg0.win 7).blk t).view.emb (ix2 p q) = ix2 (⟨t.val * 256 + p.val, in_rows t p⟩ : Fin 4096) q :=
    at_row _ (in_rows t p) q.isLt (index_row t).2.2.2.2.2.2.2.1 rfl rfl
  blk_simp
  rw [after0_7, e]
  refine (block_mom _ _ _ _ _ p q).trans ?_
  rw [sum_iblk m c t p q, iblk3 m c t p q]
  rfl

theorem final_var : (dats m 0 c).arrAt 8 cfg0.N = vars (grads (aOwn m c) (aSlots m c)) (aV m c) := by
  refine (dats m 0 c).arrAt_eq_of_covers 8 _ (by decide +kernel) fun t hf y => ?_
  obtain ⟨p, q, rfl⟩ : ∃ (p : Fin 256) (q : Fin 704), y = ix2 p q := ⟨y 0, y 1, eq_ix2 y⟩
  have e : ((cfg0.win 8).blk t).view.emb (ix2 p q) = ix2 (⟨t.val * 256 + p.val, in_rows t p⟩ : Fin 4096) q :=
    at_row _ (in_rows t p) q.isLt (index_row t).2.2.2.2.2.2.2.2 rfl rfl
  blk_simp
  rw [after0_8, e]
  refine (block_var _ _ _ _ _ p q).trans ?_
  rw [sum_iblk m c t p q, iblk4 m c t p q]
  rfl

theorem reference_frame : Cert.quiescent_Reference13Ideal (hReference13Ideal := Cert.Reference13Ideal.Gen.facts) := fun m g _ =>
  (θ_run _ _ _).mono (fun _ h => ⟨fun c => (h c).2.2.2.2, sem_eq_zero_of_no_sems (by decide) _⟩) (Cert.Reference13Ideal.Value.run m g)

theorem algebraic : Cert.algebraic_Kernel13Ideal_Reference13Ideal (hKernel13Ideal := Cert.Kernel13Ideal.Gen.facts) (hReference13Ideal := Cert.Reference13Ideal.Gen.facts) := by
  intro m g m' g' _ hargs
  refine ⟨fun c => grads (aOwn m c) (aSlots m c), fun c => changes (aW m c) (grads (aOwn m c) (aSlots m c)) (aM m c) (aV m c),
    fun c => moms (grads (aOwn m c) (aSlots m c)) (aM m c), fun c => vars (grads (aOwn m c) (aSlots m c)) (aV m c), ?_, ?_⟩
  · exact (θ_run _ _ _).mono (fun r h c => ⟨(h c).1.trans (final_grad m c), (h c).2.1.trans (final_change m c), (h c).2.2.1.trans (final_mom m c),
      (h c).2.2.2.1.trans (final_var m c), (h c).2.2.2.2⟩) (Cert.Kernel13Ideal.Value.run_blocks m g)
  · refine (θ_run _ _ _).mono (fun r h c => ?_) (Cert.Reference13Ideal.Value.run m' g')
    obtain ⟨e0, e1, e2, e3, e4⟩ := hargs c
    refine ⟨((h c).1.trans (ref_grads _ _ _ _ _ _)).trans ?_, ((h c).2.1.trans (ref_changes _ _ _ _ _)).trans ?_,
      ((h c).2.2.1.trans (ref_moms _ _ _)).trans ?_, ((h c).2.2.2.1.trans (ref_vars _ _ _)).trans ?_, (h c).2.2.2.2⟩
    · rw [e1, e2]
    · refine (congrArg (fun g => changes _ g _ _) (ref_grads _ _ _ _ _ _)).trans ?_
      rw [e0, e1, e2, e3, e4]
    · refine (congrArg (fun g => moms g _) (ref_grads _ _ _ _ _ _)).trans ?_
      rw [e1, e2, e3]
    · refine (congrArg (fun g => vars g _) (ref_grads _ _ _ _ _ _)).trans ?_
      rw [e1, e2, e4]

end Cert.Kernel13Ideal.GateUp
-- ==== Proof.Adam.Down.lean ====
/-
  The optimiser's step on the down projection's weights.
-/
module

public import proofs.«01_k».proof.Defs
public import proofs.«01_k».proof.Proof.Gen.Kernel14Ideal.Value
public import proofs.«01_k».proof.Proof.Gen.Reference14Ideal.Run
public import proofs.«01_k».proof.Proof.Adam.Ref
public import Idealize.ShloMosaic.Lib.Pointwise
public import Idealize.ShloMosaic.Lib.Pipeline.ValueKit
public import Idealize.ShloMosaic.Lib.Quiescent

@[expose] public section
set_option maxRecDepth 16384
noncomputable section

namespace Cert.Kernel14Ideal.Down
open Cert.Kernel14Ideal Cert.Kernel14Ideal.Gen Cert.Kernel14Ideal.Value Idealize.ShloMosaic Idealize.ShloMosaic.TcCoe Idealize.ShloMosaic.StableHlo Idealize.SL.Sem
open _root_.Adam

section
variable (x0 x3 x4 : Vec Ideal S176x1024 .f32) (x1 : Vec Ideal S176x1024 .bf16) (x2 : Vec Ideal S7x176x1024 .bf16) (p : Fin 176) (q : Fin 1024)

theorem block_grad : out0_5 x0 x1 x2 x3 x4 (ix2 p q) = grads x1 x2 (ix2 p q) := by
  unfold out0_5
  frame_out
  unfold k0_pay4
  pointwise []
  exact sum_seven _ fun k => x2 (ix3 k p q)

theorem sum_eq : k0_pay5 x0 x1 x2 x3 x4 (ix2 p q) = grads x1 x2 (ix2 p q) := by
  unfold k0_pay5
  frame_out
  unfold k0_pay4
  pointwise []
  exact sum_seven _ fun k => x2 (ix3 k p q)

theorem block_mom : out0_7 x0 x1 x2 x3 x4 (ix2 p q) = mom (grads x1 x2 (ix2 p q)) (x3 (ix2 p q)) := by
  rw [← sum_eq x0 x3 x4]
  unfold out0_7
  frame_out
  generalize k0_pay5 x0 x1 x2 x3 x4 = g
  unfold k0_pay1 mom
  pointwise []

theorem block_var : out0_8 x0 x1 x2 x3 x4 (ix2 p q) = var (grads x1 x2 (ix2 p q)) (x4 (ix2 p q)) := by
  rw [← sum_eq x0 x3 x4]
  unfold out0_8
  frame_out
  generalize k0_pay5 x0 x1 x2 x3 x4 = g
  unfold k0_pay2 var
  pointwise []

theorem block_change : out0_6 x0 x1 x2 x3 x4 (ix2 p q)
    = change (x0 (ix2 p q)) (grads x1 x2 (ix2 p q)) (x3 (ix2 p q)) (x4 (ix2 p q)) := by
  rw [← sum_eq x0 x3 x4]
  unfold out0_6
  frame_out
  generalize k0_pay5 x0 x1 x2 x3 x4 = g
  unfold k0_pay3 k0_pay1 k0_pay2 change mom var
  pointwise []

end

variable (m : (ℓ : Loc nD τ sig) → Buf (Elt Ideal) ℓ) (c : Dev nD)

/-- Every window is at the grid point's block of 176 rows. -/
theorem index_row (t : Fin cfg0.N) : win0_0.index t = ![t.val, 0] ∧ win0_1.index t = ![t.val, 0] ∧ win0_2.index t = ![0, t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, win0_0.index t = ![t.val, 0] ∧ win0_1.index t = ![t.val, 0] ∧ win0_2.index t = ![0, t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0]) t

theorem in_rows (t : Fin cfg0.N) (p : Fin 176) : t.val * 176 + p.val < 1408 := by
  have := lt_of_lt_of_eq t.isLt (show cfg0.N = 8 from N_0)
  omega

abbrev aW : Vec Ideal S1408x1024 .f32 := m ((c.tc : Thread nD τ).loc main_arg0)
abbrev aOwn : Vec Ideal S1408x1024 .bf16 := m ((c.tc : Thread nD τ).loc main_arg1)
abbrev aSlots : Vec Ideal S7x1408x1024 .bf16 := m ((c.tc : Thread nD τ).loc main_arg2)
abbrev aM : Vec Ideal S1408x1024 .f32 := m ((c.tc : Thread nD τ).loc main_arg3)
abbrev aV : Vec Ideal S1408x1024 .f32 := m ((c.tc : Thread nD τ).loc main_arg4)

section
variable (t : Fin cfg0.N) (p : Fin 176) (q : Fin 1024)

theorem iblk0 : (iblk m c 0 t : Vec Ideal S176x1024 .f32) (ix2 p q) = aW m c (ix2 ⟨t.val * 176 + p.val, in_rows t p⟩ q) := by
  unfold iblk
  rw [View.read_apply]
  show V m c main_arg0 _ = _
  rw [V_main_arg0]
  exact congrArg (aW m c) (at_row _ (in_rows t p) q.isLt (index_row t).1 rfl rfl)

theorem iblk1 : (iblk m c 1 t : Vec Ideal S176x1024 .bf16) (ix2 p q) = aOwn m c (ix2 ⟨t.val * 176 + p.val, in_rows t p⟩ q) := by
  unfold iblk
  rw [View.read_apply]
  show V m c main_arg1 _ = _
  rw [V_main_arg1]
  exact congrArg (aOwn m c) (at_row _ (in_rows t p) q.isLt (index_row t).2.1 rfl rfl)

theorem iblk2 (k : Fin 7) : (iblk m c 2 t : Vec Ideal S7x176x1024 .bf16) (ix3 k p q) = aSlots m c (ix3 k ⟨t.val * 176 + p.val, in_rows t p⟩ q) := by
  unfold iblk
  rw [View.read_apply]
  show V m c main_arg2 _ = _
  rw [V_main_arg2]
  exact congrArg (aSlots m c) (at_slot _ k.isLt (in_rows t p) q.isLt (index_row t).2.2.1 rfl rfl rfl)

theorem iblk3 : (iblk m c 3 t : Vec Ideal S176x1024 .f32) (ix2 p q) = aM m c (ix2 ⟨t.val * 176 + p.val, in_rows t p⟩ q) := by
  unfold iblk
  rw [View.read_apply]
  show V m c main_arg3 _ = _
  rw [V_main_arg3]
  exact congrArg (aM m c) (at_row _ (in_rows t p) q.isLt (index_row t).2.2.2.1 rfl rfl)

theorem iblk4 : (iblk m c 4 t : Vec Ideal S176x1024 .f32) (ix2 p q) = aV m c (ix2 ⟨t.val * 176 + p.val, in_rows t p⟩ q) := by
  unfold iblk
  rw [View.read_apply]
  show V m c main_arg4 _ = _
  rw [V_main_arg4]
  exact congrArg (aV m c) (at_row _ (in_rows t p) q.isLt (index_row t).2.2.2.2.1 rfl rfl)

theorem sum_iblk : (grads (iblk m c 1 t : Vec Ideal S176x1024 .bf16) (iblk m c 2 t : Vec Ideal S7x176x1024 .bf16) : Vec Ideal S176x1024 .f32) (ix2 p q)
    = grads (aOwn m c) (aSlots m c) (ix2 ⟨t.val * 176 + p.val, in_rows t p⟩ q) :=
  congrArg₂ (fun u v : EReal => u + v) (iblk1 m c t p q) (Finset.sum_congr rfl fun k _ => iblk2 m c t p q k)

end

theorem final_grad : (dats m 0 c).arrAt 5 cfg0.N = grads (aOwn m c) (aSlots m c) := by
  refine (dats m 0 c).arrAt_eq_of_covers 5 _ (by decide +kernel) fun t hf y => ?_
  obtain ⟨p, q, rfl⟩ : ∃ (p : Fin 176) (q : Fin 1024), y = ix2 p q := ⟨y 0, y 1, eq_ix2 y⟩
  have e : ((cfg0.win 5).blk t).view.emb (ix2 p q) = ix2 (⟨t.val * 176 + p.val, in_rows t p⟩ : Fin 1408) q :=
    at_row _ (in_rows t p) q.isLt (index_row t).2.2.2.2.2.1 rfl rfl
  blk_simp
  rw [after0_5, e]
  refine (block_grad _ _ _ _ _ p q).trans ?_
  exact sum_iblk m c t p q

theorem final_change : (dats m 0 c).arrAt 6 cfg0.N = changes (aW m c) (grads (aOwn m c) (aSlots m c)) (aM m c) (aV m c) := by
  refine (dats m 0 c).arrAt_eq_of_covers 6 _ (by decide +kernel) fun t hf y => ?_
  obtain ⟨p, q, rfl⟩ : ∃ (p : Fin 176) (q : Fin 1024), y = ix2 p q := ⟨y 0, y 1, eq_ix2 y⟩
  have e : ((cfg0.win 6).blk t).view.emb (ix2 p q) = ix2 (⟨t.val * 176 + p.val, in_rows t p⟩ : Fin 1408) q :=
    at_row _ (in_rows t p) q.isLt (index_row t).2.2.2.2.2.2.1 rfl rfl
  blk_simp
  rw [after0_6, e]
  refine (block_change _ _ _ _ _ p q).trans ?_
  rw [sum_iblk m c t p q, iblk0 m c t p q, iblk3 m c t p q, iblk4 m c t p q]
  rfl

theorem final_mom : (dats m 0 c).arrAt 7 cfg0.N = moms (grads (aOwn m c) (aSlots m c)) (aM m c) := by
  refine (dats m 0 c).arrAt_eq_of_covers 7 _ (by decide +kernel) fun t hf y => ?_
  obtain ⟨p, q, rfl⟩ : ∃ (p : Fin 176) (q : Fin 1024), y = ix2 p q := ⟨y 0, y 1, eq_ix2 y⟩
  have e : ((cfg0.win 7).blk t).view.emb (ix2 p q) = ix2 (⟨t.val * 176 + p.val, in_rows t p⟩ : Fin 1408) q :=
    at_row _ (in_rows t p) q.isLt (index_row t).2.2.2.2.2.2.2.1 rfl rfl
  blk_simp
  rw [after0_7, e]
  refine (block_mom _ _ _ _ _ p q).trans ?_
  rw [sum_iblk m c t p q, iblk3 m c t p q]
  rfl

theorem final_var : (dats m 0 c).arrAt 8 cfg0.N = vars (grads (aOwn m c) (aSlots m c)) (aV m c) := by
  refine (dats m 0 c).arrAt_eq_of_covers 8 _ (by decide +kernel) fun t hf y => ?_
  obtain ⟨p, q, rfl⟩ : ∃ (p : Fin 176) (q : Fin 1024), y = ix2 p q := ⟨y 0, y 1, eq_ix2 y⟩
  have e : ((cfg0.win 8).blk t).view.emb (ix2 p q) = ix2 (⟨t.val * 176 + p.val, in_rows t p⟩ : Fin 1408) q :=
    at_row _ (in_rows t p) q.isLt (index_row t).2.2.2.2.2.2.2.2 rfl rfl
  blk_simp
  rw [after0_8, e]
  refine (block_var _ _ _ _ _ p q).trans ?_
  rw [sum_iblk m c t p q, iblk4 m c t p q]
  rfl

theorem reference_frame : Cert.quiescent_Reference14Ideal (hReference14Ideal := Cert.Reference14Ideal.Gen.facts) := fun m g _ =>
  (θ_run _ _ _).mono (fun _ h => ⟨fun c => (h c).2.2.2.2, sem_eq_zero_of_no_sems (by decide) _⟩) (Cert.Reference14Ideal.Value.run m g)

theorem algebraic : Cert.algebraic_Kernel14Ideal_Reference14Ideal (hKernel14Ideal := Cert.Kernel14Ideal.Gen.facts) (hReference14Ideal := Cert.Reference14Ideal.Gen.facts) := by
  intro m g m' g' _ hargs
  refine ⟨fun c => grads (aOwn m c) (aSlots m c), fun c => changes (aW m c) (grads (aOwn m c) (aSlots m c)) (aM m c) (aV m c),
    fun c => moms (grads (aOwn m c) (aSlots m c)) (aM m c), fun c => vars (grads (aOwn m c) (aSlots m c)) (aV m c), ?_, ?_⟩
  · exact (θ_run _ _ _).mono (fun r h c => ⟨(h c).1.trans (final_grad m c), (h c).2.1.trans (final_change m c), (h c).2.2.1.trans (final_mom m c),
      (h c).2.2.2.1.trans (final_var m c), (h c).2.2.2.2⟩) (Cert.Kernel14Ideal.Value.run_blocks m g)
  · refine (θ_run _ _ _).mono (fun r h c => ?_) (Cert.Reference14Ideal.Value.run m' g')
    obtain ⟨e0, e1, e2, e3, e4⟩ := hargs c
    refine ⟨((h c).1.trans (ref_grads _ _ _ _ _ _)).trans ?_, ((h c).2.1.trans (ref_changes _ _ _ _ _)).trans ?_,
      ((h c).2.2.1.trans (ref_moms _ _ _)).trans ?_, ((h c).2.2.2.1.trans (ref_vars _ _ _)).trans ?_, (h c).2.2.2.2⟩
    · rw [e1, e2]
    · refine (congrArg (fun g => changes _ g _ _) (ref_grads _ _ _ _ _ _)).trans ?_
      rw [e0, e1, e2, e3, e4]
    · refine (congrArg (fun g => moms g _) (ref_grads _ _ _ _ _ _)).trans ?_
      rw [e1, e2, e3]
    · refine (congrArg (fun g => vars g _) (ref_grads _ _ _ _ _ _)).trans ?_
      rw [e1, e2, e4]

end Cert.Kernel14Ideal.Down
-- ==== Proof.Adam.Query.lean ====
/-
  The optimiser's step on the query projection's weights.
-/
module

public import proofs.«01_k».proof.Defs
public import proofs.«01_k».proof.Proof.Gen.Kernel15Ideal.Value
public import proofs.«01_k».proof.Proof.Gen.Reference15Ideal.Run
public import proofs.«01_k».proof.Proof.Adam.Ref
public import Idealize.ShloMosaic.Lib.Pointwise
public import Idealize.ShloMosaic.Lib.Pipeline.ValueKit
public import Idealize.ShloMosaic.Lib.Quiescent

@[expose] public section
set_option maxRecDepth 16384
noncomputable section

namespace Cert.Kernel15Ideal.Query
open Cert.Kernel15Ideal Cert.Kernel15Ideal.Gen Cert.Kernel15Ideal.Value Idealize.ShloMosaic Idealize.ShloMosaic.TcCoe Idealize.ShloMosaic.StableHlo Idealize.SL.Sem
open _root_.Adam

section
variable (x0 x3 x4 : Vec Ideal S256x1024 .f32) (x1 : Vec Ideal S256x1024 .bf16) (x2 : Vec Ideal S7x256x1024 .bf16) (p : Fin 256) (q : Fin 1024)

theorem block_grad : out0_5 x0 x1 x2 x3 x4 (ix2 p q) = grads x1 x2 (ix2 p q) := by
  unfold out0_5
  frame_out
  unfold k0_pay4
  pointwise []
  exact sum_seven _ fun k => x2 (ix3 k p q)

theorem sum_eq : k0_pay5 x0 x1 x2 x3 x4 (ix2 p q) = grads x1 x2 (ix2 p q) := by
  unfold k0_pay5
  frame_out
  unfold k0_pay4
  pointwise []
  exact sum_seven _ fun k => x2 (ix3 k p q)

theorem block_mom : out0_7 x0 x1 x2 x3 x4 (ix2 p q) = mom (grads x1 x2 (ix2 p q)) (x3 (ix2 p q)) := by
  rw [← sum_eq x0 x3 x4]
  unfold out0_7
  frame_out
  generalize k0_pay5 x0 x1 x2 x3 x4 = g
  unfold k0_pay1 mom
  pointwise []

theorem block_var : out0_8 x0 x1 x2 x3 x4 (ix2 p q) = var (grads x1 x2 (ix2 p q)) (x4 (ix2 p q)) := by
  rw [← sum_eq x0 x3 x4]
  unfold out0_8
  frame_out
  generalize k0_pay5 x0 x1 x2 x3 x4 = g
  unfold k0_pay2 var
  pointwise []

theorem block_change : out0_6 x0 x1 x2 x3 x4 (ix2 p q)
    = change (x0 (ix2 p q)) (grads x1 x2 (ix2 p q)) (x3 (ix2 p q)) (x4 (ix2 p q)) := by
  rw [← sum_eq x0 x3 x4]
  unfold out0_6
  frame_out
  generalize k0_pay5 x0 x1 x2 x3 x4 = g
  unfold k0_pay3 k0_pay1 k0_pay2 change mom var
  pointwise []

end

variable (m : (ℓ : Loc nD τ sig) → Buf (Elt Ideal) ℓ) (c : Dev nD)

/-- Every window is at the grid point's block of 256 rows. -/
theorem index_row (t : Fin cfg0.N) : win0_0.index t = ![t.val, 0] ∧ win0_1.index t = ![t.val, 0] ∧ win0_2.index t = ![0, t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, win0_0.index t = ![t.val, 0] ∧ win0_1.index t = ![t.val, 0] ∧ win0_2.index t = ![0, t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0]) t

theorem in_rows (t : Fin cfg0.N) (p : Fin 256) : t.val * 256 + p.val < 256 := by
  have := lt_of_lt_of_eq t.isLt (show cfg0.N = 1 from N_0)
  omega

abbrev aW : Vec Ideal S256x1024 .f32 := m ((c.tc : Thread nD τ).loc main_arg0)
abbrev aOwn : Vec Ideal S256x1024 .bf16 := m ((c.tc : Thread nD τ).loc main_arg1)
abbrev aSlots : Vec Ideal S7x256x1024 .bf16 := m ((c.tc : Thread nD τ).loc main_arg2)
abbrev aM : Vec Ideal S256x1024 .f32 := m ((c.tc : Thread nD τ).loc main_arg3)
abbrev aV : Vec Ideal S256x1024 .f32 := m ((c.tc : Thread nD τ).loc main_arg4)

section
variable (t : Fin cfg0.N) (p : Fin 256) (q : Fin 1024)

theorem iblk0 : (iblk m c 0 t : Vec Ideal S256x1024 .f32) (ix2 p q) = aW m c (ix2 ⟨t.val * 256 + p.val, in_rows t p⟩ q) := by
  unfold iblk
  rw [View.read_apply]
  show V m c main_arg0 _ = _
  rw [V_main_arg0]
  exact congrArg (aW m c) (at_row _ (in_rows t p) q.isLt (index_row t).1 rfl rfl)

theorem iblk1 : (iblk m c 1 t : Vec Ideal S256x1024 .bf16) (ix2 p q) = aOwn m c (ix2 ⟨t.val * 256 + p.val, in_rows t p⟩ q) := by
  unfold iblk
  rw [View.read_apply]
  show V m c main_arg1 _ = _
  rw [V_main_arg1]
  exact congrArg (aOwn m c) (at_row _ (in_rows t p) q.isLt (index_row t).2.1 rfl rfl)

theorem iblk2 (k : Fin 7) : (iblk m c 2 t : Vec Ideal S7x256x1024 .bf16) (ix3 k p q) = aSlots m c (ix3 k ⟨t.val * 256 + p.val, in_rows t p⟩ q) := by
  unfold iblk
  rw [View.read_apply]
  show V m c main_arg2 _ = _
  rw [V_main_arg2]
  exact congrArg (aSlots m c) (at_slot _ k.isLt (in_rows t p) q.isLt (index_row t).2.2.1 rfl rfl rfl)

theorem iblk3 : (iblk m c 3 t : Vec Ideal S256x1024 .f32) (ix2 p q) = aM m c (ix2 ⟨t.val * 256 + p.val, in_rows t p⟩ q) := by
  unfold iblk
  rw [View.read_apply]
  show V m c main_arg3 _ = _
  rw [V_main_arg3]
  exact congrArg (aM m c) (at_row _ (in_rows t p) q.isLt (index_row t).2.2.2.1 rfl rfl)

theorem iblk4 : (iblk m c 4 t : Vec Ideal S256x1024 .f32) (ix2 p q) = aV m c (ix2 ⟨t.val * 256 + p.val, in_rows t p⟩ q) := by
  unfold iblk
  rw [View.read_apply]
  show V m c main_arg4 _ = _
  rw [V_main_arg4]
  exact congrArg (aV m c) (at_row _ (in_rows t p) q.isLt (index_row t).2.2.2.2.1 rfl rfl)

theorem sum_iblk : (grads (iblk m c 1 t : Vec Ideal S256x1024 .bf16) (iblk m c 2 t : Vec Ideal S7x256x1024 .bf16) : Vec Ideal S256x1024 .f32) (ix2 p q)
    = grads (aOwn m c) (aSlots m c) (ix2 ⟨t.val * 256 + p.val, in_rows t p⟩ q) :=
  congrArg₂ (fun u v : EReal => u + v) (iblk1 m c t p q) (Finset.sum_congr rfl fun k _ => iblk2 m c t p q k)

end

theorem final_grad : (dats m 0 c).arrAt 5 cfg0.N = grads (aOwn m c) (aSlots m c) := by
  refine (dats m 0 c).arrAt_eq_of_covers 5 _ (by decide +kernel) fun t hf y => ?_
  obtain ⟨p, q, rfl⟩ : ∃ (p : Fin 256) (q : Fin 1024), y = ix2 p q := ⟨y 0, y 1, eq_ix2 y⟩
  have e : ((cfg0.win 5).blk t).view.emb (ix2 p q) = ix2 (⟨t.val * 256 + p.val, in_rows t p⟩ : Fin 256) q :=
    at_row _ (in_rows t p) q.isLt (index_row t).2.2.2.2.2.1 rfl rfl
  blk_simp
  rw [after0_5, e]
  refine (block_grad _ _ _ _ _ p q).trans ?_
  exact sum_iblk m c t p q

theorem final_change : (dats m 0 c).arrAt 6 cfg0.N = changes (aW m c) (grads (aOwn m c) (aSlots m c)) (aM m c) (aV m c) := by
  refine (dats m 0 c).arrAt_eq_of_covers 6 _ (by decide +kernel) fun t hf y => ?_
  obtain ⟨p, q, rfl⟩ : ∃ (p : Fin 256) (q : Fin 1024), y = ix2 p q := ⟨y 0, y 1, eq_ix2 y⟩
  have e : ((cfg0.win 6).blk t).view.emb (ix2 p q) = ix2 (⟨t.val * 256 + p.val, in_rows t p⟩ : Fin 256) q :=
    at_row _ (in_rows t p) q.isLt (index_row t).2.2.2.2.2.2.1 rfl rfl
  blk_simp
  rw [after0_6, e]
  refine (block_change _ _ _ _ _ p q).trans ?_
  rw [sum_iblk m c t p q, iblk0 m c t p q, iblk3 m c t p q, iblk4 m c t p q]
  rfl

theorem final_mom : (dats m 0 c).arrAt 7 cfg0.N = moms (grads (aOwn m c) (aSlots m c)) (aM m c) := by
  refine (dats m 0 c).arrAt_eq_of_covers 7 _ (by decide +kernel) fun t hf y => ?_
  obtain ⟨p, q, rfl⟩ : ∃ (p : Fin 256) (q : Fin 1024), y = ix2 p q := ⟨y 0, y 1, eq_ix2 y⟩
  have e : ((cfg0.win 7).blk t).view.emb (ix2 p q) = ix2 (⟨t.val * 256 + p.val, in_rows t p⟩ : Fin 256) q :=
    at_row _ (in_rows t p) q.isLt (index_row t).2.2.2.2.2.2.2.1 rfl rfl
  blk_simp
  rw [after0_7, e]
  refine (block_mom _ _ _ _ _ p q).trans ?_
  rw [sum_iblk m c t p q, iblk3 m c t p q]
  rfl

theorem final_var : (dats m 0 c).arrAt 8 cfg0.N = vars (grads (aOwn m c) (aSlots m c)) (aV m c) := by
  refine (dats m 0 c).arrAt_eq_of_covers 8 _ (by decide +kernel) fun t hf y => ?_
  obtain ⟨p, q, rfl⟩ : ∃ (p : Fin 256) (q : Fin 1024), y = ix2 p q := ⟨y 0, y 1, eq_ix2 y⟩
  have e : ((cfg0.win 8).blk t).view.emb (ix2 p q) = ix2 (⟨t.val * 256 + p.val, in_rows t p⟩ : Fin 256) q :=
    at_row _ (in_rows t p) q.isLt (index_row t).2.2.2.2.2.2.2.2 rfl rfl
  blk_simp
  rw [after0_8, e]
  refine (block_var _ _ _ _ _ p q).trans ?_
  rw [sum_iblk m c t p q, iblk4 m c t p q]
  rfl

theorem reference_frame : Cert.quiescent_Reference15Ideal (hReference15Ideal := Cert.Reference15Ideal.Gen.facts) := fun m g _ =>
  (θ_run _ _ _).mono (fun _ h => ⟨fun c => (h c).2.2.2.2, sem_eq_zero_of_no_sems (by decide) _⟩) (Cert.Reference15Ideal.Value.run m g)

theorem algebraic : Cert.algebraic_Kernel15Ideal_Reference15Ideal (hKernel15Ideal := Cert.Kernel15Ideal.Gen.facts) (hReference15Ideal := Cert.Reference15Ideal.Gen.facts) := by
  intro m g m' g' _ hargs
  refine ⟨fun c => grads (aOwn m c) (aSlots m c), fun c => changes (aW m c) (grads (aOwn m c) (aSlots m c)) (aM m c) (aV m c),
    fun c => moms (grads (aOwn m c) (aSlots m c)) (aM m c), fun c => vars (grads (aOwn m c) (aSlots m c)) (aV m c), ?_, ?_⟩
  · exact (θ_run _ _ _).mono (fun r h c => ⟨(h c).1.trans (final_grad m c), (h c).2.1.trans (final_change m c), (h c).2.2.1.trans (final_mom m c),
      (h c).2.2.2.1.trans (final_var m c), (h c).2.2.2.2⟩) (Cert.Kernel15Ideal.Value.run_blocks m g)
  · refine (θ_run _ _ _).mono (fun r h c => ?_) (Cert.Reference15Ideal.Value.run m' g')
    obtain ⟨e0, e1, e2, e3, e4⟩ := hargs c
    refine ⟨((h c).1.trans (ref_grads _ _ _ _ _ _)).trans ?_, ((h c).2.1.trans (ref_changes _ _ _ _ _)).trans ?_,
      ((h c).2.2.1.trans (ref_moms _ _ _)).trans ?_, ((h c).2.2.2.1.trans (ref_vars _ _ _)).trans ?_, (h c).2.2.2.2⟩
    · rw [e1, e2]
    · refine (congrArg (fun g => changes _ g _ _) (ref_grads _ _ _ _ _ _)).trans ?_
      rw [e0, e1, e2, e3, e4]
    · refine (congrArg (fun g => moms g _) (ref_grads _ _ _ _ _ _)).trans ?_
      rw [e1, e2, e3]
    · refine (congrArg (fun g => vars g _) (ref_grads _ _ _ _ _ _)).trans ?_
      rw [e1, e2, e4]

end Cert.Kernel15Ideal.Query
-- ==== Proof.Adam.Keys.lean ====
/-
  The optimiser's step on the keys and values's weights.
-/
module

public import proofs.«01_k».proof.Defs
public import proofs.«01_k».proof.Proof.Gen.Kernel16Ideal.Value
public import proofs.«01_k».proof.Proof.Gen.Reference16Ideal.Run
public import proofs.«01_k».proof.Proof.Adam.Ref
public import Idealize.ShloMosaic.Lib.Pointwise
public import Idealize.ShloMosaic.Lib.Pipeline.ValueKit
public import Idealize.ShloMosaic.Lib.Quiescent

@[expose] public section
set_option maxRecDepth 16384
noncomputable section

namespace Cert.Kernel16Ideal.Keys
open Cert.Kernel16Ideal Cert.Kernel16Ideal.Gen Cert.Kernel16Ideal.Value Idealize.ShloMosaic Idealize.ShloMosaic.TcCoe Idealize.ShloMosaic.StableHlo Idealize.SL.Sem
open _root_.Adam

section
variable (x0 x3 x4 : Vec Ideal S128x256 .f32) (x1 : Vec Ideal S128x256 .bf16) (x2 : Vec Ideal S7x128x256 .bf16) (p : Fin 128) (q : Fin 256)

theorem block_grad : out0_5 x0 x1 x2 x3 x4 (ix2 p q) = grads x1 x2 (ix2 p q) := by
  unfold out0_5
  frame_out
  unfold k0_pay4
  pointwise []
  exact sum_seven _ fun k => x2 (ix3 k p q)

theorem sum_eq : k0_pay5 x0 x1 x2 x3 x4 (ix2 p q) = grads x1 x2 (ix2 p q) := by
  unfold k0_pay5
  frame_out
  unfold k0_pay4
  pointwise []
  exact sum_seven _ fun k => x2 (ix3 k p q)

theorem block_mom : out0_7 x0 x1 x2 x3 x4 (ix2 p q) = mom (grads x1 x2 (ix2 p q)) (x3 (ix2 p q)) := by
  rw [← sum_eq x0 x3 x4]
  unfold out0_7
  frame_out
  generalize k0_pay5 x0 x1 x2 x3 x4 = g
  unfold k0_pay1 mom
  pointwise []

theorem block_var : out0_8 x0 x1 x2 x3 x4 (ix2 p q) = var (grads x1 x2 (ix2 p q)) (x4 (ix2 p q)) := by
  rw [← sum_eq x0 x3 x4]
  unfold out0_8
  frame_out
  generalize k0_pay5 x0 x1 x2 x3 x4 = g
  unfold k0_pay2 var
  pointwise []

theorem block_change : out0_6 x0 x1 x2 x3 x4 (ix2 p q)
    = change (x0 (ix2 p q)) (grads x1 x2 (ix2 p q)) (x3 (ix2 p q)) (x4 (ix2 p q)) := by
  rw [← sum_eq x0 x3 x4]
  unfold out0_6
  frame_out
  generalize k0_pay5 x0 x1 x2 x3 x4 = g
  unfold k0_pay3 k0_pay1 k0_pay2 change mom var
  pointwise []

end

variable (m : (ℓ : Loc nD τ sig) → Buf (Elt Ideal) ℓ) (c : Dev nD)

/-- Every window is at the grid point's block of 128 rows. -/
theorem index_row (t : Fin cfg0.N) : win0_0.index t = ![t.val, 0] ∧ win0_1.index t = ![t.val, 0] ∧ win0_2.index t = ![0, t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, win0_0.index t = ![t.val, 0] ∧ win0_1.index t = ![t.val, 0] ∧ win0_2.index t = ![0, t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0]) t

theorem in_rows (t : Fin cfg0.N) (p : Fin 128) : t.val * 128 + p.val < 128 := by
  have := lt_of_lt_of_eq t.isLt (show cfg0.N = 1 from N_0)
  omega

abbrev aW : Vec Ideal S128x256 .f32 := m ((c.tc : Thread nD τ).loc main_arg0)
abbrev aOwn : Vec Ideal S128x256 .bf16 := m ((c.tc : Thread nD τ).loc main_arg1)
abbrev aSlots : Vec Ideal S7x128x256 .bf16 := m ((c.tc : Thread nD τ).loc main_arg2)
abbrev aM : Vec Ideal S128x256 .f32 := m ((c.tc : Thread nD τ).loc main_arg3)
abbrev aV : Vec Ideal S128x256 .f32 := m ((c.tc : Thread nD τ).loc main_arg4)

section
variable (t : Fin cfg0.N) (p : Fin 128) (q : Fin 256)

theorem iblk0 : (iblk m c 0 t : Vec Ideal S128x256 .f32) (ix2 p q) = aW m c (ix2 ⟨t.val * 128 + p.val, in_rows t p⟩ q) := by
  unfold iblk
  rw [View.read_apply]
  show V m c main_arg0 _ = _
  rw [V_main_arg0]
  exact congrArg (aW m c) (at_row _ (in_rows t p) q.isLt (index_row t).1 rfl rfl)

theorem iblk1 : (iblk m c 1 t : Vec Ideal S128x256 .bf16) (ix2 p q) = aOwn m c (ix2 ⟨t.val * 128 + p.val, in_rows t p⟩ q) := by
  unfold iblk
  rw [View.read_apply]
  show V m c main_arg1 _ = _
  rw [V_main_arg1]
  exact congrArg (aOwn m c) (at_row _ (in_rows t p) q.isLt (index_row t).2.1 rfl rfl)

theorem iblk2 (k : Fin 7) : (iblk m c 2 t : Vec Ideal S7x128x256 .bf16) (ix3 k p q) = aSlots m c (ix3 k ⟨t.val * 128 + p.val, in_rows t p⟩ q) := by
  unfold iblk
  rw [View.read_apply]
  show V m c main_arg2 _ = _
  rw [V_main_arg2]
  exact congrArg (aSlots m c) (at_slot _ k.isLt (in_rows t p) q.isLt (index_row t).2.2.1 rfl rfl rfl)

theorem iblk3 : (iblk m c 3 t : Vec Ideal S128x256 .f32) (ix2 p q) = aM m c (ix2 ⟨t.val * 128 + p.val, in_rows t p⟩ q) := by
  unfold iblk
  rw [View.read_apply]
  show V m c main_arg3 _ = _
  rw [V_main_arg3]
  exact congrArg (aM m c) (at_row _ (in_rows t p) q.isLt (index_row t).2.2.2.1 rfl rfl)

theorem iblk4 : (iblk m c 4 t : Vec Ideal S128x256 .f32) (ix2 p q) = aV m c (ix2 ⟨t.val * 128 + p.val, in_rows t p⟩ q) := by
  unfold iblk
  rw [View.read_apply]
  show V m c main_arg4 _ = _
  rw [V_main_arg4]
  exact congrArg (aV m c) (at_row _ (in_rows t p) q.isLt (index_row t).2.2.2.2.1 rfl rfl)

theorem sum_iblk : (grads (iblk m c 1 t : Vec Ideal S128x256 .bf16) (iblk m c 2 t : Vec Ideal S7x128x256 .bf16) : Vec Ideal S128x256 .f32) (ix2 p q)
    = grads (aOwn m c) (aSlots m c) (ix2 ⟨t.val * 128 + p.val, in_rows t p⟩ q) :=
  congrArg₂ (fun u v : EReal => u + v) (iblk1 m c t p q) (Finset.sum_congr rfl fun k _ => iblk2 m c t p q k)

end

theorem final_grad : (dats m 0 c).arrAt 5 cfg0.N = grads (aOwn m c) (aSlots m c) := by
  refine (dats m 0 c).arrAt_eq_of_covers 5 _ (by decide +kernel) fun t hf y => ?_
  obtain ⟨p, q, rfl⟩ : ∃ (p : Fin 128) (q : Fin 256), y = ix2 p q := ⟨y 0, y 1, eq_ix2 y⟩
  have e : ((cfg0.win 5).blk t).view.emb (ix2 p q) = ix2 (⟨t.val * 128 + p.val, in_rows t p⟩ : Fin 128) q :=
    at_row _ (in_rows t p) q.isLt (index_row t).2.2.2.2.2.1 rfl rfl
  blk_simp
  rw [after0_5, e]
  refine (block_grad _ _ _ _ _ p q).trans ?_
  exact sum_iblk m c t p q

theorem final_change : (dats m 0 c).arrAt 6 cfg0.N = changes (aW m c) (grads (aOwn m c) (aSlots m c)) (aM m c) (aV m c) := by
  refine (dats m 0 c).arrAt_eq_of_covers 6 _ (by decide +kernel) fun t hf y => ?_
  obtain ⟨p, q, rfl⟩ : ∃ (p : Fin 128) (q : Fin 256), y = ix2 p q := ⟨y 0, y 1, eq_ix2 y⟩
  have e : ((cfg0.win 6).blk t).view.emb (ix2 p q) = ix2 (⟨t.val * 128 + p.val, in_rows t p⟩ : Fin 128) q :=
    at_row _ (in_rows t p) q.isLt (index_row t).2.2.2.2.2.2.1 rfl rfl
  blk_simp
  rw [after0_6, e]
  refine (block_change _ _ _ _ _ p q).trans ?_
  rw [sum_iblk m c t p q, iblk0 m c t p q, iblk3 m c t p q, iblk4 m c t p q]
  rfl

theorem final_mom : (dats m 0 c).arrAt 7 cfg0.N = moms (grads (aOwn m c) (aSlots m c)) (aM m c) := by
  refine (dats m 0 c).arrAt_eq_of_covers 7 _ (by decide +kernel) fun t hf y => ?_
  obtain ⟨p, q, rfl⟩ : ∃ (p : Fin 128) (q : Fin 256), y = ix2 p q := ⟨y 0, y 1, eq_ix2 y⟩
  have e : ((cfg0.win 7).blk t).view.emb (ix2 p q) = ix2 (⟨t.val * 128 + p.val, in_rows t p⟩ : Fin 128) q :=
    at_row _ (in_rows t p) q.isLt (index_row t).2.2.2.2.2.2.2.1 rfl rfl
  blk_simp
  rw [after0_7, e]
  refine (block_mom _ _ _ _ _ p q).trans ?_
  rw [sum_iblk m c t p q, iblk3 m c t p q]
  rfl

theorem final_var : (dats m 0 c).arrAt 8 cfg0.N = vars (grads (aOwn m c) (aSlots m c)) (aV m c) := by
  refine (dats m 0 c).arrAt_eq_of_covers 8 _ (by decide +kernel) fun t hf y => ?_
  obtain ⟨p, q, rfl⟩ : ∃ (p : Fin 128) (q : Fin 256), y = ix2 p q := ⟨y 0, y 1, eq_ix2 y⟩
  have e : ((cfg0.win 8).blk t).view.emb (ix2 p q) = ix2 (⟨t.val * 128 + p.val, in_rows t p⟩ : Fin 128) q :=
    at_row _ (in_rows t p) q.isLt (index_row t).2.2.2.2.2.2.2.2 rfl rfl
  blk_simp
  rw [after0_8, e]
  refine (block_var _ _ _ _ _ p q).trans ?_
  rw [sum_iblk m c t p q, iblk4 m c t p q]
  rfl

theorem reference_frame : Cert.quiescent_Reference16Ideal (hReference16Ideal := Cert.Reference16Ideal.Gen.facts) := fun m g _ =>
  (θ_run _ _ _).mono (fun _ h => ⟨fun c => (h c).2.2.2.2, sem_eq_zero_of_no_sems (by decide) _⟩) (Cert.Reference16Ideal.Value.run m g)

theorem algebraic : Cert.algebraic_Kernel16Ideal_Reference16Ideal (hKernel16Ideal := Cert.Kernel16Ideal.Gen.facts) (hReference16Ideal := Cert.Reference16Ideal.Gen.facts) := by
  intro m g m' g' _ hargs
  refine ⟨fun c => grads (aOwn m c) (aSlots m c), fun c => changes (aW m c) (grads (aOwn m c) (aSlots m c)) (aM m c) (aV m c),
    fun c => moms (grads (aOwn m c) (aSlots m c)) (aM m c), fun c => vars (grads (aOwn m c) (aSlots m c)) (aV m c), ?_, ?_⟩
  · exact (θ_run _ _ _).mono (fun r h c => ⟨(h c).1.trans (final_grad m c), (h c).2.1.trans (final_change m c), (h c).2.2.1.trans (final_mom m c),
      (h c).2.2.2.1.trans (final_var m c), (h c).2.2.2.2⟩) (Cert.Kernel16Ideal.Value.run_blocks m g)
  · refine (θ_run _ _ _).mono (fun r h c => ?_) (Cert.Reference16Ideal.Value.run m' g')
    obtain ⟨e0, e1, e2, e3, e4⟩ := hargs c
    refine ⟨((h c).1.trans (ref_grads _ _ _ _ _ _)).trans ?_, ((h c).2.1.trans (ref_changes _ _ _ _ _)).trans ?_,
      ((h c).2.2.1.trans (ref_moms _ _ _)).trans ?_, ((h c).2.2.2.1.trans (ref_vars _ _ _)).trans ?_, (h c).2.2.2.2⟩
    · rw [e1, e2]
    · refine (congrArg (fun g => changes _ g _ _) (ref_grads _ _ _ _ _ _)).trans ?_
      rw [e0, e1, e2, e3, e4]
    · refine (congrArg (fun g => moms g _) (ref_grads _ _ _ _ _ _)).trans ?_
      rw [e1, e2, e3]
    · refine (congrArg (fun g => vars g _) (ref_grads _ _ _ _ _ _)).trans ?_
      rw [e1, e2, e4]

end Cert.Kernel16Ideal.Keys
-- ==== Proof.Adam.Memory.lean ====
/-
  The optimiser's step on the memory keys and values's weights.
-/
module

public import proofs.«01_k».proof.Defs
public import proofs.«01_k».proof.Proof.Gen.Kernel17Ideal.Value
public import proofs.«01_k».proof.Proof.Gen.Reference17Ideal.Run
public import proofs.«01_k».proof.Proof.Adam.Ref
public import Idealize.ShloMosaic.Lib.Pointwise
public import Idealize.ShloMosaic.Lib.Pipeline.ValueKit
public import Idealize.ShloMosaic.Lib.Quiescent

@[expose] public section
set_option maxRecDepth 16384
noncomputable section

namespace Cert.Kernel17Ideal.Memory
open Cert.Kernel17Ideal Cert.Kernel17Ideal.Gen Cert.Kernel17Ideal.Value Idealize.ShloMosaic Idealize.ShloMosaic.TcCoe Idealize.ShloMosaic.StableHlo Idealize.SL.Sem
open _root_.Adam

section
variable (x0 x3 x4 : Vec Ideal S256x512 .f32) (x1 : Vec Ideal S256x512 .bf16) (x2 : Vec Ideal S7x256x512 .bf16) (p : Fin 256) (q : Fin 512)

theorem block_grad : out0_5 x0 x1 x2 x3 x4 (ix2 p q) = grads x1 x2 (ix2 p q) := by
  unfold out0_5
  frame_out
  unfold k0_pay4
  pointwise []
  exact sum_seven _ fun k => x2 (ix3 k p q)

theorem sum_eq : k0_pay5 x0 x1 x2 x3 x4 (ix2 p q) = grads x1 x2 (ix2 p q) := by
  unfold k0_pay5
  frame_out
  unfold k0_pay4
  pointwise []
  exact sum_seven _ fun k => x2 (ix3 k p q)

theorem block_mom : out0_7 x0 x1 x2 x3 x4 (ix2 p q) = mom (grads x1 x2 (ix2 p q)) (x3 (ix2 p q)) := by
  rw [← sum_eq x0 x3 x4]
  unfold out0_7
  frame_out
  generalize k0_pay5 x0 x1 x2 x3 x4 = g
  unfold k0_pay1 mom
  pointwise []

theorem block_var : out0_8 x0 x1 x2 x3 x4 (ix2 p q) = var (grads x1 x2 (ix2 p q)) (x4 (ix2 p q)) := by
  rw [← sum_eq x0 x3 x4]
  unfold out0_8
  frame_out
  generalize k0_pay5 x0 x1 x2 x3 x4 = g
  unfold k0_pay2 var
  pointwise []

theorem block_change : out0_6 x0 x1 x2 x3 x4 (ix2 p q)
    = change (x0 (ix2 p q)) (grads x1 x2 (ix2 p q)) (x3 (ix2 p q)) (x4 (ix2 p q)) := by
  rw [← sum_eq x0 x3 x4]
  unfold out0_6
  frame_out
  generalize k0_pay5 x0 x1 x2 x3 x4 = g
  unfold k0_pay3 k0_pay1 k0_pay2 change mom var
  pointwise []

end

variable (m : (ℓ : Loc nD τ sig) → Buf (Elt Ideal) ℓ) (c : Dev nD)

/-- Every window is at the grid point's block of 256 rows. -/
theorem index_row (t : Fin cfg0.N) : win0_0.index t = ![t.val, 0] ∧ win0_1.index t = ![t.val, 0] ∧ win0_2.index t = ![0, t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, win0_0.index t = ![t.val, 0] ∧ win0_1.index t = ![t.val, 0] ∧ win0_2.index t = ![0, t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0]) t

theorem in_rows (t : Fin cfg0.N) (p : Fin 256) : t.val * 256 + p.val < 512 := by
  have := lt_of_lt_of_eq t.isLt (show cfg0.N = 2 from N_0)
  omega

abbrev aW : Vec Ideal S512x512 .f32 := m ((c.tc : Thread nD τ).loc main_arg0)
abbrev aOwn : Vec Ideal S512x512 .bf16 := m ((c.tc : Thread nD τ).loc main_arg1)
abbrev aSlots : Vec Ideal S7x512x512 .bf16 := m ((c.tc : Thread nD τ).loc main_arg2)
abbrev aM : Vec Ideal S512x512 .f32 := m ((c.tc : Thread nD τ).loc main_arg3)
abbrev aV : Vec Ideal S512x512 .f32 := m ((c.tc : Thread nD τ).loc main_arg4)

section
variable (t : Fin cfg0.N) (p : Fin 256) (q : Fin 512)

theorem iblk0 : (iblk m c 0 t : Vec Ideal S256x512 .f32) (ix2 p q) = aW m c (ix2 ⟨t.val * 256 + p.val, in_rows t p⟩ q) := by
  unfold iblk
  rw [View.read_apply]
  show V m c main_arg0 _ = _
  rw [V_main_arg0]
  exact congrArg (aW m c) (at_row _ (in_rows t p) q.isLt (index_row t).1 rfl rfl)

theorem iblk1 : (iblk m c 1 t : Vec Ideal S256x512 .bf16) (ix2 p q) = aOwn m c (ix2 ⟨t.val * 256 + p.val, in_rows t p⟩ q) := by
  unfold iblk
  rw [View.read_apply]
  show V m c main_arg1 _ = _
  rw [V_main_arg1]
  exact congrArg (aOwn m c) (at_row _ (in_rows t p) q.isLt (index_row t).2.1 rfl rfl)

theorem iblk2 (k : Fin 7) : (iblk m c 2 t : Vec Ideal S7x256x512 .bf16) (ix3 k p q) = aSlots m c (ix3 k ⟨t.val * 256 + p.val, in_rows t p⟩ q) := by
  unfold iblk
  rw [View.read_apply]
  show V m c main_arg2 _ = _
  rw [V_main_arg2]
  exact congrArg (aSlots m c) (at_slot _ k.isLt (in_rows t p) q.isLt (index_row t).2.2.1 rfl rfl rfl)

theorem iblk3 : (iblk m c 3 t : Vec Ideal S256x512 .f32) (ix2 p q) = aM m c (ix2 ⟨t.val * 256 + p.val, in_rows t p⟩ q) := by
  unfold iblk
  rw [View.read_apply]
  show V m c main_arg3 _ = _
  rw [V_main_arg3]
  exact congrArg (aM m c) (at_row _ (in_rows t p) q.isLt (index_row t).2.2.2.1 rfl rfl)

theorem iblk4 : (iblk m c 4 t : Vec Ideal S256x512 .f32) (ix2 p q) = aV m c (ix2 ⟨t.val * 256 + p.val, in_rows t p⟩ q) := by
  unfold iblk
  rw [View.read_apply]
  show V m c main_arg4 _ = _
  rw [V_main_arg4]
  exact congrArg (aV m c) (at_row _ (in_rows t p) q.isLt (index_row t).2.2.2.2.1 rfl rfl)

theorem sum_iblk : (grads (iblk m c 1 t : Vec Ideal S256x512 .bf16) (iblk m c 2 t : Vec Ideal S7x256x512 .bf16) : Vec Ideal S256x512 .f32) (ix2 p q)
    = grads (aOwn m c) (aSlots m c) (ix2 ⟨t.val * 256 + p.val, in_rows t p⟩ q) :=
  congrArg₂ (fun u v : EReal => u + v) (iblk1 m c t p q) (Finset.sum_congr rfl fun k _ => iblk2 m c t p q k)

end

theorem final_grad : (dats m 0 c).arrAt 5 cfg0.N = grads (aOwn m c) (aSlots m c) := by
  refine (dats m 0 c).arrAt_eq_of_covers 5 _ (by decide +kernel) fun t hf y => ?_
  obtain ⟨p, q, rfl⟩ : ∃ (p : Fin 256) (q : Fin 512), y = ix2 p q := ⟨y 0, y 1, eq_ix2 y⟩
  have e : ((cfg0.win 5).blk t).view.emb (ix2 p q) = ix2 (⟨t.val * 256 + p.val, in_rows t p⟩ : Fin 512) q :=
    at_row _ (in_rows t p) q.isLt (index_row t).2.2.2.2.2.1 rfl rfl
  blk_simp
  rw [after0_5, e]
  refine (block_grad _ _ _ _ _ p q).trans ?_
  exact sum_iblk m c t p q

theorem final_change : (dats m 0 c).arrAt 6 cfg0.N = changes (aW m c) (grads (aOwn m c) (aSlots m c)) (aM m c) (aV m c) := by
  refine (dats m 0 c).arrAt_eq_of_covers 6 _ (by decide +kernel) fun t hf y => ?_
  obtain ⟨p, q, rfl⟩ : ∃ (p : Fin 256) (q : Fin 512), y = ix2 p q := ⟨y 0, y 1, eq_ix2 y⟩
  have e : ((cfg0.win 6).blk t).view.emb (ix2 p q) = ix2 (⟨t.val * 256 + p.val, in_rows t p⟩ : Fin 512) q :=
    at_row _ (in_rows t p) q.isLt (index_row t).2.2.2.2.2.2.1 rfl rfl
  blk_simp
  rw [after0_6, e]
  refine (block_change _ _ _ _ _ p q).trans ?_
  rw [sum_iblk m c t p q, iblk0 m c t p q, iblk3 m c t p q, iblk4 m c t p q]
  rfl

theorem final_mom : (dats m 0 c).arrAt 7 cfg0.N = moms (grads (aOwn m c) (aSlots m c)) (aM m c) := by
  refine (dats m 0 c).arrAt_eq_of_covers 7 _ (by decide +kernel) fun t hf y => ?_
  obtain ⟨p, q, rfl⟩ : ∃ (p : Fin 256) (q : Fin 512), y = ix2 p q := ⟨y 0, y 1, eq_ix2 y⟩
  have e : ((cfg0.win 7).blk t).view.emb (ix2 p q) = ix2 (⟨t.val * 256 + p.val, in_rows t p⟩ : Fin 512) q :=
    at_row _ (in_rows t p) q.isLt (index_row t).2.2.2.2.2.2.2.1 rfl rfl
  blk_simp
  rw [after0_7, e]
  refine (block_mom _ _ _ _ _ p q).trans ?_
  rw [sum_iblk m c t p q, iblk3 m c t p q]
  rfl

theorem final_var : (dats m 0 c).arrAt 8 cfg0.N = vars (grads (aOwn m c) (aSlots m c)) (aV m c) := by
  refine (dats m 0 c).arrAt_eq_of_covers 8 _ (by decide +kernel) fun t hf y => ?_
  obtain ⟨p, q, rfl⟩ : ∃ (p : Fin 256) (q : Fin 512), y = ix2 p q := ⟨y 0, y 1, eq_ix2 y⟩
  have e : ((cfg0.win 8).blk t).view.emb (ix2 p q) = ix2 (⟨t.val * 256 + p.val, in_rows t p⟩ : Fin 512) q :=
    at_row _ (in_rows t p) q.isLt (index_row t).2.2.2.2.2.2.2.2 rfl rfl
  blk_simp
  rw [after0_8, e]
  refine (block_var _ _ _ _ _ p q).trans ?_
  rw [sum_iblk m c t p q, iblk4 m c t p q]
  rfl

theorem reference_frame : Cert.quiescent_Reference17Ideal (hReference17Ideal := Cert.Reference17Ideal.Gen.facts) := fun m g _ =>
  (θ_run _ _ _).mono (fun _ h => ⟨fun c => (h c).2.2.2.2, sem_eq_zero_of_no_sems (by decide) _⟩) (Cert.Reference17Ideal.Value.run m g)

theorem algebraic : Cert.algebraic_Kernel17Ideal_Reference17Ideal (hKernel17Ideal := Cert.Kernel17Ideal.Gen.facts) (hReference17Ideal := Cert.Reference17Ideal.Gen.facts) := by
  intro m g m' g' _ hargs
  refine ⟨fun c => grads (aOwn m c) (aSlots m c), fun c => changes (aW m c) (grads (aOwn m c) (aSlots m c)) (aM m c) (aV m c),
    fun c => moms (grads (aOwn m c) (aSlots m c)) (aM m c), fun c => vars (grads (aOwn m c) (aSlots m c)) (aV m c), ?_, ?_⟩
  · exact (θ_run _ _ _).mono (fun r h c => ⟨(h c).1.trans (final_grad m c), (h c).2.1.trans (final_change m c), (h c).2.2.1.trans (final_mom m c),
      (h c).2.2.2.1.trans (final_var m c), (h c).2.2.2.2⟩) (Cert.Kernel17Ideal.Value.run_blocks m g)
  · refine (θ_run _ _ _).mono (fun r h c => ?_) (Cert.Reference17Ideal.Value.run m' g')
    obtain ⟨e0, e1, e2, e3, e4⟩ := hargs c
    refine ⟨((h c).1.trans (ref_grads _ _ _ _ _ _)).trans ?_, ((h c).2.1.trans (ref_changes _ _ _ _ _)).trans ?_,
      ((h c).2.2.1.trans (ref_moms _ _ _)).trans ?_, ((h c).2.2.2.1.trans (ref_vars _ _ _)).trans ?_, (h c).2.2.2.2⟩
    · rw [e1, e2]
    · refine (congrArg (fun g => changes _ g _ _) (ref_grads _ _ _ _ _ _)).trans ?_
      rw [e0, e1, e2, e3, e4]
    · refine (congrArg (fun g => moms g _) (ref_grads _ _ _ _ _ _)).trans ?_
      rw [e1, e2, e3]
    · refine (congrArg (fun g => vars g _) (ref_grads _ _ _ _ _ _)).trans ?_
      rw [e1, e2, e4]

end Cert.Kernel17Ideal.Memory
-- ==== Proof.Adam.InProj.lean ====
/-
  The optimiser's step on the gated-DeltaNet input projection's weights.
-/
module

public import proofs.«01_k».proof.Defs
public import proofs.«01_k».proof.Proof.Gen.Kernel18Ideal.Value
public import proofs.«01_k».proof.Proof.Gen.Reference18Ideal.Run
public import proofs.«01_k».proof.Proof.Adam.Ref
public import Idealize.ShloMosaic.Lib.Pointwise
public import Idealize.ShloMosaic.Lib.Pipeline.ValueKit
public import Idealize.ShloMosaic.Lib.Quiescent

@[expose] public section
set_option maxRecDepth 16384
noncomputable section

namespace Cert.Kernel18Ideal.InProj
open Cert.Kernel18Ideal Cert.Kernel18Ideal.Gen Cert.Kernel18Ideal.Value Idealize.ShloMosaic Idealize.ShloMosaic.TcCoe Idealize.ShloMosaic.StableHlo Idealize.SL.Sem
open _root_.Adam

section
variable (x0 x3 x4 : Vec Ideal S256x3456 .f32) (x1 : Vec Ideal S256x3456 .bf16) (x2 : Vec Ideal S7x256x3456 .bf16) (p : Fin 256) (q : Fin 3456)

theorem block_grad : out0_5 x0 x1 x2 x3 x4 (ix2 p q) = grads x1 x2 (ix2 p q) := by
  unfold out0_5
  frame_out
  unfold k0_pay4
  pointwise []
  exact sum_seven _ fun k => x2 (ix3 k p q)

theorem sum_eq : k0_pay5 x0 x1 x2 x3 x4 (ix2 p q) = grads x1 x2 (ix2 p q) := by
  unfold k0_pay5
  frame_out
  unfold k0_pay4
  pointwise []
  exact sum_seven _ fun k => x2 (ix3 k p q)

theorem block_mom : out0_7 x0 x1 x2 x3 x4 (ix2 p q) = mom (grads x1 x2 (ix2 p q)) (x3 (ix2 p q)) := by
  rw [← sum_eq x0 x3 x4]
  unfold out0_7
  frame_out
  generalize k0_pay5 x0 x1 x2 x3 x4 = g
  unfold k0_pay1 mom
  pointwise []

theorem block_var : out0_8 x0 x1 x2 x3 x4 (ix2 p q) = var (grads x1 x2 (ix2 p q)) (x4 (ix2 p q)) := by
  rw [← sum_eq x0 x3 x4]
  unfold out0_8
  frame_out
  generalize k0_pay5 x0 x1 x2 x3 x4 = g
  unfold k0_pay2 var
  pointwise []

theorem block_change : out0_6 x0 x1 x2 x3 x4 (ix2 p q)
    = change (x0 (ix2 p q)) (grads x1 x2 (ix2 p q)) (x3 (ix2 p q)) (x4 (ix2 p q)) := by
  rw [← sum_eq x0 x3 x4]
  unfold out0_6
  frame_out
  generalize k0_pay5 x0 x1 x2 x3 x4 = g
  unfold k0_pay3 k0_pay1 k0_pay2 change mom var
  pointwise []

end

variable (m : (ℓ : Loc nD τ sig) → Buf (Elt Ideal) ℓ) (c : Dev nD)

/-- Every window is at the grid point's block of 256 rows. -/
theorem index_row (t : Fin cfg0.N) : win0_0.index t = ![t.val, 0] ∧ win0_1.index t = ![t.val, 0] ∧ win0_2.index t = ![0, t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, win0_0.index t = ![t.val, 0] ∧ win0_1.index t = ![t.val, 0] ∧ win0_2.index t = ![0, t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0]) t

theorem in_rows (t : Fin cfg0.N) (p : Fin 256) : t.val * 256 + p.val < 256 := by
  have := lt_of_lt_of_eq t.isLt (show cfg0.N = 1 from N_0)
  omega

abbrev aW : Vec Ideal S256x3456 .f32 := m ((c.tc : Thread nD τ).loc main_arg0)
abbrev aOwn : Vec Ideal S256x3456 .bf16 := m ((c.tc : Thread nD τ).loc main_arg1)
abbrev aSlots : Vec Ideal S7x256x3456 .bf16 := m ((c.tc : Thread nD τ).loc main_arg2)
abbrev aM : Vec Ideal S256x3456 .f32 := m ((c.tc : Thread nD τ).loc main_arg3)
abbrev aV : Vec Ideal S256x3456 .f32 := m ((c.tc : Thread nD τ).loc main_arg4)

section
variable (t : Fin cfg0.N) (p : Fin 256) (q : Fin 3456)

theorem iblk0 : (iblk m c 0 t : Vec Ideal S256x3456 .f32) (ix2 p q) = aW m c (ix2 ⟨t.val * 256 + p.val, in_rows t p⟩ q) := by
  unfold iblk
  rw [View.read_apply]
  show V m c main_arg0 _ = _
  rw [V_main_arg0]
  exact congrArg (aW m c) (at_row _ (in_rows t p) q.isLt (index_row t).1 rfl rfl)

theorem iblk1 : (iblk m c 1 t : Vec Ideal S256x3456 .bf16) (ix2 p q) = aOwn m c (ix2 ⟨t.val * 256 + p.val, in_rows t p⟩ q) := by
  unfold iblk
  rw [View.read_apply]
  show V m c main_arg1 _ = _
  rw [V_main_arg1]
  exact congrArg (aOwn m c) (at_row _ (in_rows t p) q.isLt (index_row t).2.1 rfl rfl)

theorem iblk2 (k : Fin 7) : (iblk m c 2 t : Vec Ideal S7x256x3456 .bf16) (ix3 k p q) = aSlots m c (ix3 k ⟨t.val * 256 + p.val, in_rows t p⟩ q) := by
  unfold iblk
  rw [View.read_apply]
  show V m c main_arg2 _ = _
  rw [V_main_arg2]
  exact congrArg (aSlots m c) (at_slot _ k.isLt (in_rows t p) q.isLt (index_row t).2.2.1 rfl rfl rfl)

theorem iblk3 : (iblk m c 3 t : Vec Ideal S256x3456 .f32) (ix2 p q) = aM m c (ix2 ⟨t.val * 256 + p.val, in_rows t p⟩ q) := by
  unfold iblk
  rw [View.read_apply]
  show V m c main_arg3 _ = _
  rw [V_main_arg3]
  exact congrArg (aM m c) (at_row _ (in_rows t p) q.isLt (index_row t).2.2.2.1 rfl rfl)

theorem iblk4 : (iblk m c 4 t : Vec Ideal S256x3456 .f32) (ix2 p q) = aV m c (ix2 ⟨t.val * 256 + p.val, in_rows t p⟩ q) := by
  unfold iblk
  rw [View.read_apply]
  show V m c main_arg4 _ = _
  rw [V_main_arg4]
  exact congrArg (aV m c) (at_row _ (in_rows t p) q.isLt (index_row t).2.2.2.2.1 rfl rfl)

theorem sum_iblk : (grads (iblk m c 1 t : Vec Ideal S256x3456 .bf16) (iblk m c 2 t : Vec Ideal S7x256x3456 .bf16) : Vec Ideal S256x3456 .f32) (ix2 p q)
    = grads (aOwn m c) (aSlots m c) (ix2 ⟨t.val * 256 + p.val, in_rows t p⟩ q) :=
  congrArg₂ (fun u v : EReal => u + v) (iblk1 m c t p q) (Finset.sum_congr rfl fun k _ => iblk2 m c t p q k)

end

theorem final_grad : (dats m 0 c).arrAt 5 cfg0.N = grads (aOwn m c) (aSlots m c) := by
  refine (dats m 0 c).arrAt_eq_of_covers 5 _ (by decide +kernel) fun t hf y => ?_
  obtain ⟨p, q, rfl⟩ : ∃ (p : Fin 256) (q : Fin 3456), y = ix2 p q := ⟨y 0, y 1, eq_ix2 y⟩
  have e : ((cfg0.win 5).blk t).view.emb (ix2 p q) = ix2 (⟨t.val * 256 + p.val, in_rows t p⟩ : Fin 256) q :=
    at_row _ (in_rows t p) q.isLt (index_row t).2.2.2.2.2.1 rfl rfl
  blk_simp
  rw [after0_5, e]
  refine (block_grad _ _ _ _ _ p q).trans ?_
  exact sum_iblk m c t p q

theorem final_change : (dats m 0 c).arrAt 6 cfg0.N = changes (aW m c) (grads (aOwn m c) (aSlots m c)) (aM m c) (aV m c) := by
  refine (dats m 0 c).arrAt_eq_of_covers 6 _ (by decide +kernel) fun t hf y => ?_
  obtain ⟨p, q, rfl⟩ : ∃ (p : Fin 256) (q : Fin 3456), y = ix2 p q := ⟨y 0, y 1, eq_ix2 y⟩
  have e : ((cfg0.win 6).blk t).view.emb (ix2 p q) = ix2 (⟨t.val * 256 + p.val, in_rows t p⟩ : Fin 256) q :=
    at_row _ (in_rows t p) q.isLt (index_row t).2.2.2.2.2.2.1 rfl rfl
  blk_simp
  rw [after0_6, e]
  refine (block_change _ _ _ _ _ p q).trans ?_
  rw [sum_iblk m c t p q, iblk0 m c t p q, iblk3 m c t p q, iblk4 m c t p q]
  rfl

theorem final_mom : (dats m 0 c).arrAt 7 cfg0.N = moms (grads (aOwn m c) (aSlots m c)) (aM m c) := by
  refine (dats m 0 c).arrAt_eq_of_covers 7 _ (by decide +kernel) fun t hf y => ?_
  obtain ⟨p, q, rfl⟩ : ∃ (p : Fin 256) (q : Fin 3456), y = ix2 p q := ⟨y 0, y 1, eq_ix2 y⟩
  have e : ((cfg0.win 7).blk t).view.emb (ix2 p q) = ix2 (⟨t.val * 256 + p.val, in_rows t p⟩ : Fin 256) q :=
    at_row _ (in_rows t p) q.isLt (index_row t).2.2.2.2.2.2.2.1 rfl rfl
  blk_simp
  rw [after0_7, e]
  refine (block_mom _ _ _ _ _ p q).trans ?_
  rw [sum_iblk m c t p q, iblk3 m c t p q]
  rfl

theorem final_var : (dats m 0 c).arrAt 8 cfg0.N = vars (grads (aOwn m c) (aSlots m c)) (aV m c) := by
  refine (dats m 0 c).arrAt_eq_of_covers 8 _ (by decide +kernel) fun t hf y => ?_
  obtain ⟨p, q, rfl⟩ : ∃ (p : Fin 256) (q : Fin 3456), y = ix2 p q := ⟨y 0, y 1, eq_ix2 y⟩
  have e : ((cfg0.win 8).blk t).view.emb (ix2 p q) = ix2 (⟨t.val * 256 + p.val, in_rows t p⟩ : Fin 256) q :=
    at_row _ (in_rows t p) q.isLt (index_row t).2.2.2.2.2.2.2.2 rfl rfl
  blk_simp
  rw [after0_8, e]
  refine (block_var _ _ _ _ _ p q).trans ?_
  rw [sum_iblk m c t p q, iblk4 m c t p q]
  rfl

theorem reference_frame : Cert.quiescent_Reference18Ideal (hReference18Ideal := Cert.Reference18Ideal.Gen.facts) := fun m g _ =>
  (θ_run _ _ _).mono (fun _ h => ⟨fun c => (h c).2.2.2.2, sem_eq_zero_of_no_sems (by decide) _⟩) (Cert.Reference18Ideal.Value.run m g)

theorem algebraic : Cert.algebraic_Kernel18Ideal_Reference18Ideal (hKernel18Ideal := Cert.Kernel18Ideal.Gen.facts) (hReference18Ideal := Cert.Reference18Ideal.Gen.facts) := by
  intro m g m' g' _ hargs
  refine ⟨fun c => grads (aOwn m c) (aSlots m c), fun c => changes (aW m c) (grads (aOwn m c) (aSlots m c)) (aM m c) (aV m c),
    fun c => moms (grads (aOwn m c) (aSlots m c)) (aM m c), fun c => vars (grads (aOwn m c) (aSlots m c)) (aV m c), ?_, ?_⟩
  · exact (θ_run _ _ _).mono (fun r h c => ⟨(h c).1.trans (final_grad m c), (h c).2.1.trans (final_change m c), (h c).2.2.1.trans (final_mom m c),
      (h c).2.2.2.1.trans (final_var m c), (h c).2.2.2.2⟩) (Cert.Kernel18Ideal.Value.run_blocks m g)
  · refine (θ_run _ _ _).mono (fun r h c => ?_) (Cert.Reference18Ideal.Value.run m' g')
    obtain ⟨e0, e1, e2, e3, e4⟩ := hargs c
    refine ⟨((h c).1.trans (ref_grads _ _ _ _ _ _)).trans ?_, ((h c).2.1.trans (ref_changes _ _ _ _ _)).trans ?_,
      ((h c).2.2.1.trans (ref_moms _ _ _)).trans ?_, ((h c).2.2.2.1.trans (ref_vars _ _ _)).trans ?_, (h c).2.2.2.2⟩
    · rw [e1, e2]
    · refine (congrArg (fun g => changes _ g _ _) (ref_grads _ _ _ _ _ _)).trans ?_
      rw [e0, e1, e2, e3, e4]
    · refine (congrArg (fun g => moms g _) (ref_grads _ _ _ _ _ _)).trans ?_
      rw [e1, e2, e3]
    · refine (congrArg (fun g => vars g _) (ref_grads _ _ _ _ _ _)).trans ?_
      rw [e1, e2, e4]

end Cert.Kernel18Ideal.InProj
-- ==== Proof.Adam.Small.lean ====
/-
  The optimiser's step on the small weights, packed into 24 rows.
-/
module

public import proofs.«01_k».proof.Defs
public import proofs.«01_k».proof.Proof.Gen.Kernel19Ideal.Value
public import proofs.«01_k».proof.Proof.Gen.Reference19Ideal.Run
public import proofs.«01_k».proof.Proof.Adam.Ref
public import Idealize.ShloMosaic.Lib.Quiescent

@[expose] public section
noncomputable section

namespace Cert.Kernel19Ideal.Small
open Cert.Kernel19Ideal Cert.Kernel19Ideal.Gen Cert.Kernel19Ideal.Value Idealize.ShloMosaic Idealize.ShloMosaic.TcCoe Idealize.SL.Sem
open _root_.Adam

section
variable (w g m v : Vec Ideal S24x1024 .f32)

theorem changes_eq : (G4 w g m v : Vec Ideal S24x1024 .f32) = changes w g m v := rfl

theorem moms_eq : (G5 g m : Vec Ideal S24x1024 .f32) = moms g m := rfl

theorem vars_eq : (G6 g v : Vec Ideal S24x1024 .f32) = vars g v := rfl

end

theorem reference_frame : Cert.quiescent_Reference19Ideal (hReference19Ideal := Cert.Reference19Ideal.Gen.facts) := fun m g _ =>
  (θ_run _ _ _).mono (fun _ h => ⟨fun c => (h c).2.2.2, sem_eq_zero_of_no_sems (by decide) _⟩) (Cert.Reference19Ideal.Value.run m g)

theorem algebraic : Cert.algebraic_Kernel19Ideal_Reference19Ideal (hKernel19Ideal := Cert.Kernel19Ideal.Gen.facts)
    (hReference19Ideal := Cert.Reference19Ideal.Gen.facts) := by
  intro m g m' g' _ hargs
  refine ⟨_, _, _, Cert.Kernel19Ideal.Value.run m g, (θ_run _ _ _).mono (fun r h c => ?_) (Cert.Reference19Ideal.Value.run m' g')⟩
  obtain ⟨e0, e1, e2, e3⟩ := hargs c
  refine ⟨((h c).1.trans (ref_changes _ _ _ _ _)).trans ?_, ((h c).2.1.trans (ref_moms _ _ _)).trans ?_,
    ((h c).2.2.1.trans (ref_vars _ _ _)).trans ?_, (h c).2.2.2⟩
  · rw [e0, e1, e2, e3]
    exact (changes_eq _ _ _ _).symm
  · rw [e1, e2]
    exact (moms_eq _ _).symm
  · rw [e1, e3]
    exact (vars_eq _ _).symm

end Cert.Kernel19Ideal.Small
-- ==== Proof.Norm.QueryProj.lean ====
/-
  The attention's query projection: the tokens are divided by their root mean square, scaled, and multiplied by the weight. Each of the
  16 points takes 1024 tokens. What the kernel leaves, the reference read element by element, and the claims.
-/
module

public import proofs.«01_k».proof.Defs
public import proofs.«01_k».proof.Proof.Gen.Kernel20Ideal.Value
public import proofs.«01_k».proof.Proof.Gen.Reference20Ideal.Run
public import Idealize.ShloMosaic.Lib.Pointwise
public import Idealize.ShloMosaic.Lib.Pipeline.ValueKit
public import Idealize.ShloMosaic.Lib.Quiescent

@[expose] public section
set_option maxRecDepth 16384
noncomputable section

namespace Cert.Reference20Ideal.Norm
open Cert.Reference20Ideal Cert.Reference20Ideal.Gen Cert.Reference20Ideal.Value Idealize.ShloMosaic Idealize.ShloMosaic.TcCoe Idealize.ShloMosaic.StableHlo Idealize.SL.Sem

variable (a0 : FVec Ideal S16384x1024 .f32) (a1 : FVec Ideal S1024 .f32) (a2 : FVec Ideal S1024x1024 .bf16)

/-- The mean square of each token, and the small number. -/
def rMean : FVec Ideal S16384x1 .f32 :=
  addf (Host.divf (broadcastInDim S16384x1 ![0] bcast_S16384_S16384x1_0 (Host.reduceAdd (mulf a0 a0) (constant S_ .f32 0x00000000#32) reducesTo_S16384x1024_S16384_d1 h_S_))
    (broadcastInDim S16384x1 ![] bcast_S_S16384x1 (constant S_ .f32 0x44800000#32))) (broadcastInDim S16384x1 ![] bcast_S_S16384x1 (constant S_ .f32 0x358637BD#32))

/-- The normalized tokens. -/
def rNorm : FVec Ideal S16384x1024 .f32 :=
  mulf (mulf a0 (broadcastInDim S16384x1024 ![0, 1] bcast_S16384x1_S16384x1024_0_1 (Host.rsqrt (rMean a0))))
    (broadcastInDim S16384x1024 ![0, 1] bcast_S1x1024_S16384x1024_0_1 (broadcastInDim S1x1024 ![1] bcast_S1024_S1x1024_1 a1))

def rProj : FVec Ideal S16384x1024 .f32 :=
  Host.dotGeneral dot_S16384x1024_S1024x1024_S16384x1024_1_0_0_1_n_n none (rNorm a0 a1) (extf .f32 a2 bitsLt_bf16_f32)

def rH : FVec Ideal S16384x1024 .bf16 := truncf .bf16 (rNorm a0 a1) bitsLt_bf16_f32

theorem rMean_apply (s : Fin 16384) (z : Fin 1) : rMean a0 (ix2 s z)
    = Ideal.div (∑ i : Fin 1024, a0 (ix2 s i) * a0 (ix2 s i)) (Ideal.ofBits FTy.f32 1149239296#32) + Ideal.ofBits FTy.f32 897988541#32 := by
  unfold rMean
  pointwise []

theorem rNorm_apply (s : Fin 16384) (k : Fin 1024) : rNorm a0 a1 (ix2 s k)
    = a0 (ix2 s k) * Ideal.rsqrt (rMean a0 (ix2 s (0 : Fin 1))) * a1 (ix1 k) := by
  unfold rNorm
  pointwise []

theorem rProj_apply (s : Fin 16384) (q : Fin 1024) : rProj a0 a1 a2 (ix2 s q) = ∑ k : Fin 1024, rNorm a0 a1 (ix2 s k) * a2 (ix2 k q) := by
  unfold rProj
  pointwise []

theorem rH_apply (s : Fin 16384) (k : Fin 1024) : rH a0 a1 (ix2 s k) = rNorm a0 a1 (ix2 s k) := by
  unfold rH
  pointwise []

end Cert.Reference20Ideal.Norm

namespace Cert.Kernel20Ideal.Norm
open Cert.Kernel20Ideal Cert.Kernel20Ideal.Gen Cert.Kernel20Ideal.Value Idealize.ShloMosaic Idealize.ShloMosaic.TcCoe Idealize.ShloMosaic.StableHlo Idealize.SL Idealize.SL.Sem
open Cert.Reference20Ideal.Norm

/-- Token `p` of block `n`. -/
def tok (n : Fin 16) (p : Fin 1024) : Fin 16384 := ⟨n.val * 1024 + p.val, by omega⟩

/-- The reciprocal root mean square of a row. -/
def rms (x : Fin 1024 → EReal) : EReal :=
  Ideal.rsqrt (Ideal.div (∑ k : Fin 1024, x k * x k) (Ideal.ofBits FTy.f32 1149239296#32) + Ideal.ofBits FTy.f32 897988541#32)

section
variable (x : Vec Ideal S16384x1024 .f32) (ln : Vec Ideal S1024 .f32) (w : Vec Ideal S1024x1024 .bf16)

/-- The normalized tokens. -/
def hid (s : Fin 16384) (k : Fin 1024) : EReal := x (ix2 s k) * rms (fun i => x (ix2 s i)) * ln (ix1 k)

/-- The projected tokens. -/
def kProj : Vec Ideal S16384x1024 .f32 := fun i => ∑ k : Fin 1024, hid x ln (i 0) k * w (ix2 k (i 1))

def kH : Vec Ideal S16384x1024 .bf16 := fun i => hid x ln (i 0) (i 1)

theorem ref_norm (s : Fin 16384) (k : Fin 1024) : rNorm x ln (ix2 s k) = hid x ln s k := by
  rw [rNorm_apply, rMean_apply]
  rfl

theorem ref_proj_eq : rProj x ln w = kProj x ln w := by
  funext i
  obtain ⟨s, q, rfl⟩ : ∃ (s : Fin 16384) (q : Fin 1024), i = ix2 s q := ⟨i 0, i 1, eq_ix2 i⟩
  rw [rProj_apply]
  exact Finset.sum_congr rfl fun k _ => congrArg (fun v : EReal => v * w (ix2 k q)) (ref_norm x ln s k)

theorem ref_h_eq : rH x ln = kH x ln := by
  funext i
  obtain ⟨s, k, rfl⟩ : ∃ (s : Fin 16384) (k : Fin 1024), i = ix2 s k := ⟨i 0, i 1, eq_ix2 i⟩
  exact (rH_apply x ln s k).trans (ref_norm x ln s k)

end

/-! ## One grid point -/

theorem h_apply (x0 : Vec Ideal S1024x1024 .f32) (x1 : Vec Ideal S1x1024 .f32) (p k : Fin 1024) :
    k0_pay1 (F := Ideal) x0 x1 (ix2 p k) = x0 (ix2 p k) * rms (fun i => x0 (ix2 p i)) * x1 (ix2 (0 : Fin 1) k) := by
  unfold k0_pay1 rms
  pointwise []

theorem proj_apply (h : Vec Ideal S1024x1024 .bf16) (x2 : Vec Ideal S1024x1024 .bf16) (p : Fin 1024) (q : Fin 1024) :
    k0_pay2 (F := Ideal) h x2 (ix2 p q) = ∑ k : Fin 1024, h (ix2 p k) * x2 (ix2 k q) := by
  unfold k0_pay2
  pointwise []

variable (m : (ℓ : Loc nD τ sig) → Buf (Elt Ideal) ℓ) (c : Dev nD)

abbrev aX : Vec Ideal S16384x1024 .f32 := m ((c : Thread nD τ).loc main_arg0)
abbrev aLn : Vec Ideal S1024 .f32 := m ((c : Thread nD τ).loc main_arg1)
abbrev aW : Vec Ideal S1024x1024 .bf16 := m ((c : Thread nD τ).loc main_arg2)

theorem index_row (t : Fin cfg0.N) : win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, win0_0.index t = ![t.val, 0] ∧ win0_1.index t = ![0, 0] ∧ win0_2.index t = ![0, 0]
    ∧ win0_3.index t = ![t.val, 0] ∧ win0_4.index t = ![t.val, 0]) t

theorem hN (t : Fin cfg0.N) : t.val < 16 := lt_of_lt_of_eq t.isLt (show cfg0.N = 16 from N_0)

/-- The block of tokens of a grid point. -/
def bi (t : Fin cfg0.N) : Fin 16 := ⟨t.val, hN t⟩

theorem scale_apply (k : Fin 1024) :
    (V m c main_v0 : Vec Ideal S1x1024 .f32) (ix2 (0 : Fin 1) k) = aLn m c (ix1 k) := by
  unfold V
  unfold_abbrev_sides
  after_results
  show shapeCast S1x1024 (m ((c : Thread nD τ).loc main_arg1) : Vec Ideal S1024 .f32)
    shapeCasts_S1024_S1x1024 (ix2 (0 : Fin 1) k) = _
  pointwise []

theorem iblk0 (t : Fin cfg0.N) (p k : Fin 1024) :
    (iblk m c 0 t : Vec Ideal S1024x1024 .f32) (ix2 p k) = aX m c (ix2 (tok (bi t) p) k) := by
  have hi := (index_row t).1
  unfold iblk
  rw [View.read_apply]
  show V m c main_arg0 _ = _
  rw [V_main_arg0]
  congr 1
  funext a
  apply Fin.ext
  match a with
  | ⟨0, _⟩ => show win0_0.index t 0 * 1024 + 1 * p.val = t.val * 1024 + p.val; rw [hi]; simp
  | ⟨1, _⟩ => show win0_0.index t 1 * 1024 + 1 * k.val = k.val; rw [hi]; simp

theorem iblk1 (t : Fin cfg0.N) (k : Fin 1024) :
    (iblk m c 1 t : Vec Ideal S1x1024 .f32) (ix2 (0 : Fin 1) k) = aLn m c (ix1 k) := by
  have hi := (index_row t).2.1
  have e : ((cfg0.win 1).blk t).view.emb (ix2 (0 : Fin 1) k) = ix2 (0 : Fin 1) k := by
    funext a
    apply Fin.ext
    match a with
    | ⟨0, _⟩ => show win0_1.index t 0 * 1 + 1 * 0 = 0; rw [hi]; simp
    | ⟨1, _⟩ => show win0_1.index t 1 * 1024 + 1 * k.val = k.val; rw [hi]; simp
  unfold iblk
  rw [View.read_apply]
  show V m c main_v0 _ = _
  rw [e, scale_apply]

theorem iblk2 (t : Fin cfg0.N) (k : Fin 1024) (q : Fin 1024) :
    (iblk m c 2 t : Vec Ideal S1024x1024 .bf16) (ix2 k q) = aW m c (ix2 k q) := by
  have hi := (index_row t).2.2.1
  unfold iblk
  rw [View.read_apply]
  show V m c main_arg2 _ = _
  rw [V_main_arg2]
  congr 1
  funext a
  apply Fin.ext
  match a with
  | ⟨0, _⟩ => show win0_2.index t 0 * 1024 + 1 * k.val = k.val; rw [hi]; simp
  | ⟨1, _⟩ => show win0_2.index t 1 * 1024 + 1 * q.val = q.val; rw [hi]; simp

theorem point_h (t : Fin cfg0.N) (p k : Fin 1024) :
    k0_pay1 (F := Ideal) (iblk m c 0 t) (iblk m c 1 t) (ix2 p k) = hid (aX m c) (aLn m c) (tok (bi t) p) k := by
  rw [h_apply, iblk1 m c t k, iblk0 m c t p k]
  have e : (fun i => (iblk m c 0 t : Vec Ideal S1024x1024 .f32) (ix2 p i)) = fun i => aX m c (ix2 (tok (bi t) p) i) := funext fun i => iblk0 m c t p i
  rw [e]
  rfl

theorem point_proj (t : Fin cfg0.N) (p : Fin 1024) (q : Fin 1024) :
    k0_pay2 (F := Ideal) (k0_pay1 (F := Ideal) (iblk m c 0 t) (iblk m c 1 t)) (iblk m c 2 t) (ix2 p q)
      = kProj (aX m c) (aLn m c) (aW m c) (ix2 (tok (bi t) p) q) := by
  rw [proj_apply]
  exact Finset.sum_congr rfl fun k _ => congrArg₂ (fun u v : EReal => u * v) (point_h m c t p k) (iblk2 m c t k q)

theorem out_proj (t : Fin cfg0.N) (p : Fin 1024) (q : Fin 1024) :
    (outsAt0 m c t).1 (ix2 p q) = kProj (aX m c) (aLn m c) (aW m c) (ix2 (tok (bi t) p) q) := by
  unfold outsAt0
  frame_out
  exact point_proj m c t p q

theorem out_h (t : Fin cfg0.N) (p k : Fin 1024) :
    (outsAt0 m c t).2 (ix2 p k) = hid (aX m c) (aLn m c) (tok (bi t) p) k := by
  unfold outsAt0
  frame_out
  exact point_h m c t p k

/-! ## The arrays -/

theorem final_proj : (dats m 0 c).arrAt 3 cfg0.N = kProj (aX m c) (aLn m c) (aW m c) := by
  refine (dats m 0 c).arrAt_eq_of_covers 3 _ (by decide +kernel) fun t hf y => ?_
  have hi := (index_row t).2.2.2.1
  obtain ⟨p, q, rfl⟩ : ∃ (p : Fin 1024) (q : Fin 1024), y = ix2 p q := ⟨y 0, y 1, eq_ix2 y⟩
  have e : ((cfg0.win 3).blk t).view.emb (ix2 p q) = ix2 (tok (bi t) p) q := by
    funext a
    apply Fin.ext
    match a with
    | ⟨0, _⟩ => show win0_3.index t 0 * 1024 + 1 * p.val = t.val * 1024 + p.val; rw [hi]; simp
    | ⟨1, _⟩ => show win0_3.index t 1 * 1024 + 1 * q.val = q.val; rw [hi]; simp
  blk_simp
  rw [after0_3, e]
  exact out_proj m c t p q

theorem final_h : (dats m 0 c).arrAt 4 cfg0.N = kH (aX m c) (aLn m c) := by
  refine (dats m 0 c).arrAt_eq_of_covers 4 _ (by decide +kernel) fun t hf y => ?_
  have hi := (index_row t).2.2.2.2
  obtain ⟨p, k, rfl⟩ : ∃ (p k : Fin 1024), y = ix2 p k := ⟨y 0, y 1, eq_ix2 y⟩
  have e : ((cfg0.win 4).blk t).view.emb (ix2 p k) = ix2 (tok (bi t) p) k := by
    funext a
    apply Fin.ext
    match a with
    | ⟨0, _⟩ => show win0_4.index t 0 * 1024 + 1 * p.val = t.val * 1024 + p.val; rw [hi]; simp
    | ⟨1, _⟩ => show win0_4.index t 1 * 1024 + 1 * k.val = k.val; rw [hi]; simp
  blk_simp
  rw [after0_4, e]
  exact out_h m c t p k

theorem reference_frame : Cert.quiescent_Reference20Ideal (hReference20Ideal := Cert.Reference20Ideal.Gen.facts) := fun m g _ =>
  (θ_run _ _ _).mono (fun _ h => ⟨fun c => (h c).2.2, sem_eq_zero_of_no_sems (by decide) _⟩) (Cert.Reference20Ideal.Value.run m g)

theorem algebraic : Cert.algebraic_Kernel20Ideal_Reference20Ideal (hKernel20Ideal := Cert.Kernel20Ideal.Gen.facts)
    (hReference20Ideal := Cert.Reference20Ideal.Gen.facts) := by
  intro m g m' g' _ hargs
  refine ⟨fun c => kProj (aX m c) (aLn m c) (aW m c), fun c => kH (aX m c) (aLn m c), ?_, ?_⟩
  · exact (θ_run _ _ _).mono (fun r h c => ⟨(h c).1.trans (final_proj m c), (h c).2.1.trans (final_h m c), (h c).2.2⟩)
      (Cert.Kernel20Ideal.Value.run_blocks m g)
  · refine (θ_run _ _ _).mono (fun r h c => ?_) (Cert.Reference20Ideal.Value.run m' g')
    obtain ⟨e0, e1, e2⟩ := hargs c
    refine ⟨(h c).1.trans ?_, (h c).2.1.trans ?_, (h c).2.2⟩
    · rw [e0, e1, e2]
      exact ref_proj_eq _ _ _
    · rw [e0, e1]
      exact ref_h_eq _ _

end Cert.Kernel20Ideal.Norm
-- ==== Proof.Norm.QueryBack.lean ====
/-
  The backward of the attention's query projection: the gradient of the projected columns times the transposed weight, and back
  through the norm. What the kernel's 32 blocks of 512 tokens leave.
-/
module

public import proofs.«01_k».proof.Proof.Gen.Kernel21Ideal.Value
public import Idealize.ShloMosaic.Lib.Pointwise
public import Idealize.ShloMosaic.Lib.Pipeline.ValueKit

@[expose] public section
set_option maxRecDepth 16384
noncomputable section

namespace Cert.Kernel21Ideal.Norm
open Cert.Kernel21Ideal Cert.Kernel21Ideal.Gen Cert.Kernel21Ideal.Value Idealize.ShloMosaic Idealize.ShloMosaic.TcCoe Idealize.ShloMosaic.StableHlo Idealize.SL.Sem

/-- Token `p` of block `n`. -/
def tok (n : Fin 32) (p : Fin 512) : Fin 16384 := ⟨n.val * 512 + p.val, by omega⟩

/-- The reciprocal root mean square of a row. -/
def rms (x : Fin 1024 → EReal) : EReal :=
  Ideal.rsqrt (Ideal.div (∑ k : Fin 1024, x k * x k) (Ideal.ofBits FTy.f32 1149239296#32) + Ideal.ofBits FTy.f32 897988541#32)

/-- The gradient of a row that is divided by its root mean square and scaled: `e` is the gradient of the result. -/
def rmsBack (xr ln e : Fin 1024 → EReal) (k : Fin 1024) : EReal :=
  rms xr * (e k * ln k - xr k * rms xr * Ideal.div (∑ i : Fin 1024, e i * ln i * (xr i * rms xr)) (Ideal.ofBits FTy.f32 1149239296#32))

section
variable (d : Vec Ideal S16384x1024 .bf16) (w : Vec Ideal S1024x1024 .bf16) (x : Vec Ideal S16384x1024 .f32) (ln : Vec Ideal S1024 .f32)
  (dIn : Vec Ideal S16384x1024 .f32)

/-- The gradient of the normalized tokens. -/
def normGrad (s : Fin 16384) (k : Fin 1024) : EReal := ∑ q : Fin 1024, d (ix2 s q) * w (ix2 k q)

/-- The gradient of the tokens. -/
def kX : Vec Ideal S16384x1024 .f32 := fun i =>
  rmsBack (fun k => x (ix2 (i 0) k)) (fun k => ln (ix1 k)) (normGrad d w (i 0)) (i 1) + dIn (ix2 (i 0) (i 1))

/-- What one block of tokens adds to the gradient of the scale. -/
def lnPart (b : Fin 32) (k : Fin 1024) : EReal :=
  ∑ p : Fin 512, normGrad d w (tok b p) k * (x (ix2 (tok b p) k) * rms (fun i => x (ix2 (tok b p) i)))

/-- The gradient of the scale. -/
def kLn : Vec Ideal S1x1024 .f32 := fun i =>
  ∑ s : Fin 16384, normGrad d w s (i 1) * (x (ix2 s (i 1)) * rms (fun k => x (ix2 s k)))

end

/-! ## One grid point -/

/-- The gradient of the normalized tokens, for the tokens of a block. -/
def part (x0 : Vec Ideal S512x1024 .bf16) (x1 : Vec Ideal S1024x1024 .bf16) (p : Fin 512) (k : Fin 1024) : EReal :=
  ∑ q : Fin 1024, x0 (ix2 p q) * x1 (ix2 k q)

theorem x_apply (x0 : Vec Ideal S512x1024 .bf16) (x1 : Vec Ideal S1024x1024 .bf16) (x2 : Vec Ideal S512x1024 .f32) (x3 : Vec Ideal S1x1024 .f32) (x4 : Vec Ideal S512x1024 .f32)
    (p : Fin 512) (k : Fin 1024) : k0_pay7 (F := Ideal) x0 x1 x2 x3 x4 (ix2 p k)
      = rmsBack (fun i => x2 (ix2 p i)) (fun i => x3 (ix2 (0 : Fin 1) i)) (part x0 x1 p) k + x4 (ix2 p k) := by
  unfold k0_pay7 k0_pay5 k0_pay4 k0_pay3 rmsBack rms part
  pointwise []

theorem ln_apply (x0 : Vec Ideal S512x1024 .bf16) (x1 : Vec Ideal S1024x1024 .bf16) (x2 : Vec Ideal S512x1024 .f32) (u : Vec Ideal S1x1024 .f32) (k : Fin 1024) :
    k0_pay2 (F := Ideal) (k0_pay6 x0 x1 x2) u (ix2 (0 : Fin 1) k) = u (ix2 (0 : Fin 1) k)
      + ∑ p : Fin 512, part x0 x1 p k * (x2 (ix2 p k) * rms (fun i => x2 (ix2 p i))) := by
  unfold k0_pay2 k0_pay6 k0_pay5 k0_pay4 k0_pay3 rms part
  pointwise []

theorem zero_apply (y : S1x1024.Idx) : k0_pay1 (F := Ideal) y = 0 := by
  rw [eq_ix2 y]
  unfold k0_pay1
  pointwise []

variable (m : (ℓ : Loc nD τ sig) → Buf (Elt Ideal) ℓ) (c : Dev nD)

abbrev aD : Vec Ideal S16384x1024 .bf16 := m ((c : Thread nD τ).loc main_arg0)
abbrev aW : Vec Ideal S1024x1024 .bf16 := m ((c : Thread nD τ).loc main_arg1)
abbrev aX : Vec Ideal S16384x1024 .f32 := m ((c : Thread nD τ).loc main_arg2)
abbrev aLn : Vec Ideal S1024 .f32 := m ((c : Thread nD τ).loc main_arg3)
abbrev aIn : Vec Ideal S16384x1024 .f32 := m ((c : Thread nD τ).loc main_arg4)

theorem index_row (t : Fin cfg0.N) : win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0]) t

theorem hN (t : Fin cfg0.N) : t.val < 32 := lt_of_lt_of_eq t.isLt (show cfg0.N = 32 from N_0)

/-- The block of tokens of a grid point. -/
def bi (t : Fin cfg0.N) : Fin 32 := ⟨t.val, hN t⟩

theorem scale_apply (k : Fin 1024) :
    (V m c main_v0 : Vec Ideal S1x1024 .f32) (ix2 (0 : Fin 1) k) = aLn m c (ix1 k) := by
  unfold V
  unfold_abbrev_sides
  after_results
  show shapeCast S1x1024 (m ((c : Thread nD τ).loc main_arg3) : Vec Ideal S1024 .f32)
    shapeCasts_S1024_S1x1024 (ix2 (0 : Fin 1) k) = _
  pointwise []

theorem iblk0 (t : Fin cfg0.N) (p : Fin 512) (q : Fin 1024) :
    (iblk m c 0 t : Vec Ideal S512x1024 .bf16) (ix2 p q) = aD m c (ix2 (tok (bi t) p) q) := by
  have hi := (index_row t).1
  unfold iblk
  rw [View.read_apply]
  show V m c main_arg0 _ = _
  rw [V_main_arg0]
  congr 1
  funext a
  apply Fin.ext
  match a with
  | ⟨0, _⟩ => show win0_0.index t 0 * 512 + 1 * p.val = t.val * 512 + p.val; rw [hi]; simp
  | ⟨1, _⟩ => show win0_0.index t 1 * 1024 + 1 * q.val = q.val; rw [hi]; simp

theorem iblk1 (t : Fin cfg0.N) (k : Fin 1024) (q : Fin 1024) :
    (iblk m c 1 t : Vec Ideal S1024x1024 .bf16) (ix2 k q) = aW m c (ix2 k q) := by
  have hi := (index_row t).2.1
  unfold iblk
  rw [View.read_apply]
  show V m c main_arg1 _ = _
  rw [V_main_arg1]
  congr 1
  funext a
  apply Fin.ext
  match a with
  | ⟨0, _⟩ => show win0_1.index t 0 * 1024 + 1 * k.val = k.val; rw [hi]; simp
  | ⟨1, _⟩ => show win0_1.index t 1 * 1024 + 1 * q.val = q.val; rw [hi]; simp

theorem iblk2 (t : Fin cfg0.N) (p : Fin 512) (k : Fin 1024) :
    (iblk m c 2 t : Vec Ideal S512x1024 .f32) (ix2 p k) = aX m c (ix2 (tok (bi t) p) k) := by
  have hi := (index_row t).2.2.1
  unfold iblk
  rw [View.read_apply]
  show V m c main_arg2 _ = _
  rw [V_main_arg2]
  congr 1
  funext a
  apply Fin.ext
  match a with
  | ⟨0, _⟩ => show win0_2.index t 0 * 512 + 1 * p.val = t.val * 512 + p.val; rw [hi]; simp
  | ⟨1, _⟩ => show win0_2.index t 1 * 1024 + 1 * k.val = k.val; rw [hi]; simp

theorem iblk3 (t : Fin cfg0.N) (k : Fin 1024) :
    (iblk m c 3 t : Vec Ideal S1x1024 .f32) (ix2 (0 : Fin 1) k) = aLn m c (ix1 k) := by
  have hi := (index_row t).2.2.2.1
  have e : ((cfg0.win 3).blk t).view.emb (ix2 (0 : Fin 1) k) = ix2 (0 : Fin 1) k := by
    funext a
    apply Fin.ext
    match a with
    | ⟨0, _⟩ => show win0_3.index t 0 * 1 + 1 * 0 = 0; rw [hi]; simp
    | ⟨1, _⟩ => show win0_3.index t 1 * 1024 + 1 * k.val = k.val; rw [hi]; simp
  unfold iblk
  rw [View.read_apply]
  show V m c main_v0 _ = _
  rw [e, scale_apply]

theorem iblk4 (t : Fin cfg0.N) (p : Fin 512) (k : Fin 1024) :
    (iblk m c 4 t : Vec Ideal S512x1024 .f32) (ix2 p k) = aIn m c (ix2 (tok (bi t) p) k) := by
  have hi := (index_row t).2.2.2.2.1
  unfold iblk
  rw [View.read_apply]
  show V m c main_arg4 _ = _
  rw [V_main_arg4]
  congr 1
  funext a
  apply Fin.ext
  match a with
  | ⟨0, _⟩ => show win0_4.index t 0 * 512 + 1 * p.val = t.val * 512 + p.val; rw [hi]; simp
  | ⟨1, _⟩ => show win0_4.index t 1 * 1024 + 1 * k.val = k.val; rw [hi]; simp

theorem grad_eq (t : Fin cfg0.N) (p : Fin 512) (k : Fin 1024) :
    part (iblk m c 0 t) (iblk m c 1 t) p k = normGrad (aD m c) (aW m c) (tok (bi t) p) k :=
  Finset.sum_congr rfl fun q _ => congrArg₂ (fun u v : EReal => u * v) (iblk0 m c t p q) (iblk1 m c t k q)

theorem row_eq (t : Fin cfg0.N) (p : Fin 512) :
    (fun i => (iblk m c 2 t : Vec Ideal S512x1024 .f32) (ix2 p i)) = fun i => aX m c (ix2 (tok (bi t) p) i) := funext fun i => iblk2 m c t p i

theorem point_x (t : Fin cfg0.N) (p : Fin 512) (k : Fin 1024) :
    k0_pay7 (F := Ideal) (iblk m c 0 t) (iblk m c 1 t) (iblk m c 2 t) (iblk m c 3 t) (iblk m c 4 t) (ix2 p k)
      = kX (aD m c) (aW m c) (aX m c) (aLn m c) (aIn m c) (ix2 (tok (bi t) p) k) := by
  rw [x_apply, row_eq m c t p, iblk4 m c t p k]
  have e3 : (fun i => (iblk m c 3 t : Vec Ideal S1x1024 .f32) (ix2 (0 : Fin 1) i)) = fun i => aLn m c (ix1 i) := funext fun i => iblk3 m c t i
  have eg : part (iblk m c 0 t) (iblk m c 1 t) p = normGrad (aD m c) (aW m c) (tok (bi t) p) := funext fun i => grad_eq m c t p i
  rw [e3, eg]
  rfl

theorem point_ln (t : Fin cfg0.N) (u : Vec Ideal S1x1024 .f32) (k : Fin 1024) :
    k0_pay2 (F := Ideal) (k0_pay6 (iblk m c 0 t) (iblk m c 1 t) (iblk m c 2 t)) u (ix2 (0 : Fin 1) k)
      = u (ix2 (0 : Fin 1) k) + lnPart (aD m c) (aW m c) (aX m c) (bi t) k := by
  rw [ln_apply]
  refine congrArg (fun v : EReal => _ + v) (Finset.sum_congr rfl fun p _ => ?_)
  rw [grad_eq m c t p k, row_eq m c t p, iblk2 m c t p k]

theorem out_x (t : Fin cfg0.N) (p : Fin 512) (k : Fin 1024) :
    (outsAt0 m c t.val t.isLt).1 (ix2 p k) = kX (aD m c) (aW m c) (aX m c) (aLn m c) (aIn m c) (ix2 (tok (bi t) p) k) := by
  by_cases h0 : t.val % 32 = 0
  · rw [outsAt0_A m c t h0]
    frame_out
    exact point_x m c t p k
  · rw [outsAt0_B m c t h0]
    frame_out
    exact point_x m c t p k

theorem row_zero (y : S1x1024.Idx) : ∃ k : Fin 1024, y = ix2 (0 : Fin 1) k :=
  ⟨y 1, (eq_ix2 y).trans (congrArg (fun u => ix2 u (y 1)) (Subsingleton.elim (α := Fin 1) _ _))⟩

theorem out_ln_first (t : Fin cfg0.N) (h0 : t.val % 32 = 0) (y : S1x1024.Idx) :
    (outsAt0 m c t.val t.isLt).2 y = 0 + lnPart (aD m c) (aW m c) (aX m c) (bi t) (y 1) := by
  obtain ⟨k, rfl⟩ := row_zero y
  rw [outsAt0_A m c t h0]
  frame_out
  refine (point_ln m c t _ k).trans ?_
  refine congrArg (fun u : EReal => u + _) ?_
  first
    | exact zero_apply _
    | rw [zero_apply]

theorem out_ln_step (t : Fin cfg0.N) (h0 : ¬t.val % 32 = 0) (y : S1x1024.Idx) :
    (outsAt0 m c t.val t.isLt).2 y = (outsAt0 m c (t.val - 1) (Nat.lt_of_le_of_lt (Nat.sub_le _ _) t.isLt)).2 y
      + lnPart (aD m c) (aW m c) (aX m c) (bi t) (y 1) := by
  obtain ⟨k, rfl⟩ := row_zero y
  rw [outsAt0_B m c t h0]
  frame_out
  exact point_ln m c t _ k

/-! ## The arrays -/

theorem final_x : (dats m 0 c).arrAt 5 cfg0.N = kX (aD m c) (aW m c) (aX m c) (aLn m c) (aIn m c) := by
  refine (dats m 0 c).arrAt_eq_of_covers 5 _ (by decide +kernel) fun t hf y => ?_
  have hi := (index_row t).2.2.2.2.2.1
  obtain ⟨p, q, rfl⟩ : ∃ (p : Fin 512) (q : Fin 1024), y = ix2 p q := ⟨y 0, y 1, eq_ix2 y⟩
  have e : ((cfg0.win 5).blk t).view.emb (ix2 p q) = ix2 (tok (bi t) p) q := by
    funext a
    apply Fin.ext
    match a with
    | ⟨0, _⟩ => show win0_5.index t 0 * 512 + 1 * p.val = t.val * 512 + p.val; rw [hi]; simp
    | ⟨1, _⟩ => show win0_5.index t 1 * 1024 + 1 * q.val = q.val; rw [hi]; simp
  blk_simp
  rw [after0_5, e]
  exact out_x m c t p q

theorem final_ln : (dats m 0 c).arrAt 6 cfg0.N = kLn (aD m c) (aW m c) (aX m c) := by
  refine (dats m 0 c).arrAt_eq_of_covers 6 _ (by decide +kernel) fun t hf y => ?_
  have ht : t.val % 32 = 32 - 1 := (flush0_6 t).mp hf
  have hi := (index_row t).2.2.2.2.2.2
  obtain ⟨k, rfl⟩ := row_zero y
  have e : ((cfg0.win 6).blk t).view.emb (ix2 (0 : Fin 1) k) = ix2 (0 : Fin 1) k := by
    funext a
    apply Fin.ext
    match a with
    | ⟨0, _⟩ => show win0_6.index t 0 * 1 + 1 * 0 = 0; rw [hi]; simp
    | ⟨1, _⟩ => show win0_6.index t 1 * 1024 + 1 * k.val = k.val; rw [hi]; simp
  blk_simp
  rw [after0_6, e]
  refine (Pipeline.eq_sum_fin_of_reset_step_apply_of_flush (fun n h => (outsAt0 m c n h).2) 32 (fun _ => 0)
    (fun t y => lnPart (aD m c) (aW m c) (aX m c) (bi t) (y 1)) (fun t h y => out_ln_first m c t h y) (fun t h y => out_ln_step m c t h y) t ht (ix2 (0 : Fin 1) k)).trans ?_
  rw [zero_add]
  have hq : t.val / 32 = 0 := by have := hN t; omega
  refine Eq.trans (b := ∑ b : Fin 32, lnPart (aD m c) (aW m c) (aX m c) b k) (Finset.sum_congr rfl fun s _ => ?_) ?_
  · refine congrArg (fun b => lnPart (aD m c) (aW m c) (aX m c) b k) (Fin.ext ?_)
    show 32 * (t.val / 32) + s.val = s.val
    omega
  · unfold lnPart kLn
    exact Fin.sum_mul_add_congr fun b p hl => rfl

end Cert.Kernel21Ideal.Norm
-- ==== Proof.Norm.QueryBackRef.lean ====
/-
  The reference of the backward of the attention's query projection, read element by element.
-/
module

public import proofs.«01_k».proof.Proof.Gen.Reference21Ideal.Run
public import Idealize.ShloMosaic.Lib.Pointwise

@[expose] public section
set_option maxRecDepth 16384
noncomputable section

namespace Cert.Reference21Ideal.Norm
open Cert.Reference21Ideal Cert.Reference21Ideal.Gen Cert.Reference21Ideal.Value Idealize.ShloMosaic Idealize.ShloMosaic.TcCoe Idealize.ShloMosaic.StableHlo Idealize.SL.Sem

variable (a0 : FVec Ideal S16384x1024 .bf16) (a1 : FVec Ideal S1024x1024 .bf16) (a2 : FVec Ideal S16384x1024 .f32) (a3 : FVec Ideal S1024 .f32) (a4 : FVec Ideal S16384x1024 .f32)

/-- The mean square of each token, and the small number. -/
def rMean : FVec Ideal S16384x1 .f32 :=
  addf (Host.divf (broadcastInDim S16384x1 ![0] bcast_S16384_S16384x1_0 (Host.reduceAdd (mulf a2 a2) (constant S_ .f32 0x00000000#32) reducesTo_S16384x1024_S16384_d1 h_S_))
    (broadcastInDim S16384x1 ![] bcast_S_S16384x1 (constant S_ .f32 0x44800000#32))) (broadcastInDim S16384x1 ![] bcast_S_S16384x1 (constant S_ .f32 0x358637BD#32))

def rRoot : FVec Ideal S16384x1 .f32 := Host.rsqrt (rMean a2)

/-- The gradient of the normalized tokens. -/
def rNorm : FVec Ideal S16384x1024 .f32 :=
  Host.dotGeneral dot_S16384x1024_S1024x1024_S16384x1024_1_1_0_0_n_n none (extf .f32 a0 bitsLt_bf16_f32) (extf .f32 a1 bitsLt_bf16_f32)

def rScaled : FVec Ideal S16384x1024 .f32 :=
  mulf (rNorm a0 a1) (broadcastInDim S16384x1024 ![0, 1] bcast_S1x1024_S16384x1024_0_1 (broadcastInDim S1x1024 ![1] bcast_S1024_S1x1024_1 a3))

/-- What the factor's own derivative contributes, per token. -/
def rCoef : FVec Ideal S16384 .f32 :=
  Host.reduceAdd (Host.divf (mulf (shapeCast S16384x1 (Host.reduceAdd (mulf a2 (rScaled a0 a1 a3)) (constant S_ .f32 0x00000000#32) reducesTo_S16384x1024_S16384_d1 h_S_) shapeCasts_S16384_S16384x1)
    (mulf (broadcastInDim S16384x1 ![] bcast_S_S16384x1 (constant S_ .f32 0xBF000000#32)) (Host.divf (rRoot a2) (rMean a2))))
    (broadcastInDim S16384x1 ![] bcast_S_S16384x1 (constant S_ .f32 0x44800000#32))) (constant S_ .f32 0x00000000#32) reducesTo_S16384x1_S16384_d1 h_S_

def rX : FVec Ideal S16384x1024 .f32 :=
  addf (addf (addf (mulf (rScaled a0 a1 a3) (broadcastInDim S16384x1024 ![0, 1] bcast_S16384x1_S16384x1024_0_1 (rRoot a2)))
    (mulf a2 (broadcastInDim S16384x1024 ![0] bcast_S16384_S16384x1024_0 (rCoef a0 a1 a2 a3))))
    (mulf (broadcastInDim S16384x1024 ![0] bcast_S16384_S16384x1024_0 (rCoef a0 a1 a2 a3)) a2)) a4

def rLn : FVec Ideal S1x1024 .f32 :=
  shapeCast S1x1024 (Host.reduceAdd (shapeCast S1x1024 (Host.reduceAdd (mulf (mulf a2 (broadcastInDim S16384x1024 ![0, 1] bcast_S16384x1_S16384x1024_0_1 (rRoot a2))) (rNorm a0 a1))
    (constant S_ .f32 0x00000000#32) reducesTo_S16384x1024_S1024_d0 h_S_) shapeCasts_S1024_S1x1024) (constant S_ .f32 0x00000000#32) reducesTo_S1x1024_S1024_d0 h_S_) shapeCasts_S1024_S1x1024

theorem rMean_apply (s : Fin 16384) (z : Fin 1) : rMean a2 (ix2 s z)
    = Ideal.div (∑ i : Fin 1024, a2 (ix2 s i) * a2 (ix2 s i)) (Ideal.ofBits FTy.f32 1149239296#32) + Ideal.ofBits FTy.f32 897988541#32 := by
  unfold rMean
  pointwise []

theorem rRoot_apply (s : Fin 16384) (z : Fin 1) : rRoot a2 (ix2 s z) = Ideal.rsqrt (rMean a2 (ix2 s z)) := by
  unfold rRoot
  pointwise []

theorem rNorm_apply (s : Fin 16384) (k : Fin 1024) : rNorm a0 a1 (ix2 s k) = ∑ q : Fin 1024, a0 (ix2 s q) * a1 (ix2 k q) := by
  unfold rNorm
  pointwise []

theorem rScaled_apply (s : Fin 16384) (k : Fin 1024) : rScaled a0 a1 a3 (ix2 s k) = rNorm a0 a1 (ix2 s k) * a3 (ix1 k) := by
  unfold rScaled
  pointwise []

theorem rCoef_apply (s : Fin 16384) : rCoef a0 a1 a2 a3 (ix1 s)
    = Ideal.div ((∑ k : Fin 1024, a2 (ix2 s k) * rScaled a0 a1 a3 (ix2 s k)) * (Ideal.ofBits FTy.f32 3204448256#32 * Ideal.div (rRoot a2 (ix2 s (0 : Fin 1))) (rMean a2 (ix2 s (0 : Fin 1)))))
        (Ideal.ofBits FTy.f32 1149239296#32) := by
  unfold rCoef
  pointwise []
  exact Fin.sum_univ_one _

theorem rX_apply (s : Fin 16384) (k : Fin 1024) : rX a0 a1 a2 a3 a4 (ix2 s k)
    = rScaled a0 a1 a3 (ix2 s k) * rRoot a2 (ix2 s (0 : Fin 1)) + a2 (ix2 s k) * rCoef a0 a1 a2 a3 (ix1 s) + rCoef a0 a1 a2 a3 (ix1 s) * a2 (ix2 s k) + a4 (ix2 s k) := by
  unfold rX
  pointwise []

theorem rLn_apply (z : Fin 1) (k : Fin 1024) : rLn a0 a1 a2 (ix2 z k)
    = ∑ s : Fin 16384, a2 (ix2 s k) * rRoot a2 (ix2 s (0 : Fin 1)) * rNorm a0 a1 (ix2 s k) := by
  unfold rLn
  pointwise []
  exact Fin.sum_univ_one _

theorem res_x (m : (ℓ : Loc nD τ sig) → Buf (Elt Ideal) ℓ) (c : Dev nD) : res_main_v40 m c
    = rX (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := rfl

end Cert.Reference21Ideal.Norm
-- ==== Proof.Norm.QueryClaim.lean ====
/-
  The claims of the backward of the attention's query projection.
-/
module

public import proofs.«01_k».proof.Defs
public import proofs.«01_k».proof.Proof.Norm.QueryBack
public import proofs.«01_k».proof.Proof.Norm.QueryBackRef
public import proofs.«01_k».proof.Proof.Norm.Whole
public import Idealize.ShloMosaic.Lib.Quiescent

@[expose] public section
set_option maxRecDepth 16384
noncomputable section

namespace Cert.Kernel21Ideal.Norm
open Cert.Kernel21Ideal Idealize.ShloMosaic Idealize.ShloMosaic.TcCoe Idealize.SL Idealize.SL.Sem
open Cert.Reference21Ideal.Norm

section
variable (d : Vec Ideal S16384x1024 .bf16) (w : Vec Ideal S1024x1024 .bf16) (x : Vec Ideal S16384x1024 .f32) (ln : Vec Ideal S1024 .f32)
  (dIn : Vec Ideal S16384x1024 .f32)

theorem root_eq (s : Fin 16384) : rRoot x (ix2 s (0 : Fin 1)) = rms (fun k => x (ix2 s k)) := by
  rw [rRoot_apply, rMean_apply]
  rfl

theorem norm_eq (s : Fin 16384) (k : Fin 1024) : rNorm d w (ix2 s k) = normGrad d w s k := rNorm_apply d w s k

theorem ref_x_eq : rX d w x ln dIn = kX d w x ln dIn := by
  funext i
  obtain ⟨s, k, rfl⟩ : ∃ (s : Fin 16384) (k : Fin 1024), i = ix2 s k := ⟨i 0, i 1, eq_ix2 i⟩
  rw [rX_apply]
  refine congrArg (fun u : EReal => u + dIn (ix2 s k)) ?_
  have hc := rCoef_apply d w x ln s
  simp only [rScaled_apply, norm_eq d w] at hc ⊢
  rw [root_eq]
  exact _root_.Norm.rms_back_whole (x := fun i => x (ix2 s i)) (e := fun i => normGrad d w s i * ln (ix1 i)) k _ _ _
    (rMean_apply x s 0) ((root_eq x s).symm.trans (rRoot_apply x s 0)) (hc.trans (by rw [root_eq]))

theorem ref_ln_eq : rLn d w x = kLn d w x := by
  funext i
  obtain ⟨z, k, rfl⟩ : ∃ (z : Fin 1) (k : Fin 1024), i = ix2 z k := ⟨i 0, i 1, eq_ix2 i⟩
  rw [rLn_apply]
  refine Finset.sum_congr rfl fun s _ => ?_
  rw [norm_eq, root_eq]
  exact mul_comm _ _

end

theorem reference_frame : Cert.quiescent_Reference21Ideal (hReference21Ideal := Cert.Reference21Ideal.Gen.facts) := fun m g _ =>
  (θ_run _ _ _).mono (fun _ h => ⟨fun c => (h c).2.2, sem_eq_zero_of_no_sems (by decide) _⟩) (Cert.Reference21Ideal.Value.run m g)

theorem algebraic : Cert.algebraic_Kernel21Ideal_Reference21Ideal (hKernel21Ideal := Cert.Kernel21Ideal.Gen.facts)
    (hReference21Ideal := Cert.Reference21Ideal.Gen.facts) := by
  intro m g m' g' _ hargs
  refine ⟨fun c => kX (aD m c) (aW m c) (aX m c) (aLn m c) (aIn m c), fun c => kLn (aD m c) (aW m c) (aX m c), ?_, ?_⟩
  · exact (θ_run _ _ _).mono (fun r h c => ⟨(h c).1.trans (final_x m c), (h c).2.1.trans (final_ln m c), (h c).2.2⟩)
      (Cert.Kernel21Ideal.Value.run_blocks m g)
  · refine (θ_run _ _ _).mono (fun r h c => ?_) (Cert.Reference21Ideal.Value.run m' g')
    obtain ⟨e0, e1, e2, e3, e4⟩ := hargs c
    refine ⟨((h c).1.trans (Cert.Reference21Ideal.Norm.res_x _ _)).trans ?_, Eq.trans (h c).2.1 ?_, (h c).2.2⟩
    · rw [e0, e1, e2, e3, e4]
      exact ref_x_eq _ _ _ _ _
    · rw [e0, e1, e2]
      exact ref_ln_eq _ _ _

end Cert.Kernel21Ideal.Norm
-- ==== Proof.Norm.KeysProj.lean ====
/-
  The projection to keys and values: the tokens are divided by their root mean square, scaled, and multiplied by the weight. Each of the
  16 points takes 1024 tokens. What the kernel leaves, the reference read element by element, and the claims.
-/
module

public import proofs.«01_k».proof.Defs
public import proofs.«01_k».proof.Proof.Gen.Kernel22Ideal.Value
public import proofs.«01_k».proof.Proof.Gen.Reference22Ideal.Run
public import Idealize.ShloMosaic.Lib.Pointwise
public import Idealize.ShloMosaic.Lib.Pipeline.ValueKit
public import Idealize.ShloMosaic.Lib.Quiescent

@[expose] public section
set_option maxRecDepth 16384
noncomputable section

namespace Cert.Reference22Ideal.Norm
open Cert.Reference22Ideal Cert.Reference22Ideal.Gen Cert.Reference22Ideal.Value Idealize.ShloMosaic Idealize.ShloMosaic.TcCoe Idealize.ShloMosaic.StableHlo Idealize.SL.Sem

variable (a0 : FVec Ideal S16384x1024 .f32) (a1 : FVec Ideal S1024 .f32) (a2 : FVec Ideal S1024x256 .bf16)

/-- The mean square of each token, and the small number. -/
def rMean : FVec Ideal S16384x1 .f32 :=
  addf (Host.divf (broadcastInDim S16384x1 ![0] bcast_S16384_S16384x1_0 (Host.reduceAdd (mulf a0 a0) (constant S_ .f32 0x00000000#32) reducesTo_S16384x1024_S16384_d1 h_S_))
    (broadcastInDim S16384x1 ![] bcast_S_S16384x1 (constant S_ .f32 0x44800000#32))) (broadcastInDim S16384x1 ![] bcast_S_S16384x1 (constant S_ .f32 0x358637BD#32))

/-- The normalized tokens. -/
def rNorm : FVec Ideal S16384x1024 .f32 :=
  mulf (mulf a0 (broadcastInDim S16384x1024 ![0, 1] bcast_S16384x1_S16384x1024_0_1 (Host.rsqrt (rMean a0))))
    (broadcastInDim S16384x1024 ![0, 1] bcast_S1x1024_S16384x1024_0_1 (broadcastInDim S1x1024 ![1] bcast_S1024_S1x1024_1 a1))

def rProj : FVec Ideal S16384x256 .f32 :=
  Host.dotGeneral dot_S16384x1024_S1024x256_S16384x256_1_0_0_1_n_n none (rNorm a0 a1) (extf .f32 a2 bitsLt_bf16_f32)

def rH : FVec Ideal S16384x1024 .bf16 := truncf .bf16 (rNorm a0 a1) bitsLt_bf16_f32

theorem rMean_apply (s : Fin 16384) (z : Fin 1) : rMean a0 (ix2 s z)
    = Ideal.div (∑ i : Fin 1024, a0 (ix2 s i) * a0 (ix2 s i)) (Ideal.ofBits FTy.f32 1149239296#32) + Ideal.ofBits FTy.f32 897988541#32 := by
  unfold rMean
  pointwise []

theorem rNorm_apply (s : Fin 16384) (k : Fin 1024) : rNorm a0 a1 (ix2 s k)
    = a0 (ix2 s k) * Ideal.rsqrt (rMean a0 (ix2 s (0 : Fin 1))) * a1 (ix1 k) := by
  unfold rNorm
  pointwise []

theorem rProj_apply (s : Fin 16384) (q : Fin 256) : rProj a0 a1 a2 (ix2 s q) = ∑ k : Fin 1024, rNorm a0 a1 (ix2 s k) * a2 (ix2 k q) := by
  unfold rProj
  pointwise []

theorem rH_apply (s : Fin 16384) (k : Fin 1024) : rH a0 a1 (ix2 s k) = rNorm a0 a1 (ix2 s k) := by
  unfold rH
  pointwise []

end Cert.Reference22Ideal.Norm

namespace Cert.Kernel22Ideal.Norm
open Cert.Kernel22Ideal Cert.Kernel22Ideal.Gen Cert.Kernel22Ideal.Value Idealize.ShloMosaic Idealize.ShloMosaic.TcCoe Idealize.ShloMosaic.StableHlo Idealize.SL Idealize.SL.Sem
open Cert.Reference22Ideal.Norm

/-- Token `p` of block `n`. -/
def tok (n : Fin 16) (p : Fin 1024) : Fin 16384 := ⟨n.val * 1024 + p.val, by omega⟩

/-- The reciprocal root mean square of a row. -/
def rms (x : Fin 1024 → EReal) : EReal :=
  Ideal.rsqrt (Ideal.div (∑ k : Fin 1024, x k * x k) (Ideal.ofBits FTy.f32 1149239296#32) + Ideal.ofBits FTy.f32 897988541#32)

section
variable (x : Vec Ideal S16384x1024 .f32) (ln : Vec Ideal S1024 .f32) (w : Vec Ideal S1024x256 .bf16)

/-- The normalized tokens. -/
def hid (s : Fin 16384) (k : Fin 1024) : EReal := x (ix2 s k) * rms (fun i => x (ix2 s i)) * ln (ix1 k)

/-- The projected tokens. -/
def kProj : Vec Ideal S16384x256 .f32 := fun i => ∑ k : Fin 1024, hid x ln (i 0) k * w (ix2 k (i 1))

def kH : Vec Ideal S16384x1024 .bf16 := fun i => hid x ln (i 0) (i 1)

theorem ref_norm (s : Fin 16384) (k : Fin 1024) : rNorm x ln (ix2 s k) = hid x ln s k := by
  rw [rNorm_apply, rMean_apply]
  rfl

theorem ref_proj_eq : rProj x ln w = kProj x ln w := by
  funext i
  obtain ⟨s, q, rfl⟩ : ∃ (s : Fin 16384) (q : Fin 256), i = ix2 s q := ⟨i 0, i 1, eq_ix2 i⟩
  rw [rProj_apply]
  exact Finset.sum_congr rfl fun k _ => congrArg (fun v : EReal => v * w (ix2 k q)) (ref_norm x ln s k)

theorem ref_h_eq : rH x ln = kH x ln := by
  funext i
  obtain ⟨s, k, rfl⟩ : ∃ (s : Fin 16384) (k : Fin 1024), i = ix2 s k := ⟨i 0, i 1, eq_ix2 i⟩
  exact (rH_apply x ln s k).trans (ref_norm x ln s k)

end

/-! ## One grid point -/

theorem h_apply (x0 : Vec Ideal S1024x1024 .f32) (x1 : Vec Ideal S1x1024 .f32) (p k : Fin 1024) :
    k0_pay1 (F := Ideal) x0 x1 (ix2 p k) = x0 (ix2 p k) * rms (fun i => x0 (ix2 p i)) * x1 (ix2 (0 : Fin 1) k) := by
  unfold k0_pay1 rms
  pointwise []

theorem proj_apply (h : Vec Ideal S1024x1024 .bf16) (x2 : Vec Ideal S1024x256 .bf16) (p : Fin 1024) (q : Fin 256) :
    k0_pay2 (F := Ideal) h x2 (ix2 p q) = ∑ k : Fin 1024, h (ix2 p k) * x2 (ix2 k q) := by
  unfold k0_pay2
  pointwise []

variable (m : (ℓ : Loc nD τ sig) → Buf (Elt Ideal) ℓ) (c : Dev nD)

abbrev aX : Vec Ideal S16384x1024 .f32 := m ((c : Thread nD τ).loc main_arg0)
abbrev aLn : Vec Ideal S1024 .f32 := m ((c : Thread nD τ).loc main_arg1)
abbrev aW : Vec Ideal S1024x256 .bf16 := m ((c : Thread nD τ).loc main_arg2)

theorem index_row (t : Fin cfg0.N) : win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, win0_0.index t = ![t.val, 0] ∧ win0_1.index t = ![0, 0] ∧ win0_2.index t = ![0, 0]
    ∧ win0_3.index t = ![t.val, 0] ∧ win0_4.index t = ![t.val, 0]) t

theorem hN (t : Fin cfg0.N) : t.val < 16 := lt_of_lt_of_eq t.isLt (show cfg0.N = 16 from N_0)

/-- The block of tokens of a grid point. -/
def bi (t : Fin cfg0.N) : Fin 16 := ⟨t.val, hN t⟩

theorem scale_apply (k : Fin 1024) :
    (V m c main_v0 : Vec Ideal S1x1024 .f32) (ix2 (0 : Fin 1) k) = aLn m c (ix1 k) := by
  unfold V
  unfold_abbrev_sides
  after_results
  show shapeCast S1x1024 (m ((c : Thread nD τ).loc main_arg1) : Vec Ideal S1024 .f32)
    shapeCasts_S1024_S1x1024 (ix2 (0 : Fin 1) k) = _
  pointwise []

theorem iblk0 (t : Fin cfg0.N) (p k : Fin 1024) :
    (iblk m c 0 t : Vec Ideal S1024x1024 .f32) (ix2 p k) = aX m c (ix2 (tok (bi t) p) k) := by
  have hi := (index_row t).1
  unfold iblk
  rw [View.read_apply]
  show V m c main_arg0 _ = _
  rw [V_main_arg0]
  congr 1
  funext a
  apply Fin.ext
  match a with
  | ⟨0, _⟩ => show win0_0.index t 0 * 1024 + 1 * p.val = t.val * 1024 + p.val; rw [hi]; simp
  | ⟨1, _⟩ => show win0_0.index t 1 * 1024 + 1 * k.val = k.val; rw [hi]; simp

theorem iblk1 (t : Fin cfg0.N) (k : Fin 1024) :
    (iblk m c 1 t : Vec Ideal S1x1024 .f32) (ix2 (0 : Fin 1) k) = aLn m c (ix1 k) := by
  have hi := (index_row t).2.1
  have e : ((cfg0.win 1).blk t).view.emb (ix2 (0 : Fin 1) k) = ix2 (0 : Fin 1) k := by
    funext a
    apply Fin.ext
    match a with
    | ⟨0, _⟩ => show win0_1.index t 0 * 1 + 1 * 0 = 0; rw [hi]; simp
    | ⟨1, _⟩ => show win0_1.index t 1 * 1024 + 1 * k.val = k.val; rw [hi]; simp
  unfold iblk
  rw [View.read_apply]
  show V m c main_v0 _ = _
  rw [e, scale_apply]

theorem iblk2 (t : Fin cfg0.N) (k : Fin 1024) (q : Fin 256) :
    (iblk m c 2 t : Vec Ideal S1024x256 .bf16) (ix2 k q) = aW m c (ix2 k q) := by
  have hi := (index_row t).2.2.1
  unfold iblk
  rw [View.read_apply]
  show V m c main_arg2 _ = _
  rw [V_main_arg2]
  congr 1
  funext a
  apply Fin.ext
  match a with
  | ⟨0, _⟩ => show win0_2.index t 0 * 1024 + 1 * k.val = k.val; rw [hi]; simp
  | ⟨1, _⟩ => show win0_2.index t 1 * 256 + 1 * q.val = q.val; rw [hi]; simp

theorem point_h (t : Fin cfg0.N) (p k : Fin 1024) :
    k0_pay1 (F := Ideal) (iblk m c 0 t) (iblk m c 1 t) (ix2 p k) = hid (aX m c) (aLn m c) (tok (bi t) p) k := by
  rw [h_apply, iblk1 m c t k, iblk0 m c t p k]
  have e : (fun i => (iblk m c 0 t : Vec Ideal S1024x1024 .f32) (ix2 p i)) = fun i => aX m c (ix2 (tok (bi t) p) i) := funext fun i => iblk0 m c t p i
  rw [e]
  rfl

theorem point_proj (t : Fin cfg0.N) (p : Fin 1024) (q : Fin 256) :
    k0_pay2 (F := Ideal) (k0_pay1 (F := Ideal) (iblk m c 0 t) (iblk m c 1 t)) (iblk m c 2 t) (ix2 p q)
      = kProj (aX m c) (aLn m c) (aW m c) (ix2 (tok (bi t) p) q) := by
  rw [proj_apply]
  exact Finset.sum_congr rfl fun k _ => congrArg₂ (fun u v : EReal => u * v) (point_h m c t p k) (iblk2 m c t k q)

theorem out_proj (t : Fin cfg0.N) (p : Fin 1024) (q : Fin 256) :
    (outsAt0 m c t).1 (ix2 p q) = kProj (aX m c) (aLn m c) (aW m c) (ix2 (tok (bi t) p) q) := by
  unfold outsAt0
  frame_out
  exact point_proj m c t p q

theorem out_h (t : Fin cfg0.N) (p k : Fin 1024) :
    (outsAt0 m c t).2 (ix2 p k) = hid (aX m c) (aLn m c) (tok (bi t) p) k := by
  unfold outsAt0
  frame_out
  exact point_h m c t p k

/-! ## The arrays -/

theorem final_proj : (dats m 0 c).arrAt 3 cfg0.N = kProj (aX m c) (aLn m c) (aW m c) := by
  refine (dats m 0 c).arrAt_eq_of_covers 3 _ (by decide +kernel) fun t hf y => ?_
  have hi := (index_row t).2.2.2.1
  obtain ⟨p, q, rfl⟩ : ∃ (p : Fin 1024) (q : Fin 256), y = ix2 p q := ⟨y 0, y 1, eq_ix2 y⟩
  have e : ((cfg0.win 3).blk t).view.emb (ix2 p q) = ix2 (tok (bi t) p) q := by
    funext a
    apply Fin.ext
    match a with
    | ⟨0, _⟩ => show win0_3.index t 0 * 1024 + 1 * p.val = t.val * 1024 + p.val; rw [hi]; simp
    | ⟨1, _⟩ => show win0_3.index t 1 * 256 + 1 * q.val = q.val; rw [hi]; simp
  blk_simp
  rw [after0_3, e]
  exact out_proj m c t p q

theorem final_h : (dats m 0 c).arrAt 4 cfg0.N = kH (aX m c) (aLn m c) := by
  refine (dats m 0 c).arrAt_eq_of_covers 4 _ (by decide +kernel) fun t hf y => ?_
  have hi := (index_row t).2.2.2.2
  obtain ⟨p, k, rfl⟩ : ∃ (p k : Fin 1024), y = ix2 p k := ⟨y 0, y 1, eq_ix2 y⟩
  have e : ((cfg0.win 4).blk t).view.emb (ix2 p k) = ix2 (tok (bi t) p) k := by
    funext a
    apply Fin.ext
    match a with
    | ⟨0, _⟩ => show win0_4.index t 0 * 1024 + 1 * p.val = t.val * 1024 + p.val; rw [hi]; simp
    | ⟨1, _⟩ => show win0_4.index t 1 * 1024 + 1 * k.val = k.val; rw [hi]; simp
  blk_simp
  rw [after0_4, e]
  exact out_h m c t p k

theorem reference_frame : Cert.quiescent_Reference22Ideal (hReference22Ideal := Cert.Reference22Ideal.Gen.facts) := fun m g _ =>
  (θ_run _ _ _).mono (fun _ h => ⟨fun c => (h c).2.2, sem_eq_zero_of_no_sems (by decide) _⟩) (Cert.Reference22Ideal.Value.run m g)

theorem algebraic : Cert.algebraic_Kernel22Ideal_Reference22Ideal (hKernel22Ideal := Cert.Kernel22Ideal.Gen.facts)
    (hReference22Ideal := Cert.Reference22Ideal.Gen.facts) := by
  intro m g m' g' _ hargs
  refine ⟨fun c => kProj (aX m c) (aLn m c) (aW m c), fun c => kH (aX m c) (aLn m c), ?_, ?_⟩
  · exact (θ_run _ _ _).mono (fun r h c => ⟨(h c).1.trans (final_proj m c), (h c).2.1.trans (final_h m c), (h c).2.2⟩)
      (Cert.Kernel22Ideal.Value.run_blocks m g)
  · refine (θ_run _ _ _).mono (fun r h c => ?_) (Cert.Reference22Ideal.Value.run m' g')
    obtain ⟨e0, e1, e2⟩ := hargs c
    refine ⟨(h c).1.trans ?_, (h c).2.1.trans ?_, (h c).2.2⟩
    · rw [e0, e1, e2]
      exact ref_proj_eq _ _ _
    · rw [e0, e1]
      exact ref_h_eq _ _

end Cert.Kernel22Ideal.Norm
-- ==== Proof.Mixer.Run.lean ====
/- The input projection of a gated-DeltaNet layer: the body in its two cases (the first block of columns, where it
   normalizes the tokens and stores them, and the other two, where it finds them), what its buffers hold after each
   point, and the frame. -/
module

public import proofs.«01_k».proof.Proof.Gen.Kernel23Ideal.Launch
public import proofs.«01_k».proof.Proof.Gen.Kernel23Ideal.Skeleton
public import proofs.«01_k».proof.Proof.Gen.Kernel23Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel23Ideal.Mixer

open Cert.Kernel23Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (m : (ℓ : Loc nD τ sig) → Buf (Elt F) ℓ)

/-- The buffers of core `c` when the grid starts: after the host operation before it. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program is the host operation and then the grid. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operation writes no argument. -/
theorem V_args (c : Dev nD) : V m c main_arg0 = m ((c : Thread nD τ).loc main_arg0)
    ∧ V m c main_arg1 = m ((c : Thread nD τ).loc main_arg1)
    ∧ V m c main_arg2 = m ((c : Thread nD τ).loc main_arg2) := by
  refine ⟨?_, ?_, ?_⟩ <;>
  · refine StableHlo.after_of_forall_not_mem (b := Proc.devRef .tc _) _ _ (List.forall_iff_forall_mem.mp ?_)
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes,
      StableHlo.binaryIndexed_writes, Finset.mem_singleton]
    repeat' apply And.intro
    all_goals exact StableHlo.devRef_ne_of_ne (by decide)

/-- The block of window `w` at point `t`, as the grid finds its array. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

end

/-- The branch is taken at the first block of columns: it normalizes the tokens. -/
abbrev isFirst (i : grid0.Coords) : Prop := k0_cond1 i = 1#1

theorem isFirst_iff (t : Fin cfg0.N) : isFirst (grid0.coords t) ↔ t.val % 3 = 0 := by
  have ht : t.val < 48 := Nat.lt_of_lt_of_eq t.isLt N_0
  have e0 : (grid0.coords t 0).val = t.val / 3 % 16 := Pipeline.Grid.coords_val t 0 (by decide) rfl
  have e1 : (grid0.coords t 1).val = t.val / 1 % 3 := Pipeline.Grid.coords_val t 1 (by decide) rfl
  simp only [isFirst, k0_cond1, e0, e1]
  word_cmp

/-- The normalized tokens' window is left alone except at the first block of columns. -/
theorem idle4 (t : Fin cfg0.N) : cfg0.idle 4 (grid0.coords t) = !decide (t.val % 3 = 0) := by
  rw [show cfg0.idle 4 (grid0.coords t) = !(k0_cond1 (grid0.coords t) == 1#1) from rfl]
  exact congrArg (!·) (decide_eq_decide.mpr (isFirst_iff t))

/-- One staging buffer of each output window: what a buffer ends up with is stated through it. -/
abbrev VO3 : View sig .tc .vmem S1024x1152 .f32 := (Memref.whole cc0_stg3_0 : Memref sig .tc .vmem S1024x1152 .f32).view
abbrev VO4 : View sig .tc .vmem S1024x1024 .bf16 := (Memref.whole cc0_stg4_0 : Memref sig .tc .vmem S1024x1024 .bf16).view

/-- Each window's staging buffer at point `t`, and that it is a whole buffer. -/
abbrev ms0 (t : Fin cfg0.N) : Memref sig .tc .vmem S1024x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1152 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1152 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1024 .bf16 := win0_4.stage (cfg0.slots t 4)
abbrev hs4 (t : Fin cfg0.N) : (ms4 t).IsWhole := hstage0_4 ((cfg0.slots t 4).cast nbuf0_4)

/-! ## The body -/

/-- A buffer with the pieces `L` written over something. -/
abbrev written {S : Shape} {e : EltTy} (c : Dev nD) (a : Memref sig .tc .vmem S e)
    (L : List (View.Piece (Elt F) S e)) : sProp 𝕄 :=
  iprop(∃ f, a.view.loc (c : Thread nD τ) ↦[a.view.set]{fullShare} a.view.writes (Elt F) f L)

/-- A buffer at anything. -/
abbrev anything {S : Shape} {e : EltTy} (c : Dev nD) (a : Memref sig .tc .vmem S e) : sProp 𝕄 :=
  iprop(∃ d : Vec F S e, owns (c : Thread nD τ) a fullShare d)

section
variable (c : Dev nD) (i : grid0.Coords)
  (arg2 : Memref sig .tc .vmem S1024x1024 .f32) (harg2 : arg2.IsWhole)
  (arg3 : Memref sig .tc .vmem S1x1024 .f32) (harg3 : arg3.IsWhole)
  (arg4 : Memref sig .tc .vmem S1024x1152 .bf16) (harg4 : arg4.IsWhole)
  (arg5 : Memref sig .tc .vmem S1024x1152 .f32) (harg5 : arg5.IsWhole)
  (arg6 : Memref sig .tc .vmem S1024x1024 .bf16) (harg6 : arg6.IsWhole)
  (x0 : Vec F S1024x1024 .f32) (x1 : Vec F S1x1024 .f32) (x2 : Vec F S1024x1152 .bf16)

/-- The three input buffers at their blocks. -/
abbrev inputs : sProp 𝕄 :=
  iprop(owns (c : Thread nD τ) arg2 fullShare x0 ∗ owns (c : Thread nD τ) arg3 fullShare x1 ∗ owns (c : Thread nD τ) arg4 fullShare x2)

set_option maxHeartbeats 1000000 in
/-- At the first block of columns both output buffers are stored into. -/
def runA (hfirst : isFirst i) :
    Σ' (L3 : List (View.Piece (Elt F) S1024x1152 .f32)), { L4 : List (View.Piece (Elt F) S1024x1024 .bf16) //
      ∀ (E : Set ℕ) (K : PUnit → sProp 𝕄),
        iprop(inputs c arg2 arg3 arg4 x0 x1 x2 ∗ anything c arg5 ∗ anything c arg6
            ∗ (iprop(inputs c arg2 arg3 arg4 x0 x1 x2 ∗ written c arg5 L3 ∗ written c arg6 L4) -∗ K ⟨⟩))
          ⊢ wp frame (wpE (defs₀ (F := F)) Variants.none c none) E
              (cc0_gdn_in_proj i arg2 harg2 arg3 harg3 arg4 harg4 arg5 harg5 arg6 harg6) K } := by
  refine ⟨?_, ?_, fun E K => ?run⟩
  case run =>
    simp only [cc0_gdn_in_proj_eq_skeleton]; unfold cc0_gdn_in_proj_skel
    unfold inputs anything written owns
    iintro ⟨⟨⟨%f0, %hf0, H0⟩, ⟨%f1, %hf1, H1⟩, ⟨%f2, %hf2, H2⟩⟩, ⟨%d3, %f3, -, H3⟩, ⟨%d4, %f4, -, H4⟩, Hk⟩
    obtain rfl := harg2.eq_unread hf0; obtain rfl := harg3.eq_unread hf1; obtain rfl := harg4.eq_unread hf2
    sl_exec (disch := first | sl_exact hfirst)
    sl_step
    iapply Hk
    isplitl [H0 H1 H2]
    · isplitl [H0]
      · iexists _; isplitr; · ipureintro; exact harg2.read_unread _
        iexact H0
      isplitl [H1]
      · iexists _; isplitr; · ipureintro; exact harg3.read_unread _
        iexact H1
      iexists _; isplitr; · ipureintro; exact harg4.read_unread _
      iexact H2
    isplitl [H3]; · iexists _; iexact H3
    iexists _; iexact H4

set_option maxHeartbeats 1000000 in
/-- At the other two the normalized tokens' buffer keeps what it holds. -/
def runB (hfirst : ¬isFirst i) (h : Vec F S1024x1024 .bf16) :
    { L3 : List (View.Piece (Elt F) S1024x1152 .f32) //
      ∀ (E : Set ℕ) (K : PUnit → sProp 𝕄),
        iprop(inputs c arg2 arg3 arg4 x0 x1 x2 ∗ anything c arg5 ∗ owns (c : Thread nD τ) arg6 fullShare h
            ∗ (iprop(inputs c arg2 arg3 arg4 x0 x1 x2 ∗ written c arg5 L3 ∗ owns (c : Thread nD τ) arg6 fullShare h) -∗ K ⟨⟩))
          ⊢ wp frame (wpE (defs₀ (F := F)) Variants.none c none) E
              (cc0_gdn_in_proj i arg2 harg2 arg3 harg3 arg4 harg4 arg5 harg5 arg6 harg6) K } := by
  refine ⟨?_, fun E K => ?run⟩
  case run =>
    simp only [cc0_gdn_in_proj_eq_skeleton]; unfold cc0_gdn_in_proj_skel
    unfold inputs anything written owns
    iintro ⟨⟨⟨%f0, %hf0, H0⟩, ⟨%f1, %hf1, H1⟩, ⟨%f2, %hf2, H2⟩⟩, ⟨%d3, %f3, -, H3⟩, ⟨%f4, %hf4, H4⟩, Hk⟩
    obtain rfl := harg2.eq_unread hf0; obtain rfl := harg3.eq_unread hf1; obtain rfl := harg4.eq_unread hf2
    obtain rfl := harg6.eq_unread hf4
    sl_exec (disch := first | sl_exact hfirst)
    sl_step
    iapply Hk
    isplitl [H0 H1 H2]
    · isplitl [H0]
      · iexists _; isplitr; · ipureintro; exact harg2.read_unread _
        iexact H0
      isplitl [H1]
      · iexists _; isplitr; · ipureintro; exact harg3.read_unread _
        iexact H1
      iexists _; isplitr; · ipureintro; exact harg4.read_unread _
      iexact H2
    isplitl [H3]; · iexists _; iexact H3
    iexists _; isplitr; · ipureintro; exact harg6.read_unread _
    iexact H4

end

/-! ## What the buffers hold after each point -/

variable (m : (ℓ : Loc nD τ sig) → Buf (Elt F) ℓ)

/-- A buffer whose pieces cover it holds them, read through any buffer of its shape. -/
theorem owns_of_written {S : Shape} {e : EltTy} (c : Dev nD) (a : Memref sig .tc .vmem S e) (v : View sig .tc .vmem S e)
    (L : List (View.Piece (Elt F) S e)) (hcov : ∀ y : S.Idx, ∃ pc ∈ L, y ∈ pc.1.set) :
    written c a L ⊢ owns (c : Thread nD τ) a fullShare (v.read (Elt F) (v.writes (Elt F) v.junk L)) := by
  unfold written owns
  iintro ⟨%f, H⟩
  iexists _; isplitr
  swap; · iexact H
  ipureintro; exact View.read_writes_of_cover _ _ _ _ _ hcov

/-- The body at point `t`, at the first block of columns, -/
abbrev atA (c : Dev nD) (t : Fin cfg0.N) (h0 : t.val % 3 = 0) :=
  runA c (grid0.coords t) (ms0 t) (hs0 t) (ms1 t) (hs1 t) (ms2 t) (hs2 t) (ms3 t) (hs3 t) (ms4 t) (hs4 t)
    (iblk m c 0 t) (iblk m c 1 t) (iblk m c 2 t) ((isFirst_iff t).mpr h0)

/-- and at another one, over the normalized tokens `h` it finds. -/
abbrev atB (c : Dev nD) (t : Fin cfg0.N) (h0 : ¬t.val % 3 = 0) (h : Vec F S1024x1024 .bf16) :=
  runB c (grid0.coords t) (ms0 t) (hs0 t) (ms1 t) (hs1 t) (ms2 t) (hs2 t) (ms3 t) (hs3 t) (ms4 t) (hs4 t)
    (iblk m c 0 t) (iblk m c 1 t) (iblk m c 2 t) (fun h => h0 ((isFirst_iff t).mp h)) h

theorem coverA (c : Dev nD) (t : Fin cfg0.N) (h0 : t.val % 3 = 0) :
    (∀ y : S1024x1152.Idx, ∃ pc ∈ (atA m c t h0).1, y ∈ pc.1.set) ∧ (∀ y : S1024x1024.Idx, ∃ pc ∈ (atA m c t h0).2.1, y ∈ pc.1.set) :=
  ⟨View.cover_of_tiledL _ S1024x1152.size (by sl_kernel_rfl), View.cover_of_tiledL _ S1024x1024.size (by sl_kernel_rfl)⟩

theorem coverB (c : Dev nD) (t : Fin cfg0.N) (h0 : ¬t.val % 3 = 0) (h : Vec F S1024x1024 .bf16) :
    ∀ y : S1024x1152.Idx, ∃ pc ∈ (atB m c t h0 h).1, y ∈ pc.1.set :=
  View.cover_of_tiledL _ S1024x1152.size (by sl_kernel_rfl)

/-- What a point leaves: the block of projected columns and the normalized tokens. -/
structure Left (F : FTy → Type) [FloatOps F] where
  out : Vec F S1024x1152 .f32
  h : Vec F S1024x1024 .bf16

/-- Pieces written over a buffer of window 3 or 4, read back. -/
abbrev read3 (L : List (View.Piece (Elt F) S1024x1152 .f32)) := VO3.read (Elt F) (VO3.writes (Elt F) VO3.junk L)
abbrev read4 (L : List (View.Piece (Elt F) S1024x1024 .bf16)) := VO4.read (Elt F) (VO4.writes (Elt F) VO4.junk L)

/-- What the body leaves at point `t` when it finds `b`. -/
def leaveAt (c : Dev nD) (t : Fin cfg0.N) (b : Left F) : Left F :=
  if h0 : t.val % 3 = 0 then { out := read3 (atA m c t h0).1, h := read4 (atA m c t h0).2.1 }
  else { out := read3 (atB m c t h0 b.h).1, h := b.h }

theorem leaveAt_A (c : Dev nD) (t : Fin cfg0.N) (b : Left F) (h0 : t.val % 3 = 0) :
    leaveAt m c t b = { out := read3 (atA m c t h0).1, h := read4 (atA m c t h0).2.1 } := dif_pos h0

theorem leaveAt_B (c : Dev nD) (t : Fin cfg0.N) (b : Left F) (h0 : ¬t.val % 3 = 0) :
    leaveAt m c t b = { out := read3 (atB m c t h0 b.h).1, h := b.h } := dif_neg h0

/-- Past the first block of columns the normalized tokens are what they were. -/
theorem leaveAt_h (c : Dev nD) (t : Fin cfg0.N) (b : Left F) (h0 : ¬t.val % 3 = 0) : (leaveAt m c t b).h = b.h := by
  rw [leaveAt_B m c t b h0]

/-- What the buffers hold before point `n`, -/
def leftBefore (c : Dev nD) : (n : ℕ) → n ≤ cfg0.N → Left F
  | 0, _ => { out := read3 [], h := read4 [] }
  | n + 1, hn => leaveAt m c ⟨n, hn⟩ (leftBefore c n (Nat.le_of_lt hn))

/-- and after point `t`. -/
def left (c : Dev nD) (t : Fin cfg0.N) : Left F := leaveAt m c t (leftBefore m c t.val (Nat.le_of_lt t.isLt))

theorem leftBefore_succ (c : Dev nD) (n : ℕ) (hn : n < cfg0.N) : leftBefore m c (n + 1) hn = left m c ⟨n, hn⟩ := rfl

set_option maxHeartbeats 4000000 in
/-- The body at point `t`: if past the first block of columns the normalized tokens' buffer holds what the point before
    left, it leaves every buffer at what `leaveAt` says. -/
theorem body (c : Dev nD) (t : Fin cfg0.N) (b : Left F) (x4 : Vec F S1024x1024 .bf16) (hb : ¬t.val % 3 = 0 → x4 = b.h) (K : PUnit → sProp 𝕄) :
    iprop(inputs c (ms0 t) (ms1 t) (ms2 t) (iblk m c 0 t) (iblk m c 1 t) (iblk m c 2 t) ∗ anything c (ms3 t) ∗ owns (c : Thread nD τ) (ms4 t) fullShare x4
        ∗ (iprop(inputs c (ms0 t) (ms1 t) (ms2 t) (iblk m c 0 t) (iblk m c 1 t) (iblk m c 2 t)
            ∗ owns (c : Thread nD τ) (ms3 t) fullShare (leaveAt m c t b).out
            ∗ owns (c : Thread nD τ) (ms4 t) fullShare (leaveAt m c t b).h) -∗ K ⟨⟩))
      ⊢ wp frame (wpE (defs₀ (F := F)) Variants.none c none) Set.univ (bodyAt0 t) K := by
  unfold bodyAt0
  by_cases h0 : t.val % 3 = 0
  · rw [leaveAt_A m c t b h0]; dsimp only
    obtain ⟨k3, k4⟩ := coverA m c t h0
    iintro ⟨HI, H3, H4, Hk⟩
    iapply ((atA m c t h0).2.2 Set.univ _)
    isplitl [HI]; · iexact HI
    isplitl [H3]; · iexact H3
    isplitl [H4]; · iexists _; iexact H4
    iintro ⟨HI, H3, H4⟩
    iapply Hk
    isplitl [HI]; · iexact HI
    isplitl [H3]; · iapply (owns_of_written c (ms3 t) VO3 _ k3); iexact H3
    iapply (owns_of_written c (ms4 t) VO4 _ k4); iexact H4
  · obtain rfl := hb h0
    rw [leaveAt_B m c t b h0]; dsimp only
    have k3 := coverB m c t h0 b.h
    iintro ⟨HI, H3, H4, Hk⟩
    iapply ((atB m c t h0 b.h).2 Set.univ _)
    isplitl [HI]; · iexact HI
    isplitl [H3]; · iexact H3
    isplitl [H4]; · iexact H4
    iintro ⟨HI, H3, H4⟩
    iapply Hk
    isplitl [HI]; · iexact HI
    isplitl [H3]; · iapply (owns_of_written c (ms3 t) VO3 _ k3); iexact H3
    iexact H4

/-! ## The frame -/

variable (ρ : Dev nD → PrngReg)

/-- The contents the pipeline is proved with: an input's buffer keeps its block, an output's holds what `left` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (left m c t).out
    | ⟨4, _⟩ => (left m c t).h
  Φ _ := Pipeline.ΦA spec0 c
  q _ := fullShare
  owed _ := 0

theorem A_eq (c : Dev nD) (w : Fin cfg0.W) : (dats m 0 c).A w = V m c (Pipeline.arrRef spec0 w) := by
  dsimp only [dats]

/-- An input's buffer holds its block at every point. -/
theorem before_input (c : Dev nD) (t : Fin cfg0.N) :
    (∀ d, (dats m 0 c).before 0 t d = iblk m c 0 t) ∧ (∀ d, (dats m 0 c).before 1 t d = iblk m c 1 t)
    ∧ (∀ d, (dats m 0 c).before 2 t d = iblk m c 2 t) :=
  ⟨fun d => (dats m 0 c).before_in_eq_fetched 0 rfl (fun _ => rfl) (fun _ _ _ => rfl) (fun _ => rfl) t d,
    fun d => (dats m 0 c).before_in_eq_fetched 1 rfl (fun _ => rfl) (fun _ _ _ => rfl) (fun _ => rfl) t d,
    fun d => (dats m 0 c).before_in_eq_fetched 2 rfl (fun _ => rfl) (fun _ _ _ => rfl) (fun _ => rfl) t d⟩

/-- Past the first block of columns the normalized tokens' buffer holds what the first one stored: the points between
    leave it alone and none of them writes it back. -/
theorem before_rows (c : Dev nD) : ∀ (n : ℕ) (hn : n < cfg0.N), ¬n % 3 = 0 → ∀ d,
    (dats m 0 c).before 4 ⟨n, hn⟩ d = (leftBefore m c n (Nat.le_of_lt hn)).h := by
  intro n
  induction n with
  | zero => intro _ h; exact absurd (Nat.zero_mod _) h
  | succ n ih =>
    intro hn h0 d
    have hn' : n < cfg0.N := Nat.lt_of_succ_lt hn
    have hfl : (cfg0.win 4).flush ⟨n, hn'⟩ = false := Bool.eq_false_iff.mpr fun h => by
      have := (flush0_4 _).mp h; dsimp only at this; omega
    have hpos := (dats m 0 c).before_of_pos 4 ⟨n + 1, hn⟩ (Nat.succ_ne_zero n) ((cfg0.win 4).fetch_out rfl _) d
    rw [show (⟨(⟨n + 1, hn⟩ : Fin cfg0.N).val - 1, Nat.lt_of_le_of_lt (Nat.sub_le _ _) hn⟩ : Fin cfg0.N) = ⟨n, hn'⟩ from rfl,
      hfl, if_neg Bool.false_ne_true] at hpos
    rw [hpos, leftBefore_succ]
    have hi := idle4 ⟨n, hn'⟩
    by_cases h : n % 3 = 0
    · rw [show (!decide ((⟨n, hn'⟩ : Fin cfg0.N).val % 3 = 0)) = false from by simp [h]] at hi
      unfold Dat.left; rw [hi]
      show (cfg0.win 4).fill _ d ((cfg0.win 4).cut _ ((dats m 0 c).after 4 ⟨n, hn'⟩)) = _
      exact (Pipeline.fill_of_clip_none _ _ (fun _ => rfl) _ ((dats m 0 c).after 4 ⟨n, hn'⟩) _).trans (Window.fill_cut _ _ _)
    · rw [show (!decide ((⟨n, hn'⟩ : Fin cfg0.N).val % 3 = 0)) = true from by simp [h]] at hi
      unfold Dat.left; rw [hi]
      exact (ih hn' h d).trans (leaveAt_h m c ⟨n, hn'⟩ _ h).symm

/-- What the normalized tokens' buffer may be left at. -/
theorem leaves_rows (c : Dev nD) (t : Fin cfg0.N) :
    owns (c : Thread nD τ) (ms4 t) fullShare (left m c t).h ⊢ (dats m 0 c).leavesExact 4 t := by
  have hi := idle4 t
  by_cases h : t.val % 3 = 0
  · rw [show (!decide (t.val % 3 = 0)) = false from by simp [h]] at hi
    unfold Dat.leavesExact; rw [hi]
    exact Idealize.SL.BI.Entails.refl _
  · rw [show (!decide (t.val % 3 = 0)) = true from by simp [h]] at hi
    by_cases hf : (cfg0.win 4).flush t = true
    · unfold Dat.leavesExact; rw [hi, hf]
      exact Idealize.SL.BI.Entails.refl _
    · rw [Dat.leavesExact_idle (dats m 0 c) 4 t hi (Bool.eq_false_iff.mpr hf)]
      rw [show (left m c t).h = (dats m 0 c).before 4 t (leftBefore m c t.val (Nat.le_of_lt t.isLt)).h from
        (leaveAt_h m c t _ h).trans (before_rows m c t.val t.isLt h _).symm]
      iintro H; iexists _; iexact H

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  obtain ⟨b0, b1, b2⟩ := before_input m c t
  simp only [b0, b1, b2]
  rw [show (dats m 0 c).Φ t.succ = (dats m 0 c).Φ t.castSucc from rfl,
    show (dats m 0 c).owesAt () t.succ = (dats m 0 c).owesAt () t.castSucc from rfl]
  iintro ⟨HP, Ho, ⟨%d0, H0⟩, ⟨%d1, H1⟩, ⟨%d2, H2⟩, ⟨%d3, H3⟩, ⟨%d4, H4⟩⟩
  iapply (body m c t (leftBefore m c t.val (Nat.le_of_lt t.isLt)) ((dats m 0 c).before 4 t d4)
    (fun h => before_rows m c t.val t.isLt h d4) _)
  isplitl [H0 H1 H2]
  · isplitl [H0]; · iexact H0
    isplitl [H1]; · iexact H1
    iexact H2
  isplitl [H3]; · iexists _; iexact H3
  isplitl [H4]; · iexact H4
  iintro ⟨⟨H0, H1, H2⟩, H3, H4⟩
  isplitl [HP]; · iexact HP
  isplitl [Ho]; · iexact Ho
  isplitl [H0]; · iexact H0
  isplitl [H1]; · iexact H1
  isplitl [H2]; · iexact H2
  isplitl [H3]; · iexact H3
  iapply (leaves_rows m c t); iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every run ends with the arrays at what the pipeline writes back and every semaphore at zero. -/
theorem run_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The two results are the pipeline's arrays, the arguments are unchanged and every semaphore is at zero. -/
theorem run : θ_run defs (onTc (τ := τ) (main (F := F))) ⟨m, fun _ => 0, ρ⟩ (fun r => (∀ c : Dev nD,
      r.2.mem ((c : Thread nD τ).loc main_v1_0) = (dats m 0 c).arrAt 3 cfg0.N
      ∧ r.2.mem ((c : Thread nD τ).loc main_v1_1) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0) :=
  (θ_run defs _ _).mono (fun _ h => ⟨fun c => ⟨(h.1 c).1 3, (h.1 c).1 4,
      ((h.1 c).1 0).trans (((dats m 0 c).arrAt_in 0 rfl _).trans ((A_eq m c 0).trans (V_args m c).1)),
      ((h.1 c).2 main_arg1 (Pipeline.mem_restRefs_of main_arg1 (by decide) (by decide))).trans (V_args m c).2.1,
      ((h.1 c).1 2).trans (((dats m 0 c).arrAt_in 2 rfl _).trans ((A_eq m c 2).trans (V_args m c).2.2))⟩, h.2⟩)
    (run_quiescent m ρ)

/-- The frame: every run ends, the arguments unchanged, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h.1 c).2.2, h.2⟩) (run m ρ)

end Cert.Kernel23Ideal.Mixer

end
-- ==== Proof.Mixer.Claim.lean ====
/-
  The input projection of a gated-DeltaNet layer: the tokens are divided by their root mean square, scaled, and multiplied
  by the weight. A point takes one of 16 blocks of 1024 tokens and one of three blocks of 1152 columns. What the kernel
  leaves, the reference read element by element, and the claims.
-/
module

public import proofs.«01_k».proof.Defs
public import proofs.«01_k».proof.Proof.Gen.Kernel23
public import proofs.«01_k».proof.Proof.Mixer.Run
public import proofs.«01_k».proof.Proof.Gen.Reference23Ideal.Run
public import Idealize.ShloMosaic.Lib.Pointwise
public import Idealize.ShloMosaic.Lib.Pipeline.ValueKit
public import Idealize.ShloMosaic.Lib.Quiescent

@[expose] public section
set_option maxRecDepth 16384
noncomputable section

namespace Cert.Reference23Ideal.Mixer
open Cert.Reference23Ideal Cert.Reference23Ideal.Gen Cert.Reference23Ideal.Value Idealize.ShloMosaic Idealize.ShloMosaic.TcCoe Idealize.ShloMosaic.StableHlo Idealize.SL.Sem

variable (a0 : FVec Ideal S16384x1024 .f32) (a1 : FVec Ideal S1024 .f32) (a2 : FVec Ideal S1024x3456 .bf16)

/-- The mean square of each token, and the small number. -/
def rMean : FVec Ideal S16384x1 .f32 :=
  addf (Host.divf (broadcastInDim S16384x1 ![0] bcast_S16384_S16384x1_0 (Host.reduceAdd (mulf a0 a0) (constant S_ .f32 0x00000000#32) reducesTo_S16384x1024_S16384_d1 h_S_))
    (broadcastInDim S16384x1 ![] bcast_S_S16384x1 (constant S_ .f32 0x44800000#32))) (broadcastInDim S16384x1 ![] bcast_S_S16384x1 (constant S_ .f32 0x358637BD#32))

/-- The normalized tokens. -/
def rNorm : FVec Ideal S16384x1024 .f32 :=
  mulf (mulf a0 (broadcastInDim S16384x1024 ![0, 1] bcast_S16384x1_S16384x1024_0_1 (Host.rsqrt (rMean a0))))
    (broadcastInDim S16384x1024 ![0, 1] bcast_S1x1024_S16384x1024_0_1 (broadcastInDim S1x1024 ![1] bcast_S1024_S1x1024_1 a1))

def rProj : FVec Ideal S16384x3456 .f32 :=
  Host.dotGeneral dot_S16384x1024_S1024x3456_S16384x3456_1_0_0_1_n_n none (rNorm a0 a1) (extf .f32 a2 bitsLt_bf16_f32)

def rH : FVec Ideal S16384x1024 .bf16 := truncf .bf16 (rNorm a0 a1) bitsLt_bf16_f32

theorem rMean_apply (s : Fin 16384) (z : Fin 1) : rMean a0 (ix2 s z)
    = Ideal.div (∑ i : Fin 1024, a0 (ix2 s i) * a0 (ix2 s i)) (Ideal.ofBits FTy.f32 1149239296#32) + Ideal.ofBits FTy.f32 897988541#32 := by
  unfold rMean
  pointwise []

theorem rNorm_apply (s : Fin 16384) (k : Fin 1024) : rNorm a0 a1 (ix2 s k)
    = a0 (ix2 s k) * Ideal.rsqrt (rMean a0 (ix2 s (0 : Fin 1))) * a1 (ix1 k) := by
  unfold rNorm
  pointwise []

theorem rProj_apply (s : Fin 16384) (q : Fin 3456) : rProj a0 a1 a2 (ix2 s q) = ∑ k : Fin 1024, rNorm a0 a1 (ix2 s k) * a2 (ix2 k q) := by
  unfold rProj
  pointwise []

theorem rH_apply (s : Fin 16384) (k : Fin 1024) : rH a0 a1 (ix2 s k) = rNorm a0 a1 (ix2 s k) := by
  unfold rH
  pointwise []

end Cert.Reference23Ideal.Mixer

namespace Cert.Kernel23Ideal.Mixer
open Cert.Kernel23Ideal Cert.Kernel23Ideal.Gen Idealize.ShloMosaic Idealize.ShloMosaic.TcCoe Idealize.ShloMosaic.StableHlo Idealize.SL Idealize.SL.Sem
open Cert.Reference23Ideal.Mixer

/-- Token `p` of block `n`. -/
def tok (n : Fin 16) (p : Fin 1024) : Fin 16384 := ⟨n.val * 1024 + p.val, by omega⟩

/-- Column `q` of block `j`. -/
def col (j : Fin 3) (q : Fin 1152) : Fin 3456 := ⟨j.val * 1152 + q.val, by omega⟩

/-- The reciprocal root mean square of a row. -/
def rms (x : Fin 1024 → EReal) : EReal :=
  Ideal.rsqrt (Ideal.div (∑ k : Fin 1024, x k * x k) (Ideal.ofBits FTy.f32 1149239296#32) + Ideal.ofBits FTy.f32 897988541#32)

section
variable (x : Vec Ideal S16384x1024 .f32) (ln : Vec Ideal S1024 .f32) (w : Vec Ideal S1024x3456 .bf16)

/-- The normalized tokens. -/
def hid (s : Fin 16384) (k : Fin 1024) : EReal := x (ix2 s k) * rms (fun i => x (ix2 s i)) * ln (ix1 k)

/-- The projected tokens. -/
def kProj : Vec Ideal S16384x3456 .f32 := fun i => ∑ k : Fin 1024, hid x ln (i 0) k * w (ix2 k (i 1))

def kH : Vec Ideal S16384x1024 .bf16 := fun i => hid x ln (i 0) (i 1)

theorem ref_norm (s : Fin 16384) (k : Fin 1024) : rNorm x ln (ix2 s k) = hid x ln s k := by
  rw [rNorm_apply, rMean_apply]
  rfl

theorem ref_proj_eq : rProj x ln w = kProj x ln w := by
  funext i
  obtain ⟨s, q, rfl⟩ : ∃ (s : Fin 16384) (q : Fin 3456), i = ix2 s q := ⟨i 0, i 1, eq_ix2 i⟩
  rw [rProj_apply]
  exact Finset.sum_congr rfl fun k _ => congrArg (fun v : EReal => v * w (ix2 k q)) (ref_norm x ln s k)

theorem ref_h_eq : rH x ln = kH x ln := by
  funext i
  obtain ⟨s, k, rfl⟩ : ∃ (s : Fin 16384) (k : Fin 1024), i = ix2 s k := ⟨i 0, i 1, eq_ix2 i⟩
  exact (rH_apply x ln s k).trans (ref_norm x ln s k)

end

/-! ## One grid point -/

theorem h_apply (x0 : Vec Ideal S1024x1024 .f32) (x1 : Vec Ideal S1x1024 .f32) (p k : Fin 1024) :
    k0_pay1 (F := Ideal) x0 x1 (ix2 p k) = x0 (ix2 p k) * rms (fun i => x0 (ix2 p i)) * x1 (ix2 (0 : Fin 1) k) := by
  unfold k0_pay1 rms
  pointwise []

theorem proj_apply (h : Vec Ideal S1024x1024 .bf16) (x2 : Vec Ideal S1024x1152 .bf16) (p : Fin 1024) (q : Fin 1152) :
    k0_pay2 (F := Ideal) h x2 (ix2 p q) = ∑ k : Fin 1024, h (ix2 p k) * x2 (ix2 k q) := by
  unfold k0_pay2
  pointwise []

variable (m : (ℓ : Loc nD τ sig) → Buf (Elt Ideal) ℓ) (c : Dev nD)

abbrev aX : Vec Ideal S16384x1024 .f32 := m ((c : Thread nD τ).loc main_arg0)
abbrev aLn : Vec Ideal S1024 .f32 := m ((c : Thread nD τ).loc main_arg1)
abbrev aW : Vec Ideal S1024x3456 .bf16 := m ((c : Thread nD τ).loc main_arg2)

theorem index_row (t : Fin cfg0.N) : win0_0.index t = ![t.val / 3, 0] ∧ win0_1.index t = ![0, 0] ∧ win0_2.index t = ![0, t.val % 3]
    ∧ win0_3.index t = ![t.val / 3, t.val % 3] ∧ win0_4.index t = ![t.val / 3, 0] :=
  (by decide +kernel : ∀ t : Fin grid0.N, win0_0.index t = ![t.val / 3, 0] ∧ win0_1.index t = ![0, 0] ∧ win0_2.index t = ![0, t.val % 3]
    ∧ win0_3.index t = ![t.val / 3, t.val % 3] ∧ win0_4.index t = ![t.val / 3, 0]) t

theorem hN (t : Fin cfg0.N) : t.val < 48 := lt_of_lt_of_eq t.isLt (show cfg0.N = 48 from N_0)

/-- The block of tokens and the block of columns of a grid point. -/
def bi (t : Fin cfg0.N) : Fin 16 := ⟨t.val / 3, by have := hN t; omega⟩
def bj (t : Fin cfg0.N) : Fin 3 := ⟨t.val % 3, Nat.mod_lt _ (by decide)⟩

theorem scale_apply (k : Fin 1024) :
    (V m c main_v0 : Vec Ideal S1x1024 .f32) (ix2 (0 : Fin 1) k) = aLn m c (ix1 k) := by
  unfold V
  unfold_abbrev_sides
  after_results
  show shapeCast S1x1024 (m ((c : Thread nD τ).loc main_arg1) : Vec Ideal S1024 .f32)
    shapeCasts_S1024_S1x1024 (ix2 (0 : Fin 1) k) = _
  pointwise []

theorem iblk0 (t : Fin cfg0.N) (p k : Fin 1024) :
    (iblk m c 0 t : Vec Ideal S1024x1024 .f32) (ix2 p k) = aX m c (ix2 (tok (bi t) p) k) := by
  have hi := (index_row t).1
  unfold iblk
  rw [View.read_apply]
  show V m c main_arg0 _ = _
  rw [show V m c main_arg0 = _ from (V_args m c).1]
  congr 1
  funext a
  apply Fin.ext
  match a with
  | ⟨0, _⟩ => show win0_0.index t 0 * 1024 + 1 * p.val = t.val / 3 * 1024 + p.val; rw [hi]; simp
  | ⟨1, _⟩ => show win0_0.index t 1 * 1024 + 1 * k.val = k.val; rw [hi]; simp

theorem iblk1 (t : Fin cfg0.N) (k : Fin 1024) :
    (iblk m c 1 t : Vec Ideal S1x1024 .f32) (ix2 (0 : Fin 1) k) = aLn m c (ix1 k) := by
  have hi := (index_row t).2.1
  have e : ((cfg0.win 1).blk t).view.emb (ix2 (0 : Fin 1) k) = ix2 (0 : Fin 1) k := by
    funext a
    apply Fin.ext
    match a with
    | ⟨0, _⟩ => show win0_1.index t 0 * 1 + 1 * 0 = 0; rw [hi]; simp
    | ⟨1, _⟩ => show win0_1.index t 1 * 1024 + 1 * k.val = k.val; rw [hi]; simp
  unfold iblk
  rw [View.read_apply]
  show V m c main_v0 _ = _
  rw [e, scale_apply]

theorem iblk2 (t : Fin cfg0.N) (k : Fin 1024) (q : Fin 1152) :
    (iblk m c 2 t : Vec Ideal S1024x1152 .bf16) (ix2 k q) = aW m c (ix2 k (col (bj t) q)) := by
  have hi := (index_row t).2.2.1
  unfold iblk
  rw [View.read_apply]
  show V m c main_arg2 _ = _
  rw [show V m c main_arg2 = _ from (V_args m c).2.2]
  congr 1
  funext a
  apply Fin.ext
  match a with
  | ⟨0, _⟩ => show win0_2.index t 0 * 1024 + 1 * k.val = k.val; rw [hi]; simp
  | ⟨1, _⟩ => show win0_2.index t 1 * 1152 + 1 * q.val = t.val % 3 * 1152 + q.val; rw [hi]; simp

theorem point_h (t : Fin cfg0.N) (p k : Fin 1024) :
    k0_pay1 (F := Ideal) (iblk m c 0 t) (iblk m c 1 t) (ix2 p k) = hid (aX m c) (aLn m c) (tok (bi t) p) k := by
  rw [h_apply, iblk1 m c t k, iblk0 m c t p k]
  have e : (fun i => (iblk m c 0 t : Vec Ideal S1024x1024 .f32) (ix2 p i)) = fun i => aX m c (ix2 (tok (bi t) p) i) := funext fun i => iblk0 m c t p i
  rw [e]
  rfl

/-- The product of the normalized tokens with a block of columns. -/
theorem point_proj (t : Fin cfg0.N) (h : Vec Ideal S1024x1024 .bf16) (hh : ∀ p k : Fin 1024, h (ix2 p k) = hid (aX m c) (aLn m c) (tok (bi t) p) k)
    (p : Fin 1024) (q : Fin 1152) :
    k0_pay2 (F := Ideal) h (iblk m c 2 t) (ix2 p q) = kProj (aX m c) (aLn m c) (aW m c) (ix2 (tok (bi t) p) (col (bj t) q)) := by
  rw [proj_apply]
  exact Finset.sum_congr rfl fun k _ => congrArg₂ (fun u v : EReal => u * v) (hh p k) (iblk2 m c t k q)

theorem leave_h (t : Fin cfg0.N) (b : Left Ideal) (h0 : t.val % 3 = 0) (p k : Fin 1024) :
    (leaveAt m c t b).h (ix2 p k) = hid (aX m c) (aLn m c) (tok (bi t) p) k := by
  rw [leaveAt_A m c t b h0]
  dsimp only [read4, atA, runA]
  frame_out
  exact point_h m c t p k

/-- Past the first block of columns a point works on the block of tokens of the point before. -/
theorem bi_succ (n : ℕ) (hn : n + 1 < cfg0.N) (h : ¬(n + 1) % 3 = 0) : bi ⟨n, Nat.lt_of_succ_lt hn⟩ = bi ⟨n + 1, hn⟩ :=
  Fin.ext (by show n / 3 = (n + 1) / 3; omega)

/-- Every point leaves the normalized tokens of its block. -/
theorem left_h (n : ℕ) : ∀ (hn : n < cfg0.N) (p k : Fin 1024), (left m c ⟨n, hn⟩).h (ix2 p k) = hid (aX m c) (aLn m c) (tok (bi ⟨n, hn⟩) p) k := by
  induction n with
  | zero => exact fun hn p k => leave_h m c ⟨0, hn⟩ _ rfl p k
  | succ n ih =>
    intro hn p k
    by_cases h0 : (n + 1) % 3 = 0
    · exact leave_h m c ⟨n + 1, hn⟩ _ h0 p k
    · refine (congrFun (leaveAt_h m c ⟨n + 1, hn⟩ _ h0) _).trans ((ih (Nat.lt_of_succ_lt hn) p k).trans ?_)
      exact congrArg (fun b => hid (aX m c) (aLn m c) (tok b p) k) (bi_succ n hn h0)

/-- So past the first block of columns a point finds them. -/
theorem found_h (n : ℕ) (hn : n < cfg0.N) (h0 : ¬n % 3 = 0) (p k : Fin 1024) :
    (leftBefore m c n (Nat.le_of_lt hn)).h (ix2 p k) = hid (aX m c) (aLn m c) (tok (bi ⟨n, hn⟩) p) k := by
  cases n with
  | zero => exact absurd (Nat.zero_mod _) h0
  | succ n =>
    refine (left_h m c n (Nat.lt_of_succ_lt hn) p k).trans ?_
    exact congrArg (fun b => hid (aX m c) (aLn m c) (tok b p) k) (bi_succ n hn h0)

theorem left_out (t : Fin cfg0.N) (p : Fin 1024) (q : Fin 1152) :
    (left m c t).out (ix2 p q) = kProj (aX m c) (aLn m c) (aW m c) (ix2 (tok (bi t) p) (col (bj t) q)) := by
  unfold left
  by_cases h0 : t.val % 3 = 0
  · rw [leaveAt_A m c t _ h0]
    dsimp only [read3, atA, runA]
    frame_out
    exact point_proj m c t _ (point_h m c t) p q
  · rw [leaveAt_B m c t _ h0]
    dsimp only [read3, atB, runB]
    frame_out
    exact point_proj m c t _ (found_h m c t.val t.isLt h0) p q

/-! ## The arrays -/

theorem final_proj : (dats m 0 c).arrAt 3 cfg0.N = kProj (aX m c) (aLn m c) (aW m c) := by
  refine (dats m 0 c).arrAt_eq_of_covers 3 _ (by decide +kernel) fun t hf y => ?_
  have hi := (index_row t).2.2.2.1
  obtain ⟨p, q, rfl⟩ : ∃ (p : Fin 1024) (q : Fin 1152), y = ix2 p q := ⟨y 0, y 1, eq_ix2 y⟩
  have e : ((cfg0.win 3).blk t).view.emb (ix2 p q) = ix2 (tok (bi t) p) (col (bj t) q) := by
    funext a
    apply Fin.ext
    match a with
    | ⟨0, _⟩ => show win0_3.index t 0 * 1024 + 1 * p.val = t.val / 3 * 1024 + p.val; rw [hi]; simp
    | ⟨1, _⟩ => show win0_3.index t 1 * 1152 + 1 * q.val = t.val % 3 * 1152 + q.val; rw [hi]; simp
  blk_simp
  rw [e]
  exact left_out m c t p q

theorem final_h : (dats m 0 c).arrAt 4 cfg0.N = kH (aX m c) (aLn m c) := by
  refine (dats m 0 c).arrAt_eq_of_covers 4 _ (by decide +kernel) fun t hf y => ?_
  have hi := (index_row t).2.2.2.2
  obtain ⟨p, k, rfl⟩ : ∃ (p k : Fin 1024), y = ix2 p k := ⟨y 0, y 1, eq_ix2 y⟩
  have e : ((cfg0.win 4).blk t).view.emb (ix2 p k) = ix2 (tok (bi t) p) k := by
    funext a
    apply Fin.ext
    match a with
    | ⟨0, _⟩ => show win0_4.index t 0 * 1024 + 1 * p.val = t.val / 3 * 1024 + p.val; rw [hi]; simp
    | ⟨1, _⟩ => show win0_4.index t 1 * 1024 + 1 * k.val = k.val; rw [hi]; simp
  blk_simp
  rw [e]
  exact left_h m c t.val t.isLt p k

/-! ## The claims -/

/-- The kernel and the ideal kernel have the same bodies. -/
theorem bodies : Cert.Kernel23.defs₀ (F := Bits) = defs₀ (F := Bits) := by
  refine congrArg Defs.onTc (funext fun l => funext fun a => ?_)
  match l, a with
  | 0, (t, s) => rfl

/-- The kernel and the ideal kernel have the same pipeline around them. -/
theorem calls : Cert.Kernel23.defs (F := Bits) = defs (F := Bits) := congrArg (Pipeline.defs pcfgs) bodies

/-- The kernel's frame, by the run above. -/
theorem frame_kernel : Cert.quiescent_Kernel23 (hKernel23 := Cert.Kernel23.Gen.facts) := fun m g _ => by
  rw [calls]
  exact frame (F := Bits) m g

theorem frame_ideal : Cert.quiescent_Kernel23Ideal (hKernel23Ideal := Cert.Kernel23Ideal.Gen.facts) := fun m g _ => frame m g

theorem reference_frame : Cert.quiescent_Reference23Ideal (hReference23Ideal := Cert.Reference23Ideal.Gen.facts) := fun m g _ =>
  (θ_run _ _ _).mono (fun _ h => ⟨fun c => (h c).2.2, sem_eq_zero_of_no_sems (by decide) _⟩) (Cert.Reference23Ideal.Value.run m g)

theorem algebraic : Cert.algebraic_Kernel23Ideal_Reference23Ideal (hKernel23Ideal := Cert.Kernel23Ideal.Gen.facts)
    (hReference23Ideal := Cert.Reference23Ideal.Gen.facts) := by
  intro m g m' g' _ hargs
  refine ⟨fun c => kProj (aX m c) (aLn m c) (aW m c), fun c => kH (aX m c) (aLn m c), ?_, ?_⟩
  · exact (θ_run _ _ _).mono (fun r h c => ⟨(h.1 c).1.trans (final_proj m c), (h.1 c).2.1.trans (final_h m c), (h.1 c).2.2⟩) (run m g)
  · refine (θ_run _ _ _).mono (fun r h c => ?_) (Cert.Reference23Ideal.Value.run m' g')
    obtain ⟨e0, e1, e2⟩ := hargs c
    refine ⟨(h c).1.trans ?_, (h c).2.1.trans ?_, (h c).2.2⟩
    · rw [e0, e1, e2]
      exact ref_proj_eq _ _ _
    · rw [e0, e1]
      exact ref_h_eq _ _

end Cert.Kernel23Ideal.Mixer
-- ==== Proof.Bwd.Chunk.lean ====
/-
  What one grid point of the backward scan computes for one chunk of one head, operation by operation, and its value at
  an index.
-/
module

public import proofs.«01_k».proof.Proof.Gen.KernelIdeal.Value
public import proofs.«01_k».proof.Proof.Bwd.Math
public import Idealize.ShloMosaic.Lib.Pointwise

@[expose] public section
set_option maxRecDepth 16384
noncomputable section

namespace Cert.KernelIdeal.Scan
open Cert.KernelIdeal Cert.KernelIdeal.Gen Idealize.ShloMosaic Idealize.ShloMosaic.TcCoe Idealize.SL.Sem

abbrev V2 := FVec Ideal S64x128 .f32
abbrev B2 := FVec Ideal S64x128 .bf16
abbrev M2 := FVec Ideal S128x128 .f32

/-! ## The operations of one chunk -/

def cSt (s : FVec Ideal S1x1x128x128 .bf16) : FVec Ideal S128x128 .bf16 := shapeCast S128x128 s shapeCasts_S1x1x128x128_S128x128
def cDv (a : FVec Ideal S1x64x64 .bf16) (d : V2) (kg : B2) (D : M2) : V2 :=
  addf (matmul dot_S64x64_S64x128_S64x128_0_0_1_1_n_n none (shapeCast S64x64 a shapeCasts_S1x64x64_S64x64) (truncf .bf16 d bitsLt_bf16_f32)
      (constant S64x128 .f32 0x00000000#32))
    (matmul dot_S64x128_S128x128_S64x128_1_0_0_1_n_n none kg (truncf .bf16 D bitsLt_bf16_f32) (constant S64x128 .f32 0x00000000#32))
def cVn (u : V2) (w : B2) (s : FVec Ideal S1x1x128x128 .bf16) : B2 :=
  truncf .bf16 (subf u (matmul dot_S64x128_S128x128_S64x128_1_0_0_1_n_n none w (cSt s) (constant S64x128 .f32 0x00000000#32))) bitsLt_bf16_f32
def cDw (dv : V2) (s : FVec Ideal S1x1x128x128 .bf16) : V2 :=
  subf (broadcast S64x128 (Scalar.ofBits .f32 0x00000000#32))
    (matmul dot_S64x128_S128x128_S64x128_1_1_0_0_n_n none (truncf .bf16 dv bitsLt_bf16_f32) (cSt s) (constant S64x128 .f32 0x00000000#32))
def cDqg (d : V2) (s : FVec Ideal S1x1x128x128 .bf16) : V2 :=
  matmul dot_S64x128_S128x128_S64x128_1_1_0_0_n_n none (truncf .bf16 d bitsLt_bf16_f32) (cSt s) (constant S64x128 .f32 0x00000000#32)
def cDkg (vn : B2) (D : M2) : V2 :=
  matmul dot_S64x128_S128x128_S64x128_1_1_0_0_n_n none vn (truncf .bf16 D bitsLt_bf16_f32) (constant S64x128 .f32 0x00000000#32)
def cDa (d : V2) (vn : B2) : FVec Ideal S1x64x64 .f32 :=
  shapeCast S1x64x64 (matmul dot_S64x128_S64x128_S64x64_1_1_0_0_n_n none (truncf .bf16 d bitsLt_bf16_f32) vn
    (constant S64x64 .f32 0x00000000#32)) shapeCasts_S64x64_S1x64x64
def cDgl (s : FVec Ideal S1x1x128x128 .bf16) (D : M2) : FVec Ideal S1x8x128 .f32 :=
  shapeCast S1x8x128 (broadcast S8x128 (extractAt ![0, 0, 0] (shapeCast S1x1x1 (multiReduction .add [1, 2] S1
    (shapeCast S1x128x128 (mulf (extf .f32 (cSt s) bitsLt_bf16_f32) D) shapeCasts_S128x128_S1x128x128) 0x00000000#32
      reduces_S1x128x128_S1 (.inl rfl) rfl) shapeCasts_S1_S1x1x1) inpos_S1x1x1_p0_0_0)) shapeCasts_S8x128_S1x8x128
def cNext (D : M2) (gl : FVec Ideal S1x1x128 .f32) (qg : B2) (d : V2) (w : B2) (dv : V2) : M2 :=
  subf (addf (mulf D (broadcastTo S128x128 (shapeCast S1x128 gl shapeCasts_S1x1x128_S1x128) broadcasts_S1x128_S128x128))
      (matmul dot_S64x128_S64x128_S128x128_0_0_1_1_n_n none qg (truncf .bf16 d bitsLt_bf16_f32) (constant S128x128 .f32 0x00000000#32)))
    (matmul dot_S64x128_S64x128_S128x128_0_0_1_1_n_n none w (truncf .bf16 dv bitsLt_bf16_f32) (constant S128x128 .f32 0x00000000#32))

/-! ## The tiles of one grid point's blocks -/

section Blocks
variable (x0 x1 : Vec Ideal S256x768 .f32) (x2 x3 x4 : Vec Ideal S256x768 .bf16) (x5 : Vec Ideal S6x256x64 .bf16)
  (x6 : Vec Ideal S6x32x128 .f32) (x7 : Vec Ideal S4x6x128x128 .bf16)

/-- Chunk `c` of head `h` in a block of token rows. -/
def ld2 {e : EltTy} (x : Vec Ideal S256x768 e) (c : Fin 4) (h : Fin 6) : Vec Ideal S64x128 e :=
  View.ld x (Rect.unit ![64 * c.val, 128 * h.val] ![64, 128] (fun a => by
    have := c.isLt; have := h.isLt; fin_cases a <;> simp [Shape.size] <;> omega))
def ldA {e : EltTy} (x : Vec Ideal S6x256x64 e) (c : Fin 4) (h : Fin 6) : Vec Ideal S1x64x64 e :=
  View.ld x (Rect.unit ![h.val, 64 * c.val, 0] ![1, 64, 64] (fun a => by
    have := c.isLt; have := h.isLt; fin_cases a <;> simp [Shape.size] <;> omega))
def ldG (x : Vec Ideal S6x32x128 .f32) (c : Fin 4) (h : Fin 6) : Vec Ideal S1x1x128 .f32 :=
  View.ld x (Rect.unit ![h.val, 8 * c.val, 0] ![1, 1, 128] (fun a => by
    have := c.isLt; have := h.isLt; fin_cases a <;> simp [Shape.size] <;> omega))
def ldS (x : Vec Ideal S4x6x128x128 .bf16) (c : Fin 4) (h : Fin 6) : Vec Ideal S1x1x128x128 .bf16 :=
  View.ld x (Rect.unit ![c.val, h.val, 0, 0] ![1, 1, 128, 128] (fun a => by
    have := c.isLt; have := h.isLt; fin_cases a <;> simp [Shape.size] <;> omega))

/-- The chunk that is read `k`-th: a point takes its four chunks from the last to the first. -/
def ck (k : Fin 4) : Fin 4 := ⟨3 - k.val, by omega⟩

/-- The `k`-th chunk of head `h` of a point's blocks. -/
def tile (h : Fin 6) (k : Fin 4) : _root_.Scan.Tile where
  dO r j := x0 (ix2 ⟨64 * (ck k).val + r.val, by have := (ck k).isLt; omega⟩ ⟨128 * h.val + j.val, by omega⟩)
  u r j := x1 (ix2 ⟨64 * (ck k).val + r.val, by have := (ck k).isLt; omega⟩ ⟨128 * h.val + j.val, by omega⟩)
  w r j := x2 (ix2 ⟨64 * (ck k).val + r.val, by have := (ck k).isLt; omega⟩ ⟨128 * h.val + j.val, by omega⟩)
  qg r j := x3 (ix2 ⟨64 * (ck k).val + r.val, by have := (ck k).isLt; omega⟩ ⟨128 * h.val + j.val, by omega⟩)
  kg r j := x4 (ix2 ⟨64 * (ck k).val + r.val, by have := (ck k).isLt; omega⟩ ⟨128 * h.val + j.val, by omega⟩)
  a r j := x5 (ix3 h ⟨64 * (ck k).val + r.val, by have := (ck k).isLt; omega⟩ j)
  gl j := x6 (ix3 h ⟨8 * (ck k).val, by have := (ck k).isLt; omega⟩ j)
  s i j := x7 (ix4 (ck k) h i j)

variable (D : Fin 6 → M2)

def bDv (h : Fin 6) (k : Fin 4) (E : M2) : V2 := cDv (ldA x5 (ck k) h) (ld2 x0 (ck k) h) (ld2 x4 (ck k) h) E
def bVn (h : Fin 6) (k : Fin 4) : B2 := cVn (ld2 x1 (ck k) h) (ld2 x2 (ck k) h) (ldS x7 (ck k) h)
def bNext (h : Fin 6) (k : Fin 4) (E : M2) : M2 :=
  cNext E (ldG x6 (ck k) h) (ld2 x3 (ck k) h) (ld2 x0 (ck k) h) (ld2 x2 (ck k) h) (bDv x0 x4 x5 h k E)

def bDw (h : Fin 6) (k : Fin 4) (E : M2) : V2 := cDw (bDv x0 x4 x5 h k E) (ldS x7 (ck k) h)
def bDqg (h : Fin 6) (k : Fin 4) : V2 := cDqg (ld2 x0 (ck k) h) (ldS x7 (ck k) h)
def bDkg (h : Fin 6) (k : Fin 4) (E : M2) : V2 := cDkg (bVn x1 x2 x7 h k) E
def bDa (h : Fin 6) (k : Fin 4) : FVec Ideal S1x64x64 .f32 := cDa (ld2 x0 (ck k) h) (bVn x1 x2 x7 h k)
def bDgl (h : Fin 6) (k : Fin 4) (E : M2) : FVec Ideal S1x8x128 .f32 := cDgl (ldS x7 (ck k) h) E

/-! ## Their values at an index -/

/-- A matrix as a function of its two coordinates. -/
abbrev mat (E : M2) : _root_.Scan.St := fun i j => E (ix2 i j)

theorem bDv_apply (h : Fin 6) (k : Fin 4) (E : M2) (r : Fin 64) (j : Fin 128) :
    bDv x0 x4 x5 h k E (ix2 r j) = (tile x0 x1 x2 x3 x4 x5 x6 x7 h k).dv (mat E) r j := by
  pointwise [bDv, cDv, ldA, ld2, tile, _root_.Scan.Tile.dv]
theorem bVn_apply (h : Fin 6) (k : Fin 4) (r : Fin 64) (j : Fin 128) :
    bVn x1 x2 x7 h k (ix2 r j) = (tile x0 x1 x2 x3 x4 x5 x6 x7 h k).vn r j := by
  pointwise [bVn, cVn, cSt, ldS, ld2, tile, _root_.Scan.Tile.vn]
theorem bNext_apply (h : Fin 6) (k : Fin 4) (E : M2) (i j : Fin 128) :
    bNext x0 x2 x3 x4 x5 x6 h k E (ix2 i j) = (tile x0 x1 x2 x3 x4 x5 x6 x7 h k).next (mat E) i j := by
  pointwise [bNext, cNext, ldG, ld2, _root_.Scan.Tile.next, bDv_apply x0 x1 x2 x3 x4 x5 x6 x7]
  simp only [tile]
theorem bDw_apply (h : Fin 6) (k : Fin 4) (E : M2) (r : Fin 64) (j : Fin 128) :
    bDw x0 x4 x5 x7 h k E (ix2 r j) = (tile x0 x1 x2 x3 x4 x5 x6 x7 h k).dw (mat E) r j := by
  pointwise [bDw, cDw, cSt, ldS, _root_.Scan.Tile.dw, bDv_apply x0 x1 x2 x3 x4 x5 x6 x7]
  simp only [tile]
theorem bDqg_apply (h : Fin 6) (k : Fin 4) (r : Fin 64) (j : Fin 128) :
    bDqg x0 x7 h k (ix2 r j) = (tile x0 x1 x2 x3 x4 x5 x6 x7 h k).dqg r j := by
  pointwise [bDqg, cDqg, cSt, ldS, ld2, tile, _root_.Scan.Tile.dqg]
theorem bDkg_apply (h : Fin 6) (k : Fin 4) (E : M2) (r : Fin 64) (j : Fin 128) :
    bDkg x1 x2 x7 h k E (ix2 r j) = (tile x0 x1 x2 x3 x4 x5 x6 x7 h k).dkg (mat E) r j := by
  pointwise [bDkg, cDkg, _root_.Scan.Tile.dkg, bVn_apply x0 x1 x2 x3 x4 x5 x6 x7]
theorem bDa_apply (h : Fin 6) (k : Fin 4) (r s : Fin 64) :
    bDa x0 x1 x2 x7 h k (ix3 0 r s) = (tile x0 x1 x2 x3 x4 x5 x6 x7 h k).da r s := by
  pointwise [bDa, cDa, ld2, _root_.Scan.Tile.da, bVn_apply x0 x1 x2 x3 x4 x5 x6 x7]
  simp only [tile]
theorem bDgl_apply (h : Fin 6) (k : Fin 4) (E : M2) (r : Fin 8) (j : Fin 128) :
    bDgl x7 h k E (ix3 0 r j) = (tile x0 x1 x2 x3 x4 x5 x6 x7 h k).dgl (mat E) := by
  pointwise [bDgl, cDgl, cSt, ldS, tile, _root_.Scan.Tile.dgl]

/-- The state's cotangent of head `h` after one, two, three and four chunks of the point, from `E` before the first. -/
def bB1 (h : Fin 6) (E : M2) : M2 := bNext x0 x2 x3 x4 x5 x6 h 0 E
def bB2 (h : Fin 6) (E : M2) : M2 := bNext x0 x2 x3 x4 x5 x6 h 1 (bB1 x0 x2 x3 x4 x5 x6 h E)
def bB3 (h : Fin 6) (E : M2) : M2 := bNext x0 x2 x3 x4 x5 x6 h 2 (bB2 x0 x2 x3 x4 x5 x6 h E)
def bB4 (h : Fin 6) (E : M2) : M2 := bNext x0 x2 x3 x4 x5 x6 h 3 (bB3 x0 x2 x3 x4 x5 x6 h E)
/-- The state's cotangent of head `h` before its `k`-th chunk of the point, from `E` before the first. -/
def bBack (h : Fin 6) (E : M2) : Fin 5 → M2 :=
  ![E, bB1 x0 x2 x3 x4 x5 x6 h E, bB2 x0 x2 x3 x4 x5 x6 h E, bB3 x0 x2 x3 x4 x5 x6 h E, bB4 x0 x2 x3 x4 x5 x6 h E]
end Blocks
end Cert.KernelIdeal.Scan
-- ==== Proof.Bwd.Block.lean ====
/-
  What one grid point of the backward scan leaves in its six result blocks and in the carried state, as functions of the
  block index: `gDu` … `gSt`. Each is cut into the pieces the point stores, one per chunk and head.
-/
module

public import proofs.«01_k».proof.Proof.Bwd.Chunk

@[expose] public section
set_option maxRecDepth 16384
noncomputable section

namespace Cert.KernelIdeal.Scan
open Cert.KernelIdeal Cert.KernelIdeal.Gen Idealize.ShloMosaic Idealize.ShloMosaic.TcCoe Idealize.SL.Sem
open _root_.Scan (Tile St back)

variable (x0 x1 : Vec Ideal S256x768 .f32) (x2 x3 x4 : Vec Ideal S256x768 .bf16) (x5 : Vec Ideal S6x256x64 .bf16)
  (x6 : Vec Ideal S6x32x128 .f32) (x7 : Vec Ideal S4x6x128x128 .bf16) (D : Fin 6 → M2)

/-- The tiles of head `h` in the order they are read (past the fourth: any). -/
def tiles (h : Fin 6) (k : ℕ) : Tile := tile x0 x1 x2 x3 x4 x5 x6 x7 h ⟨k % 4, by omega⟩

theorem mat_bBack (h : Fin 6) (E : M2) : ∀ k : Fin 5,
    mat (bBack x0 x2 x3 x4 x5 x6 h E k) = back (tiles x0 x1 x2 x3 x4 x5 x6 x7 h) (mat E) k.val := by
  have step : ∀ (k : Fin 4) (E' : M2), mat (bNext x0 x2 x3 x4 x5 x6 h k E') = (tile x0 x1 x2 x3 x4 x5 x6 x7 h k).next (mat E') :=
    fun k E' => funext fun i => funext fun j => bNext_apply x0 x1 x2 x3 x4 x5 x6 x7 h k E' i j
  have h0 : mat (bBack x0 x2 x3 x4 x5 x6 h E 0) = back (tiles x0 x1 x2 x3 x4 x5 x6 x7 h) (mat E) 0 := rfl
  have h1 : mat (bBack x0 x2 x3 x4 x5 x6 h E 1) = back (tiles x0 x1 x2 x3 x4 x5 x6 x7 h) (mat E) 1 := step 0 _
  have h2 : mat (bBack x0 x2 x3 x4 x5 x6 h E 2) = back (tiles x0 x1 x2 x3 x4 x5 x6 x7 h) (mat E) 2 :=
    (step 1 _).trans (congrArg _ h1)
  have h3 : mat (bBack x0 x2 x3 x4 x5 x6 h E 3) = back (tiles x0 x1 x2 x3 x4 x5 x6 x7 h) (mat E) 3 :=
    (step 2 _).trans (congrArg _ h2)
  have h4 : mat (bBack x0 x2 x3 x4 x5 x6 h E 4) = back (tiles x0 x1 x2 x3 x4 x5 x6 x7 h) (mat E) 4 :=
    (step 3 _).trans (congrArg _ h3)
  intro k
  fin_cases k
  exacts [h0, h1, h2, h3, h4]

/-- The state's cotangent before the `k`-th chunk of the point. -/
abbrev dst (h : Fin 6) (k : ℕ) : St := back (tiles x0 x1 x2 x3 x4 x5 x6 x7 h) (mat (D h)) k

/-- A result over token rows, from what each chunk and head gives. -/
def byRow (f : Fin 6 → Fin 4 → Fin 64 → Fin 128 → EReal) (y : S256x768.Idx) : EReal :=
  f ⟨(y 1).val / 128, by have := (y 1).isLt; simp [Shape.size] at this; omega⟩ ⟨3 - (y 0).val / 64, by omega⟩
    ⟨(y 0).val % 64, by omega⟩ ⟨(y 1).val % 128, by omega⟩

theorem byRow_emb (f : Fin 6 → Fin 4 → Fin 64 → Fin 128 → EReal) (h : Fin 6) (k : Fin 4) (inb) (r : Fin 64) (j : Fin 128) :
    byRow f ((Rect.unit (s := S256x768) ![64 * (ck k).val, 128 * h.val] ![64, 128] inb).emb (ix2 r j)) = f h k r j := by
  have e0 : (((Rect.unit (s := S256x768) ![64 * (ck k).val, 128 * h.val] ![64, 128] inb).emb (ix2 r j)) 0).val = 64 * (3 - k.val) + 1 * r.val := rfl
  have e1 : (((Rect.unit (s := S256x768) ![64 * (ck k).val, 128 * h.val] ![64, 128] inb).emb (ix2 r j)) 1).val = 128 * h.val + 1 * j.val := rfl
  unfold byRow
  generalize (Rect.unit (s := S256x768) ![64 * (ck k).val, 128 * h.val] ![64, 128] inb).emb (ix2 r j) = y at e0 e1 ⊢
  have a1 : (⟨(y 1).val / 128, by omega⟩ : Fin 6) = h := Fin.ext (by show (y 1).val / 128 = _; omega)
  have a2 : (⟨3 - (y 0).val / 64, by omega⟩ : Fin 4) = k := Fin.ext (by show 3 - (y 0).val / 64 = _; omega)
  have a3 : (⟨(y 0).val % 64, by omega⟩ : Fin 64) = r := Fin.ext (by show (y 0).val % 64 = _; omega)
  have a4 : (⟨(y 1).val % 128, by omega⟩ : Fin 128) = j := Fin.ext (by show (y 1).val % 128 = _; omega)
  rw [a1, a2, a3, a4]

def gDu : Vec Ideal S256x768 .f32 := byRow fun h k r j => (tile x0 x1 x2 x3 x4 x5 x6 x7 h k).dv (dst x0 x1 x2 x3 x4 x5 x6 x7 D h k) r j
def gDw : Vec Ideal S256x768 .f32 := byRow fun h k r j => (tile x0 x1 x2 x3 x4 x5 x6 x7 h k).dw (dst x0 x1 x2 x3 x4 x5 x6 x7 D h k) r j
def gDqg : Vec Ideal S256x768 .f32 := byRow fun h k r j => (tile x0 x1 x2 x3 x4 x5 x6 x7 h k).dqg r j
def gDkg : Vec Ideal S256x768 .f32 := byRow fun h k r j => (tile x0 x1 x2 x3 x4 x5 x6 x7 h k).dkg (dst x0 x1 x2 x3 x4 x5 x6 x7 D h k) r j
def gDa : Vec Ideal S6x256x64 .f32 := fun y =>
  (tile x0 x1 x2 x3 x4 x5 x6 x7 (y 0) ⟨3 - (y 1).val / 64, by omega⟩).da ⟨(y 1).val % 64, by omega⟩ (y 2)
def gDgl : Vec Ideal S6x32x128 .f32 := fun y =>
  (tile x0 x1 x2 x3 x4 x5 x6 x7 (y 0) ⟨3 - (y 1).val / 8, by omega⟩).dgl (dst x0 x1 x2 x3 x4 x5 x6 x7 D (y 0) (3 - (y 1).val / 8))
def gSt : Vec Ideal S6x128x128 .f32 := fun y => dst x0 x1 x2 x3 x4 x5 x6 x7 D (y 0) 4 (y 1) (y 2)

section Pieces
variable (h : Fin 6) (k : Fin 4)

/-- The state's cotangent a piece is computed from. -/
abbrev cur : M2 := bBack x0 x2 x3 x4 x5 x6 h (D h) k.castSucc

theorem mat_cur : mat (cur x0 x2 x3 x4 x5 x6 D h k) = dst x0 x1 x2 x3 x4 x5 x6 x7 D h k := mat_bBack x0 x1 x2 x3 x4 x5 x6 x7 h (D h) k.castSucc

theorem pDu (inb) (y : (⟨2, ![64, 128]⟩ : Shape).Idx) : bDv x0 x4 x5 h k (cur x0 x2 x3 x4 x5 x6 D h k) y
    = gDu x0 x1 x2 x3 x4 x5 x6 x7 D ((Rect.unit (s := S256x768) ![64 * (ck k).val, 128 * h.val] ![64, 128] inb).emb y) := by
  idx_vars y
  refine (bDv_apply x0 x1 x2 x3 x4 x5 x6 x7 h k _ _ _).trans ?_
  rw [mat_cur x0 x1 x2 x3 x4 x5 x6 x7]
  symm; exact byRow_emb (fun h k r j => (tile x0 x1 x2 x3 x4 x5 x6 x7 h k).dv (dst x0 x1 x2 x3 x4 x5 x6 x7 D h k) r j) h k inb _ _
theorem pDw (inb) (y : (⟨2, ![64, 128]⟩ : Shape).Idx) : bDw x0 x4 x5 x7 h k (cur x0 x2 x3 x4 x5 x6 D h k) y
    = gDw x0 x1 x2 x3 x4 x5 x6 x7 D ((Rect.unit (s := S256x768) ![64 * (ck k).val, 128 * h.val] ![64, 128] inb).emb y) := by
  idx_vars y
  refine (bDw_apply x0 x1 x2 x3 x4 x5 x6 x7 h k _ _ _).trans ?_
  rw [mat_cur x0 x1 x2 x3 x4 x5 x6 x7]
  symm; exact byRow_emb (fun h k r j => (tile x0 x1 x2 x3 x4 x5 x6 x7 h k).dw (dst x0 x1 x2 x3 x4 x5 x6 x7 D h k) r j) h k inb _ _
theorem pDqg (inb) (y : (⟨2, ![64, 128]⟩ : Shape).Idx) : bDqg x0 x7 h k y
    = gDqg x0 x1 x2 x3 x4 x5 x6 x7 ((Rect.unit (s := S256x768) ![64 * (ck k).val, 128 * h.val] ![64, 128] inb).emb y) := by
  idx_vars y
  exact (bDqg_apply x0 x1 x2 x3 x4 x5 x6 x7 h k _ _).trans (byRow_emb (fun h k r j => (tile x0 x1 x2 x3 x4 x5 x6 x7 h k).dqg r j) h k inb _ _).symm
theorem pDkg (inb) (y : (⟨2, ![64, 128]⟩ : Shape).Idx) : bDkg x1 x2 x7 h k (cur x0 x2 x3 x4 x5 x6 D h k) y
    = gDkg x0 x1 x2 x3 x4 x5 x6 x7 D ((Rect.unit (s := S256x768) ![64 * (ck k).val, 128 * h.val] ![64, 128] inb).emb y) := by
  idx_vars y
  refine (bDkg_apply x0 x1 x2 x3 x4 x5 x6 x7 h k _ _ _).trans ?_
  rw [mat_cur x0 x1 x2 x3 x4 x5 x6 x7]
  symm; exact byRow_emb (fun h k r j => (tile x0 x1 x2 x3 x4 x5 x6 x7 h k).dkg (dst x0 x1 x2 x3 x4 x5 x6 x7 D h k) r j) h k inb _ _
theorem pDa (inb) (y : (⟨3, ![1, 64, 64]⟩ : Shape).Idx) : bDa x0 x1 x2 x7 h k y
    = gDa x0 x1 x2 x3 x4 x5 x6 x7 ((Rect.unit (s := S6x256x64) ![h.val, 64 * (ck k).val, 0] ![1, 64, 64] inb).emb y) := by
  obtain ⟨z, r, s, rfl⟩ : ∃ z r s, y = ix3 z r s := ⟨y 0, y 1, y 2, eq_ix3 y⟩
  obtain rfl : z = 0 := Subsingleton.elim _ _
  refine (bDa_apply x0 x1 x2 x3 x4 x5 x6 x7 h k _ _).trans ?_
  unfold gDa
  have e0 : (((Rect.unit (s := S6x256x64) ![h.val, 64 * (ck k).val, 0] ![1, 64, 64] inb).emb (ix3 0 r s)) 0) = h := Fin.ext (by show h.val + 1 * 0 = _; omega)
  have e1 : (((Rect.unit (s := S6x256x64) ![h.val, 64 * (ck k).val, 0] ![1, 64, 64] inb).emb (ix3 0 r s)) 1).val = 64 * (3 - k.val) + 1 * r.val := rfl
  have e2 : (((Rect.unit (s := S6x256x64) ![h.val, 64 * (ck k).val, 0] ![1, 64, 64] inb).emb (ix3 0 r s)) 2) = s := Fin.ext (by show 0 + 1 * s.val = _; omega)
  rw [e0, e2]
  generalize (Rect.unit (s := S6x256x64) ![h.val, 64 * (ck k).val, 0] ![1, 64, 64] inb).emb (ix3 0 r s) = y at e1 ⊢
  have a2 : (⟨3 - (y 1).val / 64, by omega⟩ : Fin 4) = k := Fin.ext (by show 3 - (y 1).val / 64 = _; omega)
  have a3 : (⟨(y 1).val % 64, by omega⟩ : Fin 64) = r := Fin.ext (by show (y 1).val % 64 = _; omega)
  rw [a2, a3]
theorem pDgl (inb) (y : (⟨3, ![1, 8, 128]⟩ : Shape).Idx) : bDgl x7 h k (cur x0 x2 x3 x4 x5 x6 D h k) y
    = gDgl x0 x1 x2 x3 x4 x5 x6 x7 D ((Rect.unit (s := S6x32x128) ![h.val, 8 * (ck k).val, 0] ![1, 8, 128] inb).emb y) := by
  obtain ⟨z, r, s, rfl⟩ : ∃ z r s, y = ix3 z r s := ⟨y 0, y 1, y 2, eq_ix3 y⟩
  obtain rfl : z = 0 := Subsingleton.elim _ _
  refine (bDgl_apply x0 x1 x2 x3 x4 x5 x6 x7 h k _ _ _).trans ?_
  rw [mat_cur x0 x1 x2 x3 x4 x5 x6 x7]
  unfold gDgl
  have e0 : (((Rect.unit (s := S6x32x128) ![h.val, 8 * (ck k).val, 0] ![1, 8, 128] inb).emb (ix3 0 r s)) 0) = h := Fin.ext (by show h.val + 1 * 0 = _; omega)
  have e1 : (((Rect.unit (s := S6x32x128) ![h.val, 8 * (ck k).val, 0] ![1, 8, 128] inb).emb (ix3 0 r s)) 1).val = 8 * (3 - k.val) + 1 * r.val := rfl
  have e2 : 3 - (8 * (3 - k.val) + 1 * r.val) / 8 = k.val := by omega
  simp only [e0, e1, e2, Fin.eta]
theorem pSt (inb) (y : (⟨3, ![1, 128, 128]⟩ : Shape).Idx) :
    shapeCast S1x128x128 (bBack x0 x2 x3 x4 x5 x6 h (D h) 4) shapeCasts_S128x128_S1x128x128 y
    = gSt x0 x1 x2 x3 x4 x5 x6 x7 D ((Rect.unit (s := S6x128x128) ![h.val, 0, 0] ![1, 128, 128] inb).emb y) := by
  obtain ⟨z, i, j, rfl⟩ : ∃ z i j, y = ix3 z i j := ⟨y 0, y 1, y 2, eq_ix3 y⟩
  obtain rfl : z = 0 := Subsingleton.elim _ _
  have e := mat_bBack x0 x1 x2 x3 x4 x5 x6 x7 h (D h) 4
  have e0 : (((Rect.unit (s := S6x128x128) ![h.val, 0, 0] ![1, 128, 128] inb).emb (ix3 0 i j)) 0) = h := Fin.ext (by show h.val + 1 * 0 = _; omega)
  have e1 : (((Rect.unit (s := S6x128x128) ![h.val, 0, 0] ![1, 128, 128] inb).emb (ix3 0 i j)) 1) = i := Fin.ext (by show 0 + 1 * i.val = _; omega)
  have e2 : (((Rect.unit (s := S6x128x128) ![h.val, 0, 0] ![1, 128, 128] inb).emb (ix3 0 i j)) 2) = j := Fin.ext (by show 0 + 1 * j.val = _; omega)
  unfold gSt
  rw [e0, e1, e2]
  refine Eq.trans ?_ (congrFun (congrFun e i) j)
  pointwise []
end Pieces
end Cert.KernelIdeal.Scan
-- ==== Proof.Bwd.Cells.lean ====
/-
  The whole arrays of the backward scan: the chunk of head `h` that is read `k`-th (the last chunk of the sequence first) as a
  function of the argument arrays, and the six result arrays.
-/
module

public import proofs.«01_k».proof.Proof.Bwd.Block

@[expose] public section
noncomputable section

namespace Cert.KernelIdeal.Scan
open Cert.KernelIdeal Cert.KernelIdeal.Gen Idealize.ShloMosaic
open _root_.Scan (Tile St back)

/-- The chunk that is read `k`-th of the sequence's 256. -/
def chk (k : ℕ) : Fin 256 := ⟨255 - k, by omega⟩
/-- Token `r` of that chunk. -/
def tok (k : ℕ) (r : Fin 64) : Fin 16384 := ⟨64 * (255 - k) + r.val, by omega⟩
/-- Column `j` of head `h`. -/
def col (h : Fin 6) (j : Fin 128) : Fin 768 := ⟨128 * h.val + j.val, by omega⟩

variable (a0 a1 : Vec Ideal S16384x768 .f32) (a2 a3 a4 : Vec Ideal S16384x768 .bf16) (a5 : Vec Ideal S6x16384x64 .bf16)
  (a6 : Vec Ideal S6x256 .f32) (a7 : Vec Ideal S256x6x128x128 .bf16)

/-- The chunk of head `h` that is read `k`-th. -/
def chunks (h : Fin 6) (k : ℕ) : Tile where
  dO r j := a0 (ix2 (tok k r) (col h j))
  u r j := a1 (ix2 (tok k r) (col h j))
  w r j := a2 (ix2 (tok k r) (col h j))
  qg r j := a3 (ix2 (tok k r) (col h j))
  kg r j := a4 (ix2 (tok k r) (col h j))
  a r j := a5 (ix3 h (tok k r) j)
  gl _ := a6 (ix2 h (chk k))
  s i j := a7 (ix4 (chk k) h i j)

/-- The cotangent of the state that leaves the chunk read `k`-th. -/
abbrev dState (h : Fin 6) (k : ℕ) : St := back (chunks a0 a1 a2 a3 a4 a5 a6 a7 h) (fun _ _ => 0) k

/-- An array over all token rows, from what each head and chunk gives. -/
def allRows (f : Fin 6 → ℕ → Fin 64 → Fin 128 → EReal) (y : S16384x768.Idx) : EReal :=
  f ⟨(y 1).val / 128, by have := (y 1).isLt; simp [Shape.size] at this; omega⟩ (255 - (y 0).val / 64)
    ⟨(y 0).val % 64, by omega⟩ ⟨(y 1).val % 128, by omega⟩

def rDu : Vec Ideal S16384x768 .f32 := allRows fun h k r j =>
  (chunks a0 a1 a2 a3 a4 a5 a6 a7 h k).dv (dState a0 a1 a2 a3 a4 a5 a6 a7 h k) r j
def rDw : Vec Ideal S16384x768 .f32 := allRows fun h k r j =>
  (chunks a0 a1 a2 a3 a4 a5 a6 a7 h k).dw (dState a0 a1 a2 a3 a4 a5 a6 a7 h k) r j
def rDqg : Vec Ideal S16384x768 .f32 := allRows fun h k r j => (chunks a0 a1 a2 a3 a4 a5 a6 a7 h k).dqg r j
def rDkg : Vec Ideal S16384x768 .f32 := allRows fun h k r j =>
  (chunks a0 a1 a2 a3 a4 a5 a6 a7 h k).dkg (dState a0 a1 a2 a3 a4 a5 a6 a7 h k) r j
def rDa : Vec Ideal S6x16384x64 .f32 := fun y =>
  (chunks a0 a1 a2 a3 a4 a5 a6 a7 (y 0) (255 - (y 1).val / 64)).da ⟨(y 1).val % 64, by omega⟩ (y 2)
def rDgl : Vec Ideal S6x2048x128 .f32 := fun y =>
  (chunks a0 a1 a2 a3 a4 a5 a6 a7 (y 0) (255 - (y 1).val / 8)).dgl (dState a0 a1 a2 a3 a4 a5 a6 a7 (y 0) (255 - (y 1).val / 8))

end Cert.KernelIdeal.Scan
-- ==== Proof.Bwd.Windows.lean ====
/-
  The input blocks of a grid point: block `63 − t` of every array, so its four chunks are the ones read `4t`-th to `4t + 3`-rd.
-/
module

public import proofs.«01_k».proof.Proof.Gen.KernelIdeal.Value
public import proofs.«01_k».proof.Proof.Bwd.Cells
public import Idealize.ShloMosaic.Lib.Pointwise

@[expose] public section
set_option maxRecDepth 16384
noncomputable section

namespace Cert.KernelIdeal.Scan
open Cert.KernelIdeal Cert.KernelIdeal.Gen Cert.KernelIdeal.Value Idealize.ShloMosaic Idealize.ShloMosaic.TcCoe Idealize.ShloMosaic.StableHlo Idealize.SL.Sem
open _root_.Scan (Tile St back)

variable (m : (ℓ : Loc nD τ sig) → Buf (Elt Ideal) ℓ) (c : Dev nD)

/-- The chunks of the arguments as launched. -/
abbrev mchunks : Fin 6 → ℕ → Tile := chunks (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5)) (m ((c : Thread nD τ).loc main_arg6)) (m ((c : Thread nD τ).loc main_arg7))

theorem index_row (t : Fin cfg0.N) :
    (win0_0.index t = ![63 - t.val, 0] ∧ win0_1.index t = ![63 - t.val, 0] ∧ win0_2.index t = ![63 - t.val, 0]
      ∧ win0_3.index t = ![63 - t.val, 0] ∧ win0_4.index t = ![63 - t.val, 0]) ∧ win0_5.index t = ![0, 63 - t.val, 0]
      ∧ win0_6.index t = ![0, 63 - t.val, 0] ∧ win0_7.index t = ![63 - t.val, 0, 0, 0] :=
  (by decide +kernel : ∀ t : Fin grid0.N, (win0_0.index t = ![63 - t.val, 0] ∧ win0_1.index t = ![63 - t.val, 0] ∧ win0_2.index t = ![63 - t.val, 0]
      ∧ win0_3.index t = ![63 - t.val, 0] ∧ win0_4.index t = ![63 - t.val, 0]) ∧ win0_5.index t = ![0, 63 - t.val, 0]
      ∧ win0_6.index t = ![0, 63 - t.val, 0] ∧ win0_7.index t = ![63 - t.val, 0, 0, 0]) t

/-- Row `p` of block `63 − t`. -/
def brow (t : Fin cfg0.N) (p : Fin 256) : Fin 16384 := ⟨256 * (63 - t.val) + p.val, by omega⟩

theorem iblk0 (t : Fin cfg0.N) (p : Fin 256) (q : Fin 768) :
    (iblk m c 0 t : Vec Ideal S256x768 .f32) (ix2 p q) = m ((c : Thread nD τ).loc main_arg0) (ix2 (brow t p) q) := by
  have hi := (index_row t).1.1
  unfold iblk
  rw [View.read_apply]
  show V m c main_arg0 _ = _
  rw [V_main_arg0]
  congr 1
  funext a
  apply Fin.ext
  match a with
  | ⟨0, _⟩ => show win0_0.index t 0 * 256 + 1 * p.val = 256 * (63 - t.val) + p.val; rw [hi]; simp; omega
  | ⟨1, _⟩ => show win0_0.index t 1 * 768 + 1 * q.val = q.val; rw [hi]; simp

theorem iblk1 (t : Fin cfg0.N) (p : Fin 256) (q : Fin 768) :
    (iblk m c 1 t : Vec Ideal S256x768 .f32) (ix2 p q) = m ((c : Thread nD τ).loc main_arg1) (ix2 (brow t p) q) := by
  have hi := (index_row t).1.2.1
  unfold iblk
  rw [View.read_apply]
  show V m c main_arg1 _ = _
  rw [V_main_arg1]
  congr 1
  funext a
  apply Fin.ext
  match a with
  | ⟨0, _⟩ => show win0_1.index t 0 * 256 + 1 * p.val = 256 * (63 - t.val) + p.val; rw [hi]; simp; omega
  | ⟨1, _⟩ => show win0_1.index t 1 * 768 + 1 * q.val = q.val; rw [hi]; simp

theorem iblk2 (t : Fin cfg0.N) (p : Fin 256) (q : Fin 768) :
    (iblk m c 2 t : Vec Ideal S256x768 .bf16) (ix2 p q) = m ((c : Thread nD τ).loc main_arg2) (ix2 (brow t p) q) := by
  have hi := (index_row t).1.2.2.1
  unfold iblk
  rw [View.read_apply]
  show V m c main_arg2 _ = _
  rw [V_main_arg2]
  congr 1
  funext a
  apply Fin.ext
  match a with
  | ⟨0, _⟩ => show win0_2.index t 0 * 256 + 1 * p.val = 256 * (63 - t.val) + p.val; rw [hi]; simp; omega
  | ⟨1, _⟩ => show win0_2.index t 1 * 768 + 1 * q.val = q.val; rw [hi]; simp

theorem iblk3 (t : Fin cfg0.N) (p : Fin 256) (q : Fin 768) :
    (iblk m c 3 t : Vec Ideal S256x768 .bf16) (ix2 p q) = m ((c : Thread nD τ).loc main_arg3) (ix2 (brow t p) q) := by
  have hi := (index_row t).1.2.2.2.1
  unfold iblk
  rw [View.read_apply]
  show V m c main_arg3 _ = _
  rw [V_main_arg3]
  congr 1
  funext a
  apply Fin.ext
  match a with
  | ⟨0, _⟩ => show win0_3.index t 0 * 256 + 1 * p.val = 256 * (63 - t.val) + p.val; rw [hi]; simp; omega
  | ⟨1, _⟩ => show win0_3.index t 1 * 768 + 1 * q.val = q.val; rw [hi]; simp

theorem iblk4 (t : Fin cfg0.N) (p : Fin 256) (q : Fin 768) :
    (iblk m c 4 t : Vec Ideal S256x768 .bf16) (ix2 p q) = m ((c : Thread nD τ).loc main_arg4) (ix2 (brow t p) q) := by
  have hi := (index_row t).1.2.2.2.2
  unfold iblk
  rw [View.read_apply]
  show V m c main_arg4 _ = _
  rw [V_main_arg4]
  congr 1
  funext a
  apply Fin.ext
  match a with
  | ⟨0, _⟩ => show win0_4.index t 0 * 256 + 1 * p.val = 256 * (63 - t.val) + p.val; rw [hi]; simp; omega
  | ⟨1, _⟩ => show win0_4.index t 1 * 768 + 1 * q.val = q.val; rw [hi]; simp

theorem iblk5 (t : Fin cfg0.N) (h : Fin 6) (p : Fin 256) (q : Fin 64) :
    (iblk m c 5 t : Vec Ideal S6x256x64 .bf16) (ix3 h p q) = m ((c : Thread nD τ).loc main_arg5) (ix3 h (brow t p) q) := by
  have hi := (index_row t).2.1
  unfold iblk
  rw [View.read_apply]
  show V m c main_arg5 _ = _
  rw [V_main_arg5]
  congr 1
  funext a
  apply Fin.ext
  match a with
  | ⟨0, _⟩ => show win0_5.index t 0 * 6 + 1 * h.val = h.val; rw [hi]; simp
  | ⟨1, _⟩ => show win0_5.index t 1 * 256 + 1 * p.val = 256 * (63 - t.val) + p.val; rw [hi]; simp; omega
  | ⟨2, _⟩ => show win0_5.index t 2 * 64 + 1 * q.val = q.val; rw [hi]; simp

theorem iblk7 (t : Fin cfg0.N) (k : Fin 4) (h : Fin 6) (p q : Fin 128) :
    (iblk m c 7 t : Vec Ideal S4x6x128x128 .bf16) (ix4 k h p q)
      = m ((c : Thread nD τ).loc main_arg7) (ix4 (⟨4 * (63 - t.val) + k.val, by omega⟩ : Fin 256) h p q) := by
  have hi := (index_row t).2.2.2
  unfold iblk
  rw [View.read_apply]
  show V m c main_arg7 _ = _
  rw [V_main_arg7]
  congr 1
  funext a
  apply Fin.ext
  match a with
  | ⟨0, _⟩ => show win0_7.index t 0 * 4 + 1 * k.val = 4 * (63 - t.val) + k.val; rw [hi]; simp; omega
  | ⟨1, _⟩ => show win0_7.index t 1 * 6 + 1 * h.val = h.val; rw [hi]; simp
  | ⟨2, _⟩ => show win0_7.index t 2 * 128 + 1 * p.val = p.val; rw [hi]; simp
  | ⟨3, _⟩ => show win0_7.index t 3 * 128 + 1 * q.val = q.val; rw [hi]; simp

/-- The decay per chunk, broadcast by the host over eight rows and all columns. -/
theorem gl_apply (h : Fin 6) (n : Fin 2048) (j : Fin 128) :
    (V m c main_v2 : Vec Ideal S6x2048x128 .f32) (ix3 h n j) = m ((c : Thread nD τ).loc main_arg6) (ix2 h ⟨n.val / 8, by omega⟩) := by
  unfold V
  unfold_abbrev_sides
  after_results
  show shapeCast S6x2048x128 (broadcastInDim S6x256x8x128 ![0, 1, 2, 3] bcast_S6x256x1x1_S6x256x8x128_0_1_2_3
    (broadcastInDim S6x256x1x1 ![0, 1] bcast_S6x256_S6x256x1x1_0_1 (m ((c : Thread nD τ).loc main_arg6) : Vec Ideal S6x256 .f32)))
    shapeCasts_S6x256x8x128_S6x2048x128 (ix3 h n j) = _
  pointwise []

theorem iblk6 (t : Fin cfg0.N) (h : Fin 6) (p : Fin 32) (q : Fin 128) :
    (iblk m c 6 t : Vec Ideal S6x32x128 .f32) (ix3 h p q)
      = m ((c : Thread nD τ).loc main_arg6) (ix2 h (⟨4 * (63 - t.val) + p.val / 8, by omega⟩ : Fin 256)) := by
  have hi := (index_row t).2.2.1
  unfold iblk
  rw [View.read_apply]
  show V m c main_v2 _ = _
  have e : ((cfg0.win 6).blk t).view.emb (ix3 h p q) = ix3 h (⟨32 * (63 - t.val) + p.val, by omega⟩ : Fin 2048) q := by
    funext a
    apply Fin.ext
    match a with
    | ⟨0, _⟩ => show win0_6.index t 0 * 6 + 1 * h.val = h.val; rw [hi]; simp
    | ⟨1, _⟩ => show win0_6.index t 1 * 32 + 1 * p.val = 32 * (63 - t.val) + p.val; rw [hi]; simp; omega
    | ⟨2, _⟩ => show win0_6.index t 2 * 128 + 1 * q.val = q.val; rw [hi]; simp
  rw [e, gl_apply]
  congr 3
  show (32 * (63 - t.val) + p.val) / 8 = _
  omega

/-- The point's `k`-th chunk of head `h` is the sequence's chunk number `4t + k` from the end. -/
theorem tile_iblk (t : Fin cfg0.N) (h : Fin 6) (k : Fin 4) :
    tile (iblk m c 0 t) (iblk m c 1 t) (iblk m c 2 t) (iblk m c 3 t) (iblk m c 4 t) (iblk m c 5 t) (iblk m c 6 t) (iblk m c 7 t) h k
      = mchunks m c h (4 * t.val + k.val) := by
  have ht : t.val < 64 := lt_of_lt_of_eq t.isLt (show cfg0.N = 64 from N_0)
  have hr : ∀ r : Fin 64, brow t ⟨64 * (ck k).val + r.val, by have := (ck k).isLt; omega⟩ = tok (4 * t.val + k.val) r := fun r =>
    Fin.ext (by show 256 * (63 - t.val) + (64 * (3 - k.val) + r.val) = 64 * (255 - (4 * t.val + k.val)) + r.val; omega)
  have hk : (⟨4 * (63 - t.val) + (ck k).val, by have := (ck k).isLt; omega⟩ : Fin 256) = chk (4 * t.val + k.val) :=
    Fin.ext (by show 4 * (63 - t.val) + (3 - k.val) = 255 - (4 * t.val + k.val); omega)
  unfold tile mchunks chunks
  congr 1
  · funext r j; exact (iblk0 m c t _ _).trans (by rw [hr]; rfl)
  · funext r j; exact (iblk1 m c t _ _).trans (by rw [hr]; rfl)
  · funext r j; exact (iblk2 m c t _ _).trans (by rw [hr]; rfl)
  · funext r j; exact (iblk3 m c t _ _).trans (by rw [hr]; rfl)
  · funext r j; exact (iblk4 m c t _ _).trans (by rw [hr]; rfl)
  · funext r j; exact (iblk5 m c t _ _ _).trans (by rw [hr])
  · funext j
    refine (iblk6 m c t _ _ _).trans ?_
    rw [← hk]
    congr 3
    show 4 * (63 - t.val) + 8 * (3 - k.val) / 8 = 4 * (63 - t.val) + (3 - k.val)
    omega
  · funext i j; exact (iblk7 m c t _ _ _ _).trans (by rw [hk])

end Cert.KernelIdeal.Scan
-- ==== Proof.Bwd.Pieces.lean ====
/-
  The lists of pieces a grid point of the backward scan stores: one per chunk and head, in the order of the stores.
-/
module

public import proofs.«01_k».proof.Proof.Bwd.Block
public import Idealize.ShloMosaic.Lib.Pipeline.CanonAppend
public import Idealize.ShloMosaic.Lib.Pipeline.ReadBack

@[expose] public section
set_option maxRecDepth 16384
noncomputable section

namespace Cert.KernelIdeal.Scan
open Cert.KernelIdeal Cert.KernelIdeal.Gen Idealize.ShloMosaic Idealize.ShloMosaic.TcCoe Idealize.SL.Sem

/-- Heads and chunks from the last store to the first. -/
def order : List (Fin 6 × Fin 4) :=
  [(5, 3), (4, 3), (3, 3), (2, 3), (1, 3), (0, 3), (5, 2), (4, 2), (3, 2), (2, 2), (1, 2), (0, 2),
   (5, 1), (4, 1), (3, 1), (2, 1), (1, 1), (0, 1), (5, 0), (4, 0), (3, 0), (2, 0), (1, 0), (0, 0)]

theorem inbRow (h : Fin 6) (k : Fin 4) : ∀ a : Fin 2, ![64 * (ck k).val, 128 * h.val] a + ![64, 128] a ≤ S256x768.size a := fun a => by
  have := (ck k).isLt; have := h.isLt; fin_cases a <;> simp [Shape.size] <;> omega
theorem inbA (h : Fin 6) (k : Fin 4) : ∀ a : Fin 3, ![h.val, 64 * (ck k).val, 0] a + ![1, 64, 64] a ≤ S6x256x64.size a := fun a => by
  have := (ck k).isLt; have := h.isLt; fin_cases a <;> simp [Shape.size] <;> omega
theorem inbGl (h : Fin 6) (k : Fin 4) : ∀ a : Fin 3, ![h.val, 8 * (ck k).val, 0] a + ![1, 8, 128] a ≤ S6x32x128.size a := fun a => by
  have := (ck k).isLt; have := h.isLt; fin_cases a <;> simp [Shape.size] <;> omega
theorem inbSt (h : Fin 6) : ∀ a : Fin 3, ![h.val, 0, 0] a + ![1, 128, 128] a ≤ S6x128x128.size a := fun a => by
  have := h.isLt; fin_cases a <;> simp [Shape.size] <;> omega

theorem rowPieces (P : Fin 6 → Fin 4 → (⟨2, ![64, 128]⟩ : Shape).Idx → EReal) (G : S256x768.Idx → EReal)
    (H : ∀ h k y, P h k y = G ((Rect.unit (s := S256x768) ![64 * (ck k).val, 128 * h.val] ![64, 128] (inbRow h k)).emb y)) :
    ∀ p ∈ order.map (fun q => (⟨Rect.unit (s := S256x768) ![64 * (ck q.2).val, 128 * q.1.val] ![64, 128] (inbRow q.1 q.2), P q.1 q.2⟩ :
      View.Piece (Elt Ideal) S256x768 .f32)), ∀ x : p.1.shape.Idx, p.2 x = G (p.1.emb x) := by
  intro p hp x
  obtain ⟨q, -, rfl⟩ := List.mem_map.mp hp
  exact H q.1 q.2 x
theorem aPieces (P : Fin 6 → Fin 4 → (⟨3, ![1, 64, 64]⟩ : Shape).Idx → EReal) (G : S6x256x64.Idx → EReal)
    (H : ∀ h k y, P h k y = G ((Rect.unit (s := S6x256x64) ![h.val, 64 * (ck k).val, 0] ![1, 64, 64] (inbA h k)).emb y)) :
    ∀ p ∈ order.map (fun q => (⟨Rect.unit (s := S6x256x64) ![q.1.val, 64 * (ck q.2).val, 0] ![1, 64, 64] (inbA q.1 q.2), P q.1 q.2⟩ :
      View.Piece (Elt Ideal) S6x256x64 .f32)), ∀ x : p.1.shape.Idx, p.2 x = G (p.1.emb x) := by
  intro p hp x
  obtain ⟨q, -, rfl⟩ := List.mem_map.mp hp
  exact H q.1 q.2 x
theorem glPieces (P : Fin 6 → Fin 4 → (⟨3, ![1, 8, 128]⟩ : Shape).Idx → EReal) (G : S6x32x128.Idx → EReal)
    (H : ∀ h k y, P h k y = G ((Rect.unit (s := S6x32x128) ![h.val, 8 * (ck k).val, 0] ![1, 8, 128] (inbGl h k)).emb y)) :
    ∀ p ∈ order.map (fun q => (⟨Rect.unit (s := S6x32x128) ![q.1.val, 8 * (ck q.2).val, 0] ![1, 8, 128] (inbGl q.1 q.2), P q.1 q.2⟩ :
      View.Piece (Elt Ideal) S6x32x128 .f32)), ∀ x : p.1.shape.Idx, p.2 x = G (p.1.emb x) := by
  intro p hp x
  obtain ⟨q, -, rfl⟩ := List.mem_map.mp hp
  exact H q.1 q.2 x
theorem stPieces (P : Fin 6 → (⟨3, ![1, 128, 128]⟩ : Shape).Idx → EReal) (G : S6x128x128.Idx → EReal)
    (H : ∀ h y, P h y = G ((Rect.unit (s := S6x128x128) ![h.val, 0, 0] ![1, 128, 128] (inbSt h)).emb y)) :
    ∀ p ∈ [(5 : Fin 6), 4, 3, 2, 1, 0].map (fun h => (⟨Rect.unit (s := S6x128x128) ![h.val, 0, 0] ![1, 128, 128] (inbSt h), P h⟩ :
      View.Piece (Elt Ideal) S6x128x128 .f32)), ∀ x : p.1.shape.Idx, p.2 x = G (p.1.emb x) := by
  intro p hp x
  obtain ⟨q, -, rfl⟩ := List.mem_map.mp hp
  exact H q x

theorem zeros3 : ∀ a : Fin 3, (![0, 0, 0] : Fin 3 → ℕ) a = 0 := by decide

/-- Head `h` of the carried state's cotangent. -/
def ldD (xs : Vec Ideal S6x128x128 .f32) (h : Fin 6) : Vec Ideal S1x128x128 .f32 :=
  View.ld xs (Rect.unit ![h.val, 0, 0] ![1, 128, 128] (inbSt h))
/-- The carried state's cotangent a point starts from: of head `h`, what the point before left. -/
def dIn (xs : Vec Ideal S6x128x128 .f32) (h : Fin 6) : M2 := shapeCast S128x128 (ldD xs h) shapeCasts_S1x128x128_S128x128
/-- … and at the first point: zeros. -/
def dZero (h : Fin 6) : M2 := dIn (k0_pay3 (F := Ideal)) h

theorem mat_dIn (xs : Vec Ideal S6x128x128 .f32) (h : Fin 6) : mat (dIn xs h) = fun i j => xs (ix3 h i j) := by
  funext i j
  show dIn xs h (ix2 i j) = _
  pointwise [dIn, ldD]
theorem mat_dZero (h : Fin 6) : mat (dZero h) = fun _ _ => 0 := by
  unfold dZero
  rw [mat_dIn]
  funext i j
  pointwise [k0_pay3]

/-- The six stores of the carried state, whatever was stored before them, cover it. -/
theorem canon_st (P : Fin 6 → (⟨3, ![1, 128, 128]⟩ : Shape).Idx → EReal) (G : S6x128x128.Idx → EReal) (L : List (View.Piece (Elt Ideal) S6x128x128 .f32))
    (H : ∀ h y, P h y = G ((Rect.unit (s := S6x128x128) ![h.val, 0, 0] ![1, 128, 128] (inbSt h)).emb y)) (y : S6x128x128.Idx) :
    View.canon ([(5 : Fin 6), 4, 3, 2, 1, 0].map (fun h => (⟨Rect.unit (s := S6x128x128) ![h.val, 0, 0] ![1, 128, 128] (inbSt h), P h⟩ :
      View.Piece (Elt Ideal) S6x128x128 .f32)) ++ L) y = G y := by
  refine View.canon_append_of_pieces G L _ (stPieces P G H) y ?_
  obtain ⟨h, i, j, rfl⟩ : ∃ h i j, y = ix3 h i j := ⟨y 0, y 1, y 2, eq_ix3 y⟩
  refine ⟨_, List.mem_map.mpr ⟨h, by fin_cases h <;> simp, rfl⟩, ?_⟩
  have e : (Rect.unit (s := S6x128x128) ![h.val, 0, 0] ![1, 128, 128] (inbSt h)).emb (ix3 0 i j) = ix3 h i j := by
    rw [eq_ix3 ((Rect.unit (s := S6x128x128) ![h.val, 0, 0] ![1, 128, 128] (inbSt h)).emb (ix3 0 i j))]
    congr 1 <;> apply Fin.ext
    · show 0 + 1 * i.val = _; omega
    · show 0 + 1 * j.val = _; omega
  show _ ∈ (Rect.unit (s := S6x128x128) ![h.val, 0, 0] ![1, 128, 128] (inbSt h)).set
  rw [← Rect.map_emb_univ, ← e]
  exact Finset.mem_map_of_mem _ (Finset.mem_univ _)

end Cert.KernelIdeal.Scan
-- ==== Proof.Bwd.PointA.lean ====
/-
  Case A of the backward scan's grid point (the first, which zeroes the carried state): what it leaves in the six result blocks and in the carried
  state.
-/
module

public import proofs.«01_k».proof.Proof.Bwd.Pieces

@[expose] public section
set_option maxRecDepth 16384
noncomputable section

namespace Cert.KernelIdeal.Scan
open Cert.KernelIdeal Cert.KernelIdeal.Gen Idealize.ShloMosaic Idealize.ShloMosaic.TcCoe Idealize.SL.Sem

variable (c : Dev nD) (i : grid0.Coords) (arg1 : Memref sig .tc .vmem S256x768 .f32) (harg1 : arg1.IsWhole)
  (arg2 : Memref sig .tc .vmem S256x768 .f32) (harg2 : arg2.IsWhole) (arg3 : Memref sig .tc .vmem S256x768 .bf16) (harg3 : arg3.IsWhole)
  (arg4 : Memref sig .tc .vmem S256x768 .bf16) (harg4 : arg4.IsWhole) (arg5 : Memref sig .tc .vmem S256x768 .bf16) (harg5 : arg5.IsWhole)
  (arg6 : Memref sig .tc .vmem S6x256x64 .bf16) (harg6 : arg6.IsWhole) (arg7 : Memref sig .tc .vmem S6x32x128 .f32) (harg7 : arg7.IsWhole)
  (arg8 : Memref sig .tc .vmem S4x6x128x128 .bf16) (harg8 : arg8.IsWhole) (arg9 : Memref sig .tc .vmem S256x768 .f32)
  (harg9 : arg9.IsWhole) (arg10 : Memref sig .tc .vmem S256x768 .f32) (harg10 : arg10.IsWhole) (arg11 : Memref sig .tc .vmem S256x768 .f32)
  (harg11 : arg11.IsWhole) (arg12 : Memref sig .tc .vmem S256x768 .f32) (harg12 : arg12.IsWhole)
  (arg13 : Memref sig .tc .vmem S6x256x64 .f32) (harg13 : arg13.IsWhole) (arg14 : Memref sig .tc .vmem S6x32x128 .f32)
  (harg14 : arg14.IsWhole) (arg15 : Memref sig .tc .vmem S6x128x128 .f32) (harg15 : arg15.IsWhole) (x0 : Vec Ideal S256x768 .f32)
  (x1 : Vec Ideal S256x768 .f32) (x2 : Vec Ideal S256x768 .bf16) (x3 : Vec Ideal S256x768 .bf16) (x4 : Vec Ideal S256x768 .bf16)
  (x5 : Vec Ideal S6x256x64 .bf16) (x6 : Vec Ideal S6x32x128 .f32) (x7 : Vec Ideal S4x6x128x128 .bf16) (xs0 : Vec Ideal S6x128x128 .f32) (hc0 : cond0_0 i)

theorem out0_A_8_eq :
    out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7
      = gDu x0 x1 x2 x3 x4 x5 x6 x7 dZero := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7)]
  funext y
  refine View.canon_apply_of_pieces _ _ ?_ y (cover0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 y)
  unfold kernelRun0_A
  dsimp only
  sl_unfold_words
  simp only [View.readAt_eq_ld, harg1.read_unread, harg2.read_unread, harg3.read_unread, harg4.read_unread, harg5.read_unread, harg6.read_unread, harg7.read_unread, harg8.read_unread]
  simp only [View.readCov_fill (s := S6x128x128) _ _ _ _ _ zeros3]
  exact rowPieces (fun h k y => bDv x0 x4 x5 h k (cur x0 x2 x3 x4 x5 x6 dZero h k) y) _ fun h k => pDu x0 x1 x2 x3 x4 x5 x6 x7 dZero h k _

theorem out0_A_9_eq :
    out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7
      = gDw x0 x1 x2 x3 x4 x5 x6 x7 dZero := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7)]
  funext y
  refine View.canon_apply_of_pieces _ _ ?_ y (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 y)
  unfold kernelRun0_A
  dsimp only
  sl_unfold_words
  simp only [View.readAt_eq_ld, harg1.read_unread, harg2.read_unread, harg3.read_unread, harg4.read_unread, harg5.read_unread, harg6.read_unread, harg7.read_unread, harg8.read_unread]
  simp only [View.readCov_fill (s := S6x128x128) _ _ _ _ _ zeros3]
  exact rowPieces (fun h k y => bDw x0 x4 x5 x7 h k (cur x0 x2 x3 x4 x5 x6 dZero h k) y) _ fun h k => pDw x0 x1 x2 x3 x4 x5 x6 x7 dZero h k _

theorem out0_A_10_eq :
    out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7
      = gDqg x0 x1 x2 x3 x4 x5 x6 x7 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7)]
  funext y
  refine View.canon_apply_of_pieces _ _ ?_ y (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 y)
  unfold kernelRun0_A
  dsimp only
  sl_unfold_words
  simp only [View.readAt_eq_ld, harg1.read_unread, harg2.read_unread, harg3.read_unread, harg4.read_unread, harg5.read_unread, harg6.read_unread, harg7.read_unread, harg8.read_unread]
  exact rowPieces (fun h k y => bDqg x0 x7 h k y) _ fun h k => pDqg x0 x1 x2 x3 x4 x5 x6 x7 h k _

theorem out0_A_11_eq :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7
      = gDkg x0 x1 x2 x3 x4 x5 x6 x7 dZero := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7)]
  funext y
  refine View.canon_apply_of_pieces _ _ ?_ y (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 y)
  unfold kernelRun0_A
  dsimp only
  sl_unfold_words
  simp only [View.readAt_eq_ld, harg1.read_unread, harg2.read_unread, harg3.read_unread, harg4.read_unread, harg5.read_unread, harg6.read_unread, harg7.read_unread, harg8.read_unread]
  simp only [View.readCov_fill (s := S6x128x128) _ _ _ _ _ zeros3]
  exact rowPieces (fun h k y => bDkg x1 x2 x7 h k (cur x0 x2 x3 x4 x5 x6 dZero h k) y) _ fun h k => pDkg x0 x1 x2 x3 x4 x5 x6 x7 dZero h k _

theorem out0_A_12_eq :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7
      = gDa x0 x1 x2 x3 x4 x5 x6 x7 := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7)]
  funext y
  refine View.canon_apply_of_pieces _ _ ?_ y (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 y)
  unfold kernelRun0_A
  dsimp only
  sl_unfold_words
  simp only [View.readAt_eq_ld, harg1.read_unread, harg2.read_unread, harg3.read_unread, harg4.read_unread, harg5.read_unread, harg6.read_unread, harg7.read_unread, harg8.read_unread]
  exact aPieces (fun h k y => bDa x0 x1 x2 x7 h k y) _ fun h k => pDa x0 x1 x2 x3 x4 x5 x6 x7 h k _

theorem out0_A_13_eq :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7
      = gDgl x0 x1 x2 x3 x4 x5 x6 x7 dZero := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7)]
  funext y
  refine View.canon_apply_of_pieces _ _ ?_ y (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 y)
  unfold kernelRun0_A
  dsimp only
  sl_unfold_words
  simp only [View.readAt_eq_ld, harg1.read_unread, harg2.read_unread, harg3.read_unread, harg4.read_unread, harg5.read_unread, harg6.read_unread, harg7.read_unread, harg8.read_unread]
  simp only [View.readCov_fill (s := S6x128x128) _ _ _ _ _ zeros3]
  exact glPieces (fun h k y => bDgl x7 h k (cur x0 x2 x3 x4 x5 x6 dZero h k) y) _ fun h k => pDgl x0 x1 x2 x3 x4 x5 x6 x7 dZero h k _

theorem sout0_A_0_eq :
    sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7
      = gSt x0 x1 x2 x3 x4 x5 x6 x7 dZero := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7)]
  funext y
  unfold kernelRun0_A
  dsimp only
  sl_unfold_words
  simp only [View.readAt_eq_ld, harg1.read_unread, harg2.read_unread, harg3.read_unread, harg4.read_unread, harg5.read_unread, harg6.read_unread, harg7.read_unread, harg8.read_unread]
  simp only [View.readCov_fill (s := S6x128x128) _ _ _ _ _ zeros3]
  exact canon_st (fun h y => shapeCast S1x128x128 (bBack x0 x2 x3 x4 x5 x6 h (dZero h) 4) shapeCasts_S128x128_S1x128x128 y) _ [_] (fun h => pSt x0 x1 x2 x3 x4 x5 x6 x7 dZero h _) y

end Cert.KernelIdeal.Scan
-- ==== Proof.Bwd.PointB.lean ====
/-
  Case B of the backward scan's grid point (every one but the first): what it leaves in the six result blocks and in the carried
  state.
-/
module

public import proofs.«01_k».proof.Proof.Bwd.Pieces

@[expose] public section
set_option maxRecDepth 16384
noncomputable section

namespace Cert.KernelIdeal.Scan
open Cert.KernelIdeal Cert.KernelIdeal.Gen Idealize.ShloMosaic Idealize.ShloMosaic.TcCoe Idealize.SL.Sem

variable (c : Dev nD) (i : grid0.Coords) (arg1 : Memref sig .tc .vmem S256x768 .f32) (harg1 : arg1.IsWhole)
  (arg2 : Memref sig .tc .vmem S256x768 .f32) (harg2 : arg2.IsWhole) (arg3 : Memref sig .tc .vmem S256x768 .bf16) (harg3 : arg3.IsWhole)
  (arg4 : Memref sig .tc .vmem S256x768 .bf16) (harg4 : arg4.IsWhole) (arg5 : Memref sig .tc .vmem S256x768 .bf16) (harg5 : arg5.IsWhole)
  (arg6 : Memref sig .tc .vmem S6x256x64 .bf16) (harg6 : arg6.IsWhole) (arg7 : Memref sig .tc .vmem S6x32x128 .f32) (harg7 : arg7.IsWhole)
  (arg8 : Memref sig .tc .vmem S4x6x128x128 .bf16) (harg8 : arg8.IsWhole) (arg9 : Memref sig .tc .vmem S256x768 .f32)
  (harg9 : arg9.IsWhole) (arg10 : Memref sig .tc .vmem S256x768 .f32) (harg10 : arg10.IsWhole) (arg11 : Memref sig .tc .vmem S256x768 .f32)
  (harg11 : arg11.IsWhole) (arg12 : Memref sig .tc .vmem S256x768 .f32) (harg12 : arg12.IsWhole)
  (arg13 : Memref sig .tc .vmem S6x256x64 .f32) (harg13 : arg13.IsWhole) (arg14 : Memref sig .tc .vmem S6x32x128 .f32)
  (harg14 : arg14.IsWhole) (arg15 : Memref sig .tc .vmem S6x128x128 .f32) (harg15 : arg15.IsWhole) (x0 : Vec Ideal S256x768 .f32)
  (x1 : Vec Ideal S256x768 .f32) (x2 : Vec Ideal S256x768 .bf16) (x3 : Vec Ideal S256x768 .bf16) (x4 : Vec Ideal S256x768 .bf16)
  (x5 : Vec Ideal S6x256x64 .bf16) (x6 : Vec Ideal S6x32x128 .f32) (x7 : Vec Ideal S4x6x128x128 .bf16) (xs0 : Vec Ideal S6x128x128 .f32) (hc0 : ¬cond0_0 i)

theorem out0_B_8_eq :
    out0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0
      = gDu x0 x1 x2 x3 x4 x5 x6 x7 (dIn xs0) := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0)]
  funext y
  refine View.canon_apply_of_pieces _ _ ?_ y (cover0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 y)
  unfold kernelRun0_B
  dsimp only
  sl_unfold_words
  simp only [View.readAt_eq_ld, harg1.read_unread, harg2.read_unread, harg3.read_unread, harg4.read_unread, harg5.read_unread, harg6.read_unread, harg7.read_unread, harg8.read_unread, harg15.read_unread]
  exact rowPieces (fun h k y => bDv x0 x4 x5 h k (cur x0 x2 x3 x4 x5 x6 (dIn xs0) h k) y) _ fun h k => pDu x0 x1 x2 x3 x4 x5 x6 x7 (dIn xs0) h k _

theorem out0_B_9_eq :
    out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0
      = gDw x0 x1 x2 x3 x4 x5 x6 x7 (dIn xs0) := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0)]
  funext y
  refine View.canon_apply_of_pieces _ _ ?_ y (cover0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 y)
  unfold kernelRun0_B
  dsimp only
  sl_unfold_words
  simp only [View.readAt_eq_ld, harg1.read_unread, harg2.read_unread, harg3.read_unread, harg4.read_unread, harg5.read_unread, harg6.read_unread, harg7.read_unread, harg8.read_unread, harg15.read_unread]
  exact rowPieces (fun h k y => bDw x0 x4 x5 x7 h k (cur x0 x2 x3 x4 x5 x6 (dIn xs0) h k) y) _ fun h k => pDw x0 x1 x2 x3 x4 x5 x6 x7 (dIn xs0) h k _

theorem out0_B_10_eq :
    out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0
      = gDqg x0 x1 x2 x3 x4 x5 x6 x7 := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0)]
  funext y
  refine View.canon_apply_of_pieces _ _ ?_ y (cover0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 y)
  unfold kernelRun0_B
  dsimp only
  sl_unfold_words
  simp only [View.readAt_eq_ld, harg1.read_unread, harg2.read_unread, harg3.read_unread, harg4.read_unread, harg5.read_unread, harg6.read_unread, harg7.read_unread, harg8.read_unread, harg15.read_unread]
  exact rowPieces (fun h k y => bDqg x0 x7 h k y) _ fun h k => pDqg x0 x1 x2 x3 x4 x5 x6 x7 h k _

theorem out0_B_11_eq :
    out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0
      = gDkg x0 x1 x2 x3 x4 x5 x6 x7 (dIn xs0) := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0)]
  funext y
  refine View.canon_apply_of_pieces _ _ ?_ y (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 y)
  unfold kernelRun0_B
  dsimp only
  sl_unfold_words
  simp only [View.readAt_eq_ld, harg1.read_unread, harg2.read_unread, harg3.read_unread, harg4.read_unread, harg5.read_unread, harg6.read_unread, harg7.read_unread, harg8.read_unread, harg15.read_unread]
  exact rowPieces (fun h k y => bDkg x1 x2 x7 h k (cur x0 x2 x3 x4 x5 x6 (dIn xs0) h k) y) _ fun h k => pDkg x0 x1 x2 x3 x4 x5 x6 x7 (dIn xs0) h k _

theorem out0_B_12_eq :
    out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0
      = gDa x0 x1 x2 x3 x4 x5 x6 x7 := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0)]
  funext y
  refine View.canon_apply_of_pieces _ _ ?_ y (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 y)
  unfold kernelRun0_B
  dsimp only
  sl_unfold_words
  simp only [View.readAt_eq_ld, harg1.read_unread, harg2.read_unread, harg3.read_unread, harg4.read_unread, harg5.read_unread, harg6.read_unread, harg7.read_unread, harg8.read_unread, harg15.read_unread]
  exact aPieces (fun h k y => bDa x0 x1 x2 x7 h k y) _ fun h k => pDa x0 x1 x2 x3 x4 x5 x6 x7 h k _

theorem out0_B_13_eq :
    out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0
      = gDgl x0 x1 x2 x3 x4 x5 x6 x7 (dIn xs0) := by
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0)]
  funext y
  refine View.canon_apply_of_pieces _ _ ?_ y (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 y)
  unfold kernelRun0_B
  dsimp only
  sl_unfold_words
  simp only [View.readAt_eq_ld, harg1.read_unread, harg2.read_unread, harg3.read_unread, harg4.read_unread, harg5.read_unread, harg6.read_unread, harg7.read_unread, harg8.read_unread, harg15.read_unread]
  exact glPieces (fun h k y => bDgl x7 h k (cur x0 x2 x3 x4 x5 x6 (dIn xs0) h k) y) _ fun h k => pDgl x0 x1 x2 x3 x4 x5 x6 x7 (dIn xs0) h k _

theorem sout0_B_0_eq :
    sout0_B_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0
      = gSt x0 x1 x2 x3 x4 x5 x6 x7 (dIn xs0) := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0)]
  funext y
  refine View.canon_apply_of_pieces _ _ ?_ y (scover0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 y)
  unfold kernelRun0_B
  dsimp only
  sl_unfold_words
  simp only [View.readAt_eq_ld, harg1.read_unread, harg2.read_unread, harg3.read_unread, harg4.read_unread, harg5.read_unread, harg6.read_unread, harg7.read_unread, harg8.read_unread, harg15.read_unread]
  exact stPieces (fun h y => shapeCast S1x128x128 (bBack x0 x2 x3 x4 x5 x6 h ((dIn xs0) h) 4) shapeCasts_S128x128_S1x128x128 y) _ fun h => pSt x0 x1 x2 x3 x4 x5 x6 x7 (dIn xs0) h _

end Cert.KernelIdeal.Scan
-- ==== Proof.Bwd.Arrays.lean ====
/-
  The six arrays after the backward scan: the state's cotangent is carried from point to point, so point `t` leaves the chunks
  read `4t`-th to `4t + 3`-rd in block `63 − t` of every result.
-/
module

public import proofs.«01_k».proof.Proof.Bwd.Windows
public import proofs.«01_k».proof.Proof.Bwd.PointA
public import proofs.«01_k».proof.Proof.Bwd.PointB

@[expose] public section
set_option maxRecDepth 16384
noncomputable section

namespace Cert.KernelIdeal.Scan
open Cert.KernelIdeal Cert.KernelIdeal.Gen Cert.KernelIdeal.Value Idealize.ShloMosaic Idealize.ShloMosaic.TcCoe Idealize.SL.Sem
open _root_.Scan (Tile St back back_add back_congr)

variable (m : (ℓ : Loc nD τ sig) → Buf (Elt Ideal) ℓ) (c : Dev nD)

/-- The state's cotangent a point starts from: zero at the first, what the point before left at the others. -/
def dStart : (n : ℕ) → n < cfg0.N → Fin 6 → M2
  | 0, _ => dZero
  | n + 1, hn => dIn (outsAt0 m c n (by omega)).2.2.2.2.2.2

/-- What point `t` leaves: the block functions at its blocks. -/
theorem outsAt_eq (t : Fin cfg0.N) : outsAt0 m c t.val t.isLt
    = (gDu (iblk m c 0 t) (iblk m c 1 t) (iblk m c 2 t) (iblk m c 3 t) (iblk m c 4 t) (iblk m c 5 t) (iblk m c 6 t) (iblk m c 7 t) (dStart m c t.val t.isLt),
       gDw (iblk m c 0 t) (iblk m c 1 t) (iblk m c 2 t) (iblk m c 3 t) (iblk m c 4 t) (iblk m c 5 t) (iblk m c 6 t) (iblk m c 7 t) (dStart m c t.val t.isLt),
       gDqg (iblk m c 0 t) (iblk m c 1 t) (iblk m c 2 t) (iblk m c 3 t) (iblk m c 4 t) (iblk m c 5 t) (iblk m c 6 t) (iblk m c 7 t),
       gDkg (iblk m c 0 t) (iblk m c 1 t) (iblk m c 2 t) (iblk m c 3 t) (iblk m c 4 t) (iblk m c 5 t) (iblk m c 6 t) (iblk m c 7 t) (dStart m c t.val t.isLt),
       gDa (iblk m c 0 t) (iblk m c 1 t) (iblk m c 2 t) (iblk m c 3 t) (iblk m c 4 t) (iblk m c 5 t) (iblk m c 6 t) (iblk m c 7 t),
       gDgl (iblk m c 0 t) (iblk m c 1 t) (iblk m c 2 t) (iblk m c 3 t) (iblk m c 4 t) (iblk m c 5 t) (iblk m c 6 t) (iblk m c 7 t) (dStart m c t.val t.isLt),
       gSt (iblk m c 0 t) (iblk m c 1 t) (iblk m c 2 t) (iblk m c 3 t) (iblk m c 4 t) (iblk m c 5 t) (iblk m c 6 t) (iblk m c 7 t) (dStart m c t.val t.isLt)) := by
  have ht : t.val < 64 := lt_of_lt_of_eq t.isLt (show cfg0.N = 64 from N_0)
  by_cases h0 : t.val % 64 = 0
  · have hz : t.val = 0 := by omega
    have hd : dStart m c t.val t.isLt = dZero := by
      obtain ⟨n, hn⟩ := t; subst hz; rfl
    rw [outsAt0_A m c t h0, hd]
    rw [out0_A_8_eq, out0_A_9_eq, out0_A_10_eq, out0_A_11_eq, out0_A_12_eq, out0_A_13_eq, sout0_A_0_eq]
  · have hd : dStart m c t.val t.isLt = dIn (outsAt0 m c (t.val - 1) (by omega)).2.2.2.2.2.2 := by
      obtain ⟨n, hn⟩ := t
      match n, hn, h0 with
      | 0, _, h0 => exact absurd rfl h0
      | n + 1, hn, _ => rfl
    rw [outsAt0_B m c t h0, hd]
    rw [out0_B_8_eq, out0_B_9_eq, out0_B_10_eq, out0_B_11_eq, out0_B_12_eq, out0_B_13_eq, sout0_B_0_eq]

/-- The state's cotangent after `k` of the point's chunks, from what it is `4t` chunks from the end. -/
theorem dst_eq (t : Fin cfg0.N) (D : Fin 6 → M2) (h : Fin 6) (hD : mat (D h) = back (mchunks m c h) (fun _ _ => 0) (4 * t.val))
    (k : ℕ) (hk : k ≤ 4) : dst (iblk m c 0 t) (iblk m c 1 t) (iblk m c 2 t) (iblk m c 3 t) (iblk m c 4 t) (iblk m c 5 t) (iblk m c 6 t) (iblk m c 7 t) D h k = back (mchunks m c h) (fun _ _ => 0) (4 * t.val + k) := by
  rw [back_add]
  show back _ (mat (D h)) k = _
  rw [hD]
  refine back_congr k fun n hn => ?_
  unfold tiles
  rw [tile_iblk]
  show mchunks m c h (4 * t.val + n % 4) = _
  rw [show n % 4 = n by omega]

/-- Point `n` starts from the cotangent `4n` chunks from the end. -/
theorem dStart_eq (h : Fin 6) : ∀ (n : ℕ) (hn : n < cfg0.N),
    mat (dStart m c n hn h) = back (mchunks m c h) (fun _ _ => 0) (4 * n)
  | 0, _ => mat_dZero h
  | n + 1, hn => by
    show mat (dIn (outsAt0 m c n _).2.2.2.2.2.2 h) = _
    rw [mat_dIn, outsAt_eq m c ⟨n, by omega⟩]
    exact dst_eq m c ⟨n, by omega⟩ _ h (dStart_eq h n (by omega)) 4 (le_refl 4)

/-! ## Each result's block -/

theorem index_out (t : Fin cfg0.N) :
    (win0_8.index t = ![63 - t.val, 0] ∧ win0_9.index t = ![63 - t.val, 0] ∧ win0_10.index t = ![63 - t.val, 0]
      ∧ win0_11.index t = ![63 - t.val, 0]) ∧ win0_12.index t = ![0, 63 - t.val, 0] ∧ win0_13.index t = ![0, 63 - t.val, 0] :=
  (by decide +kernel : ∀ t : Fin grid0.N, (win0_8.index t = ![63 - t.val, 0] ∧ win0_9.index t = ![63 - t.val, 0] ∧ win0_10.index t = ![63 - t.val, 0]
      ∧ win0_11.index t = ![63 - t.val, 0]) ∧ win0_12.index t = ![0, 63 - t.val, 0] ∧ win0_13.index t = ![0, 63 - t.val, 0]) t

/-- A block of token rows is those rows of the whole array. -/
theorem rows_block (t : Fin cfg0.N) (f : Fin 6 → Fin 4 → Fin 64 → Fin 128 → EReal) (g : Fin 6 → ℕ → Fin 64 → Fin 128 → EReal)
    (hfg : ∀ h k, f h k = g h (4 * t.val + k.val)) (y : S256x768.Idx) (z : S16384x768.Idx)
    (h0 : (z 0).val = 256 * (63 - t.val) + (y 0).val) (h1 : (z 1).val = (y 1).val) : byRow f y = allRows g z := by
  have ht : t.val < 64 := lt_of_lt_of_eq t.isLt (show cfg0.N = 64 from N_0)
  have hy : (y 0).val < 256 := (y 0).isLt
  unfold byRow allRows
  rw [hfg]
  have e1 : 4 * t.val + (3 - (y 0).val / 64) = 255 - (z 0).val / 64 := by omega
  have e2 : (y 0).val % 64 = (z 0).val % 64 := by omega
  simp only [e1, e2, h1]

theorem block_Du (t : Fin cfg0.N) (y : S256x768.Idx) (z : S16384x768.Idx)
    (h0 : (z 0).val = 256 * (63 - t.val) + (y 0).val) (h1 : (z 1).val = (y 1).val) :
    gDu (iblk m c 0 t) (iblk m c 1 t) (iblk m c 2 t) (iblk m c 3 t) (iblk m c 4 t) (iblk m c 5 t) (iblk m c 6 t) (iblk m c 7 t) (dStart m c t.val t.isLt) y = rDu (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) z := by
  unfold gDu rDu
  refine rows_block t _ _ (fun h k => ?_) y z h0 h1
  funext r j
  rw [tile_iblk, dst_eq m c t _ h (dStart_eq m c h t.val t.isLt) k.val (by omega)]

theorem flushed_8 (t : Fin cfg0.N) : (dats m 0 c).flushed 8 t
    = ((cfg0.win 8).blk t).view.read (Elt Ideal) (rDu (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  have hi := (index_out t).1.1
  rw [flushed8, outsAt_eq]
  funext y
  rw [View.read_apply]
  refine block_Du m c t y _ ?_ ?_
  · show win0_8.index t 0 * 256 + 1 * (y 0).val = _; rw [hi]; simp; omega
  · show win0_8.index t 1 * 768 + 1 * (y 1).val = _; rw [hi]; simp

theorem final_8 : (dats m 0 c).arrAt 8 cfg0.N = rDu (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (dats m 0 c).arrAt_eq_of_cover 8 _ (fun t _ => flushed_8 m c t) fun i => by
    have hi0 : (i 0).val < 16384 := (i 0).isLt
    have hi1 : (i 1).val < 768 := (i 1).isLt
    have hN : cfg0.N = 64 := N_0
    obtain ⟨t, ht⟩ : ∃ t : Fin cfg0.N, t.val = 63 - (i 0).val / 256 := ⟨⟨63 - (i 0).val / 256, by omega⟩, rfl⟩
    refine ⟨t, flush0_8 t, ?_⟩
    have hi := (index_out t).1.1
    show i ∈ ((View.whole main_v3_0).slice (win0_8.rect t)).set
    rw [View.set_slice_whole, Rect.mem_set_unit]
    intro a
    match a with
    | ⟨0, _⟩ => show win0_8.index t 0 * 256 ≤ (i 0 : Nat) ∧ (i 0 : Nat) < win0_8.index t 0 * 256 + 256
                rw [hi]; simp; omega
    | ⟨1, _⟩ => show win0_8.index t 1 * 768 ≤ (i 1 : Nat) ∧ (i 1 : Nat) < win0_8.index t 1 * 768 + 768
                rw [hi]; simp; omega

theorem block_Dw (t : Fin cfg0.N) (y : S256x768.Idx) (z : S16384x768.Idx)
    (h0 : (z 0).val = 256 * (63 - t.val) + (y 0).val) (h1 : (z 1).val = (y 1).val) :
    gDw (iblk m c 0 t) (iblk m c 1 t) (iblk m c 2 t) (iblk m c 3 t) (iblk m c 4 t) (iblk m c 5 t) (iblk m c 6 t) (iblk m c 7 t) (dStart m c t.val t.isLt) y = rDw (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) z := by
  unfold gDw rDw
  refine rows_block t _ _ (fun h k => ?_) y z h0 h1
  funext r j
  rw [tile_iblk, dst_eq m c t _ h (dStart_eq m c h t.val t.isLt) k.val (by omega)]

theorem flushed_9 (t : Fin cfg0.N) : (dats m 0 c).flushed 9 t
    = ((cfg0.win 9).blk t).view.read (Elt Ideal) (rDw (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  have hi := (index_out t).1.2.1
  rw [flushed9, outsAt_eq]
  funext y
  rw [View.read_apply]
  refine block_Dw m c t y _ ?_ ?_
  · show win0_9.index t 0 * 256 + 1 * (y 0).val = _; rw [hi]; simp; omega
  · show win0_9.index t 1 * 768 + 1 * (y 1).val = _; rw [hi]; simp

theorem final_9 : (dats m 0 c).arrAt 9 cfg0.N = rDw (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (dats m 0 c).arrAt_eq_of_cover 9 _ (fun t _ => flushed_9 m c t) fun i => by
    have hi0 : (i 0).val < 16384 := (i 0).isLt
    have hi1 : (i 1).val < 768 := (i 1).isLt
    have hN : cfg0.N = 64 := N_0
    obtain ⟨t, ht⟩ : ∃ t : Fin cfg0.N, t.val = 63 - (i 0).val / 256 := ⟨⟨63 - (i 0).val / 256, by omega⟩, rfl⟩
    refine ⟨t, flush0_9 t, ?_⟩
    have hi := (index_out t).1.2.1
    show i ∈ ((View.whole main_v3_1).slice (win0_9.rect t)).set
    rw [View.set_slice_whole, Rect.mem_set_unit]
    intro a
    match a with
    | ⟨0, _⟩ => show win0_9.index t 0 * 256 ≤ (i 0 : Nat) ∧ (i 0 : Nat) < win0_9.index t 0 * 256 + 256
                rw [hi]; simp; omega
    | ⟨1, _⟩ => show win0_9.index t 1 * 768 ≤ (i 1 : Nat) ∧ (i 1 : Nat) < win0_9.index t 1 * 768 + 768
                rw [hi]; simp; omega

theorem block_Dqg (t : Fin cfg0.N) (y : S256x768.Idx) (z : S16384x768.Idx)
    (h0 : (z 0).val = 256 * (63 - t.val) + (y 0).val) (h1 : (z 1).val = (y 1).val) :
    gDqg (iblk m c 0 t) (iblk m c 1 t) (iblk m c 2 t) (iblk m c 3 t) (iblk m c 4 t) (iblk m c 5 t) (iblk m c 6 t) (iblk m c 7 t) y = rDqg (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) z := by
  unfold gDqg rDqg
  refine rows_block t _ _ (fun h k => ?_) y z h0 h1
  funext r j
  rw [tile_iblk]

theorem flushed_10 (t : Fin cfg0.N) : (dats m 0 c).flushed 10 t
    = ((cfg0.win 10).blk t).view.read (Elt Ideal) (rDqg (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  have hi := (index_out t).1.2.2.1
  rw [flushed10, outsAt_eq]
  funext y
  rw [View.read_apply]
  refine block_Dqg m c t y _ ?_ ?_
  · show win0_10.index t 0 * 256 + 1 * (y 0).val = _; rw [hi]; simp; omega
  · show win0_10.index t 1 * 768 + 1 * (y 1).val = _; rw [hi]; simp

theorem final_10 : (dats m 0 c).arrAt 10 cfg0.N = rDqg (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (dats m 0 c).arrAt_eq_of_cover 10 _ (fun t _ => flushed_10 m c t) fun i => by
    have hi0 : (i 0).val < 16384 := (i 0).isLt
    have hi1 : (i 1).val < 768 := (i 1).isLt
    have hN : cfg0.N = 64 := N_0
    obtain ⟨t, ht⟩ : ∃ t : Fin cfg0.N, t.val = 63 - (i 0).val / 256 := ⟨⟨63 - (i 0).val / 256, by omega⟩, rfl⟩
    refine ⟨t, flush0_10 t, ?_⟩
    have hi := (index_out t).1.2.2.1
    show i ∈ ((View.whole main_v3_2).slice (win0_10.rect t)).set
    rw [View.set_slice_whole, Rect.mem_set_unit]
    intro a
    match a with
    | ⟨0, _⟩ => show win0_10.index t 0 * 256 ≤ (i 0 : Nat) ∧ (i 0 : Nat) < win0_10.index t 0 * 256 + 256
                rw [hi]; simp; omega
    | ⟨1, _⟩ => show win0_10.index t 1 * 768 ≤ (i 1 : Nat) ∧ (i 1 : Nat) < win0_10.index t 1 * 768 + 768
                rw [hi]; simp; omega

theorem block_Dkg (t : Fin cfg0.N) (y : S256x768.Idx) (z : S16384x768.Idx)
    (h0 : (z 0).val = 256 * (63 - t.val) + (y 0).val) (h1 : (z 1).val = (y 1).val) :
    gDkg (iblk m c 0 t) (iblk m c 1 t) (iblk m c 2 t) (iblk m c 3 t) (iblk m c 4 t) (iblk m c 5 t) (iblk m c 6 t) (iblk m c 7 t) (dStart m c t.val t.isLt) y = rDkg (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) z := by
  unfold gDkg rDkg
  refine rows_block t _ _ (fun h k => ?_) y z h0 h1
  funext r j
  rw [tile_iblk, dst_eq m c t _ h (dStart_eq m c h t.val t.isLt) k.val (by omega)]

theorem flushed_11 (t : Fin cfg0.N) : (dats m 0 c).flushed 11 t
    = ((cfg0.win 11).blk t).view.read (Elt Ideal) (rDkg (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  have hi := (index_out t).1.2.2.2
  rw [flushed11, outsAt_eq]
  funext y
  rw [View.read_apply]
  refine block_Dkg m c t y _ ?_ ?_
  · show win0_11.index t 0 * 256 + 1 * (y 0).val = _; rw [hi]; simp; omega
  · show win0_11.index t 1 * 768 + 1 * (y 1).val = _; rw [hi]; simp

theorem final_11 : (dats m 0 c).arrAt 11 cfg0.N = rDkg (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (dats m 0 c).arrAt_eq_of_cover 11 _ (fun t _ => flushed_11 m c t) fun i => by
    have hi0 : (i 0).val < 16384 := (i 0).isLt
    have hi1 : (i 1).val < 768 := (i 1).isLt
    have hN : cfg0.N = 64 := N_0
    obtain ⟨t, ht⟩ : ∃ t : Fin cfg0.N, t.val = 63 - (i 0).val / 256 := ⟨⟨63 - (i 0).val / 256, by omega⟩, rfl⟩
    refine ⟨t, flush0_11 t, ?_⟩
    have hi := (index_out t).1.2.2.2
    show i ∈ ((View.whole main_v3_3).slice (win0_11.rect t)).set
    rw [View.set_slice_whole, Rect.mem_set_unit]
    intro a
    match a with
    | ⟨0, _⟩ => show win0_11.index t 0 * 256 ≤ (i 0 : Nat) ∧ (i 0 : Nat) < win0_11.index t 0 * 256 + 256
                rw [hi]; simp; omega
    | ⟨1, _⟩ => show win0_11.index t 1 * 768 ≤ (i 1 : Nat) ∧ (i 1 : Nat) < win0_11.index t 1 * 768 + 768
                rw [hi]; simp; omega

theorem block_Da (t : Fin cfg0.N) (y : S6x256x64.Idx) (z : S6x16384x64.Idx) (z0 : z 0 = y 0)
    (z1 : (z 1).val = 256 * (63 - t.val) + (y 1).val) (z2 : z 2 = y 2) :
    gDa (iblk m c 0 t) (iblk m c 1 t) (iblk m c 2 t) (iblk m c 3 t) (iblk m c 4 t) (iblk m c 5 t) (iblk m c 6 t) (iblk m c 7 t) y
      = rDa (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) z := by
  have ht : t.val < 64 := lt_of_lt_of_eq t.isLt (show cfg0.N = 64 from N_0)
  obtain ⟨h, n, j, rfl⟩ : ∃ h n j, y = ix3 h n j := ⟨y 0, y 1, y 2, eq_ix3 y⟩
  obtain ⟨h', n', j', rfl⟩ : ∃ h n j, z = ix3 h n j := ⟨z 0, z 1, z 2, eq_ix3 z⟩
  obtain rfl : h' = h := z0
  obtain rfl : j' = j := z2
  replace z1 : n'.val = 256 * (63 - t.val) + n.val := z1
  show (tile (iblk m c 0 t) (iblk m c 1 t) (iblk m c 2 t) (iblk m c 3 t) (iblk m c 4 t) (iblk m c 5 t) (iblk m c 6 t) (iblk m c 7 t) h' ⟨3 - n.val / 64, by omega⟩).da ⟨n.val % 64, by omega⟩ j'
    = (mchunks m c h' (255 - n'.val / 64)).da ⟨n'.val % 64, by omega⟩ j'
  rw [tile_iblk]
  have e1 : 4 * t.val + (3 - n.val / 64) = 255 - n'.val / 64 := by omega
  have e2 : n.val % 64 = n'.val % 64 := by omega
  simp only [e1, e2]

theorem flushed_12 (t : Fin cfg0.N) : (dats m 0 c).flushed 12 t
    = ((cfg0.win 12).blk t).view.read (Elt Ideal) (rDa (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  have hi := (index_out t).2.1
  rw [flushed12, outsAt_eq]
  funext (y : S6x256x64.Idx)
  rw [View.read_apply]
  refine block_Da m c t y _ (Fin.ext ?_) ?_ (Fin.ext ?_)
  · show win0_12.index t 0 * 6 + 1 * (y 0).val = _; rw [hi]; simp
  · show win0_12.index t 1 * 256 + 1 * (y 1).val = _; rw [hi]; simp; omega
  · show win0_12.index t 2 * 64 + 1 * (y 2).val = _; rw [hi]; simp

theorem final_12 : (dats m 0 c).arrAt 12 cfg0.N = rDa (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (dats m 0 c).arrAt_eq_of_cover 12 _ (fun t _ => flushed_12 m c t) fun i => by
    have hi0 : (i 0).val < 6 := (i 0).isLt
    have hi1 : (i 1).val < 16384 := (i 1).isLt
    have hi2 : (i 2).val < 64 := (i 2).isLt
    have hN : cfg0.N = 64 := N_0
    obtain ⟨t, ht⟩ : ∃ t : Fin cfg0.N, t.val = 63 - (i 1).val / 256 := ⟨⟨63 - (i 1).val / 256, by omega⟩, rfl⟩
    refine ⟨t, flush0_12 t, ?_⟩
    have hi := (index_out t).2.1
    show i ∈ ((View.whole main_v3_4).slice (win0_12.rect t)).set
    rw [View.set_slice_whole, Rect.mem_set_unit]
    intro a
    match a with
    | ⟨0, _⟩ => show win0_12.index t 0 * 6 ≤ (i 0 : Nat) ∧ (i 0 : Nat) < win0_12.index t 0 * 6 + 6
                rw [hi]; simp; omega
    | ⟨1, _⟩ => show win0_12.index t 1 * 256 ≤ (i 1 : Nat) ∧ (i 1 : Nat) < win0_12.index t 1 * 256 + 256
                rw [hi]; simp; omega
    | ⟨2, _⟩ => show win0_12.index t 2 * 64 ≤ (i 2 : Nat) ∧ (i 2 : Nat) < win0_12.index t 2 * 64 + 64
                rw [hi]; simp; omega

theorem block_Dgl (t : Fin cfg0.N) (y : S6x32x128.Idx) (z : S6x2048x128.Idx) (z0 : z 0 = y 0)
    (z1 : (z 1).val = 32 * (63 - t.val) + (y 1).val) (z2 : z 2 = y 2) :
    gDgl (iblk m c 0 t) (iblk m c 1 t) (iblk m c 2 t) (iblk m c 3 t) (iblk m c 4 t) (iblk m c 5 t) (iblk m c 6 t) (iblk m c 7 t) (dStart m c t.val t.isLt) y
      = rDgl (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) z := by
  have ht : t.val < 64 := lt_of_lt_of_eq t.isLt (show cfg0.N = 64 from N_0)
  obtain ⟨h, n, j, rfl⟩ : ∃ h n j, y = ix3 h n j := ⟨y 0, y 1, y 2, eq_ix3 y⟩
  obtain ⟨h', n', j', rfl⟩ : ∃ h n j, z = ix3 h n j := ⟨z 0, z 1, z 2, eq_ix3 z⟩
  obtain rfl : h' = h := z0
  obtain rfl : j' = j := z2
  replace z1 : n'.val = 32 * (63 - t.val) + n.val := z1
  show (tile (iblk m c 0 t) (iblk m c 1 t) (iblk m c 2 t) (iblk m c 3 t) (iblk m c 4 t) (iblk m c 5 t) (iblk m c 6 t) (iblk m c 7 t) h' ⟨3 - n.val / 8, by omega⟩).dgl (dst (iblk m c 0 t) (iblk m c 1 t) (iblk m c 2 t) (iblk m c 3 t) (iblk m c 4 t) (iblk m c 5 t) (iblk m c 6 t) (iblk m c 7 t) (dStart m c t.val t.isLt) h' (3 - n.val / 8))
    = (mchunks m c h' (255 - n'.val / 8)).dgl (back (mchunks m c h') (fun _ _ => 0) (255 - n'.val / 8))
  rw [tile_iblk, dst_eq m c t _ _ (dStart_eq m c _ t.val t.isLt) _ (by omega)]
  have e1 : 4 * t.val + (3 - n.val / 8) = 255 - n'.val / 8 := by omega
  simp only [e1]

theorem flushed_13 (t : Fin cfg0.N) : (dats m 0 c).flushed 13 t
    = ((cfg0.win 13).blk t).view.read (Elt Ideal) (rDgl (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  have hi := (index_out t).2.2
  rw [flushed13, outsAt_eq]
  funext (y : S6x32x128.Idx)
  rw [View.read_apply]
  refine block_Dgl m c t y _ (Fin.ext ?_) ?_ (Fin.ext ?_)
  · show win0_13.index t 0 * 6 + 1 * (y 0).val = _; rw [hi]; simp
  · show win0_13.index t 1 * 32 + 1 * (y 1).val = _; rw [hi]; simp; omega
  · show win0_13.index t 2 * 128 + 1 * (y 2).val = _; rw [hi]; simp

theorem final_13 : (dats m 0 c).arrAt 13 cfg0.N = rDgl (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (dats m 0 c).arrAt_eq_of_cover 13 _ (fun t _ => flushed_13 m c t) fun i => by
    have hi0 : (i 0).val < 6 := (i 0).isLt
    have hi1 : (i 1).val < 2048 := (i 1).isLt
    have hi2 : (i 2).val < 128 := (i 2).isLt
    have hN : cfg0.N = 64 := N_0
    obtain ⟨t, ht⟩ : ∃ t : Fin cfg0.N, t.val = 63 - (i 1).val / 32 := ⟨⟨63 - (i 1).val / 32, by omega⟩, rfl⟩
    refine ⟨t, flush0_13 t, ?_⟩
    have hi := (index_out t).2.2
    show i ∈ ((View.whole main_v3_5).slice (win0_13.rect t)).set
    rw [View.set_slice_whole, Rect.mem_set_unit]
    intro a
    match a with
    | ⟨0, _⟩ => show win0_13.index t 0 * 6 ≤ (i 0 : Nat) ∧ (i 0 : Nat) < win0_13.index t 0 * 6 + 6
                rw [hi]; simp; omega
    | ⟨1, _⟩ => show win0_13.index t 1 * 32 ≤ (i 1 : Nat) ∧ (i 1 : Nat) < win0_13.index t 1 * 32 + 32
                rw [hi]; simp; omega
    | ⟨2, _⟩ => show win0_13.index t 2 * 128 ≤ (i 2 : Nat) ∧ (i 2 : Nat) < win0_13.index t 2 * 128 + 128
                rw [hi]; simp; omega

end Cert.KernelIdeal.Scan
-- ==== Proof.Bwd.RefStep.lean ====
/-
  One trip of the reference's loop: what it computes of the chunk it reads, element by element.
-/
module

public import proofs.«01_k».proof.Proof.Gen.ReferenceIdeal.Run
public import proofs.«01_k».proof.Proof.Bwd.RefMath
public import Idealize.ShloMosaic.Lib.Tactic.CleanTypes

@[expose] public section
noncomputable section

namespace Cert.ReferenceIdeal.Scan
open Cert.ReferenceIdeal Cert.ReferenceIdeal.Gen Cert.ReferenceIdeal.Value Idealize.ShloMosaic Idealize.ShloMosaic.TcCoe
open _root_.Scan

variable (V : Valuation τ sig (Elt Ideal)) (k : ℕ)

/-! ## The arrays a trip carries -/

abbrev cS : Vec Ideal S256x6x128x128 .f32 := V (Proc.devRef .tc main_v25_0)
abbrev cDo : Vec Ideal S256x6x64x128 .f32 := V (Proc.devRef .tc main_v25_1)
abbrev cU : Vec Ideal S256x6x64x128 .f32 := V (Proc.devRef .tc main_v25_2)
abbrev cW : Vec Ideal S256x6x64x128 .f32 := V (Proc.devRef .tc main_v25_3)
abbrev cA : Vec Ideal S256x6x64x64 .f32 := V (Proc.devRef .tc main_v25_4)
abbrev cQg : Vec Ideal S256x6x64x128 .f32 := V (Proc.devRef .tc main_v25_5)
abbrev cKg : Vec Ideal S256x6x64x128 .f32 := V (Proc.devRef .tc main_v25_6)
abbrev cGl : Vec Ideal S256x6 .f32 := V (Proc.devRef .tc main_v25_7)
abbrev cD : Vec Ideal S6x128x128 .f32 := V (Proc.devRef .tc main_v25_9)

/-- The chunk of head `h` that trip `k` reads. -/
def ctile (h : Fin 6) : Tile where
  dO r j := cDo V (ix4 (rchk k) h r j)
  u r j := cU V (ix4 (rchk k) h r j)
  w r j := cW V (ix4 (rchk k) h r j)
  qg r j := cQg V (ix4 (rchk k) h r j)
  kg r j := cKg V (ix4 (rchk k) h r j)
  a r j := cA V (ix4 (rchk k) h r j)
  gl _ := cGl V (ix2 (rchk k) h)
  s i j := cS V (ix4 (rchk k) h i j)

/-- The state's cotangent of head `h`. -/
def cst (h : Fin 6) : St := fun i j => cD V (ix3 h i j)

/-- The counter at trip `k`. -/
abbrev Counter : Prop := V (Proc.devRef .tc main_v25_8) = fun _ => BitVec.ofNat 32 k

variable {V k}

theorem word (hk : k < 256) (hc : Counter V k) (i : S_.Idx) : (res_main_while0b_v41 V i : BitVec 32) = BitVec.ofNat 32 (255 - k) := by
  unfold res_main_while0b_v41
  rw [hc]
  show (256#32 - BitVec.ofNat 32 k) - 1#32 = _
  apply BitVec.eq_of_toNat_eq
  simp only [BitVec.toNat_sub, BitVec.toNat_ofNat]
  omega

theorem start4 (hk : k < 256) (hc : Counter V k) (p : Fin 4) :
    (((![res_main_while0b_v41 V, constantI S_ 32 0#32, constantI S_ 32 0#32, constantI S_ 32 0#32] :
      Fin 4 → (⟨S_, .i32⟩ : BufTy).Contents (Elt Ideal))) p (Shape.Idx.first h_S_)).toInt
      = ((![(rchk k).val, 0, 0, 0] : Fin 4 → ℕ) p : Int) := by
  fin_cases p
  · show BitVec.toInt (res_main_while0b_v41 V (Shape.Idx.first h_S_)) = _
    rw [word hk hc, toInt_ofNat_of_lt (by omega)]; rfl
  all_goals rfl

theorem start2 (hk : k < 256) (hc : Counter V k) (p : Fin 2) :
    (((![res_main_while0b_v41 V, constantI S_ 32 0#32] :
      Fin 2 → (⟨S_, .i32⟩ : BufTy).Contents (Elt Ideal))) p (Shape.Idx.first h_S_)).toInt
      = ((![(rchk k).val, 0] : Fin 2 → ℕ) p : Int) := by
  fin_cases p
  · show BitVec.toInt (res_main_while0b_v41 V (Shape.Idx.first h_S_)) = _
    rw [word hk hc, toInt_ofNat_of_lt (by omega)]; rfl
  all_goals rfl

/-! ## The chunk's arrays -/

/-- The chunk that trip `k` reads of each carried array. -/
theorem read_s (hk : k < 256) (hc : Counter V k) (x : Vec Ideal S256x6x128x128 .f32) :
    (Host.dynamicSlice S1x6x128x128 x (fun p => (((![res_main_while0b_v41 V, constantI S_ 32 0#32, constantI S_ 32 0#32, constantI S_ 32 0#32] :
      Fin 4 → (⟨S_, .i32⟩ : BufTy).Contents (Elt Ideal))) p (Shape.Idx.first h_S_)).toInt) sliceFits_S256x6x128x128_S1x6x128x128)
      = fun y => x (ix4 (rchk k) (y 1) (y 2) (y 3)) :=
  dynamicSlice_chunk4 _ _ (rchk k) _ (start4 hk hc)

theorem read_rows (hk : k < 256) (hc : Counter V k) (x : Vec Ideal S256x6x64x128 .f32) :
    (Host.dynamicSlice S1x6x64x128 x (fun p => (((![res_main_while0b_v41 V, constantI S_ 32 0#32, constantI S_ 32 0#32, constantI S_ 32 0#32] :
      Fin 4 → (⟨S_, .i32⟩ : BufTy).Contents (Elt Ideal))) p (Shape.Idx.first h_S_)).toInt) sliceFits_S256x6x64x128_S1x6x64x128)
      = fun y => x (ix4 (rchk k) (y 1) (y 2) (y 3)) :=
  dynamicSlice_chunk4 _ _ (rchk k) _ (start4 hk hc)

theorem read_a (hk : k < 256) (hc : Counter V k) (x : Vec Ideal S256x6x64x64 .f32) :
    (Host.dynamicSlice S1x6x64x64 x (fun p => (((![res_main_while0b_v41 V, constantI S_ 32 0#32, constantI S_ 32 0#32, constantI S_ 32 0#32] :
      Fin 4 → (⟨S_, .i32⟩ : BufTy).Contents (Elt Ideal))) p (Shape.Idx.first h_S_)).toInt) sliceFits_S256x6x64x64_S1x6x64x64)
      = fun y => x (ix4 (rchk k) (y 1) (y 2) (y 3)) :=
  dynamicSlice_chunk4 _ _ (rchk k) _ (start4 hk hc)

theorem read_gl (hk : k < 256) (hc : Counter V k) (x : Vec Ideal S256x6 .f32) :
    (Host.dynamicSlice S1x6 x (fun p => (((![res_main_while0b_v41 V, constantI S_ 32 0#32] :
      Fin 2 → (⟨S_, .i32⟩ : BufTy).Contents (Elt Ideal))) p (Shape.Idx.first h_S_)).toInt) sliceFits_S256x6_S1x6)
      = fun y => x (ix2 (rchk k) (y 1)) :=
  dynamicSlice_chunk2 _ _ (rchk k) _ (start2 hk hc)

theorem v42_apply (hk : k < 256) (hc : Counter V k) (h : Fin 6) (i j : Fin 128) :
    (res_main_while0b_v42 V : Vec Ideal S6x128x128 .f32) (ix3 h i j) = (ctile V k h).s i j := by
  unfold res_main_while0b_v42
  clean_types
  rw [read_s hk hc]
  pointwise
  rfl

theorem v43_apply (hk : k < 256) (hc : Counter V k) (h : Fin 6) (i : Fin 64) (j : Fin 128) :
    (res_main_while0b_v43 V : Vec Ideal S6x64x128 .f32) (ix3 h i j) = (ctile V k h).dO i j := by
  unfold res_main_while0b_v43
  clean_types
  rw [read_rows hk hc]
  pointwise
  rfl

theorem v45_apply (hk : k < 256) (hc : Counter V k) (h : Fin 6) (i : Fin 64) (j : Fin 128) :
    (res_main_while0b_v45 V : Vec Ideal S6x64x128 .f32) (ix3 h i j) = (ctile V k h).w i j := by
  unfold res_main_while0b_v45
  clean_types
  rw [read_rows hk hc]
  pointwise
  rfl

theorem v46_apply (hk : k < 256) (hc : Counter V k) (h : Fin 6) (i j : Fin 64) :
    (res_main_while0b_v46 V : Vec Ideal S6x64x64 .f32) (ix3 h i j) = (ctile V k h).a i j := by
  unfold res_main_while0b_v46
  clean_types
  rw [read_a hk hc]
  pointwise
  rfl

theorem v47_apply (hk : k < 256) (hc : Counter V k) (h : Fin 6) (i : Fin 64) (j : Fin 128) :
    (res_main_while0b_v47 V : Vec Ideal S6x64x128 .f32) (ix3 h i j) = (ctile V k h).qg i j := by
  unfold res_main_while0b_v47
  clean_types
  rw [read_rows hk hc]
  pointwise
  rfl

theorem v48_apply (hk : k < 256) (hc : Counter V k) (h : Fin 6) (i : Fin 64) (j : Fin 128) :
    (res_main_while0b_v48 V : Vec Ideal S6x64x128 .f32) (ix3 h i j) = (ctile V k h).kg i j := by
  unfold res_main_while0b_v48
  clean_types
  rw [read_rows hk hc]
  pointwise
  rfl

theorem v55_apply (hk : k < 256) (hc : Counter V k) (h : Fin 6) (z z' : Fin 1) (j : Fin 128) :
    (res_main_while0b_v55 V : Vec Ideal S6x1x1 .f32) (ix3 h z z') = (ctile V k h).gl j := by
  unfold res_main_while0b_v55
  clean_types
  rw [read_gl hk hc]
  pointwise
  rfl

theorem v51_apply (hk : k < 256) (hc : Counter V k) (h : Fin 6) (r : Fin 64) (j : Fin 128) :
    (res_main_while0b_v51 V : Vec Ideal S6x64x128 .f32) (ix3 h r j) = (ctile V k h).vn r j := by
  unfold res_main_while0b_v51
  clean_types
  rw [read_rows hk hc]
  pointwise
  simp only [v45_apply hk hc, v42_apply hk hc]
  rfl

theorem v72_apply (hk : k < 256) (hc : Counter V k) (h : Fin 6) (r : Fin 64) (j : Fin 128) :
    (res_main_while0b_v72 V : Vec Ideal S6x64x128 .f32) (ix3 h r j) = (ctile V k h).rdv (cst V h) r j := by
  unfold res_main_while0b_v72
  pointwise
  simp only [v43_apply hk hc, v46_apply hk hc, v48_apply hk hc]
  rfl

theorem v78_apply (hk : k < 256) (hc : Counter V k) (h : Fin 6) (r : Fin 64) (j : Fin 128) :
    (res_main_while0b_v78 V : Vec Ideal S6x64x128 .f32) (ix3 h r j) = -((ctile V k h).rdv (cst V h) r j) := by
  unfold res_main_while0b_v78
  pointwise
  rw [v72_apply hk hc]

/-! ## What the trip writes -/

theorem step8 (hc : Counter V k) : Counter (STEP V) (k + 1) := by
  show STEP V (Proc.devRef .tc main_v25_8) = _
  rw [STEP_main_v25_8]
  unfold step_main_v25_8
  rw [hc]
  funext i
  show BitVec.ofNat 32 k + 1#32 = BitVec.ofNat 32 (k + 1)
  apply BitVec.eq_of_toNat_eq
  simp [BitVec.toNat_add]

theorem step9 (hk : k < 256) (hc : Counter V k) (h : Fin 6) : cst (STEP V) h = (ctile V k h).rnext (cst V h) := by
  funext i j
  show (STEP V (Proc.devRef .tc main_v25_9) : Vec Ideal S6x128x128 .f32) (ix3 h i j) = _
  rw [STEP_main_v25_9]
  unfold step_main_v25_9
  rw [id]
  pointwise
  simp only [v43_apply hk hc, v45_apply hk hc, v47_apply hk hc, v78_apply hk hc, v55_apply hk hc h _ _ j]
  rfl

theorem step10 (hk : k < 256) (hc : Counter V k) (q : Fin 256) (h : Fin 6) (r : Fin 64) (j : Fin 128) :
    (STEP V (Proc.devRef .tc main_v25_10) : Vec Ideal S256x6x64x128 .f32) (ix4 q h r j) =
      if q = rchk k then (ctile V k h).rdv (cst V h) r j
      else (V (Proc.devRef .tc main_v25_10) : Vec Ideal S256x6x64x128 .f32) (ix4 q h r j) := by
  rw [STEP_main_v25_10]
  unfold step_main_v25_10
  rw [id]
  refine (dynamicUpdateSlice_chunk4 _ _ _ (rchk k) _ (start4 hk hc) q h r j).trans ?_
  refine if_congr Iff.rfl ?_ rfl
  pointwise
  rw [v72_apply hk hc]

theorem step11 (hk : k < 256) (hc : Counter V k) (q : Fin 256) (h : Fin 6) (r : Fin 64) (j : Fin 128) :
    (STEP V (Proc.devRef .tc main_v25_11) : Vec Ideal S256x6x64x128 .f32) (ix4 q h r j) =
      if q = rchk k then (ctile V k h).rdw (cst V h) r j
      else (V (Proc.devRef .tc main_v25_11) : Vec Ideal S256x6x64x128 .f32) (ix4 q h r j) := by
  rw [STEP_main_v25_11]
  unfold step_main_v25_11
  rw [id]
  refine (dynamicUpdateSlice_chunk4 _ _ _ (rchk k) _ (start4 hk hc) q h r j).trans ?_
  refine if_congr Iff.rfl ?_ rfl
  pointwise
  simp only [v78_apply hk hc, v42_apply hk hc]
  rfl

theorem step12 (hk : k < 256) (hc : Counter V k) (q : Fin 256) (h : Fin 6) (r j : Fin 64) :
    (STEP V (Proc.devRef .tc main_v25_12) : Vec Ideal S256x6x64x64 .f32) (ix4 q h r j) =
      if q = rchk k then (ctile V k h).da r j
      else (V (Proc.devRef .tc main_v25_12) : Vec Ideal S256x6x64x64 .f32) (ix4 q h r j) := by
  rw [STEP_main_v25_12]
  unfold step_main_v25_12
  rw [id]
  refine (dynamicUpdateSlice_chunk4 _ _ _ (rchk k) _ (start4 hk hc) q h r j).trans ?_
  refine if_congr Iff.rfl ?_ rfl
  pointwise
  simp only [v43_apply hk hc, v51_apply hk hc]
  rfl

theorem step13 (hk : k < 256) (hc : Counter V k) (q : Fin 256) (h : Fin 6) (r : Fin 64) (j : Fin 128) :
    (STEP V (Proc.devRef .tc main_v25_13) : Vec Ideal S256x6x64x128 .f32) (ix4 q h r j) =
      if q = rchk k then (ctile V k h).dqg r j
      else (V (Proc.devRef .tc main_v25_13) : Vec Ideal S256x6x64x128 .f32) (ix4 q h r j) := by
  rw [STEP_main_v25_13]
  unfold step_main_v25_13
  rw [id]
  refine (dynamicUpdateSlice_chunk4 _ _ _ (rchk k) _ (start4 hk hc) q h r j).trans ?_
  refine if_congr Iff.rfl ?_ rfl
  pointwise
  simp only [v43_apply hk hc, v42_apply hk hc]
  rfl

theorem step14 (hk : k < 256) (hc : Counter V k) (q : Fin 256) (h : Fin 6) (r : Fin 64) (j : Fin 128) :
    (STEP V (Proc.devRef .tc main_v25_14) : Vec Ideal S256x6x64x128 .f32) (ix4 q h r j) =
      if q = rchk k then (ctile V k h).rdkg (cst V h) r j
      else (V (Proc.devRef .tc main_v25_14) : Vec Ideal S256x6x64x128 .f32) (ix4 q h r j) := by
  rw [STEP_main_v25_14]
  unfold step_main_v25_14
  rw [id]
  refine (dynamicUpdateSlice_chunk4 _ _ _ (rchk k) _ (start4 hk hc) q h r j).trans ?_
  refine if_congr Iff.rfl ?_ rfl
  pointwise
  simp only [v51_apply hk hc]
  rfl

theorem step15 (hk : k < 256) (hc : Counter V k) (q : Fin 256) (h : Fin 6) :
    (STEP V (Proc.devRef .tc main_v25_15) : Vec Ideal S256x6 .f32) (ix2 q h) =
      if q = rchk k then (ctile V k h).dgl (cst V h)
      else (V (Proc.devRef .tc main_v25_15) : Vec Ideal S256x6 .f32) (ix2 q h) := by
  rw [STEP_main_v25_15]
  unfold step_main_v25_15
  rw [id]
  refine (dynamicUpdateSlice_chunk2 _ _ _ (rchk k) _ (start2 hk hc) q h).trans ?_
  refine if_congr Iff.rfl ?_ rfl
  pointwise
  simp only [v42_apply hk hc, Finset.univ_unique, Finset.sum_singleton]
  rfl

end Cert.ReferenceIdeal.Scan
-- ==== Proof.Bwd.RefArrays.lean ====
/-
  The reference's loop from its entry to its end: the arrays it reads are the arguments' chunks, the state's cotangent is
  the recurrence `rback`, and the result arrays hold every chunk's values.
-/
module

public import proofs.«01_k».proof.Proof.Bwd.RefStep
public import proofs.«01_k».proof.Proof.Bwd.Cells

@[expose] public section
noncomputable section

namespace Cert.ReferenceIdeal.Scan
open Cert.ReferenceIdeal Cert.ReferenceIdeal.Gen Cert.ReferenceIdeal.Value Idealize.ShloMosaic Idealize.ShloMosaic.TcCoe
open Idealize.ShloMosaic.StableHlo Idealize.ShloMosaic.Tactic
open _root_.Scan
open Cert.KernelIdeal.Scan (chunks allRows tok col chk)

variable (m : (ℓ : Loc nD τ sig) → Buf (Elt Ideal) ℓ) (c : Dev nD)

/-- Everything the device holds where the loop starts. -/
abbrev entry : Valuation τ sig (Elt Ideal) := entryContents preI m c

/-- The chunk of head `h` that the loop reads `k`-th, out of the arguments. -/
abbrev rchunks (h : Fin 6) (k : ℕ) : Tile :=
  chunks (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7)) h k

/-! ## The arrays at the entry -/

theorem at2 {α : Type} {p q : ℕ} (x : (⟨2, ![p, q]⟩ : Shape).Idx → α) {i i' : Fin p} {j j' : Fin q} (hi : i.val = i'.val)
    (hj : j.val = j'.val) : x (ix2 i j) = x (ix2 i' j') := by rw [Fin.ext hi, Fin.ext hj]

theorem entry_s (k : ℕ) (h : Fin 6) (i j : Fin 128) : cS (entry m c) (ix4 (rchk k) h i j) = (rchunks m c h k).s i j := by
  unfold cS
  simp only [entryContents, afterL_cons, afterL_nil]
  after_reads_simp
  rfl

theorem entry_dO (k : ℕ) (h : Fin 6) (r : Fin 64) (j : Fin 128) :
    cDo (entry m c) (ix4 (rchk k) h r j) = (rchunks m c h k).dO r j := by
  unfold cDo
  simp only [entryContents, afterL_cons, afterL_nil]
  after_reads_simp
  clean_types
  rw [id]
  pointwise
  exact at2 _ (by simp [rchk, tok]; omega) (by simp [col]; omega)

theorem entry_u (k : ℕ) (h : Fin 6) (r : Fin 64) (j : Fin 128) :
    cU (entry m c) (ix4 (rchk k) h r j) = (rchunks m c h k).u r j := by
  unfold cU
  simp only [entryContents, afterL_cons, afterL_nil]
  after_reads_simp
  clean_types
  rw [id]
  pointwise
  exact at2 _ (by simp [rchk, tok]; omega) (by simp [col]; omega)

theorem entry_w (k : ℕ) (h : Fin 6) (r : Fin 64) (j : Fin 128) :
    cW (entry m c) (ix4 (rchk k) h r j) = (rchunks m c h k).w r j := by
  unfold cW
  simp only [entryContents, afterL_cons, afterL_nil]
  after_reads_simp
  clean_types
  rw [id]
  pointwise
  exact at2 _ (by simp [rchk, tok]; omega) (by simp [col]; omega)

theorem entry_qg (k : ℕ) (h : Fin 6) (r : Fin 64) (j : Fin 128) :
    cQg (entry m c) (ix4 (rchk k) h r j) = (rchunks m c h k).qg r j := by
  unfold cQg
  simp only [entryContents, afterL_cons, afterL_nil]
  after_reads_simp
  clean_types
  rw [id]
  pointwise
  exact at2 _ (by simp [rchk, tok]; omega) (by simp [col]; omega)

theorem entry_kg (k : ℕ) (h : Fin 6) (r : Fin 64) (j : Fin 128) :
    cKg (entry m c) (ix4 (rchk k) h r j) = (rchunks m c h k).kg r j := by
  unfold cKg
  simp only [entryContents, afterL_cons, afterL_nil]
  after_reads_simp
  clean_types
  rw [id]
  pointwise
  exact at2 _ (by simp [rchk, tok]; omega) (by simp [col]; omega)

theorem entry_a (k : ℕ) (h : Fin 6) (r j : Fin 64) : cA (entry m c) (ix4 (rchk k) h r j) = (rchunks m c h k).a r j := by
  unfold cA
  simp only [entryContents, afterL_cons, afterL_nil]
  after_reads_simp
  clean_types
  rw [id]
  pointwise
  refine congrArg (m ((c.tc : Thread nD τ).loc main_arg5)) ?_
  show ix3 _ _ _ = ix3 h (tok k r) j
  congr 1
  exact Fin.ext (by simp [rchk, tok]; omega)

theorem entry_gl (k : ℕ) (h : Fin 6) : cGl (entry m c) (ix2 (rchk k) h) = (rchunks m c h k).gl 0 := by
  unfold cGl
  simp only [entryContents, afterL_cons, afterL_nil]
  after_reads_simp
  clean_types
  rw [id]
  pointwise
  rfl

theorem entry_d (h : Fin 6) : cst (entry m c) h = fun _ _ => 0 := by
  funext i j
  unfold cst cD
  simp only [entryContents, afterL_cons, afterL_nil]
  after_reads_simp
  clean_types
  rw [id]
  pointwise

theorem entry_tile (h : Fin 6) (k : ℕ) : ctile (entry m c) k h = rchunks m c h k := by
  refine Tile.eq_of ?_ ?_ ?_ ?_ ?_ ?_ ?_ ?_
  · funext r j; exact entry_dO m c k h r j
  · funext r j; exact entry_u m c k h r j
  · funext r j; exact entry_w m c k h r j
  · funext r j; exact entry_qg m c k h r j
  · funext r j; exact entry_kg m c k h r j
  · funext r j; exact entry_a m c k h r j
  · funext j; exact entry_gl m c k h
  · funext i j; exact entry_s m c k h i j

/-! ## The loop -/

/-- What the device holds before trip `k`. -/
abbrev before (k : ℕ) : Valuation τ sig (Elt Ideal) := STEP^[k] (entry m c)

theorem before_succ (k : ℕ) : before m c (k + 1) = STEP (before m c k) := Function.iterate_succ_apply' _ _ _

theorem step_tile (V : Valuation τ sig (Elt Ideal)) (h : Fin 6) (k : ℕ) : ctile (STEP V) k h = ctile V k h := by
  unfold ctile cDo cU cW cQg cKg cA cGl cS
  rw [STEP_main_v25_0, STEP_main_v25_1, STEP_main_v25_2, STEP_main_v25_3, STEP_main_v25_4, STEP_main_v25_5,
    STEP_main_v25_6, STEP_main_v25_7]

theorem before_tile (h : Fin 6) (n k : ℕ) : ctile (before m c n) k h = rchunks m c h k := by
  induction n with
  | zero => exact entry_tile m c h k
  | succ n ih => rw [before_succ, step_tile, ih]

theorem before_counter (k : ℕ) : Counter (before m c k) k := by
  induction k with
  | zero => exact ctr_entry m c
  | succ k ih => rw [before_succ]; exact step8 ih

/-- The state's cotangent before trip `k`. -/
abbrev rstate (h : Fin 6) (k : ℕ) : St := rback (rchunks m c h) (fun _ _ => 0) k

theorem before_state (h : Fin 6) (k : ℕ) (hk : k ≤ 256) : cst (before m c k) h = rstate m c h k := by
  induction k with
  | zero => exact entry_d m c h
  | succ k ih =>
    rw [before_succ, step9 (by omega) (before_counter m c k), ih (by omega), before_tile]
    rfl

/-! ## The arrays at the loop's end -/

theorem end_10 (q : Fin 256) (h : Fin 6) (r : Fin 64) (j : Fin 128) :
    (before m c 256 (Proc.devRef .tc main_v25_10) : Vec Ideal S256x6x64x128 .f32) (ix4 q h r j)
      = (rchunks m c h (255 - q.val)).rdv (rstate m c h (255 - q.val)) r j := by
  refine filled (fun k q => (before m c k (Proc.devRef .tc main_v25_10) : Vec Ideal S256x6x64x128 .f32) (ix4 q h r j))
    (fun k => (rchunks m c h k).rdv (rstate m c h k) r j) (fun k hk q => ?_) q
  show (before m c (k + 1) (Proc.devRef .tc main_v25_10) : Vec Ideal S256x6x64x128 .f32) (ix4 q h r j) = _
  rw [before_succ, step10 hk (before_counter m c k), before_tile, before_state m c h k (by omega)]

theorem end_11 (q : Fin 256) (h : Fin 6) (r : Fin 64) (j : Fin 128) :
    (before m c 256 (Proc.devRef .tc main_v25_11) : Vec Ideal S256x6x64x128 .f32) (ix4 q h r j)
      = (rchunks m c h (255 - q.val)).rdw (rstate m c h (255 - q.val)) r j := by
  refine filled (fun k q => (before m c k (Proc.devRef .tc main_v25_11) : Vec Ideal S256x6x64x128 .f32) (ix4 q h r j))
    (fun k => (rchunks m c h k).rdw (rstate m c h k) r j) (fun k hk q => ?_) q
  show (before m c (k + 1) (Proc.devRef .tc main_v25_11) : Vec Ideal S256x6x64x128 .f32) (ix4 q h r j) = _
  rw [before_succ, step11 hk (before_counter m c k), before_tile, before_state m c h k (by omega)]

theorem end_13 (q : Fin 256) (h : Fin 6) (r : Fin 64) (j : Fin 128) :
    (before m c 256 (Proc.devRef .tc main_v25_13) : Vec Ideal S256x6x64x128 .f32) (ix4 q h r j)
      = (rchunks m c h (255 - q.val)).dqg  r j := by
  refine filled (fun k q => (before m c k (Proc.devRef .tc main_v25_13) : Vec Ideal S256x6x64x128 .f32) (ix4 q h r j))
    (fun k => (rchunks m c h k).dqg  r j) (fun k hk q => ?_) q
  show (before m c (k + 1) (Proc.devRef .tc main_v25_13) : Vec Ideal S256x6x64x128 .f32) (ix4 q h r j) = _
  rw [before_succ, step13 hk (before_counter m c k), before_tile]

theorem end_14 (q : Fin 256) (h : Fin 6) (r : Fin 64) (j : Fin 128) :
    (before m c 256 (Proc.devRef .tc main_v25_14) : Vec Ideal S256x6x64x128 .f32) (ix4 q h r j)
      = (rchunks m c h (255 - q.val)).rdkg (rstate m c h (255 - q.val)) r j := by
  refine filled (fun k q => (before m c k (Proc.devRef .tc main_v25_14) : Vec Ideal S256x6x64x128 .f32) (ix4 q h r j))
    (fun k => (rchunks m c h k).rdkg (rstate m c h k) r j) (fun k hk q => ?_) q
  show (before m c (k + 1) (Proc.devRef .tc main_v25_14) : Vec Ideal S256x6x64x128 .f32) (ix4 q h r j) = _
  rw [before_succ, step14 hk (before_counter m c k), before_tile, before_state m c h k (by omega)]

theorem end_12 (q : Fin 256) (h : Fin 6) (r : Fin 64) (j : Fin 64) :
    (before m c 256 (Proc.devRef .tc main_v25_12) : Vec Ideal S256x6x64x64 .f32) (ix4 q h r j)
      = (rchunks m c h (255 - q.val)).da  r j := by
  refine filled (fun k q => (before m c k (Proc.devRef .tc main_v25_12) : Vec Ideal S256x6x64x64 .f32) (ix4 q h r j))
    (fun k => (rchunks m c h k).da  r j) (fun k hk q => ?_) q
  show (before m c (k + 1) (Proc.devRef .tc main_v25_12) : Vec Ideal S256x6x64x64 .f32) (ix4 q h r j) = _
  rw [before_succ, step12 hk (before_counter m c k), before_tile]

theorem end_15 (q : Fin 256) (h : Fin 6) :
    (before m c 256 (Proc.devRef .tc main_v25_15) : Vec Ideal S256x6 .f32) (ix2 q h)
      = (rchunks m c h (255 - q.val)).dgl (rstate m c h (255 - q.val)) := by
  refine filled (fun k q => (before m c k (Proc.devRef .tc main_v25_15) : Vec Ideal S256x6 .f32) (ix2 q h))
    (fun k => (rchunks m c h k).dgl (rstate m c h k)) (fun k hk q => ?_) q
  show (before m c (k + 1) (Proc.devRef .tc main_v25_15) : Vec Ideal S256x6 .f32) (ix2 q h) = _
  rw [before_succ, step15 hk (before_counter m c k), before_tile, before_state m c h k (by omega)]

/-! ## The results -/

theorem result_33 : (out_main_v33 (before m c 256) : Vec Ideal S16384x768 .f32)
    = allRows fun h k r j => (rchunks m c h k).rdv (rstate m c h k) r j := by
  unfold out_main_v33
  funext y
  rw [eq_ix2 y]
  clean_types
  pointwise
  exact end_10 m c _ _ _ _

theorem result_35 : (out_main_v35 (before m c 256) : Vec Ideal S16384x768 .f32)
    = allRows fun h k r j => (rchunks m c h k).rdw (rstate m c h k) r j := by
  unfold out_main_v35
  funext y
  rw [eq_ix2 y]
  clean_types
  pointwise
  exact end_11 m c _ _ _ _

theorem result_37 : (out_main_v37 (before m c 256) : Vec Ideal S16384x768 .f32)
    = allRows fun h k r j => (rchunks m c h k).dqg  r j := by
  unfold out_main_v37
  funext y
  rw [eq_ix2 y]
  clean_types
  pointwise
  exact end_13 m c _ _ _ _

theorem result_39 : (out_main_v39 (before m c 256) : Vec Ideal S16384x768 .f32)
    = allRows fun h k r j => (rchunks m c h k).rdkg (rstate m c h k) r j := by
  unfold out_main_v39
  funext y
  rw [eq_ix2 y]
  clean_types
  pointwise
  exact end_14 m c _ _ _ _

theorem result_27 : (out_main_v27 (before m c 256) : Vec Ideal S6x16384x64 .f32)
    = fun y => (rchunks m c (y 0) (255 - (y 1).val / 64)).da ⟨(y 1).val % 64, by omega⟩ (y 2) := by
  unfold out_main_v27
  funext y
  rw [eq_ix3 y]
  clean_types
  pointwise
  exact end_12 m c _ _ _ _

theorem result_31 : (out_main_v31 (before m c 256) : Vec Ideal S6x2048x128 .f32)
    = fun y => (rchunks m c (y 0) (255 - (y 1).val / 8)).dgl (rstate m c (y 0) (255 - (y 1).val / 8)) := by
  unfold out_main_v31
  funext y
  rw [eq_ix3 y]
  clean_types
  pointwise
  exact end_15 m c _ _

end Cert.ReferenceIdeal.Scan
-- ==== Proof.Bwd.Algebra.lean ====
/-
  The reference's results, where every argument element is a real number, are the kernel's.
-/
module

public import proofs.«01_k».proof.Proof.Bwd.RefArrays
public import proofs.«01_k».proof.Proof.Bwd.Equal

@[expose] public section
noncomputable section

namespace Cert.ReferenceIdeal.Scan
open Cert.ReferenceIdeal Cert.ReferenceIdeal.Gen Cert.ReferenceIdeal.Value Idealize.ShloMosaic Idealize.ShloMosaic.TcCoe
open _root_.Scan
open Cert.KernelIdeal.Scan (chunks allRows tok col chk rDu rDw rDqg rDkg rDa rDgl)

variable (m : (ℓ : Loc nD τ sig) → Buf (Elt Ideal) ℓ) (c : Dev nD)

/-- Every argument element is a real number. -/
structure RealArgs : Prop where
  a0 : ∀ i, IsReal ((m ((c.tc : Thread nD τ).loc main_arg0) : Vec Ideal S16384x768 .f32) i)
  a1 : ∀ i, IsReal ((m ((c.tc : Thread nD τ).loc main_arg1) : Vec Ideal S16384x768 .f32) i)
  a2 : ∀ i, IsReal ((m ((c.tc : Thread nD τ).loc main_arg2) : Vec Ideal S16384x768 .bf16) i)
  a3 : ∀ i, IsReal ((m ((c.tc : Thread nD τ).loc main_arg3) : Vec Ideal S16384x768 .bf16) i)
  a4 : ∀ i, IsReal ((m ((c.tc : Thread nD τ).loc main_arg4) : Vec Ideal S16384x768 .bf16) i)
  a5 : ∀ i, IsReal ((m ((c.tc : Thread nD τ).loc main_arg5) : Vec Ideal S6x16384x64 .bf16) i)
  a6 : ∀ i, IsReal ((m ((c.tc : Thread nD τ).loc main_arg6) : Vec Ideal S6x256 .f32) i)
  a7 : ∀ i, IsReal ((m ((c.tc : Thread nD τ).loc main_arg7) : Vec Ideal S256x6x128x128 .bf16) i)

variable {m c} (hm : RealArgs m c)
include hm

theorem chunks_real (h : Fin 6) (k : ℕ) : (rchunks m c h k).Real where
  dO _ _ := hm.a0 _
  u _ _ := hm.a1 _
  w _ _ := hm.a2 _
  qg _ _ := hm.a3 _
  kg _ _ := hm.a4 _
  a _ _ := hm.a5 _
  gl _ := hm.a6 _
  s _ _ := hm.a7 _

/-- The state's cotangent, as the kernel's recurrence gives it. -/
theorem rstate_eq (h : Fin 6) (k : ℕ) : rstate m c h k = back (rchunks m c h) (fun _ _ => 0) k :=
  (rback_eq (chunks_real hm h) k).1

theorem rstate_real (h : Fin 6) (k : ℕ) (i j : Fin 128) : IsReal (rstate m c h k i j) := by
  rw [rstate_eq hm]; exact (rback_eq (chunks_real hm h) k).2 i j

theorem value_33 : out_main_v33 (STEP^[256] (StableHlo.entryContents preI m c)) = rDu (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (result_33 m c).trans ?_
  unfold rDu
  congr 1
  funext h k r j
  rw [Tile.rdv_eq, rstate_eq hm]

theorem value_35 : out_main_v35 (STEP^[256] (StableHlo.entryContents preI m c)) = rDw (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (result_35 m c).trans ?_
  unfold rDw
  congr 1
  funext h k r j
  rw [Tile.rdw_eq (chunks_real hm _ _) (rstate_real hm _ _), rstate_eq hm]

theorem value_37 : out_main_v37 (STEP^[256] (StableHlo.entryContents preI m c)) = rDqg (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (result_37 m c).trans ?_
  rfl

theorem value_39 : out_main_v39 (STEP^[256] (StableHlo.entryContents preI m c)) = rDkg (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (result_39 m c).trans ?_
  unfold rDkg
  congr 1
  funext h k r j
  rw [Tile.rdkg_eq, rstate_eq hm]

theorem value_27 : out_main_v27 (STEP^[256] (StableHlo.entryContents preI m c)) = rDa (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (result_27 m c).trans ?_
  rfl

theorem value_31 : out_main_v31 (STEP^[256] (StableHlo.entryContents preI m c)) = rDgl (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (result_31 m c).trans ?_
  funext y
  exact congrArg (Tile.dgl _) (rstate_eq hm _ _)

end Cert.ReferenceIdeal.Scan
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Gen.Pre_finite
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Pre_finite2
public import proofs.«01_k».proof.Proof.Ffn.Claim
public import proofs.«01_k».proof.Proof.Gen.Kernel3.Frame
public import proofs.«01_k».proof.Proof.Gen.Kernel3Ideal.Value
public import proofs.«01_k».proof.Proof.Gen.Reference3Ideal.Run
public import proofs.«01_k».proof.Proof.Dw.GateUpClaim
public import proofs.«01_k».proof.Proof.Gen.Kernel4.Frame
public import proofs.«01_k».proof.Proof.Gen.Kernel4Ideal.Value
public import proofs.«01_k».proof.Proof.Gen.Reference4Ideal.Run
public import proofs.«01_k».proof.Proof.Dw.DownClaim
public import proofs.«01_k».proof.Proof.Gen.Kernel5.Frame
public import proofs.«01_k».proof.Proof.Gen.Kernel5Ideal.Value
public import proofs.«01_k».proof.Proof.Gen.Reference5Ideal.Run
public import proofs.«01_k».proof.Proof.Dw.InProj
public import proofs.«01_k».proof.Proof.Gen.Kernel6.Frame
public import proofs.«01_k».proof.Proof.Gen.Kernel6Ideal.Value
public import proofs.«01_k».proof.Proof.Gen.Reference6Ideal.Run
public import proofs.«01_k».proof.Proof.Dw.OutProj
public import proofs.«01_k».proof.Proof.Gen.Kernel7.Frame
public import proofs.«01_k».proof.Proof.Gen.Kernel7Ideal.Value
public import proofs.«01_k».proof.Proof.Gen.Reference7Ideal.Run
public import proofs.«01_k».proof.Proof.Dw.QueryProj
public import proofs.«01_k».proof.Proof.Gen.Kernel8.Frame
public import proofs.«01_k».proof.Proof.Gen.Kernel8Ideal.Value
public import proofs.«01_k».proof.Proof.Gen.Reference8Ideal.Run
public import proofs.«01_k».proof.Proof.Res.Back
public import proofs.«01_k».proof.Proof.Gen.Kernel9.Frame
public import proofs.«01_k».proof.Proof.Gen.Kernel9Ideal.Value
public import proofs.«01_k».proof.Proof.Gen.Reference9Ideal.Run
public import proofs.«01_k».proof.Proof.Res.Forward
public import proofs.«01_k».proof.Proof.Gen.Kernel10.Frame
public import proofs.«01_k».proof.Proof.Gen.Kernel10Ideal.Value
public import proofs.«01_k».proof.Proof.Gen.Reference10Ideal.Run
public import proofs.«01_k».proof.Proof.Norm.Claim
public import proofs.«01_k».proof.Proof.Gen.Kernel11
public import proofs.«01_k».proof.Proof.Gen.Kernel11Ideal
public import proofs.«01_k».proof.Proof.Gen.Reference11Ideal.Run
public import proofs.«01_k».proof.Proof.Fwd.Claim
public import proofs.«01_k».proof.Proof.Gen.Kernel12.Frame
public import proofs.«01_k».proof.Proof.Gen.Kernel12Ideal.Value
public import proofs.«01_k».proof.Proof.Gen.Reference12Ideal.Run
public import proofs.«01_k».proof.Proof.Adam.Out
public import proofs.«01_k».proof.Proof.Gen.Kernel13.Frame
public import proofs.«01_k».proof.Proof.Gen.Kernel13Ideal.Value
public import proofs.«01_k».proof.Proof.Gen.Reference13Ideal.Run
public import proofs.«01_k».proof.Proof.Adam.GateUp
public import proofs.«01_k».proof.Proof.Gen.Kernel14.Frame
public import proofs.«01_k».proof.Proof.Gen.Kernel14Ideal.Value
public import proofs.«01_k».proof.Proof.Gen.Reference14Ideal.Run
public import proofs.«01_k».proof.Proof.Adam.Down
public import proofs.«01_k».proof.Proof.Gen.Kernel15.Frame
public import proofs.«01_k».proof.Proof.Gen.Kernel15Ideal.Value
public import proofs.«01_k».proof.Proof.Gen.Reference15Ideal.Run
public import proofs.«01_k».proof.Proof.Adam.Query
public import proofs.«01_k».proof.Proof.Gen.Kernel16.Frame
public import proofs.«01_k».proof.Proof.Gen.Kernel16Ideal.Value
public import proofs.«01_k».proof.Proof.Gen.Reference16Ideal.Run
public import proofs.«01_k».proof.Proof.Adam.Keys
public import proofs.«01_k».proof.Proof.Gen.Kernel17.Frame
public import proofs.«01_k».proof.Proof.Gen.Kernel17Ideal.Value
public import proofs.«01_k».proof.Proof.Gen.Reference17Ideal.Run
public import proofs.«01_k».proof.Proof.Adam.Memory
public import proofs.«01_k».proof.Proof.Gen.Kernel18.Frame
public import proofs.«01_k».proof.Proof.Gen.Kernel18Ideal.Value
public import proofs.«01_k».proof.Proof.Gen.Reference18Ideal.Run
public import proofs.«01_k».proof.Proof.Adam.InProj
public import proofs.«01_k».proof.Proof.Gen.Kernel19.Frame
public import proofs.«01_k».proof.Proof.Gen.Kernel19Ideal.Value
public import proofs.«01_k».proof.Proof.Gen.Reference19Ideal.Run
public import proofs.«01_k».proof.Proof.Adam.Small
public import proofs.«01_k».proof.Proof.Gen.Kernel20.Frame
public import proofs.«01_k».proof.Proof.Gen.Kernel20Ideal.Value
public import proofs.«01_k».proof.Proof.Gen.Reference20Ideal.Run
public import proofs.«01_k».proof.Proof.Norm.QueryProj
public import proofs.«01_k».proof.Proof.Gen.Kernel21.Frame
public import proofs.«01_k».proof.Proof.Gen.Kernel21Ideal.Value
public import proofs.«01_k».proof.Proof.Gen.Reference21Ideal.Run
public import proofs.«01_k».proof.Proof.Norm.QueryClaim
public import proofs.«01_k».proof.Proof.Gen.Kernel22.Frame
public import proofs.«01_k».proof.Proof.Gen.Kernel22Ideal.Value
public import proofs.«01_k».proof.Proof.Gen.Reference22Ideal.Run
public import proofs.«01_k».proof.Proof.Norm.KeysProj
public import proofs.«01_k».proof.Proof.Gen.Kernel23
public import proofs.«01_k».proof.Proof.Gen.Kernel23Ideal
public import proofs.«01_k».proof.Proof.Gen.Reference23Ideal.Run
public import proofs.«01_k».proof.Proof.Mixer.Claim
public import proofs.«01_k».proof.Proof.Bwd.Arrays
public import proofs.«01_k».proof.Proof.Bwd.Algebra
public import proofs.«01_k».proof.Proof.Bwd.Finite
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference terminates with its arguments unchanged, and it has no semaphore. -/
theorem reference_frame : quiescent_ReferenceIdeal (hReferenceIdeal := Cert.ReferenceIdeal.Gen.facts) := fun m g _ =>
  (θ_run _ _ _).mono (fun _ h => ⟨fun c => (h c).2.2.2.2.2.2, sem_eq_zero_of_no_sems (by decide) _⟩) (Cert.ReferenceIdeal.Value.run m g)

/-- On equal arguments that are real numbers, the kernel and the reference end with equal results. -/
theorem algebraic : algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  have hreal : ∀ c, Cert.ReferenceIdeal.Scan.RealArgs m' c := fun c => by
    obtain ⟨h0, h1, h2, h3, h4, h5, h6, h7⟩ := Cert.Pre_finite.Decode.args_real _ _ _ _ _ _ _ _ (hpre c)
    obtain ⟨e0, e1, e2, e3, e4, e5, e6, e7⟩ := hargs c
    exact ⟨fun i => by rw [e0]; exact h0 i, fun i => by rw [e1]; exact h1 i, fun i => by rw [e2]; exact h2 i,
      fun i => by rw [e3]; exact h3 i, fun i => by rw [e4]; exact h4 i, fun i => by rw [e5]; exact h5 i,
      fun i => by rw [e6]; exact h6 i, fun i => by rw [e7]; exact h7 i⟩
  refine ⟨fun c => Cert.KernelIdeal.Scan.rDu (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.KernelIdeal.Scan.rDw (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.KernelIdeal.Scan.rDqg (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.KernelIdeal.Scan.rDkg (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.KernelIdeal.Scan.rDa (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.KernelIdeal.Scan.rDgl (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · refine (θ_run _ _ _).mono (fun r h c => ?_) (Cert.KernelIdeal.Value.run_blocks m g)
    obtain ⟨h0, h1, h2, h3, h4, h5, hrest⟩ := h c
    exact ⟨h0.trans (Cert.KernelIdeal.Scan.final_8 m c), h1.trans (Cert.KernelIdeal.Scan.final_9 m c),
      h2.trans (Cert.KernelIdeal.Scan.final_10 m c), h3.trans (Cert.KernelIdeal.Scan.final_11 m c),
      h4.trans (Cert.KernelIdeal.Scan.final_12 m c), h5.trans (Cert.KernelIdeal.Scan.final_13 m c), hrest⟩
  · refine (θ_run _ _ _).mono (fun r h c => ?_) (Cert.ReferenceIdeal.Value.run m' g')
    obtain ⟨h0, h1, h2, h3, h4, h5, hrest⟩ := h c
    obtain ⟨e0, e1, e2, e3, e4, e5, e6, e7⟩ := hargs c
    refine ⟨(h0.trans (Cert.ReferenceIdeal.Scan.value_33 (hreal c))).trans ?_,
      (h1.trans (Cert.ReferenceIdeal.Scan.value_35 (hreal c))).trans ?_,
      (h2.trans (Cert.ReferenceIdeal.Scan.value_37 (hreal c))).trans ?_,
      (h3.trans (Cert.ReferenceIdeal.Scan.value_39 (hreal c))).trans ?_,
      (h4.trans (Cert.ReferenceIdeal.Scan.value_27 (hreal c))).trans ?_,
      (h5.trans (Cert.ReferenceIdeal.Scan.value_31 (hreal c))).trans ?_, hrest⟩
    all_goals rw [e0, e1, e2, e3, e4, e5, e6, e7]

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel6.Gen.facts,
  Cert.Kernel6Ideal.Gen.facts, Cert.Reference6Ideal.Gen.facts, Cert.Kernel7.Gen.facts, Cert.Kernel7Ideal.Gen.facts,
  Cert.Reference7Ideal.Gen.facts, Cert.Kernel8.Gen.facts, Cert.Kernel8Ideal.Gen.facts, Cert.Reference8Ideal.Gen.facts,
  Cert.Kernel9.Gen.facts, Cert.Kernel9Ideal.Gen.facts, Cert.Reference9Ideal.Gen.facts, Cert.Kernel10.Gen.facts,
  Cert.Kernel10Ideal.Gen.facts, Cert.Reference10Ideal.Gen.facts, Cert.Kernel11.Gen.facts, Cert.Kernel11Ideal.Gen.facts,
  Cert.Reference11Ideal.Gen.facts, Cert.Kernel12.Gen.facts, Cert.Kernel12Ideal.Gen.facts, Cert.Reference12Ideal.Gen.facts,
  Cert.Kernel13.Gen.facts, Cert.Kernel13Ideal.Gen.facts, Cert.Reference13Ideal.Gen.facts, Cert.Kernel14.Gen.facts,
  Cert.Kernel14Ideal.Gen.facts, Cert.Reference14Ideal.Gen.facts, Cert.Kernel15.Gen.facts, Cert.Kernel15Ideal.Gen.facts,
  Cert.Reference15Ideal.Gen.facts, Cert.Kernel16.Gen.facts, Cert.Kernel16Ideal.Gen.facts, Cert.Reference16Ideal.Gen.facts,
  Cert.Kernel17.Gen.facts, Cert.Kernel17Ideal.Gen.facts, Cert.Reference17Ideal.Gen.facts, Cert.Kernel18.Gen.facts,
  Cert.Kernel18Ideal.Gen.facts, Cert.Reference18Ideal.Gen.facts, Cert.Kernel19.Gen.facts, Cert.Kernel19Ideal.Gen.facts,
  Cert.Reference19Ideal.Gen.facts, Cert.Kernel20.Gen.facts, Cert.Kernel20Ideal.Gen.facts, Cert.Reference20Ideal.Gen.facts,
  Cert.Kernel21.Gen.facts, Cert.Kernel21Ideal.Gen.facts, Cert.Reference21Ideal.Gen.facts, Cert.Kernel22.Gen.facts,
  Cert.Kernel22Ideal.Gen.facts, Cert.Reference22Ideal.Gen.facts, Cert.Kernel23.Gen.facts, Cert.Kernel23Ideal.Gen.facts,
  Cert.Reference23Ideal.Gen.facts, Cert.Pre_finite.Gen.facts, Cert.Pre_finite2.Gen.facts,
  fun m ρ _ => Cert.Kernel.Gen.frame m ρ, fun m ρ _ => Cert.KernelIdeal.Gen.frame m ρ, fun m ρ _ => Cert.KernelIdeal.Gen.frame m ρ, reference_frame, fun m ρ _ => reference_frame m ρ trivial,
  fun m ρ _ => Cert.Kernel2.Gen.frame m ρ, fun m ρ _ => Cert.Kernel2Ideal.Gen.frame m ρ, fun m ρ _ => Cert.Kernel2Ideal.Gen.frame m ρ, Cert.Kernel2Ideal.Ffn.reference_frame, fun m ρ _ => Cert.Kernel2Ideal.Ffn.reference_frame m ρ trivial,
  fun m ρ _ => Cert.Kernel3.Gen.frame m ρ, fun m ρ _ => Cert.Kernel3Ideal.Gen.frame m ρ, Cert.Kernel3Ideal.GateUp.reference_frame,
  fun m ρ _ => Cert.Kernel4.Gen.frame m ρ, fun m ρ _ => Cert.Kernel4Ideal.Gen.frame m ρ, Cert.Kernel4Ideal.Down.reference_frame,
  fun m ρ _ => Cert.Kernel5.Gen.frame m ρ, fun m ρ _ => Cert.Kernel5Ideal.Gen.frame m ρ, Cert.Kernel5Ideal.InProj.reference_frame,
  fun m ρ _ => Cert.Kernel6.Gen.frame m ρ, fun m ρ _ => Cert.Kernel6Ideal.Gen.frame m ρ, Cert.Kernel6Ideal.OutProj.reference_frame,
  fun m ρ _ => Cert.Kernel7.Gen.frame m ρ, fun m ρ _ => Cert.Kernel7Ideal.Gen.frame m ρ, Cert.Kernel7Ideal.QueryProj.reference_frame,
  fun m ρ _ => Cert.Kernel8.Gen.frame m ρ, fun m ρ _ => Cert.Kernel8Ideal.Gen.frame m ρ, Cert.Kernel8Ideal.Back.reference_frame,
  fun m ρ _ => Cert.Kernel9.Gen.frame m ρ, fun m ρ _ => Cert.Kernel9Ideal.Gen.frame m ρ, Cert.Kernel9Ideal.Forward.reference_frame,
  fun m ρ _ => Cert.Kernel10.Gen.frame m ρ, fun m ρ _ => Cert.Kernel10Ideal.Gen.frame m ρ, Cert.Kernel10Ideal.Norm.reference_frame,
  Cert.Kernel11Ideal.Fwd.frame_kernel, Cert.Kernel11Ideal.Fwd.frame_ideal, Cert.Kernel11Ideal.Fwd.reference_frame,
  fun m ρ _ => Cert.Kernel12.Gen.frame m ρ, fun m ρ _ => Cert.Kernel12Ideal.Gen.frame m ρ, Cert.Kernel12Ideal.Out.reference_frame,
  fun m ρ _ => Cert.Kernel13.Gen.frame m ρ, fun m ρ _ => Cert.Kernel13Ideal.Gen.frame m ρ, Cert.Kernel13Ideal.GateUp.reference_frame,
  fun m ρ _ => Cert.Kernel14.Gen.frame m ρ, fun m ρ _ => Cert.Kernel14Ideal.Gen.frame m ρ, Cert.Kernel14Ideal.Down.reference_frame,
  fun m ρ _ => Cert.Kernel15.Gen.frame m ρ, fun m ρ _ => Cert.Kernel15Ideal.Gen.frame m ρ, Cert.Kernel15Ideal.Query.reference_frame,
  fun m ρ _ => Cert.Kernel16.Gen.frame m ρ, fun m ρ _ => Cert.Kernel16Ideal.Gen.frame m ρ, Cert.Kernel16Ideal.Keys.reference_frame,
  fun m ρ _ => Cert.Kernel17.Gen.frame m ρ, fun m ρ _ => Cert.Kernel17Ideal.Gen.frame m ρ, Cert.Kernel17Ideal.Memory.reference_frame,
  fun m ρ _ => Cert.Kernel18.Gen.frame m ρ, fun m ρ _ => Cert.Kernel18Ideal.Gen.frame m ρ, Cert.Kernel18Ideal.InProj.reference_frame,
  fun m ρ _ => Cert.Kernel19.Gen.frame m ρ, fun m ρ _ => Cert.Kernel19Ideal.Gen.frame m ρ, Cert.Kernel19Ideal.Small.reference_frame,
  fun m ρ _ => Cert.Kernel20.Gen.frame m ρ, fun m ρ _ => Cert.Kernel20Ideal.Gen.frame m ρ, Cert.Kernel20Ideal.Norm.reference_frame,
  fun m ρ _ => Cert.Kernel21.Gen.frame m ρ, fun m ρ _ => Cert.Kernel21Ideal.Gen.frame m ρ, Cert.Kernel21Ideal.Norm.reference_frame,
  fun m ρ _ => Cert.Kernel22.Gen.frame m ρ, fun m ρ _ => Cert.Kernel22Ideal.Gen.frame m ρ, Cert.Kernel22Ideal.Norm.reference_frame,
  Cert.Kernel23Ideal.Mixer.frame_kernel, Cert.Kernel23Ideal.Mixer.frame_ideal, Cert.Kernel23Ideal.Mixer.reference_frame,
  trivial, algebraic, trivial, Cert.Kernel2Ideal.Ffn.algebraic, trivial, Cert.Kernel3Ideal.GateUp.algebraic, trivial, Cert.Kernel4Ideal.Down.algebraic, trivial, Cert.Kernel5Ideal.InProj.algebraic, trivial, Cert.Kernel6Ideal.OutProj.algebraic, trivial, Cert.Kernel7Ideal.QueryProj.algebraic, trivial, Cert.Kernel8Ideal.Back.algebraic, trivial, Cert.Kernel9Ideal.Forward.algebraic, trivial, Cert.Kernel10Ideal.Norm.algebraic, trivial, Cert.Kernel11Ideal.Fwd.algebraic, trivial, Cert.Kernel12Ideal.Out.algebraic, trivial, Cert.Kernel13Ideal.GateUp.algebraic, trivial, Cert.Kernel14Ideal.Down.algebraic, trivial, Cert.Kernel15Ideal.Query.algebraic, trivial, Cert.Kernel16Ideal.Keys.algebraic, trivial, Cert.Kernel17Ideal.Memory.algebraic, trivial, Cert.Kernel18Ideal.InProj.algebraic, trivial, Cert.Kernel19Ideal.Small.algebraic, trivial, Cert.Kernel20Ideal.Norm.algebraic, trivial, Cert.Kernel21Ideal.Norm.algebraic, trivial, Cert.Kernel22Ideal.Norm.algebraic, trivial, Cert.Kernel23Ideal.Mixer.algebraic⟩

end Cert.Proof

end
